-- ==== Defs.lean ====
def Pre_SwapHalves (m : (ℓ : Loc Cert.SwapHalves.nD Cert.SwapHalves.τ Cert.SwapHalves.sig) → Buf (Elt Bits) ℓ) : Prop :=
  True

def Pre_SwapHalvesRef (m : (ℓ : Loc Cert.SwapHalvesRef.nD Cert.SwapHalvesRef.τ Cert.SwapHalvesRef.sig) → Buf (Elt Bits) ℓ) : Prop :=
  True

def Pre_ExchangeChips (m : (ℓ : Loc Cert.ExchangeChips.nD Cert.ExchangeChips.τ Cert.ExchangeChips.sig) → Buf (Elt Bits) ℓ) : Prop :=
  True

def Pre_ExchangeChipsRef (m : (ℓ : Loc Cert.ExchangeChipsRef.nD Cert.ExchangeChipsRef.τ Cert.ExchangeChipsRef.sig) → Buf (Elt Bits) ℓ) : Prop :=
  True

def Pre_SwapReduced (m : (ℓ : Loc Cert.SwapReduced.nD Cert.SwapReduced.τ Cert.SwapReduced.sig) → Buf (Elt Bits) ℓ) : Prop :=
  True

def Pre_SwapReducedRef (m : (ℓ : Loc Cert.SwapReducedRef.nD Cert.SwapReducedRef.τ Cert.SwapReducedRef.sig) → Buf (Elt Bits) ℓ) : Prop :=
  True

def Pre_GatherSmall (m : (ℓ : Loc Cert.GatherSmall.nD Cert.GatherSmall.τ Cert.GatherSmall.sig) → Buf (Elt Bits) ℓ) : Prop :=
  True

def Pre_GatherSmallRef (m : (ℓ : Loc Cert.GatherSmallRef.nD Cert.GatherSmallRef.τ Cert.GatherSmallRef.sig) → Buf (Elt Bits) ℓ) : Prop :=
  True

def Pre_GatherWeights (m : (ℓ : Loc Cert.GatherWeights.nD Cert.GatherWeights.τ Cert.GatherWeights.sig) → Buf (Elt Bits) ℓ) : Prop :=
  True

def Pre_GatherWeightsRef (m : (ℓ : Loc Cert.GatherWeightsRef.nD Cert.GatherWeightsRef.τ Cert.GatherWeightsRef.sig) → Buf (Elt Bits) ℓ) : Prop :=
  True

def Pre_SumSmall (m : (ℓ : Loc Cert.SumSmall.nD Cert.SumSmall.τ Cert.SumSmall.sig) → Buf (Elt Bits) ℓ) : Prop :=
  True

def Pre_SumSmallRef (m : (ℓ : Loc Cert.SumSmallRef.nD Cert.SumSmallRef.τ Cert.SumSmallRef.sig) → Buf (Elt Bits) ℓ) : Prop :=
  True

def Pre_ChipsWide (m : (ℓ : Loc Cert.ChipsWide.nD Cert.ChipsWide.τ Cert.ChipsWide.sig) → Buf (Elt Bits) ℓ) : Prop :=
  True

def Pre_ChipsWideRef (m : (ℓ : Loc Cert.ChipsWideRef.nD Cert.ChipsWideRef.τ Cert.ChipsWideRef.sig) → Buf (Elt Bits) ℓ) : Prop :=
  True

def Pre_ChipsRows (m : (ℓ : Loc Cert.ChipsRows.nD Cert.ChipsRows.τ Cert.ChipsRows.sig) → Buf (Elt Bits) ℓ) : Prop :=
  True

def Pre_ChipsRowsRef (m : (ℓ : Loc Cert.ChipsRowsRef.nD Cert.ChipsRowsRef.τ Cert.ChipsRowsRef.sig) → Buf (Elt Bits) ℓ) : Prop :=
  True

def Pre_SiblingWide (m : (ℓ : Loc Cert.SiblingWide.nD Cert.SiblingWide.τ Cert.SiblingWide.sig) → Buf (Elt Bits) ℓ) : Prop :=
  True

def Pre_SiblingWideRef (m : (ℓ : Loc Cert.SiblingWideRef.nD Cert.SiblingWideRef.τ Cert.SiblingWideRef.sig) → Buf (Elt Bits) ℓ) : Prop :=
  True

def Pre_SiblingRows (m : (ℓ : Loc Cert.SiblingRows.nD Cert.SiblingRows.τ Cert.SiblingRows.sig) → Buf (Elt Bits) ℓ) : Prop :=
  True

def Pre_SiblingRowsRef (m : (ℓ : Loc Cert.SiblingRowsRef.nD Cert.SiblingRowsRef.τ Cert.SiblingRowsRef.sig) → Buf (Elt Bits) ℓ) : Prop :=
  True

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormRefIdeal (m : (ℓ : Loc Cert.FfnNormRefIdeal.nD Cert.FfnNormRefIdeal.τ Cert.FfnNormRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDact (m : (ℓ : Loc Cert.FfnDact.nD Cert.FfnDact.τ Cert.FfnDact.sig) → Buf (Elt Bits) ℓ) : Prop :=
  True

def Pre_FfnDactIdeal (m : (ℓ : Loc Cert.FfnDactIdeal.nD Cert.FfnDactIdeal.τ Cert.FfnDactIdeal.sig) → Buf (Elt Ideal) ℓ) : Prop :=
  True

def Pre_FfnDactIdeal_finite [hPre_finite : Cert.Pre_finite.Facts] (m : (ℓ : Loc Cert.FfnDactIdeal.nD Cert.FfnDactIdeal.τ Cert.FfnDactIdeal.sig) → Buf (Elt Ideal) ℓ) : Prop :=
  ∀ c : Dev Cert.FfnDactIdeal.nD,
    (Cert.Pre_finite.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3))).1 = (fun _ => 1#1)
    ∧ (Cert.Pre_finite.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3))).2.1 = (fun _ => 1#1)
    ∧ (Cert.Pre_finite.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3))).2.2 = (fun _ => 1#1)

def Pre_FfnDactRefIdeal (m : (ℓ : Loc Cert.FfnDactRefIdeal.nD Cert.FfnDactRefIdeal.τ Cert.FfnDactRefIdeal.sig) → Buf (Elt Ideal) ℓ) : Prop :=
  True

def Pre_FfnDactRefIdeal_finite [hPre_finite : Cert.Pre_finite.Facts] (m : (ℓ : Loc Cert.FfnDactRefIdeal.nD Cert.FfnDactRefIdeal.τ Cert.FfnDactRefIdeal.sig) → Buf (Elt Ideal) ℓ) : Prop :=
  ∀ c : Dev Cert.FfnDactRefIdeal.nD,
    (Cert.Pre_finite.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3))).1 = (fun _ => 1#1)
    ∧ (Cert.Pre_finite.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3))).2.1 = (fun _ => 1#1)
    ∧ (Cert.Pre_finite.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3))).2.2 = (fun _ => 1#1)

def Pre_FfnDwd (m : (ℓ : Loc Cert.FfnDwd.nD Cert.FfnDwd.τ Cert.FfnDwd.sig) → Buf (Elt Bits) ℓ) : Prop :=
  True

def Pre_FfnDwdIdeal (m : (ℓ : Loc Cert.FfnDwdIdeal.nD Cert.FfnDwdIdeal.τ Cert.FfnDwdIdeal.sig) → Buf (Elt Ideal) ℓ) : Prop :=
  True

def Pre_FfnDwdRefIdeal (m : (ℓ : Loc Cert.FfnDwdRefIdeal.nD Cert.FfnDwdRefIdeal.τ Cert.FfnDwdRefIdeal.sig) → Buf (Elt Ideal) ℓ) : Prop :=
  True

def Pre_FfnDwin (m : (ℓ : Loc Cert.FfnDwin.nD Cert.FfnDwin.τ Cert.FfnDwin.sig) → Buf (Elt Bits) ℓ) : Prop :=
  True

def Pre_FfnDwinIdeal (m : (ℓ : Loc Cert.FfnDwinIdeal.nD Cert.FfnDwinIdeal.τ Cert.FfnDwinIdeal.sig) → Buf (Elt Ideal) ℓ) : Prop :=
  True

def Pre_FfnDwinRefIdeal (m : (ℓ : Loc Cert.FfnDwinRefIdeal.nD Cert.FfnDwinRefIdeal.τ Cert.FfnDwinRefIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhRefIdeal (m : (ℓ : Loc Cert.FfnDhRefIdeal.nD Cert.FfnDhRefIdeal.τ Cert.FfnDhRefIdeal.sig) → Buf (Elt Ideal) ℓ) : Prop :=
  True

def Pre_EvProj (m : (ℓ : Loc Cert.EvProj.nD Cert.EvProj.τ Cert.EvProj.sig) → Buf (Elt Bits) ℓ) : Prop :=
  True

def Pre_EvProjIdeal (m : (ℓ : Loc Cert.EvProjIdeal.nD Cert.EvProjIdeal.τ Cert.EvProjIdeal.sig) → Buf (Elt Ideal) ℓ) : Prop :=
  True

def Pre_EvProjRefIdeal (m : (ℓ : Loc Cert.EvProjRefIdeal.nD Cert.EvProjRefIdeal.τ Cert.EvProjRefIdeal.sig) → Buf (Elt Ideal) ℓ) : Prop :=
  True

def Pre_OdProj (m : (ℓ : Loc Cert.OdProj.nD Cert.OdProj.τ Cert.OdProj.sig) → Buf (Elt Bits) ℓ) : Prop :=
  True

def Pre_OdProjIdeal (m : (ℓ : Loc Cert.OdProjIdeal.nD Cert.OdProjIdeal.τ Cert.OdProjIdeal.sig) → Buf (Elt Ideal) ℓ) : Prop :=
  True

def Pre_OdProjRefIdeal (m : (ℓ : Loc Cert.OdProjRefIdeal.nD Cert.OdProjRefIdeal.τ Cert.OdProjRefIdeal.sig) → Buf (Elt Ideal) ℓ) : Prop :=
  True

def Pre_OdProjBd (m : (ℓ : Loc Cert.OdProjBd.nD Cert.OdProjBd.τ Cert.OdProjBd.sig) → Buf (Elt Bits) ℓ) : Prop :=
  True

def Pre_OdProjBdIdeal (m : (ℓ : Loc Cert.OdProjBdIdeal.nD Cert.OdProjBdIdeal.τ Cert.OdProjBdIdeal.sig) → Buf (Elt Ideal) ℓ) : Prop :=
  True

def Pre_OdProjBdRefIdeal (m : (ℓ : Loc Cert.OdProjBdRefIdeal.nD Cert.OdProjBdRefIdeal.τ Cert.OdProjBdRefIdeal.sig) → Buf (Elt Ideal) ℓ) : Prop :=
  True

def Pre_EvOut (m : (ℓ : Loc Cert.EvOut.nD Cert.EvOut.τ Cert.EvOut.sig) → Buf (Elt Bits) ℓ) : Prop :=
  True

def Pre_EvOutIdeal (m : (ℓ : Loc Cert.EvOutIdeal.nD Cert.EvOutIdeal.τ Cert.EvOutIdeal.sig) → Buf (Elt Ideal) ℓ) : Prop :=
  True

def Pre_EvOutRefIdeal (m : (ℓ : Loc Cert.EvOutRefIdeal.nD Cert.EvOutRefIdeal.τ Cert.EvOutRefIdeal.sig) → Buf (Elt Ideal) ℓ) : Prop :=
  True

def Pre_OdOut (m : (ℓ : Loc Cert.OdOut.nD Cert.OdOut.τ Cert.OdOut.sig) → Buf (Elt Bits) ℓ) : Prop :=
  True

def Pre_OdOutIdeal (m : (ℓ : Loc Cert.OdOutIdeal.nD Cert.OdOutIdeal.τ Cert.OdOutIdeal.sig) → Buf (Elt Ideal) ℓ) : Prop :=
  True

def Pre_OdOutRefIdeal (m : (ℓ : Loc Cert.OdOutRefIdeal.nD Cert.OdOutRefIdeal.τ Cert.OdOutRefIdeal.sig) → Buf (Elt Ideal) ℓ) : Prop :=
  True

def Pre_EvDy (m : (ℓ : Loc Cert.EvDy.nD Cert.EvDy.τ Cert.EvDy.sig) → Buf (Elt Bits) ℓ) : Prop :=
  True

def Pre_EvDyIdeal (m : (ℓ : Loc Cert.EvDyIdeal.nD Cert.EvDyIdeal.τ Cert.EvDyIdeal.sig) → Buf (Elt Ideal) ℓ) : Prop :=
  True

def Pre_EvDyRefIdeal (m : (ℓ : Loc Cert.EvDyRefIdeal.nD Cert.EvDyRefIdeal.τ Cert.EvDyRefIdeal.sig) → Buf (Elt Ideal) ℓ) : Prop :=
  True

def Pre_OdDy (m : (ℓ : Loc Cert.OdDy.nD Cert.OdDy.τ Cert.OdDy.sig) → Buf (Elt Bits) ℓ) : Prop :=
  True

def Pre_OdDyIdeal (m : (ℓ : Loc Cert.OdDyIdeal.nD Cert.OdDyIdeal.τ Cert.OdDyIdeal.sig) → Buf (Elt Ideal) ℓ) : Prop :=
  True

def Pre_OdDyRefIdeal (m : (ℓ : Loc Cert.OdDyRefIdeal.nD Cert.OdDyRefIdeal.τ Cert.OdDyRefIdeal.sig) → Buf (Elt Ideal) ℓ) : Prop :=
  True

def Pre_EvDwOut (m : (ℓ : Loc Cert.EvDwOut.nD Cert.EvDwOut.τ Cert.EvDwOut.sig) → Buf (Elt Bits) ℓ) : Prop :=
  True

def Pre_EvDwOutIdeal (m : (ℓ : Loc Cert.EvDwOutIdeal.nD Cert.EvDwOutIdeal.τ Cert.EvDwOutIdeal.sig) → Buf (Elt Ideal) ℓ) : Prop :=
  True

def Pre_EvDwOutRefIdeal (m : (ℓ : Loc Cert.EvDwOutRefIdeal.nD Cert.EvDwOutRefIdeal.τ Cert.EvDwOutRefIdeal.sig) → Buf (Elt Ideal) ℓ) : Prop :=
  True

def Pre_OdDwOut (m : (ℓ : Loc Cert.OdDwOut.nD Cert.OdDwOut.τ Cert.OdDwOut.sig) → Buf (Elt Bits) ℓ) : Prop :=
  True

def Pre_OdDwOutIdeal (m : (ℓ : Loc Cert.OdDwOutIdeal.nD Cert.OdDwOutIdeal.τ Cert.OdDwOutIdeal.sig) → Buf (Elt Ideal) ℓ) : Prop :=
  True

def Pre_OdDwOutRefIdeal (m : (ℓ : Loc Cert.OdDwOutRefIdeal.nD Cert.OdDwOutRefIdeal.τ Cert.OdDwOutRefIdeal.sig) → Buf (Elt Ideal) ℓ) : Prop :=
  True

def Pre_EvDwIn (m : (ℓ : Loc Cert.EvDwIn.nD Cert.EvDwIn.τ Cert.EvDwIn.sig) → Buf (Elt Bits) ℓ) : Prop :=
  True

def Pre_EvDwInIdeal (m : (ℓ : Loc Cert.EvDwInIdeal.nD Cert.EvDwInIdeal.τ Cert.EvDwInIdeal.sig) → Buf (Elt Ideal) ℓ) : Prop :=
  True

def Pre_EvDwInRefIdeal (m : (ℓ : Loc Cert.EvDwInRefIdeal.nD Cert.EvDwInRefIdeal.τ Cert.EvDwInRefIdeal.sig) → Buf (Elt Ideal) ℓ) : Prop :=
  True

def Pre_OdDwIn (m : (ℓ : Loc Cert.OdDwIn.nD Cert.OdDwIn.τ Cert.OdDwIn.sig) → Buf (Elt Bits) ℓ) : Prop :=
  True

def Pre_OdDwInIdeal (m : (ℓ : Loc Cert.OdDwInIdeal.nD Cert.OdDwInIdeal.τ Cert.OdDwInIdeal.sig) → Buf (Elt Ideal) ℓ) : Prop :=
  True

def Pre_OdDwInRefIdeal (m : (ℓ : Loc Cert.OdDwInRefIdeal.nD Cert.OdDwInRefIdeal.τ Cert.OdDwInRefIdeal.sig) → Buf (Elt Ideal) ℓ) : Prop :=
  True

def Pre_OdDwBd (m : (ℓ : Loc Cert.OdDwBd.nD Cert.OdDwBd.τ Cert.OdDwBd.sig) → Buf (Elt Bits) ℓ) : Prop :=
  True

def Pre_OdDwBdIdeal (m : (ℓ : Loc Cert.OdDwBdIdeal.nD Cert.OdDwBdIdeal.τ Cert.OdDwBdIdeal.sig) → Buf (Elt Ideal) ℓ) : Prop :=
  True

def Pre_OdDwBdRefIdeal (m : (ℓ : Loc Cert.OdDwBdRefIdeal.nD Cert.OdDwBdRefIdeal.τ Cert.OdDwBdRefIdeal.sig) → Buf (Elt Ideal) ℓ) : Prop :=
  True

def Pre_EvDh (m : (ℓ : Loc Cert.EvDh.nD Cert.EvDh.τ Cert.EvDh.sig) → Buf (Elt Bits) ℓ) : Prop :=
  True

def Pre_EvDhIdeal (m : (ℓ : Loc Cert.EvDhIdeal.nD Cert.EvDhIdeal.τ Cert.EvDhIdeal.sig) → Buf (Elt Ideal) ℓ) : Prop :=
  True

def Pre_EvDhRefIdeal (m : (ℓ : Loc Cert.EvDhRefIdeal.nD Cert.EvDhRefIdeal.τ Cert.EvDhRefIdeal.sig) → Buf (Elt Ideal) ℓ) : Prop :=
  True

def Pre_OdDh (m : (ℓ : Loc Cert.OdDh.nD Cert.OdDh.τ Cert.OdDh.sig) → Buf (Elt Bits) ℓ) : Prop :=
  True

def Pre_OdDhIdeal (m : (ℓ : Loc Cert.OdDhIdeal.nD Cert.OdDhIdeal.τ Cert.OdDhIdeal.sig) → Buf (Elt Ideal) ℓ) : Prop :=
  True

def Pre_OdDhRefIdeal (m : (ℓ : Loc Cert.OdDhRefIdeal.nD Cert.OdDhRefIdeal.τ Cert.OdDhRefIdeal.sig) → Buf (Elt Ideal) ℓ) : Prop :=
  True

def Pre_OdDhBd (m : (ℓ : Loc Cert.OdDhBd.nD Cert.OdDhBd.τ Cert.OdDhBd.sig) → Buf (Elt Bits) ℓ) : Prop :=
  True

def Pre_OdDhBdIdeal (m : (ℓ : Loc Cert.OdDhBdIdeal.nD Cert.OdDhBdIdeal.τ Cert.OdDhBdIdeal.sig) → Buf (Elt Ideal) ℓ) : Prop :=
  True

def Pre_OdDhBdRefIdeal (m : (ℓ : Loc Cert.OdDhBdRefIdeal.nD Cert.OdDhBdRefIdeal.τ Cert.OdDhBdRefIdeal.sig) → Buf (Elt Ideal) ℓ) : Prop :=
  True

def Pre_SsmDc (m : (ℓ : Loc Cert.SsmDc.nD Cert.SsmDc.τ Cert.SsmDc.sig) → Buf (Elt Bits) ℓ) : Prop :=
  True

def Pre_SsmDcIdeal (m : (ℓ : Loc Cert.SsmDcIdeal.nD Cert.SsmDcIdeal.τ Cert.SsmDcIdeal.sig) → Buf (Elt Ideal) ℓ) : Prop :=
  True

def Pre_SsmDcRefIdeal (m : (ℓ : Loc Cert.SsmDcRefIdeal.nD Cert.SsmDcRefIdeal.τ Cert.SsmDcRefIdeal.sig) → Buf (Elt Ideal) ℓ) : Prop :=
  True

def Pre_SsmPost (m : (ℓ : Loc Cert.SsmPost.nD Cert.SsmPost.τ Cert.SsmPost.sig) → Buf (Elt Bits) ℓ) : Prop :=
  True

def Pre_SsmPostIdeal (m : (ℓ : Loc Cert.SsmPostIdeal.nD Cert.SsmPostIdeal.τ Cert.SsmPostIdeal.sig) → Buf (Elt Ideal) ℓ) : Prop :=
  True

def Pre_SsmPostRefIdeal (m : (ℓ : Loc Cert.SsmPostRefIdeal.nD Cert.SsmPostRefIdeal.τ Cert.SsmPostRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_FirstNorm (m : (ℓ : Loc Cert.FirstNorm.nD Cert.FirstNorm.τ Cert.FirstNorm.sig) → Buf (Elt Bits) ℓ) : Prop :=
  True

def Pre_FirstNormIdeal (m : (ℓ : Loc Cert.FirstNormIdeal.nD Cert.FirstNormIdeal.τ Cert.FirstNormIdeal.sig) → Buf (Elt Ideal) ℓ) : Prop :=
  True

def Pre_FirstNormRefIdeal (m : (ℓ : Loc Cert.FirstNormRefIdeal.nD Cert.FirstNormRefIdeal.τ Cert.FirstNormRefIdeal.sig) → Buf (Elt Ideal) ℓ) : Prop :=
  True

def Pre_AdamwWide (m : (ℓ : Loc Cert.AdamwWide.nD Cert.AdamwWide.τ Cert.AdamwWide.sig) → Buf (Elt Bits) ℓ) : Prop :=
  True

def Pre_AdamwWideIdeal (m : (ℓ : Loc Cert.AdamwWideIdeal.nD Cert.AdamwWideIdeal.τ Cert.AdamwWideIdeal.sig) → Buf (Elt Ideal) ℓ) : Prop :=
  True

def Pre_AdamwWideRefIdeal (m : (ℓ : Loc Cert.AdamwWideRefIdeal.nD Cert.AdamwWideRefIdeal.τ Cert.AdamwWideRefIdeal.sig) → Buf (Elt Ideal) ℓ) : Prop :=
  True

def Pre_AdamwDown (m : (ℓ : Loc Cert.AdamwDown.nD Cert.AdamwDown.τ Cert.AdamwDown.sig) → Buf (Elt Bits) ℓ) : Prop :=
  True

def Pre_AdamwDownIdeal (m : (ℓ : Loc Cert.AdamwDownIdeal.nD Cert.AdamwDownIdeal.τ Cert.AdamwDownIdeal.sig) → Buf (Elt Ideal) ℓ) : Prop :=
  True

def Pre_AdamwDownRefIdeal (m : (ℓ : Loc Cert.AdamwDownRefIdeal.nD Cert.AdamwDownRefIdeal.τ Cert.AdamwDownRefIdeal.sig) → Buf (Elt Ideal) ℓ) : Prop :=
  True

def Pre_AdamwEvIn (m : (ℓ : Loc Cert.AdamwEvIn.nD Cert.AdamwEvIn.τ Cert.AdamwEvIn.sig) → Buf (Elt Bits) ℓ) : Prop :=
  True

def Pre_AdamwEvInIdeal (m : (ℓ : Loc Cert.AdamwEvInIdeal.nD Cert.AdamwEvInIdeal.τ Cert.AdamwEvInIdeal.sig) → Buf (Elt Ideal) ℓ) : Prop :=
  True

def Pre_AdamwEvInRefIdeal (m : (ℓ : Loc Cert.AdamwEvInRefIdeal.nD Cert.AdamwEvInRefIdeal.τ Cert.AdamwEvInRefIdeal.sig) → Buf (Elt Ideal) ℓ) : Prop :=
  True

def Pre_AdamwGlu (m : (ℓ : Loc Cert.AdamwGlu.nD Cert.AdamwGlu.τ Cert.AdamwGlu.sig) → Buf (Elt Bits) ℓ) : Prop :=
  True

def Pre_AdamwGluIdeal (m : (ℓ : Loc Cert.AdamwGluIdeal.nD Cert.AdamwGluIdeal.τ Cert.AdamwGluIdeal.sig) → Buf (Elt Ideal) ℓ) : Prop :=
  True

def Pre_AdamwGluRefIdeal (m : (ℓ : Loc Cert.AdamwGluRefIdeal.nD Cert.AdamwGluRefIdeal.τ Cert.AdamwGluRefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_AdamwOdIn (m : (ℓ : Loc Cert.AdamwOdIn.nD Cert.AdamwOdIn.τ Cert.AdamwOdIn.sig) → Buf (Elt Bits) ℓ) : Prop :=
  True

def Pre_AdamwOdInIdeal (m : (ℓ : Loc Cert.AdamwOdInIdeal.nD Cert.AdamwOdInIdeal.τ Cert.AdamwOdInIdeal.sig) → Buf (Elt Ideal) ℓ) : Prop :=
  True

def Pre_AdamwOdInRefIdeal (m : (ℓ : Loc Cert.AdamwOdInRefIdeal.nD Cert.AdamwOdInRefIdeal.τ Cert.AdamwOdInRefIdeal.sig) → Buf (Elt Ideal) ℓ) : Prop :=
  True

def Pre_AdamwConv (m : (ℓ : Loc Cert.AdamwConv.nD Cert.AdamwConv.τ Cert.AdamwConv.sig) → Buf (Elt Bits) ℓ) : Prop :=
  True

def Pre_AdamwConvIdeal (m : (ℓ : Loc Cert.AdamwConvIdeal.nD Cert.AdamwConvIdeal.τ Cert.AdamwConvIdeal.sig) → Buf (Elt Ideal) ℓ) : Prop :=
  True

def Pre_AdamwConvRefIdeal (m : (ℓ : Loc Cert.AdamwConvRefIdeal.nD Cert.AdamwConvRefIdeal.τ Cert.AdamwConvRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def quiescent_SwapHalves [hSwapHalves : Cert.SwapHalves.Facts] : Prop :=
  ∀ (m : (ℓ : Loc Cert.SwapHalves.nD Cert.SwapHalves.τ Cert.SwapHalves.sig) → Buf (Elt Bits) ℓ) (g : Dev Cert.SwapHalves.nD → PrngReg), Pre_SwapHalves m →
    θ_run (Cert.SwapHalves.defs (F := Bits)) (onTc (τ := Cert.SwapHalves.τ) (Cert.SwapHalves.main (F := Bits))) ⟨m, fun _ => 0, g⟩ (fun r => (∀ c : Dev Cert.SwapHalves.nD,
      r.2.mem ((c.tc : Thread Cert.SwapHalves.nD Cert.SwapHalves.τ).loc Cert.SwapHalves.main_arg0) = m ((c.tc : Thread Cert.SwapHalves.nD Cert.SwapHalves.τ).loc Cert.SwapHalves.main_arg0)
      ∧ r.2.mem ((c.tc : Thread Cert.SwapHalves.nD Cert.SwapHalves.τ).loc Cert.SwapHalves.main_arg1) = m ((c.tc : Thread Cert.SwapHalves.nD Cert.SwapHalves.τ).loc Cert.SwapHalves.main_arg1))
      ∧ r.2.sem = fun _ => 0)

def quiescent_SwapHalvesRef [hSwapHalvesRef : Cert.SwapHalvesRef.Facts] : Prop :=
  ∀ (m : (ℓ : Loc Cert.SwapHalvesRef.nD Cert.SwapHalvesRef.τ Cert.SwapHalvesRef.sig) → Buf (Elt Bits) ℓ) (g : Dev Cert.SwapHalvesRef.nD → PrngReg), Pre_SwapHalvesRef m →
    θ_run (Cert.SwapHalvesRef.defs (F := Bits)) (onTc (τ := Cert.SwapHalvesRef.τ) (Cert.SwapHalvesRef.main (F := Bits))) ⟨m, fun _ => 0, g⟩ (fun r => (∀ c : Dev Cert.SwapHalvesRef.nD,
      r.2.mem ((c.tc : Thread Cert.SwapHalvesRef.nD Cert.SwapHalvesRef.τ).loc Cert.SwapHalvesRef.main_arg0) = m ((c.tc : Thread Cert.SwapHalvesRef.nD Cert.SwapHalvesRef.τ).loc Cert.SwapHalvesRef.main_arg0)
      ∧ r.2.mem ((c.tc : Thread Cert.SwapHalvesRef.nD Cert.SwapHalvesRef.τ).loc Cert.SwapHalvesRef.main_arg1) = m ((c.tc : Thread Cert.SwapHalvesRef.nD Cert.SwapHalvesRef.τ).loc Cert.SwapHalvesRef.main_arg1))
      ∧ r.2.sem = fun _ => 0)

def quiescent_ExchangeChips [hExchangeChips : Cert.ExchangeChips.Facts] : Prop :=
  ∀ (m : (ℓ : Loc Cert.ExchangeChips.nD Cert.ExchangeChips.τ Cert.ExchangeChips.sig) → Buf (Elt Bits) ℓ) (g : Dev Cert.ExchangeChips.nD → PrngReg), Pre_ExchangeChips m →
    θ_run (Cert.ExchangeChips.defs (F := Bits)) (onTc (τ := Cert.ExchangeChips.τ) (Cert.ExchangeChips.main (F := Bits))) ⟨m, fun _ => 0, g⟩ (fun r => (∀ c : Dev Cert.ExchangeChips.nD,
      r.2.mem ((c.tc : Thread Cert.ExchangeChips.nD Cert.ExchangeChips.τ).loc Cert.ExchangeChips.main_arg0) = m ((c.tc : Thread Cert.ExchangeChips.nD Cert.ExchangeChips.τ).loc Cert.ExchangeChips.main_arg0)
      ∧ r.2.mem ((c.tc : Thread Cert.ExchangeChips.nD Cert.ExchangeChips.τ).loc Cert.ExchangeChips.main_arg1) = m ((c.tc : Thread Cert.ExchangeChips.nD Cert.ExchangeChips.τ).loc Cert.ExchangeChips.main_arg1))
      ∧ r.2.sem = fun _ => 0)

def quiescent_ExchangeChipsRef [hExchangeChipsRef : Cert.ExchangeChipsRef.Facts] : Prop :=
  ∀ (m : (ℓ : Loc Cert.ExchangeChipsRef.nD Cert.ExchangeChipsRef.τ Cert.ExchangeChipsRef.sig) → Buf (Elt Bits) ℓ) (g : Dev Cert.ExchangeChipsRef.nD → PrngReg), Pre_ExchangeChipsRef m →
    θ_run (Cert.ExchangeChipsRef.defs (F := Bits)) (onTc (τ := Cert.ExchangeChipsRef.τ) (Cert.ExchangeChipsRef.main (F := Bits))) ⟨m, fun _ => 0, g⟩ (fun r => (∀ c : Dev Cert.ExchangeChipsRef.nD,
      r.2.mem ((c.tc : Thread Cert.ExchangeChipsRef.nD Cert.ExchangeChipsRef.τ).loc Cert.ExchangeChipsRef.main_arg0) = m ((c.tc : Thread Cert.ExchangeChipsRef.nD Cert.ExchangeChipsRef.τ).loc Cert.ExchangeChipsRef.main_arg0)
      ∧ r.2.mem ((c.tc : Thread Cert.ExchangeChipsRef.nD Cert.ExchangeChipsRef.τ).loc Cert.ExchangeChipsRef.main_arg1) = m ((c.tc : Thread Cert.ExchangeChipsRef.nD Cert.ExchangeChipsRef.τ).loc Cert.ExchangeChipsRef.main_arg1))
      ∧ r.2.sem = fun _ => 0)

def quiescent_SwapReduced [hSwapReduced : Cert.SwapReduced.Facts] : Prop :=
  ∀ (m : (ℓ : Loc Cert.SwapReduced.nD Cert.SwapReduced.τ Cert.SwapReduced.sig) → Buf (Elt Bits) ℓ) (g : Dev Cert.SwapReduced.nD → PrngReg), Pre_SwapReduced m →
    θ_run (Cert.SwapReduced.defs (F := Bits)) (onTc (τ := Cert.SwapReduced.τ) (Cert.SwapReduced.main (F := Bits))) ⟨m, fun _ => 0, g⟩ (fun r => (∀ c : Dev Cert.SwapReduced.nD,
      r.2.mem ((c.tc : Thread Cert.SwapReduced.nD Cert.SwapReduced.τ).loc Cert.SwapReduced.main_arg0) = m ((c.tc : Thread Cert.SwapReduced.nD Cert.SwapReduced.τ).loc Cert.SwapReduced.main_arg0)
      ∧ r.2.mem ((c.tc : Thread Cert.SwapReduced.nD Cert.SwapReduced.τ).loc Cert.SwapReduced.main_arg1) = m ((c.tc : Thread Cert.SwapReduced.nD Cert.SwapReduced.τ).loc Cert.SwapReduced.main_arg1))
      ∧ r.2.sem = fun _ => 0)

def quiescent_SwapReducedRef [hSwapReducedRef : Cert.SwapReducedRef.Facts] : Prop :=
  ∀ (m : (ℓ : Loc Cert.SwapReducedRef.nD Cert.SwapReducedRef.τ Cert.SwapReducedRef.sig) → Buf (Elt Bits) ℓ) (g : Dev Cert.SwapReducedRef.nD → PrngReg), Pre_SwapReducedRef m →
    θ_run (Cert.SwapReducedRef.defs (F := Bits)) (onTc (τ := Cert.SwapReducedRef.τ) (Cert.SwapReducedRef.main (F := Bits))) ⟨m, fun _ => 0, g⟩ (fun r => (∀ c : Dev Cert.SwapReducedRef.nD,
      r.2.mem ((c.tc : Thread Cert.SwapReducedRef.nD Cert.SwapReducedRef.τ).loc Cert.SwapReducedRef.main_arg0) = m ((c.tc : Thread Cert.SwapReducedRef.nD Cert.SwapReducedRef.τ).loc Cert.SwapReducedRef.main_arg0)
      ∧ r.2.mem ((c.tc : Thread Cert.SwapReducedRef.nD Cert.SwapReducedRef.τ).loc Cert.SwapReducedRef.main_arg1) = m ((c.tc : Thread Cert.SwapReducedRef.nD Cert.SwapReducedRef.τ).loc Cert.SwapReducedRef.main_arg1))
      ∧ r.2.sem = fun _ => 0)

def quiescent_GatherSmall [hGatherSmall : Cert.GatherSmall.Facts] : Prop :=
  ∀ (m : (ℓ : Loc Cert.GatherSmall.nD Cert.GatherSmall.τ Cert.GatherSmall.sig) → Buf (Elt Bits) ℓ) (g : Dev Cert.GatherSmall.nD → PrngReg), Pre_GatherSmall m →
    θ_run (Cert.GatherSmall.defs (F := Bits)) (onTc (τ := Cert.GatherSmall.τ) (Cert.GatherSmall.main (F := Bits))) ⟨m, fun _ => 0, g⟩ (fun r => (∀ c : Dev Cert.GatherSmall.nD,
      r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ r.2.sem = fun _ => 0)

def quiescent_GatherSmallRef [hGatherSmallRef : Cert.GatherSmallRef.Facts] : Prop :=
  ∀ (m : (ℓ : Loc Cert.GatherSmallRef.nD Cert.GatherSmallRef.τ Cert.GatherSmallRef.sig) → Buf (Elt Bits) ℓ) (g : Dev Cert.GatherSmallRef.nD → PrngReg), Pre_GatherSmallRef m →
    θ_run (Cert.GatherSmallRef.defs (F := Bits)) (onTc (τ := Cert.GatherSmallRef.τ) (Cert.GatherSmallRef.main (F := Bits))) ⟨m, fun _ => 0, g⟩ (fun r => (∀ c : Dev Cert.GatherSmallRef.nD,
      r.2.mem ((c.tc : Thread Cert.GatherSmallRef.nD Cert.GatherSmallRef.τ).loc Cert.GatherSmallRef.main_arg0) = m ((c.tc : Thread Cert.GatherSmallRef.nD Cert.GatherSmallRef.τ).loc Cert.GatherSmallRef.main_arg0))
      ∧ r.2.sem = fun _ => 0)

def quiescent_GatherWeights [hGatherWeights : Cert.GatherWeights.Facts] : Prop :=
  ∀ (m : (ℓ : Loc Cert.GatherWeights.nD Cert.GatherWeights.τ Cert.GatherWeights.sig) → Buf (Elt Bits) ℓ) (g : Dev Cert.GatherWeights.nD → PrngReg), Pre_GatherWeights m →
    θ_run (Cert.GatherWeights.defs (F := Bits)) (onTc (τ := Cert.GatherWeights.τ) (Cert.GatherWeights.main (F := Bits))) ⟨m, fun _ => 0, g⟩ (fun r => (∀ c : Dev Cert.GatherWeights.nD,
      r.2.mem ((c.tc : Thread Cert.GatherWeights.nD Cert.GatherWeights.τ).loc Cert.GatherWeights.main_arg0) = m ((c.tc : Thread Cert.GatherWeights.nD Cert.GatherWeights.τ).loc Cert.GatherWeights.main_arg0)
      ∧ r.2.mem ((c.tc : Thread Cert.GatherWeights.nD Cert.GatherWeights.τ).loc Cert.GatherWeights.main_arg1) = m ((c.tc : Thread Cert.GatherWeights.nD Cert.GatherWeights.τ).loc Cert.GatherWeights.main_arg1))
      ∧ r.2.sem = fun _ => 0)

def quiescent_GatherWeightsRef [hGatherWeightsRef : Cert.GatherWeightsRef.Facts] : Prop :=
  ∀ (m : (ℓ : Loc Cert.GatherWeightsRef.nD Cert.GatherWeightsRef.τ Cert.GatherWeightsRef.sig) → Buf (Elt Bits) ℓ) (g : Dev Cert.GatherWeightsRef.nD → PrngReg), Pre_GatherWeightsRef m →
    θ_run (Cert.GatherWeightsRef.defs (F := Bits)) (onTc (τ := Cert.GatherWeightsRef.τ) (Cert.GatherWeightsRef.main (F := Bits))) ⟨m, fun _ => 0, g⟩ (fun r => (∀ c : Dev Cert.GatherWeightsRef.nD,
      r.2.mem ((c.tc : Thread Cert.GatherWeightsRef.nD Cert.GatherWeightsRef.τ).loc Cert.GatherWeightsRef.main_arg0) = m ((c.tc : Thread Cert.GatherWeightsRef.nD Cert.GatherWeightsRef.τ).loc Cert.GatherWeightsRef.main_arg0)
      ∧ r.2.mem ((c.tc : Thread Cert.GatherWeightsRef.nD Cert.GatherWeightsRef.τ).loc Cert.GatherWeightsRef.main_arg1) = m ((c.tc : Thread Cert.GatherWeightsRef.nD Cert.GatherWeightsRef.τ).loc Cert.GatherWeightsRef.main_arg1))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallRef [hSumSmallRef : Cert.SumSmallRef.Facts] : Prop :=
  ∀ (m : (ℓ : Loc Cert.SumSmallRef.nD Cert.SumSmallRef.τ Cert.SumSmallRef.sig) → Buf (Elt Bits) ℓ) (g : Dev Cert.SumSmallRef.nD → PrngReg), Pre_SumSmallRef m →
    θ_run (Cert.SumSmallRef.defs (F := Bits)) (onTc (τ := Cert.SumSmallRef.τ) (Cert.SumSmallRef.main (F := Bits))) ⟨m, fun _ => 0, g⟩ (fun r => (∀ c : Dev Cert.SumSmallRef.nD,
      r.2.mem ((c.tc : Thread Cert.SumSmallRef.nD Cert.SumSmallRef.τ).loc Cert.SumSmallRef.main_arg0) = m ((c.tc : Thread Cert.SumSmallRef.nD Cert.SumSmallRef.τ).loc Cert.SumSmallRef.main_arg0))
      ∧ r.2.sem = fun _ => 0)

def quiescent_ChipsWide [hChipsWide : Cert.ChipsWide.Facts] : Prop :=
  ∀ (m : (ℓ : Loc Cert.ChipsWide.nD Cert.ChipsWide.τ Cert.ChipsWide.sig) → Buf (Elt Bits) ℓ) (g : Dev Cert.ChipsWide.nD → PrngReg), Pre_ChipsWide m →
    θ_run (Cert.ChipsWide.defs (F := Bits)) (onTc (τ := Cert.ChipsWide.τ) (Cert.ChipsWide.main (F := Bits))) ⟨m, fun _ => 0, g⟩ (fun r => (∀ c : Dev Cert.ChipsWide.nD,
      r.2.mem ((c.tc : Thread Cert.ChipsWide.nD Cert.ChipsWide.τ).loc Cert.ChipsWide.main_arg0) = m ((c.tc : Thread Cert.ChipsWide.nD Cert.ChipsWide.τ).loc Cert.ChipsWide.main_arg0)
      ∧ r.2.mem ((c.tc : Thread Cert.ChipsWide.nD Cert.ChipsWide.τ).loc Cert.ChipsWide.main_arg1) = m ((c.tc : Thread Cert.ChipsWide.nD Cert.ChipsWide.τ).loc Cert.ChipsWide.main_arg1))
      ∧ r.2.sem = fun _ => 0)

def quiescent_ChipsWideRef [hChipsWideRef : Cert.ChipsWideRef.Facts] : Prop :=
  ∀ (m : (ℓ : Loc Cert.ChipsWideRef.nD Cert.ChipsWideRef.τ Cert.ChipsWideRef.sig) → Buf (Elt Bits) ℓ) (g : Dev Cert.ChipsWideRef.nD → PrngReg), Pre_ChipsWideRef m →
    θ_run (Cert.ChipsWideRef.defs (F := Bits)) (onTc (τ := Cert.ChipsWideRef.τ) (Cert.ChipsWideRef.main (F := Bits))) ⟨m, fun _ => 0, g⟩ (fun r => (∀ c : Dev Cert.ChipsWideRef.nD,
      r.2.mem ((c.tc : Thread Cert.ChipsWideRef.nD Cert.ChipsWideRef.τ).loc Cert.ChipsWideRef.main_arg0) = m ((c.tc : Thread Cert.ChipsWideRef.nD Cert.ChipsWideRef.τ).loc Cert.ChipsWideRef.main_arg0)
      ∧ r.2.mem ((c.tc : Thread Cert.ChipsWideRef.nD Cert.ChipsWideRef.τ).loc Cert.ChipsWideRef.main_arg1) = m ((c.tc : Thread Cert.ChipsWideRef.nD Cert.ChipsWideRef.τ).loc Cert.ChipsWideRef.main_arg1))
      ∧ r.2.sem = fun _ => 0)

def quiescent_ChipsRows [hChipsRows : Cert.ChipsRows.Facts] : Prop :=
  ∀ (m : (ℓ : Loc Cert.ChipsRows.nD Cert.ChipsRows.τ Cert.ChipsRows.sig) → Buf (Elt Bits) ℓ) (g : Dev Cert.ChipsRows.nD → PrngReg), Pre_ChipsRows m →
    θ_run (Cert.ChipsRows.defs (F := Bits)) (onTc (τ := Cert.ChipsRows.τ) (Cert.ChipsRows.main (F := Bits))) ⟨m, fun _ => 0, g⟩ (fun r => (∀ c : Dev Cert.ChipsRows.nD,
      r.2.mem ((c.tc : Thread Cert.ChipsRows.nD Cert.ChipsRows.τ).loc Cert.ChipsRows.main_arg0) = m ((c.tc : Thread Cert.ChipsRows.nD Cert.ChipsRows.τ).loc Cert.ChipsRows.main_arg0)
      ∧ r.2.mem ((c.tc : Thread Cert.ChipsRows.nD Cert.ChipsRows.τ).loc Cert.ChipsRows.main_arg1) = m ((c.tc : Thread Cert.ChipsRows.nD Cert.ChipsRows.τ).loc Cert.ChipsRows.main_arg1))
      ∧ r.2.sem = fun _ => 0)

def quiescent_ChipsRowsRef [hChipsRowsRef : Cert.ChipsRowsRef.Facts] : Prop :=
  ∀ (m : (ℓ : Loc Cert.ChipsRowsRef.nD Cert.ChipsRowsRef.τ Cert.ChipsRowsRef.sig) → Buf (Elt Bits) ℓ) (g : Dev Cert.ChipsRowsRef.nD → PrngReg), Pre_ChipsRowsRef m →
    θ_run (Cert.ChipsRowsRef.defs (F := Bits)) (onTc (τ := Cert.ChipsRowsRef.τ) (Cert.ChipsRowsRef.main (F := Bits))) ⟨m, fun _ => 0, g⟩ (fun r => (∀ c : Dev Cert.ChipsRowsRef.nD,
      r.2.mem ((c.tc : Thread Cert.ChipsRowsRef.nD Cert.ChipsRowsRef.τ).loc Cert.ChipsRowsRef.main_arg0) = m ((c.tc : Thread Cert.ChipsRowsRef.nD Cert.ChipsRowsRef.τ).loc Cert.ChipsRowsRef.main_arg0)
      ∧ r.2.mem ((c.tc : Thread Cert.ChipsRowsRef.nD Cert.ChipsRowsRef.τ).loc Cert.ChipsRowsRef.main_arg1) = m ((c.tc : Thread Cert.ChipsRowsRef.nD Cert.ChipsRowsRef.τ).loc Cert.ChipsRowsRef.main_arg1))
      ∧ r.2.sem = fun _ => 0)

def quiescent_SiblingWide [hSiblingWide : Cert.SiblingWide.Facts] : Prop :=
  ∀ (m : (ℓ : Loc Cert.SiblingWide.nD Cert.SiblingWide.τ Cert.SiblingWide.sig) → Buf (Elt Bits) ℓ) (g : Dev Cert.SiblingWide.nD → PrngReg), Pre_SiblingWide m →
    θ_run (Cert.SiblingWide.defs (F := Bits)) (onTc (τ := Cert.SiblingWide.τ) (Cert.SiblingWide.main (F := Bits))) ⟨m, fun _ => 0, g⟩ (fun r => (∀ c : Dev Cert.SiblingWide.nD,
      r.2.mem ((c.tc : Thread Cert.SiblingWide.nD Cert.SiblingWide.τ).loc Cert.SiblingWide.main_arg0) = m ((c.tc : Thread Cert.SiblingWide.nD Cert.SiblingWide.τ).loc Cert.SiblingWide.main_arg0)
      ∧ r.2.mem ((c.tc : Thread Cert.SiblingWide.nD Cert.SiblingWide.τ).loc Cert.SiblingWide.main_arg1) = m ((c.tc : Thread Cert.SiblingWide.nD Cert.SiblingWide.τ).loc Cert.SiblingWide.main_arg1))
      ∧ r.2.sem = fun _ => 0)

def quiescent_SiblingWideRef [hSiblingWideRef : Cert.SiblingWideRef.Facts] : Prop :=
  ∀ (m : (ℓ : Loc Cert.SiblingWideRef.nD Cert.SiblingWideRef.τ Cert.SiblingWideRef.sig) → Buf (Elt Bits) ℓ) (g : Dev Cert.SiblingWideRef.nD → PrngReg), Pre_SiblingWideRef m →
    θ_run (Cert.SiblingWideRef.defs (F := Bits)) (onTc (τ := Cert.SiblingWideRef.τ) (Cert.SiblingWideRef.main (F := Bits))) ⟨m, fun _ => 0, g⟩ (fun r => (∀ c : Dev Cert.SiblingWideRef.nD,
      r.2.mem ((c.tc : Thread Cert.SiblingWideRef.nD Cert.SiblingWideRef.τ).loc Cert.SiblingWideRef.main_arg0) = m ((c.tc : Thread Cert.SiblingWideRef.nD Cert.SiblingWideRef.τ).loc Cert.SiblingWideRef.main_arg0)
      ∧ r.2.mem ((c.tc : Thread Cert.SiblingWideRef.nD Cert.SiblingWideRef.τ).loc Cert.SiblingWideRef.main_arg1) = m ((c.tc : Thread Cert.SiblingWideRef.nD Cert.SiblingWideRef.τ).loc Cert.SiblingWideRef.main_arg1))
      ∧ r.2.sem = fun _ => 0)

def quiescent_SiblingRows [hSiblingRows : Cert.SiblingRows.Facts] : Prop :=
  ∀ (m : (ℓ : Loc Cert.SiblingRows.nD Cert.SiblingRows.τ Cert.SiblingRows.sig) → Buf (Elt Bits) ℓ) (g : Dev Cert.SiblingRows.nD → PrngReg), Pre_SiblingRows m →
    θ_run (Cert.SiblingRows.defs (F := Bits)) (onTc (τ := Cert.SiblingRows.τ) (Cert.SiblingRows.main (F := Bits))) ⟨m, fun _ => 0, g⟩ (fun r => (∀ c : Dev Cert.SiblingRows.nD,
      r.2.mem ((c.tc : Thread Cert.SiblingRows.nD Cert.SiblingRows.τ).loc Cert.SiblingRows.main_arg0) = m ((c.tc : Thread Cert.SiblingRows.nD Cert.SiblingRows.τ).loc Cert.SiblingRows.main_arg0)
      ∧ r.2.mem ((c.tc : Thread Cert.SiblingRows.nD Cert.SiblingRows.τ).loc Cert.SiblingRows.main_arg1) = m ((c.tc : Thread Cert.SiblingRows.nD Cert.SiblingRows.τ).loc Cert.SiblingRows.main_arg1))
      ∧ r.2.sem = fun _ => 0)

def quiescent_SiblingRowsRef [hSiblingRowsRef : Cert.SiblingRowsRef.Facts] : Prop :=
  ∀ (m : (ℓ : Loc Cert.SiblingRowsRef.nD Cert.SiblingRowsRef.τ Cert.SiblingRowsRef.sig) → Buf (Elt Bits) ℓ) (g : Dev Cert.SiblingRowsRef.nD → PrngReg), Pre_SiblingRowsRef m →
    θ_run (Cert.SiblingRowsRef.defs (F := Bits)) (onTc (τ := Cert.SiblingRowsRef.τ) (Cert.SiblingRowsRef.main (F := Bits))) ⟨m, fun _ => 0, g⟩ (fun r => (∀ c : Dev Cert.SiblingRowsRef.nD,
      r.2.mem ((c.tc : Thread Cert.SiblingRowsRef.nD Cert.SiblingRowsRef.τ).loc Cert.SiblingRowsRef.main_arg0) = m ((c.tc : Thread Cert.SiblingRowsRef.nD Cert.SiblingRowsRef.τ).loc Cert.SiblingRowsRef.main_arg0)
      ∧ r.2.mem ((c.tc : Thread Cert.SiblingRowsRef.nD Cert.SiblingRowsRef.τ).loc Cert.SiblingRowsRef.main_arg1) = m ((c.tc : Thread Cert.SiblingRowsRef.nD Cert.SiblingRowsRef.τ).loc Cert.SiblingRowsRef.main_arg1))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1))
      ∧ r.2.sem = fun _ => 0)

def quiescent_FfnNormRefIdeal [hFfnNormRefIdeal : Cert.FfnNormRefIdeal.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_FfnDact [hFfnDact : Cert.FfnDact.Facts] : Prop :=
  ∀ (m : (ℓ : Loc Cert.FfnDact.nD Cert.FfnDact.τ Cert.FfnDact.sig) → Buf (Elt Bits) ℓ) (g : Dev Cert.FfnDact.nD → PrngReg), Pre_FfnDact m →
    θ_run (Cert.FfnDact.defs (F := Bits)) (onTc (τ := Cert.FfnDact.τ) (Cert.FfnDact.main (F := Bits))) ⟨m, fun _ => 0, g⟩ (fun r => (∀ c : Dev Cert.FfnDact.nD,
      r.2.mem ((c.tc : Thread Cert.FfnDact.nD Cert.FfnDact.τ).loc Cert.FfnDact.main_arg0) = m ((c.tc : Thread Cert.FfnDact.nD Cert.FfnDact.τ).loc Cert.FfnDact.main_arg0)
      ∧ r.2.mem ((c.tc : Thread Cert.FfnDact.nD Cert.FfnDact.τ).loc Cert.FfnDact.main_arg1) = m ((c.tc : Thread Cert.FfnDact.nD Cert.FfnDact.τ).loc Cert.FfnDact.main_arg1)
      ∧ r.2.mem ((c.tc : Thread Cert.FfnDact.nD Cert.FfnDact.τ).loc Cert.FfnDact.main_arg2) = m ((c.tc : Thread Cert.FfnDact.nD Cert.FfnDact.τ).loc Cert.FfnDact.main_arg2)
      ∧ r.2.mem ((c.tc : Thread Cert.FfnDact.nD Cert.FfnDact.τ).loc Cert.FfnDact.main_arg3) = m ((c.tc : Thread Cert.FfnDact.nD Cert.FfnDact.τ).loc Cert.FfnDact.main_arg3))
      ∧ r.2.sem = fun _ => 0)

def quiescent_FfnDactIdeal [hFfnDactIdeal : Cert.FfnDactIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
      ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ r.2.sem = fun _ => 0)

def quiescent_FfnDactIdeal_pre_finite [hFfnDactIdeal : Cert.FfnDactIdeal.Facts] [hPre_finite : Cert.Pre_finite.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal_finite m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
      ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ r.2.sem = fun _ => 0)

def quiescent_FfnDactRefIdeal [hFfnDactRefIdeal : Cert.FfnDactRefIdeal.Facts] : Prop :=
  ∀ (m : (ℓ : Loc Cert.FfnDactRefIdeal.nD Cert.FfnDactRefIdeal.τ Cert.FfnDactRefIdeal.sig) → Buf (Elt Ideal) ℓ) (g : Dev Cert.FfnDactRefIdeal.nD → PrngReg), Pre_FfnDactRefIdeal m →
    θ_run (Cert.FfnDactRefIdeal.defs (F := Ideal)) (onTc (τ := Cert.FfnDactRefIdeal.τ) (Cert.FfnDactRefIdeal.main (F := Ideal))) ⟨m, fun _ => 0, g⟩ (fun r => (∀ c : Dev Cert.FfnDactRefIdeal.nD,
      r.2.mem ((c.tc : Thread Cert.FfnDactRefIdeal.nD Cert.FfnDactRefIdeal.τ).loc Cert.FfnDactRefIdeal.main_arg0) = m ((c.tc : Thread Cert.FfnDactRefIdeal.nD Cert.FfnDactRefIdeal.τ).loc Cert.FfnDactRefIdeal.main_arg0)
      ∧ r.2.mem ((c.tc : Thread Cert.FfnDactRefIdeal.nD Cert.FfnDactRefIdeal.τ).loc Cert.FfnDactRefIdeal.main_arg1) = m ((c.tc : Thread Cert.FfnDactRefIdeal.nD Cert.FfnDactRefIdeal.τ).loc Cert.FfnDactRefIdeal.main_arg1)
      ∧ r.2.mem ((c.tc : Thread Cert.FfnDactRefIdeal.nD Cert.FfnDactRefIdeal.τ).loc Cert.FfnDactRefIdeal.main_arg2) = m ((c.tc : Thread Cert.FfnDactRefIdeal.nD Cert.FfnDactRefIdeal.τ).loc Cert.FfnDactRefIdeal.main_arg2)
      ∧ r.2.mem ((c.tc : Thread Cert.FfnDactRefIdeal.nD Cert.FfnDactRefIdeal.τ).loc Cert.FfnDactRefIdeal.main_arg3) = m ((c.tc : Thread Cert.FfnDactRefIdeal.nD Cert.FfnDactRefIdeal.τ).loc Cert.FfnDactRefIdeal.main_arg3))
      ∧ r.2.sem = fun _ => 0)

def quiescent_FfnDactRefIdeal_pre_finite [hFfnDactRefIdeal : Cert.FfnDactRefIdeal.Facts] [hPre_finite : Cert.Pre_finite.Facts] : Prop :=
  ∀ (m : (ℓ : Loc Cert.FfnDactRefIdeal.nD Cert.FfnDactRefIdeal.τ Cert.FfnDactRefIdeal.sig) → Buf (Elt Ideal) ℓ) (g : Dev Cert.FfnDactRefIdeal.nD → PrngReg), Pre_FfnDactRefIdeal_finite m →
    θ_run (Cert.FfnDactRefIdeal.defs (F := Ideal)) (onTc (τ := Cert.FfnDactRefIdeal.τ) (Cert.FfnDactRefIdeal.main (F := Ideal))) ⟨m, fun _ => 0, g⟩ (fun r => (∀ c : Dev Cert.FfnDactRefIdeal.nD,
      r.2.mem ((c.tc : Thread Cert.FfnDactRefIdeal.nD Cert.FfnDactRefIdeal.τ).loc Cert.FfnDactRefIdeal.main_arg0) = m ((c.tc : Thread Cert.FfnDactRefIdeal.nD Cert.FfnDactRefIdeal.τ).loc Cert.FfnDactRefIdeal.main_arg0)
      ∧ r.2.mem ((c.tc : Thread Cert.FfnDactRefIdeal.nD Cert.FfnDactRefIdeal.τ).loc Cert.FfnDactRefIdeal.main_arg1) = m ((c.tc : Thread Cert.FfnDactRefIdeal.nD Cert.FfnDactRefIdeal.τ).loc Cert.FfnDactRefIdeal.main_arg1)
      ∧ r.2.mem ((c.tc : Thread Cert.FfnDactRefIdeal.nD Cert.FfnDactRefIdeal.τ).loc Cert.FfnDactRefIdeal.main_arg2) = m ((c.tc : Thread Cert.FfnDactRefIdeal.nD Cert.FfnDactRefIdeal.τ).loc Cert.FfnDactRefIdeal.main_arg2)
      ∧ r.2.mem ((c.tc : Thread Cert.FfnDactRefIdeal.nD Cert.FfnDactRefIdeal.τ).loc Cert.FfnDactRefIdeal.main_arg3) = m ((c.tc : Thread Cert.FfnDactRefIdeal.nD Cert.FfnDactRefIdeal.τ).loc Cert.FfnDactRefIdeal.main_arg3))
      ∧ r.2.sem = fun _ => 0)

def quiescent_FfnDwd [hFfnDwd : Cert.FfnDwd.Facts] : Prop :=
  ∀ (m : (ℓ : Loc Cert.FfnDwd.nD Cert.FfnDwd.τ Cert.FfnDwd.sig) → Buf (Elt Bits) ℓ) (g : Dev Cert.FfnDwd.nD → PrngReg), Pre_FfnDwd m →
    θ_run (Cert.FfnDwd.defs (F := Bits)) (onTc (τ := Cert.FfnDwd.τ) (Cert.FfnDwd.main (F := Bits))) ⟨m, fun _ => 0, g⟩ (fun r => (∀ c : Dev Cert.FfnDwd.nD,
      r.2.mem ((c.tc : Thread Cert.FfnDwd.nD Cert.FfnDwd.τ).loc Cert.FfnDwd.main_arg0) = m ((c.tc : Thread Cert.FfnDwd.nD Cert.FfnDwd.τ).loc Cert.FfnDwd.main_arg0)
      ∧ r.2.mem ((c.tc : Thread Cert.FfnDwd.nD Cert.FfnDwd.τ).loc Cert.FfnDwd.main_arg1) = m ((c.tc : Thread Cert.FfnDwd.nD Cert.FfnDwd.τ).loc Cert.FfnDwd.main_arg1))
      ∧ r.2.sem = fun _ => 0)

def quiescent_FfnDwdIdeal [hFfnDwdIdeal : Cert.FfnDwdIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg), Pre_FfnDwdIdeal m →
    θ_run (Cert.FfnDwdIdeal.defs (F := Ideal)) (onTc (τ := Cert.FfnDwdIdeal.τ) (Cert.FfnDwdIdeal.main (F := Ideal))) ⟨m, fun _ => 0, g⟩ (fun r => (∀ c : Dev Cert.FfnDwdIdeal.nD,
      r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
      ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ r.2.sem = fun _ => 0)

def quiescent_FfnDwdRefIdeal [hFfnDwdRefIdeal : Cert.FfnDwdRefIdeal.Facts] : Prop :=
  ∀ (m : (ℓ : Loc Cert.FfnDwdRefIdeal.nD Cert.FfnDwdRefIdeal.τ Cert.FfnDwdRefIdeal.sig) → Buf (Elt Ideal) ℓ) (g : Dev Cert.FfnDwdRefIdeal.nD → PrngReg), Pre_FfnDwdRefIdeal m →
    θ_run (Cert.FfnDwdRefIdeal.defs (F := Ideal)) (onTc (τ := Cert.FfnDwdRefIdeal.τ) (Cert.FfnDwdRefIdeal.main (F := Ideal))) ⟨m, fun _ => 0, g⟩ (fun r => (∀ c : Dev Cert.FfnDwdRefIdeal.nD,
      r.2.mem ((c.tc : Thread Cert.FfnDwdRefIdeal.nD Cert.FfnDwdRefIdeal.τ).loc Cert.FfnDwdRefIdeal.main_arg0) = m ((c.tc : Thread Cert.FfnDwdRefIdeal.nD Cert.FfnDwdRefIdeal.τ).loc Cert.FfnDwdRefIdeal.main_arg0)
      ∧ r.2.mem ((c.tc : Thread Cert.FfnDwdRefIdeal.nD Cert.FfnDwdRefIdeal.τ).loc Cert.FfnDwdRefIdeal.main_arg1) = m ((c.tc : Thread Cert.FfnDwdRefIdeal.nD Cert.FfnDwdRefIdeal.τ).loc Cert.FfnDwdRefIdeal.main_arg1))
      ∧ r.2.sem = fun _ => 0)

def quiescent_FfnDwin [hFfnDwin : Cert.FfnDwin.Facts] : Prop :=
  ∀ (m : (ℓ : Loc Cert.FfnDwin.nD Cert.FfnDwin.τ Cert.FfnDwin.sig) → Buf (Elt Bits) ℓ) (g : Dev Cert.FfnDwin.nD → PrngReg), Pre_FfnDwin m →
    θ_run (Cert.FfnDwin.defs (F := Bits)) (onTc (τ := Cert.FfnDwin.τ) (Cert.FfnDwin.main (F := Bits))) ⟨m, fun _ => 0, g⟩ (fun r => (∀ c : Dev Cert.FfnDwin.nD,
      r.2.mem ((c.tc : Thread Cert.FfnDwin.nD Cert.FfnDwin.τ).loc Cert.FfnDwin.main_arg0) = m ((c.tc : Thread Cert.FfnDwin.nD Cert.FfnDwin.τ).loc Cert.FfnDwin.main_arg0)
      ∧ r.2.mem ((c.tc : Thread Cert.FfnDwin.nD Cert.FfnDwin.τ).loc Cert.FfnDwin.main_arg1) = m ((c.tc : Thread Cert.FfnDwin.nD Cert.FfnDwin.τ).loc Cert.FfnDwin.main_arg1))
      ∧ r.2.sem = fun _ => 0)

def quiescent_FfnDwinIdeal [hFfnDwinIdeal : Cert.FfnDwinIdeal.Facts] : Prop :=
  ∀ (m : (ℓ : Loc Cert.FfnDwinIdeal.nD Cert.FfnDwinIdeal.τ Cert.FfnDwinIdeal.sig) → Buf (Elt Ideal) ℓ) (g : Dev Cert.FfnDwinIdeal.nD → PrngReg), Pre_FfnDwinIdeal m →
    θ_run (Cert.FfnDwinIdeal.defs (F := Ideal)) (onTc (τ := Cert.FfnDwinIdeal.τ) (Cert.FfnDwinIdeal.main (F := Ideal))) ⟨m, fun _ => 0, g⟩ (fun r => (∀ c : Dev Cert.FfnDwinIdeal.nD,
      r.2.mem ((c.tc : Thread Cert.FfnDwinIdeal.nD Cert.FfnDwinIdeal.τ).loc Cert.FfnDwinIdeal.main_arg0) = m ((c.tc : Thread Cert.FfnDwinIdeal.nD Cert.FfnDwinIdeal.τ).loc Cert.FfnDwinIdeal.main_arg0)
      ∧ r.2.mem ((c.tc : Thread Cert.FfnDwinIdeal.nD Cert.FfnDwinIdeal.τ).loc Cert.FfnDwinIdeal.main_arg1) = m ((c.tc : Thread Cert.FfnDwinIdeal.nD Cert.FfnDwinIdeal.τ).loc Cert.FfnDwinIdeal.main_arg1))
      ∧ r.2.sem = fun _ => 0)

def quiescent_FfnDwinRefIdeal [hFfnDwinRefIdeal : Cert.FfnDwinRefIdeal.Facts] : Prop :=
  ∀ (m : (ℓ : Loc Cert.FfnDwinRefIdeal.nD Cert.FfnDwinRefIdeal.τ Cert.FfnDwinRefIdeal.sig) → Buf (Elt Ideal) ℓ) (g : Dev Cert.FfnDwinRefIdeal.nD → PrngReg), Pre_FfnDwinRefIdeal m →
    θ_run (Cert.FfnDwinRefIdeal.defs (F := Ideal)) (onTc (τ := Cert.FfnDwinRefIdeal.τ) (Cert.FfnDwinRefIdeal.main (F := Ideal))) ⟨m, fun _ => 0, g⟩ (fun r => (∀ c : Dev Cert.FfnDwinRefIdeal.nD,
      r.2.mem ((c.tc : Thread Cert.FfnDwinRefIdeal.nD Cert.FfnDwinRefIdeal.τ).loc Cert.FfnDwinRefIdeal.main_arg0) = m ((c.tc : Thread Cert.FfnDwinRefIdeal.nD Cert.FfnDwinRefIdeal.τ).loc Cert.FfnDwinRefIdeal.main_arg0)
      ∧ r.2.mem ((c.tc : Thread Cert.FfnDwinRefIdeal.nD Cert.FfnDwinRefIdeal.τ).loc Cert.FfnDwinRefIdeal.main_arg1) = m ((c.tc : Thread Cert.FfnDwinRefIdeal.nD Cert.FfnDwinRefIdeal.τ).loc Cert.FfnDwinRefIdeal.main_arg1))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3))
      ∧ r.2.sem = fun _ => 0)

def quiescent_FfnDhRefIdeal [hFfnDhRefIdeal : Cert.FfnDhRefIdeal.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1)
      ∧ r.2.mem ((c.tc : Thread Cert.FfnDhRefIdeal.nD Cert.FfnDhRefIdeal.τ).loc Cert.FfnDhRefIdeal.main_arg2) = m ((c.tc : Thread Cert.FfnDhRefIdeal.nD Cert.FfnDhRefIdeal.τ).loc Cert.FfnDhRefIdeal.main_arg2)
      ∧ r.2.mem ((c.tc : Thread Cert.FfnDhRefIdeal.nD Cert.FfnDhRefIdeal.τ).loc Cert.FfnDhRefIdeal.main_arg3) = m ((c.tc : Thread Cert.FfnDhRefIdeal.nD Cert.FfnDhRefIdeal.τ).loc Cert.FfnDhRefIdeal.main_arg3))
      ∧ r.2.sem = fun _ => 0)

def quiescent_EvProj [hEvProj : Cert.EvProj.Facts] : Prop :=
  ∀ (m : (ℓ : Loc Cert.EvProj.nD Cert.EvProj.τ Cert.EvProj.sig) → Buf (Elt Bits) ℓ) (g : Dev Cert.EvProj.nD → PrngReg), Pre_EvProj m →
    θ_run (Cert.EvProj.defs (F := Bits)) (onTc (τ := Cert.EvProj.τ) (Cert.EvProj.main (F := Bits))) ⟨m, fun _ => 0, g⟩ (fun r => (∀ c : Dev Cert.EvProj.nD,
      r.2.mem ((c.tc : Thread Cert.EvProj.nD Cert.EvProj.τ).loc Cert.EvProj.main_arg0) = m ((c.tc : Thread Cert.EvProj.nD Cert.EvProj.τ).loc Cert.EvProj.main_arg0)
      ∧ r.2.mem ((c.tc : Thread Cert.EvProj.nD Cert.EvProj.τ).loc Cert.EvProj.main_arg1) = m ((c.tc : Thread Cert.EvProj.nD Cert.EvProj.τ).loc Cert.EvProj.main_arg1))
      ∧ r.2.sem = fun _ => 0)

def quiescent_EvProjIdeal [hEvProjIdeal : Cert.EvProjIdeal.Facts] : Prop :=
  ∀ (m : (ℓ : Loc Cert.EvProjIdeal.nD Cert.EvProjIdeal.τ Cert.EvProjIdeal.sig) → Buf (Elt Ideal) ℓ) (g : Dev Cert.EvProjIdeal.nD → PrngReg), Pre_EvProjIdeal m →
    θ_run (Cert.EvProjIdeal.defs (F := Ideal)) (onTc (τ := Cert.EvProjIdeal.τ) (Cert.EvProjIdeal.main (F := Ideal))) ⟨m, fun _ => 0, g⟩ (fun r => (∀ c : Dev Cert.EvProjIdeal.nD,
      r.2.mem ((c.tc : Thread Cert.EvProjIdeal.nD Cert.EvProjIdeal.τ).loc Cert.EvProjIdeal.main_arg0) = m ((c.tc : Thread Cert.EvProjIdeal.nD Cert.EvProjIdeal.τ).loc Cert.EvProjIdeal.main_arg0)
      ∧ r.2.mem ((c.tc : Thread Cert.EvProjIdeal.nD Cert.EvProjIdeal.τ).loc Cert.EvProjIdeal.main_arg1) = m ((c.tc : Thread Cert.EvProjIdeal.nD Cert.EvProjIdeal.τ).loc Cert.EvProjIdeal.main_arg1))
      ∧ r.2.sem = fun _ => 0)

def quiescent_EvProjRefIdeal [hEvProjRefIdeal : Cert.EvProjRefIdeal.Facts] : Prop :=
  ∀ (m : (ℓ : Loc Cert.EvProjRefIdeal.nD Cert.EvProjRefIdeal.τ Cert.EvProjRefIdeal.sig) → Buf (Elt Ideal) ℓ) (g : Dev Cert.EvProjRefIdeal.nD → PrngReg), Pre_EvProjRefIdeal m →
    θ_run (Cert.EvProjRefIdeal.defs (F := Ideal)) (onTc (τ := Cert.EvProjRefIdeal.τ) (Cert.EvProjRefIdeal.main (F := Ideal))) ⟨m, fun _ => 0, g⟩ (fun r => (∀ c : Dev Cert.EvProjRefIdeal.nD,
      r.2.mem ((c.tc : Thread Cert.EvProjRefIdeal.nD Cert.EvProjRefIdeal.τ).loc Cert.EvProjRefIdeal.main_arg0) = m ((c.tc : Thread Cert.EvProjRefIdeal.nD Cert.EvProjRefIdeal.τ).loc Cert.EvProjRefIdeal.main_arg0)
      ∧ r.2.mem ((c.tc : Thread Cert.EvProjRefIdeal.nD Cert.EvProjRefIdeal.τ).loc Cert.EvProjRefIdeal.main_arg1) = m ((c.tc : Thread Cert.EvProjRefIdeal.nD Cert.EvProjRefIdeal.τ).loc Cert.EvProjRefIdeal.main_arg1))
      ∧ r.2.sem = fun _ => 0)

def quiescent_OdProj [hOdProj : Cert.OdProj.Facts] : Prop :=
  ∀ (m : (ℓ : Loc Cert.OdProj.nD Cert.OdProj.τ Cert.OdProj.sig) → Buf (Elt Bits) ℓ) (g : Dev Cert.OdProj.nD → PrngReg), Pre_OdProj m →
    θ_run (Cert.OdProj.defs (F := Bits)) (onTc (τ := Cert.OdProj.τ) (Cert.OdProj.main (F := Bits))) ⟨m, fun _ => 0, g⟩ (fun r => (∀ c : Dev Cert.OdProj.nD,
      r.2.mem ((c.tc : Thread Cert.OdProj.nD Cert.OdProj.τ).loc Cert.OdProj.main_arg0) = m ((c.tc : Thread Cert.OdProj.nD Cert.OdProj.τ).loc Cert.OdProj.main_arg0)
      ∧ r.2.mem ((c.tc : Thread Cert.OdProj.nD Cert.OdProj.τ).loc Cert.OdProj.main_arg1) = m ((c.tc : Thread Cert.OdProj.nD Cert.OdProj.τ).loc Cert.OdProj.main_arg1))
      ∧ r.2.sem = fun _ => 0)

def quiescent_OdProjIdeal [hOdProjIdeal : Cert.OdProjIdeal.Facts] : Prop :=
  ∀ (m : (ℓ : Loc Cert.OdProjIdeal.nD Cert.OdProjIdeal.τ Cert.OdProjIdeal.sig) → Buf (Elt Ideal) ℓ) (g : Dev Cert.OdProjIdeal.nD → PrngReg), Pre_OdProjIdeal m →
    θ_run (Cert.OdProjIdeal.defs (F := Ideal)) (onTc (τ := Cert.OdProjIdeal.τ) (Cert.OdProjIdeal.main (F := Ideal))) ⟨m, fun _ => 0, g⟩ (fun r => (∀ c : Dev Cert.OdProjIdeal.nD,
      r.2.mem ((c.tc : Thread Cert.OdProjIdeal.nD Cert.OdProjIdeal.τ).loc Cert.OdProjIdeal.main_arg0) = m ((c.tc : Thread Cert.OdProjIdeal.nD Cert.OdProjIdeal.τ).loc Cert.OdProjIdeal.main_arg0)
      ∧ r.2.mem ((c.tc : Thread Cert.OdProjIdeal.nD Cert.OdProjIdeal.τ).loc Cert.OdProjIdeal.main_arg1) = m ((c.tc : Thread Cert.OdProjIdeal.nD Cert.OdProjIdeal.τ).loc Cert.OdProjIdeal.main_arg1))
      ∧ r.2.sem = fun _ => 0)

def quiescent_OdProjRefIdeal [hOdProjRefIdeal : Cert.OdProjRefIdeal.Facts] : Prop :=
  ∀ (m : (ℓ : Loc Cert.OdProjRefIdeal.nD Cert.OdProjRefIdeal.τ Cert.OdProjRefIdeal.sig) → Buf (Elt Ideal) ℓ) (g : Dev Cert.OdProjRefIdeal.nD → PrngReg), Pre_OdProjRefIdeal m →
    θ_run (Cert.OdProjRefIdeal.defs (F := Ideal)) (onTc (τ := Cert.OdProjRefIdeal.τ) (Cert.OdProjRefIdeal.main (F := Ideal))) ⟨m, fun _ => 0, g⟩ (fun r => (∀ c : Dev Cert.OdProjRefIdeal.nD,
      r.2.mem ((c.tc : Thread Cert.OdProjRefIdeal.nD Cert.OdProjRefIdeal.τ).loc Cert.OdProjRefIdeal.main_arg0) = m ((c.tc : Thread Cert.OdProjRefIdeal.nD Cert.OdProjRefIdeal.τ).loc Cert.OdProjRefIdeal.main_arg0)
      ∧ r.2.mem ((c.tc : Thread Cert.OdProjRefIdeal.nD Cert.OdProjRefIdeal.τ).loc Cert.OdProjRefIdeal.main_arg1) = m ((c.tc : Thread Cert.OdProjRefIdeal.nD Cert.OdProjRefIdeal.τ).loc Cert.OdProjRefIdeal.main_arg1))
      ∧ r.2.sem = fun _ => 0)

def quiescent_OdProjBd [hOdProjBd : Cert.OdProjBd.Facts] : Prop :=
  ∀ (m : (ℓ : Loc Cert.OdProjBd.nD Cert.OdProjBd.τ Cert.OdProjBd.sig) → Buf (Elt Bits) ℓ) (g : Dev Cert.OdProjBd.nD → PrngReg), Pre_OdProjBd m →
    θ_run (Cert.OdProjBd.defs (F := Bits)) (onTc (τ := Cert.OdProjBd.τ) (Cert.OdProjBd.main (F := Bits))) ⟨m, fun _ => 0, g⟩ (fun r => (∀ c : Dev Cert.OdProjBd.nD,
      r.2.mem ((c.tc : Thread Cert.OdProjBd.nD Cert.OdProjBd.τ).loc Cert.OdProjBd.main_arg0) = m ((c.tc : Thread Cert.OdProjBd.nD Cert.OdProjBd.τ).loc Cert.OdProjBd.main_arg0)
      ∧ r.2.mem ((c.tc : Thread Cert.OdProjBd.nD Cert.OdProjBd.τ).loc Cert.OdProjBd.main_arg1) = m ((c.tc : Thread Cert.OdProjBd.nD Cert.OdProjBd.τ).loc Cert.OdProjBd.main_arg1))
      ∧ r.2.sem = fun _ => 0)

def quiescent_OdProjBdIdeal [hOdProjBdIdeal : Cert.OdProjBdIdeal.Facts] : Prop :=
  ∀ (m : (ℓ : Loc Cert.OdProjBdIdeal.nD Cert.OdProjBdIdeal.τ Cert.OdProjBdIdeal.sig) → Buf (Elt Ideal) ℓ) (g : Dev Cert.OdProjBdIdeal.nD → PrngReg), Pre_OdProjBdIdeal m →
    θ_run (Cert.OdProjBdIdeal.defs (F := Ideal)) (onTc (τ := Cert.OdProjBdIdeal.τ) (Cert.OdProjBdIdeal.main (F := Ideal))) ⟨m, fun _ => 0, g⟩ (fun r => (∀ c : Dev Cert.OdProjBdIdeal.nD,
      r.2.mem ((c.tc : Thread Cert.OdProjBdIdeal.nD Cert.OdProjBdIdeal.τ).loc Cert.OdProjBdIdeal.main_arg0) = m ((c.tc : Thread Cert.OdProjBdIdeal.nD Cert.OdProjBdIdeal.τ).loc Cert.OdProjBdIdeal.main_arg0)
      ∧ r.2.mem ((c.tc : Thread Cert.OdProjBdIdeal.nD Cert.OdProjBdIdeal.τ).loc Cert.OdProjBdIdeal.main_arg1) = m ((c.tc : Thread Cert.OdProjBdIdeal.nD Cert.OdProjBdIdeal.τ).loc Cert.OdProjBdIdeal.main_arg1))
      ∧ r.2.sem = fun _ => 0)

def quiescent_OdProjBdRefIdeal [hOdProjBdRefIdeal : Cert.OdProjBdRefIdeal.Facts] : Prop :=
  ∀ (m : (ℓ : Loc Cert.OdProjBdRefIdeal.nD Cert.OdProjBdRefIdeal.τ Cert.OdProjBdRefIdeal.sig) → Buf (Elt Ideal) ℓ) (g : Dev Cert.OdProjBdRefIdeal.nD → PrngReg), Pre_OdProjBdRefIdeal m →
    θ_run (Cert.OdProjBdRefIdeal.defs (F := Ideal)) (onTc (τ := Cert.OdProjBdRefIdeal.τ) (Cert.OdProjBdRefIdeal.main (F := Ideal))) ⟨m, fun _ => 0, g⟩ (fun r => (∀ c : Dev Cert.OdProjBdRefIdeal.nD,
      r.2.mem ((c.tc : Thread Cert.OdProjBdRefIdeal.nD Cert.OdProjBdRefIdeal.τ).loc Cert.OdProjBdRefIdeal.main_arg0) = m ((c.tc : Thread Cert.OdProjBdRefIdeal.nD Cert.OdProjBdRefIdeal.τ).loc Cert.OdProjBdRefIdeal.main_arg0)
      ∧ r.2.mem ((c.tc : Thread Cert.OdProjBdRefIdeal.nD Cert.OdProjBdRefIdeal.τ).loc Cert.OdProjBdRefIdeal.main_arg1) = m ((c.tc : Thread Cert.OdProjBdRefIdeal.nD Cert.OdProjBdRefIdeal.τ).loc Cert.OdProjBdRefIdeal.main_arg1))
      ∧ r.2.sem = fun _ => 0)

def quiescent_EvOut [hEvOut : Cert.EvOut.Facts] : Prop :=
  ∀ (m : (ℓ : Loc Cert.EvOut.nD Cert.EvOut.τ Cert.EvOut.sig) → Buf (Elt Bits) ℓ) (g : Dev Cert.EvOut.nD → PrngReg), Pre_EvOut m →
    θ_run (Cert.EvOut.defs (F := Bits)) (onTc (τ := Cert.EvOut.τ) (Cert.EvOut.main (F := Bits))) ⟨m, fun _ => 0, g⟩ (fun r => (∀ c : Dev Cert.EvOut.nD,
      r.2.mem ((c.tc : Thread Cert.EvOut.nD Cert.EvOut.τ).loc Cert.EvOut.main_arg0) = m ((c.tc : Thread Cert.EvOut.nD Cert.EvOut.τ).loc Cert.EvOut.main_arg0)
      ∧ r.2.mem ((c.tc : Thread Cert.EvOut.nD Cert.EvOut.τ).loc Cert.EvOut.main_arg1) = m ((c.tc : Thread Cert.EvOut.nD Cert.EvOut.τ).loc Cert.EvOut.main_arg1)
      ∧ r.2.mem ((c.tc : Thread Cert.EvOut.nD Cert.EvOut.τ).loc Cert.EvOut.main_arg2) = m ((c.tc : Thread Cert.EvOut.nD Cert.EvOut.τ).loc Cert.EvOut.main_arg2)
      ∧ r.2.mem ((c.tc : Thread Cert.EvOut.nD Cert.EvOut.τ).loc Cert.EvOut.main_arg3) = m ((c.tc : Thread Cert.EvOut.nD Cert.EvOut.τ).loc Cert.EvOut.main_arg3)
      ∧ r.2.mem ((c.tc : Thread Cert.EvOut.nD Cert.EvOut.τ).loc Cert.EvOut.main_arg4) = m ((c.tc : Thread Cert.EvOut.nD Cert.EvOut.τ).loc Cert.EvOut.main_arg4))
      ∧ r.2.sem = fun _ => 0)

def quiescent_EvOutIdeal [hEvOutIdeal : Cert.EvOutIdeal.Facts] : Prop :=
  ∀ (m : (ℓ : Loc Cert.EvOutIdeal.nD Cert.EvOutIdeal.τ Cert.EvOutIdeal.sig) → Buf (Elt Ideal) ℓ) (g : Dev Cert.EvOutIdeal.nD → PrngReg), Pre_EvOutIdeal m →
    θ_run (Cert.EvOutIdeal.defs (F := Ideal)) (onTc (τ := Cert.EvOutIdeal.τ) (Cert.EvOutIdeal.main (F := Ideal))) ⟨m, fun _ => 0, g⟩ (fun r => (∀ c : Dev Cert.EvOutIdeal.nD,
      r.2.mem ((c.tc : Thread Cert.EvOutIdeal.nD Cert.EvOutIdeal.τ).loc Cert.EvOutIdeal.main_arg0) = m ((c.tc : Thread Cert.EvOutIdeal.nD Cert.EvOutIdeal.τ).loc Cert.EvOutIdeal.main_arg0)
      ∧ r.2.mem ((c.tc : Thread Cert.EvOutIdeal.nD Cert.EvOutIdeal.τ).loc Cert.EvOutIdeal.main_arg1) = m ((c.tc : Thread Cert.EvOutIdeal.nD Cert.EvOutIdeal.τ).loc Cert.EvOutIdeal.main_arg1)
      ∧ r.2.mem ((c.tc : Thread Cert.EvOutIdeal.nD Cert.EvOutIdeal.τ).loc Cert.EvOutIdeal.main_arg2) = m ((c.tc : Thread Cert.EvOutIdeal.nD Cert.EvOutIdeal.τ).loc Cert.EvOutIdeal.main_arg2)
      ∧ r.2.mem ((c.tc : Thread Cert.EvOutIdeal.nD Cert.EvOutIdeal.τ).loc Cert.EvOutIdeal.main_arg3) = m ((c.tc : Thread Cert.EvOutIdeal.nD Cert.EvOutIdeal.τ).loc Cert.EvOutIdeal.main_arg3)
      ∧ r.2.mem ((c.tc : Thread Cert.EvOutIdeal.nD Cert.EvOutIdeal.τ).loc Cert.EvOutIdeal.main_arg4) = m ((c.tc : Thread Cert.EvOutIdeal.nD Cert.EvOutIdeal.τ).loc Cert.EvOutIdeal.main_arg4))
      ∧ r.2.sem = fun _ => 0)

def quiescent_EvOutRefIdeal [hEvOutRefIdeal : Cert.EvOutRefIdeal.Facts] : Prop :=
  ∀ (m : (ℓ : Loc Cert.EvOutRefIdeal.nD Cert.EvOutRefIdeal.τ Cert.EvOutRefIdeal.sig) → Buf (Elt Ideal) ℓ) (g : Dev Cert.EvOutRefIdeal.nD → PrngReg), Pre_EvOutRefIdeal m →
    θ_run (Cert.EvOutRefIdeal.defs (F := Ideal)) (onTc (τ := Cert.EvOutRefIdeal.τ) (Cert.EvOutRefIdeal.main (F := Ideal))) ⟨m, fun _ => 0, g⟩ (fun r => (∀ c : Dev Cert.EvOutRefIdeal.nD,
      r.2.mem ((c.tc : Thread Cert.EvOutRefIdeal.nD Cert.EvOutRefIdeal.τ).loc Cert.EvOutRefIdeal.main_arg0) = m ((c.tc : Thread Cert.EvOutRefIdeal.nD Cert.EvOutRefIdeal.τ).loc Cert.EvOutRefIdeal.main_arg0)
      ∧ r.2.mem ((c.tc : Thread Cert.EvOutRefIdeal.nD Cert.EvOutRefIdeal.τ).loc Cert.EvOutRefIdeal.main_arg1) = m ((c.tc : Thread Cert.EvOutRefIdeal.nD Cert.EvOutRefIdeal.τ).loc Cert.EvOutRefIdeal.main_arg1)
      ∧ r.2.mem ((c.tc : Thread Cert.EvOutRefIdeal.nD Cert.EvOutRefIdeal.τ).loc Cert.EvOutRefIdeal.main_arg2) = m ((c.tc : Thread Cert.EvOutRefIdeal.nD Cert.EvOutRefIdeal.τ).loc Cert.EvOutRefIdeal.main_arg2)
      ∧ r.2.mem ((c.tc : Thread Cert.EvOutRefIdeal.nD Cert.EvOutRefIdeal.τ).loc Cert.EvOutRefIdeal.main_arg3) = m ((c.tc : Thread Cert.EvOutRefIdeal.nD Cert.EvOutRefIdeal.τ).loc Cert.EvOutRefIdeal.main_arg3)
      ∧ r.2.mem ((c.tc : Thread Cert.EvOutRefIdeal.nD Cert.EvOutRefIdeal.τ).loc Cert.EvOutRefIdeal.main_arg4) = m ((c.tc : Thread Cert.EvOutRefIdeal.nD Cert.EvOutRefIdeal.τ).loc Cert.EvOutRefIdeal.main_arg4))
      ∧ r.2.sem = fun _ => 0)

def quiescent_OdOut [hOdOut : Cert.OdOut.Facts] : Prop :=
  ∀ (m : (ℓ : Loc Cert.OdOut.nD Cert.OdOut.τ Cert.OdOut.sig) → Buf (Elt Bits) ℓ) (g : Dev Cert.OdOut.nD → PrngReg), Pre_OdOut m →
    θ_run (Cert.OdOut.defs (F := Bits)) (onTc (τ := Cert.OdOut.τ) (Cert.OdOut.main (F := Bits))) ⟨m, fun _ => 0, g⟩ (fun r => (∀ c : Dev Cert.OdOut.nD,
      r.2.mem ((c.tc : Thread Cert.OdOut.nD Cert.OdOut.τ).loc Cert.OdOut.main_arg0) = m ((c.tc : Thread Cert.OdOut.nD Cert.OdOut.τ).loc Cert.OdOut.main_arg0)
      ∧ r.2.mem ((c.tc : Thread Cert.OdOut.nD Cert.OdOut.τ).loc Cert.OdOut.main_arg1) = m ((c.tc : Thread Cert.OdOut.nD Cert.OdOut.τ).loc Cert.OdOut.main_arg1)
      ∧ r.2.mem ((c.tc : Thread Cert.OdOut.nD Cert.OdOut.τ).loc Cert.OdOut.main_arg2) = m ((c.tc : Thread Cert.OdOut.nD Cert.OdOut.τ).loc Cert.OdOut.main_arg2))
      ∧ r.2.sem = fun _ => 0)

def quiescent_OdOutIdeal [hOdOutIdeal : Cert.OdOutIdeal.Facts] : Prop :=
  ∀ (m : (ℓ : Loc Cert.OdOutIdeal.nD Cert.OdOutIdeal.τ Cert.OdOutIdeal.sig) → Buf (Elt Ideal) ℓ) (g : Dev Cert.OdOutIdeal.nD → PrngReg), Pre_OdOutIdeal m →
    θ_run (Cert.OdOutIdeal.defs (F := Ideal)) (onTc (τ := Cert.OdOutIdeal.τ) (Cert.OdOutIdeal.main (F := Ideal))) ⟨m, fun _ => 0, g⟩ (fun r => (∀ c : Dev Cert.OdOutIdeal.nD,
      r.2.mem ((c.tc : Thread Cert.OdOutIdeal.nD Cert.OdOutIdeal.τ).loc Cert.OdOutIdeal.main_arg0) = m ((c.tc : Thread Cert.OdOutIdeal.nD Cert.OdOutIdeal.τ).loc Cert.OdOutIdeal.main_arg0)
      ∧ r.2.mem ((c.tc : Thread Cert.OdOutIdeal.nD Cert.OdOutIdeal.τ).loc Cert.OdOutIdeal.main_arg1) = m ((c.tc : Thread Cert.OdOutIdeal.nD Cert.OdOutIdeal.τ).loc Cert.OdOutIdeal.main_arg1)
      ∧ r.2.mem ((c.tc : Thread Cert.OdOutIdeal.nD Cert.OdOutIdeal.τ).loc Cert.OdOutIdeal.main_arg2) = m ((c.tc : Thread Cert.OdOutIdeal.nD Cert.OdOutIdeal.τ).loc Cert.OdOutIdeal.main_arg2))
      ∧ r.2.sem = fun _ => 0)

def quiescent_OdOutRefIdeal [hOdOutRefIdeal : Cert.OdOutRefIdeal.Facts] : Prop :=
  ∀ (m : (ℓ : Loc Cert.OdOutRefIdeal.nD Cert.OdOutRefIdeal.τ Cert.OdOutRefIdeal.sig) → Buf (Elt Ideal) ℓ) (g : Dev Cert.OdOutRefIdeal.nD → PrngReg), Pre_OdOutRefIdeal m →
    θ_run (Cert.OdOutRefIdeal.defs (F := Ideal)) (onTc (τ := Cert.OdOutRefIdeal.τ) (Cert.OdOutRefIdeal.main (F := Ideal))) ⟨m, fun _ => 0, g⟩ (fun r => (∀ c : Dev Cert.OdOutRefIdeal.nD,
      r.2.mem ((c.tc : Thread Cert.OdOutRefIdeal.nD Cert.OdOutRefIdeal.τ).loc Cert.OdOutRefIdeal.main_arg0) = m ((c.tc : Thread Cert.OdOutRefIdeal.nD Cert.OdOutRefIdeal.τ).loc Cert.OdOutRefIdeal.main_arg0)
      ∧ r.2.mem ((c.tc : Thread Cert.OdOutRefIdeal.nD Cert.OdOutRefIdeal.τ).loc Cert.OdOutRefIdeal.main_arg1) = m ((c.tc : Thread Cert.OdOutRefIdeal.nD Cert.OdOutRefIdeal.τ).loc Cert.OdOutRefIdeal.main_arg1)
      ∧ r.2.mem ((c.tc : Thread Cert.OdOutRefIdeal.nD Cert.OdOutRefIdeal.τ).loc Cert.OdOutRefIdeal.main_arg2) = m ((c.tc : Thread Cert.OdOutRefIdeal.nD Cert.OdOutRefIdeal.τ).loc Cert.OdOutRefIdeal.main_arg2))
      ∧ r.2.sem = fun _ => 0)

def quiescent_EvDy [hEvDy : Cert.EvDy.Facts] : Prop :=
  ∀ (m : (ℓ : Loc Cert.EvDy.nD Cert.EvDy.τ Cert.EvDy.sig) → Buf (Elt Bits) ℓ) (g : Dev Cert.EvDy.nD → PrngReg), Pre_EvDy m →
    θ_run (Cert.EvDy.defs (F := Bits)) (onTc (τ := Cert.EvDy.τ) (Cert.EvDy.main (F := Bits))) ⟨m, fun _ => 0, g⟩ (fun r => (∀ c : Dev Cert.EvDy.nD,
      r.2.mem ((c.tc : Thread Cert.EvDy.nD Cert.EvDy.τ).loc Cert.EvDy.main_arg0) = m ((c.tc : Thread Cert.EvDy.nD Cert.EvDy.τ).loc Cert.EvDy.main_arg0)
      ∧ r.2.mem ((c.tc : Thread Cert.EvDy.nD Cert.EvDy.τ).loc Cert.EvDy.main_arg1) = m ((c.tc : Thread Cert.EvDy.nD Cert.EvDy.τ).loc Cert.EvDy.main_arg1))
      ∧ r.2.sem = fun _ => 0)

def quiescent_EvDyIdeal [hEvDyIdeal : Cert.EvDyIdeal.Facts] : Prop :=
  ∀ (m : (ℓ : Loc Cert.EvDyIdeal.nD Cert.EvDyIdeal.τ Cert.EvDyIdeal.sig) → Buf (Elt Ideal) ℓ) (g : Dev Cert.EvDyIdeal.nD → PrngReg), Pre_EvDyIdeal m →
    θ_run (Cert.EvDyIdeal.defs (F := Ideal)) (onTc (τ := Cert.EvDyIdeal.τ) (Cert.EvDyIdeal.main (F := Ideal))) ⟨m, fun _ => 0, g⟩ (fun r => (∀ c : Dev Cert.EvDyIdeal.nD,
      r.2.mem ((c.tc : Thread Cert.EvDyIdeal.nD Cert.EvDyIdeal.τ).loc Cert.EvDyIdeal.main_arg0) = m ((c.tc : Thread Cert.EvDyIdeal.nD Cert.EvDyIdeal.τ).loc Cert.EvDyIdeal.main_arg0)
      ∧ r.2.mem ((c.tc : Thread Cert.EvDyIdeal.nD Cert.EvDyIdeal.τ).loc Cert.EvDyIdeal.main_arg1) = m ((c.tc : Thread Cert.EvDyIdeal.nD Cert.EvDyIdeal.τ).loc Cert.EvDyIdeal.main_arg1))
      ∧ r.2.sem = fun _ => 0)

def quiescent_EvDyRefIdeal [hEvDyRefIdeal : Cert.EvDyRefIdeal.Facts] : Prop :=
  ∀ (m : (ℓ : Loc Cert.EvDyRefIdeal.nD Cert.EvDyRefIdeal.τ Cert.EvDyRefIdeal.sig) → Buf (Elt Ideal) ℓ) (g : Dev Cert.EvDyRefIdeal.nD → PrngReg), Pre_EvDyRefIdeal m →
    θ_run (Cert.EvDyRefIdeal.defs (F := Ideal)) (onTc (τ := Cert.EvDyRefIdeal.τ) (Cert.EvDyRefIdeal.main (F := Ideal))) ⟨m, fun _ => 0, g⟩ (fun r => (∀ c : Dev Cert.EvDyRefIdeal.nD,
      r.2.mem ((c.tc : Thread Cert.EvDyRefIdeal.nD Cert.EvDyRefIdeal.τ).loc Cert.EvDyRefIdeal.main_arg0) = m ((c.tc : Thread Cert.EvDyRefIdeal.nD Cert.EvDyRefIdeal.τ).loc Cert.EvDyRefIdeal.main_arg0)
      ∧ r.2.mem ((c.tc : Thread Cert.EvDyRefIdeal.nD Cert.EvDyRefIdeal.τ).loc Cert.EvDyRefIdeal.main_arg1) = m ((c.tc : Thread Cert.EvDyRefIdeal.nD Cert.EvDyRefIdeal.τ).loc Cert.EvDyRefIdeal.main_arg1))
      ∧ r.2.sem = fun _ => 0)

def quiescent_OdDy [hOdDy : Cert.OdDy.Facts] : Prop :=
  ∀ (m : (ℓ : Loc Cert.OdDy.nD Cert.OdDy.τ Cert.OdDy.sig) → Buf (Elt Bits) ℓ) (g : Dev Cert.OdDy.nD → PrngReg), Pre_OdDy m →
    θ_run (Cert.OdDy.defs (F := Bits)) (onTc (τ := Cert.OdDy.τ) (Cert.OdDy.main (F := Bits))) ⟨m, fun _ => 0, g⟩ (fun r => (∀ c : Dev Cert.OdDy.nD,
      r.2.mem ((c.tc : Thread Cert.OdDy.nD Cert.OdDy.τ).loc Cert.OdDy.main_arg0) = m ((c.tc : Thread Cert.OdDy.nD Cert.OdDy.τ).loc Cert.OdDy.main_arg0)
      ∧ r.2.mem ((c.tc : Thread Cert.OdDy.nD Cert.OdDy.τ).loc Cert.OdDy.main_arg1) = m ((c.tc : Thread Cert.OdDy.nD Cert.OdDy.τ).loc Cert.OdDy.main_arg1))
      ∧ r.2.sem = fun _ => 0)

def quiescent_OdDyIdeal [hOdDyIdeal : Cert.OdDyIdeal.Facts] : Prop :=
  ∀ (m : (ℓ : Loc Cert.OdDyIdeal.nD Cert.OdDyIdeal.τ Cert.OdDyIdeal.sig) → Buf (Elt Ideal) ℓ) (g : Dev Cert.OdDyIdeal.nD → PrngReg), Pre_OdDyIdeal m →
    θ_run (Cert.OdDyIdeal.defs (F := Ideal)) (onTc (τ := Cert.OdDyIdeal.τ) (Cert.OdDyIdeal.main (F := Ideal))) ⟨m, fun _ => 0, g⟩ (fun r => (∀ c : Dev Cert.OdDyIdeal.nD,
      r.2.mem ((c.tc : Thread Cert.OdDyIdeal.nD Cert.OdDyIdeal.τ).loc Cert.OdDyIdeal.main_arg0) = m ((c.tc : Thread Cert.OdDyIdeal.nD Cert.OdDyIdeal.τ).loc Cert.OdDyIdeal.main_arg0)
      ∧ r.2.mem ((c.tc : Thread Cert.OdDyIdeal.nD Cert.OdDyIdeal.τ).loc Cert.OdDyIdeal.main_arg1) = m ((c.tc : Thread Cert.OdDyIdeal.nD Cert.OdDyIdeal.τ).loc Cert.OdDyIdeal.main_arg1))
      ∧ r.2.sem = fun _ => 0)

def quiescent_OdDyRefIdeal [hOdDyRefIdeal : Cert.OdDyRefIdeal.Facts] : Prop :=
  ∀ (m : (ℓ : Loc Cert.OdDyRefIdeal.nD Cert.OdDyRefIdeal.τ Cert.OdDyRefIdeal.sig) → Buf (Elt Ideal) ℓ) (g : Dev Cert.OdDyRefIdeal.nD → PrngReg), Pre_OdDyRefIdeal m →
    θ_run (Cert.OdDyRefIdeal.defs (F := Ideal)) (onTc (τ := Cert.OdDyRefIdeal.τ) (Cert.OdDyRefIdeal.main (F := Ideal))) ⟨m, fun _ => 0, g⟩ (fun r => (∀ c : Dev Cert.OdDyRefIdeal.nD,
      r.2.mem ((c.tc : Thread Cert.OdDyRefIdeal.nD Cert.OdDyRefIdeal.τ).loc Cert.OdDyRefIdeal.main_arg0) = m ((c.tc : Thread Cert.OdDyRefIdeal.nD Cert.OdDyRefIdeal.τ).loc Cert.OdDyRefIdeal.main_arg0)
      ∧ r.2.mem ((c.tc : Thread Cert.OdDyRefIdeal.nD Cert.OdDyRefIdeal.τ).loc Cert.OdDyRefIdeal.main_arg1) = m ((c.tc : Thread Cert.OdDyRefIdeal.nD Cert.OdDyRefIdeal.τ).loc Cert.OdDyRefIdeal.main_arg1))
      ∧ r.2.sem = fun _ => 0)

def quiescent_EvDwOut [hEvDwOut : Cert.EvDwOut.Facts] : Prop :=
  ∀ (m : (ℓ : Loc Cert.EvDwOut.nD Cert.EvDwOut.τ Cert.EvDwOut.sig) → Buf (Elt Bits) ℓ) (g : Dev Cert.EvDwOut.nD → PrngReg), Pre_EvDwOut m →
    θ_run (Cert.EvDwOut.defs (F := Bits)) (onTc (τ := Cert.EvDwOut.τ) (Cert.EvDwOut.main (F := Bits))) ⟨m, fun _ => 0, g⟩ (fun r => (∀ c : Dev Cert.EvDwOut.nD,
      r.2.mem ((c.tc : Thread Cert.EvDwOut.nD Cert.EvDwOut.τ).loc Cert.EvDwOut.main_arg0) = m ((c.tc : Thread Cert.EvDwOut.nD Cert.EvDwOut.τ).loc Cert.EvDwOut.main_arg0)
      ∧ r.2.mem ((c.tc : Thread Cert.EvDwOut.nD Cert.EvDwOut.τ).loc Cert.EvDwOut.main_arg1) = m ((c.tc : Thread Cert.EvDwOut.nD Cert.EvDwOut.τ).loc Cert.EvDwOut.main_arg1))
      ∧ r.2.sem = fun _ => 0)

def quiescent_EvDwOutIdeal [hEvDwOutIdeal : Cert.EvDwOutIdeal.Facts] : Prop :=
  ∀ (m : (ℓ : Loc Cert.EvDwOutIdeal.nD Cert.EvDwOutIdeal.τ Cert.EvDwOutIdeal.sig) → Buf (Elt Ideal) ℓ) (g : Dev Cert.EvDwOutIdeal.nD → PrngReg), Pre_EvDwOutIdeal m →
    θ_run (Cert.EvDwOutIdeal.defs (F := Ideal)) (onTc (τ := Cert.EvDwOutIdeal.τ) (Cert.EvDwOutIdeal.main (F := Ideal))) ⟨m, fun _ => 0, g⟩ (fun r => (∀ c : Dev Cert.EvDwOutIdeal.nD,
      r.2.mem ((c.tc : Thread Cert.EvDwOutIdeal.nD Cert.EvDwOutIdeal.τ).loc Cert.EvDwOutIdeal.main_arg0) = m ((c.tc : Thread Cert.EvDwOutIdeal.nD Cert.EvDwOutIdeal.τ).loc Cert.EvDwOutIdeal.main_arg0)
      ∧ r.2.mem ((c.tc : Thread Cert.EvDwOutIdeal.nD Cert.EvDwOutIdeal.τ).loc Cert.EvDwOutIdeal.main_arg1) = m ((c.tc : Thread Cert.EvDwOutIdeal.nD Cert.EvDwOutIdeal.τ).loc Cert.EvDwOutIdeal.main_arg1))
      ∧ r.2.sem = fun _ => 0)

def quiescent_EvDwOutRefIdeal [hEvDwOutRefIdeal : Cert.EvDwOutRefIdeal.Facts] : Prop :=
  ∀ (m : (ℓ : Loc Cert.EvDwOutRefIdeal.nD Cert.EvDwOutRefIdeal.τ Cert.EvDwOutRefIdeal.sig) → Buf (Elt Ideal) ℓ) (g : Dev Cert.EvDwOutRefIdeal.nD → PrngReg), Pre_EvDwOutRefIdeal m →
    θ_run (Cert.EvDwOutRefIdeal.defs (F := Ideal)) (onTc (τ := Cert.EvDwOutRefIdeal.τ) (Cert.EvDwOutRefIdeal.main (F := Ideal))) ⟨m, fun _ => 0, g⟩ (fun r => (∀ c : Dev Cert.EvDwOutRefIdeal.nD,
      r.2.mem ((c.tc : Thread Cert.EvDwOutRefIdeal.nD Cert.EvDwOutRefIdeal.τ).loc Cert.EvDwOutRefIdeal.main_arg0) = m ((c.tc : Thread Cert.EvDwOutRefIdeal.nD Cert.EvDwOutRefIdeal.τ).loc Cert.EvDwOutRefIdeal.main_arg0)
      ∧ r.2.mem ((c.tc : Thread Cert.EvDwOutRefIdeal.nD Cert.EvDwOutRefIdeal.τ).loc Cert.EvDwOutRefIdeal.main_arg1) = m ((c.tc : Thread Cert.EvDwOutRefIdeal.nD Cert.EvDwOutRefIdeal.τ).loc Cert.EvDwOutRefIdeal.main_arg1))
      ∧ r.2.sem = fun _ => 0)

def quiescent_OdDwOut [hOdDwOut : Cert.OdDwOut.Facts] : Prop :=
  ∀ (m : (ℓ : Loc Cert.OdDwOut.nD Cert.OdDwOut.τ Cert.OdDwOut.sig) → Buf (Elt Bits) ℓ) (g : Dev Cert.OdDwOut.nD → PrngReg), Pre_OdDwOut m →
    θ_run (Cert.OdDwOut.defs (F := Bits)) (onTc (τ := Cert.OdDwOut.τ) (Cert.OdDwOut.main (F := Bits))) ⟨m, fun _ => 0, g⟩ (fun r => (∀ c : Dev Cert.OdDwOut.nD,
      r.2.mem ((c.tc : Thread Cert.OdDwOut.nD Cert.OdDwOut.τ).loc Cert.OdDwOut.main_arg0) = m ((c.tc : Thread Cert.OdDwOut.nD Cert.OdDwOut.τ).loc Cert.OdDwOut.main_arg0)
      ∧ r.2.mem ((c.tc : Thread Cert.OdDwOut.nD Cert.OdDwOut.τ).loc Cert.OdDwOut.main_arg1) = m ((c.tc : Thread Cert.OdDwOut.nD Cert.OdDwOut.τ).loc Cert.OdDwOut.main_arg1))
      ∧ r.2.sem = fun _ => 0)

def quiescent_OdDwOutIdeal [hOdDwOutIdeal : Cert.OdDwOutIdeal.Facts] : Prop :=
  ∀ (m : (ℓ : Loc Cert.OdDwOutIdeal.nD Cert.OdDwOutIdeal.τ Cert.OdDwOutIdeal.sig) → Buf (Elt Ideal) ℓ) (g : Dev Cert.OdDwOutIdeal.nD → PrngReg), Pre_OdDwOutIdeal m →
    θ_run (Cert.OdDwOutIdeal.defs (F := Ideal)) (onTc (τ := Cert.OdDwOutIdeal.τ) (Cert.OdDwOutIdeal.main (F := Ideal))) ⟨m, fun _ => 0, g⟩ (fun r => (∀ c : Dev Cert.OdDwOutIdeal.nD,
      r.2.mem ((c.tc : Thread Cert.OdDwOutIdeal.nD Cert.OdDwOutIdeal.τ).loc Cert.OdDwOutIdeal.main_arg0) = m ((c.tc : Thread Cert.OdDwOutIdeal.nD Cert.OdDwOutIdeal.τ).loc Cert.OdDwOutIdeal.main_arg0)
      ∧ r.2.mem ((c.tc : Thread Cert.OdDwOutIdeal.nD Cert.OdDwOutIdeal.τ).loc Cert.OdDwOutIdeal.main_arg1) = m ((c.tc : Thread Cert.OdDwOutIdeal.nD Cert.OdDwOutIdeal.τ).loc Cert.OdDwOutIdeal.main_arg1))
      ∧ r.2.sem = fun _ => 0)

def quiescent_OdDwOutRefIdeal [hOdDwOutRefIdeal : Cert.OdDwOutRefIdeal.Facts] : Prop :=
  ∀ (m : (ℓ : Loc Cert.OdDwOutRefIdeal.nD Cert.OdDwOutRefIdeal.τ Cert.OdDwOutRefIdeal.sig) → Buf (Elt Ideal) ℓ) (g : Dev Cert.OdDwOutRefIdeal.nD → PrngReg), Pre_OdDwOutRefIdeal m →
    θ_run (Cert.OdDwOutRefIdeal.defs (F := Ideal)) (onTc (τ := Cert.OdDwOutRefIdeal.τ) (Cert.OdDwOutRefIdeal.main (F := Ideal))) ⟨m, fun _ => 0, g⟩ (fun r => (∀ c : Dev Cert.OdDwOutRefIdeal.nD,
      r.2.mem ((c.tc : Thread Cert.OdDwOutRefIdeal.nD Cert.OdDwOutRefIdeal.τ).loc Cert.OdDwOutRefIdeal.main_arg0) = m ((c.tc : Thread Cert.OdDwOutRefIdeal.nD Cert.OdDwOutRefIdeal.τ).loc Cert.OdDwOutRefIdeal.main_arg0)
      ∧ r.2.mem ((c.tc : Thread Cert.OdDwOutRefIdeal.nD Cert.OdDwOutRefIdeal.τ).loc Cert.OdDwOutRefIdeal.main_arg1) = m ((c.tc : Thread Cert.OdDwOutRefIdeal.nD Cert.OdDwOutRefIdeal.τ).loc Cert.OdDwOutRefIdeal.main_arg1))
      ∧ r.2.sem = fun _ => 0)

def quiescent_EvDwIn [hEvDwIn : Cert.EvDwIn.Facts] : Prop :=
  ∀ (m : (ℓ : Loc Cert.EvDwIn.nD Cert.EvDwIn.τ Cert.EvDwIn.sig) → Buf (Elt Bits) ℓ) (g : Dev Cert.EvDwIn.nD → PrngReg), Pre_EvDwIn m →
    θ_run (Cert.EvDwIn.defs (F := Bits)) (onTc (τ := Cert.EvDwIn.τ) (Cert.EvDwIn.main (F := Bits))) ⟨m, fun _ => 0, g⟩ (fun r => (∀ c : Dev Cert.EvDwIn.nD,
      r.2.mem ((c.tc : Thread Cert.EvDwIn.nD Cert.EvDwIn.τ).loc Cert.EvDwIn.main_arg0) = m ((c.tc : Thread Cert.EvDwIn.nD Cert.EvDwIn.τ).loc Cert.EvDwIn.main_arg0)
      ∧ r.2.mem ((c.tc : Thread Cert.EvDwIn.nD Cert.EvDwIn.τ).loc Cert.EvDwIn.main_arg1) = m ((c.tc : Thread Cert.EvDwIn.nD Cert.EvDwIn.τ).loc Cert.EvDwIn.main_arg1))
      ∧ r.2.sem = fun _ => 0)

def quiescent_EvDwInIdeal [hEvDwInIdeal : Cert.EvDwInIdeal.Facts] : Prop :=
  ∀ (m : (ℓ : Loc Cert.EvDwInIdeal.nD Cert.EvDwInIdeal.τ Cert.EvDwInIdeal.sig) → Buf (Elt Ideal) ℓ) (g : Dev Cert.EvDwInIdeal.nD → PrngReg), Pre_EvDwInIdeal m →
    θ_run (Cert.EvDwInIdeal.defs (F := Ideal)) (onTc (τ := Cert.EvDwInIdeal.τ) (Cert.EvDwInIdeal.main (F := Ideal))) ⟨m, fun _ => 0, g⟩ (fun r => (∀ c : Dev Cert.EvDwInIdeal.nD,
      r.2.mem ((c.tc : Thread Cert.EvDwInIdeal.nD Cert.EvDwInIdeal.τ).loc Cert.EvDwInIdeal.main_arg0) = m ((c.tc : Thread Cert.EvDwInIdeal.nD Cert.EvDwInIdeal.τ).loc Cert.EvDwInIdeal.main_arg0)
      ∧ r.2.mem ((c.tc : Thread Cert.EvDwInIdeal.nD Cert.EvDwInIdeal.τ).loc Cert.EvDwInIdeal.main_arg1) = m ((c.tc : Thread Cert.EvDwInIdeal.nD Cert.EvDwInIdeal.τ).loc Cert.EvDwInIdeal.main_arg1))
      ∧ r.2.sem = fun _ => 0)

def quiescent_EvDwInRefIdeal [hEvDwInRefIdeal : Cert.EvDwInRefIdeal.Facts] : Prop :=
  ∀ (m : (ℓ : Loc Cert.EvDwInRefIdeal.nD Cert.EvDwInRefIdeal.τ Cert.EvDwInRefIdeal.sig) → Buf (Elt Ideal) ℓ) (g : Dev Cert.EvDwInRefIdeal.nD → PrngReg), Pre_EvDwInRefIdeal m →
    θ_run (Cert.EvDwInRefIdeal.defs (F := Ideal)) (onTc (τ := Cert.EvDwInRefIdeal.τ) (Cert.EvDwInRefIdeal.main (F := Ideal))) ⟨m, fun _ => 0, g⟩ (fun r => (∀ c : Dev Cert.EvDwInRefIdeal.nD,
      r.2.mem ((c.tc : Thread Cert.EvDwInRefIdeal.nD Cert.EvDwInRefIdeal.τ).loc Cert.EvDwInRefIdeal.main_arg0) = m ((c.tc : Thread Cert.EvDwInRefIdeal.nD Cert.EvDwInRefIdeal.τ).loc Cert.EvDwInRefIdeal.main_arg0)
      ∧ r.2.mem ((c.tc : Thread Cert.EvDwInRefIdeal.nD Cert.EvDwInRefIdeal.τ).loc Cert.EvDwInRefIdeal.main_arg1) = m ((c.tc : Thread Cert.EvDwInRefIdeal.nD Cert.EvDwInRefIdeal.τ).loc Cert.EvDwInRefIdeal.main_arg1))
      ∧ r.2.sem = fun _ => 0)

def quiescent_OdDwIn [hOdDwIn : Cert.OdDwIn.Facts] : Prop :=
  ∀ (m : (ℓ : Loc Cert.OdDwIn.nD Cert.OdDwIn.τ Cert.OdDwIn.sig) → Buf (Elt Bits) ℓ) (g : Dev Cert.OdDwIn.nD → PrngReg), Pre_OdDwIn m →
    θ_run (Cert.OdDwIn.defs (F := Bits)) (onTc (τ := Cert.OdDwIn.τ) (Cert.OdDwIn.main (F := Bits))) ⟨m, fun _ => 0, g⟩ (fun r => (∀ c : Dev Cert.OdDwIn.nD,
      r.2.mem ((c.tc : Thread Cert.OdDwIn.nD Cert.OdDwIn.τ).loc Cert.OdDwIn.main_arg0) = m ((c.tc : Thread Cert.OdDwIn.nD Cert.OdDwIn.τ).loc Cert.OdDwIn.main_arg0)
      ∧ r.2.mem ((c.tc : Thread Cert.OdDwIn.nD Cert.OdDwIn.τ).loc Cert.OdDwIn.main_arg1) = m ((c.tc : Thread Cert.OdDwIn.nD Cert.OdDwIn.τ).loc Cert.OdDwIn.main_arg1))
      ∧ r.2.sem = fun _ => 0)

def quiescent_OdDwInIdeal [hOdDwInIdeal : Cert.OdDwInIdeal.Facts] : Prop :=
  ∀ (m : (ℓ : Loc Cert.OdDwInIdeal.nD Cert.OdDwInIdeal.τ Cert.OdDwInIdeal.sig) → Buf (Elt Ideal) ℓ) (g : Dev Cert.OdDwInIdeal.nD → PrngReg), Pre_OdDwInIdeal m →
    θ_run (Cert.OdDwInIdeal.defs (F := Ideal)) (onTc (τ := Cert.OdDwInIdeal.τ) (Cert.OdDwInIdeal.main (F := Ideal))) ⟨m, fun _ => 0, g⟩ (fun r => (∀ c : Dev Cert.OdDwInIdeal.nD,
      r.2.mem ((c.tc : Thread Cert.OdDwInIdeal.nD Cert.OdDwInIdeal.τ).loc Cert.OdDwInIdeal.main_arg0) = m ((c.tc : Thread Cert.OdDwInIdeal.nD Cert.OdDwInIdeal.τ).loc Cert.OdDwInIdeal.main_arg0)
      ∧ r.2.mem ((c.tc : Thread Cert.OdDwInIdeal.nD Cert.OdDwInIdeal.τ).loc Cert.OdDwInIdeal.main_arg1) = m ((c.tc : Thread Cert.OdDwInIdeal.nD Cert.OdDwInIdeal.τ).loc Cert.OdDwInIdeal.main_arg1))
      ∧ r.2.sem = fun _ => 0)

def quiescent_OdDwInRefIdeal [hOdDwInRefIdeal : Cert.OdDwInRefIdeal.Facts] : Prop :=
  ∀ (m : (ℓ : Loc Cert.OdDwInRefIdeal.nD Cert.OdDwInRefIdeal.τ Cert.OdDwInRefIdeal.sig) → Buf (Elt Ideal) ℓ) (g : Dev Cert.OdDwInRefIdeal.nD → PrngReg), Pre_OdDwInRefIdeal m →
    θ_run (Cert.OdDwInRefIdeal.defs (F := Ideal)) (onTc (τ := Cert.OdDwInRefIdeal.τ) (Cert.OdDwInRefIdeal.main (F := Ideal))) ⟨m, fun _ => 0, g⟩ (fun r => (∀ c : Dev Cert.OdDwInRefIdeal.nD,
      r.2.mem ((c.tc : Thread Cert.OdDwInRefIdeal.nD Cert.OdDwInRefIdeal.τ).loc Cert.OdDwInRefIdeal.main_arg0) = m ((c.tc : Thread Cert.OdDwInRefIdeal.nD Cert.OdDwInRefIdeal.τ).loc Cert.OdDwInRefIdeal.main_arg0)
      ∧ r.2.mem ((c.tc : Thread Cert.OdDwInRefIdeal.nD Cert.OdDwInRefIdeal.τ).loc Cert.OdDwInRefIdeal.main_arg1) = m ((c.tc : Thread Cert.OdDwInRefIdeal.nD Cert.OdDwInRefIdeal.τ).loc Cert.OdDwInRefIdeal.main_arg1))
      ∧ r.2.sem = fun _ => 0)

def quiescent_OdDwBd [hOdDwBd : Cert.OdDwBd.Facts] : Prop :=
  ∀ (m : (ℓ : Loc Cert.OdDwBd.nD Cert.OdDwBd.τ Cert.OdDwBd.sig) → Buf (Elt Bits) ℓ) (g : Dev Cert.OdDwBd.nD → PrngReg), Pre_OdDwBd m →
    θ_run (Cert.OdDwBd.defs (F := Bits)) (onTc (τ := Cert.OdDwBd.τ) (Cert.OdDwBd.main (F := Bits))) ⟨m, fun _ => 0, g⟩ (fun r => (∀ c : Dev Cert.OdDwBd.nD,
      r.2.mem ((c.tc : Thread Cert.OdDwBd.nD Cert.OdDwBd.τ).loc Cert.OdDwBd.main_arg0) = m ((c.tc : Thread Cert.OdDwBd.nD Cert.OdDwBd.τ).loc Cert.OdDwBd.main_arg0)
      ∧ r.2.mem ((c.tc : Thread Cert.OdDwBd.nD Cert.OdDwBd.τ).loc Cert.OdDwBd.main_arg1) = m ((c.tc : Thread Cert.OdDwBd.nD Cert.OdDwBd.τ).loc Cert.OdDwBd.main_arg1))
      ∧ r.2.sem = fun _ => 0)

def quiescent_OdDwBdIdeal [hOdDwBdIdeal : Cert.OdDwBdIdeal.Facts] : Prop :=
  ∀ (m : (ℓ : Loc Cert.OdDwBdIdeal.nD Cert.OdDwBdIdeal.τ Cert.OdDwBdIdeal.sig) → Buf (Elt Ideal) ℓ) (g : Dev Cert.OdDwBdIdeal.nD → PrngReg), Pre_OdDwBdIdeal m →
    θ_run (Cert.OdDwBdIdeal.defs (F := Ideal)) (onTc (τ := Cert.OdDwBdIdeal.τ) (Cert.OdDwBdIdeal.main (F := Ideal))) ⟨m, fun _ => 0, g⟩ (fun r => (∀ c : Dev Cert.OdDwBdIdeal.nD,
      r.2.mem ((c.tc : Thread Cert.OdDwBdIdeal.nD Cert.OdDwBdIdeal.τ).loc Cert.OdDwBdIdeal.main_arg0) = m ((c.tc : Thread Cert.OdDwBdIdeal.nD Cert.OdDwBdIdeal.τ).loc Cert.OdDwBdIdeal.main_arg0)
      ∧ r.2.mem ((c.tc : Thread Cert.OdDwBdIdeal.nD Cert.OdDwBdIdeal.τ).loc Cert.OdDwBdIdeal.main_arg1) = m ((c.tc : Thread Cert.OdDwBdIdeal.nD Cert.OdDwBdIdeal.τ).loc Cert.OdDwBdIdeal.main_arg1))
      ∧ r.2.sem = fun _ => 0)

def quiescent_OdDwBdRefIdeal [hOdDwBdRefIdeal : Cert.OdDwBdRefIdeal.Facts] : Prop :=
  ∀ (m : (ℓ : Loc Cert.OdDwBdRefIdeal.nD Cert.OdDwBdRefIdeal.τ Cert.OdDwBdRefIdeal.sig) → Buf (Elt Ideal) ℓ) (g : Dev Cert.OdDwBdRefIdeal.nD → PrngReg), Pre_OdDwBdRefIdeal m →
    θ_run (Cert.OdDwBdRefIdeal.defs (F := Ideal)) (onTc (τ := Cert.OdDwBdRefIdeal.τ) (Cert.OdDwBdRefIdeal.main (F := Ideal))) ⟨m, fun _ => 0, g⟩ (fun r => (∀ c : Dev Cert.OdDwBdRefIdeal.nD,
      r.2.mem ((c.tc : Thread Cert.OdDwBdRefIdeal.nD Cert.OdDwBdRefIdeal.τ).loc Cert.OdDwBdRefIdeal.main_arg0) = m ((c.tc : Thread Cert.OdDwBdRefIdeal.nD Cert.OdDwBdRefIdeal.τ).loc Cert.OdDwBdRefIdeal.main_arg0)
      ∧ r.2.mem ((c.tc : Thread Cert.OdDwBdRefIdeal.nD Cert.OdDwBdRefIdeal.τ).loc Cert.OdDwBdRefIdeal.main_arg1) = m ((c.tc : Thread Cert.OdDwBdRefIdeal.nD Cert.OdDwBdRefIdeal.τ).loc Cert.OdDwBdRefIdeal.main_arg1))
      ∧ r.2.sem = fun _ => 0)

def quiescent_EvDh [hEvDh : Cert.EvDh.Facts] : Prop :=
  ∀ (m : (ℓ : Loc Cert.EvDh.nD Cert.EvDh.τ Cert.EvDh.sig) → Buf (Elt Bits) ℓ) (g : Dev Cert.EvDh.nD → PrngReg), Pre_EvDh m →
    θ_run (Cert.EvDh.defs (F := Bits)) (onTc (τ := Cert.EvDh.τ) (Cert.EvDh.main (F := Bits))) ⟨m, fun _ => 0, g⟩ (fun r => (∀ c : Dev Cert.EvDh.nD,
      r.2.mem ((c.tc : Thread Cert.EvDh.nD Cert.EvDh.τ).loc Cert.EvDh.main_arg0) = m ((c.tc : Thread Cert.EvDh.nD Cert.EvDh.τ).loc Cert.EvDh.main_arg0)
      ∧ r.2.mem ((c.tc : Thread Cert.EvDh.nD Cert.EvDh.τ).loc Cert.EvDh.main_arg1) = m ((c.tc : Thread Cert.EvDh.nD Cert.EvDh.τ).loc Cert.EvDh.main_arg1))
      ∧ r.2.sem = fun _ => 0)

def quiescent_EvDhIdeal [hEvDhIdeal : Cert.EvDhIdeal.Facts] : Prop :=
  ∀ (m : (ℓ : Loc Cert.EvDhIdeal.nD Cert.EvDhIdeal.τ Cert.EvDhIdeal.sig) → Buf (Elt Ideal) ℓ) (g : Dev Cert.EvDhIdeal.nD → PrngReg), Pre_EvDhIdeal m →
    θ_run (Cert.EvDhIdeal.defs (F := Ideal)) (onTc (τ := Cert.EvDhIdeal.τ) (Cert.EvDhIdeal.main (F := Ideal))) ⟨m, fun _ => 0, g⟩ (fun r => (∀ c : Dev Cert.EvDhIdeal.nD,
      r.2.mem ((c.tc : Thread Cert.EvDhIdeal.nD Cert.EvDhIdeal.τ).loc Cert.EvDhIdeal.main_arg0) = m ((c.tc : Thread Cert.EvDhIdeal.nD Cert.EvDhIdeal.τ).loc Cert.EvDhIdeal.main_arg0)
      ∧ r.2.mem ((c.tc : Thread Cert.EvDhIdeal.nD Cert.EvDhIdeal.τ).loc Cert.EvDhIdeal.main_arg1) = m ((c.tc : Thread Cert.EvDhIdeal.nD Cert.EvDhIdeal.τ).loc Cert.EvDhIdeal.main_arg1))
      ∧ r.2.sem = fun _ => 0)

def quiescent_EvDhRefIdeal [hEvDhRefIdeal : Cert.EvDhRefIdeal.Facts] : Prop :=
  ∀ (m : (ℓ : Loc Cert.EvDhRefIdeal.nD Cert.EvDhRefIdeal.τ Cert.EvDhRefIdeal.sig) → Buf (Elt Ideal) ℓ) (g : Dev Cert.EvDhRefIdeal.nD → PrngReg), Pre_EvDhRefIdeal m →
    θ_run (Cert.EvDhRefIdeal.defs (F := Ideal)) (onTc (τ := Cert.EvDhRefIdeal.τ) (Cert.EvDhRefIdeal.main (F := Ideal))) ⟨m, fun _ => 0, g⟩ (fun r => (∀ c : Dev Cert.EvDhRefIdeal.nD,
      r.2.mem ((c.tc : Thread Cert.EvDhRefIdeal.nD Cert.EvDhRefIdeal.τ).loc Cert.EvDhRefIdeal.main_arg0) = m ((c.tc : Thread Cert.EvDhRefIdeal.nD Cert.EvDhRefIdeal.τ).loc Cert.EvDhRefIdeal.main_arg0)
      ∧ r.2.mem ((c.tc : Thread Cert.EvDhRefIdeal.nD Cert.EvDhRefIdeal.τ).loc Cert.EvDhRefIdeal.main_arg1) = m ((c.tc : Thread Cert.EvDhRefIdeal.nD Cert.EvDhRefIdeal.τ).loc Cert.EvDhRefIdeal.main_arg1))
      ∧ r.2.sem = fun _ => 0)

def quiescent_OdDh [hOdDh : Cert.OdDh.Facts] : Prop :=
  ∀ (m : (ℓ : Loc Cert.OdDh.nD Cert.OdDh.τ Cert.OdDh.sig) → Buf (Elt Bits) ℓ) (g : Dev Cert.OdDh.nD → PrngReg), Pre_OdDh m →
    θ_run (Cert.OdDh.defs (F := Bits)) (onTc (τ := Cert.OdDh.τ) (Cert.OdDh.main (F := Bits))) ⟨m, fun _ => 0, g⟩ (fun r => (∀ c : Dev Cert.OdDh.nD,
      r.2.mem ((c.tc : Thread Cert.OdDh.nD Cert.OdDh.τ).loc Cert.OdDh.main_arg0) = m ((c.tc : Thread Cert.OdDh.nD Cert.OdDh.τ).loc Cert.OdDh.main_arg0)
      ∧ r.2.mem ((c.tc : Thread Cert.OdDh.nD Cert.OdDh.τ).loc Cert.OdDh.main_arg1) = m ((c.tc : Thread Cert.OdDh.nD Cert.OdDh.τ).loc Cert.OdDh.main_arg1))
      ∧ r.2.sem = fun _ => 0)

def quiescent_OdDhIdeal [hOdDhIdeal : Cert.OdDhIdeal.Facts] : Prop :=
  ∀ (m : (ℓ : Loc Cert.OdDhIdeal.nD Cert.OdDhIdeal.τ Cert.OdDhIdeal.sig) → Buf (Elt Ideal) ℓ) (g : Dev Cert.OdDhIdeal.nD → PrngReg), Pre_OdDhIdeal m →
    θ_run (Cert.OdDhIdeal.defs (F := Ideal)) (onTc (τ := Cert.OdDhIdeal.τ) (Cert.OdDhIdeal.main (F := Ideal))) ⟨m, fun _ => 0, g⟩ (fun r => (∀ c : Dev Cert.OdDhIdeal.nD,
      r.2.mem ((c.tc : Thread Cert.OdDhIdeal.nD Cert.OdDhIdeal.τ).loc Cert.OdDhIdeal.main_arg0) = m ((c.tc : Thread Cert.OdDhIdeal.nD Cert.OdDhIdeal.τ).loc Cert.OdDhIdeal.main_arg0)
      ∧ r.2.mem ((c.tc : Thread Cert.OdDhIdeal.nD Cert.OdDhIdeal.τ).loc Cert.OdDhIdeal.main_arg1) = m ((c.tc : Thread Cert.OdDhIdeal.nD Cert.OdDhIdeal.τ).loc Cert.OdDhIdeal.main_arg1))
      ∧ r.2.sem = fun _ => 0)

def quiescent_OdDhRefIdeal [hOdDhRefIdeal : Cert.OdDhRefIdeal.Facts] : Prop :=
  ∀ (m : (ℓ : Loc Cert.OdDhRefIdeal.nD Cert.OdDhRefIdeal.τ Cert.OdDhRefIdeal.sig) → Buf (Elt Ideal) ℓ) (g : Dev Cert.OdDhRefIdeal.nD → PrngReg), Pre_OdDhRefIdeal m →
    θ_run (Cert.OdDhRefIdeal.defs (F := Ideal)) (onTc (τ := Cert.OdDhRefIdeal.τ) (Cert.OdDhRefIdeal.main (F := Ideal))) ⟨m, fun _ => 0, g⟩ (fun r => (∀ c : Dev Cert.OdDhRefIdeal.nD,
      r.2.mem ((c.tc : Thread Cert.OdDhRefIdeal.nD Cert.OdDhRefIdeal.τ).loc Cert.OdDhRefIdeal.main_arg0) = m ((c.tc : Thread Cert.OdDhRefIdeal.nD Cert.OdDhRefIdeal.τ).loc Cert.OdDhRefIdeal.main_arg0)
      ∧ r.2.mem ((c.tc : Thread Cert.OdDhRefIdeal.nD Cert.OdDhRefIdeal.τ).loc Cert.OdDhRefIdeal.main_arg1) = m ((c.tc : Thread Cert.OdDhRefIdeal.nD Cert.OdDhRefIdeal.τ).loc Cert.OdDhRefIdeal.main_arg1))
      ∧ r.2.sem = fun _ => 0)

def quiescent_OdDhBd [hOdDhBd : Cert.OdDhBd.Facts] : Prop :=
  ∀ (m : (ℓ : Loc Cert.OdDhBd.nD Cert.OdDhBd.τ Cert.OdDhBd.sig) → Buf (Elt Bits) ℓ) (g : Dev Cert.OdDhBd.nD → PrngReg), Pre_OdDhBd m →
    θ_run (Cert.OdDhBd.defs (F := Bits)) (onTc (τ := Cert.OdDhBd.τ) (Cert.OdDhBd.main (F := Bits))) ⟨m, fun _ => 0, g⟩ (fun r => (∀ c : Dev Cert.OdDhBd.nD,
      r.2.mem ((c.tc : Thread Cert.OdDhBd.nD Cert.OdDhBd.τ).loc Cert.OdDhBd.main_arg0) = m ((c.tc : Thread Cert.OdDhBd.nD Cert.OdDhBd.τ).loc Cert.OdDhBd.main_arg0)
      ∧ r.2.mem ((c.tc : Thread Cert.OdDhBd.nD Cert.OdDhBd.τ).loc Cert.OdDhBd.main_arg1) = m ((c.tc : Thread Cert.OdDhBd.nD Cert.OdDhBd.τ).loc Cert.OdDhBd.main_arg1)
      ∧ r.2.mem ((c.tc : Thread Cert.OdDhBd.nD Cert.OdDhBd.τ).loc Cert.OdDhBd.main_arg2) = m ((c.tc : Thread Cert.OdDhBd.nD Cert.OdDhBd.τ).loc Cert.OdDhBd.main_arg2))
      ∧ r.2.sem = fun _ => 0)

def quiescent_OdDhBdIdeal [hOdDhBdIdeal : Cert.OdDhBdIdeal.Facts] : Prop :=
  ∀ (m : (ℓ : Loc Cert.OdDhBdIdeal.nD Cert.OdDhBdIdeal.τ Cert.OdDhBdIdeal.sig) → Buf (Elt Ideal) ℓ) (g : Dev Cert.OdDhBdIdeal.nD → PrngReg), Pre_OdDhBdIdeal m →
    θ_run (Cert.OdDhBdIdeal.defs (F := Ideal)) (onTc (τ := Cert.OdDhBdIdeal.τ) (Cert.OdDhBdIdeal.main (F := Ideal))) ⟨m, fun _ => 0, g⟩ (fun r => (∀ c : Dev Cert.OdDhBdIdeal.nD,
      r.2.mem ((c.tc : Thread Cert.OdDhBdIdeal.nD Cert.OdDhBdIdeal.τ).loc Cert.OdDhBdIdeal.main_arg0) = m ((c.tc : Thread Cert.OdDhBdIdeal.nD Cert.OdDhBdIdeal.τ).loc Cert.OdDhBdIdeal.main_arg0)
      ∧ r.2.mem ((c.tc : Thread Cert.OdDhBdIdeal.nD Cert.OdDhBdIdeal.τ).loc Cert.OdDhBdIdeal.main_arg1) = m ((c.tc : Thread Cert.OdDhBdIdeal.nD Cert.OdDhBdIdeal.τ).loc Cert.OdDhBdIdeal.main_arg1)
      ∧ r.2.mem ((c.tc : Thread Cert.OdDhBdIdeal.nD Cert.OdDhBdIdeal.τ).loc Cert.OdDhBdIdeal.main_arg2) = m ((c.tc : Thread Cert.OdDhBdIdeal.nD Cert.OdDhBdIdeal.τ).loc Cert.OdDhBdIdeal.main_arg2))
      ∧ r.2.sem = fun _ => 0)

def quiescent_OdDhBdRefIdeal [hOdDhBdRefIdeal : Cert.OdDhBdRefIdeal.Facts] : Prop :=
  ∀ (m : (ℓ : Loc Cert.OdDhBdRefIdeal.nD Cert.OdDhBdRefIdeal.τ Cert.OdDhBdRefIdeal.sig) → Buf (Elt Ideal) ℓ) (g : Dev Cert.OdDhBdRefIdeal.nD → PrngReg), Pre_OdDhBdRefIdeal m →
    θ_run (Cert.OdDhBdRefIdeal.defs (F := Ideal)) (onTc (τ := Cert.OdDhBdRefIdeal.τ) (Cert.OdDhBdRefIdeal.main (F := Ideal))) ⟨m, fun _ => 0, g⟩ (fun r => (∀ c : Dev Cert.OdDhBdRefIdeal.nD,
      r.2.mem ((c.tc : Thread Cert.OdDhBdRefIdeal.nD Cert.OdDhBdRefIdeal.τ).loc Cert.OdDhBdRefIdeal.main_arg0) = m ((c.tc : Thread Cert.OdDhBdRefIdeal.nD Cert.OdDhBdRefIdeal.τ).loc Cert.OdDhBdRefIdeal.main_arg0)
      ∧ r.2.mem ((c.tc : Thread Cert.OdDhBdRefIdeal.nD Cert.OdDhBdRefIdeal.τ).loc Cert.OdDhBdRefIdeal.main_arg1) = m ((c.tc : Thread Cert.OdDhBdRefIdeal.nD Cert.OdDhBdRefIdeal.τ).loc Cert.OdDhBdRefIdeal.main_arg1)
      ∧ r.2.mem ((c.tc : Thread Cert.OdDhBdRefIdeal.nD Cert.OdDhBdRefIdeal.τ).loc Cert.OdDhBdRefIdeal.main_arg2) = m ((c.tc : Thread Cert.OdDhBdRefIdeal.nD Cert.OdDhBdRefIdeal.τ).loc Cert.OdDhBdRefIdeal.main_arg2))
      ∧ r.2.sem = fun _ => 0)

def quiescent_SsmDc [hSsmDc : Cert.SsmDc.Facts] : Prop :=
  ∀ (m : (ℓ : Loc Cert.SsmDc.nD Cert.SsmDc.τ Cert.SsmDc.sig) → Buf (Elt Bits) ℓ) (g : Dev Cert.SsmDc.nD → PrngReg), Pre_SsmDc m →
    θ_run (Cert.SsmDc.defs (F := Bits)) (onTc (τ := Cert.SsmDc.τ) (Cert.SsmDc.main (F := Bits))) ⟨m, fun _ => 0, g⟩ (fun r => (∀ c : Dev Cert.SsmDc.nD,
      r.2.mem ((c.tc : Thread Cert.SsmDc.nD Cert.SsmDc.τ).loc Cert.SsmDc.main_arg0) = m ((c.tc : Thread Cert.SsmDc.nD Cert.SsmDc.τ).loc Cert.SsmDc.main_arg0)
      ∧ r.2.mem ((c.tc : Thread Cert.SsmDc.nD Cert.SsmDc.τ).loc Cert.SsmDc.main_arg1) = m ((c.tc : Thread Cert.SsmDc.nD Cert.SsmDc.τ).loc Cert.SsmDc.main_arg1))
      ∧ r.2.sem = fun _ => 0)

def quiescent_SsmDcIdeal [hSsmDcIdeal : Cert.SsmDcIdeal.Facts] : Prop :=
  ∀ (m : (ℓ : Loc Cert.SsmDcIdeal.nD Cert.SsmDcIdeal.τ Cert.SsmDcIdeal.sig) → Buf (Elt Ideal) ℓ) (g : Dev Cert.SsmDcIdeal.nD → PrngReg), Pre_SsmDcIdeal m →
    θ_run (Cert.SsmDcIdeal.defs (F := Ideal)) (onTc (τ := Cert.SsmDcIdeal.τ) (Cert.SsmDcIdeal.main (F := Ideal))) ⟨m, fun _ => 0, g⟩ (fun r => (∀ c : Dev Cert.SsmDcIdeal.nD,
      r.2.mem ((c.tc : Thread Cert.SsmDcIdeal.nD Cert.SsmDcIdeal.τ).loc Cert.SsmDcIdeal.main_arg0) = m ((c.tc : Thread Cert.SsmDcIdeal.nD Cert.SsmDcIdeal.τ).loc Cert.SsmDcIdeal.main_arg0)
      ∧ r.2.mem ((c.tc : Thread Cert.SsmDcIdeal.nD Cert.SsmDcIdeal.τ).loc Cert.SsmDcIdeal.main_arg1) = m ((c.tc : Thread Cert.SsmDcIdeal.nD Cert.SsmDcIdeal.τ).loc Cert.SsmDcIdeal.main_arg1))
      ∧ r.2.sem = fun _ => 0)

def quiescent_SsmDcRefIdeal [hSsmDcRefIdeal : Cert.SsmDcRefIdeal.Facts] : Prop :=
  ∀ (m : (ℓ : Loc Cert.SsmDcRefIdeal.nD Cert.SsmDcRefIdeal.τ Cert.SsmDcRefIdeal.sig) → Buf (Elt Ideal) ℓ) (g : Dev Cert.SsmDcRefIdeal.nD → PrngReg), Pre_SsmDcRefIdeal m →
    θ_run (Cert.SsmDcRefIdeal.defs (F := Ideal)) (onTc (τ := Cert.SsmDcRefIdeal.τ) (Cert.SsmDcRefIdeal.main (F := Ideal))) ⟨m, fun _ => 0, g⟩ (fun r => (∀ c : Dev Cert.SsmDcRefIdeal.nD,
      r.2.mem ((c.tc : Thread Cert.SsmDcRefIdeal.nD Cert.SsmDcRefIdeal.τ).loc Cert.SsmDcRefIdeal.main_arg0) = m ((c.tc : Thread Cert.SsmDcRefIdeal.nD Cert.SsmDcRefIdeal.τ).loc Cert.SsmDcRefIdeal.main_arg0)
      ∧ r.2.mem ((c.tc : Thread Cert.SsmDcRefIdeal.nD Cert.SsmDcRefIdeal.τ).loc Cert.SsmDcRefIdeal.main_arg1) = m ((c.tc : Thread Cert.SsmDcRefIdeal.nD Cert.SsmDcRefIdeal.τ).loc Cert.SsmDcRefIdeal.main_arg1))
      ∧ r.2.sem = fun _ => 0)

def quiescent_SsmPost [hSsmPost : Cert.SsmPost.Facts] : Prop :=
  ∀ (m : (ℓ : Loc Cert.SsmPost.nD Cert.SsmPost.τ Cert.SsmPost.sig) → Buf (Elt Bits) ℓ) (g : Dev Cert.SsmPost.nD → PrngReg), Pre_SsmPost m →
    θ_run (Cert.SsmPost.defs (F := Bits)) (onTc (τ := Cert.SsmPost.τ) (Cert.SsmPost.main (F := Bits))) ⟨m, fun _ => 0, g⟩ (fun r => (∀ c : Dev Cert.SsmPost.nD,
      r.2.mem ((c.tc : Thread Cert.SsmPost.nD Cert.SsmPost.τ).loc Cert.SsmPost.main_arg0) = m ((c.tc : Thread Cert.SsmPost.nD Cert.SsmPost.τ).loc Cert.SsmPost.main_arg0)
      ∧ r.2.mem ((c.tc : Thread Cert.SsmPost.nD Cert.SsmPost.τ).loc Cert.SsmPost.main_arg1) = m ((c.tc : Thread Cert.SsmPost.nD Cert.SsmPost.τ).loc Cert.SsmPost.main_arg1)
      ∧ r.2.mem ((c.tc : Thread Cert.SsmPost.nD Cert.SsmPost.τ).loc Cert.SsmPost.main_arg2) = m ((c.tc : Thread Cert.SsmPost.nD Cert.SsmPost.τ).loc Cert.SsmPost.main_arg2)
      ∧ r.2.mem ((c.tc : Thread Cert.SsmPost.nD Cert.SsmPost.τ).loc Cert.SsmPost.main_arg3) = m ((c.tc : Thread Cert.SsmPost.nD Cert.SsmPost.τ).loc Cert.SsmPost.main_arg3))
      ∧ r.2.sem = fun _ => 0)

def quiescent_SsmPostIdeal [hSsmPostIdeal : Cert.SsmPostIdeal.Facts] : Prop :=
  ∀ (m : (ℓ : Loc Cert.SsmPostIdeal.nD Cert.SsmPostIdeal.τ Cert.SsmPostIdeal.sig) → Buf (Elt Ideal) ℓ) (g : Dev Cert.SsmPostIdeal.nD → PrngReg), Pre_SsmPostIdeal m →
    θ_run (Cert.SsmPostIdeal.defs (F := Ideal)) (onTc (τ := Cert.SsmPostIdeal.τ) (Cert.SsmPostIdeal.main (F := Ideal))) ⟨m, fun _ => 0, g⟩ (fun r => (∀ c : Dev Cert.SsmPostIdeal.nD,
      r.2.mem ((c.tc : Thread Cert.SsmPostIdeal.nD Cert.SsmPostIdeal.τ).loc Cert.SsmPostIdeal.main_arg0) = m ((c.tc : Thread Cert.SsmPostIdeal.nD Cert.SsmPostIdeal.τ).loc Cert.SsmPostIdeal.main_arg0)
      ∧ r.2.mem ((c.tc : Thread Cert.SsmPostIdeal.nD Cert.SsmPostIdeal.τ).loc Cert.SsmPostIdeal.main_arg1) = m ((c.tc : Thread Cert.SsmPostIdeal.nD Cert.SsmPostIdeal.τ).loc Cert.SsmPostIdeal.main_arg1)
      ∧ r.2.mem ((c.tc : Thread Cert.SsmPostIdeal.nD Cert.SsmPostIdeal.τ).loc Cert.SsmPostIdeal.main_arg2) = m ((c.tc : Thread Cert.SsmPostIdeal.nD Cert.SsmPostIdeal.τ).loc Cert.SsmPostIdeal.main_arg2)
      ∧ r.2.mem ((c.tc : Thread Cert.SsmPostIdeal.nD Cert.SsmPostIdeal.τ).loc Cert.SsmPostIdeal.main_arg3) = m ((c.tc : Thread Cert.SsmPostIdeal.nD Cert.SsmPostIdeal.τ).loc Cert.SsmPostIdeal.main_arg3))
      ∧ r.2.sem = fun _ => 0)

def quiescent_SsmPostRefIdeal [hSsmPostRefIdeal : Cert.SsmPostRefIdeal.Facts] : Prop :=
  ∀ (m : (ℓ : Loc Cert.SsmPostRefIdeal.nD Cert.SsmPostRefIdeal.τ Cert.SsmPostRefIdeal.sig) → Buf (Elt Ideal) ℓ) (g : Dev Cert.SsmPostRefIdeal.nD → PrngReg), Pre_SsmPostRefIdeal m →
    θ_run (Cert.SsmPostRefIdeal.defs (F := Ideal)) (onTc (τ := Cert.SsmPostRefIdeal.τ) (Cert.SsmPostRefIdeal.main (F := Ideal))) ⟨m, fun _ => 0, g⟩ (fun r => (∀ c : Dev Cert.SsmPostRefIdeal.nD,
      r.2.mem ((c.tc : Thread Cert.SsmPostRefIdeal.nD Cert.SsmPostRefIdeal.τ).loc Cert.SsmPostRefIdeal.main_arg0) = m ((c.tc : Thread Cert.SsmPostRefIdeal.nD Cert.SsmPostRefIdeal.τ).loc Cert.SsmPostRefIdeal.main_arg0)
      ∧ r.2.mem ((c.tc : Thread Cert.SsmPostRefIdeal.nD Cert.SsmPostRefIdeal.τ).loc Cert.SsmPostRefIdeal.main_arg1) = m ((c.tc : Thread Cert.SsmPostRefIdeal.nD Cert.SsmPostRefIdeal.τ).loc Cert.SsmPostRefIdeal.main_arg1)
      ∧ r.2.mem ((c.tc : Thread Cert.SsmPostRefIdeal.nD Cert.SsmPostRefIdeal.τ).loc Cert.SsmPostRefIdeal.main_arg2) = m ((c.tc : Thread Cert.SsmPostRefIdeal.nD Cert.SsmPostRefIdeal.τ).loc Cert.SsmPostRefIdeal.main_arg2)
      ∧ r.2.mem ((c.tc : Thread Cert.SsmPostRefIdeal.nD Cert.SsmPostRefIdeal.τ).loc Cert.SsmPostRefIdeal.main_arg3) = m ((c.tc : Thread Cert.SsmPostRefIdeal.nD Cert.SsmPostRefIdeal.τ).loc Cert.SsmPostRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_FirstNorm [hFirstNorm : Cert.FirstNorm.Facts] : Prop :=
  ∀ (m : (ℓ : Loc Cert.FirstNorm.nD Cert.FirstNorm.τ Cert.FirstNorm.sig) → Buf (Elt Bits) ℓ) (g : Dev Cert.FirstNorm.nD → PrngReg), Pre_FirstNorm m →
    θ_run (Cert.FirstNorm.defs (F := Bits)) (onTc (τ := Cert.FirstNorm.τ) (Cert.FirstNorm.main (F := Bits))) ⟨m, fun _ => 0, g⟩ (fun r => (∀ c : Dev Cert.FirstNorm.nD,
      r.2.mem ((c.tc : Thread Cert.FirstNorm.nD Cert.FirstNorm.τ).loc Cert.FirstNorm.main_arg0) = m ((c.tc : Thread Cert.FirstNorm.nD Cert.FirstNorm.τ).loc Cert.FirstNorm.main_arg0)
      ∧ r.2.mem ((c.tc : Thread Cert.FirstNorm.nD Cert.FirstNorm.τ).loc Cert.FirstNorm.main_arg1) = m ((c.tc : Thread Cert.FirstNorm.nD Cert.FirstNorm.τ).loc Cert.FirstNorm.main_arg1)
      ∧ r.2.mem ((c.tc : Thread Cert.FirstNorm.nD Cert.FirstNorm.τ).loc Cert.FirstNorm.main_arg2) = m ((c.tc : Thread Cert.FirstNorm.nD Cert.FirstNorm.τ).loc Cert.FirstNorm.main_arg2)
      ∧ r.2.mem ((c.tc : Thread Cert.FirstNorm.nD Cert.FirstNorm.τ).loc Cert.FirstNorm.main_arg3) = m ((c.tc : Thread Cert.FirstNorm.nD Cert.FirstNorm.τ).loc Cert.FirstNorm.main_arg3))
      ∧ r.2.sem = fun _ => 0)

def quiescent_FirstNormIdeal [hFirstNormIdeal : Cert.FirstNormIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg), Pre_FirstNormIdeal m →
    θ_run (Cert.FirstNormIdeal.defs (F := Ideal)) (onTc (τ := Cert.FirstNormIdeal.τ) (Cert.FirstNormIdeal.main (F := Ideal))) ⟨m, fun _ => 0, g⟩ (fun r => (∀ c : Dev Cert.FirstNormIdeal.nD,
      r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
      ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1)
      ∧ r.2.mem ((c.tc : Thread Cert.FirstNormIdeal.nD Cert.FirstNormIdeal.τ).loc Cert.FirstNormIdeal.main_arg2) = m ((c.tc : Thread Cert.FirstNormIdeal.nD Cert.FirstNormIdeal.τ).loc Cert.FirstNormIdeal.main_arg2)
      ∧ r.2.mem ((c.tc : Thread Cert.FirstNormIdeal.nD Cert.FirstNormIdeal.τ).loc Cert.FirstNormIdeal.main_arg3) = m ((c.tc : Thread Cert.FirstNormIdeal.nD Cert.FirstNormIdeal.τ).loc Cert.FirstNormIdeal.main_arg3))
      ∧ r.2.sem = fun _ => 0)

def quiescent_FirstNormRefIdeal [hFirstNormRefIdeal : Cert.FirstNormRefIdeal.Facts] : Prop :=
  ∀ (m : (ℓ : Loc Cert.FirstNormRefIdeal.nD Cert.FirstNormRefIdeal.τ Cert.FirstNormRefIdeal.sig) → Buf (Elt Ideal) ℓ) (g : Dev Cert.FirstNormRefIdeal.nD → PrngReg), Pre_FirstNormRefIdeal m →
    θ_run (Cert.FirstNormRefIdeal.defs (F := Ideal)) (onTc (τ := Cert.FirstNormRefIdeal.τ) (Cert.FirstNormRefIdeal.main (F := Ideal))) ⟨m, fun _ => 0, g⟩ (fun r => (∀ c : Dev Cert.FirstNormRefIdeal.nD,
      r.2.mem ((c.tc : Thread Cert.FirstNormRefIdeal.nD Cert.FirstNormRefIdeal.τ).loc Cert.FirstNormRefIdeal.main_arg0) = m ((c.tc : Thread Cert.FirstNormRefIdeal.nD Cert.FirstNormRefIdeal.τ).loc Cert.FirstNormRefIdeal.main_arg0)
      ∧ r.2.mem ((c.tc : Thread Cert.FirstNormRefIdeal.nD Cert.FirstNormRefIdeal.τ).loc Cert.FirstNormRefIdeal.main_arg1) = m ((c.tc : Thread Cert.FirstNormRefIdeal.nD Cert.FirstNormRefIdeal.τ).loc Cert.FirstNormRefIdeal.main_arg1)
      ∧ r.2.mem ((c.tc : Thread Cert.FirstNormRefIdeal.nD Cert.FirstNormRefIdeal.τ).loc Cert.FirstNormRefIdeal.main_arg2) = m ((c.tc : Thread Cert.FirstNormRefIdeal.nD Cert.FirstNormRefIdeal.τ).loc Cert.FirstNormRefIdeal.main_arg2)
      ∧ r.2.mem ((c.tc : Thread Cert.FirstNormRefIdeal.nD Cert.FirstNormRefIdeal.τ).loc Cert.FirstNormRefIdeal.main_arg3) = m ((c.tc : Thread Cert.FirstNormRefIdeal.nD Cert.FirstNormRefIdeal.τ).loc Cert.FirstNormRefIdeal.main_arg3))
      ∧ r.2.sem = fun _ => 0)

def quiescent_AdamwWide [hAdamwWide : Cert.AdamwWide.Facts] : Prop :=
  ∀ (m : (ℓ : Loc Cert.AdamwWide.nD Cert.AdamwWide.τ Cert.AdamwWide.sig) → Buf (Elt Bits) ℓ) (g : Dev Cert.AdamwWide.nD → PrngReg), Pre_AdamwWide m →
    θ_run (Cert.AdamwWide.defs (F := Bits)) (onTc (τ := Cert.AdamwWide.τ) (Cert.AdamwWide.main (F := Bits))) ⟨m, fun _ => 0, g⟩ (fun r => (∀ c : Dev Cert.AdamwWide.nD,
      r.2.mem ((c.tc : Thread Cert.AdamwWide.nD Cert.AdamwWide.τ).loc Cert.AdamwWide.main_arg0) = m ((c.tc : Thread Cert.AdamwWide.nD Cert.AdamwWide.τ).loc Cert.AdamwWide.main_arg0)
      ∧ r.2.mem ((c.tc : Thread Cert.AdamwWide.nD Cert.AdamwWide.τ).loc Cert.AdamwWide.main_arg1) = m ((c.tc : Thread Cert.AdamwWide.nD Cert.AdamwWide.τ).loc Cert.AdamwWide.main_arg1)
      ∧ r.2.mem ((c.tc : Thread Cert.AdamwWide.nD Cert.AdamwWide.τ).loc Cert.AdamwWide.main_arg2) = m ((c.tc : Thread Cert.AdamwWide.nD Cert.AdamwWide.τ).loc Cert.AdamwWide.main_arg2)
      ∧ r.2.mem ((c.tc : Thread Cert.AdamwWide.nD Cert.AdamwWide.τ).loc Cert.AdamwWide.main_arg3) = m ((c.tc : Thread Cert.AdamwWide.nD Cert.AdamwWide.τ).loc Cert.AdamwWide.main_arg3))
      ∧ r.2.sem = fun _ => 0)

def quiescent_AdamwWideIdeal [hAdamwWideIdeal : Cert.AdamwWideIdeal.Facts] : Prop :=
  ∀ (m : (ℓ : Loc Cert.AdamwWideIdeal.nD Cert.AdamwWideIdeal.τ Cert.AdamwWideIdeal.sig) → Buf (Elt Ideal) ℓ) (g : Dev Cert.AdamwWideIdeal.nD → PrngReg), Pre_AdamwWideIdeal m →
    θ_run (Cert.AdamwWideIdeal.defs (F := Ideal)) (onTc (τ := Cert.AdamwWideIdeal.τ) (Cert.AdamwWideIdeal.main (F := Ideal))) ⟨m, fun _ => 0, g⟩ (fun r => (∀ c : Dev Cert.AdamwWideIdeal.nD,
      r.2.mem ((c.tc : Thread Cert.AdamwWideIdeal.nD Cert.AdamwWideIdeal.τ).loc Cert.AdamwWideIdeal.main_arg0) = m ((c.tc : Thread Cert.AdamwWideIdeal.nD Cert.AdamwWideIdeal.τ).loc Cert.AdamwWideIdeal.main_arg0)
      ∧ r.2.mem ((c.tc : Thread Cert.AdamwWideIdeal.nD Cert.AdamwWideIdeal.τ).loc Cert.AdamwWideIdeal.main_arg1) = m ((c.tc : Thread Cert.AdamwWideIdeal.nD Cert.AdamwWideIdeal.τ).loc Cert.AdamwWideIdeal.main_arg1)
      ∧ r.2.mem ((c.tc : Thread Cert.AdamwWideIdeal.nD Cert.AdamwWideIdeal.τ).loc Cert.AdamwWideIdeal.main_arg2) = m ((c.tc : Thread Cert.AdamwWideIdeal.nD Cert.AdamwWideIdeal.τ).loc Cert.AdamwWideIdeal.main_arg2)
      ∧ r.2.mem ((c.tc : Thread Cert.AdamwWideIdeal.nD Cert.AdamwWideIdeal.τ).loc Cert.AdamwWideIdeal.main_arg3) = m ((c.tc : Thread Cert.AdamwWideIdeal.nD Cert.AdamwWideIdeal.τ).loc Cert.AdamwWideIdeal.main_arg3))
      ∧ r.2.sem = fun _ => 0)

def quiescent_AdamwWideRefIdeal [hAdamwWideRefIdeal : Cert.AdamwWideRefIdeal.Facts] : Prop :=
  ∀ (m : (ℓ : Loc Cert.AdamwWideRefIdeal.nD Cert.AdamwWideRefIdeal.τ Cert.AdamwWideRefIdeal.sig) → Buf (Elt Ideal) ℓ) (g : Dev Cert.AdamwWideRefIdeal.nD → PrngReg), Pre_AdamwWideRefIdeal m →
    θ_run (Cert.AdamwWideRefIdeal.defs (F := Ideal)) (onTc (τ := Cert.AdamwWideRefIdeal.τ) (Cert.AdamwWideRefIdeal.main (F := Ideal))) ⟨m, fun _ => 0, g⟩ (fun r => (∀ c : Dev Cert.AdamwWideRefIdeal.nD,
      r.2.mem ((c.tc : Thread Cert.AdamwWideRefIdeal.nD Cert.AdamwWideRefIdeal.τ).loc Cert.AdamwWideRefIdeal.main_arg0) = m ((c.tc : Thread Cert.AdamwWideRefIdeal.nD Cert.AdamwWideRefIdeal.τ).loc Cert.AdamwWideRefIdeal.main_arg0)
      ∧ r.2.mem ((c.tc : Thread Cert.AdamwWideRefIdeal.nD Cert.AdamwWideRefIdeal.τ).loc Cert.AdamwWideRefIdeal.main_arg1) = m ((c.tc : Thread Cert.AdamwWideRefIdeal.nD Cert.AdamwWideRefIdeal.τ).loc Cert.AdamwWideRefIdeal.main_arg1)
      ∧ r.2.mem ((c.tc : Thread Cert.AdamwWideRefIdeal.nD Cert.AdamwWideRefIdeal.τ).loc Cert.AdamwWideRefIdeal.main_arg2) = m ((c.tc : Thread Cert.AdamwWideRefIdeal.nD Cert.AdamwWideRefIdeal.τ).loc Cert.AdamwWideRefIdeal.main_arg2)
      ∧ r.2.mem ((c.tc : Thread Cert.AdamwWideRefIdeal.nD Cert.AdamwWideRefIdeal.τ).loc Cert.AdamwWideRefIdeal.main_arg3) = m ((c.tc : Thread Cert.AdamwWideRefIdeal.nD Cert.AdamwWideRefIdeal.τ).loc Cert.AdamwWideRefIdeal.main_arg3))
      ∧ r.2.sem = fun _ => 0)

def quiescent_AdamwDown [hAdamwDown : Cert.AdamwDown.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3))
      ∧ r.2.sem = fun _ => 0)

def quiescent_AdamwDownIdeal [hAdamwDownIdeal : Cert.AdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ r.2.sem = fun _ => 0)

def quiescent_AdamwDownRefIdeal [hAdamwDownRefIdeal : Cert.AdamwDownRefIdeal.Facts] : Prop :=
  ∀ (m : (ℓ : Loc Cert.AdamwDownRefIdeal.nD Cert.AdamwDownRefIdeal.τ Cert.AdamwDownRefIdeal.sig) → Buf (Elt Ideal) ℓ) (g : Dev Cert.AdamwDownRefIdeal.nD → PrngReg), Pre_AdamwDownRefIdeal m →
    θ_run (Cert.AdamwDownRefIdeal.defs (F := Ideal)) (onTc (τ := Cert.AdamwDownRefIdeal.τ) (Cert.AdamwDownRefIdeal.main (F := Ideal))) ⟨m, fun _ => 0, g⟩ (fun r => (∀ c : Dev Cert.AdamwDownRefIdeal.nD,
      r.2.mem ((c.tc : Thread Cert.AdamwDownRefIdeal.nD Cert.AdamwDownRefIdeal.τ).loc Cert.AdamwDownRefIdeal.main_arg0) = m ((c.tc : Thread Cert.AdamwDownRefIdeal.nD Cert.AdamwDownRefIdeal.τ).loc Cert.AdamwDownRefIdeal.main_arg0)
      ∧ r.2.mem ((c.tc : Thread Cert.AdamwDownRefIdeal.nD Cert.AdamwDownRefIdeal.τ).loc Cert.AdamwDownRefIdeal.main_arg1) = m ((c.tc : Thread Cert.AdamwDownRefIdeal.nD Cert.AdamwDownRefIdeal.τ).loc Cert.AdamwDownRefIdeal.main_arg1)
      ∧ r.2.mem ((c.tc : Thread Cert.AdamwDownRefIdeal.nD Cert.AdamwDownRefIdeal.τ).loc Cert.AdamwDownRefIdeal.main_arg2) = m ((c.tc : Thread Cert.AdamwDownRefIdeal.nD Cert.AdamwDownRefIdeal.τ).loc Cert.AdamwDownRefIdeal.main_arg2)
      ∧ r.2.mem ((c.tc : Thread Cert.AdamwDownRefIdeal.nD Cert.AdamwDownRefIdeal.τ).loc Cert.AdamwDownRefIdeal.main_arg3) = m ((c.tc : Thread Cert.AdamwDownRefIdeal.nD Cert.AdamwDownRefIdeal.τ).loc Cert.AdamwDownRefIdeal.main_arg3))
      ∧ r.2.sem = fun _ => 0)

def quiescent_AdamwEvIn [hAdamwEvIn : Cert.AdamwEvIn.Facts] : Prop :=
  ∀ (m : (ℓ : Loc Cert.AdamwEvIn.nD Cert.AdamwEvIn.τ Cert.AdamwEvIn.sig) → Buf (Elt Bits) ℓ) (g : Dev Cert.AdamwEvIn.nD → PrngReg), Pre_AdamwEvIn m →
    θ_run (Cert.AdamwEvIn.defs (F := Bits)) (onTc (τ := Cert.AdamwEvIn.τ) (Cert.AdamwEvIn.main (F := Bits))) ⟨m, fun _ => 0, g⟩ (fun r => (∀ c : Dev Cert.AdamwEvIn.nD,
      r.2.mem ((c.tc : Thread Cert.AdamwEvIn.nD Cert.AdamwEvIn.τ).loc Cert.AdamwEvIn.main_arg0) = m ((c.tc : Thread Cert.AdamwEvIn.nD Cert.AdamwEvIn.τ).loc Cert.AdamwEvIn.main_arg0)
      ∧ r.2.mem ((c.tc : Thread Cert.AdamwEvIn.nD Cert.AdamwEvIn.τ).loc Cert.AdamwEvIn.main_arg1) = m ((c.tc : Thread Cert.AdamwEvIn.nD Cert.AdamwEvIn.τ).loc Cert.AdamwEvIn.main_arg1)
      ∧ r.2.mem ((c.tc : Thread Cert.AdamwEvIn.nD Cert.AdamwEvIn.τ).loc Cert.AdamwEvIn.main_arg2) = m ((c.tc : Thread Cert.AdamwEvIn.nD Cert.AdamwEvIn.τ).loc Cert.AdamwEvIn.main_arg2)
      ∧ r.2.mem ((c.tc : Thread Cert.AdamwEvIn.nD Cert.AdamwEvIn.τ).loc Cert.AdamwEvIn.main_arg3) = m ((c.tc : Thread Cert.AdamwEvIn.nD Cert.AdamwEvIn.τ).loc Cert.AdamwEvIn.main_arg3))
      ∧ r.2.sem = fun _ => 0)

def quiescent_AdamwEvInIdeal [hAdamwEvInIdeal : Cert.AdamwEvInIdeal.Facts] : Prop :=
  ∀ (m : (ℓ : Loc Cert.AdamwEvInIdeal.nD Cert.AdamwEvInIdeal.τ Cert.AdamwEvInIdeal.sig) → Buf (Elt Ideal) ℓ) (g : Dev Cert.AdamwEvInIdeal.nD → PrngReg), Pre_AdamwEvInIdeal m →
    θ_run (Cert.AdamwEvInIdeal.defs (F := Ideal)) (onTc (τ := Cert.AdamwEvInIdeal.τ) (Cert.AdamwEvInIdeal.main (F := Ideal))) ⟨m, fun _ => 0, g⟩ (fun r => (∀ c : Dev Cert.AdamwEvInIdeal.nD,
      r.2.mem ((c.tc : Thread Cert.AdamwEvInIdeal.nD Cert.AdamwEvInIdeal.τ).loc Cert.AdamwEvInIdeal.main_arg0) = m ((c.tc : Thread Cert.AdamwEvInIdeal.nD Cert.AdamwEvInIdeal.τ).loc Cert.AdamwEvInIdeal.main_arg0)
      ∧ r.2.mem ((c.tc : Thread Cert.AdamwEvInIdeal.nD Cert.AdamwEvInIdeal.τ).loc Cert.AdamwEvInIdeal.main_arg1) = m ((c.tc : Thread Cert.AdamwEvInIdeal.nD Cert.AdamwEvInIdeal.τ).loc Cert.AdamwEvInIdeal.main_arg1)
      ∧ r.2.mem ((c.tc : Thread Cert.AdamwEvInIdeal.nD Cert.AdamwEvInIdeal.τ).loc Cert.AdamwEvInIdeal.main_arg2) = m ((c.tc : Thread Cert.AdamwEvInIdeal.nD Cert.AdamwEvInIdeal.τ).loc Cert.AdamwEvInIdeal.main_arg2)
      ∧ r.2.mem ((c.tc : Thread Cert.AdamwEvInIdeal.nD Cert.AdamwEvInIdeal.τ).loc Cert.AdamwEvInIdeal.main_arg3) = m ((c.tc : Thread Cert.AdamwEvInIdeal.nD Cert.AdamwEvInIdeal.τ).loc Cert.AdamwEvInIdeal.main_arg3))
      ∧ r.2.sem = fun _ => 0)

def quiescent_AdamwEvInRefIdeal [hAdamwEvInRefIdeal : Cert.AdamwEvInRefIdeal.Facts] : Prop :=
  ∀ (m : (ℓ : Loc Cert.AdamwEvInRefIdeal.nD Cert.AdamwEvInRefIdeal.τ Cert.AdamwEvInRefIdeal.sig) → Buf (Elt Ideal) ℓ) (g : Dev Cert.AdamwEvInRefIdeal.nD → PrngReg), Pre_AdamwEvInRefIdeal m →
    θ_run (Cert.AdamwEvInRefIdeal.defs (F := Ideal)) (onTc (τ := Cert.AdamwEvInRefIdeal.τ) (Cert.AdamwEvInRefIdeal.main (F := Ideal))) ⟨m, fun _ => 0, g⟩ (fun r => (∀ c : Dev Cert.AdamwEvInRefIdeal.nD,
      r.2.mem ((c.tc : Thread Cert.AdamwEvInRefIdeal.nD Cert.AdamwEvInRefIdeal.τ).loc Cert.AdamwEvInRefIdeal.main_arg0) = m ((c.tc : Thread Cert.AdamwEvInRefIdeal.nD Cert.AdamwEvInRefIdeal.τ).loc Cert.AdamwEvInRefIdeal.main_arg0)
      ∧ r.2.mem ((c.tc : Thread Cert.AdamwEvInRefIdeal.nD Cert.AdamwEvInRefIdeal.τ).loc Cert.AdamwEvInRefIdeal.main_arg1) = m ((c.tc : Thread Cert.AdamwEvInRefIdeal.nD Cert.AdamwEvInRefIdeal.τ).loc Cert.AdamwEvInRefIdeal.main_arg1)
      ∧ r.2.mem ((c.tc : Thread Cert.AdamwEvInRefIdeal.nD Cert.AdamwEvInRefIdeal.τ).loc Cert.AdamwEvInRefIdeal.main_arg2) = m ((c.tc : Thread Cert.AdamwEvInRefIdeal.nD Cert.AdamwEvInRefIdeal.τ).loc Cert.AdamwEvInRefIdeal.main_arg2)
      ∧ r.2.mem ((c.tc : Thread Cert.AdamwEvInRefIdeal.nD Cert.AdamwEvInRefIdeal.τ).loc Cert.AdamwEvInRefIdeal.main_arg3) = m ((c.tc : Thread Cert.AdamwEvInRefIdeal.nD Cert.AdamwEvInRefIdeal.τ).loc Cert.AdamwEvInRefIdeal.main_arg3))
      ∧ r.2.sem = fun _ => 0)

def quiescent_AdamwGlu [hAdamwGlu : Cert.AdamwGlu.Facts] : Prop :=
  ∀ (m : (ℓ : Loc Cert.AdamwGlu.nD Cert.AdamwGlu.τ Cert.AdamwGlu.sig) → Buf (Elt Bits) ℓ) (g : Dev Cert.AdamwGlu.nD → PrngReg), Pre_AdamwGlu m →
    θ_run (Cert.AdamwGlu.defs (F := Bits)) (onTc (τ := Cert.AdamwGlu.τ) (Cert.AdamwGlu.main (F := Bits))) ⟨m, fun _ => 0, g⟩ (fun r => (∀ c : Dev Cert.AdamwGlu.nD,
      r.2.mem ((c.tc : Thread Cert.AdamwGlu.nD Cert.AdamwGlu.τ).loc Cert.AdamwGlu.main_arg0) = m ((c.tc : Thread Cert.AdamwGlu.nD Cert.AdamwGlu.τ).loc Cert.AdamwGlu.main_arg0)
      ∧ r.2.mem ((c.tc : Thread Cert.AdamwGlu.nD Cert.AdamwGlu.τ).loc Cert.AdamwGlu.main_arg1) = m ((c.tc : Thread Cert.AdamwGlu.nD Cert.AdamwGlu.τ).loc Cert.AdamwGlu.main_arg1)
      ∧ r.2.mem ((c.tc : Thread Cert.AdamwGlu.nD Cert.AdamwGlu.τ).loc Cert.AdamwGlu.main_arg2) = m ((c.tc : Thread Cert.AdamwGlu.nD Cert.AdamwGlu.τ).loc Cert.AdamwGlu.main_arg2)
      ∧ r.2.mem ((c.tc : Thread Cert.AdamwGlu.nD Cert.AdamwGlu.τ).loc Cert.AdamwGlu.main_arg3) = m ((c.tc : Thread Cert.AdamwGlu.nD Cert.AdamwGlu.τ).loc Cert.AdamwGlu.main_arg3))
      ∧ r.2.sem = fun _ => 0)

def quiescent_AdamwGluIdeal [hAdamwGluIdeal : Cert.AdamwGluIdeal.Facts] : Prop :=
  ∀ (m : (ℓ : Loc Cert.AdamwGluIdeal.nD Cert.AdamwGluIdeal.τ Cert.AdamwGluIdeal.sig) → Buf (Elt Ideal) ℓ) (g : Dev Cert.AdamwGluIdeal.nD → PrngReg), Pre_AdamwGluIdeal m →
    θ_run (Cert.AdamwGluIdeal.defs (F := Ideal)) (onTc (τ := Cert.AdamwGluIdeal.τ) (Cert.AdamwGluIdeal.main (F := Ideal))) ⟨m, fun _ => 0, g⟩ (fun r => (∀ c : Dev Cert.AdamwGluIdeal.nD,
      r.2.mem ((c.tc : Thread Cert.AdamwGluIdeal.nD Cert.AdamwGluIdeal.τ).loc Cert.AdamwGluIdeal.main_arg0) = m ((c.tc : Thread Cert.AdamwGluIdeal.nD Cert.AdamwGluIdeal.τ).loc Cert.AdamwGluIdeal.main_arg0)
      ∧ r.2.mem ((c.tc : Thread Cert.AdamwGluIdeal.nD Cert.AdamwGluIdeal.τ).loc Cert.AdamwGluIdeal.main_arg1) = m ((c.tc : Thread Cert.AdamwGluIdeal.nD Cert.AdamwGluIdeal.τ).loc Cert.AdamwGluIdeal.main_arg1)
      ∧ r.2.mem ((c.tc : Thread Cert.AdamwGluIdeal.nD Cert.AdamwGluIdeal.τ).loc Cert.AdamwGluIdeal.main_arg2) = m ((c.tc : Thread Cert.AdamwGluIdeal.nD Cert.AdamwGluIdeal.τ).loc Cert.AdamwGluIdeal.main_arg2)
      ∧ r.2.mem ((c.tc : Thread Cert.AdamwGluIdeal.nD Cert.AdamwGluIdeal.τ).loc Cert.AdamwGluIdeal.main_arg3) = m ((c.tc : Thread Cert.AdamwGluIdeal.nD Cert.AdamwGluIdeal.τ).loc Cert.AdamwGluIdeal.main_arg3))
      ∧ r.2.sem = fun _ => 0)

def quiescent_AdamwGluRefIdeal [hAdamwGluRefIdeal : Cert.AdamwGluRefIdeal.Facts] : Prop :=
  ∀ (m : (ℓ : Loc Cert.AdamwGluRefIdeal.nD Cert.AdamwGluRefIdeal.τ Cert.AdamwGluRefIdeal.sig) → Buf (Elt Ideal) ℓ) (g : Dev Cert.AdamwGluRefIdeal.nD → PrngReg), Pre_AdamwGluRefIdeal m →
    θ_run (Cert.AdamwGluRefIdeal.defs (F := Ideal)) (onTc (τ := Cert.AdamwGluRefIdeal.τ) (Cert.AdamwGluRefIdeal.main (F := Ideal))) ⟨m, fun _ => 0, g⟩ (fun r => (∀ c : Dev Cert.AdamwGluRefIdeal.nD,
      r.2.mem ((c.tc : Thread Cert.AdamwGluRefIdeal.nD Cert.AdamwGluRefIdeal.τ).loc Cert.AdamwGluRefIdeal.main_arg0) = m ((c.tc : Thread Cert.AdamwGluRefIdeal.nD Cert.AdamwGluRefIdeal.τ).loc Cert.AdamwGluRefIdeal.main_arg0)
      ∧ r.2.mem ((c.tc : Thread Cert.AdamwGluRefIdeal.nD Cert.AdamwGluRefIdeal.τ).loc Cert.AdamwGluRefIdeal.main_arg1) = m ((c.tc : Thread Cert.AdamwGluRefIdeal.nD Cert.AdamwGluRefIdeal.τ).loc Cert.AdamwGluRefIdeal.main_arg1)
      ∧ r.2.mem ((c.tc : Thread Cert.AdamwGluRefIdeal.nD Cert.AdamwGluRefIdeal.τ).loc Cert.AdamwGluRefIdeal.main_arg2) = m ((c.tc : Thread Cert.AdamwGluRefIdeal.nD Cert.AdamwGluRefIdeal.τ).loc Cert.AdamwGluRefIdeal.main_arg2)
      ∧ r.2.mem ((c.tc : Thread Cert.AdamwGluRefIdeal.nD Cert.AdamwGluRefIdeal.τ).loc Cert.AdamwGluRefIdeal.main_arg3) = m ((c.tc : Thread Cert.AdamwGluRefIdeal.nD Cert.AdamwGluRefIdeal.τ).loc Cert.AdamwGluRefIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3))
      ∧ r.2.sem = fun _ => 0)

def quiescent_AdamwOdIn [hAdamwOdIn : Cert.AdamwOdIn.Facts] : Prop :=
  ∀ (m : (ℓ : Loc Cert.AdamwOdIn.nD Cert.AdamwOdIn.τ Cert.AdamwOdIn.sig) → Buf (Elt Bits) ℓ) (g : Dev Cert.AdamwOdIn.nD → PrngReg), Pre_AdamwOdIn m →
    θ_run (Cert.AdamwOdIn.defs (F := Bits)) (onTc (τ := Cert.AdamwOdIn.τ) (Cert.AdamwOdIn.main (F := Bits))) ⟨m, fun _ => 0, g⟩ (fun r => (∀ c : Dev Cert.AdamwOdIn.nD,
      r.2.mem ((c.tc : Thread Cert.AdamwOdIn.nD Cert.AdamwOdIn.τ).loc Cert.AdamwOdIn.main_arg0) = m ((c.tc : Thread Cert.AdamwOdIn.nD Cert.AdamwOdIn.τ).loc Cert.AdamwOdIn.main_arg0)
      ∧ r.2.mem ((c.tc : Thread Cert.AdamwOdIn.nD Cert.AdamwOdIn.τ).loc Cert.AdamwOdIn.main_arg1) = m ((c.tc : Thread Cert.AdamwOdIn.nD Cert.AdamwOdIn.τ).loc Cert.AdamwOdIn.main_arg1)
      ∧ r.2.mem ((c.tc : Thread Cert.AdamwOdIn.nD Cert.AdamwOdIn.τ).loc Cert.AdamwOdIn.main_arg2) = m ((c.tc : Thread Cert.AdamwOdIn.nD Cert.AdamwOdIn.τ).loc Cert.AdamwOdIn.main_arg2)
      ∧ r.2.mem ((c.tc : Thread Cert.AdamwOdIn.nD Cert.AdamwOdIn.τ).loc Cert.AdamwOdIn.main_arg3) = m ((c.tc : Thread Cert.AdamwOdIn.nD Cert.AdamwOdIn.τ).loc Cert.AdamwOdIn.main_arg3))
      ∧ r.2.sem = fun _ => 0)

def quiescent_AdamwOdInIdeal [hAdamwOdInIdeal : Cert.AdamwOdInIdeal.Facts] : Prop :=
  ∀ (m : (ℓ : Loc Cert.AdamwOdInIdeal.nD Cert.AdamwOdInIdeal.τ Cert.AdamwOdInIdeal.sig) → Buf (Elt Ideal) ℓ) (g : Dev Cert.AdamwOdInIdeal.nD → PrngReg), Pre_AdamwOdInIdeal m →
    θ_run (Cert.AdamwOdInIdeal.defs (F := Ideal)) (onTc (τ := Cert.AdamwOdInIdeal.τ) (Cert.AdamwOdInIdeal.main (F := Ideal))) ⟨m, fun _ => 0, g⟩ (fun r => (∀ c : Dev Cert.AdamwOdInIdeal.nD,
      r.2.mem ((c.tc : Thread Cert.AdamwOdInIdeal.nD Cert.AdamwOdInIdeal.τ).loc Cert.AdamwOdInIdeal.main_arg0) = m ((c.tc : Thread Cert.AdamwOdInIdeal.nD Cert.AdamwOdInIdeal.τ).loc Cert.AdamwOdInIdeal.main_arg0)
      ∧ r.2.mem ((c.tc : Thread Cert.AdamwOdInIdeal.nD Cert.AdamwOdInIdeal.τ).loc Cert.AdamwOdInIdeal.main_arg1) = m ((c.tc : Thread Cert.AdamwOdInIdeal.nD Cert.AdamwOdInIdeal.τ).loc Cert.AdamwOdInIdeal.main_arg1)
      ∧ r.2.mem ((c.tc : Thread Cert.AdamwOdInIdeal.nD Cert.AdamwOdInIdeal.τ).loc Cert.AdamwOdInIdeal.main_arg2) = m ((c.tc : Thread Cert.AdamwOdInIdeal.nD Cert.AdamwOdInIdeal.τ).loc Cert.AdamwOdInIdeal.main_arg2)
      ∧ r.2.mem ((c.tc : Thread Cert.AdamwOdInIdeal.nD Cert.AdamwOdInIdeal.τ).loc Cert.AdamwOdInIdeal.main_arg3) = m ((c.tc : Thread Cert.AdamwOdInIdeal.nD Cert.AdamwOdInIdeal.τ).loc Cert.AdamwOdInIdeal.main_arg3))
      ∧ r.2.sem = fun _ => 0)

def quiescent_AdamwOdInRefIdeal [hAdamwOdInRefIdeal : Cert.AdamwOdInRefIdeal.Facts] : Prop :=
  ∀ (m : (ℓ : Loc Cert.AdamwOdInRefIdeal.nD Cert.AdamwOdInRefIdeal.τ Cert.AdamwOdInRefIdeal.sig) → Buf (Elt Ideal) ℓ) (g : Dev Cert.AdamwOdInRefIdeal.nD → PrngReg), Pre_AdamwOdInRefIdeal m →
    θ_run (Cert.AdamwOdInRefIdeal.defs (F := Ideal)) (onTc (τ := Cert.AdamwOdInRefIdeal.τ) (Cert.AdamwOdInRefIdeal.main (F := Ideal))) ⟨m, fun _ => 0, g⟩ (fun r => (∀ c : Dev Cert.AdamwOdInRefIdeal.nD,
      r.2.mem ((c.tc : Thread Cert.AdamwOdInRefIdeal.nD Cert.AdamwOdInRefIdeal.τ).loc Cert.AdamwOdInRefIdeal.main_arg0) = m ((c.tc : Thread Cert.AdamwOdInRefIdeal.nD Cert.AdamwOdInRefIdeal.τ).loc Cert.AdamwOdInRefIdeal.main_arg0)
      ∧ r.2.mem ((c.tc : Thread Cert.AdamwOdInRefIdeal.nD Cert.AdamwOdInRefIdeal.τ).loc Cert.AdamwOdInRefIdeal.main_arg1) = m ((c.tc : Thread Cert.AdamwOdInRefIdeal.nD Cert.AdamwOdInRefIdeal.τ).loc Cert.AdamwOdInRefIdeal.main_arg1)
      ∧ r.2.mem ((c.tc : Thread Cert.AdamwOdInRefIdeal.nD Cert.AdamwOdInRefIdeal.τ).loc Cert.AdamwOdInRefIdeal.main_arg2) = m ((c.tc : Thread Cert.AdamwOdInRefIdeal.nD Cert.AdamwOdInRefIdeal.τ).loc Cert.AdamwOdInRefIdeal.main_arg2)
      ∧ r.2.mem ((c.tc : Thread Cert.AdamwOdInRefIdeal.nD Cert.AdamwOdInRefIdeal.τ).loc Cert.AdamwOdInRefIdeal.main_arg3) = m ((c.tc : Thread Cert.AdamwOdInRefIdeal.nD Cert.AdamwOdInRefIdeal.τ).loc Cert.AdamwOdInRefIdeal.main_arg3))
      ∧ r.2.sem = fun _ => 0)

def quiescent_AdamwConv [hAdamwConv : Cert.AdamwConv.Facts] : Prop :=
  ∀ (m : (ℓ : Loc Cert.AdamwConv.nD Cert.AdamwConv.τ Cert.AdamwConv.sig) → Buf (Elt Bits) ℓ) (g : Dev Cert.AdamwConv.nD → PrngReg), Pre_AdamwConv m →
    θ_run (Cert.AdamwConv.defs (F := Bits)) (onTc (τ := Cert.AdamwConv.τ) (Cert.AdamwConv.main (F := Bits))) ⟨m, fun _ => 0, g⟩ (fun r => (∀ c : Dev Cert.AdamwConv.nD,
      r.2.mem ((c.tc : Thread Cert.AdamwConv.nD Cert.AdamwConv.τ).loc Cert.AdamwConv.main_arg0) = m ((c.tc : Thread Cert.AdamwConv.nD Cert.AdamwConv.τ).loc Cert.AdamwConv.main_arg0)
      ∧ r.2.mem ((c.tc : Thread Cert.AdamwConv.nD Cert.AdamwConv.τ).loc Cert.AdamwConv.main_arg1) = m ((c.tc : Thread Cert.AdamwConv.nD Cert.AdamwConv.τ).loc Cert.AdamwConv.main_arg1)
      ∧ r.2.mem ((c.tc : Thread Cert.AdamwConv.nD Cert.AdamwConv.τ).loc Cert.AdamwConv.main_arg2) = m ((c.tc : Thread Cert.AdamwConv.nD Cert.AdamwConv.τ).loc Cert.AdamwConv.main_arg2)
      ∧ r.2.mem ((c.tc : Thread Cert.AdamwConv.nD Cert.AdamwConv.τ).loc Cert.AdamwConv.main_arg3) = m ((c.tc : Thread Cert.AdamwConv.nD Cert.AdamwConv.τ).loc Cert.AdamwConv.main_arg3))
      ∧ r.2.sem = fun _ => 0)

def quiescent_AdamwConvIdeal [hAdamwConvIdeal : Cert.AdamwConvIdeal.Facts] : Prop :=
  ∀ (m : (ℓ : Loc Cert.AdamwConvIdeal.nD Cert.AdamwConvIdeal.τ Cert.AdamwConvIdeal.sig) → Buf (Elt Ideal) ℓ) (g : Dev Cert.AdamwConvIdeal.nD → PrngReg), Pre_AdamwConvIdeal m →
    θ_run (Cert.AdamwConvIdeal.defs (F := Ideal)) (onTc (τ := Cert.AdamwConvIdeal.τ) (Cert.AdamwConvIdeal.main (F := Ideal))) ⟨m, fun _ => 0, g⟩ (fun r => (∀ c : Dev Cert.AdamwConvIdeal.nD,
      r.2.mem ((c.tc : Thread Cert.AdamwConvIdeal.nD Cert.AdamwConvIdeal.τ).loc Cert.AdamwConvIdeal.main_arg0) = m ((c.tc : Thread Cert.AdamwConvIdeal.nD Cert.AdamwConvIdeal.τ).loc Cert.AdamwConvIdeal.main_arg0)
      ∧ r.2.mem ((c.tc : Thread Cert.AdamwConvIdeal.nD Cert.AdamwConvIdeal.τ).loc Cert.AdamwConvIdeal.main_arg1) = m ((c.tc : Thread Cert.AdamwConvIdeal.nD Cert.AdamwConvIdeal.τ).loc Cert.AdamwConvIdeal.main_arg1)
      ∧ r.2.mem ((c.tc : Thread Cert.AdamwConvIdeal.nD Cert.AdamwConvIdeal.τ).loc Cert.AdamwConvIdeal.main_arg2) = m ((c.tc : Thread Cert.AdamwConvIdeal.nD Cert.AdamwConvIdeal.τ).loc Cert.AdamwConvIdeal.main_arg2)
      ∧ r.2.mem ((c.tc : Thread Cert.AdamwConvIdeal.nD Cert.AdamwConvIdeal.τ).loc Cert.AdamwConvIdeal.main_arg3) = m ((c.tc : Thread Cert.AdamwConvIdeal.nD Cert.AdamwConvIdeal.τ).loc Cert.AdamwConvIdeal.main_arg3))
      ∧ r.2.sem = fun _ => 0)

def quiescent_AdamwConvRefIdeal [hAdamwConvRefIdeal : Cert.AdamwConvRefIdeal.Facts] : Prop :=
  ∀ (m : (ℓ : Loc Cert.AdamwConvRefIdeal.nD Cert.AdamwConvRefIdeal.τ Cert.AdamwConvRefIdeal.sig) → Buf (Elt Ideal) ℓ) (g : Dev Cert.AdamwConvRefIdeal.nD → PrngReg), Pre_AdamwConvRefIdeal m →
    θ_run (Cert.AdamwConvRefIdeal.defs (F := Ideal)) (onTc (τ := Cert.AdamwConvRefIdeal.τ) (Cert.AdamwConvRefIdeal.main (F := Ideal))) ⟨m, fun _ => 0, g⟩ (fun r => (∀ c : Dev Cert.AdamwConvRefIdeal.nD,
      r.2.mem ((c.tc : Thread Cert.AdamwConvRefIdeal.nD Cert.AdamwConvRefIdeal.τ).loc Cert.AdamwConvRefIdeal.main_arg0) = m ((c.tc : Thread Cert.AdamwConvRefIdeal.nD Cert.AdamwConvRefIdeal.τ).loc Cert.AdamwConvRefIdeal.main_arg0)
      ∧ r.2.mem ((c.tc : Thread Cert.AdamwConvRefIdeal.nD Cert.AdamwConvRefIdeal.τ).loc Cert.AdamwConvRefIdeal.main_arg1) = m ((c.tc : Thread Cert.AdamwConvRefIdeal.nD Cert.AdamwConvRefIdeal.τ).loc Cert.AdamwConvRefIdeal.main_arg1)
      ∧ r.2.mem ((c.tc : Thread Cert.AdamwConvRefIdeal.nD Cert.AdamwConvRefIdeal.τ).loc Cert.AdamwConvRefIdeal.main_arg2) = m ((c.tc : Thread Cert.AdamwConvRefIdeal.nD Cert.AdamwConvRefIdeal.τ).loc Cert.AdamwConvRefIdeal.main_arg2)
      ∧ r.2.mem ((c.tc : Thread Cert.AdamwConvRefIdeal.nD Cert.AdamwConvRefIdeal.τ).loc Cert.AdamwConvRefIdeal.main_arg3) = m ((c.tc : Thread Cert.AdamwConvRefIdeal.nD Cert.AdamwConvRefIdeal.τ).loc Cert.AdamwConvRefIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def bitexact_SwapHalves_SwapHalvesRef [hSwapHalves : Cert.SwapHalves.Facts] [hSwapHalvesRef : Cert.SwapHalvesRef.Facts] : Prop :=
  ∀ (m : (ℓ : Loc Cert.SwapHalves.nD Cert.SwapHalves.τ Cert.SwapHalves.sig) → Buf (Elt Bits) ℓ) (g : Dev Cert.SwapHalves.nD → PrngReg)
    (m' : (ℓ : Loc Cert.SwapHalvesRef.nD Cert.SwapHalvesRef.τ Cert.SwapHalvesRef.sig) → Buf (Elt Bits) ℓ) (g' : Dev Cert.SwapHalvesRef.nD → PrngReg), Pre_SwapHalves m →
    (∀ c : Dev Cert.SwapHalves.nD,
      m ((c.tc : Thread Cert.SwapHalves.nD Cert.SwapHalves.τ).loc Cert.SwapHalves.main_arg0) = Layout.block ⟨5, ![4, 2, 8, 1024, 704]⟩ ⟨5, ![32, 2, 8, 1024, 704]⟩ 0 8 c (m' (((0 : Dev Cert.SwapHalvesRef.nD).tc : Thread Cert.SwapHalvesRef.nD Cert.SwapHalvesRef.τ).loc Cert.SwapHalvesRef.main_arg0))
      ∧ m ((c.tc : Thread Cert.SwapHalves.nD Cert.SwapHalves.τ).loc Cert.SwapHalves.main_arg1) = Layout.block ⟨5, ![4, 2, 10, 512, 1024]⟩ ⟨5, ![32, 2, 10, 512, 1024]⟩ 0 8 c (m' (((0 : Dev Cert.SwapHalvesRef.nD).tc : Thread Cert.SwapHalvesRef.nD Cert.SwapHalvesRef.τ).loc Cert.SwapHalvesRef.main_arg1))) →
    ∃ (v0 : Buf (Elt Bits) (((0 : Dev Cert.SwapHalvesRef.nD).tc : Thread Cert.SwapHalvesRef.nD Cert.SwapHalvesRef.τ).loc Cert.SwapHalvesRef.main_v8)) (v1 : Buf (Elt Bits) (((0 : Dev Cert.SwapHalvesRef.nD).tc : Thread Cert.SwapHalvesRef.nD Cert.SwapHalvesRef.τ).loc Cert.SwapHalvesRef.main_v17)),
      θ_run (Cert.SwapHalves.defs (F := Bits)) (onTc (τ := Cert.SwapHalves.τ) (Cert.SwapHalves.main (F := Bits))) ⟨m, fun _ => 0, g⟩ (fun r => ∀ c : Dev Cert.SwapHalves.nD,
          r.2.mem ((c.tc : Thread Cert.SwapHalves.nD Cert.SwapHalves.τ).loc Cert.SwapHalves.main_v1_0) = Layout.block ⟨4, ![4, 8, 1024, 704]⟩ ⟨4, ![32, 8, 1024, 704]⟩ 0 8 c v0
          ∧ r.2.mem ((c.tc : Thread Cert.SwapHalves.nD Cert.SwapHalves.τ).loc Cert.SwapHalves.main_v1_1) = Layout.block ⟨4, ![4, 10, 512, 1024]⟩ ⟨4, ![32, 10, 512, 1024]⟩ 0 8 c v1
          ∧ r.2.mem ((c.tc : Thread Cert.SwapHalves.nD Cert.SwapHalves.τ).loc Cert.SwapHalves.main_arg0) = m ((c.tc : Thread Cert.SwapHalves.nD Cert.SwapHalves.τ).loc Cert.SwapHalves.main_arg0)
          ∧ r.2.mem ((c.tc : Thread Cert.SwapHalves.nD Cert.SwapHalves.τ).loc Cert.SwapHalves.main_arg1) = m ((c.tc : Thread Cert.SwapHalves.nD Cert.SwapHalves.τ).loc Cert.SwapHalves.main_arg1))
      ∧ θ_run (Cert.SwapHalvesRef.defs (F := Bits)) (onTc (τ := Cert.SwapHalvesRef.τ) (Cert.SwapHalvesRef.main (F := Bits))) ⟨m', fun _ => 0, g'⟩ (fun r =>
          r.2.mem (((0 : Dev Cert.SwapHalvesRef.nD).tc : Thread Cert.SwapHalvesRef.nD Cert.SwapHalvesRef.τ).loc Cert.SwapHalvesRef.main_v8) = v0
          ∧ r.2.mem (((0 : Dev Cert.SwapHalvesRef.nD).tc : Thread Cert.SwapHalvesRef.nD Cert.SwapHalvesRef.τ).loc Cert.SwapHalvesRef.main_v17) = v1
          ∧ r.2.mem (((0 : Dev Cert.SwapHalvesRef.nD).tc : Thread Cert.SwapHalvesRef.nD Cert.SwapHalvesRef.τ).loc Cert.SwapHalvesRef.main_arg0) = m' (((0 : Dev Cert.SwapHalvesRef.nD).tc : Thread Cert.SwapHalvesRef.nD Cert.SwapHalvesRef.τ).loc Cert.SwapHalvesRef.main_arg0)
          ∧ r.2.mem (((0 : Dev Cert.SwapHalvesRef.nD).tc : Thread Cert.SwapHalvesRef.nD Cert.SwapHalvesRef.τ).loc Cert.SwapHalvesRef.main_arg1) = m' (((0 : Dev Cert.SwapHalvesRef.nD).tc : Thread Cert.SwapHalvesRef.nD Cert.SwapHalvesRef.τ).loc Cert.SwapHalvesRef.main_arg1))

def bitexact_ExchangeChips_ExchangeChipsRef [hExchangeChips : Cert.ExchangeChips.Facts] [hExchangeChipsRef : Cert.ExchangeChipsRef.Facts] : Prop :=
  ∀ (m : (ℓ : Loc Cert.ExchangeChips.nD Cert.ExchangeChips.τ Cert.ExchangeChips.sig) → Buf (Elt Bits) ℓ) (g : Dev Cert.ExchangeChips.nD → PrngReg)
    (m' : (ℓ : Loc Cert.ExchangeChipsRef.nD Cert.ExchangeChipsRef.τ Cert.ExchangeChipsRef.sig) → Buf (Elt Bits) ℓ) (g' : Dev Cert.ExchangeChipsRef.nD → PrngReg), Pre_ExchangeChips m →
    (∀ c : Dev Cert.ExchangeChips.nD,
      m ((c.tc : Thread Cert.ExchangeChips.nD Cert.ExchangeChips.τ).loc Cert.ExchangeChips.main_arg0) = Layout.block ⟨4, ![4, 8, 1024, 704]⟩ ⟨4, ![32, 8, 1024, 704]⟩ 0 8 c (m' (((0 : Dev Cert.ExchangeChipsRef.nD).tc : Thread Cert.ExchangeChipsRef.nD Cert.ExchangeChipsRef.τ).loc Cert.ExchangeChipsRef.main_arg0))
      ∧ m ((c.tc : Thread Cert.ExchangeChips.nD Cert.ExchangeChips.τ).loc Cert.ExchangeChips.main_arg1) = Layout.block ⟨4, ![4, 10, 512, 1024]⟩ ⟨4, ![32, 10, 512, 1024]⟩ 0 8 c (m' (((0 : Dev Cert.ExchangeChipsRef.nD).tc : Thread Cert.ExchangeChipsRef.nD Cert.ExchangeChipsRef.τ).loc Cert.ExchangeChipsRef.main_arg1))) →
    ∃ (v0 : Buf (Elt Bits) (((0 : Dev Cert.ExchangeChipsRef.nD).tc : Thread Cert.ExchangeChipsRef.nD Cert.ExchangeChipsRef.τ).loc Cert.ExchangeChipsRef.main_v0)) (v1 : Buf (Elt Bits) (((0 : Dev Cert.ExchangeChipsRef.nD).tc : Thread Cert.ExchangeChipsRef.nD Cert.ExchangeChipsRef.τ).loc Cert.ExchangeChipsRef.main_v1)),
      θ_run (Cert.ExchangeChips.defs (F := Bits)) (onTc (τ := Cert.ExchangeChips.τ) (Cert.ExchangeChips.main (F := Bits))) ⟨m, fun _ => 0, g⟩ (fun r => ∀ c : Dev Cert.ExchangeChips.nD,
          r.2.mem ((c.tc : Thread Cert.ExchangeChips.nD Cert.ExchangeChips.τ).loc Cert.ExchangeChips.main_v1_0) = Layout.block ⟨4, ![3, 8, 1024, 704]⟩ ⟨4, ![24, 8, 1024, 704]⟩ 0 8 c v0
          ∧ r.2.mem ((c.tc : Thread Cert.ExchangeChips.nD Cert.ExchangeChips.τ).loc Cert.ExchangeChips.main_v1_1) = Layout.block ⟨4, ![3, 10, 512, 1024]⟩ ⟨4, ![24, 10, 512, 1024]⟩ 0 8 c v1
          ∧ r.2.mem ((c.tc : Thread Cert.ExchangeChips.nD Cert.ExchangeChips.τ).loc Cert.ExchangeChips.main_arg0) = m ((c.tc : Thread Cert.ExchangeChips.nD Cert.ExchangeChips.τ).loc Cert.ExchangeChips.main_arg0)
          ∧ r.2.mem ((c.tc : Thread Cert.ExchangeChips.nD Cert.ExchangeChips.τ).loc Cert.ExchangeChips.main_arg1) = m ((c.tc : Thread Cert.ExchangeChips.nD Cert.ExchangeChips.τ).loc Cert.ExchangeChips.main_arg1))
      ∧ θ_run (Cert.ExchangeChipsRef.defs (F := Bits)) (onTc (τ := Cert.ExchangeChipsRef.τ) (Cert.ExchangeChipsRef.main (F := Bits))) ⟨m', fun _ => 0, g'⟩ (fun r =>
          r.2.mem (((0 : Dev Cert.ExchangeChipsRef.nD).tc : Thread Cert.ExchangeChipsRef.nD Cert.ExchangeChipsRef.τ).loc Cert.ExchangeChipsRef.main_v0) = v0
          ∧ r.2.mem (((0 : Dev Cert.ExchangeChipsRef.nD).tc : Thread Cert.ExchangeChipsRef.nD Cert.ExchangeChipsRef.τ).loc Cert.ExchangeChipsRef.main_v1) = v1
          ∧ r.2.mem (((0 : Dev Cert.ExchangeChipsRef.nD).tc : Thread Cert.ExchangeChipsRef.nD Cert.ExchangeChipsRef.τ).loc Cert.ExchangeChipsRef.main_arg0) = m' (((0 : Dev Cert.ExchangeChipsRef.nD).tc : Thread Cert.ExchangeChipsRef.nD Cert.ExchangeChipsRef.τ).loc Cert.ExchangeChipsRef.main_arg0)
          ∧ r.2.mem (((0 : Dev Cert.ExchangeChipsRef.nD).tc : Thread Cert.ExchangeChipsRef.nD Cert.ExchangeChipsRef.τ).loc Cert.ExchangeChipsRef.main_arg1) = m' (((0 : Dev Cert.ExchangeChipsRef.nD).tc : Thread Cert.ExchangeChipsRef.nD Cert.ExchangeChipsRef.τ).loc Cert.ExchangeChipsRef.main_arg1))

def bitexact_SwapReduced_SwapReducedRef [hSwapReduced : Cert.SwapReduced.Facts] [hSwapReducedRef : Cert.SwapReducedRef.Facts] : Prop :=
  ∀ (m : (ℓ : Loc Cert.SwapReduced.nD Cert.SwapReduced.τ Cert.SwapReduced.sig) → Buf (Elt Bits) ℓ) (g : Dev Cert.SwapReduced.nD → PrngReg)
    (m' : (ℓ : Loc Cert.SwapReducedRef.nD Cert.SwapReducedRef.τ Cert.SwapReducedRef.sig) → Buf (Elt Bits) ℓ) (g' : Dev Cert.SwapReducedRef.nD → PrngReg), Pre_SwapReduced m →
    (∀ c : Dev Cert.SwapReduced.nD,
      m ((c.tc : Thread Cert.SwapReduced.nD Cert.SwapReduced.τ).loc Cert.SwapReduced.main_arg0) = Layout.block ⟨3, ![8, 1024, 704]⟩ ⟨3, ![64, 1024, 704]⟩ 0 8 c (m' (((0 : Dev Cert.SwapReducedRef.nD).tc : Thread Cert.SwapReducedRef.nD Cert.SwapReducedRef.τ).loc Cert.SwapReducedRef.main_arg0))
      ∧ m ((c.tc : Thread Cert.SwapReduced.nD Cert.SwapReduced.τ).loc Cert.SwapReduced.main_arg1) = Layout.block ⟨3, ![10, 512, 1024]⟩ ⟨3, ![80, 512, 1024]⟩ 0 8 c (m' (((0 : Dev Cert.SwapReducedRef.nD).tc : Thread Cert.SwapReducedRef.nD Cert.SwapReducedRef.τ).loc Cert.SwapReducedRef.main_arg1))) →
    ∃ (v0 : Buf (Elt Bits) (((0 : Dev Cert.SwapReducedRef.nD).tc : Thread Cert.SwapReducedRef.nD Cert.SwapReducedRef.τ).loc Cert.SwapReducedRef.main_v8)) (v1 : Buf (Elt Bits) (((0 : Dev Cert.SwapReducedRef.nD).tc : Thread Cert.SwapReducedRef.nD Cert.SwapReducedRef.τ).loc Cert.SwapReducedRef.main_v17)),
      θ_run (Cert.SwapReduced.defs (F := Bits)) (onTc (τ := Cert.SwapReduced.τ) (Cert.SwapReduced.main (F := Bits))) ⟨m, fun _ => 0, g⟩ (fun r => ∀ c : Dev Cert.SwapReduced.nD,
          r.2.mem ((c.tc : Thread Cert.SwapReduced.nD Cert.SwapReduced.τ).loc Cert.SwapReduced.main_v1_0) = Layout.block ⟨3, ![8, 1024, 704]⟩ ⟨3, ![64, 1024, 704]⟩ 0 8 c v0
          ∧ r.2.mem ((c.tc : Thread Cert.SwapReduced.nD Cert.SwapReduced.τ).loc Cert.SwapReduced.main_v1_1) = Layout.block ⟨3, ![10, 512, 1024]⟩ ⟨3, ![80, 512, 1024]⟩ 0 8 c v1
          ∧ r.2.mem ((c.tc : Thread Cert.SwapReduced.nD Cert.SwapReduced.τ).loc Cert.SwapReduced.main_arg0) = m ((c.tc : Thread Cert.SwapReduced.nD Cert.SwapReduced.τ).loc Cert.SwapReduced.main_arg0)
          ∧ r.2.mem ((c.tc : Thread Cert.SwapReduced.nD Cert.SwapReduced.τ).loc Cert.SwapReduced.main_arg1) = m ((c.tc : Thread Cert.SwapReduced.nD Cert.SwapReduced.τ).loc Cert.SwapReduced.main_arg1))
      ∧ θ_run (Cert.SwapReducedRef.defs (F := Bits)) (onTc (τ := Cert.SwapReducedRef.τ) (Cert.SwapReducedRef.main (F := Bits))) ⟨m', fun _ => 0, g'⟩ (fun r =>
          r.2.mem (((0 : Dev Cert.SwapReducedRef.nD).tc : Thread Cert.SwapReducedRef.nD Cert.SwapReducedRef.τ).loc Cert.SwapReducedRef.main_v8) = v0
          ∧ r.2.mem (((0 : Dev Cert.SwapReducedRef.nD).tc : Thread Cert.SwapReducedRef.nD Cert.SwapReducedRef.τ).loc Cert.SwapReducedRef.main_v17) = v1
          ∧ r.2.mem (((0 : Dev Cert.SwapReducedRef.nD).tc : Thread Cert.SwapReducedRef.nD Cert.SwapReducedRef.τ).loc Cert.SwapReducedRef.main_arg0) = m' (((0 : Dev Cert.SwapReducedRef.nD).tc : Thread Cert.SwapReducedRef.nD Cert.SwapReducedRef.τ).loc Cert.SwapReducedRef.main_arg0)
          ∧ r.2.mem (((0 : Dev Cert.SwapReducedRef.nD).tc : Thread Cert.SwapReducedRef.nD Cert.SwapReducedRef.τ).loc Cert.SwapReducedRef.main_arg1) = m' (((0 : Dev Cert.SwapReducedRef.nD).tc : Thread Cert.SwapReducedRef.nD Cert.SwapReducedRef.τ).loc Cert.SwapReducedRef.main_arg1))

def bitexact_GatherSmall_GatherSmallRef [hGatherSmall : Cert.GatherSmall.Facts] [hGatherSmallRef : Cert.GatherSmallRef.Facts] : Prop :=
  ∀ (m : (ℓ : Loc Cert.GatherSmall.nD Cert.GatherSmall.τ Cert.GatherSmall.sig) → Buf (Elt Bits) ℓ) (g : Dev Cert.GatherSmall.nD → PrngReg)
    (m' : (ℓ : Loc Cert.GatherSmallRef.nD Cert.GatherSmallRef.τ Cert.GatherSmallRef.sig) → Buf (Elt Bits) ℓ) (g' : Dev Cert.GatherSmallRef.nD → PrngReg), Pre_GatherSmall m →
    (∀ c : Dev Cert.GatherSmall.nD,
      m ((c.tc : Thread Cert.GatherSmall.nD Cert.GatherSmall.τ).loc Cert.GatherSmall.main_arg0) = Layout.block ⟨2, ![288, 1024]⟩ ⟨2, ![2304, 1024]⟩ 0 8 c (m' (((0 : Dev Cert.GatherSmallRef.nD).tc : Thread Cert.GatherSmallRef.nD Cert.GatherSmallRef.τ).loc Cert.GatherSmallRef.main_arg0))) →
    ∃ (v0 : Buf (Elt Bits) (((0 : Dev Cert.GatherSmallRef.nD).tc : Thread Cert.GatherSmallRef.nD Cert.GatherSmallRef.τ).loc Cert.GatherSmallRef.main_v0)),
      θ_run (Cert.GatherSmall.defs (F := Bits)) (onTc (τ := Cert.GatherSmall.τ) (Cert.GatherSmall.main (F := Bits))) ⟨m, fun _ => 0, g⟩ (fun r => ∀ c : Dev Cert.GatherSmall.nD,
          r.2.mem ((c.tc : Thread Cert.GatherSmall.nD Cert.GatherSmall.τ).loc Cert.GatherSmall.main_v1) = v0
          ∧ r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ θ_run (Cert.GatherSmallRef.defs (F := Bits)) (onTc (τ := Cert.GatherSmallRef.τ) (Cert.GatherSmallRef.main (F := Bits))) ⟨m', fun _ => 0, g'⟩ (fun r =>
          r.2.mem (((0 : Dev Cert.GatherSmallRef.nD).tc : Thread Cert.GatherSmallRef.nD Cert.GatherSmallRef.τ).loc Cert.GatherSmallRef.main_v0) = v0
          ∧ r.2.mem (((0 : Dev Cert.GatherSmallRef.nD).tc : Thread Cert.GatherSmallRef.nD Cert.GatherSmallRef.τ).loc Cert.GatherSmallRef.main_arg0) = m' (((0 : Dev Cert.GatherSmallRef.nD).tc : Thread Cert.GatherSmallRef.nD Cert.GatherSmallRef.τ).loc Cert.GatherSmallRef.main_arg0))

def bitexact_GatherWeights_GatherWeightsRef [hGatherWeights : Cert.GatherWeights.Facts] [hGatherWeightsRef : Cert.GatherWeightsRef.Facts] : Prop :=
  ∀ (m : (ℓ : Loc Cert.GatherWeights.nD Cert.GatherWeights.τ Cert.GatherWeights.sig) → Buf (Elt Bits) ℓ) (g : Dev Cert.GatherWeights.nD → PrngReg)
    (m' : (ℓ : Loc Cert.GatherWeightsRef.nD Cert.GatherWeightsRef.τ Cert.GatherWeightsRef.sig) → Buf (Elt Bits) ℓ) (g' : Dev Cert.GatherWeightsRef.nD → PrngReg), Pre_GatherWeights m →
    (∀ c : Dev Cert.GatherWeights.nD,
      m ((c.tc : Thread Cert.GatherWeights.nD Cert.GatherWeights.τ).loc Cert.GatherWeights.main_arg0) = Layout.blockN ⟨4, ![2, 8, 1024, 704]⟩ ⟨4, ![8, 8, 1024, 704]⟩ (Layout.meshBlock [2, 2, 2] ![[0, 1], [], [], []] c) (m' (((0 : Dev Cert.GatherWeightsRef.nD).tc : Thread Cert.GatherWeightsRef.nD Cert.GatherWeightsRef.τ).loc Cert.GatherWeightsRef.main_arg0))
      ∧ m ((c.tc : Thread Cert.GatherWeights.nD Cert.GatherWeights.τ).loc Cert.GatherWeights.main_arg1) = Layout.blockN ⟨4, ![2, 10, 512, 1024]⟩ ⟨4, ![8, 10, 512, 1024]⟩ (Layout.meshBlock [2, 2, 2] ![[0, 1], [], [], []] c) (m' (((0 : Dev Cert.GatherWeightsRef.nD).tc : Thread Cert.GatherWeightsRef.nD Cert.GatherWeightsRef.τ).loc Cert.GatherWeightsRef.main_arg1))) →
    ∃ (v0 : Buf (Elt Bits) (((0 : Dev Cert.GatherWeightsRef.nD).tc : Thread Cert.GatherWeightsRef.nD Cert.GatherWeightsRef.τ).loc Cert.GatherWeightsRef.main_v0)) (v1 : Buf (Elt Bits) (((0 : Dev Cert.GatherWeightsRef.nD).tc : Thread Cert.GatherWeightsRef.nD Cert.GatherWeightsRef.τ).loc Cert.GatherWeightsRef.main_v1)),
      θ_run (Cert.GatherWeights.defs (F := Bits)) (onTc (τ := Cert.GatherWeights.τ) (Cert.GatherWeights.main (F := Bits))) ⟨m, fun _ => 0, g⟩ (fun r => ∀ c : Dev Cert.GatherWeights.nD,
          r.2.mem ((c.tc : Thread Cert.GatherWeights.nD Cert.GatherWeights.τ).loc Cert.GatherWeights.main_v17) = v0
          ∧ r.2.mem ((c.tc : Thread Cert.GatherWeights.nD Cert.GatherWeights.τ).loc Cert.GatherWeights.main_v19) = v1
          ∧ r.2.mem ((c.tc : Thread Cert.GatherWeights.nD Cert.GatherWeights.τ).loc Cert.GatherWeights.main_arg0) = m ((c.tc : Thread Cert.GatherWeights.nD Cert.GatherWeights.τ).loc Cert.GatherWeights.main_arg0)
          ∧ r.2.mem ((c.tc : Thread Cert.GatherWeights.nD Cert.GatherWeights.τ).loc Cert.GatherWeights.main_arg1) = m ((c.tc : Thread Cert.GatherWeights.nD Cert.GatherWeights.τ).loc Cert.GatherWeights.main_arg1))
      ∧ θ_run (Cert.GatherWeightsRef.defs (F := Bits)) (onTc (τ := Cert.GatherWeightsRef.τ) (Cert.GatherWeightsRef.main (F := Bits))) ⟨m', fun _ => 0, g'⟩ (fun r =>
          r.2.mem (((0 : Dev Cert.GatherWeightsRef.nD).tc : Thread Cert.GatherWeightsRef.nD Cert.GatherWeightsRef.τ).loc Cert.GatherWeightsRef.main_v0) = v0
          ∧ r.2.mem (((0 : Dev Cert.GatherWeightsRef.nD).tc : Thread Cert.GatherWeightsRef.nD Cert.GatherWeightsRef.τ).loc Cert.GatherWeightsRef.main_v1) = v1
          ∧ r.2.mem (((0 : Dev Cert.GatherWeightsRef.nD).tc : Thread Cert.GatherWeightsRef.nD Cert.GatherWeightsRef.τ).loc Cert.GatherWeightsRef.main_arg0) = m' (((0 : Dev Cert.GatherWeightsRef.nD).tc : Thread Cert.GatherWeightsRef.nD Cert.GatherWeightsRef.τ).loc Cert.GatherWeightsRef.main_arg0)
          ∧ r.2.mem (((0 : Dev Cert.GatherWeightsRef.nD).tc : Thread Cert.GatherWeightsRef.nD Cert.GatherWeightsRef.τ).loc Cert.GatherWeightsRef.main_arg1) = m' (((0 : Dev Cert.GatherWeightsRef.nD).tc : Thread Cert.GatherWeightsRef.nD Cert.GatherWeightsRef.τ).loc Cert.GatherWeightsRef.main_arg1))

def bitexact_SumSmall_SumSmallRef [hSumSmall : Cert.SumSmall.Facts] [hSumSmallRef : Cert.SumSmallRef.Facts] : Prop :=
  ∀ (m : (ℓ : Loc Cert.SumSmall.nD Cert.SumSmall.τ Cert.SumSmall.sig) → Buf (Elt Bits) ℓ) (g : Dev Cert.SumSmall.nD → PrngReg)
    (m' : (ℓ : Loc Cert.SumSmallRef.nD Cert.SumSmallRef.τ Cert.SumSmallRef.sig) → Buf (Elt Bits) ℓ) (g' : Dev Cert.SumSmallRef.nD → PrngReg), Pre_SumSmall m →
    (∀ c : Dev Cert.SumSmall.nD,
      m' ((c.tc : Thread Cert.SumSmallRef.nD Cert.SumSmallRef.τ).loc Cert.SumSmallRef.main_arg0) = m ((c.tc : Thread Cert.SumSmall.nD Cert.SumSmall.τ).loc Cert.SumSmall.main_arg0)) →
    ∃ (v0 : (c : Dev Cert.SumSmall.nD) → Buf (Elt Bits) ((c.tc : Thread Cert.SumSmall.nD Cert.SumSmall.τ).loc Cert.SumSmall.main_v0)),
      θ_run (Cert.SumSmall.defs (F := Bits)) (onTc (τ := Cert.SumSmall.τ) (Cert.SumSmall.main (F := Bits))) ⟨m, fun _ => 0, g⟩ (fun r => ∀ c : Dev Cert.SumSmall.nD,
          r.2.mem ((c.tc : Thread Cert.SumSmall.nD Cert.SumSmall.τ).loc Cert.SumSmall.main_v0) = v0 c
          ∧ r.2.mem ((c.tc : Thread Cert.SumSmall.nD Cert.SumSmall.τ).loc Cert.SumSmall.main_arg0) = m ((c.tc : Thread Cert.SumSmall.nD Cert.SumSmall.τ).loc Cert.SumSmall.main_arg0))
      ∧ θ_run (Cert.SumSmallRef.defs (F := Bits)) (onTc (τ := Cert.SumSmallRef.τ) (Cert.SumSmallRef.main (F := Bits))) ⟨m', fun _ => 0, g'⟩ (fun r => ∀ c : Dev Cert.SumSmallRef.nD,
          r.2.mem ((c.tc : Thread Cert.SumSmallRef.nD Cert.SumSmallRef.τ).loc Cert.SumSmallRef.main_v22) = v0 c
          ∧ r.2.mem ((c.tc : Thread Cert.SumSmallRef.nD Cert.SumSmallRef.τ).loc Cert.SumSmallRef.main_arg0) = m' ((c.tc : Thread Cert.SumSmallRef.nD Cert.SumSmallRef.τ).loc Cert.SumSmallRef.main_arg0))

def bitexact_ChipsWide_ChipsWideRef [hChipsWide : Cert.ChipsWide.Facts] [hChipsWideRef : Cert.ChipsWideRef.Facts] : Prop :=
  ∀ (m : (ℓ : Loc Cert.ChipsWide.nD Cert.ChipsWide.τ Cert.ChipsWide.sig) → Buf (Elt Bits) ℓ) (g : Dev Cert.ChipsWide.nD → PrngReg)
    (m' : (ℓ : Loc Cert.ChipsWideRef.nD Cert.ChipsWideRef.τ Cert.ChipsWideRef.sig) → Buf (Elt Bits) ℓ) (g' : Dev Cert.ChipsWideRef.nD → PrngReg), Pre_ChipsWide m →
    (∀ c : Dev Cert.ChipsWide.nD,
      m' ((c.tc : Thread Cert.ChipsWideRef.nD Cert.ChipsWideRef.τ).loc Cert.ChipsWideRef.main_arg0) = m ((c.tc : Thread Cert.ChipsWide.nD Cert.ChipsWide.τ).loc Cert.ChipsWide.main_arg0)
      ∧ m' ((c.tc : Thread Cert.ChipsWideRef.nD Cert.ChipsWideRef.τ).loc Cert.ChipsWideRef.main_arg1) = m ((c.tc : Thread Cert.ChipsWide.nD Cert.ChipsWide.τ).loc Cert.ChipsWide.main_arg1)) →
    ∃ (v0 : (c : Dev Cert.ChipsWide.nD) → Buf (Elt Bits) ((c.tc : Thread Cert.ChipsWide.nD Cert.ChipsWide.τ).loc Cert.ChipsWide.main_v0)),
      θ_run (Cert.ChipsWide.defs (F := Bits)) (onTc (τ := Cert.ChipsWide.τ) (Cert.ChipsWide.main (F := Bits))) ⟨m, fun _ => 0, g⟩ (fun r => ∀ c : Dev Cert.ChipsWide.nD,
          r.2.mem ((c.tc : Thread Cert.ChipsWide.nD Cert.ChipsWide.τ).loc Cert.ChipsWide.main_v0) = v0 c
          ∧ r.2.mem ((c.tc : Thread Cert.ChipsWide.nD Cert.ChipsWide.τ).loc Cert.ChipsWide.main_arg0) = m ((c.tc : Thread Cert.ChipsWide.nD Cert.ChipsWide.τ).loc Cert.ChipsWide.main_arg0)
          ∧ r.2.mem ((c.tc : Thread Cert.ChipsWide.nD Cert.ChipsWide.τ).loc Cert.ChipsWide.main_arg1) = m ((c.tc : Thread Cert.ChipsWide.nD Cert.ChipsWide.τ).loc Cert.ChipsWide.main_arg1))
      ∧ θ_run (Cert.ChipsWideRef.defs (F := Bits)) (onTc (τ := Cert.ChipsWideRef.τ) (Cert.ChipsWideRef.main (F := Bits))) ⟨m', fun _ => 0, g'⟩ (fun r => ∀ c : Dev Cert.ChipsWideRef.nD,
          r.2.mem ((c.tc : Thread Cert.ChipsWideRef.nD Cert.ChipsWideRef.τ).loc Cert.ChipsWideRef.main_v11) = v0 c
          ∧ r.2.mem ((c.tc : Thread Cert.ChipsWideRef.nD Cert.ChipsWideRef.τ).loc Cert.ChipsWideRef.main_arg0) = m' ((c.tc : Thread Cert.ChipsWideRef.nD Cert.ChipsWideRef.τ).loc Cert.ChipsWideRef.main_arg0)
          ∧ r.2.mem ((c.tc : Thread Cert.ChipsWideRef.nD Cert.ChipsWideRef.τ).loc Cert.ChipsWideRef.main_arg1) = m' ((c.tc : Thread Cert.ChipsWideRef.nD Cert.ChipsWideRef.τ).loc Cert.ChipsWideRef.main_arg1))

def bitexact_ChipsRows_ChipsRowsRef [hChipsRows : Cert.ChipsRows.Facts] [hChipsRowsRef : Cert.ChipsRowsRef.Facts] : Prop :=
  ∀ (m : (ℓ : Loc Cert.ChipsRows.nD Cert.ChipsRows.τ Cert.ChipsRows.sig) → Buf (Elt Bits) ℓ) (g : Dev Cert.ChipsRows.nD → PrngReg)
    (m' : (ℓ : Loc Cert.ChipsRowsRef.nD Cert.ChipsRowsRef.τ Cert.ChipsRowsRef.sig) → Buf (Elt Bits) ℓ) (g' : Dev Cert.ChipsRowsRef.nD → PrngReg), Pre_ChipsRows m →
    (∀ c : Dev Cert.ChipsRows.nD,
      m' ((c.tc : Thread Cert.ChipsRowsRef.nD Cert.ChipsRowsRef.τ).loc Cert.ChipsRowsRef.main_arg0) = m ((c.tc : Thread Cert.ChipsRows.nD Cert.ChipsRows.τ).loc Cert.ChipsRows.main_arg0)
      ∧ m' ((c.tc : Thread Cert.ChipsRowsRef.nD Cert.ChipsRowsRef.τ).loc Cert.ChipsRowsRef.main_arg1) = m ((c.tc : Thread Cert.ChipsRows.nD Cert.ChipsRows.τ).loc Cert.ChipsRows.main_arg1)) →
    ∃ (v0 : (c : Dev Cert.ChipsRows.nD) → Buf (Elt Bits) ((c.tc : Thread Cert.ChipsRows.nD Cert.ChipsRows.τ).loc Cert.ChipsRows.main_v0)),
      θ_run (Cert.ChipsRows.defs (F := Bits)) (onTc (τ := Cert.ChipsRows.τ) (Cert.ChipsRows.main (F := Bits))) ⟨m, fun _ => 0, g⟩ (fun r => ∀ c : Dev Cert.ChipsRows.nD,
          r.2.mem ((c.tc : Thread Cert.ChipsRows.nD Cert.ChipsRows.τ).loc Cert.ChipsRows.main_v0) = v0 c
          ∧ r.2.mem ((c.tc : Thread Cert.ChipsRows.nD Cert.ChipsRows.τ).loc Cert.ChipsRows.main_arg0) = m ((c.tc : Thread Cert.ChipsRows.nD Cert.ChipsRows.τ).loc Cert.ChipsRows.main_arg0)
          ∧ r.2.mem ((c.tc : Thread Cert.ChipsRows.nD Cert.ChipsRows.τ).loc Cert.ChipsRows.main_arg1) = m ((c.tc : Thread Cert.ChipsRows.nD Cert.ChipsRows.τ).loc Cert.ChipsRows.main_arg1))
      ∧ θ_run (Cert.ChipsRowsRef.defs (F := Bits)) (onTc (τ := Cert.ChipsRowsRef.τ) (Cert.ChipsRowsRef.main (F := Bits))) ⟨m', fun _ => 0, g'⟩ (fun r => ∀ c : Dev Cert.ChipsRowsRef.nD,
          r.2.mem ((c.tc : Thread Cert.ChipsRowsRef.nD Cert.ChipsRowsRef.τ).loc Cert.ChipsRowsRef.main_v11) = v0 c
          ∧ r.2.mem ((c.tc : Thread Cert.ChipsRowsRef.nD Cert.ChipsRowsRef.τ).loc Cert.ChipsRowsRef.main_arg0) = m' ((c.tc : Thread Cert.ChipsRowsRef.nD Cert.ChipsRowsRef.τ).loc Cert.ChipsRowsRef.main_arg0)
          ∧ r.2.mem ((c.tc : Thread Cert.ChipsRowsRef.nD Cert.ChipsRowsRef.τ).loc Cert.ChipsRowsRef.main_arg1) = m' ((c.tc : Thread Cert.ChipsRowsRef.nD Cert.ChipsRowsRef.τ).loc Cert.ChipsRowsRef.main_arg1))

def bitexact_SiblingWide_SiblingWideRef [hSiblingWide : Cert.SiblingWide.Facts] [hSiblingWideRef : Cert.SiblingWideRef.Facts] : Prop :=
  ∀ (m : (ℓ : Loc Cert.SiblingWide.nD Cert.SiblingWide.τ Cert.SiblingWide.sig) → Buf (Elt Bits) ℓ) (g : Dev Cert.SiblingWide.nD → PrngReg)
    (m' : (ℓ : Loc Cert.SiblingWideRef.nD Cert.SiblingWideRef.τ Cert.SiblingWideRef.sig) → Buf (Elt Bits) ℓ) (g' : Dev Cert.SiblingWideRef.nD → PrngReg), Pre_SiblingWide m →
    (∀ c : Dev Cert.SiblingWide.nD,
      m ((c.tc : Thread Cert.SiblingWide.nD Cert.SiblingWide.τ).loc Cert.SiblingWide.main_arg0) = Layout.block ⟨5, ![4, 2, 8, 1024, 704]⟩ ⟨5, ![32, 2, 8, 1024, 704]⟩ 0 8 c (m' (((0 : Dev Cert.SiblingWideRef.nD).tc : Thread Cert.SiblingWideRef.nD Cert.SiblingWideRef.τ).loc Cert.SiblingWideRef.main_arg0))
      ∧ m ((c.tc : Thread Cert.SiblingWide.nD Cert.SiblingWide.τ).loc Cert.SiblingWide.main_arg1) = Layout.block ⟨4, ![4, 8, 1024, 704]⟩ ⟨4, ![32, 8, 1024, 704]⟩ 0 8 c (m' (((0 : Dev Cert.SiblingWideRef.nD).tc : Thread Cert.SiblingWideRef.nD Cert.SiblingWideRef.τ).loc Cert.SiblingWideRef.main_arg1))) →
    ∃ (v0 : Buf (Elt Bits) (((0 : Dev Cert.SiblingWideRef.nD).tc : Thread Cert.SiblingWideRef.nD Cert.SiblingWideRef.τ).loc Cert.SiblingWideRef.main_v32)) (v1 : Buf (Elt Bits) (((0 : Dev Cert.SiblingWideRef.nD).tc : Thread Cert.SiblingWideRef.nD Cert.SiblingWideRef.τ).loc Cert.SiblingWideRef.main_v33)),
      θ_run (Cert.SiblingWide.defs (F := Bits)) (onTc (τ := Cert.SiblingWide.τ) (Cert.SiblingWide.main (F := Bits))) ⟨m, fun _ => 0, g⟩ (fun r => ∀ c : Dev Cert.SiblingWide.nD,
          r.2.mem ((c.tc : Thread Cert.SiblingWide.nD Cert.SiblingWide.τ).loc Cert.SiblingWide.main_v1_0) = Layout.block ⟨4, ![4, 8, 1024, 704]⟩ ⟨4, ![32, 8, 1024, 704]⟩ 0 8 c v0
          ∧ r.2.mem ((c.tc : Thread Cert.SiblingWide.nD Cert.SiblingWide.τ).loc Cert.SiblingWide.main_v1_1) = Layout.block ⟨3, ![8, 1024, 704]⟩ ⟨3, ![64, 1024, 704]⟩ 0 8 c v1
          ∧ r.2.mem ((c.tc : Thread Cert.SiblingWide.nD Cert.SiblingWide.τ).loc Cert.SiblingWide.main_arg0) = m ((c.tc : Thread Cert.SiblingWide.nD Cert.SiblingWide.τ).loc Cert.SiblingWide.main_arg0)
          ∧ r.2.mem ((c.tc : Thread Cert.SiblingWide.nD Cert.SiblingWide.τ).loc Cert.SiblingWide.main_arg1) = m ((c.tc : Thread Cert.SiblingWide.nD Cert.SiblingWide.τ).loc Cert.SiblingWide.main_arg1))
      ∧ θ_run (Cert.SiblingWideRef.defs (F := Bits)) (onTc (τ := Cert.SiblingWideRef.τ) (Cert.SiblingWideRef.main (F := Bits))) ⟨m', fun _ => 0, g'⟩ (fun r =>
          r.2.mem (((0 : Dev Cert.SiblingWideRef.nD).tc : Thread Cert.SiblingWideRef.nD Cert.SiblingWideRef.τ).loc Cert.SiblingWideRef.main_v32) = v0
          ∧ r.2.mem (((0 : Dev Cert.SiblingWideRef.nD).tc : Thread Cert.SiblingWideRef.nD Cert.SiblingWideRef.τ).loc Cert.SiblingWideRef.main_v33) = v1
          ∧ r.2.mem (((0 : Dev Cert.SiblingWideRef.nD).tc : Thread Cert.SiblingWideRef.nD Cert.SiblingWideRef.τ).loc Cert.SiblingWideRef.main_arg0) = m' (((0 : Dev Cert.SiblingWideRef.nD).tc : Thread Cert.SiblingWideRef.nD Cert.SiblingWideRef.τ).loc Cert.SiblingWideRef.main_arg0)
          ∧ r.2.mem (((0 : Dev Cert.SiblingWideRef.nD).tc : Thread Cert.SiblingWideRef.nD Cert.SiblingWideRef.τ).loc Cert.SiblingWideRef.main_arg1) = m' (((0 : Dev Cert.SiblingWideRef.nD).tc : Thread Cert.SiblingWideRef.nD Cert.SiblingWideRef.τ).loc Cert.SiblingWideRef.main_arg1))

def bitexact_SiblingRows_SiblingRowsRef [hSiblingRows : Cert.SiblingRows.Facts] [hSiblingRowsRef : Cert.SiblingRowsRef.Facts] : Prop :=
  ∀ (m : (ℓ : Loc Cert.SiblingRows.nD Cert.SiblingRows.τ Cert.SiblingRows.sig) → Buf (Elt Bits) ℓ) (g : Dev Cert.SiblingRows.nD → PrngReg)
    (m' : (ℓ : Loc Cert.SiblingRowsRef.nD Cert.SiblingRowsRef.τ Cert.SiblingRowsRef.sig) → Buf (Elt Bits) ℓ) (g' : Dev Cert.SiblingRowsRef.nD → PrngReg), Pre_SiblingRows m →
    (∀ c : Dev Cert.SiblingRows.nD,
      m ((c.tc : Thread Cert.SiblingRows.nD Cert.SiblingRows.τ).loc Cert.SiblingRows.main_arg0) = Layout.block ⟨5, ![4, 2, 10, 512, 1024]⟩ ⟨5, ![32, 2, 10, 512, 1024]⟩ 0 8 c (m' (((0 : Dev Cert.SiblingRowsRef.nD).tc : Thread Cert.SiblingRowsRef.nD Cert.SiblingRowsRef.τ).loc Cert.SiblingRowsRef.main_arg0))
      ∧ m ((c.tc : Thread Cert.SiblingRows.nD Cert.SiblingRows.τ).loc Cert.SiblingRows.main_arg1) = Layout.block ⟨4, ![4, 10, 512, 1024]⟩ ⟨4, ![32, 10, 512, 1024]⟩ 0 8 c (m' (((0 : Dev Cert.SiblingRowsRef.nD).tc : Thread Cert.SiblingRowsRef.nD Cert.SiblingRowsRef.τ).loc Cert.SiblingRowsRef.main_arg1))) →
    ∃ (v0 : Buf (Elt Bits) (((0 : Dev Cert.SiblingRowsRef.nD).tc : Thread Cert.SiblingRowsRef.nD Cert.SiblingRowsRef.τ).loc Cert.SiblingRowsRef.main_v32)) (v1 : Buf (Elt Bits) (((0 : Dev Cert.SiblingRowsRef.nD).tc : Thread Cert.SiblingRowsRef.nD Cert.SiblingRowsRef.τ).loc Cert.SiblingRowsRef.main_v33)),
      θ_run (Cert.SiblingRows.defs (F := Bits)) (onTc (τ := Cert.SiblingRows.τ) (Cert.SiblingRows.main (F := Bits))) ⟨m, fun _ => 0, g⟩ (fun r => ∀ c : Dev Cert.SiblingRows.nD,
          r.2.mem ((c.tc : Thread Cert.SiblingRows.nD Cert.SiblingRows.τ).loc Cert.SiblingRows.main_v1_0) = Layout.block ⟨4, ![4, 10, 512, 1024]⟩ ⟨4, ![32, 10, 512, 1024]⟩ 0 8 c v0
          ∧ r.2.mem ((c.tc : Thread Cert.SiblingRows.nD Cert.SiblingRows.τ).loc Cert.SiblingRows.main_v1_1) = Layout.block ⟨3, ![10, 512, 1024]⟩ ⟨3, ![80, 512, 1024]⟩ 0 8 c v1
          ∧ r.2.mem ((c.tc : Thread Cert.SiblingRows.nD Cert.SiblingRows.τ).loc Cert.SiblingRows.main_arg0) = m ((c.tc : Thread Cert.SiblingRows.nD Cert.SiblingRows.τ).loc Cert.SiblingRows.main_arg0)
          ∧ r.2.mem ((c.tc : Thread Cert.SiblingRows.nD Cert.SiblingRows.τ).loc Cert.SiblingRows.main_arg1) = m ((c.tc : Thread Cert.SiblingRows.nD Cert.SiblingRows.τ).loc Cert.SiblingRows.main_arg1))
      ∧ θ_run (Cert.SiblingRowsRef.defs (F := Bits)) (onTc (τ := Cert.SiblingRowsRef.τ) (Cert.SiblingRowsRef.main (F := Bits))) ⟨m', fun _ => 0, g'⟩ (fun r =>
          r.2.mem (((0 : Dev Cert.SiblingRowsRef.nD).tc : Thread Cert.SiblingRowsRef.nD Cert.SiblingRowsRef.τ).loc Cert.SiblingRowsRef.main_v32) = v0
          ∧ r.2.mem (((0 : Dev Cert.SiblingRowsRef.nD).tc : Thread Cert.SiblingRowsRef.nD Cert.SiblingRowsRef.τ).loc Cert.SiblingRowsRef.main_v33) = v1
          ∧ r.2.mem (((0 : Dev Cert.SiblingRowsRef.nD).tc : Thread Cert.SiblingRowsRef.nD Cert.SiblingRowsRef.τ).loc Cert.SiblingRowsRef.main_arg0) = m' (((0 : Dev Cert.SiblingRowsRef.nD).tc : Thread Cert.SiblingRowsRef.nD Cert.SiblingRowsRef.τ).loc Cert.SiblingRowsRef.main_arg0)
          ∧ r.2.mem (((0 : Dev Cert.SiblingRowsRef.nD).tc : Thread Cert.SiblingRowsRef.nD Cert.SiblingRowsRef.τ).loc Cert.SiblingRowsRef.main_arg1) = m' (((0 : Dev Cert.SiblingRowsRef.nD).tc : Thread Cert.SiblingRowsRef.nD Cert.SiblingRowsRef.τ).loc Cert.SiblingRowsRef.main_arg1))

def preserves_FfnNorm_FfnNormIdeal : Prop :=
  True

def algebraic_FfnNormIdeal_FfnNormRefIdeal [hFfnNormIdeal : Cert.FfnNormIdeal.Facts] [hFfnNormRefIdeal : Cert.FfnNormRefIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormRefIdeal.nD Cert.FfnNormRefIdeal.τ Cert.FfnNormRefIdeal.sig) → Buf (Elt Ideal) ℓ) (g' : Dev Cert.FfnNormRefIdeal.nD → PrngReg), Pre_FfnNormIdeal m →
    (∀ c : Dev Cert.FfnNormIdeal.nD,
      m' ((c.tc : Thread Cert.FfnNormRefIdeal.nD Cert.FfnNormRefIdeal.τ).loc Cert.FfnNormRefIdeal.main_arg0) = m ((c.tc : Thread Cert.FfnNormIdeal.nD Cert.FfnNormIdeal.τ).loc Cert.FfnNormIdeal.main_arg0)
      ∧ m' ((c.tc : Thread Cert.FfnNormRefIdeal.nD Cert.FfnNormRefIdeal.τ).loc Cert.FfnNormRefIdeal.main_arg1) = m ((c.tc : Thread Cert.FfnNormIdeal.nD Cert.FfnNormIdeal.τ).loc Cert.FfnNormIdeal.main_arg1)) →
    ∃ (v0 : (c : Dev Cert.FfnNormIdeal.nD) → Buf (Elt Ideal) ((c.tc : Thread Cert.FfnNormIdeal.nD Cert.FfnNormIdeal.τ).loc Cert.FfnNormIdeal.main_v0)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v0) = v0 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1))
      ∧ θ_run (Cert.FfnNormRefIdeal.defs (F := Ideal)) (onTc (τ := Cert.FfnNormRefIdeal.τ) (Cert.FfnNormRefIdeal.main (F := Ideal))) ⟨m', fun _ => 0, g'⟩ (fun r => ∀ c : Dev Cert.FfnNormRefIdeal.nD,
          r.2.mem ((c.tc : Thread Cert.FfnNormRefIdeal.nD Cert.FfnNormRefIdeal.τ).loc Cert.FfnNormRefIdeal.main_v12) = v0 c
          ∧ r.2.mem ((c.tc : Thread Cert.FfnNormRefIdeal.nD Cert.FfnNormRefIdeal.τ).loc Cert.FfnNormRefIdeal.main_arg0) = m' ((c.tc : Thread Cert.FfnNormRefIdeal.nD Cert.FfnNormRefIdeal.τ).loc Cert.FfnNormRefIdeal.main_arg0)
          ∧ r.2.mem ((c.tc : Thread Cert.FfnNormRefIdeal.nD Cert.FfnNormRefIdeal.τ).loc Cert.FfnNormRefIdeal.main_arg1) = m' ((c.tc : Thread Cert.FfnNormRefIdeal.nD Cert.FfnNormRefIdeal.τ).loc Cert.FfnNormRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v2) = v0 c
          ∧ r.2.mem ((c.tc : Thread Cert.FfnUpRefIdeal.nD Cert.FfnUpRefIdeal.τ).loc Cert.FfnUpRefIdeal.main_v4) = v1 c
          ∧ r.2.mem ((c.tc : Thread Cert.FfnUpRefIdeal.nD Cert.FfnUpRefIdeal.τ).loc Cert.FfnUpRefIdeal.main_v7) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v5) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_FfnDact_FfnDactIdeal : Prop :=
  True

def algebraic_FfnDactIdeal_FfnDactRefIdeal_pre_finite [hFfnDactIdeal : Cert.FfnDactIdeal.Facts] [hFfnDactRefIdeal : Cert.FfnDactRefIdeal.Facts] [hPre_finite : Cert.Pre_finite.Facts] : Prop :=
  ∀ (m : (ℓ : Loc Cert.FfnDactIdeal.nD Cert.FfnDactIdeal.τ Cert.FfnDactIdeal.sig) → Buf (Elt Ideal) ℓ) (g : Dev Cert.FfnDactIdeal.nD → PrngReg)
    (m' : (ℓ : Loc Cert.FfnDactRefIdeal.nD Cert.FfnDactRefIdeal.τ Cert.FfnDactRefIdeal.sig) → Buf (Elt Ideal) ℓ) (g' : Dev Cert.FfnDactRefIdeal.nD → PrngReg), Pre_FfnDactIdeal_finite m →
    (∀ c : Dev Cert.FfnDactIdeal.nD,
      m' ((c.tc : Thread Cert.FfnDactRefIdeal.nD Cert.FfnDactRefIdeal.τ).loc Cert.FfnDactRefIdeal.main_arg0) = m ((c.tc : Thread Cert.FfnDactIdeal.nD Cert.FfnDactIdeal.τ).loc Cert.FfnDactIdeal.main_arg0)
      ∧ m' ((c.tc : Thread Cert.FfnDactRefIdeal.nD Cert.FfnDactRefIdeal.τ).loc Cert.FfnDactRefIdeal.main_arg1) = m ((c.tc : Thread Cert.FfnDactIdeal.nD Cert.FfnDactIdeal.τ).loc Cert.FfnDactIdeal.main_arg1)
      ∧ m' ((c.tc : Thread Cert.FfnDactRefIdeal.nD Cert.FfnDactRefIdeal.τ).loc Cert.FfnDactRefIdeal.main_arg2) = m ((c.tc : Thread Cert.FfnDactIdeal.nD Cert.FfnDactIdeal.τ).loc Cert.FfnDactIdeal.main_arg2)
      ∧ m' ((c.tc : Thread Cert.FfnDactRefIdeal.nD Cert.FfnDactRefIdeal.τ).loc Cert.FfnDactRefIdeal.main_arg3) = m ((c.tc : Thread Cert.FfnDactIdeal.nD Cert.FfnDactIdeal.τ).loc Cert.FfnDactIdeal.main_arg3)) →
    ∃ (v0 : (c : Dev Cert.FfnDactIdeal.nD) → Buf (Elt Ideal) ((c.tc : Thread Cert.FfnDactIdeal.nD Cert.FfnDactIdeal.τ).loc Cert.FfnDactIdeal.main_v0_0)) (v1 : (c : Dev Cert.FfnDactIdeal.nD) → Buf (Elt Ideal) ((c.tc : Thread Cert.FfnDactIdeal.nD Cert.FfnDactIdeal.τ).loc Cert.FfnDactIdeal.main_v0_1)),
      θ_run (Cert.FfnDactIdeal.defs (F := Ideal)) (onTc (τ := Cert.FfnDactIdeal.τ) (Cert.FfnDactIdeal.main (F := Ideal))) ⟨m, fun _ => 0, g⟩ (fun r => ∀ c : Dev Cert.FfnDactIdeal.nD,
          r.2.mem ((c.tc : Thread Cert.FfnDactIdeal.nD Cert.FfnDactIdeal.τ).loc Cert.FfnDactIdeal.main_v0_0) = v0 c
          ∧ r.2.mem ((c.tc : Thread Cert.FfnDactIdeal.nD Cert.FfnDactIdeal.τ).loc Cert.FfnDactIdeal.main_v0_1) = v1 c
          ∧ r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
          ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
          ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
          ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ θ_run (Cert.FfnDactRefIdeal.defs (F := Ideal)) (onTc (τ := Cert.FfnDactRefIdeal.τ) (Cert.FfnDactRefIdeal.main (F := Ideal))) ⟨m', fun _ => 0, g'⟩ (fun r => ∀ c : Dev Cert.FfnDactRefIdeal.nD,
          r.2.mem ((c.tc : Thread Cert.FfnDactRefIdeal.nD Cert.FfnDactRefIdeal.τ).loc Cert.FfnDactRefIdeal.main_v12) = v0 c
          ∧ r.2.mem ((c.tc : Thread Cert.FfnDactRefIdeal.nD Cert.FfnDactRefIdeal.τ).loc Cert.FfnDactRefIdeal.main_v13) = v1 c
          ∧ r.2.mem ((c.tc : Thread Cert.FfnDactRefIdeal.nD Cert.FfnDactRefIdeal.τ).loc Cert.FfnDactRefIdeal.main_arg0) = m' ((c.tc : Thread Cert.FfnDactRefIdeal.nD Cert.FfnDactRefIdeal.τ).loc Cert.FfnDactRefIdeal.main_arg0)
          ∧ r.2.mem ((c.tc : Thread Cert.FfnDactRefIdeal.nD Cert.FfnDactRefIdeal.τ).loc Cert.FfnDactRefIdeal.main_arg1) = m' ((c.tc : Thread Cert.FfnDactRefIdeal.nD Cert.FfnDactRefIdeal.τ).loc Cert.FfnDactRefIdeal.main_arg1)
          ∧ r.2.mem ((c.tc : Thread Cert.FfnDactRefIdeal.nD Cert.FfnDactRefIdeal.τ).loc Cert.FfnDactRefIdeal.main_arg2) = m' ((c.tc : Thread Cert.FfnDactRefIdeal.nD Cert.FfnDactRefIdeal.τ).loc Cert.FfnDactRefIdeal.main_arg2)
          ∧ r.2.mem ((c.tc : Thread Cert.FfnDactRefIdeal.nD Cert.FfnDactRefIdeal.τ).loc Cert.FfnDactRefIdeal.main_arg3) = m' ((c.tc : Thread Cert.FfnDactRefIdeal.nD Cert.FfnDactRefIdeal.τ).loc Cert.FfnDactRefIdeal.main_arg3))

def preserves_FfnDwd_FfnDwdIdeal : Prop :=
  True

def algebraic_FfnDwdIdeal_FfnDwdRefIdeal [hFfnDwdIdeal : Cert.FfnDwdIdeal.Facts] [hFfnDwdRefIdeal : Cert.FfnDwdRefIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg)
    (m' : (ℓ : Loc Cert.FfnDwdRefIdeal.nD Cert.FfnDwdRefIdeal.τ Cert.FfnDwdRefIdeal.sig) → Buf (Elt Ideal) ℓ) (g' : Dev Cert.FfnDwdRefIdeal.nD → PrngReg), Pre_FfnDwdIdeal m →
    (∀ c : Dev Cert.FfnDwdIdeal.nD,
      m' ((c.tc : Thread Cert.FfnDwdRefIdeal.nD Cert.FfnDwdRefIdeal.τ).loc Cert.FfnDwdRefIdeal.main_arg0) = m ((c.tc : Thread Cert.FfnDwdIdeal.nD Cert.FfnDwdIdeal.τ).loc Cert.FfnDwdIdeal.main_arg0)
      ∧ m' ((c.tc : Thread Cert.FfnDwdRefIdeal.nD Cert.FfnDwdRefIdeal.τ).loc Cert.FfnDwdRefIdeal.main_arg1) = m ((c.tc : Thread Cert.FfnDwdIdeal.nD Cert.FfnDwdIdeal.τ).loc Cert.FfnDwdIdeal.main_arg1)) →
    ∃ (v0 : (c : Dev Cert.FfnDwdIdeal.nD) → Buf (Elt Ideal) ((c.tc : Thread Cert.FfnDwdIdeal.nD Cert.FfnDwdIdeal.τ).loc Cert.FfnDwdIdeal.main_v0)),
      θ_run (Cert.FfnDwdIdeal.defs (F := Ideal)) (onTc (τ := Cert.FfnDwdIdeal.τ) (Cert.FfnDwdIdeal.main (F := Ideal))) ⟨m, fun _ => 0, g⟩ (fun r => ∀ c : Dev Cert.FfnDwdIdeal.nD,
          r.2.mem ((c.tc : Thread Cert.FfnDwdIdeal.nD Cert.FfnDwdIdeal.τ).loc Cert.FfnDwdIdeal.main_v0) = v0 c
          ∧ r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
          ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ θ_run (Cert.FfnDwdRefIdeal.defs (F := Ideal)) (onTc (τ := Cert.FfnDwdRefIdeal.τ) (Cert.FfnDwdRefIdeal.main (F := Ideal))) ⟨m', fun _ => 0, g'⟩ (fun r => ∀ c : Dev Cert.FfnDwdRefIdeal.nD,
          r.2.mem ((c.tc : Thread Cert.FfnDwdRefIdeal.nD Cert.FfnDwdRefIdeal.τ).loc Cert.FfnDwdRefIdeal.main_v8) = v0 c
          ∧ r.2.mem ((c.tc : Thread Cert.FfnDwdRefIdeal.nD Cert.FfnDwdRefIdeal.τ).loc Cert.FfnDwdRefIdeal.main_arg0) = m' ((c.tc : Thread Cert.FfnDwdRefIdeal.nD Cert.FfnDwdRefIdeal.τ).loc Cert.FfnDwdRefIdeal.main_arg0)
          ∧ r.2.mem ((c.tc : Thread Cert.FfnDwdRefIdeal.nD Cert.FfnDwdRefIdeal.τ).loc Cert.FfnDwdRefIdeal.main_arg1) = m' ((c.tc : Thread Cert.FfnDwdRefIdeal.nD Cert.FfnDwdRefIdeal.τ).loc Cert.FfnDwdRefIdeal.main_arg1))

def preserves_FfnDwin_FfnDwinIdeal : Prop :=
  True

def algebraic_FfnDwinIdeal_FfnDwinRefIdeal [hFfnDwinIdeal : Cert.FfnDwinIdeal.Facts] [hFfnDwinRefIdeal : Cert.FfnDwinRefIdeal.Facts] : Prop :=
  ∀ (m : (ℓ : Loc Cert.FfnDwinIdeal.nD Cert.FfnDwinIdeal.τ Cert.FfnDwinIdeal.sig) → Buf (Elt Ideal) ℓ) (g : Dev Cert.FfnDwinIdeal.nD → PrngReg)
    (m' : (ℓ : Loc Cert.FfnDwinRefIdeal.nD Cert.FfnDwinRefIdeal.τ Cert.FfnDwinRefIdeal.sig) → Buf (Elt Ideal) ℓ) (g' : Dev Cert.FfnDwinRefIdeal.nD → PrngReg), Pre_FfnDwinIdeal m →
    (∀ c : Dev Cert.FfnDwinIdeal.nD,
      m' ((c.tc : Thread Cert.FfnDwinRefIdeal.nD Cert.FfnDwinRefIdeal.τ).loc Cert.FfnDwinRefIdeal.main_arg0) = m ((c.tc : Thread Cert.FfnDwinIdeal.nD Cert.FfnDwinIdeal.τ).loc Cert.FfnDwinIdeal.main_arg0)
      ∧ m' ((c.tc : Thread Cert.FfnDwinRefIdeal.nD Cert.FfnDwinRefIdeal.τ).loc Cert.FfnDwinRefIdeal.main_arg1) = m ((c.tc : Thread Cert.FfnDwinIdeal.nD Cert.FfnDwinIdeal.τ).loc Cert.FfnDwinIdeal.main_arg1)) →
    ∃ (v0 : (c : Dev Cert.FfnDwinIdeal.nD) → Buf (Elt Ideal) ((c.tc : Thread Cert.FfnDwinIdeal.nD Cert.FfnDwinIdeal.τ).loc Cert.FfnDwinIdeal.main_v0)),
      θ_run (Cert.FfnDwinIdeal.defs (F := Ideal)) (onTc (τ := Cert.FfnDwinIdeal.τ) (Cert.FfnDwinIdeal.main (F := Ideal))) ⟨m, fun _ => 0, g⟩ (fun r => ∀ c : Dev Cert.FfnDwinIdeal.nD,
          r.2.mem ((c.tc : Thread Cert.FfnDwinIdeal.nD Cert.FfnDwinIdeal.τ).loc Cert.FfnDwinIdeal.main_v0) = v0 c
          ∧ r.2.mem ((c.tc : Thread Cert.FfnDwinIdeal.nD Cert.FfnDwinIdeal.τ).loc Cert.FfnDwinIdeal.main_arg0) = m ((c.tc : Thread Cert.FfnDwinIdeal.nD Cert.FfnDwinIdeal.τ).loc Cert.FfnDwinIdeal.main_arg0)
          ∧ r.2.mem ((c.tc : Thread Cert.FfnDwinIdeal.nD Cert.FfnDwinIdeal.τ).loc Cert.FfnDwinIdeal.main_arg1) = m ((c.tc : Thread Cert.FfnDwinIdeal.nD Cert.FfnDwinIdeal.τ).loc Cert.FfnDwinIdeal.main_arg1))
      ∧ θ_run (Cert.FfnDwinRefIdeal.defs (F := Ideal)) (onTc (τ := Cert.FfnDwinRefIdeal.τ) (Cert.FfnDwinRefIdeal.main (F := Ideal))) ⟨m', fun _ => 0, g'⟩ (fun r => ∀ c : Dev Cert.FfnDwinRefIdeal.nD,
          r.2.mem ((c.tc : Thread Cert.FfnDwinRefIdeal.nD Cert.FfnDwinRefIdeal.τ).loc Cert.FfnDwinRefIdeal.main_v5) = v0 c
          ∧ r.2.mem ((c.tc : Thread Cert.FfnDwinRefIdeal.nD Cert.FfnDwinRefIdeal.τ).loc Cert.FfnDwinRefIdeal.main_arg0) = m' ((c.tc : Thread Cert.FfnDwinRefIdeal.nD Cert.FfnDwinRefIdeal.τ).loc Cert.FfnDwinRefIdeal.main_arg0)
          ∧ r.2.mem ((c.tc : Thread Cert.FfnDwinRefIdeal.nD Cert.FfnDwinRefIdeal.τ).loc Cert.FfnDwinRefIdeal.main_arg1) = m' ((c.tc : Thread Cert.FfnDwinRefIdeal.nD Cert.FfnDwinRefIdeal.τ).loc Cert.FfnDwinRefIdeal.main_arg1))

def preserves_FfnDh_FfnDhIdeal : Prop :=
  True

def algebraic_FfnDhIdeal_FfnDhRefIdeal [hFfnDhIdeal : Cert.FfnDhIdeal.Facts] [hFfnDhRefIdeal : Cert.FfnDhRefIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhRefIdeal.nD Cert.FfnDhRefIdeal.τ Cert.FfnDhRefIdeal.sig) → Buf (Elt Ideal) ℓ) (g' : Dev Cert.FfnDhRefIdeal.nD → PrngReg), Pre_FfnDhIdeal m →
    (∀ c : Dev Cert.FfnDhIdeal.nD,
      m' ((c.tc : Thread Cert.FfnDhRefIdeal.nD Cert.FfnDhRefIdeal.τ).loc Cert.FfnDhRefIdeal.main_arg0) = m ((c.tc : Thread Cert.FfnDhIdeal.nD Cert.FfnDhIdeal.τ).loc Cert.FfnDhIdeal.main_arg0)
      ∧ m' ((c.tc : Thread Cert.FfnDhRefIdeal.nD Cert.FfnDhRefIdeal.τ).loc Cert.FfnDhRefIdeal.main_arg1) = m ((c.tc : Thread Cert.FfnDhIdeal.nD Cert.FfnDhIdeal.τ).loc Cert.FfnDhIdeal.main_arg1)
      ∧ m' ((c.tc : Thread Cert.FfnDhRefIdeal.nD Cert.FfnDhRefIdeal.τ).loc Cert.FfnDhRefIdeal.main_arg2) = m ((c.tc : Thread Cert.FfnDhIdeal.nD Cert.FfnDhIdeal.τ).loc Cert.FfnDhIdeal.main_arg2)
      ∧ m' ((c.tc : Thread Cert.FfnDhRefIdeal.nD Cert.FfnDhRefIdeal.τ).loc Cert.FfnDhRefIdeal.main_arg3) = m ((c.tc : Thread Cert.FfnDhIdeal.nD Cert.FfnDhIdeal.τ).loc Cert.FfnDhIdeal.main_arg3)) →
    ∃ (v0 : (c : Dev Cert.FfnDhIdeal.nD) → Buf (Elt Ideal) ((c.tc : Thread Cert.FfnDhIdeal.nD Cert.FfnDhIdeal.τ).loc Cert.FfnDhIdeal.main_v0)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v0) = v0 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3))
      ∧ θ_run (Cert.FfnDhRefIdeal.defs (F := Ideal)) (onTc (τ := Cert.FfnDhRefIdeal.τ) (Cert.FfnDhRefIdeal.main (F := Ideal))) ⟨m', fun _ => 0, g'⟩ (fun r => ∀ c : Dev Cert.FfnDhRefIdeal.nD,
          r.2.mem ((c.tc : Thread Cert.FfnDhRefIdeal.nD Cert.FfnDhRefIdeal.τ).loc Cert.FfnDhRefIdeal.main_v9) = v0 c
          ∧ r.2.mem ((c.tc : Thread Cert.FfnDhRefIdeal.nD Cert.FfnDhRefIdeal.τ).loc Cert.FfnDhRefIdeal.main_arg0) = m' ((c.tc : Thread Cert.FfnDhRefIdeal.nD Cert.FfnDhRefIdeal.τ).loc Cert.FfnDhRefIdeal.main_arg0)
          ∧ r.2.mem ((c.tc : Thread Cert.FfnDhRefIdeal.nD Cert.FfnDhRefIdeal.τ).loc Cert.FfnDhRefIdeal.main_arg1) = m' ((c.tc : Thread Cert.FfnDhRefIdeal.nD Cert.FfnDhRefIdeal.τ).loc Cert.FfnDhRefIdeal.main_arg1)
          ∧ r.2.mem ((c.tc : Thread Cert.FfnDhRefIdeal.nD Cert.FfnDhRefIdeal.τ).loc Cert.FfnDhRefIdeal.main_arg2) = m' ((c.tc : Thread Cert.FfnDhRefIdeal.nD Cert.FfnDhRefIdeal.τ).loc Cert.FfnDhRefIdeal.main_arg2)
          ∧ r.2.mem ((c.tc : Thread Cert.FfnDhRefIdeal.nD Cert.FfnDhRefIdeal.τ).loc Cert.FfnDhRefIdeal.main_arg3) = m' ((c.tc : Thread Cert.FfnDhRefIdeal.nD Cert.FfnDhRefIdeal.τ).loc Cert.FfnDhRefIdeal.main_arg3))

def preserves_EvProj_EvProjIdeal : Prop :=
  True

def algebraic_EvProjIdeal_EvProjRefIdeal [hEvProjIdeal : Cert.EvProjIdeal.Facts] [hEvProjRefIdeal : Cert.EvProjRefIdeal.Facts] : Prop :=
  ∀ (m : (ℓ : Loc Cert.EvProjIdeal.nD Cert.EvProjIdeal.τ Cert.EvProjIdeal.sig) → Buf (Elt Ideal) ℓ) (g : Dev Cert.EvProjIdeal.nD → PrngReg)
    (m' : (ℓ : Loc Cert.EvProjRefIdeal.nD Cert.EvProjRefIdeal.τ Cert.EvProjRefIdeal.sig) → Buf (Elt Ideal) ℓ) (g' : Dev Cert.EvProjRefIdeal.nD → PrngReg), Pre_EvProjIdeal m →
    (∀ c : Dev Cert.EvProjIdeal.nD,
      m' ((c.tc : Thread Cert.EvProjRefIdeal.nD Cert.EvProjRefIdeal.τ).loc Cert.EvProjRefIdeal.main_arg0) = m ((c.tc : Thread Cert.EvProjIdeal.nD Cert.EvProjIdeal.τ).loc Cert.EvProjIdeal.main_arg0)
      ∧ m' ((c.tc : Thread Cert.EvProjRefIdeal.nD Cert.EvProjRefIdeal.τ).loc Cert.EvProjRefIdeal.main_arg1) = m ((c.tc : Thread Cert.EvProjIdeal.nD Cert.EvProjIdeal.τ).loc Cert.EvProjIdeal.main_arg1)) →
    ∃ (v0 : (c : Dev Cert.EvProjIdeal.nD) → Buf (Elt Ideal) ((c.tc : Thread Cert.EvProjIdeal.nD Cert.EvProjIdeal.τ).loc Cert.EvProjIdeal.main_v0)),
      θ_run (Cert.EvProjIdeal.defs (F := Ideal)) (onTc (τ := Cert.EvProjIdeal.τ) (Cert.EvProjIdeal.main (F := Ideal))) ⟨m, fun _ => 0, g⟩ (fun r => ∀ c : Dev Cert.EvProjIdeal.nD,
          r.2.mem ((c.tc : Thread Cert.EvProjIdeal.nD Cert.EvProjIdeal.τ).loc Cert.EvProjIdeal.main_v0) = v0 c
          ∧ r.2.mem ((c.tc : Thread Cert.EvProjIdeal.nD Cert.EvProjIdeal.τ).loc Cert.EvProjIdeal.main_arg0) = m ((c.tc : Thread Cert.EvProjIdeal.nD Cert.EvProjIdeal.τ).loc Cert.EvProjIdeal.main_arg0)
          ∧ r.2.mem ((c.tc : Thread Cert.EvProjIdeal.nD Cert.EvProjIdeal.τ).loc Cert.EvProjIdeal.main_arg1) = m ((c.tc : Thread Cert.EvProjIdeal.nD Cert.EvProjIdeal.τ).loc Cert.EvProjIdeal.main_arg1))
      ∧ θ_run (Cert.EvProjRefIdeal.defs (F := Ideal)) (onTc (τ := Cert.EvProjRefIdeal.τ) (Cert.EvProjRefIdeal.main (F := Ideal))) ⟨m', fun _ => 0, g'⟩ (fun r => ∀ c : Dev Cert.EvProjRefIdeal.nD,
          r.2.mem ((c.tc : Thread Cert.EvProjRefIdeal.nD Cert.EvProjRefIdeal.τ).loc Cert.EvProjRefIdeal.main_v2) = v0 c
          ∧ r.2.mem ((c.tc : Thread Cert.EvProjRefIdeal.nD Cert.EvProjRefIdeal.τ).loc Cert.EvProjRefIdeal.main_arg0) = m' ((c.tc : Thread Cert.EvProjRefIdeal.nD Cert.EvProjRefIdeal.τ).loc Cert.EvProjRefIdeal.main_arg0)
          ∧ r.2.mem ((c.tc : Thread Cert.EvProjRefIdeal.nD Cert.EvProjRefIdeal.τ).loc Cert.EvProjRefIdeal.main_arg1) = m' ((c.tc : Thread Cert.EvProjRefIdeal.nD Cert.EvProjRefIdeal.τ).loc Cert.EvProjRefIdeal.main_arg1))

def preserves_OdProj_OdProjIdeal : Prop :=
  True

def algebraic_OdProjIdeal_OdProjRefIdeal [hOdProjIdeal : Cert.OdProjIdeal.Facts] [hOdProjRefIdeal : Cert.OdProjRefIdeal.Facts] : Prop :=
  ∀ (m : (ℓ : Loc Cert.OdProjIdeal.nD Cert.OdProjIdeal.τ Cert.OdProjIdeal.sig) → Buf (Elt Ideal) ℓ) (g : Dev Cert.OdProjIdeal.nD → PrngReg)
    (m' : (ℓ : Loc Cert.OdProjRefIdeal.nD Cert.OdProjRefIdeal.τ Cert.OdProjRefIdeal.sig) → Buf (Elt Ideal) ℓ) (g' : Dev Cert.OdProjRefIdeal.nD → PrngReg), Pre_OdProjIdeal m →
    (∀ c : Dev Cert.OdProjIdeal.nD,
      m' ((c.tc : Thread Cert.OdProjRefIdeal.nD Cert.OdProjRefIdeal.τ).loc Cert.OdProjRefIdeal.main_arg0) = m ((c.tc : Thread Cert.OdProjIdeal.nD Cert.OdProjIdeal.τ).loc Cert.OdProjIdeal.main_arg0)
      ∧ m' ((c.tc : Thread Cert.OdProjRefIdeal.nD Cert.OdProjRefIdeal.τ).loc Cert.OdProjRefIdeal.main_arg1) = m ((c.tc : Thread Cert.OdProjIdeal.nD Cert.OdProjIdeal.τ).loc Cert.OdProjIdeal.main_arg1)) →
    ∃ (v0 : (c : Dev Cert.OdProjIdeal.nD) → Buf (Elt Ideal) ((c.tc : Thread Cert.OdProjIdeal.nD Cert.OdProjIdeal.τ).loc Cert.OdProjIdeal.main_v0)),
      θ_run (Cert.OdProjIdeal.defs (F := Ideal)) (onTc (τ := Cert.OdProjIdeal.τ) (Cert.OdProjIdeal.main (F := Ideal))) ⟨m, fun _ => 0, g⟩ (fun r => ∀ c : Dev Cert.OdProjIdeal.nD,
          r.2.mem ((c.tc : Thread Cert.OdProjIdeal.nD Cert.OdProjIdeal.τ).loc Cert.OdProjIdeal.main_v0) = v0 c
          ∧ r.2.mem ((c.tc : Thread Cert.OdProjIdeal.nD Cert.OdProjIdeal.τ).loc Cert.OdProjIdeal.main_arg0) = m ((c.tc : Thread Cert.OdProjIdeal.nD Cert.OdProjIdeal.τ).loc Cert.OdProjIdeal.main_arg0)
          ∧ r.2.mem ((c.tc : Thread Cert.OdProjIdeal.nD Cert.OdProjIdeal.τ).loc Cert.OdProjIdeal.main_arg1) = m ((c.tc : Thread Cert.OdProjIdeal.nD Cert.OdProjIdeal.τ).loc Cert.OdProjIdeal.main_arg1))
      ∧ θ_run (Cert.OdProjRefIdeal.defs (F := Ideal)) (onTc (τ := Cert.OdProjRefIdeal.τ) (Cert.OdProjRefIdeal.main (F := Ideal))) ⟨m', fun _ => 0, g'⟩ (fun r => ∀ c : Dev Cert.OdProjRefIdeal.nD,
          r.2.mem ((c.tc : Thread Cert.OdProjRefIdeal.nD Cert.OdProjRefIdeal.τ).loc Cert.OdProjRefIdeal.main_v2) = v0 c
          ∧ r.2.mem ((c.tc : Thread Cert.OdProjRefIdeal.nD Cert.OdProjRefIdeal.τ).loc Cert.OdProjRefIdeal.main_arg0) = m' ((c.tc : Thread Cert.OdProjRefIdeal.nD Cert.OdProjRefIdeal.τ).loc Cert.OdProjRefIdeal.main_arg0)
          ∧ r.2.mem ((c.tc : Thread Cert.OdProjRefIdeal.nD Cert.OdProjRefIdeal.τ).loc Cert.OdProjRefIdeal.main_arg1) = m' ((c.tc : Thread Cert.OdProjRefIdeal.nD Cert.OdProjRefIdeal.τ).loc Cert.OdProjRefIdeal.main_arg1))

def preserves_OdProjBd_OdProjBdIdeal : Prop :=
  True

def algebraic_OdProjBdIdeal_OdProjBdRefIdeal [hOdProjBdIdeal : Cert.OdProjBdIdeal.Facts] [hOdProjBdRefIdeal : Cert.OdProjBdRefIdeal.Facts] : Prop :=
  ∀ (m : (ℓ : Loc Cert.OdProjBdIdeal.nD Cert.OdProjBdIdeal.τ Cert.OdProjBdIdeal.sig) → Buf (Elt Ideal) ℓ) (g : Dev Cert.OdProjBdIdeal.nD → PrngReg)
    (m' : (ℓ : Loc Cert.OdProjBdRefIdeal.nD Cert.OdProjBdRefIdeal.τ Cert.OdProjBdRefIdeal.sig) → Buf (Elt Ideal) ℓ) (g' : Dev Cert.OdProjBdRefIdeal.nD → PrngReg), Pre_OdProjBdIdeal m →
    (∀ c : Dev Cert.OdProjBdIdeal.nD,
      m' ((c.tc : Thread Cert.OdProjBdRefIdeal.nD Cert.OdProjBdRefIdeal.τ).loc Cert.OdProjBdRefIdeal.main_arg0) = m ((c.tc : Thread Cert.OdProjBdIdeal.nD Cert.OdProjBdIdeal.τ).loc Cert.OdProjBdIdeal.main_arg0)
      ∧ m' ((c.tc : Thread Cert.OdProjBdRefIdeal.nD Cert.OdProjBdRefIdeal.τ).loc Cert.OdProjBdRefIdeal.main_arg1) = m ((c.tc : Thread Cert.OdProjBdIdeal.nD Cert.OdProjBdIdeal.τ).loc Cert.OdProjBdIdeal.main_arg1)) →
    ∃ (v0 : (c : Dev Cert.OdProjBdIdeal.nD) → Buf (Elt Ideal) ((c.tc : Thread Cert.OdProjBdIdeal.nD Cert.OdProjBdIdeal.τ).loc Cert.OdProjBdIdeal.main_v0)),
      θ_run (Cert.OdProjBdIdeal.defs (F := Ideal)) (onTc (τ := Cert.OdProjBdIdeal.τ) (Cert.OdProjBdIdeal.main (F := Ideal))) ⟨m, fun _ => 0, g⟩ (fun r => ∀ c : Dev Cert.OdProjBdIdeal.nD,
          r.2.mem ((c.tc : Thread Cert.OdProjBdIdeal.nD Cert.OdProjBdIdeal.τ).loc Cert.OdProjBdIdeal.main_v0) = v0 c
          ∧ r.2.mem ((c.tc : Thread Cert.OdProjBdIdeal.nD Cert.OdProjBdIdeal.τ).loc Cert.OdProjBdIdeal.main_arg0) = m ((c.tc : Thread Cert.OdProjBdIdeal.nD Cert.OdProjBdIdeal.τ).loc Cert.OdProjBdIdeal.main_arg0)
          ∧ r.2.mem ((c.tc : Thread Cert.OdProjBdIdeal.nD Cert.OdProjBdIdeal.τ).loc Cert.OdProjBdIdeal.main_arg1) = m ((c.tc : Thread Cert.OdProjBdIdeal.nD Cert.OdProjBdIdeal.τ).loc Cert.OdProjBdIdeal.main_arg1))
      ∧ θ_run (Cert.OdProjBdRefIdeal.defs (F := Ideal)) (onTc (τ := Cert.OdProjBdRefIdeal.τ) (Cert.OdProjBdRefIdeal.main (F := Ideal))) ⟨m', fun _ => 0, g'⟩ (fun r => ∀ c : Dev Cert.OdProjBdRefIdeal.nD,
          r.2.mem ((c.tc : Thread Cert.OdProjBdRefIdeal.nD Cert.OdProjBdRefIdeal.τ).loc Cert.OdProjBdRefIdeal.main_v2) = v0 c
          ∧ r.2.mem ((c.tc : Thread Cert.OdProjBdRefIdeal.nD Cert.OdProjBdRefIdeal.τ).loc Cert.OdProjBdRefIdeal.main_arg0) = m' ((c.tc : Thread Cert.OdProjBdRefIdeal.nD Cert.OdProjBdRefIdeal.τ).loc Cert.OdProjBdRefIdeal.main_arg0)
          ∧ r.2.mem ((c.tc : Thread Cert.OdProjBdRefIdeal.nD Cert.OdProjBdRefIdeal.τ).loc Cert.OdProjBdRefIdeal.main_arg1) = m' ((c.tc : Thread Cert.OdProjBdRefIdeal.nD Cert.OdProjBdRefIdeal.τ).loc Cert.OdProjBdRefIdeal.main_arg1))

def preserves_EvOut_EvOutIdeal : Prop :=
  True

def algebraic_EvOutIdeal_EvOutRefIdeal [hEvOutIdeal : Cert.EvOutIdeal.Facts] [hEvOutRefIdeal : Cert.EvOutRefIdeal.Facts] : Prop :=
  ∀ (m : (ℓ : Loc Cert.EvOutIdeal.nD Cert.EvOutIdeal.τ Cert.EvOutIdeal.sig) → Buf (Elt Ideal) ℓ) (g : Dev Cert.EvOutIdeal.nD → PrngReg)
    (m' : (ℓ : Loc Cert.EvOutRefIdeal.nD Cert.EvOutRefIdeal.τ Cert.EvOutRefIdeal.sig) → Buf (Elt Ideal) ℓ) (g' : Dev Cert.EvOutRefIdeal.nD → PrngReg), Pre_EvOutIdeal m →
    (∀ c : Dev Cert.EvOutIdeal.nD,
      m' ((c.tc : Thread Cert.EvOutRefIdeal.nD Cert.EvOutRefIdeal.τ).loc Cert.EvOutRefIdeal.main_arg0) = m ((c.tc : Thread Cert.EvOutIdeal.nD Cert.EvOutIdeal.τ).loc Cert.EvOutIdeal.main_arg0)
      ∧ m' ((c.tc : Thread Cert.EvOutRefIdeal.nD Cert.EvOutRefIdeal.τ).loc Cert.EvOutRefIdeal.main_arg1) = m ((c.tc : Thread Cert.EvOutIdeal.nD Cert.EvOutIdeal.τ).loc Cert.EvOutIdeal.main_arg1)
      ∧ m' ((c.tc : Thread Cert.EvOutRefIdeal.nD Cert.EvOutRefIdeal.τ).loc Cert.EvOutRefIdeal.main_arg2) = m ((c.tc : Thread Cert.EvOutIdeal.nD Cert.EvOutIdeal.τ).loc Cert.EvOutIdeal.main_arg2)
      ∧ m' ((c.tc : Thread Cert.EvOutRefIdeal.nD Cert.EvOutRefIdeal.τ).loc Cert.EvOutRefIdeal.main_arg3) = m ((c.tc : Thread Cert.EvOutIdeal.nD Cert.EvOutIdeal.τ).loc Cert.EvOutIdeal.main_arg3)
      ∧ m' ((c.tc : Thread Cert.EvOutRefIdeal.nD Cert.EvOutRefIdeal.τ).loc Cert.EvOutRefIdeal.main_arg4) = m ((c.tc : Thread Cert.EvOutIdeal.nD Cert.EvOutIdeal.τ).loc Cert.EvOutIdeal.main_arg4)) →
    ∃ (v0 : (c : Dev Cert.EvOutIdeal.nD) → Buf (Elt Ideal) ((c.tc : Thread Cert.EvOutIdeal.nD Cert.EvOutIdeal.τ).loc Cert.EvOutIdeal.main_v0)),
      θ_run (Cert.EvOutIdeal.defs (F := Ideal)) (onTc (τ := Cert.EvOutIdeal.τ) (Cert.EvOutIdeal.main (F := Ideal))) ⟨m, fun _ => 0, g⟩ (fun r => ∀ c : Dev Cert.EvOutIdeal.nD,
          r.2.mem ((c.tc : Thread Cert.EvOutIdeal.nD Cert.EvOutIdeal.τ).loc Cert.EvOutIdeal.main_v0) = v0 c
          ∧ r.2.mem ((c.tc : Thread Cert.EvOutIdeal.nD Cert.EvOutIdeal.τ).loc Cert.EvOutIdeal.main_arg0) = m ((c.tc : Thread Cert.EvOutIdeal.nD Cert.EvOutIdeal.τ).loc Cert.EvOutIdeal.main_arg0)
          ∧ r.2.mem ((c.tc : Thread Cert.EvOutIdeal.nD Cert.EvOutIdeal.τ).loc Cert.EvOutIdeal.main_arg1) = m ((c.tc : Thread Cert.EvOutIdeal.nD Cert.EvOutIdeal.τ).loc Cert.EvOutIdeal.main_arg1)
          ∧ r.2.mem ((c.tc : Thread Cert.EvOutIdeal.nD Cert.EvOutIdeal.τ).loc Cert.EvOutIdeal.main_arg2) = m ((c.tc : Thread Cert.EvOutIdeal.nD Cert.EvOutIdeal.τ).loc Cert.EvOutIdeal.main_arg2)
          ∧ r.2.mem ((c.tc : Thread Cert.EvOutIdeal.nD Cert.EvOutIdeal.τ).loc Cert.EvOutIdeal.main_arg3) = m ((c.tc : Thread Cert.EvOutIdeal.nD Cert.EvOutIdeal.τ).loc Cert.EvOutIdeal.main_arg3)
          ∧ r.2.mem ((c.tc : Thread Cert.EvOutIdeal.nD Cert.EvOutIdeal.τ).loc Cert.EvOutIdeal.main_arg4) = m ((c.tc : Thread Cert.EvOutIdeal.nD Cert.EvOutIdeal.τ).loc Cert.EvOutIdeal.main_arg4))
      ∧ θ_run (Cert.EvOutRefIdeal.defs (F := Ideal)) (onTc (τ := Cert.EvOutRefIdeal.τ) (Cert.EvOutRefIdeal.main (F := Ideal))) ⟨m', fun _ => 0, g'⟩ (fun r => ∀ c : Dev Cert.EvOutRefIdeal.nD,
          r.2.mem ((c.tc : Thread Cert.EvOutRefIdeal.nD Cert.EvOutRefIdeal.τ).loc Cert.EvOutRefIdeal.main_v4) = v0 c
          ∧ r.2.mem ((c.tc : Thread Cert.EvOutRefIdeal.nD Cert.EvOutRefIdeal.τ).loc Cert.EvOutRefIdeal.main_arg0) = m' ((c.tc : Thread Cert.EvOutRefIdeal.nD Cert.EvOutRefIdeal.τ).loc Cert.EvOutRefIdeal.main_arg0)
          ∧ r.2.mem ((c.tc : Thread Cert.EvOutRefIdeal.nD Cert.EvOutRefIdeal.τ).loc Cert.EvOutRefIdeal.main_arg1) = m' ((c.tc : Thread Cert.EvOutRefIdeal.nD Cert.EvOutRefIdeal.τ).loc Cert.EvOutRefIdeal.main_arg1)
          ∧ r.2.mem ((c.tc : Thread Cert.EvOutRefIdeal.nD Cert.EvOutRefIdeal.τ).loc Cert.EvOutRefIdeal.main_arg2) = m' ((c.tc : Thread Cert.EvOutRefIdeal.nD Cert.EvOutRefIdeal.τ).loc Cert.EvOutRefIdeal.main_arg2)
          ∧ r.2.mem ((c.tc : Thread Cert.EvOutRefIdeal.nD Cert.EvOutRefIdeal.τ).loc Cert.EvOutRefIdeal.main_arg3) = m' ((c.tc : Thread Cert.EvOutRefIdeal.nD Cert.EvOutRefIdeal.τ).loc Cert.EvOutRefIdeal.main_arg3)
          ∧ r.2.mem ((c.tc : Thread Cert.EvOutRefIdeal.nD Cert.EvOutRefIdeal.τ).loc Cert.EvOutRefIdeal.main_arg4) = m' ((c.tc : Thread Cert.EvOutRefIdeal.nD Cert.EvOutRefIdeal.τ).loc Cert.EvOutRefIdeal.main_arg4))

def preserves_OdOut_OdOutIdeal : Prop :=
  True

def algebraic_OdOutIdeal_OdOutRefIdeal [hOdOutIdeal : Cert.OdOutIdeal.Facts] [hOdOutRefIdeal : Cert.OdOutRefIdeal.Facts] : Prop :=
  ∀ (m : (ℓ : Loc Cert.OdOutIdeal.nD Cert.OdOutIdeal.τ Cert.OdOutIdeal.sig) → Buf (Elt Ideal) ℓ) (g : Dev Cert.OdOutIdeal.nD → PrngReg)
    (m' : (ℓ : Loc Cert.OdOutRefIdeal.nD Cert.OdOutRefIdeal.τ Cert.OdOutRefIdeal.sig) → Buf (Elt Ideal) ℓ) (g' : Dev Cert.OdOutRefIdeal.nD → PrngReg), Pre_OdOutIdeal m →
    (∀ c : Dev Cert.OdOutIdeal.nD,
      m' ((c.tc : Thread Cert.OdOutRefIdeal.nD Cert.OdOutRefIdeal.τ).loc Cert.OdOutRefIdeal.main_arg0) = m ((c.tc : Thread Cert.OdOutIdeal.nD Cert.OdOutIdeal.τ).loc Cert.OdOutIdeal.main_arg0)
      ∧ m' ((c.tc : Thread Cert.OdOutRefIdeal.nD Cert.OdOutRefIdeal.τ).loc Cert.OdOutRefIdeal.main_arg1) = m ((c.tc : Thread Cert.OdOutIdeal.nD Cert.OdOutIdeal.τ).loc Cert.OdOutIdeal.main_arg1)
      ∧ m' ((c.tc : Thread Cert.OdOutRefIdeal.nD Cert.OdOutRefIdeal.τ).loc Cert.OdOutRefIdeal.main_arg2) = m ((c.tc : Thread Cert.OdOutIdeal.nD Cert.OdOutIdeal.τ).loc Cert.OdOutIdeal.main_arg2)) →
    ∃ (v0 : (c : Dev Cert.OdOutIdeal.nD) → Buf (Elt Ideal) ((c.tc : Thread Cert.OdOutIdeal.nD Cert.OdOutIdeal.τ).loc Cert.OdOutIdeal.main_v0)),
      θ_run (Cert.OdOutIdeal.defs (F := Ideal)) (onTc (τ := Cert.OdOutIdeal.τ) (Cert.OdOutIdeal.main (F := Ideal))) ⟨m, fun _ => 0, g⟩ (fun r => ∀ c : Dev Cert.OdOutIdeal.nD,
          r.2.mem ((c.tc : Thread Cert.OdOutIdeal.nD Cert.OdOutIdeal.τ).loc Cert.OdOutIdeal.main_v0) = v0 c
          ∧ r.2.mem ((c.tc : Thread Cert.OdOutIdeal.nD Cert.OdOutIdeal.τ).loc Cert.OdOutIdeal.main_arg0) = m ((c.tc : Thread Cert.OdOutIdeal.nD Cert.OdOutIdeal.τ).loc Cert.OdOutIdeal.main_arg0)
          ∧ r.2.mem ((c.tc : Thread Cert.OdOutIdeal.nD Cert.OdOutIdeal.τ).loc Cert.OdOutIdeal.main_arg1) = m ((c.tc : Thread Cert.OdOutIdeal.nD Cert.OdOutIdeal.τ).loc Cert.OdOutIdeal.main_arg1)
          ∧ r.2.mem ((c.tc : Thread Cert.OdOutIdeal.nD Cert.OdOutIdeal.τ).loc Cert.OdOutIdeal.main_arg2) = m ((c.tc : Thread Cert.OdOutIdeal.nD Cert.OdOutIdeal.τ).loc Cert.OdOutIdeal.main_arg2))
      ∧ θ_run (Cert.OdOutRefIdeal.defs (F := Ideal)) (onTc (τ := Cert.OdOutRefIdeal.τ) (Cert.OdOutRefIdeal.main (F := Ideal))) ⟨m', fun _ => 0, g'⟩ (fun r => ∀ c : Dev Cert.OdOutRefIdeal.nD,
          r.2.mem ((c.tc : Thread Cert.OdOutRefIdeal.nD Cert.OdOutRefIdeal.τ).loc Cert.OdOutRefIdeal.main_v2) = v0 c
          ∧ r.2.mem ((c.tc : Thread Cert.OdOutRefIdeal.nD Cert.OdOutRefIdeal.τ).loc Cert.OdOutRefIdeal.main_arg0) = m' ((c.tc : Thread Cert.OdOutRefIdeal.nD Cert.OdOutRefIdeal.τ).loc Cert.OdOutRefIdeal.main_arg0)
          ∧ r.2.mem ((c.tc : Thread Cert.OdOutRefIdeal.nD Cert.OdOutRefIdeal.τ).loc Cert.OdOutRefIdeal.main_arg1) = m' ((c.tc : Thread Cert.OdOutRefIdeal.nD Cert.OdOutRefIdeal.τ).loc Cert.OdOutRefIdeal.main_arg1)
          ∧ r.2.mem ((c.tc : Thread Cert.OdOutRefIdeal.nD Cert.OdOutRefIdeal.τ).loc Cert.OdOutRefIdeal.main_arg2) = m' ((c.tc : Thread Cert.OdOutRefIdeal.nD Cert.OdOutRefIdeal.τ).loc Cert.OdOutRefIdeal.main_arg2))

def preserves_EvDy_EvDyIdeal : Prop :=
  True

def algebraic_EvDyIdeal_EvDyRefIdeal [hEvDyIdeal : Cert.EvDyIdeal.Facts] [hEvDyRefIdeal : Cert.EvDyRefIdeal.Facts] : Prop :=
  ∀ (m : (ℓ : Loc Cert.EvDyIdeal.nD Cert.EvDyIdeal.τ Cert.EvDyIdeal.sig) → Buf (Elt Ideal) ℓ) (g : Dev Cert.EvDyIdeal.nD → PrngReg)
    (m' : (ℓ : Loc Cert.EvDyRefIdeal.nD Cert.EvDyRefIdeal.τ Cert.EvDyRefIdeal.sig) → Buf (Elt Ideal) ℓ) (g' : Dev Cert.EvDyRefIdeal.nD → PrngReg), Pre_EvDyIdeal m →
    (∀ c : Dev Cert.EvDyIdeal.nD,
      m' ((c.tc : Thread Cert.EvDyRefIdeal.nD Cert.EvDyRefIdeal.τ).loc Cert.EvDyRefIdeal.main_arg0) = m ((c.tc : Thread Cert.EvDyIdeal.nD Cert.EvDyIdeal.τ).loc Cert.EvDyIdeal.main_arg0)
      ∧ m' ((c.tc : Thread Cert.EvDyRefIdeal.nD Cert.EvDyRefIdeal.τ).loc Cert.EvDyRefIdeal.main_arg1) = m ((c.tc : Thread Cert.EvDyIdeal.nD Cert.EvDyIdeal.τ).loc Cert.EvDyIdeal.main_arg1)) →
    ∃ (v0 : (c : Dev Cert.EvDyIdeal.nD) → Buf (Elt Ideal) ((c.tc : Thread Cert.EvDyIdeal.nD Cert.EvDyIdeal.τ).loc Cert.EvDyIdeal.main_v0)),
      θ_run (Cert.EvDyIdeal.defs (F := Ideal)) (onTc (τ := Cert.EvDyIdeal.τ) (Cert.EvDyIdeal.main (F := Ideal))) ⟨m, fun _ => 0, g⟩ (fun r => ∀ c : Dev Cert.EvDyIdeal.nD,
          r.2.mem ((c.tc : Thread Cert.EvDyIdeal.nD Cert.EvDyIdeal.τ).loc Cert.EvDyIdeal.main_v0) = v0 c
          ∧ r.2.mem ((c.tc : Thread Cert.EvDyIdeal.nD Cert.EvDyIdeal.τ).loc Cert.EvDyIdeal.main_arg0) = m ((c.tc : Thread Cert.EvDyIdeal.nD Cert.EvDyIdeal.τ).loc Cert.EvDyIdeal.main_arg0)
          ∧ r.2.mem ((c.tc : Thread Cert.EvDyIdeal.nD Cert.EvDyIdeal.τ).loc Cert.EvDyIdeal.main_arg1) = m ((c.tc : Thread Cert.EvDyIdeal.nD Cert.EvDyIdeal.τ).loc Cert.EvDyIdeal.main_arg1))
      ∧ θ_run (Cert.EvDyRefIdeal.defs (F := Ideal)) (onTc (τ := Cert.EvDyRefIdeal.τ) (Cert.EvDyRefIdeal.main (F := Ideal))) ⟨m', fun _ => 0, g'⟩ (fun r => ∀ c : Dev Cert.EvDyRefIdeal.nD,
          r.2.mem ((c.tc : Thread Cert.EvDyRefIdeal.nD Cert.EvDyRefIdeal.τ).loc Cert.EvDyRefIdeal.main_v3) = v0 c
          ∧ r.2.mem ((c.tc : Thread Cert.EvDyRefIdeal.nD Cert.EvDyRefIdeal.τ).loc Cert.EvDyRefIdeal.main_arg0) = m' ((c.tc : Thread Cert.EvDyRefIdeal.nD Cert.EvDyRefIdeal.τ).loc Cert.EvDyRefIdeal.main_arg0)
          ∧ r.2.mem ((c.tc : Thread Cert.EvDyRefIdeal.nD Cert.EvDyRefIdeal.τ).loc Cert.EvDyRefIdeal.main_arg1) = m' ((c.tc : Thread Cert.EvDyRefIdeal.nD Cert.EvDyRefIdeal.τ).loc Cert.EvDyRefIdeal.main_arg1))

def preserves_OdDy_OdDyIdeal : Prop :=
  True

def algebraic_OdDyIdeal_OdDyRefIdeal [hOdDyIdeal : Cert.OdDyIdeal.Facts] [hOdDyRefIdeal : Cert.OdDyRefIdeal.Facts] : Prop :=
  ∀ (m : (ℓ : Loc Cert.OdDyIdeal.nD Cert.OdDyIdeal.τ Cert.OdDyIdeal.sig) → Buf (Elt Ideal) ℓ) (g : Dev Cert.OdDyIdeal.nD → PrngReg)
    (m' : (ℓ : Loc Cert.OdDyRefIdeal.nD Cert.OdDyRefIdeal.τ Cert.OdDyRefIdeal.sig) → Buf (Elt Ideal) ℓ) (g' : Dev Cert.OdDyRefIdeal.nD → PrngReg), Pre_OdDyIdeal m →
    (∀ c : Dev Cert.OdDyIdeal.nD,
      m' ((c.tc : Thread Cert.OdDyRefIdeal.nD Cert.OdDyRefIdeal.τ).loc Cert.OdDyRefIdeal.main_arg0) = m ((c.tc : Thread Cert.OdDyIdeal.nD Cert.OdDyIdeal.τ).loc Cert.OdDyIdeal.main_arg0)
      ∧ m' ((c.tc : Thread Cert.OdDyRefIdeal.nD Cert.OdDyRefIdeal.τ).loc Cert.OdDyRefIdeal.main_arg1) = m ((c.tc : Thread Cert.OdDyIdeal.nD Cert.OdDyIdeal.τ).loc Cert.OdDyIdeal.main_arg1)) →
    ∃ (v0 : (c : Dev Cert.OdDyIdeal.nD) → Buf (Elt Ideal) ((c.tc : Thread Cert.OdDyIdeal.nD Cert.OdDyIdeal.τ).loc Cert.OdDyIdeal.main_v0)),
      θ_run (Cert.OdDyIdeal.defs (F := Ideal)) (onTc (τ := Cert.OdDyIdeal.τ) (Cert.OdDyIdeal.main (F := Ideal))) ⟨m, fun _ => 0, g⟩ (fun r => ∀ c : Dev Cert.OdDyIdeal.nD,
          r.2.mem ((c.tc : Thread Cert.OdDyIdeal.nD Cert.OdDyIdeal.τ).loc Cert.OdDyIdeal.main_v0) = v0 c
          ∧ r.2.mem ((c.tc : Thread Cert.OdDyIdeal.nD Cert.OdDyIdeal.τ).loc Cert.OdDyIdeal.main_arg0) = m ((c.tc : Thread Cert.OdDyIdeal.nD Cert.OdDyIdeal.τ).loc Cert.OdDyIdeal.main_arg0)
          ∧ r.2.mem ((c.tc : Thread Cert.OdDyIdeal.nD Cert.OdDyIdeal.τ).loc Cert.OdDyIdeal.main_arg1) = m ((c.tc : Thread Cert.OdDyIdeal.nD Cert.OdDyIdeal.τ).loc Cert.OdDyIdeal.main_arg1))
      ∧ θ_run (Cert.OdDyRefIdeal.defs (F := Ideal)) (onTc (τ := Cert.OdDyRefIdeal.τ) (Cert.OdDyRefIdeal.main (F := Ideal))) ⟨m', fun _ => 0, g'⟩ (fun r => ∀ c : Dev Cert.OdDyRefIdeal.nD,
          r.2.mem ((c.tc : Thread Cert.OdDyRefIdeal.nD Cert.OdDyRefIdeal.τ).loc Cert.OdDyRefIdeal.main_v3) = v0 c
          ∧ r.2.mem ((c.tc : Thread Cert.OdDyRefIdeal.nD Cert.OdDyRefIdeal.τ).loc Cert.OdDyRefIdeal.main_arg0) = m' ((c.tc : Thread Cert.OdDyRefIdeal.nD Cert.OdDyRefIdeal.τ).loc Cert.OdDyRefIdeal.main_arg0)
          ∧ r.2.mem ((c.tc : Thread Cert.OdDyRefIdeal.nD Cert.OdDyRefIdeal.τ).loc Cert.OdDyRefIdeal.main_arg1) = m' ((c.tc : Thread Cert.OdDyRefIdeal.nD Cert.OdDyRefIdeal.τ).loc Cert.OdDyRefIdeal.main_arg1))

def preserves_EvDwOut_EvDwOutIdeal : Prop :=
  True

def algebraic_EvDwOutIdeal_EvDwOutRefIdeal [hEvDwOutIdeal : Cert.EvDwOutIdeal.Facts] [hEvDwOutRefIdeal : Cert.EvDwOutRefIdeal.Facts] : Prop :=
  ∀ (m : (ℓ : Loc Cert.EvDwOutIdeal.nD Cert.EvDwOutIdeal.τ Cert.EvDwOutIdeal.sig) → Buf (Elt Ideal) ℓ) (g : Dev Cert.EvDwOutIdeal.nD → PrngReg)
    (m' : (ℓ : Loc Cert.EvDwOutRefIdeal.nD Cert.EvDwOutRefIdeal.τ Cert.EvDwOutRefIdeal.sig) → Buf (Elt Ideal) ℓ) (g' : Dev Cert.EvDwOutRefIdeal.nD → PrngReg), Pre_EvDwOutIdeal m →
    (∀ c : Dev Cert.EvDwOutIdeal.nD,
      m' ((c.tc : Thread Cert.EvDwOutRefIdeal.nD Cert.EvDwOutRefIdeal.τ).loc Cert.EvDwOutRefIdeal.main_arg0) = m ((c.tc : Thread Cert.EvDwOutIdeal.nD Cert.EvDwOutIdeal.τ).loc Cert.EvDwOutIdeal.main_arg0)
      ∧ m' ((c.tc : Thread Cert.EvDwOutRefIdeal.nD Cert.EvDwOutRefIdeal.τ).loc Cert.EvDwOutRefIdeal.main_arg1) = m ((c.tc : Thread Cert.EvDwOutIdeal.nD Cert.EvDwOutIdeal.τ).loc Cert.EvDwOutIdeal.main_arg1)) →
    ∃ (v0 : (c : Dev Cert.EvDwOutIdeal.nD) → Buf (Elt Ideal) ((c.tc : Thread Cert.EvDwOutIdeal.nD Cert.EvDwOutIdeal.τ).loc Cert.EvDwOutIdeal.main_v0)),
      θ_run (Cert.EvDwOutIdeal.defs (F := Ideal)) (onTc (τ := Cert.EvDwOutIdeal.τ) (Cert.EvDwOutIdeal.main (F := Ideal))) ⟨m, fun _ => 0, g⟩ (fun r => ∀ c : Dev Cert.EvDwOutIdeal.nD,
          r.2.mem ((c.tc : Thread Cert.EvDwOutIdeal.nD Cert.EvDwOutIdeal.τ).loc Cert.EvDwOutIdeal.main_v0) = v0 c
          ∧ r.2.mem ((c.tc : Thread Cert.EvDwOutIdeal.nD Cert.EvDwOutIdeal.τ).loc Cert.EvDwOutIdeal.main_arg0) = m ((c.tc : Thread Cert.EvDwOutIdeal.nD Cert.EvDwOutIdeal.τ).loc Cert.EvDwOutIdeal.main_arg0)
          ∧ r.2.mem ((c.tc : Thread Cert.EvDwOutIdeal.nD Cert.EvDwOutIdeal.τ).loc Cert.EvDwOutIdeal.main_arg1) = m ((c.tc : Thread Cert.EvDwOutIdeal.nD Cert.EvDwOutIdeal.τ).loc Cert.EvDwOutIdeal.main_arg1))
      ∧ θ_run (Cert.EvDwOutRefIdeal.defs (F := Ideal)) (onTc (τ := Cert.EvDwOutRefIdeal.τ) (Cert.EvDwOutRefIdeal.main (F := Ideal))) ⟨m', fun _ => 0, g'⟩ (fun r => ∀ c : Dev Cert.EvDwOutRefIdeal.nD,
          r.2.mem ((c.tc : Thread Cert.EvDwOutRefIdeal.nD Cert.EvDwOutRefIdeal.τ).loc Cert.EvDwOutRefIdeal.main_v3) = v0 c
          ∧ r.2.mem ((c.tc : Thread Cert.EvDwOutRefIdeal.nD Cert.EvDwOutRefIdeal.τ).loc Cert.EvDwOutRefIdeal.main_arg0) = m' ((c.tc : Thread Cert.EvDwOutRefIdeal.nD Cert.EvDwOutRefIdeal.τ).loc Cert.EvDwOutRefIdeal.main_arg0)
          ∧ r.2.mem ((c.tc : Thread Cert.EvDwOutRefIdeal.nD Cert.EvDwOutRefIdeal.τ).loc Cert.EvDwOutRefIdeal.main_arg1) = m' ((c.tc : Thread Cert.EvDwOutRefIdeal.nD Cert.EvDwOutRefIdeal.τ).loc Cert.EvDwOutRefIdeal.main_arg1))

def preserves_OdDwOut_OdDwOutIdeal : Prop :=
  True

def algebraic_OdDwOutIdeal_OdDwOutRefIdeal [hOdDwOutIdeal : Cert.OdDwOutIdeal.Facts] [hOdDwOutRefIdeal : Cert.OdDwOutRefIdeal.Facts] : Prop :=
  ∀ (m : (ℓ : Loc Cert.OdDwOutIdeal.nD Cert.OdDwOutIdeal.τ Cert.OdDwOutIdeal.sig) → Buf (Elt Ideal) ℓ) (g : Dev Cert.OdDwOutIdeal.nD → PrngReg)
    (m' : (ℓ : Loc Cert.OdDwOutRefIdeal.nD Cert.OdDwOutRefIdeal.τ Cert.OdDwOutRefIdeal.sig) → Buf (Elt Ideal) ℓ) (g' : Dev Cert.OdDwOutRefIdeal.nD → PrngReg), Pre_OdDwOutIdeal m →
    (∀ c : Dev Cert.OdDwOutIdeal.nD,
      m' ((c.tc : Thread Cert.OdDwOutRefIdeal.nD Cert.OdDwOutRefIdeal.τ).loc Cert.OdDwOutRefIdeal.main_arg0) = m ((c.tc : Thread Cert.OdDwOutIdeal.nD Cert.OdDwOutIdeal.τ).loc Cert.OdDwOutIdeal.main_arg0)
      ∧ m' ((c.tc : Thread Cert.OdDwOutRefIdeal.nD Cert.OdDwOutRefIdeal.τ).loc Cert.OdDwOutRefIdeal.main_arg1) = m ((c.tc : Thread Cert.OdDwOutIdeal.nD Cert.OdDwOutIdeal.τ).loc Cert.OdDwOutIdeal.main_arg1)) →
    ∃ (v0 : (c : Dev Cert.OdDwOutIdeal.nD) → Buf (Elt Ideal) ((c.tc : Thread Cert.OdDwOutIdeal.nD Cert.OdDwOutIdeal.τ).loc Cert.OdDwOutIdeal.main_v0)),
      θ_run (Cert.OdDwOutIdeal.defs (F := Ideal)) (onTc (τ := Cert.OdDwOutIdeal.τ) (Cert.OdDwOutIdeal.main (F := Ideal))) ⟨m, fun _ => 0, g⟩ (fun r => ∀ c : Dev Cert.OdDwOutIdeal.nD,
          r.2.mem ((c.tc : Thread Cert.OdDwOutIdeal.nD Cert.OdDwOutIdeal.τ).loc Cert.OdDwOutIdeal.main_v0) = v0 c
          ∧ r.2.mem ((c.tc : Thread Cert.OdDwOutIdeal.nD Cert.OdDwOutIdeal.τ).loc Cert.OdDwOutIdeal.main_arg0) = m ((c.tc : Thread Cert.OdDwOutIdeal.nD Cert.OdDwOutIdeal.τ).loc Cert.OdDwOutIdeal.main_arg0)
          ∧ r.2.mem ((c.tc : Thread Cert.OdDwOutIdeal.nD Cert.OdDwOutIdeal.τ).loc Cert.OdDwOutIdeal.main_arg1) = m ((c.tc : Thread Cert.OdDwOutIdeal.nD Cert.OdDwOutIdeal.τ).loc Cert.OdDwOutIdeal.main_arg1))
      ∧ θ_run (Cert.OdDwOutRefIdeal.defs (F := Ideal)) (onTc (τ := Cert.OdDwOutRefIdeal.τ) (Cert.OdDwOutRefIdeal.main (F := Ideal))) ⟨m', fun _ => 0, g'⟩ (fun r => ∀ c : Dev Cert.OdDwOutRefIdeal.nD,
          r.2.mem ((c.tc : Thread Cert.OdDwOutRefIdeal.nD Cert.OdDwOutRefIdeal.τ).loc Cert.OdDwOutRefIdeal.main_v3) = v0 c
          ∧ r.2.mem ((c.tc : Thread Cert.OdDwOutRefIdeal.nD Cert.OdDwOutRefIdeal.τ).loc Cert.OdDwOutRefIdeal.main_arg0) = m' ((c.tc : Thread Cert.OdDwOutRefIdeal.nD Cert.OdDwOutRefIdeal.τ).loc Cert.OdDwOutRefIdeal.main_arg0)
          ∧ r.2.mem ((c.tc : Thread Cert.OdDwOutRefIdeal.nD Cert.OdDwOutRefIdeal.τ).loc Cert.OdDwOutRefIdeal.main_arg1) = m' ((c.tc : Thread Cert.OdDwOutRefIdeal.nD Cert.OdDwOutRefIdeal.τ).loc Cert.OdDwOutRefIdeal.main_arg1))

def preserves_EvDwIn_EvDwInIdeal : Prop :=
  True

def algebraic_EvDwInIdeal_EvDwInRefIdeal [hEvDwInIdeal : Cert.EvDwInIdeal.Facts] [hEvDwInRefIdeal : Cert.EvDwInRefIdeal.Facts] : Prop :=
  ∀ (m : (ℓ : Loc Cert.EvDwInIdeal.nD Cert.EvDwInIdeal.τ Cert.EvDwInIdeal.sig) → Buf (Elt Ideal) ℓ) (g : Dev Cert.EvDwInIdeal.nD → PrngReg)
    (m' : (ℓ : Loc Cert.EvDwInRefIdeal.nD Cert.EvDwInRefIdeal.τ Cert.EvDwInRefIdeal.sig) → Buf (Elt Ideal) ℓ) (g' : Dev Cert.EvDwInRefIdeal.nD → PrngReg), Pre_EvDwInIdeal m →
    (∀ c : Dev Cert.EvDwInIdeal.nD,
      m' ((c.tc : Thread Cert.EvDwInRefIdeal.nD Cert.EvDwInRefIdeal.τ).loc Cert.EvDwInRefIdeal.main_arg0) = m ((c.tc : Thread Cert.EvDwInIdeal.nD Cert.EvDwInIdeal.τ).loc Cert.EvDwInIdeal.main_arg0)
      ∧ m' ((c.tc : Thread Cert.EvDwInRefIdeal.nD Cert.EvDwInRefIdeal.τ).loc Cert.EvDwInRefIdeal.main_arg1) = m ((c.tc : Thread Cert.EvDwInIdeal.nD Cert.EvDwInIdeal.τ).loc Cert.EvDwInIdeal.main_arg1)) →
    ∃ (v0 : (c : Dev Cert.EvDwInIdeal.nD) → Buf (Elt Ideal) ((c.tc : Thread Cert.EvDwInIdeal.nD Cert.EvDwInIdeal.τ).loc Cert.EvDwInIdeal.main_v0)),
      θ_run (Cert.EvDwInIdeal.defs (F := Ideal)) (onTc (τ := Cert.EvDwInIdeal.τ) (Cert.EvDwInIdeal.main (F := Ideal))) ⟨m, fun _ => 0, g⟩ (fun r => ∀ c : Dev Cert.EvDwInIdeal.nD,
          r.2.mem ((c.tc : Thread Cert.EvDwInIdeal.nD Cert.EvDwInIdeal.τ).loc Cert.EvDwInIdeal.main_v0) = v0 c
          ∧ r.2.mem ((c.tc : Thread Cert.EvDwInIdeal.nD Cert.EvDwInIdeal.τ).loc Cert.EvDwInIdeal.main_arg0) = m ((c.tc : Thread Cert.EvDwInIdeal.nD Cert.EvDwInIdeal.τ).loc Cert.EvDwInIdeal.main_arg0)
          ∧ r.2.mem ((c.tc : Thread Cert.EvDwInIdeal.nD Cert.EvDwInIdeal.τ).loc Cert.EvDwInIdeal.main_arg1) = m ((c.tc : Thread Cert.EvDwInIdeal.nD Cert.EvDwInIdeal.τ).loc Cert.EvDwInIdeal.main_arg1))
      ∧ θ_run (Cert.EvDwInRefIdeal.defs (F := Ideal)) (onTc (τ := Cert.EvDwInRefIdeal.τ) (Cert.EvDwInRefIdeal.main (F := Ideal))) ⟨m', fun _ => 0, g'⟩ (fun r => ∀ c : Dev Cert.EvDwInRefIdeal.nD,
          r.2.mem ((c.tc : Thread Cert.EvDwInRefIdeal.nD Cert.EvDwInRefIdeal.τ).loc Cert.EvDwInRefIdeal.main_v4) = v0 c
          ∧ r.2.mem ((c.tc : Thread Cert.EvDwInRefIdeal.nD Cert.EvDwInRefIdeal.τ).loc Cert.EvDwInRefIdeal.main_arg0) = m' ((c.tc : Thread Cert.EvDwInRefIdeal.nD Cert.EvDwInRefIdeal.τ).loc Cert.EvDwInRefIdeal.main_arg0)
          ∧ r.2.mem ((c.tc : Thread Cert.EvDwInRefIdeal.nD Cert.EvDwInRefIdeal.τ).loc Cert.EvDwInRefIdeal.main_arg1) = m' ((c.tc : Thread Cert.EvDwInRefIdeal.nD Cert.EvDwInRefIdeal.τ).loc Cert.EvDwInRefIdeal.main_arg1))

def preserves_OdDwIn_OdDwInIdeal : Prop :=
  True

def algebraic_OdDwInIdeal_OdDwInRefIdeal [hOdDwInIdeal : Cert.OdDwInIdeal.Facts] [hOdDwInRefIdeal : Cert.OdDwInRefIdeal.Facts] : Prop :=
  ∀ (m : (ℓ : Loc Cert.OdDwInIdeal.nD Cert.OdDwInIdeal.τ Cert.OdDwInIdeal.sig) → Buf (Elt Ideal) ℓ) (g : Dev Cert.OdDwInIdeal.nD → PrngReg)
    (m' : (ℓ : Loc Cert.OdDwInRefIdeal.nD Cert.OdDwInRefIdeal.τ Cert.OdDwInRefIdeal.sig) → Buf (Elt Ideal) ℓ) (g' : Dev Cert.OdDwInRefIdeal.nD → PrngReg), Pre_OdDwInIdeal m →
    (∀ c : Dev Cert.OdDwInIdeal.nD,
      m' ((c.tc : Thread Cert.OdDwInRefIdeal.nD Cert.OdDwInRefIdeal.τ).loc Cert.OdDwInRefIdeal.main_arg0) = m ((c.tc : Thread Cert.OdDwInIdeal.nD Cert.OdDwInIdeal.τ).loc Cert.OdDwInIdeal.main_arg0)
      ∧ m' ((c.tc : Thread Cert.OdDwInRefIdeal.nD Cert.OdDwInRefIdeal.τ).loc Cert.OdDwInRefIdeal.main_arg1) = m ((c.tc : Thread Cert.OdDwInIdeal.nD Cert.OdDwInIdeal.τ).loc Cert.OdDwInIdeal.main_arg1)) →
    ∃ (v0 : (c : Dev Cert.OdDwInIdeal.nD) → Buf (Elt Ideal) ((c.tc : Thread Cert.OdDwInIdeal.nD Cert.OdDwInIdeal.τ).loc Cert.OdDwInIdeal.main_v0)),
      θ_run (Cert.OdDwInIdeal.defs (F := Ideal)) (onTc (τ := Cert.OdDwInIdeal.τ) (Cert.OdDwInIdeal.main (F := Ideal))) ⟨m, fun _ => 0, g⟩ (fun r => ∀ c : Dev Cert.OdDwInIdeal.nD,
          r.2.mem ((c.tc : Thread Cert.OdDwInIdeal.nD Cert.OdDwInIdeal.τ).loc Cert.OdDwInIdeal.main_v0) = v0 c
          ∧ r.2.mem ((c.tc : Thread Cert.OdDwInIdeal.nD Cert.OdDwInIdeal.τ).loc Cert.OdDwInIdeal.main_arg0) = m ((c.tc : Thread Cert.OdDwInIdeal.nD Cert.OdDwInIdeal.τ).loc Cert.OdDwInIdeal.main_arg0)
          ∧ r.2.mem ((c.tc : Thread Cert.OdDwInIdeal.nD Cert.OdDwInIdeal.τ).loc Cert.OdDwInIdeal.main_arg1) = m ((c.tc : Thread Cert.OdDwInIdeal.nD Cert.OdDwInIdeal.τ).loc Cert.OdDwInIdeal.main_arg1))
      ∧ θ_run (Cert.OdDwInRefIdeal.defs (F := Ideal)) (onTc (τ := Cert.OdDwInRefIdeal.τ) (Cert.OdDwInRefIdeal.main (F := Ideal))) ⟨m', fun _ => 0, g'⟩ (fun r => ∀ c : Dev Cert.OdDwInRefIdeal.nD,
          r.2.mem ((c.tc : Thread Cert.OdDwInRefIdeal.nD Cert.OdDwInRefIdeal.τ).loc Cert.OdDwInRefIdeal.main_v4) = v0 c
          ∧ r.2.mem ((c.tc : Thread Cert.OdDwInRefIdeal.nD Cert.OdDwInRefIdeal.τ).loc Cert.OdDwInRefIdeal.main_arg0) = m' ((c.tc : Thread Cert.OdDwInRefIdeal.nD Cert.OdDwInRefIdeal.τ).loc Cert.OdDwInRefIdeal.main_arg0)
          ∧ r.2.mem ((c.tc : Thread Cert.OdDwInRefIdeal.nD Cert.OdDwInRefIdeal.τ).loc Cert.OdDwInRefIdeal.main_arg1) = m' ((c.tc : Thread Cert.OdDwInRefIdeal.nD Cert.OdDwInRefIdeal.τ).loc Cert.OdDwInRefIdeal.main_arg1))

def preserves_OdDwBd_OdDwBdIdeal : Prop :=
  True

def algebraic_OdDwBdIdeal_OdDwBdRefIdeal [hOdDwBdIdeal : Cert.OdDwBdIdeal.Facts] [hOdDwBdRefIdeal : Cert.OdDwBdRefIdeal.Facts] : Prop :=
  ∀ (m : (ℓ : Loc Cert.OdDwBdIdeal.nD Cert.OdDwBdIdeal.τ Cert.OdDwBdIdeal.sig) → Buf (Elt Ideal) ℓ) (g : Dev Cert.OdDwBdIdeal.nD → PrngReg)
    (m' : (ℓ : Loc Cert.OdDwBdRefIdeal.nD Cert.OdDwBdRefIdeal.τ Cert.OdDwBdRefIdeal.sig) → Buf (Elt Ideal) ℓ) (g' : Dev Cert.OdDwBdRefIdeal.nD → PrngReg), Pre_OdDwBdIdeal m →
    (∀ c : Dev Cert.OdDwBdIdeal.nD,
      m' ((c.tc : Thread Cert.OdDwBdRefIdeal.nD Cert.OdDwBdRefIdeal.τ).loc Cert.OdDwBdRefIdeal.main_arg0) = m ((c.tc : Thread Cert.OdDwBdIdeal.nD Cert.OdDwBdIdeal.τ).loc Cert.OdDwBdIdeal.main_arg0)
      ∧ m' ((c.tc : Thread Cert.OdDwBdRefIdeal.nD Cert.OdDwBdRefIdeal.τ).loc Cert.OdDwBdRefIdeal.main_arg1) = m ((c.tc : Thread Cert.OdDwBdIdeal.nD Cert.OdDwBdIdeal.τ).loc Cert.OdDwBdIdeal.main_arg1)) →
    ∃ (v0 : (c : Dev Cert.OdDwBdIdeal.nD) → Buf (Elt Ideal) ((c.tc : Thread Cert.OdDwBdIdeal.nD Cert.OdDwBdIdeal.τ).loc Cert.OdDwBdIdeal.main_v0)),
      θ_run (Cert.OdDwBdIdeal.defs (F := Ideal)) (onTc (τ := Cert.OdDwBdIdeal.τ) (Cert.OdDwBdIdeal.main (F := Ideal))) ⟨m, fun _ => 0, g⟩ (fun r => ∀ c : Dev Cert.OdDwBdIdeal.nD,
          r.2.mem ((c.tc : Thread Cert.OdDwBdIdeal.nD Cert.OdDwBdIdeal.τ).loc Cert.OdDwBdIdeal.main_v0) = v0 c
          ∧ r.2.mem ((c.tc : Thread Cert.OdDwBdIdeal.nD Cert.OdDwBdIdeal.τ).loc Cert.OdDwBdIdeal.main_arg0) = m ((c.tc : Thread Cert.OdDwBdIdeal.nD Cert.OdDwBdIdeal.τ).loc Cert.OdDwBdIdeal.main_arg0)
          ∧ r.2.mem ((c.tc : Thread Cert.OdDwBdIdeal.nD Cert.OdDwBdIdeal.τ).loc Cert.OdDwBdIdeal.main_arg1) = m ((c.tc : Thread Cert.OdDwBdIdeal.nD Cert.OdDwBdIdeal.τ).loc Cert.OdDwBdIdeal.main_arg1))
      ∧ θ_run (Cert.OdDwBdRefIdeal.defs (F := Ideal)) (onTc (τ := Cert.OdDwBdRefIdeal.τ) (Cert.OdDwBdRefIdeal.main (F := Ideal))) ⟨m', fun _ => 0, g'⟩ (fun r => ∀ c : Dev Cert.OdDwBdRefIdeal.nD,
          r.2.mem ((c.tc : Thread Cert.OdDwBdRefIdeal.nD Cert.OdDwBdRefIdeal.τ).loc Cert.OdDwBdRefIdeal.main_v4) = v0 c
          ∧ r.2.mem ((c.tc : Thread Cert.OdDwBdRefIdeal.nD Cert.OdDwBdRefIdeal.τ).loc Cert.OdDwBdRefIdeal.main_arg0) = m' ((c.tc : Thread Cert.OdDwBdRefIdeal.nD Cert.OdDwBdRefIdeal.τ).loc Cert.OdDwBdRefIdeal.main_arg0)
          ∧ r.2.mem ((c.tc : Thread Cert.OdDwBdRefIdeal.nD Cert.OdDwBdRefIdeal.τ).loc Cert.OdDwBdRefIdeal.main_arg1) = m' ((c.tc : Thread Cert.OdDwBdRefIdeal.nD Cert.OdDwBdRefIdeal.τ).loc Cert.OdDwBdRefIdeal.main_arg1))

def preserves_EvDh_EvDhIdeal : Prop :=
  True

def algebraic_EvDhIdeal_EvDhRefIdeal [hEvDhIdeal : Cert.EvDhIdeal.Facts] [hEvDhRefIdeal : Cert.EvDhRefIdeal.Facts] : Prop :=
  ∀ (m : (ℓ : Loc Cert.EvDhIdeal.nD Cert.EvDhIdeal.τ Cert.EvDhIdeal.sig) → Buf (Elt Ideal) ℓ) (g : Dev Cert.EvDhIdeal.nD → PrngReg)
    (m' : (ℓ : Loc Cert.EvDhRefIdeal.nD Cert.EvDhRefIdeal.τ Cert.EvDhRefIdeal.sig) → Buf (Elt Ideal) ℓ) (g' : Dev Cert.EvDhRefIdeal.nD → PrngReg), Pre_EvDhIdeal m →
    (∀ c : Dev Cert.EvDhIdeal.nD,
      m' ((c.tc : Thread Cert.EvDhRefIdeal.nD Cert.EvDhRefIdeal.τ).loc Cert.EvDhRefIdeal.main_arg0) = m ((c.tc : Thread Cert.EvDhIdeal.nD Cert.EvDhIdeal.τ).loc Cert.EvDhIdeal.main_arg0)
      ∧ m' ((c.tc : Thread Cert.EvDhRefIdeal.nD Cert.EvDhRefIdeal.τ).loc Cert.EvDhRefIdeal.main_arg1) = m ((c.tc : Thread Cert.EvDhIdeal.nD Cert.EvDhIdeal.τ).loc Cert.EvDhIdeal.main_arg1)) →
    ∃ (v0 : (c : Dev Cert.EvDhIdeal.nD) → Buf (Elt Ideal) ((c.tc : Thread Cert.EvDhIdeal.nD Cert.EvDhIdeal.τ).loc Cert.EvDhIdeal.main_v0)),
      θ_run (Cert.EvDhIdeal.defs (F := Ideal)) (onTc (τ := Cert.EvDhIdeal.τ) (Cert.EvDhIdeal.main (F := Ideal))) ⟨m, fun _ => 0, g⟩ (fun r => ∀ c : Dev Cert.EvDhIdeal.nD,
          r.2.mem ((c.tc : Thread Cert.EvDhIdeal.nD Cert.EvDhIdeal.τ).loc Cert.EvDhIdeal.main_v0) = v0 c
          ∧ r.2.mem ((c.tc : Thread Cert.EvDhIdeal.nD Cert.EvDhIdeal.τ).loc Cert.EvDhIdeal.main_arg0) = m ((c.tc : Thread Cert.EvDhIdeal.nD Cert.EvDhIdeal.τ).loc Cert.EvDhIdeal.main_arg0)
          ∧ r.2.mem ((c.tc : Thread Cert.EvDhIdeal.nD Cert.EvDhIdeal.τ).loc Cert.EvDhIdeal.main_arg1) = m ((c.tc : Thread Cert.EvDhIdeal.nD Cert.EvDhIdeal.τ).loc Cert.EvDhIdeal.main_arg1))
      ∧ θ_run (Cert.EvDhRefIdeal.defs (F := Ideal)) (onTc (τ := Cert.EvDhRefIdeal.τ) (Cert.EvDhRefIdeal.main (F := Ideal))) ⟨m', fun _ => 0, g'⟩ (fun r => ∀ c : Dev Cert.EvDhRefIdeal.nD,
          r.2.mem ((c.tc : Thread Cert.EvDhRefIdeal.nD Cert.EvDhRefIdeal.τ).loc Cert.EvDhRefIdeal.main_v3) = v0 c
          ∧ r.2.mem ((c.tc : Thread Cert.EvDhRefIdeal.nD Cert.EvDhRefIdeal.τ).loc Cert.EvDhRefIdeal.main_arg0) = m' ((c.tc : Thread Cert.EvDhRefIdeal.nD Cert.EvDhRefIdeal.τ).loc Cert.EvDhRefIdeal.main_arg0)
          ∧ r.2.mem ((c.tc : Thread Cert.EvDhRefIdeal.nD Cert.EvDhRefIdeal.τ).loc Cert.EvDhRefIdeal.main_arg1) = m' ((c.tc : Thread Cert.EvDhRefIdeal.nD Cert.EvDhRefIdeal.τ).loc Cert.EvDhRefIdeal.main_arg1))

def preserves_OdDh_OdDhIdeal : Prop :=
  True

def algebraic_OdDhIdeal_OdDhRefIdeal [hOdDhIdeal : Cert.OdDhIdeal.Facts] [hOdDhRefIdeal : Cert.OdDhRefIdeal.Facts] : Prop :=
  ∀ (m : (ℓ : Loc Cert.OdDhIdeal.nD Cert.OdDhIdeal.τ Cert.OdDhIdeal.sig) → Buf (Elt Ideal) ℓ) (g : Dev Cert.OdDhIdeal.nD → PrngReg)
    (m' : (ℓ : Loc Cert.OdDhRefIdeal.nD Cert.OdDhRefIdeal.τ Cert.OdDhRefIdeal.sig) → Buf (Elt Ideal) ℓ) (g' : Dev Cert.OdDhRefIdeal.nD → PrngReg), Pre_OdDhIdeal m →
    (∀ c : Dev Cert.OdDhIdeal.nD,
      m' ((c.tc : Thread Cert.OdDhRefIdeal.nD Cert.OdDhRefIdeal.τ).loc Cert.OdDhRefIdeal.main_arg0) = m ((c.tc : Thread Cert.OdDhIdeal.nD Cert.OdDhIdeal.τ).loc Cert.OdDhIdeal.main_arg0)
      ∧ m' ((c.tc : Thread Cert.OdDhRefIdeal.nD Cert.OdDhRefIdeal.τ).loc Cert.OdDhRefIdeal.main_arg1) = m ((c.tc : Thread Cert.OdDhIdeal.nD Cert.OdDhIdeal.τ).loc Cert.OdDhIdeal.main_arg1)) →
    ∃ (v0 : (c : Dev Cert.OdDhIdeal.nD) → Buf (Elt Ideal) ((c.tc : Thread Cert.OdDhIdeal.nD Cert.OdDhIdeal.τ).loc Cert.OdDhIdeal.main_v0)),
      θ_run (Cert.OdDhIdeal.defs (F := Ideal)) (onTc (τ := Cert.OdDhIdeal.τ) (Cert.OdDhIdeal.main (F := Ideal))) ⟨m, fun _ => 0, g⟩ (fun r => ∀ c : Dev Cert.OdDhIdeal.nD,
          r.2.mem ((c.tc : Thread Cert.OdDhIdeal.nD Cert.OdDhIdeal.τ).loc Cert.OdDhIdeal.main_v0) = v0 c
          ∧ r.2.mem ((c.tc : Thread Cert.OdDhIdeal.nD Cert.OdDhIdeal.τ).loc Cert.OdDhIdeal.main_arg0) = m ((c.tc : Thread Cert.OdDhIdeal.nD Cert.OdDhIdeal.τ).loc Cert.OdDhIdeal.main_arg0)
          ∧ r.2.mem ((c.tc : Thread Cert.OdDhIdeal.nD Cert.OdDhIdeal.τ).loc Cert.OdDhIdeal.main_arg1) = m ((c.tc : Thread Cert.OdDhIdeal.nD Cert.OdDhIdeal.τ).loc Cert.OdDhIdeal.main_arg1))
      ∧ θ_run (Cert.OdDhRefIdeal.defs (F := Ideal)) (onTc (τ := Cert.OdDhRefIdeal.τ) (Cert.OdDhRefIdeal.main (F := Ideal))) ⟨m', fun _ => 0, g'⟩ (fun r => ∀ c : Dev Cert.OdDhRefIdeal.nD,
          r.2.mem ((c.tc : Thread Cert.OdDhRefIdeal.nD Cert.OdDhRefIdeal.τ).loc Cert.OdDhRefIdeal.main_v3) = v0 c
          ∧ r.2.mem ((c.tc : Thread Cert.OdDhRefIdeal.nD Cert.OdDhRefIdeal.τ).loc Cert.OdDhRefIdeal.main_arg0) = m' ((c.tc : Thread Cert.OdDhRefIdeal.nD Cert.OdDhRefIdeal.τ).loc Cert.OdDhRefIdeal.main_arg0)
          ∧ r.2.mem ((c.tc : Thread Cert.OdDhRefIdeal.nD Cert.OdDhRefIdeal.τ).loc Cert.OdDhRefIdeal.main_arg1) = m' ((c.tc : Thread Cert.OdDhRefIdeal.nD Cert.OdDhRefIdeal.τ).loc Cert.OdDhRefIdeal.main_arg1))

def preserves_OdDhBd_OdDhBdIdeal : Prop :=
  True

def algebraic_OdDhBdIdeal_OdDhBdRefIdeal [hOdDhBdIdeal : Cert.OdDhBdIdeal.Facts] [hOdDhBdRefIdeal : Cert.OdDhBdRefIdeal.Facts] : Prop :=
  ∀ (m : (ℓ : Loc Cert.OdDhBdIdeal.nD Cert.OdDhBdIdeal.τ Cert.OdDhBdIdeal.sig) → Buf (Elt Ideal) ℓ) (g : Dev Cert.OdDhBdIdeal.nD → PrngReg)
    (m' : (ℓ : Loc Cert.OdDhBdRefIdeal.nD Cert.OdDhBdRefIdeal.τ Cert.OdDhBdRefIdeal.sig) → Buf (Elt Ideal) ℓ) (g' : Dev Cert.OdDhBdRefIdeal.nD → PrngReg), Pre_OdDhBdIdeal m →
    (∀ c : Dev Cert.OdDhBdIdeal.nD,
      m' ((c.tc : Thread Cert.OdDhBdRefIdeal.nD Cert.OdDhBdRefIdeal.τ).loc Cert.OdDhBdRefIdeal.main_arg0) = m ((c.tc : Thread Cert.OdDhBdIdeal.nD Cert.OdDhBdIdeal.τ).loc Cert.OdDhBdIdeal.main_arg0)
      ∧ m' ((c.tc : Thread Cert.OdDhBdRefIdeal.nD Cert.OdDhBdRefIdeal.τ).loc Cert.OdDhBdRefIdeal.main_arg1) = m ((c.tc : Thread Cert.OdDhBdIdeal.nD Cert.OdDhBdIdeal.τ).loc Cert.OdDhBdIdeal.main_arg1)
      ∧ m' ((c.tc : Thread Cert.OdDhBdRefIdeal.nD Cert.OdDhBdRefIdeal.τ).loc Cert.OdDhBdRefIdeal.main_arg2) = m ((c.tc : Thread Cert.OdDhBdIdeal.nD Cert.OdDhBdIdeal.τ).loc Cert.OdDhBdIdeal.main_arg2)) →
    ∃ (v0 : (c : Dev Cert.OdDhBdIdeal.nD) → Buf (Elt Ideal) ((c.tc : Thread Cert.OdDhBdIdeal.nD Cert.OdDhBdIdeal.τ).loc Cert.OdDhBdIdeal.main_v0)),
      θ_run (Cert.OdDhBdIdeal.defs (F := Ideal)) (onTc (τ := Cert.OdDhBdIdeal.τ) (Cert.OdDhBdIdeal.main (F := Ideal))) ⟨m, fun _ => 0, g⟩ (fun r => ∀ c : Dev Cert.OdDhBdIdeal.nD,
          r.2.mem ((c.tc : Thread Cert.OdDhBdIdeal.nD Cert.OdDhBdIdeal.τ).loc Cert.OdDhBdIdeal.main_v0) = v0 c
          ∧ r.2.mem ((c.tc : Thread Cert.OdDhBdIdeal.nD Cert.OdDhBdIdeal.τ).loc Cert.OdDhBdIdeal.main_arg0) = m ((c.tc : Thread Cert.OdDhBdIdeal.nD Cert.OdDhBdIdeal.τ).loc Cert.OdDhBdIdeal.main_arg0)
          ∧ r.2.mem ((c.tc : Thread Cert.OdDhBdIdeal.nD Cert.OdDhBdIdeal.τ).loc Cert.OdDhBdIdeal.main_arg1) = m ((c.tc : Thread Cert.OdDhBdIdeal.nD Cert.OdDhBdIdeal.τ).loc Cert.OdDhBdIdeal.main_arg1)
          ∧ r.2.mem ((c.tc : Thread Cert.OdDhBdIdeal.nD Cert.OdDhBdIdeal.τ).loc Cert.OdDhBdIdeal.main_arg2) = m ((c.tc : Thread Cert.OdDhBdIdeal.nD Cert.OdDhBdIdeal.τ).loc Cert.OdDhBdIdeal.main_arg2))
      ∧ θ_run (Cert.OdDhBdRefIdeal.defs (F := Ideal)) (onTc (τ := Cert.OdDhBdRefIdeal.τ) (Cert.OdDhBdRefIdeal.main (F := Ideal))) ⟨m', fun _ => 0, g'⟩ (fun r => ∀ c : Dev Cert.OdDhBdRefIdeal.nD,
          r.2.mem ((c.tc : Thread Cert.OdDhBdRefIdeal.nD Cert.OdDhBdRefIdeal.τ).loc Cert.OdDhBdRefIdeal.main_v4) = v0 c
          ∧ r.2.mem ((c.tc : Thread Cert.OdDhBdRefIdeal.nD Cert.OdDhBdRefIdeal.τ).loc Cert.OdDhBdRefIdeal.main_arg0) = m' ((c.tc : Thread Cert.OdDhBdRefIdeal.nD Cert.OdDhBdRefIdeal.τ).loc Cert.OdDhBdRefIdeal.main_arg0)
          ∧ r.2.mem ((c.tc : Thread Cert.OdDhBdRefIdeal.nD Cert.OdDhBdRefIdeal.τ).loc Cert.OdDhBdRefIdeal.main_arg1) = m' ((c.tc : Thread Cert.OdDhBdRefIdeal.nD Cert.OdDhBdRefIdeal.τ).loc Cert.OdDhBdRefIdeal.main_arg1)
          ∧ r.2.mem ((c.tc : Thread Cert.OdDhBdRefIdeal.nD Cert.OdDhBdRefIdeal.τ).loc Cert.OdDhBdRefIdeal.main_arg2) = m' ((c.tc : Thread Cert.OdDhBdRefIdeal.nD Cert.OdDhBdRefIdeal.τ).loc Cert.OdDhBdRefIdeal.main_arg2))

def preserves_SsmDc_SsmDcIdeal : Prop :=
  True

def algebraic_SsmDcIdeal_SsmDcRefIdeal [hSsmDcIdeal : Cert.SsmDcIdeal.Facts] [hSsmDcRefIdeal : Cert.SsmDcRefIdeal.Facts] : Prop :=
  ∀ (m : (ℓ : Loc Cert.SsmDcIdeal.nD Cert.SsmDcIdeal.τ Cert.SsmDcIdeal.sig) → Buf (Elt Ideal) ℓ) (g : Dev Cert.SsmDcIdeal.nD → PrngReg)
    (m' : (ℓ : Loc Cert.SsmDcRefIdeal.nD Cert.SsmDcRefIdeal.τ Cert.SsmDcRefIdeal.sig) → Buf (Elt Ideal) ℓ) (g' : Dev Cert.SsmDcRefIdeal.nD → PrngReg), Pre_SsmDcIdeal m →
    (∀ c : Dev Cert.SsmDcIdeal.nD,
      m' ((c.tc : Thread Cert.SsmDcRefIdeal.nD Cert.SsmDcRefIdeal.τ).loc Cert.SsmDcRefIdeal.main_arg0) = m ((c.tc : Thread Cert.SsmDcIdeal.nD Cert.SsmDcIdeal.τ).loc Cert.SsmDcIdeal.main_arg0)
      ∧ m' ((c.tc : Thread Cert.SsmDcRefIdeal.nD Cert.SsmDcRefIdeal.τ).loc Cert.SsmDcRefIdeal.main_arg1) = m ((c.tc : Thread Cert.SsmDcIdeal.nD Cert.SsmDcIdeal.τ).loc Cert.SsmDcIdeal.main_arg1)) →
    ∃ (v0 : (c : Dev Cert.SsmDcIdeal.nD) → Buf (Elt Ideal) ((c.tc : Thread Cert.SsmDcIdeal.nD Cert.SsmDcIdeal.τ).loc Cert.SsmDcIdeal.main_v9)),
      θ_run (Cert.SsmDcIdeal.defs (F := Ideal)) (onTc (τ := Cert.SsmDcIdeal.τ) (Cert.SsmDcIdeal.main (F := Ideal))) ⟨m, fun _ => 0, g⟩ (fun r => ∀ c : Dev Cert.SsmDcIdeal.nD,
          r.2.mem ((c.tc : Thread Cert.SsmDcIdeal.nD Cert.SsmDcIdeal.τ).loc Cert.SsmDcIdeal.main_v9) = v0 c
          ∧ r.2.mem ((c.tc : Thread Cert.SsmDcIdeal.nD Cert.SsmDcIdeal.τ).loc Cert.SsmDcIdeal.main_arg0) = m ((c.tc : Thread Cert.SsmDcIdeal.nD Cert.SsmDcIdeal.τ).loc Cert.SsmDcIdeal.main_arg0)
          ∧ r.2.mem ((c.tc : Thread Cert.SsmDcIdeal.nD Cert.SsmDcIdeal.τ).loc Cert.SsmDcIdeal.main_arg1) = m ((c.tc : Thread Cert.SsmDcIdeal.nD Cert.SsmDcIdeal.τ).loc Cert.SsmDcIdeal.main_arg1))
      ∧ θ_run (Cert.SsmDcRefIdeal.defs (F := Ideal)) (onTc (τ := Cert.SsmDcRefIdeal.τ) (Cert.SsmDcRefIdeal.main (F := Ideal))) ⟨m', fun _ => 0, g'⟩ (fun r => ∀ c : Dev Cert.SsmDcRefIdeal.nD,
          r.2.mem ((c.tc : Thread Cert.SsmDcRefIdeal.nD Cert.SsmDcRefIdeal.τ).loc Cert.SsmDcRefIdeal.main_v6) = v0 c
          ∧ r.2.mem ((c.tc : Thread Cert.SsmDcRefIdeal.nD Cert.SsmDcRefIdeal.τ).loc Cert.SsmDcRefIdeal.main_arg0) = m' ((c.tc : Thread Cert.SsmDcRefIdeal.nD Cert.SsmDcRefIdeal.τ).loc Cert.SsmDcRefIdeal.main_arg0)
          ∧ r.2.mem ((c.tc : Thread Cert.SsmDcRefIdeal.nD Cert.SsmDcRefIdeal.τ).loc Cert.SsmDcRefIdeal.main_arg1) = m' ((c.tc : Thread Cert.SsmDcRefIdeal.nD Cert.SsmDcRefIdeal.τ).loc Cert.SsmDcRefIdeal.main_arg1))

def preserves_SsmPost_SsmPostIdeal : Prop :=
  True

def algebraic_SsmPostIdeal_SsmPostRefIdeal [hSsmPostIdeal : Cert.SsmPostIdeal.Facts] [hSsmPostRefIdeal : Cert.SsmPostRefIdeal.Facts] : Prop :=
  ∀ (m : (ℓ : Loc Cert.SsmPostIdeal.nD Cert.SsmPostIdeal.τ Cert.SsmPostIdeal.sig) → Buf (Elt Ideal) ℓ) (g : Dev Cert.SsmPostIdeal.nD → PrngReg)
    (m' : (ℓ : Loc Cert.SsmPostRefIdeal.nD Cert.SsmPostRefIdeal.τ Cert.SsmPostRefIdeal.sig) → Buf (Elt Ideal) ℓ) (g' : Dev Cert.SsmPostRefIdeal.nD → PrngReg), Pre_SsmPostIdeal m →
    (∀ c : Dev Cert.SsmPostIdeal.nD,
      m' ((c.tc : Thread Cert.SsmPostRefIdeal.nD Cert.SsmPostRefIdeal.τ).loc Cert.SsmPostRefIdeal.main_arg0) = m ((c.tc : Thread Cert.SsmPostIdeal.nD Cert.SsmPostIdeal.τ).loc Cert.SsmPostIdeal.main_arg0)
      ∧ m' ((c.tc : Thread Cert.SsmPostRefIdeal.nD Cert.SsmPostRefIdeal.τ).loc Cert.SsmPostRefIdeal.main_arg1) = m ((c.tc : Thread Cert.SsmPostIdeal.nD Cert.SsmPostIdeal.τ).loc Cert.SsmPostIdeal.main_arg1)
      ∧ m' ((c.tc : Thread Cert.SsmPostRefIdeal.nD Cert.SsmPostRefIdeal.τ).loc Cert.SsmPostRefIdeal.main_arg2) = m ((c.tc : Thread Cert.SsmPostIdeal.nD Cert.SsmPostIdeal.τ).loc Cert.SsmPostIdeal.main_arg2)
      ∧ m' ((c.tc : Thread Cert.SsmPostRefIdeal.nD Cert.SsmPostRefIdeal.τ).loc Cert.SsmPostRefIdeal.main_arg3) = m ((c.tc : Thread Cert.SsmPostIdeal.nD Cert.SsmPostIdeal.τ).loc Cert.SsmPostIdeal.main_arg3)) →
    ∃ (v0 : (c : Dev Cert.SsmPostIdeal.nD) → Buf (Elt Ideal) ((c.tc : Thread Cert.SsmPostIdeal.nD Cert.SsmPostIdeal.τ).loc Cert.SsmPostIdeal.main_v0)),
      θ_run (Cert.SsmPostIdeal.defs (F := Ideal)) (onTc (τ := Cert.SsmPostIdeal.τ) (Cert.SsmPostIdeal.main (F := Ideal))) ⟨m, fun _ => 0, g⟩ (fun r => ∀ c : Dev Cert.SsmPostIdeal.nD,
          r.2.mem ((c.tc : Thread Cert.SsmPostIdeal.nD Cert.SsmPostIdeal.τ).loc Cert.SsmPostIdeal.main_v0) = v0 c
          ∧ r.2.mem ((c.tc : Thread Cert.SsmPostIdeal.nD Cert.SsmPostIdeal.τ).loc Cert.SsmPostIdeal.main_arg0) = m ((c.tc : Thread Cert.SsmPostIdeal.nD Cert.SsmPostIdeal.τ).loc Cert.SsmPostIdeal.main_arg0)
          ∧ r.2.mem ((c.tc : Thread Cert.SsmPostIdeal.nD Cert.SsmPostIdeal.τ).loc Cert.SsmPostIdeal.main_arg1) = m ((c.tc : Thread Cert.SsmPostIdeal.nD Cert.SsmPostIdeal.τ).loc Cert.SsmPostIdeal.main_arg1)
          ∧ r.2.mem ((c.tc : Thread Cert.SsmPostIdeal.nD Cert.SsmPostIdeal.τ).loc Cert.SsmPostIdeal.main_arg2) = m ((c.tc : Thread Cert.SsmPostIdeal.nD Cert.SsmPostIdeal.τ).loc Cert.SsmPostIdeal.main_arg2)
          ∧ r.2.mem ((c.tc : Thread Cert.SsmPostIdeal.nD Cert.SsmPostIdeal.τ).loc Cert.SsmPostIdeal.main_arg3) = m ((c.tc : Thread Cert.SsmPostIdeal.nD Cert.SsmPostIdeal.τ).loc Cert.SsmPostIdeal.main_arg3))
      ∧ θ_run (Cert.SsmPostRefIdeal.defs (F := Ideal)) (onTc (τ := Cert.SsmPostRefIdeal.τ) (Cert.SsmPostRefIdeal.main (F := Ideal))) ⟨m', fun _ => 0, g'⟩ (fun r => ∀ c : Dev Cert.SsmPostRefIdeal.nD,
          r.2.mem ((c.tc : Thread Cert.SsmPostRefIdeal.nD Cert.SsmPostRefIdeal.τ).loc Cert.SsmPostRefIdeal.main_v24) = v0 c
          ∧ r.2.mem ((c.tc : Thread Cert.SsmPostRefIdeal.nD Cert.SsmPostRefIdeal.τ).loc Cert.SsmPostRefIdeal.main_arg0) = m' ((c.tc : Thread Cert.SsmPostRefIdeal.nD Cert.SsmPostRefIdeal.τ).loc Cert.SsmPostRefIdeal.main_arg0)
          ∧ r.2.mem ((c.tc : Thread Cert.SsmPostRefIdeal.nD Cert.SsmPostRefIdeal.τ).loc Cert.SsmPostRefIdeal.main_arg1) = m' ((c.tc : Thread Cert.SsmPostRefIdeal.nD Cert.SsmPostRefIdeal.τ).loc Cert.SsmPostRefIdeal.main_arg1)
          ∧ r.2.mem ((c.tc : Thread Cert.SsmPostRefIdeal.nD Cert.SsmPostRefIdeal.τ).loc Cert.SsmPostRefIdeal.main_arg2) = m' ((c.tc : Thread Cert.SsmPostRefIdeal.nD Cert.SsmPostRefIdeal.τ).loc Cert.SsmPostRefIdeal.main_arg2)
          ∧ r.2.mem ((c.tc : Thread Cert.SsmPostRefIdeal.nD Cert.SsmPostRefIdeal.τ).loc Cert.SsmPostRefIdeal.main_arg3) = m' ((c.tc : Thread Cert.SsmPostRefIdeal.nD Cert.SsmPostRefIdeal.τ).loc Cert.SsmPostRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v49) = v0 c
          ∧ r.2.mem ((c.tc : Thread Cert.LossHeadRefIdeal.nD Cert.LossHeadRefIdeal.τ).loc Cert.LossHeadRefIdeal.main_v48) = v1 c
          ∧ r.2.mem ((c.tc : Thread Cert.LossHeadRefIdeal.nD Cert.LossHeadRefIdeal.τ).loc Cert.LossHeadRefIdeal.main_v32) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_FirstNorm_FirstNormIdeal : Prop :=
  True

def algebraic_FirstNormIdeal_FirstNormRefIdeal [hFirstNormIdeal : Cert.FirstNormIdeal.Facts] [hFirstNormRefIdeal : Cert.FirstNormRefIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg)
    (m' : (ℓ : Loc Cert.FirstNormRefIdeal.nD Cert.FirstNormRefIdeal.τ Cert.FirstNormRefIdeal.sig) → Buf (Elt Ideal) ℓ) (g' : Dev Cert.FirstNormRefIdeal.nD → PrngReg), Pre_FirstNormIdeal m →
    (∀ c : Dev Cert.FirstNormIdeal.nD,
      m' ((c.tc : Thread Cert.FirstNormRefIdeal.nD Cert.FirstNormRefIdeal.τ).loc Cert.FirstNormRefIdeal.main_arg0) = m ((c.tc : Thread Cert.FirstNormIdeal.nD Cert.FirstNormIdeal.τ).loc Cert.FirstNormIdeal.main_arg0)
      ∧ m' ((c.tc : Thread Cert.FirstNormRefIdeal.nD Cert.FirstNormRefIdeal.τ).loc Cert.FirstNormRefIdeal.main_arg1) = m ((c.tc : Thread Cert.FirstNormIdeal.nD Cert.FirstNormIdeal.τ).loc Cert.FirstNormIdeal.main_arg1)
      ∧ m' ((c.tc : Thread Cert.FirstNormRefIdeal.nD Cert.FirstNormRefIdeal.τ).loc Cert.FirstNormRefIdeal.main_arg2) = m ((c.tc : Thread Cert.FirstNormIdeal.nD Cert.FirstNormIdeal.τ).loc Cert.FirstNormIdeal.main_arg2)
      ∧ m' ((c.tc : Thread Cert.FirstNormRefIdeal.nD Cert.FirstNormRefIdeal.τ).loc Cert.FirstNormRefIdeal.main_arg3) = m ((c.tc : Thread Cert.FirstNormIdeal.nD Cert.FirstNormIdeal.τ).loc Cert.FirstNormIdeal.main_arg3)) →
    ∃ (v0 : (c : Dev Cert.FirstNormIdeal.nD) → Buf (Elt Ideal) ((c.tc : Thread Cert.FirstNormIdeal.nD Cert.FirstNormIdeal.τ).loc Cert.FirstNormIdeal.main_v0_0)) (v1 : (c : Dev Cert.FirstNormIdeal.nD) → Buf (Elt Ideal) ((c.tc : Thread Cert.FirstNormIdeal.nD Cert.FirstNormIdeal.τ).loc Cert.FirstNormIdeal.main_v0_1)),
      θ_run (Cert.FirstNormIdeal.defs (F := Ideal)) (onTc (τ := Cert.FirstNormIdeal.τ) (Cert.FirstNormIdeal.main (F := Ideal))) ⟨m, fun _ => 0, g⟩ (fun r => ∀ c : Dev Cert.FirstNormIdeal.nD,
          r.2.mem ((c.tc : Thread Cert.FirstNormIdeal.nD Cert.FirstNormIdeal.τ).loc Cert.FirstNormIdeal.main_v0_0) = v0 c
          ∧ r.2.mem ((c.tc : Thread Cert.FirstNormIdeal.nD Cert.FirstNormIdeal.τ).loc Cert.FirstNormIdeal.main_v0_1) = v1 c
          ∧ r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
          ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1)
          ∧ r.2.mem ((c.tc : Thread Cert.FirstNormIdeal.nD Cert.FirstNormIdeal.τ).loc Cert.FirstNormIdeal.main_arg2) = m ((c.tc : Thread Cert.FirstNormIdeal.nD Cert.FirstNormIdeal.τ).loc Cert.FirstNormIdeal.main_arg2)
          ∧ r.2.mem ((c.tc : Thread Cert.FirstNormIdeal.nD Cert.FirstNormIdeal.τ).loc Cert.FirstNormIdeal.main_arg3) = m ((c.tc : Thread Cert.FirstNormIdeal.nD Cert.FirstNormIdeal.τ).loc Cert.FirstNormIdeal.main_arg3))
      ∧ θ_run (Cert.FirstNormRefIdeal.defs (F := Ideal)) (onTc (τ := Cert.FirstNormRefIdeal.τ) (Cert.FirstNormRefIdeal.main (F := Ideal))) ⟨m', fun _ => 0, g'⟩ (fun r => ∀ c : Dev Cert.FirstNormRefIdeal.nD,
          r.2.mem ((c.tc : Thread Cert.FirstNormRefIdeal.nD Cert.FirstNormRefIdeal.τ).loc Cert.FirstNormRefIdeal.main_v34) = v0 c
          ∧ r.2.mem ((c.tc : Thread Cert.FirstNormRefIdeal.nD Cert.FirstNormRefIdeal.τ).loc Cert.FirstNormRefIdeal.main_v17) = v1 c
          ∧ r.2.mem ((c.tc : Thread Cert.FirstNormRefIdeal.nD Cert.FirstNormRefIdeal.τ).loc Cert.FirstNormRefIdeal.main_arg0) = m' ((c.tc : Thread Cert.FirstNormRefIdeal.nD Cert.FirstNormRefIdeal.τ).loc Cert.FirstNormRefIdeal.main_arg0)
          ∧ r.2.mem ((c.tc : Thread Cert.FirstNormRefIdeal.nD Cert.FirstNormRefIdeal.τ).loc Cert.FirstNormRefIdeal.main_arg1) = m' ((c.tc : Thread Cert.FirstNormRefIdeal.nD Cert.FirstNormRefIdeal.τ).loc Cert.FirstNormRefIdeal.main_arg1)
          ∧ r.2.mem ((c.tc : Thread Cert.FirstNormRefIdeal.nD Cert.FirstNormRefIdeal.τ).loc Cert.FirstNormRefIdeal.main_arg2) = m' ((c.tc : Thread Cert.FirstNormRefIdeal.nD Cert.FirstNormRefIdeal.τ).loc Cert.FirstNormRefIdeal.main_arg2)
          ∧ r.2.mem ((c.tc : Thread Cert.FirstNormRefIdeal.nD Cert.FirstNormRefIdeal.τ).loc Cert.FirstNormRefIdeal.main_arg3) = m' ((c.tc : Thread Cert.FirstNormRefIdeal.nD Cert.FirstNormRefIdeal.τ).loc Cert.FirstNormRefIdeal.main_arg3))

def preserves_AdamwWide_AdamwWideIdeal : Prop :=
  True

def algebraic_AdamwWideIdeal_AdamwWideRefIdeal [hAdamwWideIdeal : Cert.AdamwWideIdeal.Facts] [hAdamwWideRefIdeal : Cert.AdamwWideRefIdeal.Facts] : Prop :=
  ∀ (m : (ℓ : Loc Cert.AdamwWideIdeal.nD Cert.AdamwWideIdeal.τ Cert.AdamwWideIdeal.sig) → Buf (Elt Ideal) ℓ) (g : Dev Cert.AdamwWideIdeal.nD → PrngReg)
    (m' : (ℓ : Loc Cert.AdamwWideRefIdeal.nD Cert.AdamwWideRefIdeal.τ Cert.AdamwWideRefIdeal.sig) → Buf (Elt Ideal) ℓ) (g' : Dev Cert.AdamwWideRefIdeal.nD → PrngReg), Pre_AdamwWideIdeal m →
    (∀ c : Dev Cert.AdamwWideIdeal.nD,
      m' ((c.tc : Thread Cert.AdamwWideRefIdeal.nD Cert.AdamwWideRefIdeal.τ).loc Cert.AdamwWideRefIdeal.main_arg0) = m ((c.tc : Thread Cert.AdamwWideIdeal.nD Cert.AdamwWideIdeal.τ).loc Cert.AdamwWideIdeal.main_arg0)
      ∧ m' ((c.tc : Thread Cert.AdamwWideRefIdeal.nD Cert.AdamwWideRefIdeal.τ).loc Cert.AdamwWideRefIdeal.main_arg1) = m ((c.tc : Thread Cert.AdamwWideIdeal.nD Cert.AdamwWideIdeal.τ).loc Cert.AdamwWideIdeal.main_arg1)
      ∧ m' ((c.tc : Thread Cert.AdamwWideRefIdeal.nD Cert.AdamwWideRefIdeal.τ).loc Cert.AdamwWideRefIdeal.main_arg2) = m ((c.tc : Thread Cert.AdamwWideIdeal.nD Cert.AdamwWideIdeal.τ).loc Cert.AdamwWideIdeal.main_arg2)
      ∧ m' ((c.tc : Thread Cert.AdamwWideRefIdeal.nD Cert.AdamwWideRefIdeal.τ).loc Cert.AdamwWideRefIdeal.main_arg3) = m ((c.tc : Thread Cert.AdamwWideIdeal.nD Cert.AdamwWideIdeal.τ).loc Cert.AdamwWideIdeal.main_arg3)) →
    ∃ (v0 : (c : Dev Cert.AdamwWideIdeal.nD) → Buf (Elt Ideal) ((c.tc : Thread Cert.AdamwWideIdeal.nD Cert.AdamwWideIdeal.τ).loc Cert.AdamwWideIdeal.main_v4_0)) (v1 : (c : Dev Cert.AdamwWideIdeal.nD) → Buf (Elt Ideal) ((c.tc : Thread Cert.AdamwWideIdeal.nD Cert.AdamwWideIdeal.τ).loc Cert.AdamwWideIdeal.main_v4_1)) (v2 : (c : Dev Cert.AdamwWideIdeal.nD) → Buf (Elt Ideal) ((c.tc : Thread Cert.AdamwWideIdeal.nD Cert.AdamwWideIdeal.τ).loc Cert.AdamwWideIdeal.main_v4_2)),
      θ_run (Cert.AdamwWideIdeal.defs (F := Ideal)) (onTc (τ := Cert.AdamwWideIdeal.τ) (Cert.AdamwWideIdeal.main (F := Ideal))) ⟨m, fun _ => 0, g⟩ (fun r => ∀ c : Dev Cert.AdamwWideIdeal.nD,
          r.2.mem ((c.tc : Thread Cert.AdamwWideIdeal.nD Cert.AdamwWideIdeal.τ).loc Cert.AdamwWideIdeal.main_v4_0) = v0 c
          ∧ r.2.mem ((c.tc : Thread Cert.AdamwWideIdeal.nD Cert.AdamwWideIdeal.τ).loc Cert.AdamwWideIdeal.main_v4_1) = v1 c
          ∧ r.2.mem ((c.tc : Thread Cert.AdamwWideIdeal.nD Cert.AdamwWideIdeal.τ).loc Cert.AdamwWideIdeal.main_v4_2) = v2 c
          ∧ r.2.mem ((c.tc : Thread Cert.AdamwWideIdeal.nD Cert.AdamwWideIdeal.τ).loc Cert.AdamwWideIdeal.main_arg0) = m ((c.tc : Thread Cert.AdamwWideIdeal.nD Cert.AdamwWideIdeal.τ).loc Cert.AdamwWideIdeal.main_arg0)
          ∧ r.2.mem ((c.tc : Thread Cert.AdamwWideIdeal.nD Cert.AdamwWideIdeal.τ).loc Cert.AdamwWideIdeal.main_arg1) = m ((c.tc : Thread Cert.AdamwWideIdeal.nD Cert.AdamwWideIdeal.τ).loc Cert.AdamwWideIdeal.main_arg1)
          ∧ r.2.mem ((c.tc : Thread Cert.AdamwWideIdeal.nD Cert.AdamwWideIdeal.τ).loc Cert.AdamwWideIdeal.main_arg2) = m ((c.tc : Thread Cert.AdamwWideIdeal.nD Cert.AdamwWideIdeal.τ).loc Cert.AdamwWideIdeal.main_arg2)
          ∧ r.2.mem ((c.tc : Thread Cert.AdamwWideIdeal.nD Cert.AdamwWideIdeal.τ).loc Cert.AdamwWideIdeal.main_arg3) = m ((c.tc : Thread Cert.AdamwWideIdeal.nD Cert.AdamwWideIdeal.τ).loc Cert.AdamwWideIdeal.main_arg3))
      ∧ θ_run (Cert.AdamwWideRefIdeal.defs (F := Ideal)) (onTc (τ := Cert.AdamwWideRefIdeal.τ) (Cert.AdamwWideRefIdeal.main (F := Ideal))) ⟨m', fun _ => 0, g'⟩ (fun r => ∀ c : Dev Cert.AdamwWideRefIdeal.nD,
          r.2.mem ((c.tc : Thread Cert.AdamwWideRefIdeal.nD Cert.AdamwWideRefIdeal.τ).loc Cert.AdamwWideRefIdeal.main_v24) = v0 c
          ∧ r.2.mem ((c.tc : Thread Cert.AdamwWideRefIdeal.nD Cert.AdamwWideRefIdeal.τ).loc Cert.AdamwWideRefIdeal.main_v25) = v1 c
          ∧ r.2.mem ((c.tc : Thread Cert.AdamwWideRefIdeal.nD Cert.AdamwWideRefIdeal.τ).loc Cert.AdamwWideRefIdeal.main_v26) = v2 c
          ∧ r.2.mem ((c.tc : Thread Cert.AdamwWideRefIdeal.nD Cert.AdamwWideRefIdeal.τ).loc Cert.AdamwWideRefIdeal.main_arg0) = m' ((c.tc : Thread Cert.AdamwWideRefIdeal.nD Cert.AdamwWideRefIdeal.τ).loc Cert.AdamwWideRefIdeal.main_arg0)
          ∧ r.2.mem ((c.tc : Thread Cert.AdamwWideRefIdeal.nD Cert.AdamwWideRefIdeal.τ).loc Cert.AdamwWideRefIdeal.main_arg1) = m' ((c.tc : Thread Cert.AdamwWideRefIdeal.nD Cert.AdamwWideRefIdeal.τ).loc Cert.AdamwWideRefIdeal.main_arg1)
          ∧ r.2.mem ((c.tc : Thread Cert.AdamwWideRefIdeal.nD Cert.AdamwWideRefIdeal.τ).loc Cert.AdamwWideRefIdeal.main_arg2) = m' ((c.tc : Thread Cert.AdamwWideRefIdeal.nD Cert.AdamwWideRefIdeal.τ).loc Cert.AdamwWideRefIdeal.main_arg2)
          ∧ r.2.mem ((c.tc : Thread Cert.AdamwWideRefIdeal.nD Cert.AdamwWideRefIdeal.τ).loc Cert.AdamwWideRefIdeal.main_arg3) = m' ((c.tc : Thread Cert.AdamwWideRefIdeal.nD Cert.AdamwWideRefIdeal.τ).loc Cert.AdamwWideRefIdeal.main_arg3))

def preserves_AdamwDown_AdamwDownIdeal : Prop :=
  True

def algebraic_AdamwDownIdeal_AdamwDownRefIdeal [hAdamwDownIdeal : Cert.AdamwDownIdeal.Facts] [hAdamwDownRefIdeal : Cert.AdamwDownRefIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.AdamwDownRefIdeal.nD Cert.AdamwDownRefIdeal.τ Cert.AdamwDownRefIdeal.sig) → Buf (Elt Ideal) ℓ) (g' : Dev Cert.AdamwDownRefIdeal.nD → PrngReg), Pre_AdamwDownIdeal m →
    (∀ c : Dev Cert.AdamwDownIdeal.nD,
      m' ((c.tc : Thread Cert.AdamwDownRefIdeal.nD Cert.AdamwDownRefIdeal.τ).loc Cert.AdamwDownRefIdeal.main_arg0) = m ((c.tc : Thread Cert.AdamwDownIdeal.nD Cert.AdamwDownIdeal.τ).loc Cert.AdamwDownIdeal.main_arg0)
      ∧ m' ((c.tc : Thread Cert.AdamwDownRefIdeal.nD Cert.AdamwDownRefIdeal.τ).loc Cert.AdamwDownRefIdeal.main_arg1) = m ((c.tc : Thread Cert.AdamwDownIdeal.nD Cert.AdamwDownIdeal.τ).loc Cert.AdamwDownIdeal.main_arg1)
      ∧ m' ((c.tc : Thread Cert.AdamwDownRefIdeal.nD Cert.AdamwDownRefIdeal.τ).loc Cert.AdamwDownRefIdeal.main_arg2) = m ((c.tc : Thread Cert.AdamwDownIdeal.nD Cert.AdamwDownIdeal.τ).loc Cert.AdamwDownIdeal.main_arg2)
      ∧ m' ((c.tc : Thread Cert.AdamwDownRefIdeal.nD Cert.AdamwDownRefIdeal.τ).loc Cert.AdamwDownRefIdeal.main_arg3) = m ((c.tc : Thread Cert.AdamwDownIdeal.nD Cert.AdamwDownIdeal.τ).loc Cert.AdamwDownIdeal.main_arg3)) →
    ∃ (v0 : (c : Dev Cert.AdamwDownIdeal.nD) → Buf (Elt Ideal) ((c.tc : Thread Cert.AdamwDownIdeal.nD Cert.AdamwDownIdeal.τ).loc Cert.AdamwDownIdeal.main_v4_0)) (v1 : (c : Dev Cert.AdamwDownIdeal.nD) → Buf (Elt Ideal) ((c.tc : Thread Cert.AdamwDownIdeal.nD Cert.AdamwDownIdeal.τ).loc Cert.AdamwDownIdeal.main_v4_1)) (v2 : (c : Dev Cert.AdamwDownIdeal.nD) → Buf (Elt Ideal) ((c.tc : Thread Cert.AdamwDownIdeal.nD Cert.AdamwDownIdeal.τ).loc Cert.AdamwDownIdeal.main_v4_2)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v4_0) = v0 c
          ∧ r.2.mem ((c.tc : Thread Cert.AdamwDownIdeal.nD Cert.AdamwDownIdeal.τ).loc Cert.AdamwDownIdeal.main_v4_1) = v1 c
          ∧ r.2.mem ((c.tc : Thread Cert.AdamwDownIdeal.nD Cert.AdamwDownIdeal.τ).loc Cert.AdamwDownIdeal.main_v4_2) = v2 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ θ_run (Cert.AdamwDownRefIdeal.defs (F := Ideal)) (onTc (τ := Cert.AdamwDownRefIdeal.τ) (Cert.AdamwDownRefIdeal.main (F := Ideal))) ⟨m', fun _ => 0, g'⟩ (fun r => ∀ c : Dev Cert.AdamwDownRefIdeal.nD,
          r.2.mem ((c.tc : Thread Cert.AdamwDownRefIdeal.nD Cert.AdamwDownRefIdeal.τ).loc Cert.AdamwDownRefIdeal.main_v24) = v0 c
          ∧ r.2.mem ((c.tc : Thread Cert.AdamwDownRefIdeal.nD Cert.AdamwDownRefIdeal.τ).loc Cert.AdamwDownRefIdeal.main_v25) = v1 c
          ∧ r.2.mem ((c.tc : Thread Cert.AdamwDownRefIdeal.nD Cert.AdamwDownRefIdeal.τ).loc Cert.AdamwDownRefIdeal.main_v26) = v2 c
          ∧ r.2.mem ((c.tc : Thread Cert.AdamwDownRefIdeal.nD Cert.AdamwDownRefIdeal.τ).loc Cert.AdamwDownRefIdeal.main_arg0) = m' ((c.tc : Thread Cert.AdamwDownRefIdeal.nD Cert.AdamwDownRefIdeal.τ).loc Cert.AdamwDownRefIdeal.main_arg0)
          ∧ r.2.mem ((c.tc : Thread Cert.AdamwDownRefIdeal.nD Cert.AdamwDownRefIdeal.τ).loc Cert.AdamwDownRefIdeal.main_arg1) = m' ((c.tc : Thread Cert.AdamwDownRefIdeal.nD Cert.AdamwDownRefIdeal.τ).loc Cert.AdamwDownRefIdeal.main_arg1)
          ∧ r.2.mem ((c.tc : Thread Cert.AdamwDownRefIdeal.nD Cert.AdamwDownRefIdeal.τ).loc Cert.AdamwDownRefIdeal.main_arg2) = m' ((c.tc : Thread Cert.AdamwDownRefIdeal.nD Cert.AdamwDownRefIdeal.τ).loc Cert.AdamwDownRefIdeal.main_arg2)
          ∧ r.2.mem ((c.tc : Thread Cert.AdamwDownRefIdeal.nD Cert.AdamwDownRefIdeal.τ).loc Cert.AdamwDownRefIdeal.main_arg3) = m' ((c.tc : Thread Cert.AdamwDownRefIdeal.nD Cert.AdamwDownRefIdeal.τ).loc Cert.AdamwDownRefIdeal.main_arg3))

def preserves_AdamwEvIn_AdamwEvInIdeal : Prop :=
  True

def algebraic_AdamwEvInIdeal_AdamwEvInRefIdeal [hAdamwEvInIdeal : Cert.AdamwEvInIdeal.Facts] [hAdamwEvInRefIdeal : Cert.AdamwEvInRefIdeal.Facts] : Prop :=
  ∀ (m : (ℓ : Loc Cert.AdamwEvInIdeal.nD Cert.AdamwEvInIdeal.τ Cert.AdamwEvInIdeal.sig) → Buf (Elt Ideal) ℓ) (g : Dev Cert.AdamwEvInIdeal.nD → PrngReg)
    (m' : (ℓ : Loc Cert.AdamwEvInRefIdeal.nD Cert.AdamwEvInRefIdeal.τ Cert.AdamwEvInRefIdeal.sig) → Buf (Elt Ideal) ℓ) (g' : Dev Cert.AdamwEvInRefIdeal.nD → PrngReg), Pre_AdamwEvInIdeal m →
    (∀ c : Dev Cert.AdamwEvInIdeal.nD,
      m' ((c.tc : Thread Cert.AdamwEvInRefIdeal.nD Cert.AdamwEvInRefIdeal.τ).loc Cert.AdamwEvInRefIdeal.main_arg0) = m ((c.tc : Thread Cert.AdamwEvInIdeal.nD Cert.AdamwEvInIdeal.τ).loc Cert.AdamwEvInIdeal.main_arg0)
      ∧ m' ((c.tc : Thread Cert.AdamwEvInRefIdeal.nD Cert.AdamwEvInRefIdeal.τ).loc Cert.AdamwEvInRefIdeal.main_arg1) = m ((c.tc : Thread Cert.AdamwEvInIdeal.nD Cert.AdamwEvInIdeal.τ).loc Cert.AdamwEvInIdeal.main_arg1)
      ∧ m' ((c.tc : Thread Cert.AdamwEvInRefIdeal.nD Cert.AdamwEvInRefIdeal.τ).loc Cert.AdamwEvInRefIdeal.main_arg2) = m ((c.tc : Thread Cert.AdamwEvInIdeal.nD Cert.AdamwEvInIdeal.τ).loc Cert.AdamwEvInIdeal.main_arg2)
      ∧ m' ((c.tc : Thread Cert.AdamwEvInRefIdeal.nD Cert.AdamwEvInRefIdeal.τ).loc Cert.AdamwEvInRefIdeal.main_arg3) = m ((c.tc : Thread Cert.AdamwEvInIdeal.nD Cert.AdamwEvInIdeal.τ).loc Cert.AdamwEvInIdeal.main_arg3)) →
    ∃ (v0 : (c : Dev Cert.AdamwEvInIdeal.nD) → Buf (Elt Ideal) ((c.tc : Thread Cert.AdamwEvInIdeal.nD Cert.AdamwEvInIdeal.τ).loc Cert.AdamwEvInIdeal.main_v4_0)) (v1 : (c : Dev Cert.AdamwEvInIdeal.nD) → Buf (Elt Ideal) ((c.tc : Thread Cert.AdamwEvInIdeal.nD Cert.AdamwEvInIdeal.τ).loc Cert.AdamwEvInIdeal.main_v4_1)) (v2 : (c : Dev Cert.AdamwEvInIdeal.nD) → Buf (Elt Ideal) ((c.tc : Thread Cert.AdamwEvInIdeal.nD Cert.AdamwEvInIdeal.τ).loc Cert.AdamwEvInIdeal.main_v4_2)),
      θ_run (Cert.AdamwEvInIdeal.defs (F := Ideal)) (onTc (τ := Cert.AdamwEvInIdeal.τ) (Cert.AdamwEvInIdeal.main (F := Ideal))) ⟨m, fun _ => 0, g⟩ (fun r => ∀ c : Dev Cert.AdamwEvInIdeal.nD,
          r.2.mem ((c.tc : Thread Cert.AdamwEvInIdeal.nD Cert.AdamwEvInIdeal.τ).loc Cert.AdamwEvInIdeal.main_v4_0) = v0 c
          ∧ r.2.mem ((c.tc : Thread Cert.AdamwEvInIdeal.nD Cert.AdamwEvInIdeal.τ).loc Cert.AdamwEvInIdeal.main_v4_1) = v1 c
          ∧ r.2.mem ((c.tc : Thread Cert.AdamwEvInIdeal.nD Cert.AdamwEvInIdeal.τ).loc Cert.AdamwEvInIdeal.main_v4_2) = v2 c
          ∧ r.2.mem ((c.tc : Thread Cert.AdamwEvInIdeal.nD Cert.AdamwEvInIdeal.τ).loc Cert.AdamwEvInIdeal.main_arg0) = m ((c.tc : Thread Cert.AdamwEvInIdeal.nD Cert.AdamwEvInIdeal.τ).loc Cert.AdamwEvInIdeal.main_arg0)
          ∧ r.2.mem ((c.tc : Thread Cert.AdamwEvInIdeal.nD Cert.AdamwEvInIdeal.τ).loc Cert.AdamwEvInIdeal.main_arg1) = m ((c.tc : Thread Cert.AdamwEvInIdeal.nD Cert.AdamwEvInIdeal.τ).loc Cert.AdamwEvInIdeal.main_arg1)
          ∧ r.2.mem ((c.tc : Thread Cert.AdamwEvInIdeal.nD Cert.AdamwEvInIdeal.τ).loc Cert.AdamwEvInIdeal.main_arg2) = m ((c.tc : Thread Cert.AdamwEvInIdeal.nD Cert.AdamwEvInIdeal.τ).loc Cert.AdamwEvInIdeal.main_arg2)
          ∧ r.2.mem ((c.tc : Thread Cert.AdamwEvInIdeal.nD Cert.AdamwEvInIdeal.τ).loc Cert.AdamwEvInIdeal.main_arg3) = m ((c.tc : Thread Cert.AdamwEvInIdeal.nD Cert.AdamwEvInIdeal.τ).loc Cert.AdamwEvInIdeal.main_arg3))
      ∧ θ_run (Cert.AdamwEvInRefIdeal.defs (F := Ideal)) (onTc (τ := Cert.AdamwEvInRefIdeal.τ) (Cert.AdamwEvInRefIdeal.main (F := Ideal))) ⟨m', fun _ => 0, g'⟩ (fun r => ∀ c : Dev Cert.AdamwEvInRefIdeal.nD,
          r.2.mem ((c.tc : Thread Cert.AdamwEvInRefIdeal.nD Cert.AdamwEvInRefIdeal.τ).loc Cert.AdamwEvInRefIdeal.main_v24) = v0 c
          ∧ r.2.mem ((c.tc : Thread Cert.AdamwEvInRefIdeal.nD Cert.AdamwEvInRefIdeal.τ).loc Cert.AdamwEvInRefIdeal.main_v25) = v1 c
          ∧ r.2.mem ((c.tc : Thread Cert.AdamwEvInRefIdeal.nD Cert.AdamwEvInRefIdeal.τ).loc Cert.AdamwEvInRefIdeal.main_v26) = v2 c
          ∧ r.2.mem ((c.tc : Thread Cert.AdamwEvInRefIdeal.nD Cert.AdamwEvInRefIdeal.τ).loc Cert.AdamwEvInRefIdeal.main_arg0) = m' ((c.tc : Thread Cert.AdamwEvInRefIdeal.nD Cert.AdamwEvInRefIdeal.τ).loc Cert.AdamwEvInRefIdeal.main_arg0)
          ∧ r.2.mem ((c.tc : Thread Cert.AdamwEvInRefIdeal.nD Cert.AdamwEvInRefIdeal.τ).loc Cert.AdamwEvInRefIdeal.main_arg1) = m' ((c.tc : Thread Cert.AdamwEvInRefIdeal.nD Cert.AdamwEvInRefIdeal.τ).loc Cert.AdamwEvInRefIdeal.main_arg1)
          ∧ r.2.mem ((c.tc : Thread Cert.AdamwEvInRefIdeal.nD Cert.AdamwEvInRefIdeal.τ).loc Cert.AdamwEvInRefIdeal.main_arg2) = m' ((c.tc : Thread Cert.AdamwEvInRefIdeal.nD Cert.AdamwEvInRefIdeal.τ).loc Cert.AdamwEvInRefIdeal.main_arg2)
          ∧ r.2.mem ((c.tc : Thread Cert.AdamwEvInRefIdeal.nD Cert.AdamwEvInRefIdeal.τ).loc Cert.AdamwEvInRefIdeal.main_arg3) = m' ((c.tc : Thread Cert.AdamwEvInRefIdeal.nD Cert.AdamwEvInRefIdeal.τ).loc Cert.AdamwEvInRefIdeal.main_arg3))

def preserves_AdamwGlu_AdamwGluIdeal : Prop :=
  True

def algebraic_AdamwGluIdeal_AdamwGluRefIdeal [hAdamwGluIdeal : Cert.AdamwGluIdeal.Facts] [hAdamwGluRefIdeal : Cert.AdamwGluRefIdeal.Facts] : Prop :=
  ∀ (m : (ℓ : Loc Cert.AdamwGluIdeal.nD Cert.AdamwGluIdeal.τ Cert.AdamwGluIdeal.sig) → Buf (Elt Ideal) ℓ) (g : Dev Cert.AdamwGluIdeal.nD → PrngReg)
    (m' : (ℓ : Loc Cert.AdamwGluRefIdeal.nD Cert.AdamwGluRefIdeal.τ Cert.AdamwGluRefIdeal.sig) → Buf (Elt Ideal) ℓ) (g' : Dev Cert.AdamwGluRefIdeal.nD → PrngReg), Pre_AdamwGluIdeal m →
    (∀ c : Dev Cert.AdamwGluIdeal.nD,
      m' ((c.tc : Thread Cert.AdamwGluRefIdeal.nD Cert.AdamwGluRefIdeal.τ).loc Cert.AdamwGluRefIdeal.main_arg0) = m ((c.tc : Thread Cert.AdamwGluIdeal.nD Cert.AdamwGluIdeal.τ).loc Cert.AdamwGluIdeal.main_arg0)
      ∧ m' ((c.tc : Thread Cert.AdamwGluRefIdeal.nD Cert.AdamwGluRefIdeal.τ).loc Cert.AdamwGluRefIdeal.main_arg1) = m ((c.tc : Thread Cert.AdamwGluIdeal.nD Cert.AdamwGluIdeal.τ).loc Cert.AdamwGluIdeal.main_arg1)
      ∧ m' ((c.tc : Thread Cert.AdamwGluRefIdeal.nD Cert.AdamwGluRefIdeal.τ).loc Cert.AdamwGluRefIdeal.main_arg2) = m ((c.tc : Thread Cert.AdamwGluIdeal.nD Cert.AdamwGluIdeal.τ).loc Cert.AdamwGluIdeal.main_arg2)
      ∧ m' ((c.tc : Thread Cert.AdamwGluRefIdeal.nD Cert.AdamwGluRefIdeal.τ).loc Cert.AdamwGluRefIdeal.main_arg3) = m ((c.tc : Thread Cert.AdamwGluIdeal.nD Cert.AdamwGluIdeal.τ).loc Cert.AdamwGluIdeal.main_arg3)) →
    ∃ (v0 : (c : Dev Cert.AdamwGluIdeal.nD) → Buf (Elt Ideal) ((c.tc : Thread Cert.AdamwGluIdeal.nD Cert.AdamwGluIdeal.τ).loc Cert.AdamwGluIdeal.main_v4_0)) (v1 : (c : Dev Cert.AdamwGluIdeal.nD) → Buf (Elt Ideal) ((c.tc : Thread Cert.AdamwGluIdeal.nD Cert.AdamwGluIdeal.τ).loc Cert.AdamwGluIdeal.main_v4_1)) (v2 : (c : Dev Cert.AdamwGluIdeal.nD) → Buf (Elt Ideal) ((c.tc : Thread Cert.AdamwGluIdeal.nD Cert.AdamwGluIdeal.τ).loc Cert.AdamwGluIdeal.main_v4_2)),
      θ_run (Cert.AdamwGluIdeal.defs (F := Ideal)) (onTc (τ := Cert.AdamwGluIdeal.τ) (Cert.AdamwGluIdeal.main (F := Ideal))) ⟨m, fun _ => 0, g⟩ (fun r => ∀ c : Dev Cert.AdamwGluIdeal.nD,
          r.2.mem ((c.tc : Thread Cert.AdamwGluIdeal.nD Cert.AdamwGluIdeal.τ).loc Cert.AdamwGluIdeal.main_v4_0) = v0 c
          ∧ r.2.mem ((c.tc : Thread Cert.AdamwGluIdeal.nD Cert.AdamwGluIdeal.τ).loc Cert.AdamwGluIdeal.main_v4_1) = v1 c
          ∧ r.2.mem ((c.tc : Thread Cert.AdamwGluIdeal.nD Cert.AdamwGluIdeal.τ).loc Cert.AdamwGluIdeal.main_v4_2) = v2 c
          ∧ r.2.mem ((c.tc : Thread Cert.AdamwGluIdeal.nD Cert.AdamwGluIdeal.τ).loc Cert.AdamwGluIdeal.main_arg0) = m ((c.tc : Thread Cert.AdamwGluIdeal.nD Cert.AdamwGluIdeal.τ).loc Cert.AdamwGluIdeal.main_arg0)
          ∧ r.2.mem ((c.tc : Thread Cert.AdamwGluIdeal.nD Cert.AdamwGluIdeal.τ).loc Cert.AdamwGluIdeal.main_arg1) = m ((c.tc : Thread Cert.AdamwGluIdeal.nD Cert.AdamwGluIdeal.τ).loc Cert.AdamwGluIdeal.main_arg1)
          ∧ r.2.mem ((c.tc : Thread Cert.AdamwGluIdeal.nD Cert.AdamwGluIdeal.τ).loc Cert.AdamwGluIdeal.main_arg2) = m ((c.tc : Thread Cert.AdamwGluIdeal.nD Cert.AdamwGluIdeal.τ).loc Cert.AdamwGluIdeal.main_arg2)
          ∧ r.2.mem ((c.tc : Thread Cert.AdamwGluIdeal.nD Cert.AdamwGluIdeal.τ).loc Cert.AdamwGluIdeal.main_arg3) = m ((c.tc : Thread Cert.AdamwGluIdeal.nD Cert.AdamwGluIdeal.τ).loc Cert.AdamwGluIdeal.main_arg3))
      ∧ θ_run (Cert.AdamwGluRefIdeal.defs (F := Ideal)) (onTc (τ := Cert.AdamwGluRefIdeal.τ) (Cert.AdamwGluRefIdeal.main (F := Ideal))) ⟨m', fun _ => 0, g'⟩ (fun r => ∀ c : Dev Cert.AdamwGluRefIdeal.nD,
          r.2.mem ((c.tc : Thread Cert.AdamwGluRefIdeal.nD Cert.AdamwGluRefIdeal.τ).loc Cert.AdamwGluRefIdeal.main_v24) = v0 c
          ∧ r.2.mem ((c.tc : Thread Cert.AdamwGluRefIdeal.nD Cert.AdamwGluRefIdeal.τ).loc Cert.AdamwGluRefIdeal.main_v25) = v1 c
          ∧ r.2.mem ((c.tc : Thread Cert.AdamwGluRefIdeal.nD Cert.AdamwGluRefIdeal.τ).loc Cert.AdamwGluRefIdeal.main_v26) = v2 c
          ∧ r.2.mem ((c.tc : Thread Cert.AdamwGluRefIdeal.nD Cert.AdamwGluRefIdeal.τ).loc Cert.AdamwGluRefIdeal.main_arg0) = m' ((c.tc : Thread Cert.AdamwGluRefIdeal.nD Cert.AdamwGluRefIdeal.τ).loc Cert.AdamwGluRefIdeal.main_arg0)
          ∧ r.2.mem ((c.tc : Thread Cert.AdamwGluRefIdeal.nD Cert.AdamwGluRefIdeal.τ).loc Cert.AdamwGluRefIdeal.main_arg1) = m' ((c.tc : Thread Cert.AdamwGluRefIdeal.nD Cert.AdamwGluRefIdeal.τ).loc Cert.AdamwGluRefIdeal.main_arg1)
          ∧ r.2.mem ((c.tc : Thread Cert.AdamwGluRefIdeal.nD Cert.AdamwGluRefIdeal.τ).loc Cert.AdamwGluRefIdeal.main_arg2) = m' ((c.tc : Thread Cert.AdamwGluRefIdeal.nD Cert.AdamwGluRefIdeal.τ).loc Cert.AdamwGluRefIdeal.main_arg2)
          ∧ r.2.mem ((c.tc : Thread Cert.AdamwGluRefIdeal.nD Cert.AdamwGluRefIdeal.τ).loc Cert.AdamwGluRefIdeal.main_arg3) = m' ((c.tc : Thread Cert.AdamwGluRefIdeal.nD Cert.AdamwGluRefIdeal.τ).loc Cert.AdamwGluRefIdeal.main_arg3))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v4_0)) (v1 : (c : Dev Cert.AdamwOutIdeal.nD) → Buf (Elt Ideal) ((c.tc : Thread Cert.AdamwOutIdeal.nD Cert.AdamwOutIdeal.τ).loc Cert.AdamwOutIdeal.main_v4_1)) (v2 : (c : Dev Cert.AdamwOutIdeal.nD) → Buf (Elt Ideal) ((c.tc : Thread Cert.AdamwOutIdeal.nD Cert.AdamwOutIdeal.τ).loc Cert.AdamwOutIdeal.main_v4_2)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v4_0) = v0 c
          ∧ r.2.mem ((c.tc : Thread Cert.AdamwOutIdeal.nD Cert.AdamwOutIdeal.τ).loc Cert.AdamwOutIdeal.main_v4_1) = v1 c
          ∧ r.2.mem ((c.tc : Thread Cert.AdamwOutIdeal.nD Cert.AdamwOutIdeal.τ).loc Cert.AdamwOutIdeal.main_v4_2) = v2 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v24) = v0 c
          ∧ r.2.mem ((c.tc : Thread Cert.AdamwOutRefIdeal.nD Cert.AdamwOutRefIdeal.τ).loc Cert.AdamwOutRefIdeal.main_v25) = v1 c
          ∧ r.2.mem ((c.tc : Thread Cert.AdamwOutRefIdeal.nD Cert.AdamwOutRefIdeal.τ).loc Cert.AdamwOutRefIdeal.main_v26) = v2 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3))

def preserves_AdamwOdIn_AdamwOdInIdeal : Prop :=
  True

def algebraic_AdamwOdInIdeal_AdamwOdInRefIdeal [hAdamwOdInIdeal : Cert.AdamwOdInIdeal.Facts] [hAdamwOdInRefIdeal : Cert.AdamwOdInRefIdeal.Facts] : Prop :=
  ∀ (m : (ℓ : Loc Cert.AdamwOdInIdeal.nD Cert.AdamwOdInIdeal.τ Cert.AdamwOdInIdeal.sig) → Buf (Elt Ideal) ℓ) (g : Dev Cert.AdamwOdInIdeal.nD → PrngReg)
    (m' : (ℓ : Loc Cert.AdamwOdInRefIdeal.nD Cert.AdamwOdInRefIdeal.τ Cert.AdamwOdInRefIdeal.sig) → Buf (Elt Ideal) ℓ) (g' : Dev Cert.AdamwOdInRefIdeal.nD → PrngReg), Pre_AdamwOdInIdeal m →
    (∀ c : Dev Cert.AdamwOdInIdeal.nD,
      m' ((c.tc : Thread Cert.AdamwOdInRefIdeal.nD Cert.AdamwOdInRefIdeal.τ).loc Cert.AdamwOdInRefIdeal.main_arg0) = m ((c.tc : Thread Cert.AdamwOdInIdeal.nD Cert.AdamwOdInIdeal.τ).loc Cert.AdamwOdInIdeal.main_arg0)
      ∧ m' ((c.tc : Thread Cert.AdamwOdInRefIdeal.nD Cert.AdamwOdInRefIdeal.τ).loc Cert.AdamwOdInRefIdeal.main_arg1) = m ((c.tc : Thread Cert.AdamwOdInIdeal.nD Cert.AdamwOdInIdeal.τ).loc Cert.AdamwOdInIdeal.main_arg1)
      ∧ m' ((c.tc : Thread Cert.AdamwOdInRefIdeal.nD Cert.AdamwOdInRefIdeal.τ).loc Cert.AdamwOdInRefIdeal.main_arg2) = m ((c.tc : Thread Cert.AdamwOdInIdeal.nD Cert.AdamwOdInIdeal.τ).loc Cert.AdamwOdInIdeal.main_arg2)
      ∧ m' ((c.tc : Thread Cert.AdamwOdInRefIdeal.nD Cert.AdamwOdInRefIdeal.τ).loc Cert.AdamwOdInRefIdeal.main_arg3) = m ((c.tc : Thread Cert.AdamwOdInIdeal.nD Cert.AdamwOdInIdeal.τ).loc Cert.AdamwOdInIdeal.main_arg3)) →
    ∃ (v0 : (c : Dev Cert.AdamwOdInIdeal.nD) → Buf (Elt Ideal) ((c.tc : Thread Cert.AdamwOdInIdeal.nD Cert.AdamwOdInIdeal.τ).loc Cert.AdamwOdInIdeal.main_v4_0)) (v1 : (c : Dev Cert.AdamwOdInIdeal.nD) → Buf (Elt Ideal) ((c.tc : Thread Cert.AdamwOdInIdeal.nD Cert.AdamwOdInIdeal.τ).loc Cert.AdamwOdInIdeal.main_v4_1)) (v2 : (c : Dev Cert.AdamwOdInIdeal.nD) → Buf (Elt Ideal) ((c.tc : Thread Cert.AdamwOdInIdeal.nD Cert.AdamwOdInIdeal.τ).loc Cert.AdamwOdInIdeal.main_v4_2)),
      θ_run (Cert.AdamwOdInIdeal.defs (F := Ideal)) (onTc (τ := Cert.AdamwOdInIdeal.τ) (Cert.AdamwOdInIdeal.main (F := Ideal))) ⟨m, fun _ => 0, g⟩ (fun r => ∀ c : Dev Cert.AdamwOdInIdeal.nD,
          r.2.mem ((c.tc : Thread Cert.AdamwOdInIdeal.nD Cert.AdamwOdInIdeal.τ).loc Cert.AdamwOdInIdeal.main_v4_0) = v0 c
          ∧ r.2.mem ((c.tc : Thread Cert.AdamwOdInIdeal.nD Cert.AdamwOdInIdeal.τ).loc Cert.AdamwOdInIdeal.main_v4_1) = v1 c
          ∧ r.2.mem ((c.tc : Thread Cert.AdamwOdInIdeal.nD Cert.AdamwOdInIdeal.τ).loc Cert.AdamwOdInIdeal.main_v4_2) = v2 c
          ∧ r.2.mem ((c.tc : Thread Cert.AdamwOdInIdeal.nD Cert.AdamwOdInIdeal.τ).loc Cert.AdamwOdInIdeal.main_arg0) = m ((c.tc : Thread Cert.AdamwOdInIdeal.nD Cert.AdamwOdInIdeal.τ).loc Cert.AdamwOdInIdeal.main_arg0)
          ∧ r.2.mem ((c.tc : Thread Cert.AdamwOdInIdeal.nD Cert.AdamwOdInIdeal.τ).loc Cert.AdamwOdInIdeal.main_arg1) = m ((c.tc : Thread Cert.AdamwOdInIdeal.nD Cert.AdamwOdInIdeal.τ).loc Cert.AdamwOdInIdeal.main_arg1)
          ∧ r.2.mem ((c.tc : Thread Cert.AdamwOdInIdeal.nD Cert.AdamwOdInIdeal.τ).loc Cert.AdamwOdInIdeal.main_arg2) = m ((c.tc : Thread Cert.AdamwOdInIdeal.nD Cert.AdamwOdInIdeal.τ).loc Cert.AdamwOdInIdeal.main_arg2)
          ∧ r.2.mem ((c.tc : Thread Cert.AdamwOdInIdeal.nD Cert.AdamwOdInIdeal.τ).loc Cert.AdamwOdInIdeal.main_arg3) = m ((c.tc : Thread Cert.AdamwOdInIdeal.nD Cert.AdamwOdInIdeal.τ).loc Cert.AdamwOdInIdeal.main_arg3))
      ∧ θ_run (Cert.AdamwOdInRefIdeal.defs (F := Ideal)) (onTc (τ := Cert.AdamwOdInRefIdeal.τ) (Cert.AdamwOdInRefIdeal.main (F := Ideal))) ⟨m', fun _ => 0, g'⟩ (fun r => ∀ c : Dev Cert.AdamwOdInRefIdeal.nD,
          r.2.mem ((c.tc : Thread Cert.AdamwOdInRefIdeal.nD Cert.AdamwOdInRefIdeal.τ).loc Cert.AdamwOdInRefIdeal.main_v24) = v0 c
          ∧ r.2.mem ((c.tc : Thread Cert.AdamwOdInRefIdeal.nD Cert.AdamwOdInRefIdeal.τ).loc Cert.AdamwOdInRefIdeal.main_v25) = v1 c
          ∧ r.2.mem ((c.tc : Thread Cert.AdamwOdInRefIdeal.nD Cert.AdamwOdInRefIdeal.τ).loc Cert.AdamwOdInRefIdeal.main_v26) = v2 c
          ∧ r.2.mem ((c.tc : Thread Cert.AdamwOdInRefIdeal.nD Cert.AdamwOdInRefIdeal.τ).loc Cert.AdamwOdInRefIdeal.main_arg0) = m' ((c.tc : Thread Cert.AdamwOdInRefIdeal.nD Cert.AdamwOdInRefIdeal.τ).loc Cert.AdamwOdInRefIdeal.main_arg0)
          ∧ r.2.mem ((c.tc : Thread Cert.AdamwOdInRefIdeal.nD Cert.AdamwOdInRefIdeal.τ).loc Cert.AdamwOdInRefIdeal.main_arg1) = m' ((c.tc : Thread Cert.AdamwOdInRefIdeal.nD Cert.AdamwOdInRefIdeal.τ).loc Cert.AdamwOdInRefIdeal.main_arg1)
          ∧ r.2.mem ((c.tc : Thread Cert.AdamwOdInRefIdeal.nD Cert.AdamwOdInRefIdeal.τ).loc Cert.AdamwOdInRefIdeal.main_arg2) = m' ((c.tc : Thread Cert.AdamwOdInRefIdeal.nD Cert.AdamwOdInRefIdeal.τ).loc Cert.AdamwOdInRefIdeal.main_arg2)
          ∧ r.2.mem ((c.tc : Thread Cert.AdamwOdInRefIdeal.nD Cert.AdamwOdInRefIdeal.τ).loc Cert.AdamwOdInRefIdeal.main_arg3) = m' ((c.tc : Thread Cert.AdamwOdInRefIdeal.nD Cert.AdamwOdInRefIdeal.τ).loc Cert.AdamwOdInRefIdeal.main_arg3))

def preserves_AdamwConv_AdamwConvIdeal : Prop :=
  True

def algebraic_AdamwConvIdeal_AdamwConvRefIdeal [hAdamwConvIdeal : Cert.AdamwConvIdeal.Facts] [hAdamwConvRefIdeal : Cert.AdamwConvRefIdeal.Facts] : Prop :=
  ∀ (m : (ℓ : Loc Cert.AdamwConvIdeal.nD Cert.AdamwConvIdeal.τ Cert.AdamwConvIdeal.sig) → Buf (Elt Ideal) ℓ) (g : Dev Cert.AdamwConvIdeal.nD → PrngReg)
    (m' : (ℓ : Loc Cert.AdamwConvRefIdeal.nD Cert.AdamwConvRefIdeal.τ Cert.AdamwConvRefIdeal.sig) → Buf (Elt Ideal) ℓ) (g' : Dev Cert.AdamwConvRefIdeal.nD → PrngReg), Pre_AdamwConvIdeal m →
    (∀ c : Dev Cert.AdamwConvIdeal.nD,
      m' ((c.tc : Thread Cert.AdamwConvRefIdeal.nD Cert.AdamwConvRefIdeal.τ).loc Cert.AdamwConvRefIdeal.main_arg0) = m ((c.tc : Thread Cert.AdamwConvIdeal.nD Cert.AdamwConvIdeal.τ).loc Cert.AdamwConvIdeal.main_arg0)
      ∧ m' ((c.tc : Thread Cert.AdamwConvRefIdeal.nD Cert.AdamwConvRefIdeal.τ).loc Cert.AdamwConvRefIdeal.main_arg1) = m ((c.tc : Thread Cert.AdamwConvIdeal.nD Cert.AdamwConvIdeal.τ).loc Cert.AdamwConvIdeal.main_arg1)
      ∧ m' ((c.tc : Thread Cert.AdamwConvRefIdeal.nD Cert.AdamwConvRefIdeal.τ).loc Cert.AdamwConvRefIdeal.main_arg2) = m ((c.tc : Thread Cert.AdamwConvIdeal.nD Cert.AdamwConvIdeal.τ).loc Cert.AdamwConvIdeal.main_arg2)
      ∧ m' ((c.tc : Thread Cert.AdamwConvRefIdeal.nD Cert.AdamwConvRefIdeal.τ).loc Cert.AdamwConvRefIdeal.main_arg3) = m ((c.tc : Thread Cert.AdamwConvIdeal.nD Cert.AdamwConvIdeal.τ).loc Cert.AdamwConvIdeal.main_arg3)) →
    ∃ (v0 : (c : Dev Cert.AdamwConvIdeal.nD) → Buf (Elt Ideal) ((c.tc : Thread Cert.AdamwConvIdeal.nD Cert.AdamwConvIdeal.τ).loc Cert.AdamwConvIdeal.main_v4_0)) (v1 : (c : Dev Cert.AdamwConvIdeal.nD) → Buf (Elt Ideal) ((c.tc : Thread Cert.AdamwConvIdeal.nD Cert.AdamwConvIdeal.τ).loc Cert.AdamwConvIdeal.main_v4_1)) (v2 : (c : Dev Cert.AdamwConvIdeal.nD) → Buf (Elt Ideal) ((c.tc : Thread Cert.AdamwConvIdeal.nD Cert.AdamwConvIdeal.τ).loc Cert.AdamwConvIdeal.main_v4_2)),
      θ_run (Cert.AdamwConvIdeal.defs (F := Ideal)) (onTc (τ := Cert.AdamwConvIdeal.τ) (Cert.AdamwConvIdeal.main (F := Ideal))) ⟨m, fun _ => 0, g⟩ (fun r => ∀ c : Dev Cert.AdamwConvIdeal.nD,
          r.2.mem ((c.tc : Thread Cert.AdamwConvIdeal.nD Cert.AdamwConvIdeal.τ).loc Cert.AdamwConvIdeal.main_v4_0) = v0 c
          ∧ r.2.mem ((c.tc : Thread Cert.AdamwConvIdeal.nD Cert.AdamwConvIdeal.τ).loc Cert.AdamwConvIdeal.main_v4_1) = v1 c
          ∧ r.2.mem ((c.tc : Thread Cert.AdamwConvIdeal.nD Cert.AdamwConvIdeal.τ).loc Cert.AdamwConvIdeal.main_v4_2) = v2 c
          ∧ r.2.mem ((c.tc : Thread Cert.AdamwConvIdeal.nD Cert.AdamwConvIdeal.τ).loc Cert.AdamwConvIdeal.main_arg0) = m ((c.tc : Thread Cert.AdamwConvIdeal.nD Cert.AdamwConvIdeal.τ).loc Cert.AdamwConvIdeal.main_arg0)
          ∧ r.2.mem ((c.tc : Thread Cert.AdamwConvIdeal.nD Cert.AdamwConvIdeal.τ).loc Cert.AdamwConvIdeal.main_arg1) = m ((c.tc : Thread Cert.AdamwConvIdeal.nD Cert.AdamwConvIdeal.τ).loc Cert.AdamwConvIdeal.main_arg1)
          ∧ r.2.mem ((c.tc : Thread Cert.AdamwConvIdeal.nD Cert.AdamwConvIdeal.τ).loc Cert.AdamwConvIdeal.main_arg2) = m ((c.tc : Thread Cert.AdamwConvIdeal.nD Cert.AdamwConvIdeal.τ).loc Cert.AdamwConvIdeal.main_arg2)
          ∧ r.2.mem ((c.tc : Thread Cert.AdamwConvIdeal.nD Cert.AdamwConvIdeal.τ).loc Cert.AdamwConvIdeal.main_arg3) = m ((c.tc : Thread Cert.AdamwConvIdeal.nD Cert.AdamwConvIdeal.τ).loc Cert.AdamwConvIdeal.main_arg3))
      ∧ θ_run (Cert.AdamwConvRefIdeal.defs (F := Ideal)) (onTc (τ := Cert.AdamwConvRefIdeal.τ) (Cert.AdamwConvRefIdeal.main (F := Ideal))) ⟨m', fun _ => 0, g'⟩ (fun r => ∀ c : Dev Cert.AdamwConvRefIdeal.nD,
          r.2.mem ((c.tc : Thread Cert.AdamwConvRefIdeal.nD Cert.AdamwConvRefIdeal.τ).loc Cert.AdamwConvRefIdeal.main_v24) = v0 c
          ∧ r.2.mem ((c.tc : Thread Cert.AdamwConvRefIdeal.nD Cert.AdamwConvRefIdeal.τ).loc Cert.AdamwConvRefIdeal.main_v25) = v1 c
          ∧ r.2.mem ((c.tc : Thread Cert.AdamwConvRefIdeal.nD Cert.AdamwConvRefIdeal.τ).loc Cert.AdamwConvRefIdeal.main_v26) = v2 c
          ∧ r.2.mem ((c.tc : Thread Cert.AdamwConvRefIdeal.nD Cert.AdamwConvRefIdeal.τ).loc Cert.AdamwConvRefIdeal.main_arg0) = m' ((c.tc : Thread Cert.AdamwConvRefIdeal.nD Cert.AdamwConvRefIdeal.τ).loc Cert.AdamwConvRefIdeal.main_arg0)
          ∧ r.2.mem ((c.tc : Thread Cert.AdamwConvRefIdeal.nD Cert.AdamwConvRefIdeal.τ).loc Cert.AdamwConvRefIdeal.main_arg1) = m' ((c.tc : Thread Cert.AdamwConvRefIdeal.nD Cert.AdamwConvRefIdeal.τ).loc Cert.AdamwConvRefIdeal.main_arg1)
          ∧ r.2.mem ((c.tc : Thread Cert.AdamwConvRefIdeal.nD Cert.AdamwConvRefIdeal.τ).loc Cert.AdamwConvRefIdeal.main_arg2) = m' ((c.tc : Thread Cert.AdamwConvRefIdeal.nD Cert.AdamwConvRefIdeal.τ).loc Cert.AdamwConvRefIdeal.main_arg2)
          ∧ r.2.mem ((c.tc : Thread Cert.AdamwConvRefIdeal.nD Cert.AdamwConvRefIdeal.τ).loc Cert.AdamwConvRefIdeal.main_arg3) = m' ((c.tc : Thread Cert.AdamwConvRefIdeal.nD Cert.AdamwConvRefIdeal.τ).loc Cert.AdamwConvRefIdeal.main_arg3))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v23) = v0 c
          ∧ r.2.mem ((c.tc : Thread Cert.AdamwSmallRefIdeal.nD Cert.AdamwSmallRefIdeal.τ).loc Cert.AdamwSmallRefIdeal.main_v4) = v1 c
          ∧ r.2.mem ((c.tc : Thread Cert.AdamwSmallRefIdeal.nD Cert.AdamwSmallRefIdeal.τ).loc Cert.AdamwSmallRefIdeal.main_v10) = v2 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def Claim : Prop :=
  ∃ (hSwapHalves : Cert.SwapHalves.Facts) (hSwapHalvesRef : Cert.SwapHalvesRef.Facts) (hExchangeChips : Cert.ExchangeChips.Facts) (hExchangeChipsRef : Cert.ExchangeChipsRef.Facts) (hSwapReduced : Cert.SwapReduced.Facts) (hSwapReducedRef : Cert.SwapReducedRef.Facts) (hGatherSmall : Cert.GatherSmall.Facts) (hGatherSmallRef : Cert.GatherSmallRef.Facts) (hGatherWeights : Cert.GatherWeights.Facts) (hGatherWeightsRef : Cert.GatherWeightsRef.Facts) (hSumSmall : Cert.SumSmall.Facts) (hSumSmallRef : Cert.SumSmallRef.Facts) (hChipsWide : Cert.ChipsWide.Facts) (hChipsWideRef : Cert.ChipsWideRef.Facts) (hChipsRows : Cert.ChipsRows.Facts) (hChipsRowsRef : Cert.ChipsRowsRef.Facts) (hSiblingWide : Cert.SiblingWide.Facts) (hSiblingWideRef : Cert.SiblingWideRef.Facts) (hSiblingRows : Cert.SiblingRows.Facts) (hSiblingRowsRef : Cert.SiblingRowsRef.Facts) (hFfnNorm : Cert.FfnNorm.Facts) (hFfnNormIdeal : Cert.FfnNormIdeal.Facts) (hFfnNormRefIdeal : Cert.FfnNormRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hFfnDact : Cert.FfnDact.Facts) (hFfnDactIdeal : Cert.FfnDactIdeal.Facts) (hFfnDactRefIdeal : Cert.FfnDactRefIdeal.Facts) (hFfnDwd : Cert.FfnDwd.Facts) (hFfnDwdIdeal : Cert.FfnDwdIdeal.Facts) (hFfnDwdRefIdeal : Cert.FfnDwdRefIdeal.Facts) (hFfnDwin : Cert.FfnDwin.Facts) (hFfnDwinIdeal : Cert.FfnDwinIdeal.Facts) (hFfnDwinRefIdeal : Cert.FfnDwinRefIdeal.Facts) (hFfnDh : Cert.FfnDh.Facts) (hFfnDhIdeal : Cert.FfnDhIdeal.Facts) (hFfnDhRefIdeal : Cert.FfnDhRefIdeal.Facts) (hEvProj : Cert.EvProj.Facts) (hEvProjIdeal : Cert.EvProjIdeal.Facts) (hEvProjRefIdeal : Cert.EvProjRefIdeal.Facts) (hOdProj : Cert.OdProj.Facts) (hOdProjIdeal : Cert.OdProjIdeal.Facts) (hOdProjRefIdeal : Cert.OdProjRefIdeal.Facts) (hOdProjBd : Cert.OdProjBd.Facts) (hOdProjBdIdeal : Cert.OdProjBdIdeal.Facts) (hOdProjBdRefIdeal : Cert.OdProjBdRefIdeal.Facts) (hEvOut : Cert.EvOut.Facts) (hEvOutIdeal : Cert.EvOutIdeal.Facts) (hEvOutRefIdeal : Cert.EvOutRefIdeal.Facts) (hOdOut : Cert.OdOut.Facts) (hOdOutIdeal : Cert.OdOutIdeal.Facts) (hOdOutRefIdeal : Cert.OdOutRefIdeal.Facts) (hEvDy : Cert.EvDy.Facts) (hEvDyIdeal : Cert.EvDyIdeal.Facts) (hEvDyRefIdeal : Cert.EvDyRefIdeal.Facts) (hOdDy : Cert.OdDy.Facts) (hOdDyIdeal : Cert.OdDyIdeal.Facts) (hOdDyRefIdeal : Cert.OdDyRefIdeal.Facts) (hEvDwOut : Cert.EvDwOut.Facts) (hEvDwOutIdeal : Cert.EvDwOutIdeal.Facts) (hEvDwOutRefIdeal : Cert.EvDwOutRefIdeal.Facts) (hOdDwOut : Cert.OdDwOut.Facts) (hOdDwOutIdeal : Cert.OdDwOutIdeal.Facts) (hOdDwOutRefIdeal : Cert.OdDwOutRefIdeal.Facts) (hEvDwIn : Cert.EvDwIn.Facts) (hEvDwInIdeal : Cert.EvDwInIdeal.Facts) (hEvDwInRefIdeal : Cert.EvDwInRefIdeal.Facts) (hOdDwIn : Cert.OdDwIn.Facts) (hOdDwInIdeal : Cert.OdDwInIdeal.Facts) (hOdDwInRefIdeal : Cert.OdDwInRefIdeal.Facts) (hOdDwBd : Cert.OdDwBd.Facts) (hOdDwBdIdeal : Cert.OdDwBdIdeal.Facts) (hOdDwBdRefIdeal : Cert.OdDwBdRefIdeal.Facts) (hEvDh : Cert.EvDh.Facts) (hEvDhIdeal : Cert.EvDhIdeal.Facts) (hEvDhRefIdeal : Cert.EvDhRefIdeal.Facts) (hOdDh : Cert.OdDh.Facts) (hOdDhIdeal : Cert.OdDhIdeal.Facts) (hOdDhRefIdeal : Cert.OdDhRefIdeal.Facts) (hOdDhBd : Cert.OdDhBd.Facts) (hOdDhBdIdeal : Cert.OdDhBdIdeal.Facts) (hOdDhBdRefIdeal : Cert.OdDhBdRefIdeal.Facts) (hSsmDc : Cert.SsmDc.Facts) (hSsmDcIdeal : Cert.SsmDcIdeal.Facts) (hSsmDcRefIdeal : Cert.SsmDcRefIdeal.Facts) (hSsmPost : Cert.SsmPost.Facts) (hSsmPostIdeal : Cert.SsmPostIdeal.Facts) (hSsmPostRefIdeal : Cert.SsmPostRefIdeal.Facts) (hLossHead : Cert.LossHead.Facts) (hLossHeadIdeal : Cert.LossHeadIdeal.Facts) (hLossHeadRefIdeal : Cert.LossHeadRefIdeal.Facts) (hFirstNorm : Cert.FirstNorm.Facts) (hFirstNormIdeal : Cert.FirstNormIdeal.Facts) (hFirstNormRefIdeal : Cert.FirstNormRefIdeal.Facts) (hAdamwWide : Cert.AdamwWide.Facts) (hAdamwWideIdeal : Cert.AdamwWideIdeal.Facts) (hAdamwWideRefIdeal : Cert.AdamwWideRefIdeal.Facts) (hAdamwDown : Cert.AdamwDown.Facts) (hAdamwDownIdeal : Cert.AdamwDownIdeal.Facts) (hAdamwDownRefIdeal : Cert.AdamwDownRefIdeal.Facts) (hAdamwEvIn : Cert.AdamwEvIn.Facts) (hAdamwEvInIdeal : Cert.AdamwEvInIdeal.Facts) (hAdamwEvInRefIdeal : Cert.AdamwEvInRefIdeal.Facts) (hAdamwGlu : Cert.AdamwGlu.Facts) (hAdamwGluIdeal : Cert.AdamwGluIdeal.Facts) (hAdamwGluRefIdeal : Cert.AdamwGluRefIdeal.Facts) (hAdamwOut : Cert.AdamwOut.Facts) (hAdamwOutIdeal : Cert.AdamwOutIdeal.Facts) (hAdamwOutRefIdeal : Cert.AdamwOutRefIdeal.Facts) (hAdamwOdIn : Cert.AdamwOdIn.Facts) (hAdamwOdInIdeal : Cert.AdamwOdInIdeal.Facts) (hAdamwOdInRefIdeal : Cert.AdamwOdInRefIdeal.Facts) (hAdamwConv : Cert.AdamwConv.Facts) (hAdamwConvIdeal : Cert.AdamwConvIdeal.Facts) (hAdamwConvRefIdeal : Cert.AdamwConvRefIdeal.Facts) (hAdamwSmall : Cert.AdamwSmall.Facts) (hAdamwSmallIdeal : Cert.AdamwSmallIdeal.Facts) (hAdamwSmallRefIdeal : Cert.AdamwSmallRefIdeal.Facts) (hPre_finite : Cert.Pre_finite.Facts),
    quiescent_SwapHalves (hSwapHalves := hSwapHalves)
    ∧ quiescent_SwapHalvesRef (hSwapHalvesRef := hSwapHalvesRef)
    ∧ quiescent_ExchangeChips (hExchangeChips := hExchangeChips)
    ∧ quiescent_ExchangeChipsRef (hExchangeChipsRef := hExchangeChipsRef)
    ∧ quiescent_SwapReduced (hSwapReduced := hSwapReduced)
    ∧ quiescent_SwapReducedRef (hSwapReducedRef := hSwapReducedRef)
    ∧ quiescent_GatherSmall (hGatherSmall := hGatherSmall)
    ∧ quiescent_GatherSmallRef (hGatherSmallRef := hGatherSmallRef)
    ∧ quiescent_GatherWeights (hGatherWeights := hGatherWeights)
    ∧ quiescent_GatherWeightsRef (hGatherWeightsRef := hGatherWeightsRef)
    ∧ quiescent_SumSmall (hSumSmall := hSumSmall)
    ∧ quiescent_SumSmallRef (hSumSmallRef := hSumSmallRef)
    ∧ quiescent_ChipsWide (hChipsWide := hChipsWide)
    ∧ quiescent_ChipsWideRef (hChipsWideRef := hChipsWideRef)
    ∧ quiescent_ChipsRows (hChipsRows := hChipsRows)
    ∧ quiescent_ChipsRowsRef (hChipsRowsRef := hChipsRowsRef)
    ∧ quiescent_SiblingWide (hSiblingWide := hSiblingWide)
    ∧ quiescent_SiblingWideRef (hSiblingWideRef := hSiblingWideRef)
    ∧ quiescent_SiblingRows (hSiblingRows := hSiblingRows)
    ∧ quiescent_SiblingRowsRef (hSiblingRowsRef := hSiblingRowsRef)
    ∧ quiescent_FfnNorm (hFfnNorm := hFfnNorm)
    ∧ quiescent_FfnNormIdeal (hFfnNormIdeal := hFfnNormIdeal)
    ∧ quiescent_FfnNormRefIdeal (hFfnNormRefIdeal := hFfnNormRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDact (hFfnDact := hFfnDact)
    ∧ quiescent_FfnDactIdeal (hFfnDactIdeal := hFfnDactIdeal)
    ∧ quiescent_FfnDactIdeal_pre_finite (hFfnDactIdeal := hFfnDactIdeal) (hPre_finite := hPre_finite)
    ∧ quiescent_FfnDactRefIdeal (hFfnDactRefIdeal := hFfnDactRefIdeal)
    ∧ quiescent_FfnDactRefIdeal_pre_finite (hFfnDactRefIdeal := hFfnDactRefIdeal) (hPre_finite := hPre_finite)
    ∧ quiescent_FfnDwd (hFfnDwd := hFfnDwd)
    ∧ quiescent_FfnDwdIdeal (hFfnDwdIdeal := hFfnDwdIdeal)
    ∧ quiescent_FfnDwdRefIdeal (hFfnDwdRefIdeal := hFfnDwdRefIdeal)
    ∧ quiescent_FfnDwin (hFfnDwin := hFfnDwin)
    ∧ quiescent_FfnDwinIdeal (hFfnDwinIdeal := hFfnDwinIdeal)
    ∧ quiescent_FfnDwinRefIdeal (hFfnDwinRefIdeal := hFfnDwinRefIdeal)
    ∧ quiescent_FfnDh (hFfnDh := hFfnDh)
    ∧ quiescent_FfnDhIdeal (hFfnDhIdeal := hFfnDhIdeal)
    ∧ quiescent_FfnDhRefIdeal (hFfnDhRefIdeal := hFfnDhRefIdeal)
    ∧ quiescent_EvProj (hEvProj := hEvProj)
    ∧ quiescent_EvProjIdeal (hEvProjIdeal := hEvProjIdeal)
    ∧ quiescent_EvProjRefIdeal (hEvProjRefIdeal := hEvProjRefIdeal)
    ∧ quiescent_OdProj (hOdProj := hOdProj)
    ∧ quiescent_OdProjIdeal (hOdProjIdeal := hOdProjIdeal)
    ∧ quiescent_OdProjRefIdeal (hOdProjRefIdeal := hOdProjRefIdeal)
    ∧ quiescent_OdProjBd (hOdProjBd := hOdProjBd)
    ∧ quiescent_OdProjBdIdeal (hOdProjBdIdeal := hOdProjBdIdeal)
    ∧ quiescent_OdProjBdRefIdeal (hOdProjBdRefIdeal := hOdProjBdRefIdeal)
    ∧ quiescent_EvOut (hEvOut := hEvOut)
    ∧ quiescent_EvOutIdeal (hEvOutIdeal := hEvOutIdeal)
    ∧ quiescent_EvOutRefIdeal (hEvOutRefIdeal := hEvOutRefIdeal)
    ∧ quiescent_OdOut (hOdOut := hOdOut)
    ∧ quiescent_OdOutIdeal (hOdOutIdeal := hOdOutIdeal)
    ∧ quiescent_OdOutRefIdeal (hOdOutRefIdeal := hOdOutRefIdeal)
    ∧ quiescent_EvDy (hEvDy := hEvDy)
    ∧ quiescent_EvDyIdeal (hEvDyIdeal := hEvDyIdeal)
    ∧ quiescent_EvDyRefIdeal (hEvDyRefIdeal := hEvDyRefIdeal)
    ∧ quiescent_OdDy (hOdDy := hOdDy)
    ∧ quiescent_OdDyIdeal (hOdDyIdeal := hOdDyIdeal)
    ∧ quiescent_OdDyRefIdeal (hOdDyRefIdeal := hOdDyRefIdeal)
    ∧ quiescent_EvDwOut (hEvDwOut := hEvDwOut)
    ∧ quiescent_EvDwOutIdeal (hEvDwOutIdeal := hEvDwOutIdeal)
    ∧ quiescent_EvDwOutRefIdeal (hEvDwOutRefIdeal := hEvDwOutRefIdeal)
    ∧ quiescent_OdDwOut (hOdDwOut := hOdDwOut)
    ∧ quiescent_OdDwOutIdeal (hOdDwOutIdeal := hOdDwOutIdeal)
    ∧ quiescent_OdDwOutRefIdeal (hOdDwOutRefIdeal := hOdDwOutRefIdeal)
    ∧ quiescent_EvDwIn (hEvDwIn := hEvDwIn)
    ∧ quiescent_EvDwInIdeal (hEvDwInIdeal := hEvDwInIdeal)
    ∧ quiescent_EvDwInRefIdeal (hEvDwInRefIdeal := hEvDwInRefIdeal)
    ∧ quiescent_OdDwIn (hOdDwIn := hOdDwIn)
    ∧ quiescent_OdDwInIdeal (hOdDwInIdeal := hOdDwInIdeal)
    ∧ quiescent_OdDwInRefIdeal (hOdDwInRefIdeal := hOdDwInRefIdeal)
    ∧ quiescent_OdDwBd (hOdDwBd := hOdDwBd)
    ∧ quiescent_OdDwBdIdeal (hOdDwBdIdeal := hOdDwBdIdeal)
    ∧ quiescent_OdDwBdRefIdeal (hOdDwBdRefIdeal := hOdDwBdRefIdeal)
    ∧ quiescent_EvDh (hEvDh := hEvDh)
    ∧ quiescent_EvDhIdeal (hEvDhIdeal := hEvDhIdeal)
    ∧ quiescent_EvDhRefIdeal (hEvDhRefIdeal := hEvDhRefIdeal)
    ∧ quiescent_OdDh (hOdDh := hOdDh)
    ∧ quiescent_OdDhIdeal (hOdDhIdeal := hOdDhIdeal)
    ∧ quiescent_OdDhRefIdeal (hOdDhRefIdeal := hOdDhRefIdeal)
    ∧ quiescent_OdDhBd (hOdDhBd := hOdDhBd)
    ∧ quiescent_OdDhBdIdeal (hOdDhBdIdeal := hOdDhBdIdeal)
    ∧ quiescent_OdDhBdRefIdeal (hOdDhBdRefIdeal := hOdDhBdRefIdeal)
    ∧ quiescent_SsmDc (hSsmDc := hSsmDc)
    ∧ quiescent_SsmDcIdeal (hSsmDcIdeal := hSsmDcIdeal)
    ∧ quiescent_SsmDcRefIdeal (hSsmDcRefIdeal := hSsmDcRefIdeal)
    ∧ quiescent_SsmPost (hSsmPost := hSsmPost)
    ∧ quiescent_SsmPostIdeal (hSsmPostIdeal := hSsmPostIdeal)
    ∧ quiescent_SsmPostRefIdeal (hSsmPostRefIdeal := hSsmPostRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_FirstNorm (hFirstNorm := hFirstNorm)
    ∧ quiescent_FirstNormIdeal (hFirstNormIdeal := hFirstNormIdeal)
    ∧ quiescent_FirstNormRefIdeal (hFirstNormRefIdeal := hFirstNormRefIdeal)
    ∧ quiescent_AdamwWide (hAdamwWide := hAdamwWide)
    ∧ quiescent_AdamwWideIdeal (hAdamwWideIdeal := hAdamwWideIdeal)
    ∧ quiescent_AdamwWideRefIdeal (hAdamwWideRefIdeal := hAdamwWideRefIdeal)
    ∧ quiescent_AdamwDown (hAdamwDown := hAdamwDown)
    ∧ quiescent_AdamwDownIdeal (hAdamwDownIdeal := hAdamwDownIdeal)
    ∧ quiescent_AdamwDownRefIdeal (hAdamwDownRefIdeal := hAdamwDownRefIdeal)
    ∧ quiescent_AdamwEvIn (hAdamwEvIn := hAdamwEvIn)
    ∧ quiescent_AdamwEvInIdeal (hAdamwEvInIdeal := hAdamwEvInIdeal)
    ∧ quiescent_AdamwEvInRefIdeal (hAdamwEvInRefIdeal := hAdamwEvInRefIdeal)
    ∧ quiescent_AdamwGlu (hAdamwGlu := hAdamwGlu)
    ∧ quiescent_AdamwGluIdeal (hAdamwGluIdeal := hAdamwGluIdeal)
    ∧ quiescent_AdamwGluRefIdeal (hAdamwGluRefIdeal := hAdamwGluRefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_AdamwOdIn (hAdamwOdIn := hAdamwOdIn)
    ∧ quiescent_AdamwOdInIdeal (hAdamwOdInIdeal := hAdamwOdInIdeal)
    ∧ quiescent_AdamwOdInRefIdeal (hAdamwOdInRefIdeal := hAdamwOdInRefIdeal)
    ∧ quiescent_AdamwConv (hAdamwConv := hAdamwConv)
    ∧ quiescent_AdamwConvIdeal (hAdamwConvIdeal := hAdamwConvIdeal)
    ∧ quiescent_AdamwConvRefIdeal (hAdamwConvRefIdeal := hAdamwConvRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ bitexact_SwapHalves_SwapHalvesRef (hSwapHalves := hSwapHalves) (hSwapHalvesRef := hSwapHalvesRef)
    ∧ bitexact_ExchangeChips_ExchangeChipsRef (hExchangeChips := hExchangeChips) (hExchangeChipsRef := hExchangeChipsRef)
    ∧ bitexact_SwapReduced_SwapReducedRef (hSwapReduced := hSwapReduced) (hSwapReducedRef := hSwapReducedRef)
    ∧ bitexact_GatherSmall_GatherSmallRef (hGatherSmall := hGatherSmall) (hGatherSmallRef := hGatherSmallRef)
    ∧ bitexact_GatherWeights_GatherWeightsRef (hGatherWeights := hGatherWeights) (hGatherWeightsRef := hGatherWeightsRef)
    ∧ bitexact_SumSmall_SumSmallRef (hSumSmall := hSumSmall) (hSumSmallRef := hSumSmallRef)
    ∧ bitexact_ChipsWide_ChipsWideRef (hChipsWide := hChipsWide) (hChipsWideRef := hChipsWideRef)
    ∧ bitexact_ChipsRows_ChipsRowsRef (hChipsRows := hChipsRows) (hChipsRowsRef := hChipsRowsRef)
    ∧ bitexact_SiblingWide_SiblingWideRef (hSiblingWide := hSiblingWide) (hSiblingWideRef := hSiblingWideRef)
    ∧ bitexact_SiblingRows_SiblingRowsRef (hSiblingRows := hSiblingRows) (hSiblingRowsRef := hSiblingRowsRef)
    ∧ preserves_FfnNorm_FfnNormIdeal
    ∧ algebraic_FfnNormIdeal_FfnNormRefIdeal (hFfnNormIdeal := hFfnNormIdeal) (hFfnNormRefIdeal := hFfnNormRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnDact_FfnDactIdeal
    ∧ algebraic_FfnDactIdeal_FfnDactRefIdeal_pre_finite (hFfnDactIdeal := hFfnDactIdeal) (hFfnDactRefIdeal := hFfnDactRefIdeal) (hPre_finite := hPre_finite)
    ∧ preserves_FfnDwd_FfnDwdIdeal
    ∧ algebraic_FfnDwdIdeal_FfnDwdRefIdeal (hFfnDwdIdeal := hFfnDwdIdeal) (hFfnDwdRefIdeal := hFfnDwdRefIdeal)
    ∧ preserves_FfnDwin_FfnDwinIdeal
    ∧ algebraic_FfnDwinIdeal_FfnDwinRefIdeal (hFfnDwinIdeal := hFfnDwinIdeal) (hFfnDwinRefIdeal := hFfnDwinRefIdeal)
    ∧ preserves_FfnDh_FfnDhIdeal
    ∧ algebraic_FfnDhIdeal_FfnDhRefIdeal (hFfnDhIdeal := hFfnDhIdeal) (hFfnDhRefIdeal := hFfnDhRefIdeal)
    ∧ preserves_EvProj_EvProjIdeal
    ∧ algebraic_EvProjIdeal_EvProjRefIdeal (hEvProjIdeal := hEvProjIdeal) (hEvProjRefIdeal := hEvProjRefIdeal)
    ∧ preserves_OdProj_OdProjIdeal
    ∧ algebraic_OdProjIdeal_OdProjRefIdeal (hOdProjIdeal := hOdProjIdeal) (hOdProjRefIdeal := hOdProjRefIdeal)
    ∧ preserves_OdProjBd_OdProjBdIdeal
    ∧ algebraic_OdProjBdIdeal_OdProjBdRefIdeal (hOdProjBdIdeal := hOdProjBdIdeal) (hOdProjBdRefIdeal := hOdProjBdRefIdeal)
    ∧ preserves_EvOut_EvOutIdeal
    ∧ algebraic_EvOutIdeal_EvOutRefIdeal (hEvOutIdeal := hEvOutIdeal) (hEvOutRefIdeal := hEvOutRefIdeal)
    ∧ preserves_OdOut_OdOutIdeal
    ∧ algebraic_OdOutIdeal_OdOutRefIdeal (hOdOutIdeal := hOdOutIdeal) (hOdOutRefIdeal := hOdOutRefIdeal)
    ∧ preserves_EvDy_EvDyIdeal
    ∧ algebraic_EvDyIdeal_EvDyRefIdeal (hEvDyIdeal := hEvDyIdeal) (hEvDyRefIdeal := hEvDyRefIdeal)
    ∧ preserves_OdDy_OdDyIdeal
    ∧ algebraic_OdDyIdeal_OdDyRefIdeal (hOdDyIdeal := hOdDyIdeal) (hOdDyRefIdeal := hOdDyRefIdeal)
    ∧ preserves_EvDwOut_EvDwOutIdeal
    ∧ algebraic_EvDwOutIdeal_EvDwOutRefIdeal (hEvDwOutIdeal := hEvDwOutIdeal) (hEvDwOutRefIdeal := hEvDwOutRefIdeal)
    ∧ preserves_OdDwOut_OdDwOutIdeal
    ∧ algebraic_OdDwOutIdeal_OdDwOutRefIdeal (hOdDwOutIdeal := hOdDwOutIdeal) (hOdDwOutRefIdeal := hOdDwOutRefIdeal)
    ∧ preserves_EvDwIn_EvDwInIdeal
    ∧ algebraic_EvDwInIdeal_EvDwInRefIdeal (hEvDwInIdeal := hEvDwInIdeal) (hEvDwInRefIdeal := hEvDwInRefIdeal)
    ∧ preserves_OdDwIn_OdDwInIdeal
    ∧ algebraic_OdDwInIdeal_OdDwInRefIdeal (hOdDwInIdeal := hOdDwInIdeal) (hOdDwInRefIdeal := hOdDwInRefIdeal)
    ∧ preserves_OdDwBd_OdDwBdIdeal
    ∧ algebraic_OdDwBdIdeal_OdDwBdRefIdeal (hOdDwBdIdeal := hOdDwBdIdeal) (hOdDwBdRefIdeal := hOdDwBdRefIdeal)
    ∧ preserves_EvDh_EvDhIdeal
    ∧ algebraic_EvDhIdeal_EvDhRefIdeal (hEvDhIdeal := hEvDhIdeal) (hEvDhRefIdeal := hEvDhRefIdeal)
    ∧ preserves_OdDh_OdDhIdeal
    ∧ algebraic_OdDhIdeal_OdDhRefIdeal (hOdDhIdeal := hOdDhIdeal) (hOdDhRefIdeal := hOdDhRefIdeal)
    ∧ preserves_OdDhBd_OdDhBdIdeal
    ∧ algebraic_OdDhBdIdeal_OdDhBdRefIdeal (hOdDhBdIdeal := hOdDhBdIdeal) (hOdDhBdRefIdeal := hOdDhBdRefIdeal)
    ∧ preserves_SsmDc_SsmDcIdeal
    ∧ algebraic_SsmDcIdeal_SsmDcRefIdeal (hSsmDcIdeal := hSsmDcIdeal) (hSsmDcRefIdeal := hSsmDcRefIdeal)
    ∧ preserves_SsmPost_SsmPostIdeal
    ∧ algebraic_SsmPostIdeal_SsmPostRefIdeal (hSsmPostIdeal := hSsmPostIdeal) (hSsmPostRefIdeal := hSsmPostRefIdeal)
    ∧ preserves_LossHead_LossHeadIdeal
    ∧ algebraic_LossHeadIdeal_LossHeadRefIdeal (hLossHeadIdeal := hLossHeadIdeal) (hLossHeadRefIdeal := hLossHeadRefIdeal)
    ∧ preserves_FirstNorm_FirstNormIdeal
    ∧ algebraic_FirstNormIdeal_FirstNormRefIdeal (hFirstNormIdeal := hFirstNormIdeal) (hFirstNormRefIdeal := hFirstNormRefIdeal)
    ∧ preserves_AdamwWide_AdamwWideIdeal
    ∧ algebraic_AdamwWideIdeal_AdamwWideRefIdeal (hAdamwWideIdeal := hAdamwWideIdeal) (hAdamwWideRefIdeal := hAdamwWideRefIdeal)
    ∧ preserves_AdamwDown_AdamwDownIdeal
    ∧ algebraic_AdamwDownIdeal_AdamwDownRefIdeal (hAdamwDownIdeal := hAdamwDownIdeal) (hAdamwDownRefIdeal := hAdamwDownRefIdeal)
    ∧ preserves_AdamwEvIn_AdamwEvInIdeal
    ∧ algebraic_AdamwEvInIdeal_AdamwEvInRefIdeal (hAdamwEvInIdeal := hAdamwEvInIdeal) (hAdamwEvInRefIdeal := hAdamwEvInRefIdeal)
    ∧ preserves_AdamwGlu_AdamwGluIdeal
    ∧ algebraic_AdamwGluIdeal_AdamwGluRefIdeal (hAdamwGluIdeal := hAdamwGluIdeal) (hAdamwGluRefIdeal := hAdamwGluRefIdeal)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_AdamwOdIn_AdamwOdInIdeal
    ∧ algebraic_AdamwOdInIdeal_AdamwOdInRefIdeal (hAdamwOdInIdeal := hAdamwOdInIdeal) (hAdamwOdInRefIdeal := hAdamwOdInRefIdeal)
    ∧ preserves_AdamwConv_AdamwConvIdeal
    ∧ algebraic_AdamwConvIdeal_AdamwConvRefIdeal (hAdamwConvIdeal := hAdamwConvIdeal) (hAdamwConvRefIdeal := hAdamwConvRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
-- ==== Pre_finite.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .f32) (main_arg1 : FVec F S2816x1024 .bf16) (main_arg2 : FVec F S4096x2816 .f32) (main_arg3 : FVec F S4096x2816 .f32) : IVec S4096x1024 1 × IVec S2816x1024 1 × IVec S4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2816x1024 .f32 := (extf .f32 · bitsLt_bf16_f32) main_arg1
  let main_v4 : FVec F S2816x1024 .f32 := Host.absf main_v3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S4096x2816 .f32 := Host.absf main_arg3
  let main_cst_1 : FVec F S_ .f32 := constant S_ .f32 0x7F800000#32
  let main_v8 : FVec F S4096x2816 .f32 := broadcastInDim S4096x2816 ![] bcast_S_S4096x2816 main_cst_1
  let main_v9 : IVec S4096x2816 1 := cmpf .olt main_v7 main_v8
  (main_v2, main_v6, main_v9)
-- ==== SwapHalves.lean ====
abbrev S4x2x8x1024x704 : Shape := ⟨5, ![4, 2, 8, 1024, 704]⟩
abbrev S4x2x10x512x1024 : Shape := ⟨5, ![4, 2, 10, 512, 1024]⟩
abbrev S4x8x1024x704 : Shape := ⟨4, ![4, 8, 1024, 704]⟩
abbrev S4x10x512x1024 : Shape := ⟨4, ![4, 10, 512, 1024]⟩
abbrev S2 : Shape := ⟨1, ![2]⟩
abbrev S1 : Shape := ⟨1, ![1]⟩
abbrev S_ : Shape := ⟨0, ![]⟩
abbrev S4x1x8x1024x704 : Shape := ⟨5, ![4, 1, 8, 1024, 704]⟩
abbrev S4x1x10x512x1024 : Shape := ⟨5, ![4, 1, 10, 512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x2x8x1024x704, .f32⟩
  | .hbm, ⟨1, _⟩ => ⟨S4x2x10x512x1024, .f32⟩
  | .hbm, ⟨2, _⟩ => ⟨S4x8x1024x704, .f32⟩
  | .hbm, ⟨3, _⟩ => ⟨S4x10x512x1024, .f32⟩
  | _, _ => ⟨S4x2x8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 5 → Nat :=
  let c0_i32_12 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_13 : BitVec 32 := 0#32
  let c0_i32_14 : BitVec 32 := 0#32
  let c0_i32_15 : BitVec 32 := 0#32
  ![0, v9.toNat, 0, 0, 0]
def k0_dev1 (d0 : Dev nD) : Nat :=
  let c0_i32_9 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v13 : BitVec 32 := Scalar.muli v2 c4_i32_8
  let v14 : BitVec 32 := Scalar.addi c0_i32_9 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v15 : BitVec 32 := Scalar.muli v5 c2_i32_10
  let v16 : BitVec 32 := Scalar.addi v14 v15
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_11 : BitVec 32 := 1#32
  let v17 : BitVec 32 := Scalar.muli v10 c1_i32_11
  let v18 : BitVec 32 := Scalar.addi v16 v17
  v18.toNat
def k0_off2 (d0 : Dev nD) : Fin 5 → Nat :=
  let c0_i32_22 : BitVec 32 := 0#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_23 : BitVec 32 := 0#32
  let c0_i32_24 : BitVec 32 := 0#32
  let c0_i32_25 : BitVec 32 := 0#32
  ![0, v11.toNat, 0, 0, 0]
def k0_dev2 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v25 : BitVec 32 := Scalar.muli v2 c4_i32_18
  let v26 : BitVec 32 := Scalar.addi c0_i32_19 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v27 : BitVec 32 := Scalar.muli v5 c2_i32_20
  let v28 : BitVec 32 := Scalar.addi v26 v27
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_21 : BitVec 32 := 1#32
  let v29 : BitVec 32 := Scalar.muli v12 c1_i32_21
  let v30 : BitVec 32 := Scalar.addi v28 v29
  v30.toNat
-- ==== SwapHalvesRef.lean ====
abbrev S32x2x8x1024x704 : Shape := ⟨5, ![32, 2, 8, 1024, 704]⟩
abbrev S32x2x10x512x1024 : Shape := ⟨5, ![32, 2, 10, 512, 1024]⟩
abbrev S4x2x4x2x8x1024x704 : Shape := ⟨7, ![4, 2, 4, 2, 8, 1024, 704]⟩
abbrev S4x1x4x1x8x1024x704 : Shape := ⟨7, ![4, 1, 4, 1, 8, 1024, 704]⟩
abbrev S4x4x8x1024x704 : Shape := ⟨5, ![4, 4, 8, 1024, 704]⟩
abbrev S4x1x4x8x1024x704 : Shape := ⟨6, ![4, 1, 4, 8, 1024, 704]⟩
abbrev S4x2x4x8x1024x704 : Shape := ⟨6, ![4, 2, 4, 8, 1024, 704]⟩
abbrev S32x8x1024x704 : Shape := ⟨4, ![32, 8, 1024, 704]⟩
abbrev S4x2x4x2x10x512x1024 : Shape := ⟨7, ![4, 2, 4, 2, 10, 512, 1024]⟩
abbrev S4x1x4x1x10x512x1024 : Shape := ⟨7, ![4, 1, 4, 1, 10, 512, 1024]⟩
abbrev S4x4x10x512x1024 : Shape := ⟨5, ![4, 4, 10, 512, 1024]⟩
abbrev S4x1x4x10x512x1024 : Shape := ⟨6, ![4, 1, 4, 10, 512, 1024]⟩
abbrev S4x2x4x10x512x1024 : Shape := ⟨6, ![4, 2, 4, 10, 512, 1024]⟩
abbrev S32x10x512x1024 : Shape := ⟨4, ![32, 10, 512, 1024]⟩

abbrev nBuf : Space → Nat
  | .hbm => 20
  | .vmem => 0
  | .smem => 0
  | _ => 0

abbrev bufTy : (tb : Table) → Fin (tcTables nBuf tb) → BufTy
  | .hbm, ⟨0, _⟩ => ⟨S32x2x8x1024x704, .f32⟩
  | .hbm, ⟨1, _⟩ => ⟨S32x2x10x512x1024, .f32⟩
  | .hbm, ⟨2, _⟩ => ⟨S4x2x4x2x8x1024x704, .f32⟩
  | .hbm, ⟨3, _⟩ => ⟨S4x1x4x1x8x1024x704, .f32⟩
  | .hbm, ⟨4, _⟩ => ⟨S4x4x8x1024x704, .f32⟩
  | .hbm, ⟨5, _⟩ => ⟨S4x1x4x1x8x1024x704, .f32⟩
  | .hbm, ⟨6, _⟩ => ⟨S4x4x8x1024x704, .f32⟩
  | .hbm, ⟨7, _⟩ => ⟨S4x1x4x8x1024x704, .f32⟩
  | .hbm, ⟨8, _⟩ => ⟨S4x1x4x8x1024x704, .f32⟩
  | .hbm, ⟨9, _⟩ => ⟨S4x2x4x8x1024x704, .f32⟩
  | .hbm, ⟨10, _⟩ => ⟨S32x8x1024x704, .f32⟩
  | .hbm, ⟨11, _⟩ => ⟨S4x2x4x2x10x512x1024, .f32⟩
  | .hbm, ⟨12, _⟩ => ⟨S4x1x4x1x10x512x1024, .f32⟩
  | .hbm, ⟨13, _⟩ => ⟨S4x4x10x512x1024, .f32⟩
  | .hbm, ⟨14, _⟩ => ⟨S4x1x4x1x10x512x1024, .f32⟩
  | .hbm, ⟨15, _⟩ => ⟨S4x4x10x512x1024, .f32⟩
  | .hbm, ⟨16, _⟩ => ⟨S4x1x4x10x512x1024, .f32⟩
  | .hbm, ⟨17, _⟩ => ⟨S4x1x4x10x512x1024, .f32⟩
  | .hbm, ⟨18, _⟩ => ⟨S4x2x4x10x512x1024, .f32⟩
  | .hbm, ⟨19, _⟩ => ⟨S32x10x512x1024, .f32⟩
  | _, _ => ⟨S32x2x8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== ExchangeChips.lean ====
abbrev S4x8x1024x704 : Shape := ⟨4, ![4, 8, 1024, 704]⟩
abbrev S4x10x512x1024 : Shape := ⟨4, ![4, 10, 512, 1024]⟩
abbrev S3x8x1024x704 : Shape := ⟨4, ![3, 8, 1024, 704]⟩
abbrev S3x10x512x1024 : Shape := ⟨4, ![3, 10, 512, 1024]⟩
abbrev S6 : Shape := ⟨1, ![6]⟩
abbrev S1 : Shape := ⟨1, ![1]⟩
abbrev S_ : Shape := ⟨0, ![]⟩
abbrev S1x8x1024x704 : Shape := ⟨4, ![1, 8, 1024, 704]⟩
abbrev S8x1024x704 : Shape := ⟨3, ![8, 1024, 704]⟩
abbrev S1x10x512x1024 : Shape := ⟨4, ![1, 10, 512, 1024]⟩
abbrev S10x512x1024 : Shape := ⟨3, ![10, 512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x8x1024x704, .bf16⟩
  | .hbm, ⟨1, _⟩ => ⟨S4x10x512x1024, .bf16⟩
  | .hbm, ⟨2, _⟩ => ⟨S3x8x1024x704, .bf16⟩
  | .hbm, ⟨3, _⟩ => ⟨S3x10x512x1024, .bf16⟩
  | _, _ => ⟨S4x8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 4 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_22 : BitVec 32 := 0#32
  let c0_i32_23 : BitVec 32 := 0#32
  let c0_i32_24 : BitVec 32 := 0#32
  ![v14.toNat, 0, 0, 0]
def k0_dev1 (d0 : Dev nD) : Nat :=
  let c0_i32_16 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_15 : BitVec 32 := 4#32
  let v25 : BitVec 32 := Scalar.muli v9 c4_i32_15
  let v26 : BitVec 32 := Scalar.addi c0_i32_16 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v27 : BitVec 32 := Scalar.muli v5 c2_i32_17
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v29 : BitVec 32 := Scalar.muli v8 c1_i32_18
  let v30 : BitVec 32 := Scalar.addi v28 v29
  v30.toNat
def k0_off2 (d0 : Dev nD) : Fin 4 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_35 : BitVec 32 := 0#32
  let c0_i32_36 : BitVec 32 := 0#32
  let c0_i32_37 : BitVec 32 := 0#32
  ![v16.toNat, 0, 0, 0]
def k0_dev2 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v39 : BitVec 32 := Scalar.muli v2 c4_i32_28
  let v40 : BitVec 32 := Scalar.addi c0_i32_29 v39
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_30 : BitVec 32 := 2#32
  let v41 : BitVec 32 := Scalar.muli v10 c2_i32_30
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v43 : BitVec 32 := Scalar.muli v8 c1_i32_31
  let v44 : BitVec 32 := Scalar.addi v42 v43
  v44.toNat
def k0_off3 (d0 : Dev nD) : Fin 4 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_48 : BitVec 32 := 0#32
  let c0_i32_49 : BitVec 32 := 0#32
  let c0_i32_50 : BitVec 32 := 0#32
  ![v18.toNat, 0, 0, 0]
def k0_dev3 (d0 : Dev nD) : Nat :=
  let c0_i32_42 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_41 : BitVec 32 := 4#32
  let v53 : BitVec 32 := Scalar.muli v11 c4_i32_41
  let v54 : BitVec 32 := Scalar.addi c0_i32_42 v53
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_43 : BitVec 32 := 2#32
  let v55 : BitVec 32 := Scalar.muli v12 c2_i32_43
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v57 : BitVec 32 := Scalar.muli v8 c1_i32_44
  let v58 : BitVec 32 := Scalar.addi v56 v57
  v58.toNat
def k0_off4 (d0 : Dev nD) : Fin 4 → Nat :=
  let c2_i32_10 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v19 : BitVec 32 := Scalar.muli c2_i32_10 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_60 : BitVec 32 := 0#32
  let c0_i32_61 : BitVec 32 := 0#32
  let c0_i32_62 : BitVec 32 := 0#32
  ![v20.toNat, 0, 0, 0]
def k0_dev4 (d0 : Dev nD) : Nat :=
  let c0_i32_54 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_53 : BitVec 32 := 4#32
  let v67 : BitVec 32 := Scalar.muli v9 c4_i32_53
  let v68 : BitVec 32 := Scalar.addi c0_i32_54 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v69 : BitVec 32 := Scalar.muli v5 c2_i32_55
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v71 : BitVec 32 := Scalar.muli v8 c1_i32_56
  let v72 : BitVec 32 := Scalar.addi v70 v71
  v72.toNat
def k0_off5 (d0 : Dev nD) : Fin 4 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_11 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v22 : BitVec 32 := Scalar.addi v21 v10
  let c0_i32_73 : BitVec 32 := 0#32
  let c0_i32_74 : BitVec 32 := 0#32
  let c0_i32_75 : BitVec 32 := 0#32
  ![v22.toNat, 0, 0, 0]
def k0_dev5 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v81 : BitVec 32 := Scalar.muli v2 c4_i32_66
  let v82 : BitVec 32 := Scalar.addi c0_i32_67 v81
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_68 : BitVec 32 := 2#32
  let v83 : BitVec 32 := Scalar.muli v10 c2_i32_68
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_69 : BitVec 32 := 1#32
  let v85 : BitVec 32 := Scalar.muli v8 c1_i32_69
  let v86 : BitVec 32 := Scalar.addi v84 v85
  v86.toNat
def k0_off6 (d0 : Dev nD) : Fin 4 → Nat :=
  let c2_i32_12 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v23 : BitVec 32 := Scalar.muli c2_i32_12 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v24 : BitVec 32 := Scalar.addi v23 v12
  let c0_i32_85 : BitVec 32 := 0#32
  let c0_i32_86 : BitVec 32 := 0#32
  let c0_i32_87 : BitVec 32 := 0#32
  ![v24.toNat, 0, 0, 0]
def k0_dev6 (d0 : Dev nD) : Nat :=
  let c0_i32_79 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_78 : BitVec 32 := 4#32
  let v95 : BitVec 32 := Scalar.muli v11 c4_i32_78
  let v96 : BitVec 32 := Scalar.addi c0_i32_79 v95
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_80 : BitVec 32 := 2#32
  let v97 : BitVec 32 := Scalar.muli v12 c2_i32_80
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v99 : BitVec 32 := Scalar.muli v8 c1_i32_81
  let v100 : BitVec 32 := Scalar.addi v98 v99
  v100.toNat
-- ==== ExchangeChipsRef.lean ====
abbrev S32x8x1024x704 : Shape := ⟨4, ![32, 8, 1024, 704]⟩
abbrev S32x10x512x1024 : Shape := ⟨4, ![32, 10, 512, 1024]⟩
abbrev S24 : Shape := ⟨1, ![24]⟩
abbrev S24x1 : Shape := ⟨2, ![24, 1]⟩
abbrev S24x8x1024x704 : Shape := ⟨4, ![24, 8, 1024, 704]⟩
abbrev S24x10x512x1024 : Shape := ⟨4, ![24, 10, 512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32x8x1024x704, .bf16⟩
  | .hbm, ⟨1, _⟩ => ⟨S32x10x512x1024, .bf16⟩
  | .hbm, ⟨2, _⟩ => ⟨S24, .i32⟩
  | .hbm, ⟨3, _⟩ => ⟨S24x1, .i32⟩
  | .hbm, ⟨4, _⟩ => ⟨S24x8x1024x704, .bf16⟩
  | .hbm, ⟨5, _⟩ => ⟨S24x1, .i32⟩
  | .hbm, ⟨6, _⟩ => ⟨S24x10x512x1024, .bf16⟩
  | _, _ => ⟨S32x8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_call1_v0 : Ref sig .tc := ⟨.hbm, 5, rfl⟩
abbrev main_v1 : Ref sig .tc := ⟨.hbm, 6, rfl⟩

abbrev nD : Nat := 1
abbrev τ : Topo := Topo.v7x

variable {F : FTy → Type} [FloatOps F]
-- ==== SwapReduced.lean ====
abbrev S8x1024x704 : Shape := ⟨3, ![8, 1024, 704]⟩
abbrev S10x512x1024 : Shape := ⟨3, ![10, 512, 1024]⟩
abbrev S2 : Shape := ⟨1, ![2]⟩
abbrev S1 : Shape := ⟨1, ![1]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S8x1024x704, .f32⟩
  | .hbm, ⟨1, _⟩ => ⟨S10x512x1024, .f32⟩
  | .hbm, ⟨2, _⟩ => ⟨S8x1024x704, .f32⟩
  | .hbm, ⟨3, _⟩ => ⟨S10x512x1024, .f32⟩
  | _, _ => ⟨S8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v11 : BitVec 32 := Scalar.muli v2 c4_i32_6
  let v12 : BitVec 32 := Scalar.addi c0_i32_7 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v13 : BitVec 32 := Scalar.muli v5 c2_i32_8
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_9 : BitVec 32 := 1#32
  let v15 : BitVec 32 := Scalar.muli v9 c1_i32_9
  let v16 : BitVec 32 := Scalar.addi v14 v15
  v16.toNat
def k0_dev2 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v21 : BitVec 32 := Scalar.muli v2 c4_i32_12
  let v22 : BitVec 32 := Scalar.addi c0_i32_13 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v23 : BitVec 32 := Scalar.muli v5 c2_i32_14
  let v24 : BitVec 32 := Scalar.addi v22 v23
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_15 : BitVec 32 := 1#32
  let v25 : BitVec 32 := Scalar.muli v10 c1_i32_15
  let v26 : BitVec 32 := Scalar.addi v24 v25
  v26.toNat
-- ==== SwapReducedRef.lean ====
abbrev S64x1024x704 : Shape := ⟨3, ![64, 1024, 704]⟩
abbrev S80x512x1024 : Shape := ⟨3, ![80, 512, 1024]⟩
abbrev S4x2x8x1024x704 : Shape := ⟨5, ![4, 2, 8, 1024, 704]⟩
abbrev S4x1x8x1024x704 : Shape := ⟨5, ![4, 1, 8, 1024, 704]⟩
abbrev S4x8x1024x704 : Shape := ⟨4, ![4, 8, 1024, 704]⟩
abbrev S4x2x10x512x1024 : Shape := ⟨5, ![4, 2, 10, 512, 1024]⟩
abbrev S4x1x10x512x1024 : Shape := ⟨5, ![4, 1, 10, 512, 1024]⟩
abbrev S4x10x512x1024 : Shape := ⟨4, ![4, 10, 512, 1024]⟩

abbrev nBuf : Space → Nat
  | .hbm => 20
  | .vmem => 0
  | .smem => 0
  | _ => 0

abbrev bufTy : (tb : Table) → Fin (tcTables nBuf tb) → BufTy
  | .hbm, ⟨0, _⟩ => ⟨S64x1024x704, .f32⟩
  | .hbm, ⟨1, _⟩ => ⟨S80x512x1024, .f32⟩
  | .hbm, ⟨2, _⟩ => ⟨S4x2x8x1024x704, .f32⟩
  | .hbm, ⟨3, _⟩ => ⟨S4x1x8x1024x704, .f32⟩
  | .hbm, ⟨4, _⟩ => ⟨S4x8x1024x704, .f32⟩
  | .hbm, ⟨5, _⟩ => ⟨S4x1x8x1024x704, .f32⟩
  | .hbm, ⟨6, _⟩ => ⟨S4x8x1024x704, .f32⟩
  | .hbm, ⟨7, _⟩ => ⟨S4x1x8x1024x704, .f32⟩
  | .hbm, ⟨8, _⟩ => ⟨S4x1x8x1024x704, .f32⟩
  | .hbm, ⟨9, _⟩ => ⟨S4x2x8x1024x704, .f32⟩
  | .hbm, ⟨10, _⟩ => ⟨S64x1024x704, .f32⟩
  | .hbm, ⟨11, _⟩ => ⟨S4x2x10x512x1024, .f32⟩
  | .hbm, ⟨12, _⟩ => ⟨S4x1x10x512x1024, .f32⟩
  | .hbm, ⟨13, _⟩ => ⟨S4x10x512x1024, .f32⟩
  | .hbm, ⟨14, _⟩ => ⟨S4x1x10x512x1024, .f32⟩
  | .hbm, ⟨15, _⟩ => ⟨S4x10x512x1024, .f32⟩
  | .hbm, ⟨16, _⟩ => ⟨S4x1x10x512x1024, .f32⟩
  | .hbm, ⟨17, _⟩ => ⟨S4x1x10x512x1024, .f32⟩
  | .hbm, ⟨18, _⟩ => ⟨S4x2x10x512x1024, .f32⟩
  | .hbm, ⟨19, _⟩ => ⟨S80x512x1024, .f32⟩
  | _, _ => ⟨S64x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== GatherSmall.lean ====
abbrev S288x1024 : Shape := ⟨2, ![288, 1024]⟩
abbrev S8x288x1024 : Shape := ⟨3, ![8, 288, 1024]⟩
abbrev S7 : Shape := ⟨1, ![7]⟩
abbrev S_ : Shape := ⟨0, ![]⟩
abbrev S1x288x1024 : Shape := ⟨3, ![1, 288, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S288x1024, .f32⟩
  | .hbm, ⟨1, _⟩ => ⟨S8x288x1024, .f32⟩
  | _, _ => ⟨S288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v55 : BitVec 32 := Scalar.muli v2 c4_i32_34
  let v56 : BitVec 32 := Scalar.addi c0_i32_35 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v57 : BitVec 32 := Scalar.muli v5 c2_i32_36
  let v58 : BitVec 32 := Scalar.addi v56 v57
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_37 : BitVec 32 := 1#32
  let v59 : BitVec 32 := Scalar.muli v15 c1_i32_37
  let v60 : BitVec 32 := Scalar.addi v58 v59
  v60.toNat
def k0_dev2 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v67 : BitVec 32 := Scalar.muli v2 c4_i32_42
  let v68 : BitVec 32 := Scalar.addi c0_i32_43 v67
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_9 v5
  let c2_i32_44 : BitVec 32 := 2#32
  let v69 : BitVec 32 := Scalar.muli v20 c2_i32_44
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v71 : BitVec 32 := Scalar.muli v8 c1_i32_45
  let v72 : BitVec 32 := Scalar.addi v70 v71
  v72.toNat
def k0_dev3 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v79 : BitVec 32 := Scalar.muli v2 c4_i32_50
  let v80 : BitVec 32 := Scalar.addi c0_i32_51 v79
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_12 v5
  let c2_i32_52 : BitVec 32 := 2#32
  let v81 : BitVec 32 := Scalar.muli v25 c2_i32_52
  let v82 : BitVec 32 := Scalar.addi v80 v81
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_13 v8
  let c1_i32_53 : BitVec 32 := 1#32
  let v83 : BitVec 32 := Scalar.muli v26 c1_i32_53
  let v84 : BitVec 32 := Scalar.addi v82 v83
  v84.toNat
def k0_dev4 (d0 : Dev nD) : Nat :=
  let c0_i32_58 : BitVec 32 := 0#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_16 v2
  let c4_i32_57 : BitVec 32 := 4#32
  let v91 : BitVec 32 := Scalar.muli v31 c4_i32_57
  let v92 : BitVec 32 := Scalar.addi c0_i32_58 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v93 : BitVec 32 := Scalar.muli v5 c2_i32_59
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v95 : BitVec 32 := Scalar.muli v8 c1_i32_60
  let v96 : BitVec 32 := Scalar.addi v94 v95
  v96.toNat
def k0_dev5 (d0 : Dev nD) : Nat :=
  let c0_i32_66 : BitVec 32 := 0#32
  let c1_i32_19 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_19 v2
  let c4_i32_65 : BitVec 32 := 4#32
  let v103 : BitVec 32 := Scalar.muli v36 c4_i32_65
  let v104 : BitVec 32 := Scalar.addi c0_i32_66 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v105 : BitVec 32 := Scalar.muli v5 c2_i32_67
  let v106 : BitVec 32 := Scalar.addi v104 v105
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_20 v8
  let c1_i32_68 : BitVec 32 := 1#32
  let v107 : BitVec 32 := Scalar.muli v37 c1_i32_68
  let v108 : BitVec 32 := Scalar.addi v106 v107
  v108.toNat
def k0_dev6 (d0 : Dev nD) : Nat :=
  let c0_i32_73 : BitVec 32 := 0#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_23 v2
  let c4_i32_72 : BitVec 32 := 4#32
  let v115 : BitVec 32 := Scalar.muli v42 c4_i32_72
  let v116 : BitVec 32 := Scalar.addi c0_i32_73 v115
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_24 v5
  let c2_i32_74 : BitVec 32 := 2#32
  let v117 : BitVec 32 := Scalar.muli v43 c2_i32_74
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v119 : BitVec 32 := Scalar.muli v8 c1_i32_75
  let v120 : BitVec 32 := Scalar.addi v118 v119
  v120.toNat
def k0_dev7 (d0 : Dev nD) : Nat :=
  let c0_i32_80 : BitVec 32 := 0#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v48 : BitVec 32 := Scalar.subi c1_i32_27 v2
  let c4_i32_79 : BitVec 32 := 4#32
  let v127 : BitVec 32 := Scalar.muli v48 c4_i32_79
  let v128 : BitVec 32 := Scalar.addi c0_i32_80 v127
  let c1_i32_28 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v49 : BitVec 32 := Scalar.subi c1_i32_28 v5
  let c2_i32_81 : BitVec 32 := 2#32
  let v129 : BitVec 32 := Scalar.muli v49 c2_i32_81
  let v130 : BitVec 32 := Scalar.addi v128 v129
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v50 : BitVec 32 := Scalar.subi c1_i32_29 v8
  let c1_i32_82 : BitVec 32 := 1#32
  let v131 : BitVec 32 := Scalar.muli v50 c1_i32_82
  let v132 : BitVec 32 := Scalar.addi v130 v131
  v132.toNat
def k0_off2 (d0 : Dev nD) : Fin 3 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c4_i32_7 v2
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_8 v5
  let v18 : BitVec 32 := Scalar.addi v16 v17
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let v19 : BitVec 32 := Scalar.addi v18 v15
  let c0_i32_91 : BitVec 32 := 0#32
  let c0_i32_92 : BitVec 32 := 0#32
  ![v19.toNat, 0, 0]
def k0_off3 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_10 v2
  let c2_i32_11 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_9 v5
  let v22 : BitVec 32 := Scalar.muli c2_i32_11 v20
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_104 : BitVec 32 := 0#32
  let c0_i32_105 : BitVec 32 := 0#32
  ![v24.toNat, 0, 0]
def k0_off4 (d0 : Dev nD) : Fin 3 → Nat :=
  let c4_i32_14 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.muli c4_i32_14 v2
  let c2_i32_15 : BitVec 32 := 2#32
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_12 v5
  let v28 : BitVec 32 := Scalar.muli c2_i32_15 v25
  let v29 : BitVec 32 := Scalar.addi v27 v28
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_13 v8
  let v30 : BitVec 32 := Scalar.addi v29 v26
  let c0_i32_117 : BitVec 32 := 0#32
  let c0_i32_118 : BitVec 32 := 0#32
  ![v30.toNat, 0, 0]
def k0_off5 (d0 : Dev nD) : Fin 3 → Nat :=
  let c4_i32_17 : BitVec 32 := 4#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_16 v2
  let v32 : BitVec 32 := Scalar.muli c4_i32_17 v31
  let c2_i32_18 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.muli c2_i32_18 v5
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c0_i32_130 : BitVec 32 := 0#32
  let c0_i32_131 : BitVec 32 := 0#32
  ![v35.toNat, 0, 0]
def k0_off6 (d0 : Dev nD) : Fin 3 → Nat :=
  let c4_i32_21 : BitVec 32 := 4#32
  let c1_i32_19 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_19 v2
  let v38 : BitVec 32 := Scalar.muli c4_i32_21 v36
  let c2_i32_22 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.muli c2_i32_22 v5
  let v40 : BitVec 32 := Scalar.addi v38 v39
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_20 v8
  let v41 : BitVec 32 := Scalar.addi v40 v37
  let c0_i32_143 : BitVec 32 := 0#32
  let c0_i32_144 : BitVec 32 := 0#32
  ![v41.toNat, 0, 0]
def k0_off7 (d0 : Dev nD) : Fin 3 → Nat :=
  let c4_i32_25 : BitVec 32 := 4#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_23 v2
  let v44 : BitVec 32 := Scalar.muli c4_i32_25 v42
  let c2_i32_26 : BitVec 32 := 2#32
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_24 v5
  let v45 : BitVec 32 := Scalar.muli c2_i32_26 v43
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.addi v46 v8
  let c0_i32_156 : BitVec 32 := 0#32
  let c0_i32_157 : BitVec 32 := 0#32
  ![v47.toNat, 0, 0]
def k0_off8 (d0 : Dev nD) : Fin 3 → Nat :=
  let c4_i32_30 : BitVec 32 := 4#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v48 : BitVec 32 := Scalar.subi c1_i32_27 v2
  let v51 : BitVec 32 := Scalar.muli c4_i32_30 v48
  let c2_i32_31 : BitVec 32 := 2#32
  let c1_i32_28 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v49 : BitVec 32 := Scalar.subi c1_i32_28 v5
  let v52 : BitVec 32 := Scalar.muli c2_i32_31 v49
  let v53 : BitVec 32 := Scalar.addi v51 v52
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v50 : BitVec 32 := Scalar.subi c1_i32_29 v8
  let v54 : BitVec 32 := Scalar.addi v53 v50
  let c0_i32_169 : BitVec 32 := 0#32
  let c0_i32_170 : BitVec 32 := 0#32
  ![v54.toNat, 0, 0]
-- ==== GatherSmallRef.lean ====
abbrev S2304x1024 : Shape := ⟨2, ![2304, 1024]⟩
abbrev S8x288x1024 : Shape := ⟨3, ![8, 288, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S8x288x1024, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherWeights.lean ====
abbrev S2x8x1024x704 : Shape := ⟨4, ![2, 8, 1024, 704]⟩
abbrev S2x10x512x1024 : Shape := ⟨4, ![2, 10, 512, 1024]⟩
abbrev S4x2x8x1024x704 : Shape := ⟨5, ![4, 2, 8, 1024, 704]⟩
abbrev S4x2x10x512x1024 : Shape := ⟨5, ![4, 2, 10, 512, 1024]⟩
abbrev S12 : Shape := ⟨1, ![12]⟩
abbrev S1 : Shape := ⟨1, ![1]⟩
abbrev S_ : Shape := ⟨0, ![]⟩
abbrev S1x1x8x1024x704 : Shape := ⟨5, ![1, 1, 8, 1024, 704]⟩
abbrev S8x1024x704 : Shape := ⟨3, ![8, 1024, 704]⟩
abbrev S1x8x1024x704 : Shape := ⟨4, ![1, 8, 1024, 704]⟩
abbrev S1x1x10x512x1024 : Shape := ⟨5, ![1, 1, 10, 512, 1024]⟩
abbrev S10x512x1024 : Shape := ⟨3, ![10, 512, 1024]⟩
abbrev S1x10x512x1024 : Shape := ⟨4, ![1, 10, 512, 1024]⟩
abbrev S4 : Shape := ⟨1, ![4]⟩
abbrev S4x1x1x1x1 : Shape := ⟨5, ![4, 1, 1, 1, 1]⟩
abbrev S1x2x8x1024x704 : Shape := ⟨5, ![1, 2, 8, 1024, 704]⟩
abbrev S1x2x10x512x1024 : Shape := ⟨5, ![1, 2, 10, 512, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x8x1024x704, .bf16⟩
  | .hbm, ⟨1, _⟩ => ⟨S2x10x512x1024, .bf16⟩
  | .hbm, ⟨2, _⟩ => ⟨S4x2x8x1024x704, .bf16⟩
  | .hbm, ⟨3, _⟩ => ⟨S4x2x10x512x1024, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S4, .i1⟩
  | .hbm, ⟨22, _⟩ => ⟨S4x1x1x1x1, .i1⟩
  | .hbm, ⟨23, _⟩ => ⟨S1x2x8x1024x704, .bf16⟩
  | .hbm, ⟨24, _⟩ => ⟨S4x2x8x1024x704, .i1⟩
  | .hbm, ⟨25, _⟩ => ⟨S4x2x8x1024x704, .bf16⟩
  | .hbm, ⟨26, _⟩ => ⟨S4x2x8x1024x704, .bf16⟩
  | .hbm, ⟨27, _⟩ => ⟨S1x2x10x512x1024, .bf16⟩
  | .hbm, ⟨28, _⟩ => ⟨S4x2x10x512x1024, .i1⟩
  | .hbm, ⟨29, _⟩ => ⟨S4x2x10x512x1024, .bf16⟩
  | .hbm, ⟨30, _⟩ => ⟨S4x2x10x512x1024, .bf16⟩
  | _, _ => ⟨S2x8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_c : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_c_2 : Ref sig .tc := ⟨.hbm, 12, rfl⟩
abbrev main_c_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_call1_v0 : Ref sig .tc := ⟨.hbm, 28, rfl⟩
abbrev main_call1_v1 : Ref sig .tc := ⟨.hbm, 29, rfl⟩
abbrev main_v19 : Ref sig .tc := ⟨.hbm, 30, rfl⟩

abbrev nD : Nat := 8
abbrev τ : Topo := Topo.v7x

variable {F : FTy → Type} [FloatOps F]

abbrev grid0 : Pipeline.Grid := .none

def k0_off1 (d0 : Dev nD) : Fin 5 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.addi v14 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_19 : BitVec 32 := 0#32
  let c0_i32_20 : BitVec 32 := 0#32
  let c0_i32_21 : BitVec 32 := 0#32
  ![v15.toNat, v8.toNat, 0, 0, 0]
def k0_off2 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_22 : BitVec 32 := 0#32
  let c0_i32_23 : BitVec 32 := 0#32
  let c0_i32_24 : BitVec 32 := 0#32
  ![v8.toNat, 0, 0, 0]
def k0_dev1 (d0 : Dev nD) : Nat :=
  let c0_i32_16 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_15 : BitVec 32 := 4#32
  let v26 : BitVec 32 := Scalar.muli v9 c4_i32_15
  let v27 : BitVec 32 := Scalar.addi c0_i32_16 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v28 : BitVec 32 := Scalar.muli v5 c2_i32_17
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v30 : BitVec 32 := Scalar.muli v8 c1_i32_18
  let v31 : BitVec 32 := Scalar.addi v29 v30
  v31.toNat
def k0_dev2 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v40 : BitVec 32 := Scalar.muli v2 c4_i32_27
  let v41 : BitVec 32 := Scalar.addi c0_i32_28 v40
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_29 : BitVec 32 := 2#32
  let v42 : BitVec 32 := Scalar.muli v10 c2_i32_29
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v44 : BitVec 32 := Scalar.muli v8 c1_i32_30
  let v45 : BitVec 32 := Scalar.addi v43 v44
  v45.toNat
def k0_dev3 (d0 : Dev nD) : Nat :=
  let c0_i32_40 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_39 : BitVec 32 := 4#32
  let v54 : BitVec 32 := Scalar.muli v11 c4_i32_39
  let v55 : BitVec 32 := Scalar.addi c0_i32_40 v54
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_41 : BitVec 32 := 2#32
  let v56 : BitVec 32 := Scalar.muli v12 c2_i32_41
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v58 : BitVec 32 := Scalar.muli v8 c1_i32_42
  let v59 : BitVec 32 := Scalar.addi v57 v58
  v59.toNat
def k0_off3 (d0 : Dev nD) : Fin 5 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.addi v20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_54 : BitVec 32 := 0#32
  let c0_i32_55 : BitVec 32 := 0#32
  let c0_i32_56 : BitVec 32 := 0#32
  ![v21.toNat, v8.toNat, 0, 0, 0]
def k0_off4 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_57 : BitVec 32 := 0#32
  let c0_i32_58 : BitVec 32 := 0#32
  let c0_i32_59 : BitVec 32 := 0#32
  ![v8.toNat, 0, 0, 0]
def k0_dev4 (d0 : Dev nD) : Nat :=
  let c0_i32_51 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_50 : BitVec 32 := 4#32
  let v68 : BitVec 32 := Scalar.muli v9 c4_i32_50
  let v69 : BitVec 32 := Scalar.addi c0_i32_51 v68
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v70 : BitVec 32 := Scalar.muli v5 c2_i32_52
  let v71 : BitVec 32 := Scalar.addi v69 v70
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v72 : BitVec 32 := Scalar.muli v8 c1_i32_53
  let v73 : BitVec 32 := Scalar.addi v71 v72
  v73.toNat
def k0_dev5 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v82 : BitVec 32 := Scalar.muli v2 c4_i32_61
  let v83 : BitVec 32 := Scalar.addi c0_i32_62 v82
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_63 : BitVec 32 := 2#32
  let v84 : BitVec 32 := Scalar.muli v10 c2_i32_63
  let v85 : BitVec 32 := Scalar.addi v83 v84
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v86 : BitVec 32 := Scalar.muli v8 c1_i32_64
  let v87 : BitVec 32 := Scalar.addi v85 v86
  v87.toNat
def k0_dev6 (d0 : Dev nD) : Nat :=
  let c0_i32_73 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_72 : BitVec 32 := 4#32
  let v96 : BitVec 32 := Scalar.muli v11 c4_i32_72
  let v97 : BitVec 32 := Scalar.addi c0_i32_73 v96
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_74 : BitVec 32 := 2#32
  let v98 : BitVec 32 := Scalar.muli v12 c2_i32_74
  let v99 : BitVec 32 := Scalar.addi v97 v98
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v100 : BitVec 32 := Scalar.muli v8 c1_i32_75
  let v101 : BitVec 32 := Scalar.addi v99 v100
  v101.toNat
def k0_off5 (d0 : Dev nD) : Fin 5 → Nat :=
  let c2_i32_83 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v112 : BitVec 32 := Scalar.muli c2_i32_83 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.addi v112 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_90 : BitVec 32 := 0#32
  let c0_i32_91 : BitVec 32 := 0#32
  let c0_i32_92 : BitVec 32 := 0#32
  ![v113.toNat, v8.toNat, 0, 0, 0]
def k0_dev7 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_99 : BitVec 32 := 4#32
  let v130 : BitVec 32 := Scalar.muli v2 c4_i32_99
  let v131 : BitVec 32 := Scalar.addi c0_i32_100 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v132 : BitVec 32 := Scalar.muli v5 c2_i32_101
  let v133 : BitVec 32 := Scalar.addi v131 v132
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_102 : BitVec 32 := 1#32
  let v134 : BitVec 32 := Scalar.muli v13 c1_i32_102
  let v135 : BitVec 32 := Scalar.addi v133 v134
  v135.toNat
def k0_off6 (d0 : Dev nD) : Fin 5 → Nat :=
  let c2_i32_110 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c2_i32_110 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v147 : BitVec 32 := Scalar.addi v146 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_117 : BitVec 32 := 0#32
  let c0_i32_118 : BitVec 32 := 0#32
  let c0_i32_119 : BitVec 32 := 0#32
  ![v147.toNat, v8.toNat, 0, 0, 0]
def k0_dev8 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_127 : BitVec 32 := 4#32
  let v164 : BitVec 32 := Scalar.muli v2 c4_i32_127
  let v165 : BitVec 32 := Scalar.addi c0_i32_128 v164
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_129 : BitVec 32 := 2#32
  let v166 : BitVec 32 := Scalar.muli v5 c2_i32_129
  let v167 : BitVec 32 := Scalar.addi v165 v166
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_130 : BitVec 32 := 1#32
  let v168 : BitVec 32 := Scalar.muli v13 c1_i32_130
  let v169 : BitVec 32 := Scalar.addi v167 v168
  v169.toNat
def k0_off7 (d0 : Dev nD) : Fin 5 → Nat :=
  let c2_i32_138 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v180 : BitVec 32 := Scalar.muli c2_i32_138 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v181 : BitVec 32 := Scalar.addi v180 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_145 : BitVec 32 := 0#32
  let c0_i32_146 : BitVec 32 := 0#32
  let c0_i32_147 : BitVec 32 := 0#32
  ![v181.toNat, v8.toNat, 0, 0, 0]
def k0_dev9 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v198 : BitVec 32 := Scalar.muli v2 c4_i32_154
  let v199 : BitVec 32 := Scalar.addi c0_i32_155 v198
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_156 : BitVec 32 := 2#32
  let v200 : BitVec 32 := Scalar.muli v5 c2_i32_156
  let v201 : BitVec 32 := Scalar.addi v199 v200
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_157 : BitVec 32 := 1#32
  let v202 : BitVec 32 := Scalar.muli v13 c1_i32_157
  let v203 : BitVec 32 := Scalar.addi v201 v202
  v203.toNat
def k0_off8 (d0 : Dev nD) : Fin 5 → Nat :=
  let c2_i32_165 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v214 : BitVec 32 := Scalar.muli c2_i32_165 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.addi v214 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_172 : BitVec 32 := 0#32
  let c0_i32_173 : BitVec 32 := 0#32
  let c0_i32_174 : BitVec 32 := 0#32
  ![v215.toNat, v8.toNat, 0, 0, 0]
def k0_dev10 (d0 : Dev nD) : Nat :=
  let c0_i32_182 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_181 : BitVec 32 := 4#32
  let v232 : BitVec 32 := Scalar.muli v2 c4_i32_181
  let v233 : BitVec 32 := Scalar.addi c0_i32_182 v232
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_183 : BitVec 32 := 2#32
  let v234 : BitVec 32 := Scalar.muli v5 c2_i32_183
  let v235 : BitVec 32 := Scalar.addi v233 v234
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_184 : BitVec 32 := 1#32
  let v236 : BitVec 32 := Scalar.muli v13 c1_i32_184
  let v237 : BitVec 32 := Scalar.addi v235 v236
  v237.toNat
def k0_off9 (d0 : Dev nD) : Fin 5 → Nat :=
  let c2_i32_192 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v248 : BitVec 32 := Scalar.muli c2_i32_192 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v249 : BitVec 32 := Scalar.addi v248 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_199 : BitVec 32 := 0#32
  let c0_i32_200 : BitVec 32 := 0#32
  let c0_i32_201 : BitVec 32 := 0#32
  ![v249.toNat, v8.toNat, 0, 0, 0]
def k0_dev11 (d0 : Dev nD) : Nat :=
  let c0_i32_209 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_208 : BitVec 32 := 4#32
  let v266 : BitVec 32 := Scalar.muli v2 c4_i32_208
  let v267 : BitVec 32 := Scalar.addi c0_i32_209 v266
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_210 : BitVec 32 := 2#32
  let v268 : BitVec 32 := Scalar.muli v5 c2_i32_210
  let v269 : BitVec 32 := Scalar.addi v267 v268
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_211 : BitVec 32 := 1#32
  let v270 : BitVec 32 := Scalar.muli v13 c1_i32_211
  let v271 : BitVec 32 := Scalar.addi v269 v270
  v271.toNat
def k0_off10 (d0 : Dev nD) : Fin 5 → Nat :=
  let c2_i32_219 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v282 : BitVec 32 := Scalar.muli c2_i32_219 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v283 : BitVec 32 := Scalar.addi v282 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_226 : BitVec 32 := 0#32
  let c0_i32_227 : BitVec 32 := 0#32
  let c0_i32_228 : BitVec 32 := 0#32
  ![v283.toNat, v8.toNat, 0, 0, 0]
def k0_dev12 (d0 : Dev nD) : Nat :=
  let c0_i32_236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_235 : BitVec 32 := 4#32
  let v300 : BitVec 32 := Scalar.muli v2 c4_i32_235
  let v301 : BitVec 32 := Scalar.addi c0_i32_236 v300
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_237 : BitVec 32 := 2#32
  let v302 : BitVec 32 := Scalar.muli v5 c2_i32_237
  let v303 : BitVec 32 := Scalar.addi v301 v302
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_238 : BitVec 32 := 1#32
  let v304 : BitVec 32 := Scalar.muli v13 c1_i32_238
  let v305 : BitVec 32 := Scalar.addi v303 v304
  v305.toNat
def k0_off11 (d0 : Dev nD) : Fin 5 → Nat :=
  let c2_i32_248 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v318 : BitVec 32 := Scalar.muli c2_i32_248 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v319 : BitVec 32 := Scalar.addi v318 v5
  let c1_i32_247 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v317 : BitVec 32 := Scalar.subi c1_i32_247 v8
  let c0_i32_255 : BitVec 32 := 0#32
  let c0_i32_256 : BitVec 32 := 0#32
  let c0_i32_257 : BitVec 32 := 0#32
  ![v319.toNat, v317.toNat, 0, 0, 0]
def k0_off12 (d0 : Dev nD) : Fin 5 → Nat :=
  let c2_i32_264 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v336 : BitVec 32 := Scalar.muli c2_i32_264 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v337 : BitVec 32 := Scalar.addi v336 v10
  let c1_i32_263 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v335 : BitVec 32 := Scalar.subi c1_i32_263 v8
  let c0_i32_271 : BitVec 32 := 0#32
  let c0_i32_272 : BitVec 32 := 0#32
  let c0_i32_273 : BitVec 32 := 0#32
  ![v337.toNat, v335.toNat, 0, 0, 0]
def k0_off13 (d0 : Dev nD) : Fin 5 → Nat :=
  let c2_i32_280 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v354 : BitVec 32 := Scalar.muli c2_i32_280 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v355 : BitVec 32 := Scalar.addi v354 v12
  let c1_i32_279 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v353 : BitVec 32 := Scalar.subi c1_i32_279 v8
  let c0_i32_287 : BitVec 32 := 0#32
  let c0_i32_288 : BitVec 32 := 0#32
  let c0_i32_289 : BitVec 32 := 0#32
  ![v355.toNat, v353.toNat, 0, 0, 0]
def k0_off14 (d0 : Dev nD) : Fin 5 → Nat :=
  let c2_i32_296 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v372 : BitVec 32 := Scalar.muli c2_i32_296 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v373 : BitVec 32 := Scalar.addi v372 v5
  let c1_i32_295 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v371 : BitVec 32 := Scalar.subi c1_i32_295 v8
  let c0_i32_303 : BitVec 32 := 0#32
  let c0_i32_304 : BitVec 32 := 0#32
  let c0_i32_305 : BitVec 32 := 0#32
  ![v373.toNat, v371.toNat, 0, 0, 0]
def k0_off15 (d0 : Dev nD) : Fin 5 → Nat :=
  let c2_i32_312 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v390 : BitVec 32 := Scalar.muli c2_i32_312 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v391 : BitVec 32 := Scalar.addi v390 v10
  let c1_i32_311 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v389 : BitVec 32 := Scalar.subi c1_i32_311 v8
  let c0_i32_319 : BitVec 32 := 0#32
  let c0_i32_320 : BitVec 32 := 0#32
  let c0_i32_321 : BitVec 32 := 0#32
  ![v391.toNat, v389.toNat, 0, 0, 0]
def k0_off16 (d0 : Dev nD) : Fin 5 → Nat :=
  let c2_i32_328 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v408 : BitVec 32 := Scalar.muli c2_i32_328 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v409 : BitVec 32 := Scalar.addi v408 v12
  let c1_i32_327 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v407 : BitVec 32 := Scalar.subi c1_i32_327 v8
  let c0_i32_335 : BitVec 32 := 0#32
  let c0_i32_336 : BitVec 32 := 0#32
  let c0_i32_337 : BitVec 32 := 0#32
  ![v409.toNat, v407.toNat, 0, 0, 0]
-- ==== GatherWeightsRef.lean ====
abbrev S8x8x1024x704 : Shape := ⟨4, ![8, 8, 1024, 704]⟩
abbrev S8x10x512x1024 : Shape := ⟨4, ![8, 10, 512, 1024]⟩
abbrev S4x2x8x1024x704 : Shape := ⟨5, ![4, 2, 8, 1024, 704]⟩
abbrev S4x2x10x512x1024 : Shape := ⟨5, ![4, 2, 10, 512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x8x1024x704, .bf16⟩
  | .hbm, ⟨1, _⟩ => ⟨S8x10x512x1024, .bf16⟩
  | .hbm, ⟨2, _⟩ => ⟨S4x2x8x1024x704, .bf16⟩
  | .hbm, ⟨3, _⟩ => ⟨S4x2x10x512x1024, .bf16⟩
  | _, _ => ⟨S8x8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S8x288x1024 : Shape := ⟨3, ![8, 288, 1024]⟩
abbrev S288x1024 : Shape := ⟨2, ![288, 1024]⟩
abbrev S8x96x1024 : Shape := ⟨3, ![8, 96, 1024]⟩
abbrev S96x1024 : Shape := ⟨2, ![96, 1024]⟩
abbrev S1x96x1024 : Shape := ⟨3, ![1, 96, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x288x1024, .f32⟩
  | .hbm, ⟨1, _⟩ => ⟨S288x1024, .f32⟩
  | .local _ .vmem, ⟨0, _⟩ => ⟨S8x96x1024, .f32⟩
  | .local _ .vmem, ⟨1, _⟩ => ⟨S8x96x1024, .f32⟩
  | .local _ .vmem, ⟨2, _⟩ => ⟨S96x1024, .f32⟩
  | .local _ .vmem, ⟨3, _⟩ => ⟨S96x1024, .f32⟩
  | _, _ => ⟨S8x288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x96x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallRef.lean ====
abbrev S8x288x1024 : Shape := ⟨3, ![8, 288, 1024]⟩
abbrev S1x288x1024 : Shape := ⟨3, ![1, 288, 1024]⟩
abbrev S288x1024 : Shape := ⟨2, ![288, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x288x1024, .f32⟩
  | .hbm, ⟨1, _⟩ => ⟨S1x288x1024, .f32⟩
  | .hbm, ⟨2, _⟩ => ⟨S288x1024, .f32⟩
  | .hbm, ⟨3, _⟩ => ⟨S1x288x1024, .f32⟩
  | .hbm, ⟨4, _⟩ => ⟨S288x1024, .f32⟩
  | .hbm, ⟨5, _⟩ => ⟨S288x1024, .f32⟩
  | .hbm, ⟨6, _⟩ => ⟨S1x288x1024, .f32⟩
  | .hbm, ⟨7, _⟩ => ⟨S288x1024, .f32⟩
  | .hbm, ⟨8, _⟩ => ⟨S288x1024, .f32⟩
  | .hbm, ⟨9, _⟩ => ⟨S1x288x1024, .f32⟩
  | .hbm, ⟨10, _⟩ => ⟨S288x1024, .f32⟩
  | .hbm, ⟨11, _⟩ => ⟨S288x1024, .f32⟩
  | .hbm, ⟨12, _⟩ => ⟨S1x288x1024, .f32⟩
  | .hbm, ⟨13, _⟩ => ⟨S288x1024, .f32⟩
  | .hbm, ⟨14, _⟩ => ⟨S288x1024, .f32⟩
  | .hbm, ⟨15, _⟩ => ⟨S1x288x1024, .f32⟩
  | .hbm, ⟨16, _⟩ => ⟨S288x1024, .f32⟩
  | .hbm, ⟨17, _⟩ => ⟨S288x1024, .f32⟩
  | .hbm, ⟨18, _⟩ => ⟨S1x288x1024, .f32⟩
  | .hbm, ⟨19, _⟩ => ⟨S288x1024, .f32⟩
  | .hbm, ⟨20, _⟩ => ⟨S288x1024, .f32⟩
  | .hbm, ⟨21, _⟩ => ⟨S1x288x1024, .f32⟩
  | .hbm, ⟨22, _⟩ => ⟨S288x1024, .f32⟩
  | .hbm, ⟨23, _⟩ => ⟨S288x1024, .f32⟩
  | _, _ => ⟨S8x288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩

abbrev nD : Nat := 1
abbrev τ : Topo := Topo.v7x

variable {F : FTy → Type} [FloatOps F]
-- ==== ChipsWide.lean ====
abbrev S8x1024x704 : Shape := ⟨3, ![8, 1024, 704]⟩
abbrev S3x8x1024x704 : Shape := ⟨4, ![3, 8, 1024, 704]⟩
abbrev S1x1024x704 : Shape := ⟨3, ![1, 1024, 704]⟩
abbrev S3x1x1024x704 : Shape := ⟨4, ![3, 1, 1024, 704]⟩
abbrev S1024x704 : Shape := ⟨2, ![1024, 704]⟩
abbrev S1x1x1024x704 : Shape := ⟨4, ![1, 1, 1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S8x1024x704, .f32⟩
  | .hbm, ⟨1, _⟩ => ⟨S3x8x1024x704, .bf16⟩
  | .hbm, ⟨2, _⟩ => ⟨S8x1024x704, .f32⟩
  | .local _ .vmem, ⟨0, _⟩ => ⟨S1x1024x704, .f32⟩
  | .local _ .vmem, ⟨1, _⟩ => ⟨S1x1024x704, .f32⟩
  | .local _ .vmem, ⟨2, _⟩ => ⟨S3x1x1024x704, .bf16⟩
  | .local _ .vmem, ⟨3, _⟩ => ⟨S3x1x1024x704, .bf16⟩
  | .local _ .vmem, ⟨4, _⟩ => ⟨S1x1024x704, .f32⟩
  | .local _ .vmem, ⟨5, _⟩ => ⟨S1x1024x704, .f32⟩
  | _, _ => ⟨S8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipsWideRef.lean ====
abbrev S8x1024x704 : Shape := ⟨3, ![8, 1024, 704]⟩
abbrev S3x8x1024x704 : Shape := ⟨4, ![3, 8, 1024, 704]⟩
abbrev S1x8x1024x704 : Shape := ⟨4, ![1, 8, 1024, 704]⟩

abbrev nBuf : Space → Nat
  | .hbm => 14
  | .vmem => 0
  | .smem => 0
  | _ => 0

abbrev bufTy : (tb : Table) → Fin (tcTables nBuf tb) → BufTy
  | .hbm, ⟨0, _⟩ => ⟨S8x1024x704, .f32⟩
  | .hbm, ⟨1, _⟩ => ⟨S3x8x1024x704, .bf16⟩
  | .hbm, ⟨2, _⟩ => ⟨S1x8x1024x704, .bf16⟩
  | .hbm, ⟨3, _⟩ => ⟨S8x1024x704, .bf16⟩
  | .hbm, ⟨4, _⟩ => ⟨S8x1024x704, .f32⟩
  | .hbm, ⟨5, _⟩ => ⟨S8x1024x704, .f32⟩
  | .hbm, ⟨6, _⟩ => ⟨S1x8x1024x704, .bf16⟩
  | .hbm, ⟨7, _⟩ => ⟨S8x1024x704, .bf16⟩
  | .hbm, ⟨8, _⟩ => ⟨S8x1024x704, .f32⟩
  | .hbm, ⟨9, _⟩ => ⟨S8x1024x704, .f32⟩
  | .hbm, ⟨10, _⟩ => ⟨S1x8x1024x704, .bf16⟩
  | .hbm, ⟨11, _⟩ => ⟨S8x1024x704, .bf16⟩
  | .hbm, ⟨12, _⟩ => ⟨S8x1024x704, .f32⟩
  | .hbm, ⟨13, _⟩ => ⟨S8x1024x704, .f32⟩
  | _, _ => ⟨S8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== ChipsRows.lean ====
abbrev S10x512x1024 : Shape := ⟨3, ![10, 512, 1024]⟩
abbrev S3x10x512x1024 : Shape := ⟨4, ![3, 10, 512, 1024]⟩
abbrev S1x512x1024 : Shape := ⟨3, ![1, 512, 1024]⟩
abbrev S3x1x512x1024 : Shape := ⟨4, ![3, 1, 512, 1024]⟩
abbrev S512x1024 : Shape := ⟨2, ![512, 1024]⟩
abbrev S1x1x512x1024 : Shape := ⟨4, ![1, 1, 512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S10x512x1024, .f32⟩
  | .hbm, ⟨1, _⟩ => ⟨S3x10x512x1024, .bf16⟩
  | .hbm, ⟨2, _⟩ => ⟨S10x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S3x1x512x1024, .bf16⟩
  | .local _ .vmem, ⟨3, _⟩ => ⟨S3x1x512x1024, .bf16⟩
  | .local _ .vmem, ⟨4, _⟩ => ⟨S1x512x1024, .f32⟩
  | .local _ .vmem, ⟨5, _⟩ => ⟨S1x512x1024, .f32⟩
  | _, _ => ⟨S10x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipsRowsRef.lean ====
abbrev S10x512x1024 : Shape := ⟨3, ![10, 512, 1024]⟩
abbrev S3x10x512x1024 : Shape := ⟨4, ![3, 10, 512, 1024]⟩
abbrev S1x10x512x1024 : Shape := ⟨4, ![1, 10, 512, 1024]⟩

abbrev nBuf : Space → Nat
  | .hbm => 14
  | .vmem => 0
  | .smem => 0
  | _ => 0

abbrev bufTy : (tb : Table) → Fin (tcTables nBuf tb) → BufTy
  | .hbm, ⟨0, _⟩ => ⟨S10x512x1024, .f32⟩
  | .hbm, ⟨1, _⟩ => ⟨S3x10x512x1024, .bf16⟩
  | .hbm, ⟨2, _⟩ => ⟨S1x10x512x1024, .bf16⟩
  | .hbm, ⟨3, _⟩ => ⟨S10x512x1024, .bf16⟩
  | .hbm, ⟨4, _⟩ => ⟨S10x512x1024, .f32⟩
  | .hbm, ⟨5, _⟩ => ⟨S10x512x1024, .f32⟩
  | .hbm, ⟨6, _⟩ => ⟨S1x10x512x1024, .bf16⟩
  | .hbm, ⟨7, _⟩ => ⟨S10x512x1024, .bf16⟩
  | .hbm, ⟨8, _⟩ => ⟨S10x512x1024, .f32⟩
  | .hbm, ⟨9, _⟩ => ⟨S10x512x1024, .f32⟩
  | .hbm, ⟨10, _⟩ => ⟨S1x10x512x1024, .bf16⟩
  | .hbm, ⟨11, _⟩ => ⟨S10x512x1024, .bf16⟩
  | .hbm, ⟨12, _⟩ => ⟨S10x512x1024, .f32⟩
  | .hbm, ⟨13, _⟩ => ⟨S10x512x1024, .f32⟩
  | _, _ => ⟨S10x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== SiblingWide.lean ====
abbrev S4x2x8x1024x704 : Shape := ⟨5, ![4, 2, 8, 1024, 704]⟩
abbrev S4x8x1024x704 : Shape := ⟨4, ![4, 8, 1024, 704]⟩
abbrev S8x1024x704 : Shape := ⟨3, ![8, 1024, 704]⟩
abbrev S1x1x1x1024x704 : Shape := ⟨5, ![1, 1, 1, 1024, 704]⟩
abbrev S1x1x1024x704 : Shape := ⟨4, ![1, 1, 1024, 704]⟩
abbrev S1x1024x704 : Shape := ⟨3, ![1, 1024, 704]⟩
abbrev S1024x704 : Shape := ⟨2, ![1024, 704]⟩

abbrev nBuf : Space → Nat
  | .hbm => 4
  | .vmem => 10
  | .smem => 0
  | _ => 0

abbrev bufTy : (tb : Table) → Fin (tcTables nBuf tb) → BufTy
  | .hbm, ⟨0, _⟩ => ⟨S4x2x8x1024x704, .f32⟩
  | .hbm, ⟨1, _⟩ => ⟨S4x8x1024x704, .f32⟩
  | .hbm, ⟨2, _⟩ => ⟨S4x8x1024x704, .bf16⟩
  | .hbm, ⟨3, _⟩ => ⟨S8x1024x704, .f32⟩
  | .local _ .vmem, ⟨0, _⟩ => ⟨S1x1x1x1024x704, .f32⟩
  | .local _ .vmem, ⟨1, _⟩ => ⟨S1x1x1x1024x704, .f32⟩
  | .local _ .vmem, ⟨2, _⟩ => ⟨S1x1x1x1024x704, .f32⟩
  | .local _ .vmem, ⟨3, _⟩ => ⟨S1x1x1x1024x704, .f32⟩
  | .local _ .vmem, ⟨4, _⟩ => ⟨S1x1x1024x704, .f32⟩
  | .local _ .vmem, ⟨5, _⟩ => ⟨S1x1x1024x704, .f32⟩
  | .local _ .vmem, ⟨6, _⟩ => ⟨S1x1x1024x704, .bf16⟩
  | .local _ .vmem, ⟨7, _⟩ => ⟨S1x1x1024x704, .bf16⟩
  | .local _ .vmem, ⟨8, _⟩ => ⟨S1x1024x704, .f32⟩
  | .local _ .vmem, ⟨9, _⟩ => ⟨S1x1024x704, .f32⟩
  | _, _ => ⟨S4x2x8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 8
abbrev τ : Topo := Topo.v7x

variable {F : FTy → Type} [FloatOps F]

abbrev grid0 : Pipeline.Grid := ⟨2, ![8, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1x1024x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== SiblingWideRef.lean ====
abbrev S32x2x8x1024x704 : Shape := ⟨5, ![32, 2, 8, 1024, 704]⟩
abbrev S32x8x1024x704 : Shape := ⟨4, ![32, 8, 1024, 704]⟩
abbrev S4x2x4x2x8x1024x704 : Shape := ⟨7, ![4, 2, 4, 2, 8, 1024, 704]⟩
abbrev S2 : Shape := ⟨1, ![2]⟩
abbrev S2x1x1x1x1 : Shape := ⟨5, ![2, 1, 1, 1, 1]⟩
abbrev S_ : Shape := ⟨0, ![]⟩
abbrev S4x2x4x1x8x1024x704 : Shape := ⟨7, ![4, 2, 4, 1, 8, 1024, 704]⟩
abbrev S4x2x4x8x1024x704 : Shape := ⟨6, ![4, 2, 4, 8, 1024, 704]⟩
abbrev S4 : Shape := ⟨1, ![4]⟩
abbrev S4x1x1x1x1 : Shape := ⟨5, ![4, 1, 1, 1, 1]⟩
abbrev S4x2x1x8x1024x704 : Shape := ⟨6, ![4, 2, 1, 8, 1024, 704]⟩
abbrev S4x2x8x1024x704 : Shape := ⟨5, ![4, 2, 8, 1024, 704]⟩
abbrev S64x1024x704 : Shape := ⟨3, ![64, 1024, 704]⟩

abbrev nBuf : Space → Nat
  | .hbm => 44
  | .vmem => 0
  | .smem => 0
  | _ => 0

abbrev bufTy : (tb : Table) → Fin (tcTables nBuf tb) → BufTy
  | .hbm, ⟨0, _⟩ => ⟨S32x2x8x1024x704, .f32⟩
  | .hbm, ⟨1, _⟩ => ⟨S32x8x1024x704, .f32⟩
  | .hbm, ⟨2, _⟩ => ⟨S4x2x4x2x8x1024x704, .f32⟩
  | .hbm, ⟨3, _⟩ => ⟨S2, .i32⟩
  | .hbm, ⟨4, _⟩ => ⟨S2x1x1x1x1, .i32⟩
  | .hbm, ⟨5, _⟩ => ⟨S_, .i32⟩
  | .hbm, ⟨6, _⟩ => ⟨S2x1x1x1x1, .i32⟩
  | .hbm, ⟨7, _⟩ => ⟨S2x1x1x1x1, .i1⟩
  | .hbm, ⟨8, _⟩ => ⟨S4x2x4x1x8x1024x704, .f32⟩
  | .hbm, ⟨9, _⟩ => ⟨S4x2x4x8x1024x704, .f32⟩
  | .hbm, ⟨10, _⟩ => ⟨S4x2x4x1x8x1024x704, .f32⟩
  | .hbm, ⟨11, _⟩ => ⟨S4x2x4x8x1024x704, .f32⟩
  | .hbm, ⟨12, _⟩ => ⟨S4x2x4x8x1024x704, .i1⟩
  | .hbm, ⟨13, _⟩ => ⟨S4x2x4x8x1024x704, .f32⟩
  | .hbm, ⟨14, _⟩ => ⟨S4x2x4x8x1024x704, .f32⟩
  | .hbm, ⟨15, _⟩ => ⟨S4x2x4x8x1024x704, .f32⟩
  | .hbm, ⟨16, _⟩ => ⟨S4, .i32⟩
  | .hbm, ⟨17, _⟩ => ⟨S4x1x1x1x1, .i32⟩
  | .hbm, ⟨18, _⟩ => ⟨S_, .i32⟩
  | .hbm, ⟨19, _⟩ => ⟨S4x1x1x1x1, .i32⟩
  | .hbm, ⟨20, _⟩ => ⟨S4x1x1x1x1, .i1⟩
  | .hbm, ⟨21, _⟩ => ⟨S4x2x1x8x1024x704, .f32⟩
  | .hbm, ⟨22, _⟩ => ⟨S4x2x8x1024x704, .f32⟩
  | .hbm, ⟨23, _⟩ => ⟨S_, .i32⟩
  | .hbm, ⟨24, _⟩ => ⟨S4x1x1x1x1, .i32⟩
  | .hbm, ⟨25, _⟩ => ⟨S4x1x1x1x1, .i1⟩
  | .hbm, ⟨26, _⟩ => ⟨S4x2x1x8x1024x704, .f32⟩
  | .hbm, ⟨27, _⟩ => ⟨S4x2x8x1024x704, .f32⟩
  | .hbm, ⟨28, _⟩ => ⟨S_, .i32⟩
  | .hbm, ⟨29, _⟩ => ⟨S4x1x1x1x1, .i32⟩
  | .hbm, ⟨30, _⟩ => ⟨S4x1x1x1x1, .i1⟩
  | .hbm, ⟨31, _⟩ => ⟨S4x2x1x8x1024x704, .f32⟩
  | .hbm, ⟨32, _⟩ => ⟨S4x2x8x1024x704, .f32⟩
  | .hbm, ⟨33, _⟩ => ⟨S4x2x1x8x1024x704, .f32⟩
  | .hbm, ⟨34, _⟩ => ⟨S4x2x8x1024x704, .f32⟩
  | .hbm, ⟨35, _⟩ => ⟨S4x2x8x1024x704, .i1⟩
  | .hbm, ⟨36, _⟩ => ⟨S4x2x8x1024x704, .f32⟩
  | .hbm, ⟨37, _⟩ => ⟨S4x2x8x1024x704, .i1⟩
  | .hbm, ⟨38, _⟩ => ⟨S4x2x8x1024x704, .f32⟩
  | .hbm, ⟨39, _⟩ => ⟨S4x2x8x1024x704, .i1⟩
  | .hbm, ⟨40, _⟩ => ⟨S4x2x8x1024x704, .f32⟩
  | .hbm, ⟨41, _⟩ => ⟨S4x2x4x8x1024x704, .bf16⟩
  | .hbm, ⟨42, _⟩ => ⟨S32x8x1024x704, .bf16⟩
  | .hbm, ⟨43, _⟩ => ⟨S64x1024x704, .f32⟩
  | _, _ => ⟨S32x2x8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call1_v0 : Ref sig .tc := ⟨.hbm, 35, rfl⟩
abbrev main_v28 : Ref sig .tc := ⟨.hbm, 36, rfl⟩
abbrev main_call2_v0 : Ref sig .tc := ⟨.hbm, 37, rfl⟩
abbrev main_v29 : Ref sig .tc := ⟨.hbm, 38, rfl⟩
abbrev main_call3_v0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== SiblingRows.lean ====
abbrev S4x2x10x512x1024 : Shape := ⟨5, ![4, 2, 10, 512, 1024]⟩
abbrev S4x10x512x1024 : Shape := ⟨4, ![4, 10, 512, 1024]⟩
abbrev S10x512x1024 : Shape := ⟨3, ![10, 512, 1024]⟩
abbrev S1x1x1x512x1024 : Shape := ⟨5, ![1, 1, 1, 512, 1024]⟩
abbrev S1x1x512x1024 : Shape := ⟨4, ![1, 1, 512, 1024]⟩
abbrev S1x512x1024 : Shape := ⟨3, ![1, 512, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4x2x10x512x1024, .f32⟩
  | .hbm, ⟨1, _⟩ => ⟨S4x10x512x1024, .f32⟩
  | .hbm, ⟨2, _⟩ => ⟨S4x10x512x1024, .bf16⟩
  | .hbm, ⟨3, _⟩ => ⟨S10x512x1024, .f32⟩
  | .local _ .vmem, ⟨0, _⟩ => ⟨S1x1x1x512x1024, .f32⟩
  | .local _ .vmem, ⟨1, _⟩ => ⟨S1x1x1x512x1024, .f32⟩
  | .local _ .vmem, ⟨2, _⟩ => ⟨S1x1x1x512x1024, .f32⟩
  | .local _ .vmem, ⟨3, _⟩ => ⟨S1x1x1x512x1024, .f32⟩
  | .local _ .vmem, ⟨4, _⟩ => ⟨S1x1x512x1024, .f32⟩
  | .local _ .vmem, ⟨5, _⟩ => ⟨S1x1x512x1024, .f32⟩
  | .local _ .vmem, ⟨6, _⟩ => ⟨S1x1x512x1024, .bf16⟩
  | .local _ .vmem, ⟨7, _⟩ => ⟨S1x1x512x1024, .bf16⟩
  | .local _ .vmem, ⟨8, _⟩ => ⟨S1x512x1024, .f32⟩
  | .local _ .vmem, ⟨9, _⟩ => ⟨S1x512x1024, .f32⟩
  | _, _ => ⟨S4x2x10x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 8
abbrev τ : Topo := Topo.v7x

variable {F : FTy → Type} [FloatOps F]

abbrev grid0 : Pipeline.Grid := ⟨2, ![10, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== SiblingRowsRef.lean ====
abbrev S32x2x10x512x1024 : Shape := ⟨5, ![32, 2, 10, 512, 1024]⟩
abbrev S32x10x512x1024 : Shape := ⟨4, ![32, 10, 512, 1024]⟩
abbrev S4x2x4x2x10x512x1024 : Shape := ⟨7, ![4, 2, 4, 2, 10, 512, 1024]⟩
abbrev S2 : Shape := ⟨1, ![2]⟩
abbrev S2x1x1x1x1 : Shape := ⟨5, ![2, 1, 1, 1, 1]⟩
abbrev S_ : Shape := ⟨0, ![]⟩
abbrev S4x2x4x1x10x512x1024 : Shape := ⟨7, ![4, 2, 4, 1, 10, 512, 1024]⟩
abbrev S4x2x4x10x512x1024 : Shape := ⟨6, ![4, 2, 4, 10, 512, 1024]⟩
abbrev S4 : Shape := ⟨1, ![4]⟩
abbrev S4x1x1x1x1 : Shape := ⟨5, ![4, 1, 1, 1, 1]⟩
abbrev S4x2x1x10x512x1024 : Shape := ⟨6, ![4, 2, 1, 10, 512, 1024]⟩
abbrev S4x2x10x512x1024 : Shape := ⟨5, ![4, 2, 10, 512, 1024]⟩
abbrev S80x512x1024 : Shape := ⟨3, ![80, 512, 1024]⟩

abbrev nBuf : Space → Nat
  | .hbm => 44
  | .vmem => 0
  | .smem => 0
  | _ => 0

abbrev bufTy : (tb : Table) → Fin (tcTables nBuf tb) → BufTy
  | .hbm, ⟨0, _⟩ => ⟨S32x2x10x512x1024, .f32⟩
  | .hbm, ⟨1, _⟩ => ⟨S32x10x512x1024, .f32⟩
  | .hbm, ⟨2, _⟩ => ⟨S4x2x4x2x10x512x1024, .f32⟩
  | .hbm, ⟨3, _⟩ => ⟨S2, .i32⟩
  | .hbm, ⟨4, _⟩ => ⟨S2x1x1x1x1, .i32⟩
  | .hbm, ⟨5, _⟩ => ⟨S_, .i32⟩
  | .hbm, ⟨6, _⟩ => ⟨S2x1x1x1x1, .i32⟩
  | .hbm, ⟨7, _⟩ => ⟨S2x1x1x1x1, .i1⟩
  | .hbm, ⟨8, _⟩ => ⟨S4x2x4x1x10x512x1024, .f32⟩
  | .hbm, ⟨9, _⟩ => ⟨S4x2x4x10x512x1024, .f32⟩
  | .hbm, ⟨10, _⟩ => ⟨S4x2x4x1x10x512x1024, .f32⟩
  | .hbm, ⟨11, _⟩ => ⟨S4x2x4x10x512x1024, .f32⟩
  | .hbm, ⟨12, _⟩ => ⟨S4x2x4x10x512x1024, .i1⟩
  | .hbm, ⟨13, _⟩ => ⟨S4x2x4x10x512x1024, .f32⟩
  | .hbm, ⟨14, _⟩ => ⟨S4x2x4x10x512x1024, .f32⟩
  | .hbm, ⟨15, _⟩ => ⟨S4x2x4x10x512x1024, .f32⟩
  | .hbm, ⟨16, _⟩ => ⟨S4, .i32⟩
  | .hbm, ⟨17, _⟩ => ⟨S4x1x1x1x1, .i32⟩
  | .hbm, ⟨18, _⟩ => ⟨S_, .i32⟩
  | .hbm, ⟨19, _⟩ => ⟨S4x1x1x1x1, .i32⟩
  | .hbm, ⟨20, _⟩ => ⟨S4x1x1x1x1, .i1⟩
  | .hbm, ⟨21, _⟩ => ⟨S4x2x1x10x512x1024, .f32⟩
  | .hbm, ⟨22, _⟩ => ⟨S4x2x10x512x1024, .f32⟩
  | .hbm, ⟨23, _⟩ => ⟨S_, .i32⟩
  | .hbm, ⟨24, _⟩ => ⟨S4x1x1x1x1, .i32⟩
  | .hbm, ⟨25, _⟩ => ⟨S4x1x1x1x1, .i1⟩
  | .hbm, ⟨26, _⟩ => ⟨S4x2x1x10x512x1024, .f32⟩
  | .hbm, ⟨27, _⟩ => ⟨S4x2x10x512x1024, .f32⟩
  | .hbm, ⟨28, _⟩ => ⟨S_, .i32⟩
  | .hbm, ⟨29, _⟩ => ⟨S4x1x1x1x1, .i32⟩
  | .hbm, ⟨30, _⟩ => ⟨S4x1x1x1x1, .i1⟩
  | .hbm, ⟨31, _⟩ => ⟨S4x2x1x10x512x1024, .f32⟩
  | .hbm, ⟨32, _⟩ => ⟨S4x2x10x512x1024, .f32⟩
  | .hbm, ⟨33, _⟩ => ⟨S4x2x1x10x512x1024, .f32⟩
  | .hbm, ⟨34, _⟩ => ⟨S4x2x10x512x1024, .f32⟩
  | .hbm, ⟨35, _⟩ => ⟨S4x2x10x512x1024, .i1⟩
  | .hbm, ⟨36, _⟩ => ⟨S4x2x10x512x1024, .f32⟩
  | .hbm, ⟨37, _⟩ => ⟨S4x2x10x512x1024, .i1⟩
  | .hbm, ⟨38, _⟩ => ⟨S4x2x10x512x1024, .f32⟩
  | .hbm, ⟨39, _⟩ => ⟨S4x2x10x512x1024, .i1⟩
  | .hbm, ⟨40, _⟩ => ⟨S4x2x10x512x1024, .f32⟩
  | .hbm, ⟨41, _⟩ => ⟨S4x2x4x10x512x1024, .bf16⟩
  | .hbm, ⟨42, _⟩ => ⟨S32x10x512x1024, .bf16⟩
  | .hbm, ⟨43, _⟩ => ⟨S80x512x1024, .f32⟩
  | _, _ => ⟨S32x2x10x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call1_v0 : Ref sig .tc := ⟨.hbm, 35, rfl⟩
abbrev main_v28 : Ref sig .tc := ⟨.hbm, 36, rfl⟩
abbrev main_call2_v0 : Ref sig .tc := ⟨.hbm, 37, rfl⟩
abbrev main_v29 : Ref sig .tc := ⟨.hbm, 38, rfl⟩
abbrev main_call3_v0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== FfnNorm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnNormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== FfnUp.lean ====
abbrev S4096x1024 : Shape := ⟨2, ![4096, 1024]⟩
abbrev S1024x2816 : Shape := ⟨2, ![1024, 2816]⟩
abbrev S4096x2816 : Shape := ⟨2, ![4096, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S4096x2816, .f32⟩
  | .hbm, ⟨4, _⟩ => ⟨S4096x2816, .f32⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S4096x1024, .f32⟩
  | .hbm, ⟨4, _⟩ => ⟨S1024x2816, .f32⟩
  | .hbm, ⟨5, _⟩ => ⟨S4096x2816, .f32⟩
  | .hbm, ⟨6, _⟩ => ⟨S1024x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== FfnDown.lean ====
abbrev S4096x2816 : Shape := ⟨2, ![4096, 2816]⟩
abbrev S2816x1024 : Shape := ⟨2, ![2816, 1024]⟩
abbrev S4096x1024 : Shape := ⟨2, ![4096, 1024]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== FfnDact.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .hbm, ⟨3, _⟩ => ⟨S4096x2816, .f32⟩
  | .hbm, ⟨4, _⟩ => ⟨S4096x2816, .bf16⟩
  | .hbm, ⟨5, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnDactRefIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .hbm, ⟨3, _⟩ => ⟨S4096x2816, .f32⟩
  | .hbm, ⟨4, _⟩ => ⟨S2816x1024, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .bf16⟩
  | .hbm, ⟨34, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩

abbrev nD : Nat := 1
abbrev τ : Topo := Topo.v7x

variable {F : FTy → Type} [FloatOps F]
-- ==== FfnDwd.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwdRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x2816, .f32⟩
  | .hbm, ⟨13, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== FfnDwin.lean ====
abbrev S4096x1024 : Shape := ⟨2, ![4096, 1024]⟩
abbrev S4096x2816 : Shape := ⟨2, ![4096, 2816]⟩
abbrev S1024x2816 : Shape := ⟨2, ![1024, 2816]⟩
abbrev S1024x512 : Shape := ⟨2, ![1024, 512]⟩
abbrev S1024x1408 : Shape := ⟨2, ![1024, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x2816, .f32⟩
  | .local _ .vmem, ⟨0, _⟩ => ⟨S1024x512, .bf16⟩
  | .local _ .vmem, ⟨1, _⟩ => ⟨S1024x512, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwinRefIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x1024, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnDh.lean ====
abbrev S4096x2816 : Shape := ⟨2, ![4096, 2816]⟩
abbrev S1024x2816 : Shape := ⟨2, ![1024, 2816]⟩
abbrev S4096x1024 : Shape := ⟨2, ![4096, 1024]⟩
abbrev S512x1408 : Shape := ⟨2, ![512, 1408]⟩
abbrev S1024x1408 : Shape := ⟨2, ![1024, 1408]⟩
abbrev S512x1024 : Shape := ⟨2, ![512, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x2816, .bf16⟩
  | .hbm, ⟨3, _⟩ => ⟨S1024x2816, .bf16⟩
  | .hbm, ⟨4, _⟩ => ⟨S4096x1024, .f32⟩
  | .local _ .vmem, ⟨0, _⟩ => ⟨S512x1408, .bf16⟩
  | .local _ .vmem, ⟨1, _⟩ => ⟨S512x1408, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .bf16⟩
  | .local _ .vmem, ⟨5, _⟩ => ⟨S512x1408, .bf16⟩
  | .local _ .vmem, ⟨6, _⟩ => ⟨S1024x1408, .bf16⟩
  | .local _ .vmem, ⟨7, _⟩ => ⟨S1024x1408, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnDhRefIdeal.lean ====
abbrev S4096x2816 : Shape := ⟨2, ![4096, 2816]⟩
abbrev S1024x2816 : Shape := ⟨2, ![1024, 2816]⟩
abbrev S_ : Shape := ⟨0, ![]⟩
abbrev S4096x1024 : Shape := ⟨2, ![4096, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x2816, .bf16⟩
  | .hbm, ⟨3, _⟩ => ⟨S1024x2816, .bf16⟩
  | .hbm, ⟨4, _⟩ => ⟨S_, .f32⟩
  | .hbm, ⟨5, _⟩ => ⟨S4096x1024, .f32⟩
  | .hbm, ⟨6, _⟩ => ⟨S1024x2816, .f32⟩
  | .hbm, ⟨7, _⟩ => ⟨S4096x2816, .f32⟩
  | .hbm, ⟨8, _⟩ => ⟨S1024x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x1024, .f32⟩
  | .hbm, ⟨13, _⟩ => ⟨S4096x1024, .f32⟩
  | .hbm, ⟨14, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== EvProj.lean ====
abbrev S4096x1024 : Shape := ⟨2, ![4096, 1024]⟩
abbrev S1024x2560 : Shape := ⟨2, ![1024, 2560]⟩
abbrev S4096x2560 : Shape := ⟨2, ![4096, 2560]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x2560, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvProjIdeal.lean ====
abbrev S4096x1024 : Shape := ⟨2, ![4096, 1024]⟩
abbrev S1024x2560 : Shape := ⟨2, ![1024, 2560]⟩
abbrev S4096x2560 : Shape := ⟨2, ![4096, 2560]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x2560, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvProjRefIdeal.lean ====
abbrev S4096x1024 : Shape := ⟨2, ![4096, 1024]⟩
abbrev S1024x2560 : Shape := ⟨2, ![1024, 2560]⟩
abbrev S4096x2560 : Shape := ⟨2, ![4096, 2560]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x1024, .f32⟩
  | .hbm, ⟨3, _⟩ => ⟨S1024x2560, .f32⟩
  | .hbm, ⟨4, _⟩ => ⟨S4096x2560, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OdProj.lean ====
abbrev S4096x1024 : Shape := ⟨2, ![4096, 1024]⟩
abbrev S1024x4096 : Shape := ⟨2, ![1024, 4096]⟩
abbrev S4096x4096 : Shape := ⟨2, ![4096, 4096]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdProjIdeal.lean ====
abbrev S4096x1024 : Shape := ⟨2, ![4096, 1024]⟩
abbrev S1024x4096 : Shape := ⟨2, ![1024, 4096]⟩
abbrev S4096x4096 : Shape := ⟨2, ![4096, 4096]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdProjRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OdProjBd.lean ====
abbrev S4096x1024 : Shape := ⟨2, ![4096, 1024]⟩
abbrev S1024x128 : Shape := ⟨2, ![1024, 128]⟩
abbrev S4096x128 : Shape := ⟨2, ![4096, 128]⟩
abbrev S512x1024 : Shape := ⟨2, ![512, 1024]⟩
abbrev S512x128 : Shape := ⟨2, ![512, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdProjBdRefIdeal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvOut.lean ====
abbrev S4096x512 : Shape := ⟨2, ![4096, 512]⟩
abbrev S512x1024 : Shape := ⟨2, ![512, 1024]⟩
abbrev S4096x1024 : Shape := ⟨2, ![4096, 1024]⟩
abbrev S512x512 : Shape := ⟨2, ![512, 512]⟩

abbrev nBuf : Space → Nat
  | .hbm => 6
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S512x1024, .bf16⟩
  | .hbm, ⟨2, _⟩ => ⟨S4096x512, .f32⟩
  | .hbm, ⟨3, _⟩ => ⟨S512x1024, .bf16⟩
  | .hbm, ⟨4, _⟩ => ⟨S4096x1024, .f32⟩
  | .hbm, ⟨5, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_13 : BitVec 32 := 0#32
  let v17 : BitVec 1 := Scalar.cmpi .eq arg2 c0_i32_13
  let v18 : BitVec 32 := Scalar.extui v17
  let c0_i32_14 : BitVec 32 := 0#32
  let v19 : BitVec 1 := Scalar.cmpi .ne v18 c0_i32_14
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== EvOutRefIdeal.lean ====
abbrev S4096x512 : Shape := ⟨2, ![4096, 512]⟩
abbrev S512x1024 : Shape := ⟨2, ![512, 1024]⟩
abbrev S4096x1024 : Shape := ⟨2, ![4096, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .bf16⟩
  | .hbm, ⟨2, _⟩ => ⟨S4096x512, .f32⟩
  | .hbm, ⟨3, _⟩ => ⟨S512x1024, .bf16⟩
  | .hbm, ⟨4, _⟩ => ⟨S4096x1024, .f32⟩
  | .hbm, ⟨5, _⟩ => ⟨S4096x1024, .f32⟩
  | .hbm, ⟨6, _⟩ => ⟨S1024x1024, .bf16⟩
  | .hbm, ⟨7, _⟩ => ⟨S1024x1024, .f32⟩
  | .hbm, ⟨8, _⟩ => ⟨S4096x1024, .f32⟩
  | .hbm, ⟨9, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== OdOut.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OdOutRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== EvDy.lean ====
abbrev S4096x1024 : Shape := ⟨2, ![4096, 1024]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S512x1024, .bf16⟩
  | .hbm, ⟨2, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDyIdeal.lean ====
abbrev S4096x1024 : Shape := ⟨2, ![4096, 1024]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S512x1024, .bf16⟩
  | .hbm, ⟨2, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDyRefIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OdDy.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDyIdeal.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDyRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== EvDwOut.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== EvDwOutIdeal.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== EvDwOutRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OdDwOut.lean ====
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDwOutIdeal.lean ====
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDwOutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== EvDwIn.lean ====
abbrev S4096x1024 : Shape := ⟨2, ![4096, 1024]⟩
abbrev S4096x2560 : Shape := ⟨2, ![4096, 2560]⟩
abbrev S1024x2560 : Shape := ⟨2, ![1024, 2560]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .f32⟩
  | .hbm, ⟨2, _⟩ => ⟨S1024x2560, .f32⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDwInIdeal.lean ====
abbrev S4096x1024 : Shape := ⟨2, ![4096, 1024]⟩
abbrev S4096x2560 : Shape := ⟨2, ![4096, 2560]⟩
abbrev S1024x2560 : Shape := ⟨2, ![1024, 2560]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .f32⟩
  | .hbm, ⟨2, _⟩ => ⟨S1024x2560, .f32⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDwInRefIdeal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .f32⟩
  | .hbm, ⟨2, _⟩ => ⟨S4096x1024, .f32⟩
  | .hbm, ⟨3, _⟩ => ⟨S_, .f32⟩
  | .hbm, ⟨4, _⟩ => ⟨S1024x2560, .f32⟩
  | .hbm, ⟨5, _⟩ => ⟨S4096x2560, .f32⟩
  | .hbm, ⟨6, _⟩ => ⟨S2560x1024, .f32⟩
  | .hbm, ⟨7, _⟩ => ⟨S1024x2560, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OdDwIn.lean ====
abbrev S4096x1024 : Shape := ⟨2, ![4096, 1024]⟩
abbrev S4096x4096 : Shape := ⟨2, ![4096, 4096]⟩
abbrev S1024x4096 : Shape := ⟨2, ![1024, 4096]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .f32⟩
  | .hbm, ⟨2, _⟩ => ⟨S1024x4096, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDwInIdeal.lean ====
abbrev S4096x1024 : Shape := ⟨2, ![4096, 1024]⟩
abbrev S4096x4096 : Shape := ⟨2, ![4096, 4096]⟩
abbrev S1024x4096 : Shape := ⟨2, ![1024, 4096]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .f32⟩
  | .hbm, ⟨2, _⟩ => ⟨S1024x4096, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDwInRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .f32⟩
  | .hbm, ⟨2, _⟩ => ⟨S4096x1024, .f32⟩
  | .hbm, ⟨3, _⟩ => ⟨S_, .f32⟩
  | .hbm, ⟨4, _⟩ => ⟨S1024x4096, .f32⟩
  | .hbm, ⟨5, _⟩ => ⟨S4096x4096, .f32⟩
  | .hbm, ⟨6, _⟩ => ⟨S4096x1024, .f32⟩
  | .hbm, ⟨7, _⟩ => ⟨S1024x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OdDwBd.lean ====
abbrev S4096x1024 : Shape := ⟨2, ![4096, 1024]⟩
abbrev S4096x128 : Shape := ⟨2, ![4096, 128]⟩
abbrev S1024x128 : Shape := ⟨2, ![1024, 128]⟩
abbrev S1024x512 : Shape := ⟨2, ![1024, 512]⟩
abbrev S512x128 : Shape := ⟨2, ![512, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S1024x128, .f32⟩
  | .local _ .vmem, ⟨0, _⟩ => ⟨S1024x512, .bf16⟩
  | .local _ .vmem, ⟨1, _⟩ => ⟨S1024x512, .bf16⟩
  | .local _ .vmem, ⟨2, _⟩ => ⟨S1024x128, .f32⟩
  | .local _ .vmem, ⟨3, _⟩ => ⟨S1024x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDwBdRefIdeal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S4096x1024, .f32⟩
  | .hbm, ⟨3, _⟩ => ⟨S_, .f32⟩
  | .hbm, ⟨4, _⟩ => ⟨S1024x128, .f32⟩
  | .hbm, ⟨5, _⟩ => ⟨S4096x128, .f32⟩
  | .hbm, ⟨6, _⟩ => ⟨S128x1024, .f32⟩
  | .hbm, ⟨7, _⟩ => ⟨S1024x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== EvDh.lean ====
abbrev S4096x2560 : Shape := ⟨2, ![4096, 2560]⟩
abbrev S1024x2560 : Shape := ⟨2, ![1024, 2560]⟩
abbrev S4096x1024 : Shape := ⟨2, ![4096, 1024]⟩
abbrev S512x512 : Shape := ⟨2, ![512, 512]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2560, .f32⟩
  | .hbm, ⟨1, _⟩ => ⟨S1024x2560, .bf16⟩
  | .hbm, ⟨2, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S1024x512, .bf16⟩
  | .local _ .vmem, ⟨3, _⟩ => ⟨S1024x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 5], ![false, false, false]⟩

def k0_cond2 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDhIdeal.lean ====
abbrev S4096x2560 : Shape := ⟨2, ![4096, 2560]⟩
abbrev S1024x2560 : Shape := ⟨2, ![1024, 2560]⟩
abbrev S4096x1024 : Shape := ⟨2, ![4096, 1024]⟩
abbrev S512x512 : Shape := ⟨2, ![512, 512]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2560, .f32⟩
  | .hbm, ⟨1, _⟩ => ⟨S1024x2560, .bf16⟩
  | .hbm, ⟨2, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S1024x512, .bf16⟩
  | .local _ .vmem, ⟨3, _⟩ => ⟨S1024x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 5], ![false, false, false]⟩

def k0_cond2 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDhRefIdeal.lean ====
abbrev S4096x2560 : Shape := ⟨2, ![4096, 2560]⟩
abbrev S1024x2560 : Shape := ⟨2, ![1024, 2560]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S1024x2560, .bf16⟩
  | .hbm, ⟨2, _⟩ => ⟨S_, .f32⟩
  | .hbm, ⟨3, _⟩ => ⟨S4096x1024, .f32⟩
  | .hbm, ⟨4, _⟩ => ⟨S1024x2560, .f32⟩
  | .hbm, ⟨5, _⟩ => ⟨S4096x2560, .f32⟩
  | .hbm, ⟨6, _⟩ => ⟨S4096x1024, .f32⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OdDh.lean ====
abbrev S4096x4096 : Shape := ⟨2, ![4096, 4096]⟩
abbrev S1024x4096 : Shape := ⟨2, ![1024, 4096]⟩
abbrev S4096x1024 : Shape := ⟨2, ![4096, 1024]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S1024x4096, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDhRefIdeal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .bf16⟩
  | .hbm, ⟨2, _⟩ => ⟨S_, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OdDhBd.lean ====
abbrev S4096x128 : Shape := ⟨2, ![4096, 128]⟩
abbrev S1024x128 : Shape := ⟨2, ![1024, 128]⟩
abbrev S4096x1024 : Shape := ⟨2, ![4096, 1024]⟩
abbrev S512x128 : Shape := ⟨2, ![512, 128]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S4096x1024, .f32⟩
  | .hbm, ⟨3, _⟩ => ⟨S4096x1024, .f32⟩
  | .local _ .vmem, ⟨0, _⟩ => ⟨S512x128, .f32⟩
  | .local _ .vmem, ⟨1, _⟩ => ⟨S512x128, .f32⟩
  | .local _ .vmem, ⟨2, _⟩ => ⟨S1024x128, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OdDhBdRefIdeal.lean ====
abbrev S4096x128 : Shape := ⟨2, ![4096, 128]⟩
abbrev S1024x128 : Shape := ⟨2, ![1024, 128]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x128, .f32⟩
  | .hbm, ⟨6, _⟩ => ⟨S4096x128, .f32⟩
  | .hbm, ⟨7, _⟩ => ⟨S4096x1024, .f32⟩
  | .hbm, ⟨8, _⟩ => ⟨S4096x1024, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== SsmDc.lean ====
abbrev S4096x2048 : Shape := ⟨2, ![4096, 2048]⟩
abbrev S4096x512 : Shape := ⟨2, ![4096, 512]⟩
abbrev S2048x512 : Shape := ⟨2, ![2048, 512]⟩
abbrev S1024x512 : Shape := ⟨2, ![1024, 512]⟩
abbrev S512x512 : Shape := ⟨2, ![512, 512]⟩
abbrev S32x64x32x16 : Shape := ⟨4, ![32, 64, 32, 16]⟩
abbrev S32x32 : Shape := ⟨2, ![32, 32]⟩
abbrev S_ : Shape := ⟨0, ![]⟩
abbrev S64x32x16 : Shape := ⟨3, ![64, 32, 16]⟩
abbrev S32x16x64 : Shape := ⟨3, ![32, 16, 64]⟩

abbrev nBuf : Space → Nat
  | .hbm => 14
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S2048x512, .f32⟩
  | .hbm, ⟨3, _⟩ => ⟨S32x64x32x16, .f32⟩
  | .hbm, ⟨4, _⟩ => ⟨S32x32, .i32⟩
  | .hbm, ⟨5, _⟩ => ⟨S32x32, .i32⟩
  | .hbm, ⟨6, _⟩ => ⟨S32x32, .i1⟩
  | .hbm, ⟨7, _⟩ => ⟨S32x64x32x16, .i1⟩
  | .hbm, ⟨8, _⟩ => ⟨S_, .f32⟩
  | .hbm, ⟨9, _⟩ => ⟨S32x64x32x16, .f32⟩
  | .hbm, ⟨10, _⟩ => ⟨S32x64x32x16, .f32⟩
  | .hbm, ⟨11, _⟩ => ⟨S_, .f32⟩
  | .hbm, ⟨12, _⟩ => ⟨S64x32x16, .f32⟩
  | .hbm, ⟨13, _⟩ => ⟨S32x16x64, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDcRefIdeal.lean ====
abbrev S4096x2048 : Shape := ⟨2, ![4096, 2048]⟩
abbrev S4096x512 : Shape := ⟨2, ![4096, 512]⟩
abbrev S4096x32x64 : Shape := ⟨3, ![4096, 32, 64]⟩
abbrev S_ : Shape := ⟨0, ![]⟩
abbrev S32x16x64 : Shape := ⟨3, ![32, 16, 64]⟩
abbrev S32x4096x16 : Shape := ⟨3, ![32, 4096, 16]⟩
abbrev S4096x32x16 : Shape := ⟨3, ![4096, 32, 16]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x32x64, .f32⟩
  | .hbm, ⟨3, _⟩ => ⟨S_, .f32⟩
  | .hbm, ⟨4, _⟩ => ⟨S32x16x64, .f32⟩
  | .hbm, ⟨5, _⟩ => ⟨S32x4096x16, .f32⟩
  | .hbm, ⟨6, _⟩ => ⟨S4096x32x16, .f32⟩
  | .hbm, ⟨7, _⟩ => ⟨S4096x32x16, .f32⟩
  | .hbm, ⟨8, _⟩ => ⟨S32x4096x16, .f32⟩
  | .hbm, ⟨9, _⟩ => ⟨S32x16x64, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsmPost.lean ====
abbrev S4096x512 : Shape := ⟨2, ![4096, 512]⟩
abbrev S1x512 : Shape := ⟨2, ![1, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S512x512, .bf16⟩
  | .hbm, ⟨4, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .bf16⟩
  | .local _ .vmem, ⟨6, _⟩ => ⟨S512x512, .f32⟩
  | .local _ .vmem, ⟨7, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SsmPostRefIdeal.lean ====
abbrev S4096x512 : Shape := ⟨2, ![4096, 512]⟩
abbrev S1x512 : Shape := ⟨2, ![1, 512]⟩
abbrev S512x512 : Shape := ⟨2, ![512, 512]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S512x512, .bf16⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S512x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== LossHead.lean ====
abbrev S4096x1024 : Shape := ⟨2, ![4096, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S8x128, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== FirstNorm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FirstNormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== AdamwWide.lean ====
abbrev S4x1024x704 : Shape := ⟨3, ![4, 1024, 704]⟩
abbrev S4096x704 : Shape := ⟨2, ![4096, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwWideIdeal.lean ====
abbrev S4x1024x704 : Shape := ⟨3, ![4, 1024, 704]⟩
abbrev S4096x704 : Shape := ⟨2, ![4096, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwWideRefIdeal.lean ====
abbrev S4x1024x704 : Shape := ⟨3, ![4, 1024, 704]⟩
abbrev S_ : Shape := ⟨0, ![]⟩
abbrev S4096x704 : Shape := ⟨2, ![4096, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S_, .f32⟩
  | .hbm, ⟨5, _⟩ => ⟨S4x1024x704, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S_, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S_, .f32⟩
  | .hbm, ⟨16, _⟩ => ⟨S4x1024x704, .f32⟩
  | .hbm, ⟨17, _⟩ => ⟨S4x1024x704, .f32⟩
  | .hbm, ⟨18, _⟩ => ⟨S4x1024x704, .f32⟩
  | .hbm, ⟨19, _⟩ => ⟨S_, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S4x1024x704, .f32⟩
  | .hbm, ⟨26, _⟩ => ⟨S_, .f32⟩
  | .hbm, ⟨27, _⟩ => ⟨S4x1024x704, .f32⟩
  | .hbm, ⟨28, _⟩ => ⟨S4x1024x704, .f32⟩
  | .hbm, ⟨29, _⟩ => ⟨S4x1024x704, .f32⟩
  | .hbm, ⟨30, _⟩ => ⟨S_, .f32⟩
  | .hbm, ⟨31, _⟩ => ⟨S4x1024x704, .f32⟩
  | .hbm, ⟨32, _⟩ => ⟨S4x1024x704, .f32⟩
  | .hbm, ⟨33, _⟩ => ⟨S4x1024x704, .f32⟩
  | .hbm, ⟨34, _⟩ => ⟨S_, .f32⟩
  | .hbm, ⟨35, _⟩ => ⟨S4x1024x704, .f32⟩
  | .hbm, ⟨36, _⟩ => ⟨S4x1024x704, .f32⟩
  | .hbm, ⟨37, _⟩ => ⟨S4096x704, .f32⟩
  | .hbm, ⟨38, _⟩ => ⟨S4096x704, .f32⟩
  | .hbm, ⟨39, _⟩ => ⟨S4096x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwDown.lean ====
abbrev S4x704x1024 : Shape := ⟨3, ![4, 704, 1024]⟩
abbrev S2816x1024 : Shape := ⟨2, ![2816, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwDownIdeal.lean ====
abbrev S4x704x1024 : Shape := ⟨3, ![4, 704, 1024]⟩
abbrev S2816x1024 : Shape := ⟨2, ![2816, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwDownRefIdeal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwEvIn.lean ====
abbrev S2x1024x640 : Shape := ⟨3, ![2, 1024, 640]⟩
abbrev S2048x640 : Shape := ⟨2, ![2048, 640]⟩
abbrev S512x640 : Shape := ⟨2, ![512, 640]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x640, .f32⟩
  | .hbm, ⟨1, _⟩ => ⟨S2x1024x640, .f32⟩
  | .hbm, ⟨2, _⟩ => ⟨S2x1024x640, .f32⟩
  | .hbm, ⟨3, _⟩ => ⟨S2x1024x640, .f32⟩
  | .hbm, ⟨4, _⟩ => ⟨S2048x640, .f32⟩
  | .hbm, ⟨5, _⟩ => ⟨S2048x640, .f32⟩
  | .hbm, ⟨6, _⟩ => ⟨S2048x640, .f32⟩
  | .hbm, ⟨7, _⟩ => ⟨S2048x640, .f32⟩
  | .hbm, ⟨8, _⟩ => ⟨S2048x640, .f32⟩
  | .hbm, ⟨9, _⟩ => ⟨S2048x640, .f32⟩
  | .hbm, ⟨10, _⟩ => ⟨S2048x640, .f32⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S512x640, .f32⟩
  | .local _ .vmem, ⟨7, _⟩ => ⟨S512x640, .f32⟩
  | .local _ .vmem, ⟨8, _⟩ => ⟨S512x640, .f32⟩
  | .local _ .vmem, ⟨9, _⟩ => ⟨S512x640, .f32⟩
  | .local _ .vmem, ⟨10, _⟩ => ⟨S512x640, .f32⟩
  | .local _ .vmem, ⟨11, _⟩ => ⟨S512x640, .f32⟩
  | .local _ .vmem, ⟨12, _⟩ => ⟨S512x640, .f32⟩
  | .local _ .vmem, ⟨13, _⟩ => ⟨S512x640, .f32⟩
  | _, _ => ⟨S2x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwEvInIdeal.lean ====
abbrev S2x1024x640 : Shape := ⟨3, ![2, 1024, 640]⟩
abbrev S2048x640 : Shape := ⟨2, ![2048, 640]⟩
abbrev S512x640 : Shape := ⟨2, ![512, 640]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x640, .f32⟩
  | .hbm, ⟨1, _⟩ => ⟨S2x1024x640, .f32⟩
  | .hbm, ⟨2, _⟩ => ⟨S2x1024x640, .f32⟩
  | .hbm, ⟨3, _⟩ => ⟨S2x1024x640, .f32⟩
  | .hbm, ⟨4, _⟩ => ⟨S2048x640, .f32⟩
  | .hbm, ⟨5, _⟩ => ⟨S2048x640, .f32⟩
  | .hbm, ⟨6, _⟩ => ⟨S2048x640, .f32⟩
  | .hbm, ⟨7, _⟩ => ⟨S2048x640, .f32⟩
  | .hbm, ⟨8, _⟩ => ⟨S2048x640, .f32⟩
  | .hbm, ⟨9, _⟩ => ⟨S2048x640, .f32⟩
  | .hbm, ⟨10, _⟩ => ⟨S2048x640, .f32⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S512x640, .f32⟩
  | .local _ .vmem, ⟨7, _⟩ => ⟨S512x640, .f32⟩
  | .local _ .vmem, ⟨8, _⟩ => ⟨S512x640, .f32⟩
  | .local _ .vmem, ⟨9, _⟩ => ⟨S512x640, .f32⟩
  | .local _ .vmem, ⟨10, _⟩ => ⟨S512x640, .f32⟩
  | .local _ .vmem, ⟨11, _⟩ => ⟨S512x640, .f32⟩
  | .local _ .vmem, ⟨12, _⟩ => ⟨S512x640, .f32⟩
  | .local _ .vmem, ⟨13, _⟩ => ⟨S512x640, .f32⟩
  | _, _ => ⟨S2x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwEvInRefIdeal.lean ====
abbrev S2x1024x640 : Shape := ⟨3, ![2, 1024, 640]⟩
abbrev S_ : Shape := ⟨0, ![]⟩
abbrev S2048x640 : Shape := ⟨2, ![2048, 640]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x640, .f32⟩
  | .hbm, ⟨1, _⟩ => ⟨S2x1024x640, .f32⟩
  | .hbm, ⟨2, _⟩ => ⟨S2x1024x640, .f32⟩
  | .hbm, ⟨3, _⟩ => ⟨S2x1024x640, .f32⟩
  | .hbm, ⟨4, _⟩ => ⟨S_, .f32⟩
  | .hbm, ⟨5, _⟩ => ⟨S2x1024x640, .f32⟩
  | .hbm, ⟨6, _⟩ => ⟨S2x1024x640, .f32⟩
  | .hbm, ⟨7, _⟩ => ⟨S_, .f32⟩
  | .hbm, ⟨8, _⟩ => ⟨S2x1024x640, .f32⟩
  | .hbm, ⟨9, _⟩ => ⟨S2x1024x640, .f32⟩
  | .hbm, ⟨10, _⟩ => ⟨S2x1024x640, .f32⟩
  | .hbm, ⟨11, _⟩ => ⟨S_, .f32⟩
  | .hbm, ⟨12, _⟩ => ⟨S2x1024x640, .f32⟩
  | .hbm, ⟨13, _⟩ => ⟨S2x1024x640, .f32⟩
  | .hbm, ⟨14, _⟩ => ⟨S2x1024x640, .f32⟩
  | .hbm, ⟨15, _⟩ => ⟨S_, .f32⟩
  | .hbm, ⟨16, _⟩ => ⟨S2x1024x640, .f32⟩
  | .hbm, ⟨17, _⟩ => ⟨S2x1024x640, .f32⟩
  | .hbm, ⟨18, _⟩ => ⟨S2x1024x640, .f32⟩
  | .hbm, ⟨19, _⟩ => ⟨S_, .f32⟩
  | .hbm, ⟨20, _⟩ => ⟨S2x1024x640, .f32⟩
  | .hbm, ⟨21, _⟩ => ⟨S2x1024x640, .f32⟩
  | .hbm, ⟨22, _⟩ => ⟨S_, .f32⟩
  | .hbm, ⟨23, _⟩ => ⟨S2x1024x640, .f32⟩
  | .hbm, ⟨24, _⟩ => ⟨S2x1024x640, .f32⟩
  | .hbm, ⟨25, _⟩ => ⟨S2x1024x640, .f32⟩
  | .hbm, ⟨26, _⟩ => ⟨S_, .f32⟩
  | .hbm, ⟨27, _⟩ => ⟨S2x1024x640, .f32⟩
  | .hbm, ⟨28, _⟩ => ⟨S2x1024x640, .f32⟩
  | .hbm, ⟨29, _⟩ => ⟨S2x1024x640, .f32⟩
  | .hbm, ⟨30, _⟩ => ⟨S_, .f32⟩
  | .hbm, ⟨31, _⟩ => ⟨S2x1024x640, .f32⟩
  | .hbm, ⟨32, _⟩ => ⟨S2x1024x640, .f32⟩
  | .hbm, ⟨33, _⟩ => ⟨S2x1024x640, .f32⟩
  | .hbm, ⟨34, _⟩ => ⟨S_, .f32⟩
  | .hbm, ⟨35, _⟩ => ⟨S2x1024x640, .f32⟩
  | .hbm, ⟨36, _⟩ => ⟨S2x1024x640, .f32⟩
  | .hbm, ⟨37, _⟩ => ⟨S2048x640, .f32⟩
  | .hbm, ⟨38, _⟩ => ⟨S2048x640, .f32⟩
  | .hbm, ⟨39, _⟩ => ⟨S2048x640, .f32⟩
  | _, _ => ⟨S2x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwGlu.lean ====
abbrev S2x128x512 : Shape := ⟨3, ![2, 128, 512]⟩
abbrev S256x512 : Shape := ⟨2, ![256, 512]⟩

abbrev nBuf : Space → Nat
  | .hbm => 11
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGluIdeal.lean ====
abbrev S2x128x512 : Shape := ⟨3, ![2, 128, 512]⟩
abbrev S256x512 : Shape := ⟨2, ![256, 512]⟩

abbrev nBuf : Space → Nat
  | .hbm => 11
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGluRefIdeal.lean ====
abbrev S2x128x512 : Shape := ⟨3, ![2, 128, 512]⟩
abbrev S_ : Shape := ⟨0, ![]⟩
abbrev S256x512 : Shape := ⟨2, ![256, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S_, .f32⟩
  | .hbm, ⟨5, _⟩ => ⟨S2x128x512, .f32⟩
  | .hbm, ⟨6, _⟩ => ⟨S2x128x512, .f32⟩
  | .hbm, ⟨7, _⟩ => ⟨S_, .f32⟩
  | .hbm, ⟨8, _⟩ => ⟨S2x128x512, .f32⟩
  | .hbm, ⟨9, _⟩ => ⟨S2x128x512, .f32⟩
  | .hbm, ⟨10, _⟩ => ⟨S2x128x512, .f32⟩
  | .hbm, ⟨11, _⟩ => ⟨S_, .f32⟩
  | .hbm, ⟨12, _⟩ => ⟨S2x128x512, .f32⟩
  | .hbm, ⟨13, _⟩ => ⟨S2x128x512, .f32⟩
  | .hbm, ⟨14, _⟩ => ⟨S2x128x512, .f32⟩
  | .hbm, ⟨15, _⟩ => ⟨S_, .f32⟩
  | .hbm, ⟨16, _⟩ => ⟨S2x128x512, .f32⟩
  | .hbm, ⟨17, _⟩ => ⟨S2x128x512, .f32⟩
  | .hbm, ⟨18, _⟩ => ⟨S2x128x512, .f32⟩
  | .hbm, ⟨19, _⟩ => ⟨S_, .f32⟩
  | .hbm, ⟨20, _⟩ => ⟨S2x128x512, .f32⟩
  | .hbm, ⟨21, _⟩ => ⟨S2x128x512, .f32⟩
  | .hbm, ⟨22, _⟩ => ⟨S_, .f32⟩
  | .hbm, ⟨23, _⟩ => ⟨S2x128x512, .f32⟩
  | .hbm, ⟨24, _⟩ => ⟨S2x128x512, .f32⟩
  | .hbm, ⟨25, _⟩ => ⟨S2x128x512, .f32⟩
  | .hbm, ⟨26, _⟩ => ⟨S_, .f32⟩
  | .hbm, ⟨27, _⟩ => ⟨S2x128x512, .f32⟩
  | .hbm, ⟨28, _⟩ => ⟨S2x128x512, .f32⟩
  | .hbm, ⟨29, _⟩ => ⟨S2x128x512, .f32⟩
  | .hbm, ⟨30, _⟩ => ⟨S_, .f32⟩
  | .hbm, ⟨31, _⟩ => ⟨S2x128x512, .f32⟩
  | .hbm, ⟨32, _⟩ => ⟨S2x128x512, .f32⟩
  | .hbm, ⟨33, _⟩ => ⟨S2x128x512, .f32⟩
  | .hbm, ⟨34, _⟩ => ⟨S_, .f32⟩
  | .hbm, ⟨35, _⟩ => ⟨S2x128x512, .f32⟩
  | .hbm, ⟨36, _⟩ => ⟨S2x128x512, .f32⟩
  | .hbm, ⟨37, _⟩ => ⟨S256x512, .f32⟩
  | .hbm, ⟨38, _⟩ => ⟨S256x512, .f32⟩
  | .hbm, ⟨39, _⟩ => ⟨S256x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwOut.lean ====
abbrev S2x256x1024 : Shape := ⟨3, ![2, 256, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwOutIdeal.lean ====
abbrev S2x256x1024 : Shape := ⟨3, ![2, 256, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwOutRefIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwOdIn.lean ====
abbrev S2x1024x1028 : Shape := ⟨3, ![2, 1024, 1028]⟩
abbrev S2048x1028 : Shape := ⟨2, ![2048, 1028]⟩
abbrev S512x1028 : Shape := ⟨2, ![512, 1028]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1028, .f32⟩
  | .hbm, ⟨1, _⟩ => ⟨S2x1024x1028, .f32⟩
  | .hbm, ⟨2, _⟩ => ⟨S2x1024x1028, .f32⟩
  | .hbm, ⟨3, _⟩ => ⟨S2x1024x1028, .f32⟩
  | .hbm, ⟨4, _⟩ => ⟨S2048x1028, .f32⟩
  | .hbm, ⟨5, _⟩ => ⟨S2048x1028, .f32⟩
  | .hbm, ⟨6, _⟩ => ⟨S2048x1028, .f32⟩
  | .hbm, ⟨7, _⟩ => ⟨S2048x1028, .f32⟩
  | .hbm, ⟨8, _⟩ => ⟨S2048x1028, .f32⟩
  | .hbm, ⟨9, _⟩ => ⟨S2048x1028, .f32⟩
  | .hbm, ⟨10, _⟩ => ⟨S2048x1028, .f32⟩
  | .local _ .vmem, ⟨0, _⟩ => ⟨S512x1028, .f32⟩
  | .local _ .vmem, ⟨1, _⟩ => ⟨S512x1028, .f32⟩
  | .local _ .vmem, ⟨2, _⟩ => ⟨S512x1028, .f32⟩
  | .local _ .vmem, ⟨3, _⟩ => ⟨S512x1028, .f32⟩
  | .local _ .vmem, ⟨4, _⟩ => ⟨S512x1028, .f32⟩
  | .local _ .vmem, ⟨5, _⟩ => ⟨S512x1028, .f32⟩
  | .local _ .vmem, ⟨6, _⟩ => ⟨S512x1028, .f32⟩
  | .local _ .vmem, ⟨7, _⟩ => ⟨S512x1028, .f32⟩
  | .local _ .vmem, ⟨8, _⟩ => ⟨S512x1028, .f32⟩
  | .local _ .vmem, ⟨9, _⟩ => ⟨S512x1028, .f32⟩
  | .local _ .vmem, ⟨10, _⟩ => ⟨S512x1028, .f32⟩
  | .local _ .vmem, ⟨11, _⟩ => ⟨S512x1028, .f32⟩
  | .local _ .vmem, ⟨12, _⟩ => ⟨S512x1028, .f32⟩
  | .local _ .vmem, ⟨13, _⟩ => ⟨S512x1028, .f32⟩
  | _, _ => ⟨S2x1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwOdInIdeal.lean ====
abbrev S2x1024x1028 : Shape := ⟨3, ![2, 1024, 1028]⟩
abbrev S2048x1028 : Shape := ⟨2, ![2048, 1028]⟩
abbrev S512x1028 : Shape := ⟨2, ![512, 1028]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1028, .f32⟩
  | .hbm, ⟨1, _⟩ => ⟨S2x1024x1028, .f32⟩
  | .hbm, ⟨2, _⟩ => ⟨S2x1024x1028, .f32⟩
  | .hbm, ⟨3, _⟩ => ⟨S2x1024x1028, .f32⟩
  | .hbm, ⟨4, _⟩ => ⟨S2048x1028, .f32⟩
  | .hbm, ⟨5, _⟩ => ⟨S2048x1028, .f32⟩
  | .hbm, ⟨6, _⟩ => ⟨S2048x1028, .f32⟩
  | .hbm, ⟨7, _⟩ => ⟨S2048x1028, .f32⟩
  | .hbm, ⟨8, _⟩ => ⟨S2048x1028, .f32⟩
  | .hbm, ⟨9, _⟩ => ⟨S2048x1028, .f32⟩
  | .hbm, ⟨10, _⟩ => ⟨S2048x1028, .f32⟩
  | .local _ .vmem, ⟨0, _⟩ => ⟨S512x1028, .f32⟩
  | .local _ .vmem, ⟨1, _⟩ => ⟨S512x1028, .f32⟩
  | .local _ .vmem, ⟨2, _⟩ => ⟨S512x1028, .f32⟩
  | .local _ .vmem, ⟨3, _⟩ => ⟨S512x1028, .f32⟩
  | .local _ .vmem, ⟨4, _⟩ => ⟨S512x1028, .f32⟩
  | .local _ .vmem, ⟨5, _⟩ => ⟨S512x1028, .f32⟩
  | .local _ .vmem, ⟨6, _⟩ => ⟨S512x1028, .f32⟩
  | .local _ .vmem, ⟨7, _⟩ => ⟨S512x1028, .f32⟩
  | .local _ .vmem, ⟨8, _⟩ => ⟨S512x1028, .f32⟩
  | .local _ .vmem, ⟨9, _⟩ => ⟨S512x1028, .f32⟩
  | .local _ .vmem, ⟨10, _⟩ => ⟨S512x1028, .f32⟩
  | .local _ .vmem, ⟨11, _⟩ => ⟨S512x1028, .f32⟩
  | .local _ .vmem, ⟨12, _⟩ => ⟨S512x1028, .f32⟩
  | .local _ .vmem, ⟨13, _⟩ => ⟨S512x1028, .f32⟩
  | _, _ => ⟨S2x1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwOdInRefIdeal.lean ====
abbrev S2x1024x1028 : Shape := ⟨3, ![2, 1024, 1028]⟩
abbrev S_ : Shape := ⟨0, ![]⟩
abbrev S2048x1028 : Shape := ⟨2, ![2048, 1028]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1028, .f32⟩
  | .hbm, ⟨1, _⟩ => ⟨S2x1024x1028, .f32⟩
  | .hbm, ⟨2, _⟩ => ⟨S2x1024x1028, .f32⟩
  | .hbm, ⟨3, _⟩ => ⟨S2x1024x1028, .f32⟩
  | .hbm, ⟨4, _⟩ => ⟨S_, .f32⟩
  | .hbm, ⟨5, _⟩ => ⟨S2x1024x1028, .f32⟩
  | .hbm, ⟨6, _⟩ => ⟨S2x1024x1028, .f32⟩
  | .hbm, ⟨7, _⟩ => ⟨S_, .f32⟩
  | .hbm, ⟨8, _⟩ => ⟨S2x1024x1028, .f32⟩
  | .hbm, ⟨9, _⟩ => ⟨S2x1024x1028, .f32⟩
  | .hbm, ⟨10, _⟩ => ⟨S2x1024x1028, .f32⟩
  | .hbm, ⟨11, _⟩ => ⟨S_, .f32⟩
  | .hbm, ⟨12, _⟩ => ⟨S2x1024x1028, .f32⟩
  | .hbm, ⟨13, _⟩ => ⟨S2x1024x1028, .f32⟩
  | .hbm, ⟨14, _⟩ => ⟨S2x1024x1028, .f32⟩
  | .hbm, ⟨15, _⟩ => ⟨S_, .f32⟩
  | .hbm, ⟨16, _⟩ => ⟨S2x1024x1028, .f32⟩
  | .hbm, ⟨17, _⟩ => ⟨S2x1024x1028, .f32⟩
  | .hbm, ⟨18, _⟩ => ⟨S2x1024x1028, .f32⟩
  | .hbm, ⟨19, _⟩ => ⟨S_, .f32⟩
  | .hbm, ⟨20, _⟩ => ⟨S2x1024x1028, .f32⟩
  | .hbm, ⟨21, _⟩ => ⟨S2x1024x1028, .f32⟩
  | .hbm, ⟨22, _⟩ => ⟨S_, .f32⟩
  | .hbm, ⟨23, _⟩ => ⟨S2x1024x1028, .f32⟩
  | .hbm, ⟨24, _⟩ => ⟨S2x1024x1028, .f32⟩
  | .hbm, ⟨25, _⟩ => ⟨S2x1024x1028, .f32⟩
  | .hbm, ⟨26, _⟩ => ⟨S_, .f32⟩
  | .hbm, ⟨27, _⟩ => ⟨S2x1024x1028, .f32⟩
  | .hbm, ⟨28, _⟩ => ⟨S2x1024x1028, .f32⟩
  | .hbm, ⟨29, _⟩ => ⟨S2x1024x1028, .f32⟩
  | .hbm, ⟨30, _⟩ => ⟨S_, .f32⟩
  | .hbm, ⟨31, _⟩ => ⟨S2x1024x1028, .f32⟩
  | .hbm, ⟨32, _⟩ => ⟨S2x1024x1028, .f32⟩
  | .hbm, ⟨33, _⟩ => ⟨S2x1024x1028, .f32⟩
  | .hbm, ⟨34, _⟩ => ⟨S_, .f32⟩
  | .hbm, ⟨35, _⟩ => ⟨S2x1024x1028, .f32⟩
  | .hbm, ⟨36, _⟩ => ⟨S2x1024x1028, .f32⟩
  | .hbm, ⟨37, _⟩ => ⟨S2048x1028, .f32⟩
  | .hbm, ⟨38, _⟩ => ⟨S2048x1028, .f32⟩
  | .hbm, ⟨39, _⟩ => ⟨S2048x1028, .f32⟩
  | _, _ => ⟨S2x1024x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwConv.lean ====
abbrev S2x4x768 : Shape := ⟨3, ![2, 4, 768]⟩
abbrev S8x768 : Shape := ⟨2, ![8, 768]⟩

abbrev nBuf : Space → Nat
  | .hbm => 11
  | .vmem => 7
  | .smem => 0
  | _ => 0

abbrev bufTy : (tb : Table) → Fin (tcTables nBuf tb) → BufTy
  | .hbm, ⟨0, _⟩ => ⟨S2x4x768, .f32⟩
  | .hbm, ⟨1, _⟩ => ⟨S2x4x768, .f32⟩
  | .hbm, ⟨2, _⟩ => ⟨S2x4x768, .f32⟩
  | .hbm, ⟨3, _⟩ => ⟨S2x4x768, .f32⟩
  | .hbm, ⟨4, _⟩ => ⟨S8x768, .f32⟩
  | .hbm, ⟨5, _⟩ => ⟨S8x768, .f32⟩
  | .hbm, ⟨6, _⟩ => ⟨S8x768, .f32⟩
  | .hbm, ⟨7, _⟩ => ⟨S8x768, .f32⟩
  | .hbm, ⟨8, _⟩ => ⟨S8x768, .f32⟩
  | .hbm, ⟨9, _⟩ => ⟨S8x768, .f32⟩
  | .hbm, ⟨10, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | _, _ => ⟨S2x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwConvIdeal.lean ====
abbrev S2x4x768 : Shape := ⟨3, ![2, 4, 768]⟩
abbrev S8x768 : Shape := ⟨2, ![8, 768]⟩

abbrev nBuf : Space → Nat
  | .hbm => 11
  | .vmem => 7
  | .smem => 0
  | _ => 0

abbrev bufTy : (tb : Table) → Fin (tcTables nBuf tb) → BufTy
  | .hbm, ⟨0, _⟩ => ⟨S2x4x768, .f32⟩
  | .hbm, ⟨1, _⟩ => ⟨S2x4x768, .f32⟩
  | .hbm, ⟨2, _⟩ => ⟨S2x4x768, .f32⟩
  | .hbm, ⟨3, _⟩ => ⟨S2x4x768, .f32⟩
  | .hbm, ⟨4, _⟩ => ⟨S8x768, .f32⟩
  | .hbm, ⟨5, _⟩ => ⟨S8x768, .f32⟩
  | .hbm, ⟨6, _⟩ => ⟨S8x768, .f32⟩
  | .hbm, ⟨7, _⟩ => ⟨S8x768, .f32⟩
  | .hbm, ⟨8, _⟩ => ⟨S8x768, .f32⟩
  | .hbm, ⟨9, _⟩ => ⟨S8x768, .f32⟩
  | .hbm, ⟨10, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | _, _ => ⟨S2x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwConvRefIdeal.lean ====
abbrev S2x4x768 : Shape := ⟨3, ![2, 4, 768]⟩
abbrev S_ : Shape := ⟨0, ![]⟩
abbrev S8x768 : Shape := ⟨2, ![8, 768]⟩

abbrev nBuf : Space → Nat
  | .hbm => 40
  | .vmem => 0
  | .smem => 0
  | _ => 0

abbrev bufTy : (tb : Table) → Fin (tcTables nBuf tb) → BufTy
  | .hbm, ⟨0, _⟩ => ⟨S2x4x768, .f32⟩
  | .hbm, ⟨1, _⟩ => ⟨S2x4x768, .f32⟩
  | .hbm, ⟨2, _⟩ => ⟨S2x4x768, .f32⟩
  | .hbm, ⟨3, _⟩ => ⟨S2x4x768, .f32⟩
  | .hbm, ⟨4, _⟩ => ⟨S_, .f32⟩
  | .hbm, ⟨5, _⟩ => ⟨S2x4x768, .f32⟩
  | .hbm, ⟨6, _⟩ => ⟨S2x4x768, .f32⟩
  | .hbm, ⟨7, _⟩ => ⟨S_, .f32⟩
  | .hbm, ⟨8, _⟩ => ⟨S2x4x768, .f32⟩
  | .hbm, ⟨9, _⟩ => ⟨S2x4x768, .f32⟩
  | .hbm, ⟨10, _⟩ => ⟨S2x4x768, .f32⟩
  | .hbm, ⟨11, _⟩ => ⟨S_, .f32⟩
  | .hbm, ⟨12, _⟩ => ⟨S2x4x768, .f32⟩
  | .hbm, ⟨13, _⟩ => ⟨S2x4x768, .f32⟩
  | .hbm, ⟨14, _⟩ => ⟨S2x4x768, .f32⟩
  | .hbm, ⟨15, _⟩ => ⟨S_, .f32⟩
  | .hbm, ⟨16, _⟩ => ⟨S2x4x768, .f32⟩
  | .hbm, ⟨17, _⟩ => ⟨S2x4x768, .f32⟩
  | .hbm, ⟨18, _⟩ => ⟨S2x4x768, .f32⟩
  | .hbm, ⟨19, _⟩ => ⟨S_, .f32⟩
  | .hbm, ⟨20, _⟩ => ⟨S2x4x768, .f32⟩
  | .hbm, ⟨21, _⟩ => ⟨S2x4x768, .f32⟩
  | .hbm, ⟨22, _⟩ => ⟨S_, .f32⟩
  | .hbm, ⟨23, _⟩ => ⟨S2x4x768, .f32⟩
  | .hbm, ⟨24, _⟩ => ⟨S2x4x768, .f32⟩
  | .hbm, ⟨25, _⟩ => ⟨S2x4x768, .f32⟩
  | .hbm, ⟨26, _⟩ => ⟨S_, .f32⟩
  | .hbm, ⟨27, _⟩ => ⟨S2x4x768, .f32⟩
  | .hbm, ⟨28, _⟩ => ⟨S2x4x768, .f32⟩
  | .hbm, ⟨29, _⟩ => ⟨S2x4x768, .f32⟩
  | .hbm, ⟨30, _⟩ => ⟨S_, .f32⟩
  | .hbm, ⟨31, _⟩ => ⟨S2x4x768, .f32⟩
  | .hbm, ⟨32, _⟩ => ⟨S2x4x768, .f32⟩
  | .hbm, ⟨33, _⟩ => ⟨S2x4x768, .f32⟩
  | .hbm, ⟨34, _⟩ => ⟨S_, .f32⟩
  | .hbm, ⟨35, _⟩ => ⟨S2x4x768, .f32⟩
  | .hbm, ⟨36, _⟩ => ⟨S2x4x768, .f32⟩
  | .hbm, ⟨37, _⟩ => ⟨S8x768, .f32⟩
  | .hbm, ⟨38, _⟩ => ⟨S8x768, .f32⟩
  | .hbm, ⟨39, _⟩ => ⟨S8x768, .f32⟩
  | _, _ => ⟨S2x4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwSmall.lean ====
abbrev S288x1024 : Shape := ⟨2, ![288, 1024]⟩
abbrev S32x1024 : Shape := ⟨2, ![32, 1024]⟩

abbrev nBuf : Space → Nat
  | .hbm => 7
  | .vmem => 14
  | .smem => 0
  | _ => 0

abbrev bufTy : (tb : Table) → Fin (tcTables nBuf tb) → BufTy
  | .hbm, ⟨0, _⟩ => ⟨S288x1024, .f32⟩
  | .hbm, ⟨1, _⟩ => ⟨S288x1024, .f32⟩
  | .hbm, ⟨2, _⟩ => ⟨S288x1024, .f32⟩
  | .hbm, ⟨3, _⟩ => ⟨S288x1024, .f32⟩
  | .hbm, ⟨4, _⟩ => ⟨S288x1024, .f32⟩
  | .hbm, ⟨5, _⟩ => ⟨S288x1024, .f32⟩
  | .hbm, ⟨6, _⟩ => ⟨S288x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | _, _ => ⟨S288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwSmallRefIdeal.lean ====
abbrev S288x1024 : Shape := ⟨2, ![288, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S288x1024, .f32⟩
  | .hbm, ⟨1, _⟩ => ⟨S288x1024, .f32⟩
  | .hbm, ⟨2, _⟩ => ⟨S288x1024, .f32⟩
  | .hbm, ⟨3, _⟩ => ⟨S288x1024, .f32⟩
  | .hbm, ⟨4, _⟩ => ⟨S_, .f32⟩
  | .hbm, ⟨5, _⟩ => ⟨S288x1024, .f32⟩
  | .hbm, ⟨6, _⟩ => ⟨S288x1024, .f32⟩
  | .hbm, ⟨7, _⟩ => ⟨S_, .f32⟩
  | .hbm, ⟨8, _⟩ => ⟨S288x1024, .f32⟩
  | .hbm, ⟨9, _⟩ => ⟨S288x1024, .f32⟩
  | .hbm, ⟨10, _⟩ => ⟨S288x1024, .f32⟩
  | .hbm, ⟨11, _⟩ => ⟨S_, .f32⟩
  | .hbm, ⟨12, _⟩ => ⟨S288x1024, .f32⟩
  | .hbm, ⟨13, _⟩ => ⟨S288x1024, .f32⟩
  | .hbm, ⟨14, _⟩ => ⟨S288x1024, .f32⟩
  | .hbm, ⟨15, _⟩ => ⟨S_, .f32⟩
  | .hbm, ⟨16, _⟩ => ⟨S288x1024, .f32⟩
  | .hbm, ⟨17, _⟩ => ⟨S288x1024, .f32⟩
  | .hbm, ⟨18, _⟩ => ⟨S288x1024, .f32⟩
  | .hbm, ⟨19, _⟩ => ⟨S_, .f32⟩
  | .hbm, ⟨20, _⟩ => ⟨S288x1024, .f32⟩
  | .hbm, ⟨21, _⟩ => ⟨S288x1024, .f32⟩
  | .hbm, ⟨22, _⟩ => ⟨S_, .f32⟩
  | .hbm, ⟨23, _⟩ => ⟨S288x1024, .f32⟩
  | .hbm, ⟨24, _⟩ => ⟨S288x1024, .f32⟩
  | .hbm, ⟨25, _⟩ => ⟨S288x1024, .f32⟩
  | .hbm, ⟨26, _⟩ => ⟨S_, .f32⟩
  | .hbm, ⟨27, _⟩ => ⟨S288x1024, .f32⟩
  | .hbm, ⟨28, _⟩ => ⟨S288x1024, .f32⟩
  | .hbm, ⟨29, _⟩ => ⟨S288x1024, .f32⟩
  | .hbm, ⟨30, _⟩ => ⟨S_, .f32⟩
  | .hbm, ⟨31, _⟩ => ⟨S288x1024, .f32⟩
  | .hbm, ⟨32, _⟩ => ⟨S288x1024, .f32⟩
  | .hbm, ⟨33, _⟩ => ⟨S288x1024, .f32⟩
  | .hbm, ⟨34, _⟩ => ⟨S_, .f32⟩
  | .hbm, ⟨35, _⟩ => ⟨S288x1024, .f32⟩
  | .hbm, ⟨36, _⟩ => ⟨S288x1024, .f32⟩
  | _, _ => ⟨S288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Talk.Launch.lean ====
/-
# Launching a program that opens with an exchange between devices

The first thing such a program does is a kernel region whose devices write each other's buffers and credit each other's
semaphores at once, with no handshake. A device may therefore be sent data before it has reached its own region, so the
buffers a peer writes and the counters a peer credits have to be dealt out before any device runs.

The launch below does that: one step over ALL the devices (`hdeal`) holds every device's array buffers and the opening
region's own semaphore counters, and hands each device the state it starts from.
-/
module

public import Idealize.ShloMosaic.Lib.Pipeline.Launch
public import Idealize.ShloMosaic.Lib.Pipeline.Regions
public import Idealize.ShloMosaic.Lib.Tactic

@[expose] public section

set_option Elab.async false

noncomputable section

namespace Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {U : Type} [URA U]
variable {Λ₀ : Idealize.SL.Sem.Labels} {P : Type} [Fintype P]

local notation "𝕄" => MT nD τ sig Unit Val ℕ U ℕ

variable (pcs : P → PCfg sig Λ₀ Val) (a : (p : P) → (pcs p).Adm)
  (pdats : (p : P) → (c : Dev nD) → Dat τ Val Unit ℕ U ℕ (pin pcs a p) c)
  (phinj : Function.Injective (Pipeline.cellOf (nD := nD) (pin pcs a)))
  (EP : Emb (URounds (GSem nD τ sig) Unit) (MT nD τ sig Unit Val ℕ U ℕ))
  (defs₀ : Defs nD τ sig Val Λ₀) (𝒱₀ : Variants)
  (L : GSem nD τ sig → Finset Unit) (lv : GSem nD τ sig → Unit → ℕ)

local notation "𝔻" => Pipeline.defs pcs defs₀
local notation "𝕍" => Variants.lift 𝒱₀

/-- The opening region of a program: its layout, its own semaphores, its body, and the states around it. The own
    semaphores do NOT come to it through the region boundary: whatever the devices need of them is in `pre`. -/
structure Opening (p : P) where
  win : WinFacts₀ (pcs p).spec
  block_pos : ∀ w : Fin (pin pcs a p).W, 0 < ((pin pcs a p).spec w).block.numel
  stage_whole : ∀ (w : Fin (pin pcs a p).W) (s : Fin ((pin pcs a p).spec w).nbuf), (((pin pcs a p).spec w).stage s).IsWhole
  K : Type
  [fK : Fintype K]
  /-- The region's own semaphores. -/
  osem : K → SemLoc sig
  ho : OwnSemFacts (pcs p).spec osem
  hbody : ∀ c, BodyObligationLoose (pdats p c) defs₀ 𝒱₀ () Set.univ
  hwaits : ∀ c, (levAts L lv : sProp 𝕄) ⊢ cellsWaits (pin pcs a) pdats () p c
  /-- The state a device enters the region from, the one it leaves, and what goes around the region. -/
  pre : Dev nD → sProp 𝕄
  post : Dev nD → sProp 𝕄
  X : Dev nD → sProp 𝕄
  Y : Dev nD → sProp 𝕄
  Z : Dev nD → sProp 𝕄
  hentry : ∀ c, iprop(pre c ∗ levAts L lv)
    ⊢ |={Set.univ}=> iprop((pdats p c).arrays ((pdats p c).arrAt · 0) ∗ prefHeld (pcs p).pre c (fun _ => fullShare) (a p).1
        ∗ (pdats p c).owesAt () 0 ∗ X c ∗ Z c)
  hin : ∀ c, iprop(X c ∗ prefHeld (pcs p).pre c (fun _ => fullShare) (a p).1 ∗ scopedRest (pin pcs a p).spec c) ⊢ (pdats p c).Φ 0
  hout : ∀ c, (pdats p c).Φ (Fin.last (pin pcs a p).N) ⊢ iprop(Y c ∗ ownSems0 osem c ∗ scopedRest (pin pcs a p).spec c)
  hexit : ∀ c, iprop((pdats p c).arrays ((pdats p c).arrAt · (pin pcs a p).N) ∗ (pdats p c).owesAt () (Fin.last (pin pcs a p).N) ∗ Y c ∗ Z c)
    ⊢ |={Set.univ}=> post c

attribute [instance] Opening.fK

variable {p : P} (H : Opening pcs a pdats defs₀ 𝒱₀ L lv p)

/-- The region boundary of a device with the opening region's own semaphores taken out. -/
def besides (c : Dev nD) : sProp 𝕄 :=
  iprop(scopedBufs (c.tc : Thread nD τ) ∗ cellsSems0 (pin pcs a) p c ∗ idleSems0 (pin pcs a) phinj p H.ho c ∗ opIdle (c.tc : Thread nD τ))

/-- The boundary is that remainder and the own semaphores at zero. -/
theorem boundary_open (c : Dev nD) :
    (boundary (c.tc : Thread nD τ) : sProp 𝕄) ⊢ iprop(ownSems0 H.osem c ∗ besides pcs a pdats phinj defs₀ 𝒱₀ L lv H c) := by
  have hss := scopedSems0_split (pin pcs a) phinj p H.win H.ho (Ix := Unit) (Val := Val) (Name := ℕ) (U := U) (Lvl := ℕ) c
  unfold boundary besides
  rw [hss]
  iintro ⟨Hb, ⟨⟨Hc, Ho⟩, Hi⟩, Hop⟩
  isplitl [Ho]; · iexact Ho
  isplitl [Hb]; · iexact Hb
  isplitl [Hc]; · iexact Hc
  isplitl [Hi] <;> iassumption

/-- The opening region run on one device, from the state dealt to it to the whole boundary and the region's `post`. -/
theorem wp_opening [∀ e, Nonempty (Val e)] [EP.LandsIn (upEmb : UEmb _ 𝕄)] (c : Dev nD)
    {α : Type} (k : PUnit → Prog (TpuEff nD τ sig Val (Sig Λ₀ P fun p => (pcs p).Adm) .tc) α) (Q : α → sProp 𝕄) :
    iprop((iprop(boundary (c.tc : Thread nD τ) ∗ H.post c) -∗ wp frame (wpE 𝔻 𝕍 (c.tc : Thread nD τ) none) Set.univ (k ⟨⟩) Q)
        ∗ besides pcs a pdats phinj defs₀ 𝒱₀ L lv H c ∗ H.pre c ∗ levAts L lv
        ∗ cellsGhost (pin pcs a) EP p c ∗ toksInit (pin pcs a) EP p c)
      ⊢ wp frame (wpE 𝔻 𝕍 (c.tc : Thread nD τ) none) Set.univ (.op (.customCall (entry p) ()) k) Q := by
  classical
  have hss := scopedSems0_split (pin pcs a) phinj p H.win H.ho (Ix := Unit) (Val := Val) (Name := ℕ) (U := U) (Lvl := ℕ) c
  have hsb := scopedBufs_split (pin pcs a) p H.win.stage_scoped H.win.stage_inj H.stage_whole (nD := nD) (τ := τ) (Ix := Unit) (Val := Val) (Name := ℕ) (U := U) (Lvl := ℕ) c
  have hout' : iprop((pdats p c).Φ (Fin.last (pin pcs a p).N) ∗ cellsSems0 (pin pcs a) p c ∗ Dat.staging (pin pcs a p) c ∗ idleSems0 (pin pcs a) phinj p H.ho c)
      ⊢ iprop(H.Y c ∗ scopedSems0 (c.tc : Thread nD τ) ∗ scopedBufs (c.tc : Thread nD τ)) := by
    rw [hss, hsb]
    iintro ⟨HΦ, Hcells, Hst, Hidle⟩
    ihave H1 := (H.hout c) $$ HΦ
    icases H1 with ⟨HY, Hos, Hrest⟩
    isplitl [HY]; · iexact HY
    isplitl [Hcells Hos Hidle]
    · isplitl [Hcells Hos]
      · isplitl [Hcells] <;> iassumption
      · iexact Hidle
    · isplitl [Hst] <;> iassumption
  unfold besides
  iintro ⟨Hk, ⟨Hsc, Hcells, Hidle, Hidl⟩, Hpre, #Hla, Hg, Ht⟩
  ihave Hw := (H.hwaits c) $$ Hla
  iapply (fupd_wp frame (wpE 𝔻 𝕍 (c.tc : Thread nD τ) none) Set.univ _ _)
  imod (cellsInit_alloc (pin pcs a) pdats EP phinj p c) $$ [Hcells Hg] with ⟨%κ, -, Hinit⟩
  · isplitl [Hcells] <;> iassumption
  imod (H.hentry c) $$ [Hpre] with ⟨Harr, Hpf, HO, HX, HZ⟩
  · isplitl [Hpre]; · iexact Hpre
    iexact Hla
  imodintro
  iapply (wp_customCall_entry_frame pcs a pdats () EP κ phinj p defs₀ 𝒱₀ (fun _ => fullShare) c Set.univ (fun _ _ => Set.mem_univ _)
      (H.hbody c) H.block_pos none (fun u h => nomatch h) (X := H.X c) (Y := H.Y c) (R := scopedRest (pin pcs a p).spec c)
      (I := idleSems0 (pin pcs a) phinj p H.ho c) (Entails.of_eq hsb) (H.hin c) hout' (k := k) (Q := Q)) $$ [Harr HO Hw Hinit Ht Hpf HX Hidle Hsc]
  · isplitl [Harr HO Hw Hinit Ht]
    · unfold EntryPre PerCore.EntryPre
      isplitl [Harr]; · iexact Harr
      isplitl [HO]; · iexact HO
      isplitl [Hw]; · iexact Hw
      isplitl [Hinit] <;> iassumption
    isplitl [Hpf]; · iexact Hpf
    isplitl [HX]; · iexact HX
    isplitl [Hidle] <;> iassumption
  iintro ⟨Hpost, HY, Hss2, Hsc2⟩
  unfold EntryPost PerCore.EntryPost
  icases Hpost with ⟨Ha, HO⟩
  iapply (fupd_wp frame (wpE 𝔻 𝕍 (c.tc : Thread nD τ) none) Set.univ _ _)
  imod (H.hexit c) $$ [Ha HO HY HZ] with Hpost
  · isplitl [Ha]; · iexact Ha
    isplitl [HO]; · iexact HO
    isplitl [HY] <;> iassumption
  imodintro
  iapply Hk
  isplitr [Hpost]
  · unfold boundary
    isplitl [Hsc2]; · iexact Hsc2
    isplitl [Hss2] <;> iassumption
  · iexact Hpost

/-- What every device holds before anything is dealt: its arrays, its unscoped counters, what it owes, its credit. -/
def held (m : (ℓ : Loc nD τ sig) → Buf Val ℓ) (g : Dev nD → PrngReg) (O₀ : Dev nD → CellTallies nD τ sig Unit) (c : Dev nD) : sProp 𝕄 :=
  iprop(unscopedBufs c (fun b => m ((c.tc : Thread nD τ).loc b)) ∗ unscopedSems0 c
    ∗ owes (c.tc : Thread nD τ) (O₀ c) ∅ ∗ launchCred O₀ c ∗ prngReg c (g c))

/-- The level facts, from every device's own levels. -/
theorem levels_all (hL : ∀ g : GSem nD τ sig, g.1.2 ≠ .tc → L g = ∅) :
    (bigSep Finset.univ fun c : Dev nD => levels0 (Ix := Unit) (Val := Val) (Name := ℕ) (U := U) (Lvl := ℕ) (τ := τ) (sig := sig) c)
      ⊢ (|==> levAts L lv : sProp 𝕄) := by
  refine (bigSep_mono fun c _ => lev_assign_cells (c.tc : Thread nD τ) L lv).trans <| (BI.bigSep_bupd _ _).trans <| BI.bupd_mono ?_
  have hcore : ∀ (d : Dev nD) (p : Proc τ), p ≠ .tc → (coreLevAts ((d, p) : Thread nD τ) L lv : sProp 𝕄) = BI.emp := fun d p hp => by
    unfold coreLevAts
    rw [bigSep_congr (Ψ := fun _ : SemLoc sig => (BI.emp : sProp 𝕄)) fun sm _ => by rw [hL (((d, p) : Thread nD τ), sm) hp, BI.bigSep_empty],
      BI.bigSep_emp_const]
  have hsc : (bigSep Finset.univ fun d : Dev nD => bigSep (Finset.univ.erase Proc.tc) fun p => (coreLevAts ((d, p) : Thread nD τ) L lv : sProp 𝕄)) = BI.emp := by
    rw [bigSep_congr (Ψ := fun _ : Dev nD => (BI.emp : sProp 𝕄)) fun d _ =>
      (bigSep_congr fun p hp => hcore d p (Finset.ne_of_mem_erase hp)).trans (BI.bigSep_emp_const _), BI.bigSep_emp_const]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv), hsc, bigSep_sep']
  have hdrop : ∀ A B : sProp 𝕄, iprop(A ∗ B) ⊢ iprop(B ∗ emp) := fun A B => by
    iintro ⟨-, H⟩
    isplitl [H]; · iexact H
    iempintro
  exact hdrop _ _

/-- THE LAUNCH. A program whose @main enters region `p` first and then runs the segments `l` terminates with
    everything the last state proves, if one step over all the devices makes every device's opening state from the
    array buffers, the opening region's counters, the credits and the initial ghost state. -/
theorem θ_run_opening [DecidableEq P] [∀ e, Nonempty (Val e)] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (l : Dev nD → List (Seg pcs a pdats () defs₀ 𝒱₀ L lv))
    (hmain : ∀ c, main c = .op (.customCall (entry p) ()) fun _ => Seg.run (l c))
    (hnd : ∀ c, (Seg.pipes (l c)).Nodup) (hp : ∀ c, p ∉ Seg.pipes (l c))
    (O₀ : Dev nD → CellTallies nD τ sig Unit) (hL : ∀ g : GSem nD τ sig, g.1.2 ≠ .tc → L g = ∅)
    (V : sProp 𝕄) (u₀ : U)
    (hu₀ : (ownU u₀ : sProp 𝕄)
      ⊢ |={Set.univ}=> iprop(BI.own (EP (initOf (Pipeline.cells (pin pcs a) phinj) (launchToks (pin pcs a) phinj))) ∗ V))
    (hdeal : iprop((bigSep Finset.univ fun c : Dev nD => ownSems0 H.osem c) ∗ (bigSep Finset.univ fun c : Dev nD => held m g O₀ c) ∗ V)
      ⊢ |={Set.univ}=> bigSep Finset.univ H.pre)
    (Tₙ : Dev nD → sProp 𝕄)
    (hch : ∀ c, Seg.ChainsAt c H.post (l c) fun c => iprop(Tₙ c ∗ ∃ W, owes (c.tc : Thread nD τ) (0 : CellTallies nD τ sig Unit) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let pre : Dev nD → sProp 𝕄 := fun c => iprop(besides pcs a pdats phinj defs₀ 𝒱₀ L lv H c ∗ H.pre c ∗ levAts L lv ∗ ghostOn pcs a EP Finset.univ c)
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · have hcores : (bigSep Finset.univ fun d : Dev nD =>
          coreInit (Ix := Unit) (Name := ℕ) (U := U) (Lvl := ℕ) (owing O₀) 0 (⟨m, fun _ => 0, g⟩ : MemSt nD τ sig Val) (d.tc : Thread nD τ))
        ⊢ iprop((bigSep Finset.univ fun c : Dev nD => ownSems0 H.osem c) ∗ (bigSep Finset.univ fun c : Dev nD => held m g O₀ c)
            ∗ (bigSep Finset.univ fun c : Dev nD => besides pcs a pdats phinj defs₀ 𝒱₀ L lv H c)
            ∗ (bigSep Finset.univ fun c : Dev nD => levels0 (Ix := Unit) (Val := Val) (Name := ℕ) (U := U) (Lvl := ℕ) (τ := τ) (sig := sig) c) : sProp 𝕄) := by
      simp only [← bigSep_sep']
      refine bigSep_mono fun c _ => (coreInit_boundary_owing O₀ m g c).trans ?_
      iintro ⟨Hb, Hub, Hus, HO, Hlv, Hpr, Hcr⟩
      ihave Hb' := (boundary_open pcs a pdats phinj defs₀ 𝒱₀ L lv H c) $$ Hb
      icases Hb' with ⟨Hos, Hbs⟩
      isplitl [Hos]; · iexact Hos
      isplitr [Hbs Hlv]
      · unfold held
        isplitl [Hub]; · iexact Hub
        isplitl [Hus]; · iexact Hus
        isplitl [HO]; · iexact HO
        isplitl [Hcr] <;> iassumption
      isplitl [Hbs] <;> iassumption
    have hghost : iprop((bigSep Finset.univ fun c : Dev nD => bigSep Finset.univ fun p => cellsGhost (pin pcs a) EP p c)
          ∗ (bigSep Finset.univ fun c : Dev nD => bigSep Finset.univ fun p => (toksInit (pin pcs a) EP p c : sProp 𝕄)))
        ⊢ bigSep Finset.univ fun c : Dev nD => ghostOn pcs a EP Finset.univ c := by
      rw [← bigSep_sep']
      exact bigSep_mono fun c _ => show iprop((bigSep Finset.univ fun p => cellsGhost (pin pcs a) EP p c)
            ∗ bigSep Finset.univ fun p => (toksInit (pin pcs a) EP p c : sProp 𝕄)) ⊢ ghostOn pcs a EP Finset.univ c
        from Entails.of_eq (by unfold ghostOn PerCore.ghostOn; rw [bigSep_sep'])
    iintro ⟨Hcores, Hu⟩
    ihave Hc := hcores $$ Hcores
    icases Hc with ⟨Hos, Hh, Hbs, Hlv⟩
    imod (levels_all L lv hL) $$ Hlv with #Hla
    imod hu₀ $$ Hu with ⟨HP, HV⟩
    imod (fund_ghost (pin pcs a) EP phinj) $$ HP with ⟨Hg, Ht⟩
    imod hdeal $$ [Hos Hh HV] with HT
    · isplitl [Hos]; · iexact Hos
      isplitl [Hh] <;> iassumption
    imodintro
    iexists ()
    isplitr []
    · simp only [pre, bigSep_sep']
      isplitl [Hbs]; · iexact Hbs
      isplitl [HT]; · iexact HT
      isplitr; · iapply (BI.bigSep_intro_persistent (S := Finset.univ) fun (c : Dev nD) _ => (BI.Entails.refl (levAts L lv : sProp 𝕄))); iexact Hla
      iapply hghost
      isplitl [Hg] <;> iassumption
    · iempintro
  · simp only [pre]
    rw [hmain c, show (ghostOn pcs a EP Finset.univ c : sProp 𝕄)
        = iprop((cellsGhost (pin pcs a) EP p c ∗ toksInit (pin pcs a) EP p c) ∗ ghostOn pcs a EP (Finset.univ.erase p) c)
      from PerCore.ghostOn_erase pcs (fun _ => a) EP (Finset.mem_univ p) c]
    iintro ⟨Hbs, Hpre, #Hla, ⟨Hg, Ht⟩, Hrest⟩
    iapply (wp_opening pcs a pdats phinj EP defs₀ 𝒱₀ L lv H c (fun _ => Seg.run (l c)) _)
    isplitl [Hrest]
    · iintro ⟨Hbd, Hpost⟩
      rw [← Seg.run_toR pcs a pdats () defs₀ 𝒱₀ L lv (l c)]
      iapply (RDat.wp_segs pcs a (Dat.toRs pdats) () phinj EP defs₀ 𝒱₀ L lv c ((l c).map (Seg.toR pcs a pdats () defs₀ 𝒱₀ L lv))
        (Finset.univ.erase p) H.post (fun c => iprop(Tₙ c ∗ ∃ W, owes (c.tc : Thread nD τ) (0 : CellTallies nD τ sig Unit) W))
        (by rw [Seg.pipes_toR]; exact hnd c)
        (by rw [Seg.pipes_toR]; exact fun q hq => Finset.mem_erase.mpr ⟨fun h => hp c (h ▸ hq), Finset.mem_univ q⟩)
        ((hch c).toR pcs a pdats () defs₀ 𝒱₀ L lv))
      isplitr [Hbd Hpost Hrest]
      · iintro ⟨Hbd', HT, HW⟩
        unfold post; simp only [liftTc_tc, fin]
        isplitl [HT Hbd']
        · isplitl [HT] <;> iassumption
        · iexact HW
      · isplitl [Hbd]; · iexact Hbd
        isplitl [Hpost]; · iexact Hpost
        isplitr; · iexact Hla
        iexact Hrest
    · isplitl [Hbs]; · iexact Hbs
      isplitl [Hpre]; · iexact Hpre
      isplitr; · iexact Hla
      isplitl [Hg] <;> iassumption
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Talk

end
-- ==== Proof.Talk.Cells.lean ====
/-
# The semaphores of an exchange between devices

An exchange uses a finite family of DMA semaphores, each credited once and waited for once on every device. Semaphore `j` of
device `c` is credited by ONE copy, which device `(dest j)⁻¹ c` issues: a send semaphore by the device's own copy (`dest j` the
identity), a receive semaphore by the copy of a peer. A copy's landing hands the waiting device `pay j c`: for a receive
semaphore the buffer written, at the contents written; for a send semaphore the source back.

This module states that protocol once for every such family and proves the three things a program needs: the launch
deal (each device's positions, the tokens for the copies it issues, the credit for what it is owed), the rule for a remote
copy, and the rule for a wait.
-/
module

public import Idealize.ShloMosaic.Lib.Pipeline.Launch
public import Idealize.ShloMosaic.Lib.Pipeline.Kit
public import Idealize.ShloMosaic.Lib.Tactic

@[expose] public section

set_option Elab.async false

noncomputable section

namespace Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- A family of exchange semaphores. -/
structure Wires (nD : Nat) (sig : RefSig) (J : Type) where
  /-- The semaphore. -/
  sem : J → DmaSem sig
  semInj : Function.Injective sem
  /-- The copy that device `c` issues on wire `j` credits device `dest j c`. -/
  dest : J → Equiv.Perm (Dev nD)
  /-- The credit of the copy. -/
  amt : J → ℕ
  amt_pos : ∀ j, 0 < amt j
  /-- The receive semaphores: credited by a peer. -/
  far : Finset J
  /-- The order in which the receive semaphores are waited for: a device waiting for `j` owes only wires above `j`. -/
  rank : J → ℕ

variable {nD : Nat} {τ : Topo} {sig : RefSig} {Val : EltTy → Type} {J : Type} [Fintype J] [DecidableEq J]

/-- The ghost state: the pipelines' cells and the exchange's. -/
abbrev UU (nD : Nat) (τ : Topo) (sig : RefSig) : Type := URounds (GSem nD τ sig) Unit × URounds (GSem nD τ sig) Unit

local notation "𝕄" => MT nD τ sig Unit Val ℕ (UU nD τ sig) ℕ

variable (nD τ sig Val) in
abbrev EP : Emb (URounds (GSem nD τ sig) Unit) (MT nD τ sig Unit Val ℕ (UU nD τ sig) ℕ) := embL
variable (nD τ sig Val) in
abbrev ER : Emb (URounds (GSem nD τ sig) Unit) (MT nD τ sig Unit Val ℕ (UU nD τ sig) ℕ) := embR

variable (W : Wires nD sig J)

namespace Wires

/-- Wire `j`'s semaphore as a location, -/
abbrev at_ (j : J) : SemLoc sig := .dma (W.sem j)
/-- and on device `c`. -/
abbrev cell (τ : Topo) (c : Dev nD) (j : J) : GSem nD τ sig := ((c.tc : Thread nD τ), W.at_ j)

/-- The wire at a semaphore, if any. -/
def idx (sm : SemLoc sig) : Option J := by
  classical exact if h : ∃ j, sm = W.at_ j then some h.choose else none

theorem at_inj {i j : J} (h : W.at_ i = W.at_ j) : i = j := W.semInj (by injection h)

theorem idx_at (j : J) : W.idx (W.at_ j) = some j := by
  have h : ∃ i, W.at_ j = W.at_ i := ⟨j, rfl⟩
  unfold idx
  rw [dif_pos h]
  exact congrArg some (W.at_inj h.choose_spec).symm

theorem cell_injective : Function.Injective (fun cj : Dev nD × J => W.cell τ cj.1 cj.2) := by
  rintro ⟨c, j⟩ ⟨c', j'⟩ h
  have h1 : c = c' := congrArg (fun g : GSem nD τ sig => g.1.1) h
  subst h1
  have h2 : W.at_ j = W.at_ j' := congrArg (fun g : GSem nD τ sig => g.2) h
  rw [W.at_inj h2]

/-- The cells of the exchange and its tokens. -/
def cells (τ : Topo) : Finset (GSem nD τ sig) := Finset.univ.map ⟨fun cj : Dev nD × J => W.cell τ cj.1 cj.2, W.cell_injective⟩
def toks (τ : Topo) : Finset (GSem nD τ sig × ℕ × Unit) :=
  Finset.univ.map ⟨fun cj : Dev nD × J => (W.cell τ cj.1 cj.2, 0, ()), fun _ _ h => W.cell_injective (congrArg Prod.fst h)⟩

/-- A copy's wire at its sender to the same wire at its receiver. -/
def pair : Dev nD × J ≃ Dev nD × J where
  toFun cj := (W.dest cj.2 cj.1, cj.2)
  invFun cj := ((W.dest cj.2).symm cj.1, cj.2)
  left_inv cj := by simp
  right_inv cj := by simp

/-- What device `c` owes when the copies on the wires `S` are still to be issued. -/
def owed (τ : Topo) (c : Dev nD) (S : Finset J) : CellTallies nD τ sig Unit := ∑ j ∈ S, tallyAt (W.cell τ (W.dest j c) j) () (W.amt j)

theorem owed_erase (c : Dev nD) {S : Finset J} {j : J} (h : j ∈ S) :
    W.owed τ c S = W.owed τ c (S.erase j) + tallyAt (W.cell τ (W.dest j c) j) () (W.amt j) := by
  unfold owed; rw [Finset.sum_erase_add _ _ h]

theorem owed_empty (c : Dev nD) : W.owed τ c ∅ = 0 := by unfold owed; rw [Finset.sum_empty]

theorem owed_pos {c : Dev nD} {S : Finset J} {g : GSem nD τ sig} {u : Unit} (h : 0 < W.owed τ c S g u) : ∃ j ∈ S, g = W.cell τ (W.dest j c) j := by
  by_contra hn
  push Not at hn
  have : W.owed τ c S g u = 0 := by
    unfold owed
    rw [Finset.sum_apply, Finsupp.finset_sum_apply]
    refine Finset.sum_eq_zero fun j hj => ?_
    rw [tallyAt_apply, if_neg (fun h' => hn j hj h'.1)]
  omega

/-- The levels: every semaphore of a TensorCore has one index, a wire's level its rank. -/
def L (nD : Nat) (τ : Topo) (sig : RefSig) (g : GSem nD τ sig) : Finset Unit := if g.1.2 = .tc then {()} else ∅
def lv (τ : Topo) (g : GSem nD τ sig) (_ : Unit) : ℕ := match W.idx g.2 with | some j => W.rank j | none => 0

theorem L_of_ne (g : GSem nD τ sig) (h : g.1.2 ≠ .tc) : L nD τ sig g = ∅ := if_neg h
theorem L_tc (c : Dev nD) (sm : SemLoc sig) : L nD τ sig ((c.tc : Thread nD τ), sm) = {()} := if_pos rfl
theorem lv_cell (c : Dev nD) (j : J) (u : Unit) : W.lv τ (W.cell τ c j) u = W.rank j := by
  unfold lv; rw [show (W.cell τ c j).2 = W.at_ j from rfl, W.idx_at]

/-- A device may wait for `j` while every wire it still owes lies above `j`. -/
theorem mayWait (c : Dev nD) (j : J) (S : Finset J) (h : ∀ i ∈ S, W.rank j < W.rank i) :
    (levAts (L nD τ sig) (W.lv τ) : sProp 𝕄) ⊢ MayWait (c.tc : Thread nD τ) (W.at_ j) () (W.owed τ c S) := by
  refine MayOwe.of_cut (L := L nD τ sig) (lev := W.lv τ) (W.rank j)
    (fun p hp => by rw [Finset.mem_singleton.mp hp, L_tc]; exact Finset.mem_singleton_self _)
    (fun g u hg => by obtain ⟨i, -, rfl⟩ := W.owed_pos hg; rw [L_tc]; exact Finset.mem_singleton_self _)
    (fun p hp => by rw [Finset.mem_singleton.mp hp]; exact (W.lv_cell c j ()).le)
    (fun g u hg => by obtain ⟨i, hi, rfl⟩ := W.owed_pos hg; rw [W.lv_cell]; exact h i hi)

end Wires

/-! ## The schedule -/

/-- What the landing of each wire's copy hands to the device waiting for it. -/
structure Handover (nD : Nat) (τ : Topo) (sig : RefSig) (Val : EltTy → Type) (J : Type) where
  pay : J → Dev nD → sProp (MT nD τ sig Unit Val ℕ (UU nD τ sig) ℕ)
  stored : ∀ j c, BI.Storable (upEmb : UEmb _ (MT nD τ sig Unit Val ℕ (UU nD τ sig) ℕ)) (pay j c)

attribute [instance] Handover.stored

variable (H : Handover nD τ sig Val J)

/-- One credit on each wire, in round 0. -/
def sched : Rounds.Schedule (GSem nD τ sig) Unit 𝕄 where
  duties g r := if r = 0 ∧ g.1.2 = .tc ∧ (W.idx g.2).isSome = true then {()} else ∅
  unitless _ := False
  amount g _ _ := match W.idx g.2 with | some j => W.amt j | none => 1
  payload g _ _ := match W.idx g.2 with | some j => H.pay j g.1.1 | none => iprop(emp)
  amount_pos g _ _ _ := by
    cases h : W.idx g.2 with
    | none => exact Nat.one_pos
    | some j => exact W.amt_pos j

instance sched_storable (g : GSem nD τ sig) (r : ℕ) (d : Unit) : BI.Storable (upEmb : UEmb _ 𝕄) ((sched W H).payload g r d) := by
  show BI.Storable upEmb (match W.idx g.2 with | some j => H.pay j g.1.1 | none => iprop(emp))
  cases W.idx g.2 with
  | none => infer_instance
  | some j => exact H.stored j _

theorem duties_cell (c : Dev nD) (j : J) : (sched W H).duties (W.cell τ c j) 0 = {()} := by
  dsimp only [sched]; exact if_pos ⟨rfl, rfl, by rw [W.idx_at]; rfl⟩
theorem duties_later (g : GSem nD τ sig) : ∀ r, 0 + 1 ≤ r → (sched W H).duties g r = ∅ :=
  fun r hr => by dsimp only [sched]; exact if_neg fun h => by omega
theorem amount_cell (c : Dev nD) (j : J) (u : Unit) : (sched W H).amount (W.cell τ c j) 0 u = W.amt j := by
  dsimp only [sched]; rw [W.idx_at]
theorem payload_cell (c : Dev nD) (j : J) (u : Unit) : (sched W H).payload (W.cell τ c j) 0 u = H.pay j c := by
  dsimp only [sched]; rw [W.idx_at]
theorem expect_cell (c : Dev nD) (j : J) : (sched W H).expect (W.cell τ c j) 0 = W.amt j := by
  unfold Schedule.expect Schedule.amountOf; rw [duties_cell, Finset.sum_singleton, amount_cell]
theorem rest_cell (c : Dev nD) (j : J) :
    bigSep ((sched W H).duties (W.cell τ c j) 0 \ ∅) (fun u => (sched W H).payload (W.cell τ c j) 0 u) = H.pay j c := by
  rw [Finset.sdiff_empty, duties_cell, bigSep_singleton, payload_cell]

/-! ## What the devices hold -/

/-- Every wire's record, known to every device: its invariant, and that its round 0 is reached. -/
def records (K : Dev nD × J → ℕ) : sProp 𝕄 :=
  iprop((bigSep Finset.univ fun cj : Dev nD × J => cellInv (ER nD τ sig Val) (sched W H) (K cj) (W.cell τ cj.1 cj.2))
    ∗ bigSep Finset.univ fun cj : Dev nD × J => reached (ER nD τ sig Val) (W.cell τ cj.1 cj.2) 0)

instance records_persistent (K : Dev nD × J → ℕ) : BI.Persistent (records W H K) := by unfold records; infer_instance

theorem records_inv (K : Dev nD × J → ℕ) (c : Dev nD) (j : J) :
    records W H K ⊢ cellInv (ER nD τ sig Val) (sched W H) (K (c, j)) (W.cell τ c j) := by
  unfold records
  have hdrop : ∀ A B : sProp 𝕄, iprop(A ∗ B) ⊢ A := fun A B => by iintro ⟨HA, -⟩; iexact HA
  exact (hdrop _ _).trans (bigSep_elim (Φ := fun cj : Dev nD × J => (cellInv (ER nD τ sig Val) (sched W H) (K cj) (W.cell τ cj.1 cj.2) : sProp 𝕄)) (Finset.mem_univ (c, j)))
theorem records_reached (K : Dev nD × J → ℕ) (c : Dev nD) (j : J) :
    records W H K ⊢ reached (ER nD τ sig Val) (W.cell τ c j) 0 := by
  unfold records
  have hdrop : ∀ A B : sProp 𝕄, iprop(A ∗ B) ⊢ B := fun A B => by iintro ⟨-, HB⟩; iexact HB
  exact (hdrop _ _).trans (bigSep_elim (Φ := fun cj : Dev nD × J => (reached (ER nD τ sig Val) (W.cell τ cj.1 cj.2) 0 : sProp 𝕄)) (Finset.mem_univ (c, j)))

/-- Device `c`'s position on its own semaphore `j`, before the wait. -/
def pos (c : Dev nD) (j : J) : sProp 𝕄 := atPos (ER nD τ sig Val) (W.cell τ c j) 0 ∅ 0
/-- The token for the copy `c` issues on wire `j`. -/
def tok (c : Dev nD) (j : J) : sProp 𝕄 := dutyTok (ER nD τ sig Val) (W.cell τ (W.dest j c) j) 0 ()
/-- The credit `c` holds for its own semaphore `j`. -/
def due (c : Dev nD) (j : J) : sProp 𝕄 := cred (tallyAt (W.cell τ c j) () (W.amt j))
/-- What `c` owes with the copies `S` still to be issued. -/
def owing (c : Dev nD) (S : Finset J) : sProp 𝕄 := iprop(∃ V, owes (c.tc : Thread nD τ) (W.owed τ c S) V)

/-! ## The launch deal -/

/-- The initial ghost state of the exchange. -/
def u₁ (τ : Topo) : URounds (GSem nD τ sig) Unit := initOf (W.cells τ) (W.toks τ)

/-- Round states, positions and tokens of every wire. -/
def fresh : sProp 𝕄 :=
  iprop((bigSep Finset.univ fun cj : Dev nD × J => roundState (ER nD τ sig Val) (sched W H) (W.cell τ cj.1 cj.2) 0)
    ∗ (bigSep Finset.univ fun cj : Dev nD × J => reached (ER nD τ sig Val) (W.cell τ cj.1 cj.2) 0)
    ∗ (bigSep Finset.univ fun cj : Dev nD × J => (pos W cj.1 cj.2 : sProp 𝕄))
    ∗ bigSep Finset.univ fun cj : Dev nD × J => (dutyTok (ER nD τ sig Val) (W.cell τ cj.1 cj.2) 0 () : sProp 𝕄))

theorem fund_fresh : BI.own ((ER nD τ sig Val) (u₁ W τ)) ⊢ (|==> fresh W H : sProp 𝕄) := by
  have hX (Φ : GSem nD τ sig → sProp 𝕄) : bigSep (W.cells τ) Φ = bigSep Finset.univ fun cj : Dev nD × J => Φ (W.cell τ cj.1 cj.2) := by
    unfold Wires.cells; rw [bigSep_map]; rfl
  have hT : bigSep (W.toks τ) (fun x => (dutyTok (ER nD τ sig Val) x.1 x.2.1 x.2.2 : sProp 𝕄))
      = bigSep Finset.univ fun cj : Dev nD × J => dutyTok (ER nD τ sig Val) (W.cell τ cj.1 cj.2) 0 () := by
    unfold Wires.toks; rw [bigSep_map]; rfl
  unfold u₁
  iintro H
  imod (Rounds.fund (ER nD τ sig Val) (sched W H) (W.cells τ) (W.toks τ)) $$ H with ⟨Hst, Hr, Hat, Htok⟩
  imodintro
  ihave Hst := (Entails.of_eq (hX fun g => roundState (ER nD τ sig Val) (sched W H) g 0)) $$ Hst
  ihave Hr := (Entails.of_eq (hX fun g => reached (ER nD τ sig Val) g 0)) $$ Hr
  ihave Hat := (Entails.of_eq (hX fun g => atPos (ER nD τ sig Val) g 0 ∅ 0)) $$ Hat
  ihave Htok := (Entails.of_eq hT) $$ Htok
  unfold fresh pos
  isplitl [Hst]; · iexact Hst
  isplitl [Hr]; · iexact Hr
  isplitl [Hat] <;> iassumption

/-- Each device's positions and the tokens of the copies it issues. -/
def tools (c : Dev nD) : sProp 𝕄 :=
  iprop((bigSep Finset.univ fun j : J => (pos W c j : sProp 𝕄)) ∗ bigSep Finset.univ fun j : J => (tok W c j : sProp 𝕄))

/-- The counters at zero and the fresh ghost state become the records and every device's tools. -/
theorem deal :
    iprop((bigSep Finset.univ fun c : Dev nD => Pipeline.ownSems0 (Ix := Unit) (Name := ℕ) (U := UU nD τ sig) (Lvl := ℕ) (Val := Val) (τ := τ) W.at_ c) ∗ fresh W H)
      ⊢ (|={Set.univ}=> ∃ K : Dev nD × J → ℕ, records W H K ∗ bigSep Finset.univ fun c : Dev nD => tools W c : sProp 𝕄) := by
  have htok : (bigSep Finset.univ fun cj : Dev nD × J => (dutyTok (ER nD τ sig Val) (W.cell τ cj.1 cj.2) 0 () : sProp 𝕄))
      = bigSep Finset.univ fun c : Dev nD => bigSep Finset.univ fun j : J => tok W c j := by
    rw [bigSep_univ_equiv W.pair (fun cj : Dev nD × J => (dutyTok (ER nD τ sig Val) (W.cell τ cj.1 cj.2) 0 () : sProp 𝕄)), bigSep_univ_prod]
    rfl
  have hpos : (bigSep Finset.univ fun cj : Dev nD × J => (pos W cj.1 cj.2 : sProp 𝕄))
      = bigSep Finset.univ fun c : Dev nD => bigSep Finset.univ fun j : J => pos W c j := bigSep_univ_prod _
  have hsem : (bigSep Finset.univ fun c : Dev nD => Pipeline.ownSems0 (Ix := Unit) (Name := ℕ) (U := UU nD τ sig) (Lvl := ℕ) (Val := Val) (τ := τ) W.at_ c)
      = (bigSep Finset.univ fun cj : Dev nD × J => semVal (W.cell τ cj.1 cj.2) 0 : sProp 𝕄) :=
    (bigSep_univ_prod (fun cj : Dev nD × J => (semVal (W.cell τ cj.1 cj.2) 0 : sProp 𝕄))).symm
  rw [hsem]
  unfold fresh tools
  rw [htok, hpos]
  iintro ⟨Hv, Hst, Hr, Hat, Htok⟩
  imod (show iprop((bigSep Finset.univ fun cj : Dev nD × J => semVal (W.cell τ cj.1 cj.2) 0)
        ∗ bigSep Finset.univ fun cj : Dev nD × J => roundState (ER nD τ sig Val) (sched W H) (W.cell τ cj.1 cj.2) 0)
      ⊢ (|={Set.univ}=> bigSep Finset.univ fun cj : Dev nD × J => iprop(∃ κ : ℕ, cellInv (ER nD τ sig Val) (sched W H) κ (W.cell τ cj.1 cj.2)) : sProp 𝕄) from by
        rw [← bigSep_sep']
        exact (bigSep_mono fun cj _ => (Rounds.body_intro (ER nD τ sig Val) (sched W H) (W.cell τ cj.1 cj.2)).trans inv_alloc).trans (bigSep_fupd _ _)) $$ [Hv Hst] with HI
  · isplitl [Hv] <;> iassumption
  ihave HK := (BI.bigSep_exists_pi Finset.univ (fun (cj : Dev nD × J) (κ : ℕ) => (cellInv (ER nD τ sig Val) (sched W H) κ (W.cell τ cj.1 cj.2) : sProp 𝕄))) $$ HI
  icases HK with ⟨%K, HI⟩
  imodintro
  iexists K
  isplitl [HI Hr]
  · unfold records
    isplitl [HI] <;> iassumption
  · rw [bigSep_sep']
    isplitl [Hat] <;> iassumption

/-- The launch credit of a device is the credit of its receive semaphores. -/
theorem credits (c : Dev nD) :
    (Pipeline.launchCred (fun c => W.owed τ c W.far) c : sProp 𝕄) ⊢ bigSep W.far fun j => due W c j := by
  have hcell : ∀ j ∈ W.far, tallyOn (W.cell τ c j) (launchCredit (Pipeline.owing fun c => W.owed τ c W.far) 0 (W.cell τ c j))
      = (tallyAt (W.cell τ c j) () (W.amt j) : CellTallies nD τ sig Unit) := fun j hj => by
    unfold tallyAt; refine congrArg _ (Finsupp.ext fun u => ?_); cases u
    rw [Pipeline.launchCredit_owing, Finsupp.single_eq_same]
    have hd : ∀ d : Dev nD, W.owed τ d W.far (W.cell τ c j) () = if d = (W.dest j).symm c then W.amt j else 0 := fun d => by
      unfold Wires.owed
      rw [Finset.sum_apply, Finsupp.finset_sum_apply, Finset.sum_eq_single j]
      · rw [tallyAt_apply]
        by_cases h : d = (W.dest j).symm c
        · subst h; rw [Equiv.apply_symm_apply, if_pos ⟨rfl, rfl⟩, if_pos rfl]
        · rw [if_neg, if_neg h]
          rintro ⟨h1, -⟩
          have : c = W.dest j d := congrArg (fun g : GSem nD τ sig => g.1.1) h1
          exact h (by rw [this, Equiv.symm_apply_apply])
      · intro i _ hi
        rw [tallyAt_apply, if_neg]
        rintro ⟨h1, -⟩
        exact hi (W.at_inj (congrArg (fun g : GSem nD τ sig => g.2) h1)).symm
      · exact fun h => absurd hj h
    rw [Finset.sum_congr rfl fun d _ => hd d, Finset.sum_ite_eq' Finset.univ _ fun _ => W.amt j, if_pos (Finset.mem_univ _)]
  unfold Pipeline.launchCred
  refine (bigSep_subset (s := Finset.univ) (t := W.far.map ⟨W.at_, fun _ _ => W.at_inj⟩) (Finset.subset_univ _)).trans ?_
  rw [bigSep_map]
  refine bigSep_mono fun j hj => ?_
  unfold due
  rw [← hcell j hj]
  exact Entails.of_eq (PROP := sProp 𝕄) rfl

/-! ## The rules -/

variable {Λ : Labels} {defs : Defs nD τ sig Val Λ} (𝒱 : Variants)

/-- A remote copy: the sender gives the source and the peer's destination buffer (dealt to it), pays the peer's receive
    semaphore and gets the credit for its own send semaphore. -/
theorem wp_send (K : Dev nD × J → ℕ) (c n : Dev nD) (i j : J) (hi : W.dest i c = c) (hn : n = W.dest j c)
    {S S' : Finset J} (hj : j ∈ S) (hS' : S.erase j = S') (hij : W.amt i = W.amt j)
    {sp sp' : Space} {s : Shape} {e : EltTy} {src : Memref sig .tc sp s e} {dst : Memref sig .tc sp' s e}
    {sS sR : DmaSem sig} (hS : sS = W.sem i) (hR : sR = W.sem j) (hamt : dst.view.dmaCredit = W.amt j)
    {hsc : (dst : Memref sig (Dev.tc n : Thread nD τ).2.kind sp' s e).view.ref.isScScratch = false}
    {hsrc : src.view.WordExact} {hdst : dst.view.WordExact}
    {hsem : DmaTarget.Typed sp (.dma sR) (.remote (Dev.tc n : Thread nD τ) dst (.dma sS) hsc)} (q : PosShare TreeShare)
    (fs : Buf Val (src.view.loc (c.tc : Thread nD τ))) (fd : Buf Val (dst.view.loc ((W.dest j c).tc : Thread nD τ)))
    (hpay₁ : (src.view.loc (c.tc : Thread nD τ) ↦[src.view.set]{q} fs) ⊢ H.pay i c)
    (hpay₂ : (dst.view.loc ((W.dest j c).tc : Thread nD τ) ↦[dst.view.set]{fullShare} (dst.view.write Val fd (src.view.read Val fs) Finset.univ)) ⊢ H.pay j (W.dest j c))
    {A B : sProp 𝕄} (hA : A ⊢ (src.view.loc (c.tc : Thread nD τ) ↦[src.view.set]{q} fs))
    (hB : B ⊢ (dst.view.loc ((W.dest j c).tc : Thread nD τ) ↦[dst.view.set]{fullShare} fd))
    {α : Type} {k : PUnit → Prog (TpuEff nD τ sig Val Λ .tc) α} {Q : α → sProp 𝕄} :
    iprop(records W H K ∗ tok W c i ∗ tok W c j ∗ owing W c S ∗ A ∗ B)
      ⊢ iprop(((due W c i ∗ owing W c S') -∗ wp frame (wpE defs 𝒱 (c.tc : Thread nD τ) none) Set.univ (k ⟨⟩) Q)
          -∗ wp frame (wpE defs 𝒱 (c.tc : Thread nD τ) none) Set.univ
              (.op (.enqueueDma src (.remote (Dev.tc n : Thread nD τ) dst (.dma sS) hsc) (.dma sR) hsrc hdst hsem) k) Q) := by
  subst hn hS hR hS'
  unfold owing tok due
  rw [hi, hij]
  iintro ⟨#HK, Hti, Htj, ⟨%V, HO⟩, Hs, Hd⟩ Hk
  iapply (Rounds.wp_send_pointsTo 𝒱 (ER nD τ sig Val) (sched W H) (c.tc : Thread nD τ) none (κ₁ := K (c, i)) (κ₂ := K (W.dest j c, j))
    (r₁ := 0) (r₂ := 0) (d₁ := ()) (d₂ := ()) (fs := fs) (fd := fd)
    (by rw [duties_cell]; exact Finset.mem_singleton_self _) (by rw [duties_cell]; exact Finset.mem_singleton_self _)
    () () (W.amt j) (by rw [View.amount_dma]; exact hamt) ((amount_cell W H c i ()).trans hij) (amount_cell W H (W.dest j c) j ())
    (W.owed τ c (S.erase j)) (W.owed_erase c hj) (W := V)
    (by rw [payload_cell]; exact hpay₁) (by rw [payload_cell]; exact hpay₂)) $$ [Hti Htj HO Hs Hd]
  · isplitr; · iapply (records_inv W H K c i); iexact HK
    isplitr; · iapply (records_inv W H K (W.dest j c) j); iexact HK
    isplitl [Hs]; · iapply hA; iexact Hs
    isplitl [Hd]; · iapply hB; iexact Hd
    isplitl [HO]; · iexact HO
    isplitl [Hti]; · iexact Hti
    isplitr; · iapply (records_reached W H K c i); iexact HK
    isplitl [Htj]; · iexact Htj
    iapply (records_reached W H K (W.dest j c) j); iexact HK
  iintro ⟨Hc, HO⟩
  iapply Hk
  isplitl [Hc]; · iexact Hc
  iexists V; iexact HO

/-- A wait: the device gets what the copy hands over, and its semaphore back at zero. -/
theorem wp_wait (K : Dev nD × J → ℕ) (c : Dev nD) (j : J) (S : Finset J) (hS : ∀ i ∈ S, W.rank j < W.rank i)
    {sp sp' : Space} {s s' : Shape} {e e' : EltTy} {src : Memref sig .tc sp' s' e'} {κ' : Kind} {dst : Memref sig κ' sp s e}
    {sR : DmaSem sig} (hR : sR = W.sem j) (hamt : dst.view.dmaCredit = W.amt j)
    {hsrc : src.view.WordExact} {hdst : dst.view.WordExact}
    {C : sProp 𝕄} (hC : H.pay j c ⊢ C)
    {α : Type} {k : PUnit → Prog (TpuEff nD τ sig Val Λ .tc) α} {Q : α → sProp 𝕄} :
    iprop(records W H K ∗ levAts (Wires.L nD τ sig) (W.lv τ) ∗ pos W c j ∗ due W c j ∗ owing W c S)
      ⊢ iprop(((C ∗ semVal (W.cell τ c j) 0 ∗ owing W c S) -∗ wp frame (wpE defs 𝒱 (c.tc : Thread nD τ) none) Set.univ (k ⟨⟩) Q)
          -∗ wp frame (wpE defs 𝒱 (c.tc : Thread nD τ) none) Set.univ (.op (.waitDma2 sR src dst hsrc hdst) k) Q) := by
  subst hR
  unfold owing pos due
  iintro ⟨#HK, #Hlev, Hat, Hc, ⟨%V, HO⟩⟩ Hk
  iapply (Rounds.wp_wait_rest_token 𝒱 (ER nD τ sig Val) (sched W H) (c.tc : Thread nD τ) none (κ := K (c, j))
      (wpE_waitDma2_eq 𝒱 (c.tc : Thread nD τ) none Set.univ) (Set.mem_univ _) () (O := W.owed τ c S) (W := V) (R := 0) (m := 0) (T := ∅)
      (by rw [Nat.zero_add, expect_cell, hamt])) $$ [Hc HO Hat]
  · isplitr; · iapply (records_inv W H K c j); iexact HK
    isplitl [Hc]; · rw [hamt]; iexact Hc
    isplitl [HO]; · iexact HO
    isplitr; · iapply (W.mayWait c j S hS); iexact Hlev
    iexact Hat
  iintro ⟨HO, Hat, -, Hpay⟩
  ihave Hp := (Entails.of_eq (rest_cell W H c j)) $$ Hpay
  iapply (fupd_wp frame (wpE defs 𝒱 (c.tc : Thread nD τ) none) Set.univ _ _)
  imod (Rounds.cell_close (ER nD τ sig Val) (sched W H) (Set.mem_univ (K (c, j))) (fun h => h) (R := 0 + 1) (duties_later W H (W.cell τ c j))) $$ [Hat] with Hz
  · isplitr; · iapply (records_inv W H K c j); iexact HK
    iexact Hat
  imodintro
  iapply Hk
  isplitl [Hp]; · iapply hC; iexact Hp
  isplitl [Hz]; · iexact Hz
  iexists _; iexact HO

end Talk

end
-- ==== Proof.Talk.Exchange.lean ====
/-
# Running a program that opens with an exchange

The opening region is an exchange over a family of wires (`Talk.Cells`) whose operands stay where they are: it has no
window, no table and no scratch buffer. From the body of one device — which starts with the records, its tools, the credit
it is owed and its buffers, and ends with its buffers and every semaphore at zero — this module makes the opening region
and the launch theorem of the program.
-/
module

public import proofs.«01_k».proof.Proof.Talk.Launch
public import proofs.«01_k».proof.Proof.Talk.Cells

@[expose] public section

set_option Elab.async false

noncomputable section

namespace Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {J : Type} [Fintype J] [DecidableEq J]
variable {Λ₀ : Idealize.SL.Sem.Labels} {P : Type} [Fintype P]

local notation "𝕄" => MT nD τ sig Unit Val ℕ (UU nD τ sig) ℕ

variable (W : Wires nD sig J) (H : Handover nD τ sig Val J)
  (before after : Dev nD → sProp (MT nD τ sig Unit Val ℕ (UU nD τ sig) ℕ))

/-- The credit of every semaphore a peer pays. -/
def dues (c : Dev nD) : sProp 𝕄 := bigSep W.far fun j => due W c j

/-- The state of the exchange on device `c` before its body, without what it owes, -/
def start (c : Dev nD) : sProp 𝕄 :=
  iprop((∃ K, records W H K ∗ tools W c) ∗ levAts (Wires.L nD τ sig) (W.lv τ) ∗ dues W c ∗ before c)
/-- and after it. -/
def finish (c : Dev nD) : sProp 𝕄 := iprop(after c ∗ bigSep Finset.univ fun j : J => semVal (W.cell τ c j) 0)

/-- The region's proof data: no windows. -/
def exchangeDat (cfg : Cfg sig Λ₀) (hW : IsEmpty (Fin cfg.W)) (c : Dev nD) : Dat τ Val Unit ℕ (UU nD τ sig) ℕ cfg c where
  A w := hW.elim w
  after w := hW.elim w
  Φ t := if t.val = 0 then start W H before c else finish W after c
  q _ := fullShare
  owed t := if t.val = 0 then W.owed τ c W.far else 0

theorem bigSep_none {I : Type} [Fintype I] (h : IsEmpty I) (Φ : I → sProp 𝕄) : bigSep Finset.univ Φ = iprop(emp) := by
  rw [Finset.univ_eq_empty]; exact bigSep_empty

theorem phi_zero (cfg : Cfg sig Λ₀) (hW : IsEmpty (Fin cfg.W)) (c : Dev nD) (t : Fin (cfg.N + 1)) (h : t.val = 0) :
    (exchangeDat W H before after cfg hW c).Φ t = start W H before c := by
  unfold exchangeDat; dsimp only; rw [if_pos h]
theorem phi_pos (cfg : Cfg sig Λ₀) (hW : IsEmpty (Fin cfg.W)) (c : Dev nD) (t : Fin (cfg.N + 1)) (h : t.val ≠ 0) :
    (exchangeDat W H before after cfg hW c).Φ t = finish W after c := by
  unfold exchangeDat; dsimp only; rw [if_neg h]

/-- A bound that bounds nothing. -/
theorem within_eq (c : Dev nD) (O : CellTallies nD τ sig Unit) {B : Set (SemLoc sig × Unit)} (hB : ∀ V : Waits sig Unit, (↑V : Set (SemLoc sig × Unit)) ⊆ B) :
    (iprop(∃ V : Waits sig Unit, ⌜(↑V : Set (SemLoc sig × Unit)) ⊆ B⌝ ∗ owes (c.tc : Thread nD τ) O V) : sProp 𝕄) = iprop(∃ V, owes (c.tc : Thread nD τ) O V) := by
  have h1 : (iprop(∃ V : Waits sig Unit, ⌜(↑V : Set (SemLoc sig × Unit)) ⊆ B⌝ ∗ owes (c.tc : Thread nD τ) O V) : sProp 𝕄) ⊢ iprop(∃ V, owes (c.tc : Thread nD τ) O V) := by
    iintro ⟨%V, -, HO⟩
    iexists V; iexact HO
  have h2 : (iprop(∃ V, owes (c.tc : Thread nD τ) O V) : sProp 𝕄) ⊢ iprop(∃ V : Waits sig Unit, ⌜(↑V : Set (SemLoc sig × Unit)) ⊆ B⌝ ∗ owes (c.tc : Thread nD τ) O V) := by
    iintro ⟨%V, HO⟩
    iexists V
    isplitr; · ipureintro; exact hB V
    iexact HO
  exact Idealize.SL.BI.Entails.antisymm h1 h2

theorem owesAt_zero (cfg : Cfg sig Λ₀) (hW : IsEmpty (Fin cfg.W)) (c : Dev nD) (t : Fin (cfg.N + 1)) (h : t.val = 0) :
    (exchangeDat W H before after cfg hW c).owesAt () t = owing W c W.far := by
  have hb : ∀ V : Waits sig Unit, (↑V : Set (SemLoc sig × Unit)) ⊆ (exchangeDat W H before after cfg hW c).recorded t ∪ cfg.waitPairs () := fun V _ _ => Or.inl trivial
  have ho : (exchangeDat W H before after cfg hW c).owed t = W.owed τ c W.far := if_pos h
  unfold Dat.owesAt owing
  rw [ho]
  unfold Pipeline.owesWithin
  exact within_eq c _ hb

theorem owesAt_pos (cfg : Cfg sig Λ₀) (hW : IsEmpty (Fin cfg.W)) (c : Dev nD) (t : Fin (cfg.N + 1)) (h : t.val ≠ 0) :
    (exchangeDat W H before after cfg hW c).owesAt () t = owing W c ∅ := by
  have hb : ∀ V : Waits sig Unit, (↑V : Set (SemLoc sig × Unit)) ⊆ (exchangeDat W H before after cfg hW c).recorded t ∪ cfg.waitPairs () := fun V _ _ => Or.inl trivial
  have ho : (exchangeDat W H before after cfg hW c).owed t = W.owed τ c ∅ := (if_neg h).trans (W.owed_empty c).symm
  unfold Dat.owesAt owing
  rw [ho]
  unfold Pipeline.owesWithin
  exact within_eq c _ hb

/-- What one device's body must do. -/
def BodyRuns (defs₀ : Defs nD τ sig Val Λ₀) (𝒱₀ : Variants) (c : Dev nD) {α : Type} (body : Prog (TpuEff nD τ sig Val Λ₀ .tc) α) : Prop :=
  ∀ K : Dev nD × J → ℕ,
    iprop(records W H K ∗ tools W c ∗ levAts (Wires.L nD τ sig) (W.lv τ) ∗ dues W c ∗ before c ∗ owing W c W.far)
      ⊢ wp frame (wpE defs₀ 𝒱₀ (c.tc : Thread nD τ) none) Set.univ body fun _ =>
          iprop(after c ∗ (bigSep Finset.univ fun j : J => semVal (W.cell τ c j) 0) ∗ owing W c ∅)

variable (pcs : P → PCfg sig Λ₀ Val) (a : (p : P) → (pcs p).Adm)
  (pdats : (p : P) → (c : Dev nD) → Dat τ Val Unit ℕ (UU nD τ sig) ℕ (pin pcs a p) c)
  (defs₀ : Defs nD τ sig Val Λ₀) (𝒱₀ : Variants)
  (rest : Dev nD → sProp (MT nD τ sig Unit Val ℕ (UU nD τ sig) ℕ))

theorem exchange_body (p : P) (hW : IsEmpty (Fin (pin pcs a p).W)) (hN : (pin pcs a p).N = 1) (c : Dev nD)
    (hb : ∀ t : Fin (pin pcs a p).N, BodyRuns W H before after defs₀ 𝒱₀ c (defs₀ .tc (pin pcs a p).body ((pin pcs a p).bodyArgs t ((pin pcs a p).slots t)))) :
    BodyObligationLoose (exchangeDat W H before after (pin pcs a p) hW c) defs₀ 𝒱₀ () Set.univ := fun t => by
  have ht : t.val = 0 := by have := t.isLt; omega
  have h0 : (t.castSucc).val = 0 := ht
  have h1 : (t.succ).val ≠ 0 := by rw [Fin.val_succ]; omega
  rw [bigSep_none hW, bigSep_none hW, owesAt_zero _ _ _ _ _ _ _ _ h0, owesAt_pos _ _ _ _ _ _ _ _ h1,
    phi_zero _ _ _ _ _ _ _ _ h0,
    phi_pos _ _ _ _ _ _ _ _ h1]
  refine BI.Entails.trans ?_ (wp_mono frame (wpE defs₀ 𝒱₀ (c.tc : Thread nD τ) none) Set.univ (Q := fun _ =>
      iprop(after c ∗ (bigSep Finset.univ fun j : J => semVal (W.cell τ c j) 0) ∗ owing W c ∅)) (fun _ => ?_))
  case refine_2 =>
    have hx : ∀ A B C : sProp 𝕄, iprop(A ∗ B ∗ C) ⊢ iprop((A ∗ B) ∗ C ∗ emp) := fun A B C => by
      iintro ⟨Ha, Hz, HO⟩
      isplitl [Ha Hz]
      · isplitl [Ha] <;> iassumption
      isplitl [HO]; · iexact HO
      iempintro
    exact hx _ _ _
  have hx : ∀ (A : (Dev nD × J → ℕ) → sProp 𝕄) (B C D E G : sProp 𝕄) (hk : ∀ K, iprop(A K ∗ B ∗ C ∗ D ∗ E) ⊢ G),
      iprop(((∃ K, A K) ∗ B ∗ C ∗ D) ∗ E ∗ emp) ⊢ G := fun A B C D E G hk => by
    iintro ⟨⟨⟨%K, HA⟩, HB, HC, HD⟩, HE, -⟩
    iapply (hk K)
    isplitl [HA]; · iexact HA
    isplitl [HB]; · iexact HB
    isplitl [HC]; · iexact HC
    isplitl [HD] <;> iassumption
  refine hx (fun K => iprop(records W H K ∗ tools W c)) _ _ _ _ _ fun K => BI.Entails.trans ?_ (hb t K)
  have hy : ∀ A B C D E G : sProp 𝕄, iprop((A ∗ B) ∗ C ∗ D ∗ E ∗ G) ⊢ iprop(A ∗ B ∗ C ∗ D ∗ E ∗ G) := fun A B C D E G => by
    iintro ⟨⟨HA, HB⟩, HC⟩
    isplitl [HA]; · iexact HA
    isplitl [HB] <;> iassumption
  exact hy _ _ _ _ _ _

/-- The exchange as the opening region of a program. -/
def exchange (p : P) (hdat : ∀ c, ∃ hW, pdats p c = exchangeDat W H before after (pin pcs a p) hW c)
    (hW : IsEmpty (Fin (pin pcs a p).W)) (hN : (pin pcs a p).N = 1)
    (win : WinFacts₀ (pcs p).spec) (hK : IsEmpty (Fin (pcs p).pre.K)) (ho : OwnSemFacts (pcs p).spec W.at_)
    (hsc : ∀ c, (scopedRest (pin pcs a p).spec c : sProp 𝕄) = iprop(emp))
    (hb : ∀ c (t : Fin (pin pcs a p).N), BodyRuns W H before after defs₀ 𝒱₀ c (defs₀ .tc (pin pcs a p).body ((pin pcs a p).bodyArgs t ((pin pcs a p).slots t)))) :
    Opening pcs a pdats defs₀ 𝒱₀ (Wires.L nD τ sig) (W.lv τ) p where
  win := win
  block_pos w := hW.elim w
  stage_whole w := hW.elim w
  K := J
  osem := W.at_
  ho := ho
  hbody c := by obtain ⟨hW', h⟩ := hdat c; rw [h]; exact exchange_body W H before after pcs a defs₀ 𝒱₀ p hW' hN c (hb c)
  hwaits c := by
    have : (cellsWaits (pin pcs a) pdats () p c : sProp 𝕄) = iprop(emp) := bigSep_none hW _
    rw [this]
    exact BI.Affine.affine
  pre c := iprop((∃ K, records W H K ∗ tools W c) ∗ dues W c ∗ before c ∗ rest c ∗ owing W c W.far)
  post c := iprop(after c ∗ rest c ∗ owing W c ∅)
  X c := start W H before c
  Y c := after c
  Z c := rest c
  hentry c := by
    obtain ⟨hW', h⟩ := hdat c
    have h0 : ∀ n, ((0 : Fin (n + 1)) : ℕ) = 0 := fun _ => rfl
    rw [h, owesAt_zero _ _ _ _ _ _ _ _ (h0 _)]
    unfold Dat.arrays prefHeld start
    rw [bigSep_none hW, bigSep_none hK]
    iintro ⟨⟨HK, Hd, Hb, Hr, HO⟩, Hl⟩
    imodintro
    isplitr; · iempintro
    isplitr; · iempintro
    isplitl [HO]; · iexact HO
    isplitr [Hr]
    · isplitl [HK]; · iexact HK
      isplitl [Hl]; · iexact Hl
      isplitl [Hd] <;> iassumption
    · iexact Hr
  hin c := by
    obtain ⟨hW', h⟩ := hdat c
    have h0 : ∀ n, ((0 : Fin (n + 1)) : ℕ) = 0 := fun _ => rfl
    rw [h, phi_zero _ _ _ _ _ _ _ _ (h0 (pin pcs a p).N)]
    iintro ⟨HX, -, -⟩
    iexact HX
  hout c := by
    obtain ⟨hW', h⟩ := hdat c
    rw [h, phi_pos _ _ _ _ _ _ _ _ (by rw [Fin.val_last]; omega), hsc]
    unfold finish ownSems0
    iintro ⟨Ha, Hz⟩
    isplitl [Ha]; · iexact Ha
    isplitl [Hz]; · iexact Hz
    iempintro
  hexit c := by
    obtain ⟨hW', h⟩ := hdat c
    rw [h, owesAt_pos _ _ _ _ _ _ _ _ (by rw [Fin.val_last]; omega)]
    iintro ⟨-, HO, HY, HZ⟩
    imodintro
    isplitl [HY]; · iexact HY
    isplitl [HZ] <;> iassumption

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h1 : iprop(R ∗ bigSep S Φ) ⊢ iprop((bigSep S fun _ => R) ∗ bigSep S Φ) := by
    iintro ⟨#HR, HΦ⟩
    isplitr
    · iapply (BI.bigSep_intro_persistent (S := S) fun (_ : I) _ => (BI.Entails.refl (R : sProp 𝕄)))
      iexact HR
    · iexact HΦ
  refine h1.trans ?_
  rw [← bigSep_sep']
  exact bigSep_mono h

/-- The deal at launch: the counters, the arrays, the credits and the ghost state make every device's opening state,
    given how the arrays are dealt. -/
theorem exchange_deal (m : (ℓ : Loc nD τ sig) → Buf Val ℓ) (g : Dev nD → PrngReg)
    (hbuf : (bigSep Finset.univ fun c : Dev nD => unscopedBufs c (fun b => m ((c.tc : Thread nD τ).loc b)))
      ⊢ (bigSep Finset.univ fun c : Dev nD => iprop(before c ∗ rest c) : sProp 𝕄)) :
    iprop((bigSep Finset.univ fun c : Dev nD => ownSems0 W.at_ c)
        ∗ (bigSep Finset.univ fun c : Dev nD => held m g (fun c => W.owed τ c W.far) c) ∗ fresh W H)
      ⊢ (|={Set.univ}=> bigSep Finset.univ fun c : Dev nD =>
          iprop((∃ K, records W H K ∗ tools W c) ∗ dues W c ∗ before c ∗ rest c ∗ owing W c W.far) : sProp 𝕄) := by
  have hheld : (bigSep Finset.univ fun c : Dev nD => held m g (fun c => W.owed τ c W.far) c)
      ⊢ (iprop((bigSep Finset.univ fun c : Dev nD => iprop(before c ∗ rest c)) ∗ bigSep Finset.univ fun c : Dev nD => iprop(owing W c W.far ∗ dues W c)) : sProp 𝕄) := by
    refine (bigSep_mono fun c _ => (?_ : held m g (fun c => W.owed τ c W.far) c ⊢ iprop(unscopedBufs c (fun b => m ((c.tc : Thread nD τ).loc b)) ∗ (owing W c W.far ∗ dues W c)))).trans ?_
    · unfold held owing dues
      iintro ⟨Hb, -, HO, Hc, -⟩
      isplitl [Hb]; · iexact Hb
      isplitl [HO]; · iexists ∅; iexact HO
      iapply (credits W c); iexact Hc
    · rw [bigSep_sep']
      exact sep_mono_left hbuf
  have hshare : ∀ K : Dev nD × J → ℕ, iprop(records W H K ∗ bigSep Finset.univ fun c : Dev nD => iprop(tools W c ∗ (before c ∗ rest c) ∗ (owing W c W.far ∗ dues W c)))
      ⊢ (bigSep Finset.univ fun c : Dev nD => iprop((∃ K, records W H K ∗ tools W c) ∗ dues W c ∗ before c ∗ rest c ∗ owing W c W.far) : sProp 𝕄) := fun K =>
    bigSep_with fun c _ => by
      iintro ⟨#HK, HT, ⟨Hb, Hr⟩, HO, Hd⟩
      isplitl [HT]
      · iexists K
        isplitr; · iexact HK
        iexact HT
      isplitl [Hd]; · iexact Hd
      isplitl [Hb]; · iexact Hb
      isplitl [Hr] <;> iassumption
  iintro ⟨Hs, Hh, HF⟩
  ihave Hh := hheld $$ Hh
  icases Hh with ⟨Hb, Ho⟩
  imod (deal W H) $$ [Hs HF] with ⟨%K, HK, HT⟩
  · isplitl [Hs] <;> iassumption
  imodintro
  iapply (hshare K)
  isplitl [HK]; · iexact HK
  iapply (Entails.of_eq (show (iprop((bigSep Finset.univ fun c : Dev nD => tools W c) ∗ (bigSep Finset.univ fun c : Dev nD => iprop(before c ∗ rest c))
      ∗ bigSep Finset.univ fun c : Dev nD => iprop(owing W c W.far ∗ dues W c)) : sProp 𝕄)
    = bigSep Finset.univ fun c : Dev nD => iprop(tools W c ∗ (before c ∗ rest c) ∗ (owing W c W.far ∗ dues W c)) by simp only [bigSep_sep']))
  isplitl [HT]; · iexact HT
  isplitl [Hb] <;> iassumption

/-- THE LAUNCH of a program that opens with an exchange and then runs the segments `l`. -/
theorem θ_run_exchange (phinj : Function.Injective (Pipeline.cellOf (nD := nD) (τ := τ) (pin pcs a))) [DecidableEq P] [∀ e, Nonempty (Val e)] (p : P)
    (hdat : ∀ c, ∃ hW, pdats p c = exchangeDat W H before after (pin pcs a p) hW c)
    (hW : IsEmpty (Fin (pin pcs a p).W)) (hN : (pin pcs a p).N = 1)
    (win : WinFacts₀ (pcs p).spec) (hK : IsEmpty (Fin (pcs p).pre.K)) (ho : OwnSemFacts (pcs p).spec W.at_)
    (hsc : ∀ c, (scopedRest (pin pcs a p).spec c : sProp 𝕄) = iprop(emp))
    (hb : ∀ c (t : Fin (pin pcs a p).N), BodyRuns W H before after defs₀ 𝒱₀ c (defs₀ .tc (pin pcs a p).body ((pin pcs a p).bodyArgs t ((pin pcs a p).slots t))))
    (m : (ℓ : Loc nD τ sig) → Buf Val ℓ) (g : Dev nD → PrngReg)
    (hbuf : (bigSep Finset.univ fun c : Dev nD => unscopedBufs c (fun b => m ((c.tc : Thread nD τ).loc b)))
      ⊢ (bigSep Finset.univ fun c : Dev nD => iprop(before c ∗ rest c) : sProp 𝕄))
    (main : Dev nD → Prog (TpuEff nD τ sig Val (Sig Λ₀ P fun p => (pcs p).Adm) .tc) PUnit)
    (l : Dev nD → List (Seg pcs a pdats () defs₀ 𝒱₀ (Wires.L nD τ sig) (W.lv τ)))
    (hmain : ∀ c, main c = .op (.customCall (entry p) ()) fun _ => Seg.run (l c))
    (hnd : ∀ c, (Seg.pipes (l c)).Nodup) (hp : ∀ c, p ∉ Seg.pipes (l c))
    (Tₙ : Dev nD → sProp 𝕄)
    (hch : ∀ c, Seg.ChainsAt c (fun c => iprop(after c ∗ rest c ∗ owing W c ∅)) (l c)
      fun c => iprop(Tₙ c ∗ ∃ V, owes (c.tc : Thread nD τ) (0 : CellTallies nD τ sig Unit) V))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q :=
  θ_run_opening pcs a pdats phinj (EP nD τ sig Val) defs₀ 𝒱₀ (Wires.L nD τ sig) (W.lv τ)
    (exchange W H before after pcs a pdats defs₀ 𝒱₀ rest p hdat hW hN win hK ho hsc hb) m g main l hmain hnd hp
    (fun c => W.owed τ c W.far) Wires.L_of_ne (fresh W H)
    (initOf (Pipeline.cells (pin pcs a) phinj) (launchToks (pin pcs a) phinj), u₁ W τ)
    (by
      iintro Hu
      ihave Hu := (ownU_pair _ _) $$ Hu
      icases Hu with ⟨HP, HX⟩
      imod (fund_fresh W H) $$ HX with HF
      imodintro
      isplitl [HP] <;> iassumption)
    (exchange_deal W H before rest m g hbuf) Tₙ hch QY hfin hQ

end Talk

end
-- ==== Proof.Talk.Mesh.lean ====
/-
# The mesh and the buffers on it

Eight devices on a 2 × 2 × 2 mesh: device `c` has logical id `4x + 2y + c`, so a peer is reached by an exclusive or with the
id. Beside the peers, this module has the few facts on owned buffers that every exchange here uses: cutting a view out of a
buffer and putting it back, and reading final memories.
-/
module

public import proofs.«01_k».proof.Proof.Talk.Exchange

@[expose] public section

noncomputable section

namespace Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- The peer of each device in direction `k`: 1 is the other core of the chip, 2 the chip along y, 4 the chip along x. -/
def across (k : Fin 8) : Equiv.Perm (Dev 8) where
  toFun c := ⟨c.val ^^^ k.val, by revert c k; decide⟩
  invFun c := ⟨c.val ^^^ k.val, by revert c k; decide⟩
  left_inv c := by revert c k; decide
  right_inv c := by revert c k; decide

theorem across_across (k : Fin 8) (c : Dev 8) : across k (across k c) = c := (across k).left_inv c
theorem across_symm (k : Fin 8) : (across k).symm = across k := rfl

section Buffers

variable {nD : Nat} {τ : Topo} {sig : RefSig} {Val : EltTy → Type}

local notation "𝕄" => MT nD τ sig Unit Val ℕ (UU nD τ sig) ℕ

/-- A part of a buffer, and the rest of it. -/
theorem cut {ℓ : Loc nD τ sig} (I : Finset (Idx ℓ)) (q : PosShare TreeShare) (f : Buf Val ℓ) :
    (ℓ ↦{q} f : sProp 𝕄) = iprop((ℓ ↦[I]{q} f) ∗ ℓ ↦[Finset.univ \ I]{q} f) :=
  Idealize.SL.BI.Entails.antisymm (pointsTo_split_subset (Finset.subset_univ I)).1 (pointsTo_split_subset (Finset.subset_univ I)).2

/-- An owned part of a buffer can be handed over by a landing. -/
theorem part_stored (ℓ : Loc nD τ sig) (I : Finset (Idx ℓ)) (q : PosShare TreeShare) (f : Buf Val ℓ) :
    BI.Storable (upEmb : UEmb _ 𝕄) (ℓ ↦[I]{q} f : sProp 𝕄) := inferInstance

/-- A whole buffer read off a final state. -/
theorem read_one {ℓ : Loc nD τ sig} {q : PosShare TreeShare} {f : Buf Val ℓ} {s : Phys nD τ sig Val} :
    iprop((ℓ ↦{q} f) ∗ SI s) ⊢ (iprop(⌜s.mem.mem ℓ = f⌝ ∗ SI s) : sProp 𝕄) := by
  iintro ⟨H, HS⟩
  icombine HS H gives %h
  isplitr
  · ipureintro; exact Buf.eq_of_forall_mem_univ h
  · iexact HS

/-- Two facts read off a final state in turn. -/
theorem read_sep {A B : sProp 𝕄} {φ ψ : Prop} {s : Phys nD τ sig Val} (ha : iprop(A ∗ SI s) ⊢ iprop(⌜φ⌝ ∗ SI s))
    (hb : iprop(B ∗ SI s) ⊢ iprop(⌜ψ⌝ ∗ SI s)) : iprop((A ∗ B) ∗ SI s) ⊢ iprop(⌜φ ∧ ψ⌝ ∗ SI s) := by
  iintro ⟨⟨HA, HB⟩, HS⟩
  icases ha $$ [HA HS] with ⟨%h₁, HS⟩
  · isplitl [HA] <;> iassumption
  icases hb $$ [HB HS] with ⟨%h₂, HS⟩
  · isplitl [HB] <;> iassumption
  isplitr
  · ipureintro; exact ⟨h₁, h₂⟩
  · iexact HS

end Buffers

end Talk

end
-- ==== Proof.SwapHalves.lean ====
/-
# The swap of gradient halves: every run of `SwapHalves`

Each device sends, of both gradient arrays, the half its sibling core reduces, straight into the sibling's result buffers, and
waits for its own sends and for the sibling's. Wires 0 and 1 are the send semaphores, wires 2 and 3 the receive semaphores: a
landing on wire 2 or 3 hands over the result buffer at the sibling's half, one on wire 0 or 1 the half sent, back.
-/
module

public import proofs.«01_k».proof.Proof.Talk.Mesh
public import proofs.«01_k».proof.Proof.Gen.SwapHalves
public import proofs.«01_k».proof.Proof.Gen.SwapHalves.Skeleton
public import proofs.«01_k».proof.Proof.Gen.SwapHalves.Launch

@[expose] public section

set_option Elab.async false

noncomputable section

namespace Cert.SwapHalves.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Talk Cert.SwapHalves.Gen

variable {F : FTy → Type} [FloatOps F]

local notation "𝕄" => MT nD τ sig Unit (Elt F) ℕ (UU nD τ sig) ℕ

abbrev sib : Equiv.Perm (Dev nD) := across 1

/-! ## The wires -/

theorem dev1_eq (c : Dev nD) : (⟨k0_dev1 c, k0_dev1_lt c⟩ : Dev nD) = sib c := by revert c; decide +kernel
theorem dev2_eq (c : Dev nD) : (⟨k0_dev2 c, k0_dev2_lt c⟩ : Dev nD) = sib c := by revert c; decide +kernel

/-- The half of the first array that device `c` sends, -/
def half0 (c : Dev nD) : Memref sig .tc .hbm S4x8x1024x704 .f32 :=
  ((Memref.whole main_arg0).slice (Rect.unit (s := S4x2x8x1024x704) (k0_off1 c) S4x1x8x1024x704.size (k0_off1_inb c)) (fun _ => rfl)).squeeze
    S4x8x1024x704 squeezes_S4x1x8x1024x704_S4x8x1024x704
/-- and of the second. -/
def half1 (c : Dev nD) : Memref sig .tc .hbm S4x10x512x1024 .f32 :=
  ((Memref.whole main_arg1).slice (Rect.unit (s := S4x2x10x512x1024) (k0_off2 c) S4x1x10x512x1024.size (k0_off2_inb c)) (fun _ => rfl)).squeeze
    S4x10x512x1024 squeezes_S4x1x10x512x1024_S4x10x512x1024

/-- The credit of one copy of each array. -/
def credit0 : ℕ := (Memref.whole main_v1_0 : Memref sig .tc .hbm S4x8x1024x704 .f32).view.dmaCredit
def credit1 : ℕ := (Memref.whole main_v1_1 : Memref sig .tc .hbm S4x10x512x1024 .f32).view.dmaCredit
theorem credit0_pos : 0 < credit0 := View.dmaCredit_pos _ (by decide)
theorem credit1_pos : 0 < credit1 := View.dmaCredit_pos _ (by decide)

def wires : Wires nD sig (Fin 4) where
  sem j := j
  semInj := fun _ _ h => h
  dest := ![Equiv.refl _, Equiv.refl _, sib, sib]
  amt := ![credit0, credit1, credit0, credit1]
  amt_pos j := by fin_cases j <;> first | exact credit0_pos | exact credit1_pos
  far := {2, 3}
  rank _ := 0

variable (m : (ℓ : Loc nD τ sig) → Buf (Elt F) ℓ)

/-- What device `d` sends of its first array, -/
def sent0 (d : Dev nD) : S4x8x1024x704.Idx → Elt F .f32 := (half0 d).view.read (Elt F) (m ((d.tc : Thread nD τ).loc main_arg0))
/-- and of its second. -/
def sent1 (d : Dev nD) : S4x10x512x1024.Idx → Elt F .f32 := (half1 d).view.read (Elt F) (m ((d.tc : Thread nD τ).loc main_arg1))

/-! ## What the landings hand over -/

def src0 (c : Dev nD) : sProp 𝕄 := (half0 c).view.loc (c.tc : Thread nD τ) ↦[(half0 c).view.set]{fullShare} m ((c.tc : Thread nD τ).loc main_arg0)
def src1 (c : Dev nD) : sProp 𝕄 := (half1 c).view.loc (c.tc : Thread nD τ) ↦[(half1 c).view.set]{fullShare} m ((c.tc : Thread nD τ).loc main_arg1)
def left0 (c : Dev nD) : sProp 𝕄 := (half0 c).view.loc (c.tc : Thread nD τ) ↦[Finset.univ \ (half0 c).view.set]{fullShare} m ((c.tc : Thread nD τ).loc main_arg0)
def left1 (c : Dev nD) : sProp 𝕄 := (half1 c).view.loc (c.tc : Thread nD τ) ↦[Finset.univ \ (half1 c).view.set]{fullShare} m ((c.tc : Thread nD τ).loc main_arg1)
def arg0 (c : Dev nD) : sProp 𝕄 := ((c.tc : Thread nD τ).loc main_arg0) ↦{fullShare} m ((c.tc : Thread nD τ).loc main_arg0)
def arg1 (c : Dev nD) : sProp 𝕄 := ((c.tc : Thread nD τ).loc main_arg1) ↦{fullShare} m ((c.tc : Thread nD τ).loc main_arg1)
def out0 (c : Dev nD) (f : S4x8x1024x704.Idx → Elt F .f32) : sProp 𝕄 := ((c.tc : Thread nD τ).loc main_v1_0) ↦{fullShare} f
def out1 (c : Dev nD) (f : S4x10x512x1024.Idx → Elt F .f32) : sProp 𝕄 := ((c.tc : Thread nD τ).loc main_v1_1) ↦{fullShare} f

theorem arg0_cut (c : Dev nD) : arg0 m c = iprop(src0 m c ∗ left0 m c) := cut (ℓ := (half0 c).view.loc (c.tc : Thread nD τ)) _ _ _
theorem arg1_cut (c : Dev nD) : arg1 m c = iprop(src1 m c ∗ left1 m c) := cut (ℓ := (half1 c).view.loc (c.tc : Thread nD τ)) _ _ _

instance (c : Dev nD) : BI.Storable (upEmb : UEmb _ 𝕄) (src0 m c) := part_stored _ _ _ _
instance (c : Dev nD) : BI.Storable (upEmb : UEmb _ 𝕄) (src1 m c) := part_stored _ _ _ _
instance (c : Dev nD) (f : S4x8x1024x704.Idx → Elt F .f32) : BI.Storable (upEmb : UEmb _ 𝕄) (out0 c f) := by unfold out0; infer_instance
instance (c : Dev nD) (f : S4x10x512x1024.Idx → Elt F .f32) : BI.Storable (upEmb : UEmb _ 𝕄) (out1 c f) := by unfold out1; infer_instance

def hands : Handover nD τ sig (Elt F) (Fin 4) where
  pay j c := match j with
    | 0 => src0 m c
    | 1 => src1 m c
    | 2 => out0 c (sent0 m (sib c))
    | 3 => out1 c (sent1 m (sib c))
  stored j c := match j with
    | 0 => inferInstanceAs (BI.Storable upEmb (src0 m c))
    | 1 => inferInstanceAs (BI.Storable upEmb (src1 m c))
    | 2 => inferInstanceAs (BI.Storable upEmb (out0 c (sent0 m (sib c))))
    | 3 => inferInstanceAs (BI.Storable upEmb (out1 c (sent1 m (sib c))))

/-- Before the exchange a device holds its own arrays and its sibling's result buffers; -/
def before (c : Dev nD) : sProp 𝕄 := iprop(arg0 m c ∗ arg1 m c
  ∗ out0 (sib c) (m (((sib c).tc : Thread nD τ).loc main_v1_0)) ∗ out1 (sib c) (m (((sib c).tc : Thread nD τ).loc main_v1_1)))
/-- after it, its own arrays and its own result buffers, at the sibling's halves. -/
def after (c : Dev nD) : sProp 𝕄 := iprop(arg0 m c ∗ arg1 m c ∗ out0 c (sent0 m (sib c)) ∗ out1 c (sent1 m (sib c)))

theorem landed0 (c : Dev nD) (fd : S4x8x1024x704.Idx → Elt F .f32) :
    ((Memref.whole main_v1_0 : Memref sig .tc .hbm S4x8x1024x704 .f32).view.loc ((sib c).tc : Thread nD τ)
        ↦[(Memref.whole main_v1_0 : Memref sig .tc .hbm S4x8x1024x704 .f32).view.set]{fullShare}
        ((Memref.whole main_v1_0 : Memref sig .tc .hbm S4x8x1024x704 .f32).view.write (Elt F) fd
          ((half0 c).view.read (Elt F) (m ((c.tc : Thread nD τ).loc main_arg0))) Finset.univ) : sProp 𝕄)
      ⊢ out0 (sib c) (sent0 m (sib (sib c))) := by
  rw [across_across]
  exact Entails.of_eq (by simp only [Memref.view_whole, View.set_whole, View.write_whole_univ]; rfl)
theorem landed1 (c : Dev nD) (fd : S4x10x512x1024.Idx → Elt F .f32) :
    ((Memref.whole main_v1_1 : Memref sig .tc .hbm S4x10x512x1024 .f32).view.loc ((sib c).tc : Thread nD τ)
        ↦[(Memref.whole main_v1_1 : Memref sig .tc .hbm S4x10x512x1024 .f32).view.set]{fullShare}
        ((Memref.whole main_v1_1 : Memref sig .tc .hbm S4x10x512x1024 .f32).view.write (Elt F) fd
          ((half1 c).view.read (Elt F) (m ((c.tc : Thread nD τ).loc main_arg1))) Finset.univ) : sProp 𝕄)
      ⊢ out1 (sib c) (sent1 m (sib (sib c))) := by
  rw [across_across]
  exact Entails.of_eq (by simp only [Memref.view_whole, View.set_whole, View.write_whole_univ]; rfl)

theorem room0 (c : Dev nD) (fd : S4x8x1024x704.Idx → Elt F .f32) : (out0 (sib c) fd : sProp 𝕄)
    ⊢ (Memref.whole main_v1_0 : Memref sig .tc .hbm S4x8x1024x704 .f32).view.loc ((sib c).tc : Thread nD τ)
        ↦[(Memref.whole main_v1_0 : Memref sig .tc .hbm S4x8x1024x704 .f32).view.set]{fullShare} fd :=
  Entails.of_eq (by simp only [Memref.view_whole, View.set_whole]; rfl)
theorem room1 (c : Dev nD) (fd : S4x10x512x1024.Idx → Elt F .f32) : (out1 (sib c) fd : sProp 𝕄)
    ⊢ (Memref.whole main_v1_1 : Memref sig .tc .hbm S4x10x512x1024 .f32).view.loc ((sib c).tc : Thread nD τ)
        ↦[(Memref.whole main_v1_1 : Memref sig .tc .hbm S4x10x512x1024 .f32).view.set]{fullShare} fd :=
  Entails.of_eq (by simp only [Memref.view_whole, View.set_whole]; rfl)

/-! ## The body -/

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- The wires a device still owes: at the start, and after its first send. -/
abbrev owed₂ : Finset (Fin 4) := {2, 3}
abbrev owed₁ : Finset (Fin 4) := {3}
theorem two (Φ : Fin 4 → sProp 𝕄) : bigSep owed₂ Φ = iprop(Φ 2 ∗ Φ 3) :=
  bigSep_eq_bigSepL_of_eq [2, 3] (by decide) (by decide) Φ

abbrev 𝒱₀ : Variants := Variants.none

set_option maxRecDepth 8000 in
theorem body (c : Dev nD) : BodyRuns wires (hands m) (before m) (after m) (defs₀ (F := F)) 𝒱₀ c
    (cc0_reduce_swap_halves (F := F) (Memref.whole main_arg0) (Memref.isWhole_whole _) (Memref.whole main_arg1) (Memref.isWhole_whole _)
      (Memref.whole main_v1_0) (Memref.isWhole_whole _) (Memref.whole main_v1_1) (Memref.isWhole_whole _) cc0_scratch0 cc0_scratch1) := fun K => by
  rw [cc0_reduce_swap_halves_eq_skeleton]
  unfold cc0_reduce_swap_halves_skel
  rw [k0_part1_eq_skeleton, k0_part2_eq_skeleton]
  unfold k0_part1_skel k0_part2_skel
  simp only [Prog.lift, Prog.bind_op, Prog.bind_ret, Prog.pure_eq_ret, wp_deviceId]
  unfold tools dues before
  rw [four, four, arg0_cut, arg1_cut, show wires.far = owed₂ from rfl, two]
  iintro ⟨#HK, ⟨⟨Hp0, Hp1, Hp2, Hp3⟩, ⟨Ht0, Ht1, Ht2, Ht3⟩⟩, #Hlev, ⟨Hd2, Hd3⟩, ⟨⟨Hs0, Hl0⟩, ⟨Hs1, Hl1⟩, Ho0, Ho1⟩, HO⟩
  iapply (wp_send wires (hands m) 𝒱₀ K c _ 0 2 (S := owed₂) (S' := owed₁) (src := half0 c) (dst := Memref.whole main_v1_0) (sS := 0) (sR := 2)
    rfl (dev1_eq c) (by decide) (by decide) rfl rfl rfl rfl fullShare (m ((c.tc : Thread nD τ).loc main_arg0)) (m (((sib c).tc : Thread nD τ).loc main_v1_0))
    (BI.Entails.refl (src0 m c)) (landed0 m c _) (A := src0 m c) (BI.Entails.refl _) (room0 c _)) $$ [Ht0 Ht2 HO Hs0 Ho0]
  · isplitr; · iexact HK
    isplitl [Ht0]; · iexact Ht0
    isplitl [Ht2]; · iexact Ht2
    isplitl [HO]; · iexact HO
    isplitl [Hs0]; · iexact Hs0
    iexact Ho0
  iintro ⟨Hd0, HO⟩
  iapply (wp_send wires (hands m) 𝒱₀ K c _ 1 3 (S := owed₁) (S' := ∅) (src := half1 c) (dst := Memref.whole main_v1_1) (sS := 1) (sR := 3)
    rfl (dev2_eq c) (by decide) (by decide) rfl rfl rfl rfl fullShare (m ((c.tc : Thread nD τ).loc main_arg1)) (m (((sib c).tc : Thread nD τ).loc main_v1_1))
    (BI.Entails.refl (src1 m c)) (landed1 m c _) (A := src1 m c) (BI.Entails.refl _) (room1 c _)) $$ [Ht1 Ht3 HO Hs1 Ho1]
  · isplitr; · iexact HK
    isplitl [Ht1]; · iexact Ht1
    isplitl [Ht3]; · iexact Ht3
    isplitl [HO]; · iexact HO
    isplitl [Hs1]; · iexact Hs1
    iexact Ho1
  iintro ⟨Hd1, HO⟩
  iapply (wp_wait wires (hands m) 𝒱₀ K c 0 ∅ (by simp) (dst := half0 c) (sR := 0) rfl rfl (C := src0 m c) (BI.Entails.refl _)) $$ [Hp0 Hd0 HO]
  · isplitr; · iexact HK
    isplitr; · iexact Hlev
    isplitl [Hp0]; · iexact Hp0
    isplitl [Hd0]; · iexact Hd0
    iexact HO
  iintro ⟨Hs0, Hz0, HO⟩
  iapply (wp_wait wires (hands m) 𝒱₀ K c 2 ∅ (by simp) (dst := Memref.whole main_v1_0) (sR := 2) rfl rfl (C := out0 c (sent0 m (sib c))) (BI.Entails.refl _)) $$ [Hp2 Hd2 HO]
  · isplitr; · iexact HK
    isplitr; · iexact Hlev
    isplitl [Hp2]; · iexact Hp2
    isplitl [Hd2]; · iexact Hd2
    iexact HO
  iintro ⟨Ho0, Hz2, HO⟩
  iapply (wp_wait wires (hands m) 𝒱₀ K c 1 ∅ (by simp) (dst := half1 c) (sR := 1) rfl rfl (C := src1 m c) (BI.Entails.refl _)) $$ [Hp1 Hd1 HO]
  · isplitr; · iexact HK
    isplitr; · iexact Hlev
    isplitl [Hp1]; · iexact Hp1
    isplitl [Hd1]; · iexact Hd1
    iexact HO
  iintro ⟨Hs1, Hz1, HO⟩
  iapply (wp_wait wires (hands m) 𝒱₀ K c 3 ∅ (by simp) (dst := Memref.whole main_v1_1) (sR := 3) rfl rfl (C := out1 c (sent1 m (sib c))) (BI.Entails.refl _)) $$ [Hp3 Hd3 HO]
  · isplitr; · iexact HK
    isplitr; · iexact Hlev
    isplitl [Hp3]; · iexact Hp3
    isplitl [Hd3]; · iexact Hd3
    iexact HO
  iintro ⟨Ho1, Hz3, HO⟩
  rw [wp_ret]
  imodintro
  unfold after
  rw [four, arg0_cut, arg1_cut]
  isplitl [Hs0 Hl0 Hs1 Hl1 Ho0 Ho1]
  · isplitl [Hs0 Hl0]
    · isplitl [Hs0] <;> iassumption
    isplitl [Hs1 Hl1]
    · isplitl [Hs1] <;> iassumption
    isplitl [Ho0] <;> iassumption
  isplitr [HO]
  · isplitl [Hz0]; · iexact Hz0
    isplitl [Hz1]; · iexact Hz1
    isplitl [Hz2] <;> iassumption
  iexact HO

/-! ## The launch -/

/-- The program's one pipeline: the exchange. -/
def pdats (p : Fin 1) (c : Dev nD) : Dat τ (Elt F) Unit ℕ (UU nD τ sig) ℕ (Pipeline.pin (pcfgs (F := F)) (fun p => (cfgs p).toPCfg_adm) p) c :=
  match p with
  | 0 => exchangeDat wires (hands m) (before m) (after m) _ (inferInstanceAs (IsEmpty (Fin 0))) c

theorem deal_bufs : (bigSep Finset.univ fun c : Dev nD => unscopedBufs c (fun b => m ((c.tc : Thread nD τ).loc b)))
    ⊢ (bigSep Finset.univ fun c : Dev nD => iprop(before m c ∗ emp) : sProp 𝕄) := by
  have h : ∀ c : Dev nD, (unscopedBufs c (fun b => m ((c.tc : Thread nD τ).loc b)) : sProp 𝕄)
      = iprop(arg0 m c ∗ arg1 m c ∗ out0 c (m ((c.tc : Thread nD τ).loc main_v1_0)) ∗ out1 c (m ((c.tc : Thread nD τ).loc main_v1_1))) := fun c =>
    bigSep_eq_bigSepL_of_eq [main_arg0, main_arg1, main_v1_0, main_v1_1] (by decide) (by decide) _
  rw [bigSep_congr fun c _ => h c]
  unfold before
  simp only [bigSep_sep']
  rw [bigSep_univ_equiv sib (fun c => (out0 c (m ((c.tc : Thread nD τ).loc main_v1_0)) : sProp 𝕄)),
    bigSep_univ_equiv sib (fun c => (out1 c (m ((c.tc : Thread nD τ).loc main_v1_1)) : sProp 𝕄))]
  iintro H
  isplitl [H]; · iexact H
  iapply (BI.bigSep_intro_persistent (S := Finset.univ) fun (c : Dev nD) _ => (BI.Entails.refl (iprop(emp) : sProp 𝕄)))
  iempintro

theorem ownSems : OwnSemFacts cfg0.spec wires.at_ := by decide

/-- Every run of the program ends, with every device's result buffers at what its sibling sent, its arguments unchanged and every
    semaphore at zero. -/
theorem runs (g : Dev nD → PrngReg) :
    θ_run (defs (F := F)) (onTc (τ := τ) (main (F := F))) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v1_0) = sent0 m (sib c)
        ∧ r.2.mem ((c.tc : Thread nD τ).loc main_v1_1) = sent1 m (sib c))
      ∧ r.2.sem = fun _ => 0) := by
  haveI hW : IsEmpty (Fin (Pipeline.pin (pcfgs (F := F)) (fun p => (cfgs p).toPCfg_adm) 0).W) := inferInstanceAs (IsEmpty (Fin 0))
  refine θ_run_exchange wires (hands m) (before m) (after m) (pcfgs (F := F)) (fun p => (cfgs p).toPCfg_adm) (pdats m) (defs₀ (F := F)) 𝒱₀
    (fun _ => iprop(emp)) cellOf_inj 0 (fun c => ⟨_, rfl⟩) hW N_0 winFacts0.to₀ (inferInstanceAs (IsEmpty (Fin 0))) ownSems
    (fun c => scopedRest0_eq c) (fun c t => body m c) m g (deal_bufs m) (main (F := F)) (fun _ => []) (fun c => rfl)
    (fun c => List.nodup_nil) (fun c => List.not_mem_nil) (after m) (fun c => ?_)
    (fun c s => s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_v1_0) = sent0 m (sib c)
        ∧ s.mem ((c.tc : Thread nD τ).loc main_v1_1) = sent1 m (sib c))
    (fun c s' => ?_) (fun s h hs => ⟨h, sem_eq_zero_of_scoped (by decide) hs⟩)
  · show iprop(after m c ∗ emp ∗ owing wires c ∅) ⊢ iprop(after m c ∗ ∃ V, owes (c.tc : Thread nD τ) (0 : CellTallies nD τ sig Unit) V)
    unfold Talk.owing
    rw [Wires.owed_empty]
    iintro ⟨Ha, -, HO⟩
    isplitl [Ha] <;> iassumption
  · exact (read_sep read_one (read_sep read_one (read_sep read_one read_one))).trans fupd_intro

end Cert.SwapHalves.Run

end
-- ==== Proof.Talk.Part.lean ====
/-
# Reading a part of an array, and a device's block of one
-/
module

public import Idealize.ShloMosaic.Lib.Pipeline.Value
public import Idealize.ShloMosaic.Lib.PointwiseCore
public import Idealize.ShloMosaic.Lib.Layout

@[expose] public section

namespace Talk

open Idealize.ShloMosaic

/-- A buffer read through one part of an array, its unit axes dropped, is the slice of what is read through the whole array, reshaped. -/
theorem read_part {sig : RefSig} {κ : Kind} {sp : Space} {s s' : Shape} {e : EltTy} {Val : EltTy → Type} (M : Memref sig κ sp s e)
    (off size : Fin s.rank → ℕ) (inb : ∀ a, off a + size a ≤ s.size a) (hq : (Rect.unit off size inb).shape.Squeezes s')
    (hs : s.Slices off ⟨s.rank, size⟩) (hc : (⟨s.rank, size⟩ : Shape).ShapeCasts s') (f : M.view.ty.Contents Val) :
    ((M.slice (Rect.unit off size inb) (fun _ => rfl)).squeeze s' hq).view.read Val f
      = shapeCast s' (extractStridedSlice ⟨s.rank, size⟩ off (M.view.read Val f) hs) hc := by
  refine congrArg (fun x => shapeCast s' x hc) (a₁ := M.view.readAt Val (Rect.unit off size inb).toLoadRect f) (funext fun j => ?_)
  refine congrArg (M.view.read Val f) (funext fun a => Fin.ext ?_)
  show off a + 1 * (j a).val = off a + (j a).val
  rw [Nat.one_mul]

/-! Where an entry of device `c`'s block of rows lies in the whole array, rank by rank: `p` is its row there. -/

theorem tile2 {n N k a : ℕ} (h : Layout.Tiles ⟨2, ![n, a]⟩ ⟨2, ![N, a]⟩ 0 k) (c : Fin k) (i : Fin n) (i₁ : Fin a)
    (p : Fin N) (hp : p.val = c.val * n + i.val) : h.idx c (ix2 i i₁) = ix2 p i₁ := by
  funext x; refine Fin.ext ?_; match x with
  | 0 => exact hp.symm
  | 1 => rfl

theorem tile3 {n N k a b : ℕ} (h : Layout.Tiles ⟨3, ![n, a, b]⟩ ⟨3, ![N, a, b]⟩ 0 k) (c : Fin k) (i : Fin n) (i₁ : Fin a) (i₂ : Fin b)
    (p : Fin N) (hp : p.val = c.val * n + i.val) : h.idx c (ix3 i i₁ i₂) = ix3 p i₁ i₂ := by
  funext x; refine Fin.ext ?_; match x with
  | 0 => exact hp.symm
  | 1 => rfl
  | 2 => rfl

theorem tile4 {n N k a b d : ℕ} (h : Layout.Tiles ⟨4, ![n, a, b, d]⟩ ⟨4, ![N, a, b, d]⟩ 0 k) (c : Fin k) (i : Fin n) (i₁ : Fin a) (i₂ : Fin b)
    (i₃ : Fin d) (p : Fin N) (hp : p.val = c.val * n + i.val) : h.idx c (ix4 i i₁ i₂ i₃) = ix4 p i₁ i₂ i₃ := by
  funext x; refine Fin.ext ?_; match x with
  | 0 => exact hp.symm
  | 1 => rfl
  | 2 => rfl
  | 3 => rfl

theorem tile5 {n N k a b d e : ℕ} (h : Layout.Tiles ⟨5, ![n, a, b, d, e]⟩ ⟨5, ![N, a, b, d, e]⟩ 0 k) (c : Fin k) (i : Fin n) (i₁ : Fin a)
    (i₂ : Fin b) (i₃ : Fin d) (i₄ : Fin e) (p : Fin N) (hp : p.val = c.val * n + i.val) :
    h.idx c (ix5 i i₁ i₂ i₃ i₄) = ix5 p i₁ i₂ i₃ i₄ := by
  funext x; refine Fin.ext ?_; match x with
  | 0 => exact hp.symm
  | 1 => rfl
  | 2 => rfl
  | 3 => rfl
  | 4 => rfl

end Talk
-- ==== Proof.SwapHalvesValue.lean ====
/-
# The swap of gradient halves: `SwapHalves` meets its reference

Of each array the reference keeps, for the device in place `p / 4`, its sibling's rows at the half that device reduces. Read at an
index, that is the row the sibling sends.
-/
module

public import proofs.«01_k».proof.Proof.SwapHalves
public import proofs.«01_k».proof.Proof.Talk.Part
public import proofs.«01_k».proof.Proof.Gen.SwapHalvesRef.Run
public import Idealize.ShloMosaic.Lib.PointwiseCore
public import Idealize.ShloMosaic.Lib.Layout

@[expose] public section

noncomputable section

namespace Cert.SwapHalvesRef.Value

open Idealize.ShloMosaic Cert.SwapHalvesRef Cert.SwapHalvesRef.Gen

variable {F : FTy → Type} [FloatOps F]

/-- What the reference returns of its first array; -/
def swapped0 (A : S32x2x8x1024x704.Idx → Elt F .f32) : S32x8x1024x704.Idx → Elt F .f32 :=
  shapeCast _ (concatenate S4x2x4x8x1024x704 1 [⟨S4x1x4x8x1024x704, (broadcastInDim S4x1x4x8x1024x704 ![0, 2, 3, 4, 5] bcast_S4x4x8x1024x704_S4x1x4x8x1024x704_0_2_3_4_5 (shapeCast _ (extractStridedSlice S4x1x4x1x8x1024x704 ![0, 1, 0, 0, 0, 0, 0] (shapeCast _ A shapeCasts_S32x2x8x1024x704_S4x2x4x2x8x1024x704) slices_S4x2x4x2x8x1024x704_S4x1x4x1x8x1024x704_0_1_0_0_0_0_0) shapeCasts_S4x1x4x1x8x1024x704_S4x4x8x1024x704))⟩, ⟨S4x1x4x8x1024x704, (broadcastInDim S4x1x4x8x1024x704 ![0, 2, 3, 4, 5] bcast_S4x4x8x1024x704_S4x1x4x8x1024x704_0_2_3_4_5 (shapeCast _ (extractStridedSlice S4x1x4x1x8x1024x704 ![0, 0, 0, 1, 0, 0, 0] (shapeCast _ A shapeCasts_S32x2x8x1024x704_S4x2x4x2x8x1024x704) slices_S4x2x4x2x8x1024x704_S4x1x4x1x8x1024x704_0_0_0_1_0_0_0) shapeCasts_S4x1x4x1x8x1024x704_S4x4x8x1024x704))⟩] concatenates_S4x1x4x8x1024x704_S4x1x4x8x1024x704_S4x2x4x8x1024x704_d1) shapeCasts_S4x2x4x8x1024x704_S32x8x1024x704

set_option maxRecDepth 16384 in
/-- at row `p`, half 1 of the next device's row on an even device, half 0 of the last device's on an odd one. -/
theorem swapped0_at (A : S32x2x8x1024x704.Idx → Elt F .f32) (p : Fin 32) (l : Fin 8) (r : Fin 1024) (k : Fin 704) (q : Fin 32) (h : Fin 2)
    (hq : q.val = p.val / 8 * 8 + (1 - p.val / 4 % 2) * 4 + p.val % 4) (hh : h.val = p.val / 4 % 2) :
    swapped0 A (ix4 p l r k) = A (ix5 q h l r k) := by
  pointwise [swapped0]
  split
  · refine congrArg₂ (fun x y => A (ix5 x y l r k)) (Fin.ext ?_) (Fin.ext ?_) <;> simp only [Fin.val_zero, Fin.val_one] <;> omega
  · refine congrArg₂ (fun x y => A (ix5 x y l r k)) (Fin.ext ?_) (Fin.ext ?_) <;> simp only [Fin.val_zero, Fin.val_one] <;> omega

/-- What the reference returns of its second array; -/
def swapped1 (A : S32x2x10x512x1024.Idx → Elt F .f32) : S32x10x512x1024.Idx → Elt F .f32 :=
  shapeCast _ (concatenate S4x2x4x10x512x1024 1 [⟨S4x1x4x10x512x1024, (broadcastInDim S4x1x4x10x512x1024 ![0, 2, 3, 4, 5] bcast_S4x4x10x512x1024_S4x1x4x10x512x1024_0_2_3_4_5 (shapeCast _ (extractStridedSlice S4x1x4x1x10x512x1024 ![0, 1, 0, 0, 0, 0, 0] (shapeCast _ A shapeCasts_S32x2x10x512x1024_S4x2x4x2x10x512x1024) slices_S4x2x4x2x10x512x1024_S4x1x4x1x10x512x1024_0_1_0_0_0_0_0) shapeCasts_S4x1x4x1x10x512x1024_S4x4x10x512x1024))⟩, ⟨S4x1x4x10x512x1024, (broadcastInDim S4x1x4x10x512x1024 ![0, 2, 3, 4, 5] bcast_S4x4x10x512x1024_S4x1x4x10x512x1024_0_2_3_4_5 (shapeCast _ (extractStridedSlice S4x1x4x1x10x512x1024 ![0, 0, 0, 1, 0, 0, 0] (shapeCast _ A shapeCasts_S32x2x10x512x1024_S4x2x4x2x10x512x1024) slices_S4x2x4x2x10x512x1024_S4x1x4x1x10x512x1024_0_0_0_1_0_0_0) shapeCasts_S4x1x4x1x10x512x1024_S4x4x10x512x1024))⟩] concatenates_S4x1x4x10x512x1024_S4x1x4x10x512x1024_S4x2x4x10x512x1024_d1) shapeCasts_S4x2x4x10x512x1024_S32x10x512x1024

set_option maxRecDepth 16384 in
/-- at row `p`, half 1 of the next device's row on an even device, half 0 of the last device's on an odd one. -/
theorem swapped1_at (A : S32x2x10x512x1024.Idx → Elt F .f32) (p : Fin 32) (l : Fin 10) (r : Fin 512) (k : Fin 1024) (q : Fin 32) (h : Fin 2)
    (hq : q.val = p.val / 8 * 8 + (1 - p.val / 4 % 2) * 4 + p.val % 4) (hh : h.val = p.val / 4 % 2) :
    swapped1 A (ix4 p l r k) = A (ix5 q h l r k) := by
  pointwise [swapped1]
  split
  · refine congrArg₂ (fun x y => A (ix5 x y l r k)) (Fin.ext ?_) (Fin.ext ?_) <;> simp only [Fin.val_zero, Fin.val_one] <;> omega
  · refine congrArg₂ (fun x y => A (ix5 x y l r k)) (Fin.ext ?_) (Fin.ext ?_) <;> simp only [Fin.val_zero, Fin.val_one] <;> omega

end Cert.SwapHalvesRef.Value

namespace Cert.SwapHalves.Run

open Idealize.ShloMosaic Idealize.ShloMosaic.TcCoe Cert.SwapHalves.Gen Cert.SwapHalvesRef.Value

variable {F : FTy → Type} [FloatOps F]

set_option maxRecDepth 16384 in
theorem half0_at (d : Dev nD) (A : S4x2x8x1024x704.Idx → Elt F .f32) (s : Fin 4) (l : Fin 8) (r : Fin 1024) (k : Fin 704) (h : Fin 2) (hh : h.val = 1 - d.val % 2) :
    (half0 d).view.read (Elt F) A (ix4 s l r k) = A (ix5 s h l r k) := by
  have key : ∀ (off : Fin 5 → ℕ) (_ : off = ![0, h.val, 0, 0, 0]) (hs : S4x2x8x1024x704.Slices off S4x1x8x1024x704) (hc : S4x1x8x1024x704.ShapeCasts S4x8x1024x704),
      shapeCast S4x8x1024x704 (extractStridedSlice S4x1x8x1024x704 off A hs) hc (ix4 s l r k) = A (ix5 s h l r k) := by
    intro off ho hs hc
    subst ho
    pointwise
  refine (congrFun (Talk.read_part (Memref.whole main_arg0) (k0_off1 d) S4x1x8x1024x704.size (k0_off1_inb d) squeezes_S4x1x8x1024x704_S4x8x1024x704
    ⟨rfl, k0_off1_inb d⟩ squeezes_S4x1x8x1024x704_S4x8x1024x704.numel_eq A) _).trans ?_
  exact key _ ((k0_off1_eq d).trans (by rw [hh])) _ _

/-- What the sibling sends is this device's block of what the reference returns. -/
theorem sent0_eq (m : (ℓ : Loc nD τ sig) → Buf (Elt F) ℓ) (A : SwapHalvesRef.S32x2x8x1024x704.Idx → Elt F .f32)
    (hm : ∀ c : Dev nD, m ((c.tc : Thread nD τ).loc main_arg0) = Layout.block S4x2x8x1024x704 SwapHalvesRef.S32x2x8x1024x704 0 8 c A) (c : Dev nD) :
    sent0 m (sib c) = Layout.block S4x8x1024x704 SwapHalvesRef.S32x8x1024x704 0 8 c (swapped0 A) := by
  funext i
  idx_vars i
  have hs : ∀ c : Dev 8, (sib c).val / 2 = c.val / 2 ∧ (sib c).val % 2 = 1 - c.val % 2 := by decide
  have hc : c.val < 8 := c.isLt
  have h1 := hs c
  rw [Layout.block_apply]
  unfold sent0
  rw [half0_at (sib c) _ i0 i1 i2 i3 ⟨1 - (sib c).val % 2, by omega⟩ rfl, hm, Layout.block_apply,
    Talk.tile5 _ _ i0 _ _ _ _ ⟨(sib c).val * 4 + i0.val, by omega⟩ rfl, Talk.tile4 _ c i0 _ _ _ ⟨c.val * 4 + i0.val, by omega⟩ rfl]
  exact (swapped0_at A _ _ _ _ _ _ (by show (sib c).val * 4 + i0.val = (c.val * 4 + i0.val) / 8 * 8 + (1 - (c.val * 4 + i0.val) / 4 % 2) * 4 + (c.val * 4 + i0.val) % 4; omega)
    (by show 1 - (sib c).val % 2 = (c.val * 4 + i0.val) / 4 % 2; omega)).symm

set_option maxRecDepth 16384 in
theorem half1_at (d : Dev nD) (A : S4x2x10x512x1024.Idx → Elt F .f32) (s : Fin 4) (l : Fin 10) (r : Fin 512) (k : Fin 1024) (h : Fin 2) (hh : h.val = 1 - d.val % 2) :
    (half1 d).view.read (Elt F) A (ix4 s l r k) = A (ix5 s h l r k) := by
  have key : ∀ (off : Fin 5 → ℕ) (_ : off = ![0, h.val, 0, 0, 0]) (hs : S4x2x10x512x1024.Slices off S4x1x10x512x1024) (hc : S4x1x10x512x1024.ShapeCasts S4x10x512x1024),
      shapeCast S4x10x512x1024 (extractStridedSlice S4x1x10x512x1024 off A hs) hc (ix4 s l r k) = A (ix5 s h l r k) := by
    intro off ho hs hc
    subst ho
    pointwise
  refine (congrFun (Talk.read_part (Memref.whole main_arg1) (k0_off2 d) S4x1x10x512x1024.size (k0_off2_inb d) squeezes_S4x1x10x512x1024_S4x10x512x1024
    ⟨rfl, k0_off2_inb d⟩ squeezes_S4x1x10x512x1024_S4x10x512x1024.numel_eq A) _).trans ?_
  exact key _ ((k0_off2_eq d).trans (by rw [hh])) _ _

/-- What the sibling sends is this device's block of what the reference returns. -/
theorem sent1_eq (m : (ℓ : Loc nD τ sig) → Buf (Elt F) ℓ) (A : SwapHalvesRef.S32x2x10x512x1024.Idx → Elt F .f32)
    (hm : ∀ c : Dev nD, m ((c.tc : Thread nD τ).loc main_arg1) = Layout.block S4x2x10x512x1024 SwapHalvesRef.S32x2x10x512x1024 0 8 c A) (c : Dev nD) :
    sent1 m (sib c) = Layout.block S4x10x512x1024 SwapHalvesRef.S32x10x512x1024 0 8 c (swapped1 A) := by
  funext i
  idx_vars i
  have hs : ∀ c : Dev 8, (sib c).val / 2 = c.val / 2 ∧ (sib c).val % 2 = 1 - c.val % 2 := by decide
  have hc : c.val < 8 := c.isLt
  have h1 := hs c
  rw [Layout.block_apply]
  unfold sent1
  rw [half1_at (sib c) _ i0 i1 i2 i3 ⟨1 - (sib c).val % 2, by omega⟩ rfl, hm, Layout.block_apply,
    Talk.tile5 _ _ i0 _ _ _ _ ⟨(sib c).val * 4 + i0.val, by omega⟩ rfl, Talk.tile4 _ c i0 _ _ _ ⟨c.val * 4 + i0.val, by omega⟩ rfl]
  exact (swapped1_at A _ _ _ _ _ _ (by show (sib c).val * 4 + i0.val = (c.val * 4 + i0.val) / 8 * 8 + (1 - (c.val * 4 + i0.val) / 4 % 2) * 4 + (c.val * 4 + i0.val) % 4; omega)
    (by show 1 - (sib c).val % 2 = (c.val * 4 + i0.val) / 4 % 2; omega)).symm

end Cert.SwapHalves.Run
-- ==== Proof.SwapHalvesClaims.lean ====
/-
# The claims of `SwapHalves`
-/
module

public import proofs.«01_k».proof.Defs
public import proofs.«01_k».proof.Proof.SwapHalvesValue

@[expose] public section

noncomputable section

namespace Cert.Proof.SwapHalves

open Idealize.ShloMosaic Idealize.ShloMosaic.TcCoe Idealize.SL.Sem

/-- Every run ends with the arguments unchanged and every semaphore at zero; -/
theorem frame : Cert.quiescent_SwapHalves (hSwapHalves := Cert.SwapHalves.Gen.facts) := fun m g _ =>
  (θ_run _ _ _).mono (fun _ h => ⟨fun c => ⟨(h.1 c).1, (h.1 c).2.1⟩, h.2⟩) (Cert.SwapHalves.Run.runs (F := Bits) m g)

/-- the reference's likewise; -/
theorem frame_ref : Cert.quiescent_SwapHalvesRef (hSwapHalvesRef := Cert.SwapHalvesRef.Gen.facts) := fun m g _ =>
  (θ_run _ _ _).mono (fun _ h => ⟨fun c => ⟨(h c).2.2.1, (h c).2.2.2⟩, sem_eq_zero_of_no_sems (by decide) _⟩) (Cert.SwapHalvesRef.Value.run (F := Bits) m g)

/-- and each device's results are its blocks of what the reference returns, bit for bit. -/
theorem same : Cert.bitexact_SwapHalves_SwapHalvesRef (hSwapHalves := Cert.SwapHalves.Gen.facts) (hSwapHalvesRef := Cert.SwapHalvesRef.Gen.facts) := fun m g m' g' _ hm =>
  ⟨Cert.SwapHalvesRef.Value.swapped0 (m' (((0 : Dev Cert.SwapHalvesRef.nD).tc : Thread Cert.SwapHalvesRef.nD Cert.SwapHalvesRef.τ).loc Cert.SwapHalvesRef.main_arg0)),
    Cert.SwapHalvesRef.Value.swapped1 (m' (((0 : Dev Cert.SwapHalvesRef.nD).tc : Thread Cert.SwapHalvesRef.nD Cert.SwapHalvesRef.τ).loc Cert.SwapHalvesRef.main_arg1)),
    (θ_run _ _ _).mono (fun _ h c => ⟨((h.1 c).2.2.1).trans (Cert.SwapHalves.Run.sent0_eq m _ (fun d => (hm d).1) c),
      ((h.1 c).2.2.2).trans (Cert.SwapHalves.Run.sent1_eq m _ (fun d => (hm d).2) c), (h.1 c).1, (h.1 c).2.1⟩)
      (Cert.SwapHalves.Run.runs (F := Bits) m g),
    (θ_run _ _ _).mono (fun _ h => h 0) (Cert.SwapHalvesRef.Value.run (F := Bits) m' g')⟩

end Cert.Proof.SwapHalves

end
-- ==== Proof.Talk.Pieces.lean ====
/-
# Buffers in pieces

A buffer read by several copies at once is held in shares, one a copy; a buffer written by several copies is held in disjoint
parts, one a copy. This module splits a buffer both ways and reads a part off a final memory.
-/
module

public import proofs.«01_k».proof.Proof.Talk.Mesh

@[expose] public section

noncomputable section

namespace Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}

local notation "𝕄" => MT nD τ sig Unit Val ℕ (UU nD τ sig) ℕ

/-- A share in two. -/
theorem halves {ℓ : Loc nD τ sig} (I : Finset (Idx ℓ)) (q : PosShare TreeShare) (f : Buf Val ℓ) :
    (ℓ ↦[I]{q} f : sProp 𝕄) = iprop((ℓ ↦[I]{q.left} f) ∗ ℓ ↦[I]{q.right} f) :=
  Idealize.SL.BI.Entails.antisymm (pointsTo_share (PosShare.mem_left_op_right q)).1 (pointsTo_share (PosShare.mem_left_op_right q)).2

/-- The three shares of a buffer or a part that three copies read. -/
abbrev shareA : PosShare TreeShare := fullShare.left
abbrev shareB : PosShare TreeShare := fullShare.right.left
abbrev shareC : PosShare TreeShare := fullShare.right.right

/-- A buffer in three shares. -/
theorem thirds {ℓ : Loc nD τ sig} (I : Finset (Idx ℓ)) (f : Buf Val ℓ) :
    (ℓ ↦[I]{fullShare} f : sProp 𝕄) = iprop((ℓ ↦[I]{shareA} f) ∗ (ℓ ↦[I]{shareB} f) ∗ ℓ ↦[I]{shareC} f) := by
  rw [halves I fullShare f, halves I fullShare.right f]

/-- A part of a part, and the rest of it. -/
theorem cut_in {ℓ : Loc nD τ sig} {I S : Finset (Idx ℓ)} (h : I ⊆ S) (q : PosShare TreeShare) (f : Buf Val ℓ) :
    (ℓ ↦[S]{q} f : sProp 𝕄) = iprop((ℓ ↦[I]{q} f) ∗ ℓ ↦[S \ I]{q} f) :=
  Idealize.SL.BI.Entails.antisymm (pointsTo_split_subset h).1 (pointsTo_split_subset h).2

/-- What is left of a buffer without three parts. -/
abbrev without {ℓ : Loc nD τ sig} (I₀ I₁ I₂ : Finset (Idx ℓ)) : Finset (Idx ℓ) := ((Finset.univ \ I₀) \ I₁) \ I₂

/-- A buffer in three disjoint parts, and the rest of it. -/
theorem parts {ℓ : Loc nD τ sig} (I₀ I₁ I₂ : Finset (Idx ℓ)) (h₁ : Disjoint I₀ I₁) (h₂ : Disjoint I₀ I₂) (h₃ : Disjoint I₁ I₂)
    (q : PosShare TreeShare) (f : Buf Val ℓ) :
    (ℓ ↦{q} f : sProp 𝕄) = iprop((ℓ ↦[I₀]{q} f) ∗ (ℓ ↦[I₁]{q} f) ∗ (ℓ ↦[I₂]{q} f) ∗ ℓ ↦[without I₀ I₁ I₂]{q} f) := by
  have s₁ : I₁ ⊆ Finset.univ \ I₀ := fun i hi => Finset.mem_sdiff.mpr ⟨Finset.mem_univ i, fun h => Finset.disjoint_left.mp h₁ h hi⟩
  have s₂ : I₂ ⊆ (Finset.univ \ I₀) \ I₁ := fun i hi => Finset.mem_sdiff.mpr
    ⟨Finset.mem_sdiff.mpr ⟨Finset.mem_univ i, fun h => Finset.disjoint_left.mp h₂ h hi⟩, fun h => Finset.disjoint_left.mp h₃ h hi⟩
  rw [cut I₀ q f, cut_in s₁ q f, cut_in s₂ q f]

/-- A buffer that three copies read a part of each: each copy's part in its own share, and what is left of that share. -/
theorem lend {ℓ : Loc nD τ sig} (I₀ I₁ I₂ : Finset (Idx ℓ)) (f : Buf Val ℓ) :
    (ℓ ↦{fullShare} f : sProp 𝕄) = iprop(((ℓ ↦[I₀]{shareA} f) ∗ ℓ ↦[Finset.univ \ I₀]{shareA} f)
      ∗ ((ℓ ↦[I₁]{shareB} f) ∗ ℓ ↦[Finset.univ \ I₁]{shareB} f) ∗ (ℓ ↦[I₂]{shareC} f) ∗ ℓ ↦[Finset.univ \ I₂]{shareC} f) := by
  rw [thirds Finset.univ f, cut I₀ shareA f, cut I₁ shareB f, cut I₂ shareC f]

/-! ## A family of disjoint parts -/

section Family

variable {ℓ : Loc nD τ sig} {T : Type} (S : Finset T) (K : T → Finset (Idx ℓ))

open Classical in
/-- The contents of a buffer whose part `K t` has the contents `fs t`, for every `t` in `S`, and which has `f` elsewhere. -/
def patched (fs : T → Buf Val ℓ) (f : Buf Val ℓ) : Buf Val ℓ :=
  fun i => if h : ∃ t ∈ S, i ∈ K t then fs h.choose i else f i

variable {S K} (hK : ∀ t ∈ S, ∀ t' ∈ S, t ≠ t' → Disjoint (K t) (K t'))

include hK in
theorem patched_on (fs : T → Buf Val ℓ) (f : Buf Val ℓ) {t : T} (ht : t ∈ S) {i : Idx ℓ} (hi : i ∈ K t) : patched S K fs f i = fs t i := by
  have h : ∃ t ∈ S, i ∈ K t := ⟨t, ht, hi⟩
  have e : h.choose = t := by
    by_contra hne
    exact Finset.disjoint_left.mp (hK _ h.choose_spec.1 t ht hne) h.choose_spec.2 hi
  unfold patched
  rw [dif_pos h, e]

theorem patched_off (fs : T → Buf Val ℓ) (f : Buf Val ℓ) {i : Idx ℓ} (hi : i ∉ S.biUnion K) : patched S K fs f i = f i :=
  dif_neg fun h => hi (Finset.mem_biUnion.mpr h)

include hK in
/-- A buffer is dealt in the parts of the family and what is left of it, -/
theorem deal_parts (q : PosShare TreeShare) (f : Buf Val ℓ) :
    (ℓ ↦{q} f : sProp 𝕄) = iprop((bigSep S fun t => ℓ ↦[K t]{q} f) ∗ ℓ ↦[Finset.univ \ S.biUnion K]{q} f) := by
  rw [cut (S.biUnion K) q f, pointsTo_biUnion S K hK]

include hK in
/-- and is whole again once the parts are back, each with its new contents. -/
theorem join_parts (q : PosShare TreeShare) (fs : T → Buf Val ℓ) (f : Buf Val ℓ) :
    iprop((bigSep S fun t => ℓ ↦[K t]{q} fs t) ∗ ℓ ↦[Finset.univ \ S.biUnion K]{q} f) ⊢ (ℓ ↦{q} patched S K fs f : sProp 𝕄) := by
  rw [deal_parts hK q (patched S K fs f)]
  exact BI.sep_mono (bigSep_mono fun t ht => Entails.of_eq (pointsTo_congr fun i hi => (patched_on hK fs f ht hi).symm))
    (Entails.of_eq (pointsTo_congr fun i hi => (patched_off fs f (Finset.mem_sdiff.mp hi).2).symm))

end Family

/-- A set of whole buffers read off a final state. -/
theorem read_held (c : Thread nD τ) (V : Valuation τ sig Val) (s : Phys nD τ sig Val) (S : Finset (DevRef τ sig)) :
    iprop(StableHlo.held c S V ∗ SI s) ⊢ (iprop(⌜∀ b ∈ S, s.mem.mem (c.1, b) = V b⌝ ∗ SI s) : sProp 𝕄) := by
  classical
  induction S using Finset.induction_on with
  | empty =>
    iintro ⟨-, HS⟩
    isplitr
    · ipureintro; intro b hb; exact absurd hb (Finset.notMem_empty _)
    · iexact HS
  | insert a S ha ih =>
    have h : (StableHlo.held c (insert a S) V : sProp 𝕄) = iprop(((c.1, a) ↦{fullShare} V a) ∗ StableHlo.held c S V) := by
      unfold StableHlo.held; rw [bigSep_insert ha]; rfl
    rw [h]
    refine (read_sep read_one ih).trans ?_
    iintro ⟨%h, HS⟩
    isplitr
    · ipureintro
      intro b hb
      rcases Finset.mem_insert.mp hb with rfl | hb
      · exact h.1
      · exact h.2 b hb
    · iexact HS

/-- What a view of a buffer reads in a final state. -/
theorem read_view {c : Dev nD} {sp : Space} {s : Shape} {e : EltTy} {v : View sig .tc sp s e} {q : PosShare TreeShare}
    {f : Buf Val (v.loc (c.tc : Thread nD τ))} {w : s.Idx → Val e} (hw : v.read Val f = w) {S : Phys nD τ sig Val} :
    iprop((v.loc (c.tc : Thread nD τ) ↦[v.set]{q} f) ∗ SI S)
      ⊢ (iprop(⌜v.read Val (S.mem.mem (v.loc (c.tc : Thread nD τ))) = w⌝ ∗ SI S) : sProp 𝕄) := by
  iintro ⟨H, HS⟩
  icombine HS H gives %h
  isplitr
  · ipureintro; exact (View.read_congr h).trans hw
  · iexact HS

end Talk

end
-- ==== Proof.ExchangeChips.lean ====
/-
# The exchange between chips: every run of `ExchangeChips`

Each device sends each of the other three chips, same core, one part of both arrays: to the neighbour along x, along y, and on the
diagonal. Each lands in its own slot of the receiver's result. Wires 0 to 5 are the send semaphores, wires 6 to 11 the receive
semaphores: three for the first array, three for the second.

The three copies of an array read three different parts of it at once, each at its own share of the whole array. A result buffer
is dealt to the three peers that write it, one slot each.
-/
module

public import proofs.«01_k».proof.Proof.Talk.Pieces
public import proofs.«01_k».proof.Proof.Gen.ExchangeChips
public import proofs.«01_k».proof.Proof.Gen.ExchangeChips.Skeleton
public import proofs.«01_k».proof.Proof.Gen.ExchangeChips.Launch

@[expose] public section

set_option Elab.async false

noncomputable section

namespace Cert.ExchangeChips.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Talk Cert.ExchangeChips.Gen

variable {F : FTy → Type} [FloatOps F]

local notation "𝕄" => MT nD τ sig Unit (Elt F) ℕ (UU nD τ sig) ℕ

/-- The three peers of a device. -/
abbrev dir0 : Equiv.Perm (Dev nD) := across 4
abbrev dir1 : Equiv.Perm (Dev nD) := across 2
abbrev dir2 : Equiv.Perm (Dev nD) := across 6

/-! ## The wires -/

theorem dev1_eq (c : Dev nD) : (⟨k0_dev1 c, k0_dev1_lt c⟩ : Dev nD) = dir0 c := by revert c; decide +kernel
theorem dev2_eq (c : Dev nD) : (⟨k0_dev2 c, k0_dev2_lt c⟩ : Dev nD) = dir1 c := by revert c; decide +kernel
theorem dev3_eq (c : Dev nD) : (⟨k0_dev3 c, k0_dev3_lt c⟩ : Dev nD) = dir2 c := by revert c; decide +kernel
theorem dev4_eq (c : Dev nD) : (⟨k0_dev4 c, k0_dev4_lt c⟩ : Dev nD) = dir0 c := by revert c; decide +kernel
theorem dev5_eq (c : Dev nD) : (⟨k0_dev5 c, k0_dev5_lt c⟩ : Dev nD) = dir1 c := by revert c; decide +kernel
theorem dev6_eq (c : Dev nD) : (⟨k0_dev6 c, k0_dev6_lt c⟩ : Dev nD) = dir2 c := by revert c; decide +kernel

/-- The part of array `a` that device `c` sends in direction `k`, -/
def part00 (c : Dev nD) : Memref sig .tc .hbm S8x1024x704 .bf16 :=
  ((Memref.whole main_arg0).slice (Rect.unit (s := S4x8x1024x704) (k0_off1 c) S1x8x1024x704.size (k0_off1_inb c)) (fun _ => rfl)).squeeze
    S8x1024x704 squeezes_S1x8x1024x704_S8x1024x704
def part01 (c : Dev nD) : Memref sig .tc .hbm S8x1024x704 .bf16 :=
  ((Memref.whole main_arg0).slice (Rect.unit (s := S4x8x1024x704) (k0_off2 c) S1x8x1024x704.size (k0_off2_inb c)) (fun _ => rfl)).squeeze
    S8x1024x704 squeezes_S1x8x1024x704_S8x1024x704
def part02 (c : Dev nD) : Memref sig .tc .hbm S8x1024x704 .bf16 :=
  ((Memref.whole main_arg0).slice (Rect.unit (s := S4x8x1024x704) (k0_off3 c) S1x8x1024x704.size (k0_off3_inb c)) (fun _ => rfl)).squeeze
    S8x1024x704 squeezes_S1x8x1024x704_S8x1024x704
def part10 (c : Dev nD) : Memref sig .tc .hbm S10x512x1024 .bf16 :=
  ((Memref.whole main_arg1).slice (Rect.unit (s := S4x10x512x1024) (k0_off4 c) S1x10x512x1024.size (k0_off4_inb c)) (fun _ => rfl)).squeeze
    S10x512x1024 squeezes_S1x10x512x1024_S10x512x1024
def part11 (c : Dev nD) : Memref sig .tc .hbm S10x512x1024 .bf16 :=
  ((Memref.whole main_arg1).slice (Rect.unit (s := S4x10x512x1024) (k0_off5 c) S1x10x512x1024.size (k0_off5_inb c)) (fun _ => rfl)).squeeze
    S10x512x1024 squeezes_S1x10x512x1024_S10x512x1024
def part12 (c : Dev nD) : Memref sig .tc .hbm S10x512x1024 .bf16 :=
  ((Memref.whole main_arg1).slice (Rect.unit (s := S4x10x512x1024) (k0_off6 c) S1x10x512x1024.size (k0_off6_inb c)) (fun _ => rfl)).squeeze
    S10x512x1024 squeezes_S1x10x512x1024_S10x512x1024
/-- and the slot of the result it lands in. -/
def slot00 : Memref sig .tc .hbm S8x1024x704 .bf16 :=
  ((Memref.whole main_v1_0).slice (Rect.unit (s := S3x8x1024x704) ![0, 0, 0, 0] S1x8x1024x704.size inb_S3x8x1024x704_S1x8x1024x704_0_0_0_0) (fun _ => rfl)).squeeze
    S8x1024x704 squeezes_S1x8x1024x704_S8x1024x704
def slot01 : Memref sig .tc .hbm S8x1024x704 .bf16 :=
  ((Memref.whole main_v1_0).slice (Rect.unit (s := S3x8x1024x704) ![1, 0, 0, 0] S1x8x1024x704.size inb_S3x8x1024x704_S1x8x1024x704_1_0_0_0) (fun _ => rfl)).squeeze
    S8x1024x704 squeezes_S1x8x1024x704_S8x1024x704
def slot02 : Memref sig .tc .hbm S8x1024x704 .bf16 :=
  ((Memref.whole main_v1_0).slice (Rect.unit (s := S3x8x1024x704) ![2, 0, 0, 0] S1x8x1024x704.size inb_S3x8x1024x704_S1x8x1024x704_2_0_0_0) (fun _ => rfl)).squeeze
    S8x1024x704 squeezes_S1x8x1024x704_S8x1024x704
def slot10 : Memref sig .tc .hbm S10x512x1024 .bf16 :=
  ((Memref.whole main_v1_1).slice (Rect.unit (s := S3x10x512x1024) ![0, 0, 0, 0] S1x10x512x1024.size inb_S3x10x512x1024_S1x10x512x1024_0_0_0_0) (fun _ => rfl)).squeeze
    S10x512x1024 squeezes_S1x10x512x1024_S10x512x1024
def slot11 : Memref sig .tc .hbm S10x512x1024 .bf16 :=
  ((Memref.whole main_v1_1).slice (Rect.unit (s := S3x10x512x1024) ![1, 0, 0, 0] S1x10x512x1024.size inb_S3x10x512x1024_S1x10x512x1024_1_0_0_0) (fun _ => rfl)).squeeze
    S10x512x1024 squeezes_S1x10x512x1024_S10x512x1024
def slot12 : Memref sig .tc .hbm S10x512x1024 .bf16 :=
  ((Memref.whole main_v1_1).slice (Rect.unit (s := S3x10x512x1024) ![2, 0, 0, 0] S1x10x512x1024.size inb_S3x10x512x1024_S1x10x512x1024_2_0_0_0) (fun _ => rfl)).squeeze
    S10x512x1024 squeezes_S1x10x512x1024_S10x512x1024

/-- The slots of a result are apart. -/
theorem slot00_set : slot00.view.set = (Rect.unit (s := S3x8x1024x704) ![0, 0, 0, 0] S1x8x1024x704.size inb_S3x8x1024x704_S1x8x1024x704_0_0_0_0).set :=
  (View.set_reshape _ _).trans (View.set_slice_whole main_v1_0 _)
theorem slot01_set : slot01.view.set = (Rect.unit (s := S3x8x1024x704) ![1, 0, 0, 0] S1x8x1024x704.size inb_S3x8x1024x704_S1x8x1024x704_1_0_0_0).set :=
  (View.set_reshape _ _).trans (View.set_slice_whole main_v1_0 _)
theorem slot02_set : slot02.view.set = (Rect.unit (s := S3x8x1024x704) ![2, 0, 0, 0] S1x8x1024x704.size inb_S3x8x1024x704_S1x8x1024x704_2_0_0_0).set :=
  (View.set_reshape _ _).trans (View.set_slice_whole main_v1_0 _)
theorem slot10_set : slot10.view.set = (Rect.unit (s := S3x10x512x1024) ![0, 0, 0, 0] S1x10x512x1024.size inb_S3x10x512x1024_S1x10x512x1024_0_0_0_0).set :=
  (View.set_reshape _ _).trans (View.set_slice_whole main_v1_1 _)
theorem slot11_set : slot11.view.set = (Rect.unit (s := S3x10x512x1024) ![1, 0, 0, 0] S1x10x512x1024.size inb_S3x10x512x1024_S1x10x512x1024_1_0_0_0).set :=
  (View.set_reshape _ _).trans (View.set_slice_whole main_v1_1 _)
theorem slot12_set : slot12.view.set = (Rect.unit (s := S3x10x512x1024) ![2, 0, 0, 0] S1x10x512x1024.size inb_S3x10x512x1024_S1x10x512x1024_2_0_0_0).set :=
  (View.set_reshape _ _).trans (View.set_slice_whole main_v1_1 _)
theorem apart001 : Disjoint slot00.view.set slot01.view.set := by
  rw [slot00_set, slot01_set]; exact Rect.unit_disjoint (0 : Fin 4) (Or.inl (by decide))
theorem apart002 : Disjoint slot00.view.set slot02.view.set := by
  rw [slot00_set, slot02_set]; exact Rect.unit_disjoint (0 : Fin 4) (Or.inl (by decide))
theorem apart012 : Disjoint slot01.view.set slot02.view.set := by
  rw [slot01_set, slot02_set]; exact Rect.unit_disjoint (0 : Fin 4) (Or.inl (by decide))
theorem apart101 : Disjoint slot10.view.set slot11.view.set := by
  rw [slot10_set, slot11_set]; exact Rect.unit_disjoint (0 : Fin 4) (Or.inl (by decide))
theorem apart102 : Disjoint slot10.view.set slot12.view.set := by
  rw [slot10_set, slot12_set]; exact Rect.unit_disjoint (0 : Fin 4) (Or.inl (by decide))
theorem apart112 : Disjoint slot11.view.set slot12.view.set := by
  rw [slot11_set, slot12_set]; exact Rect.unit_disjoint (0 : Fin 4) (Or.inl (by decide))

/-- The credit of one copy of each array. -/
def credit0 : ℕ := slot00.view.dmaCredit
def credit1 : ℕ := slot10.view.dmaCredit
theorem credit0_pos : 0 < credit0 := View.dmaCredit_pos _ (by decide)
theorem credit1_pos : 0 < credit1 := View.dmaCredit_pos _ (by decide)

def wires : Wires nD sig (Fin 12) where
  sem j := j
  semInj := fun _ _ h => h
  dest := ![Equiv.refl _, Equiv.refl _, Equiv.refl _, Equiv.refl _, Equiv.refl _, Equiv.refl _, dir0, dir1, dir2, dir0, dir1, dir2]
  amt := ![credit0, credit0, credit0, credit1, credit1, credit1, credit0, credit0, credit0, credit1, credit1, credit1]
  amt_pos j := by fin_cases j <;> first | exact credit0_pos | exact credit1_pos
  far := {6, 7, 8, 9, 10, 11}
  rank _ := 0

variable (m : (ℓ : Loc nD τ sig) → Buf (Elt F) ℓ)

/-- What device `d` sends of array `a` in direction `k`. -/
def sent00 (d : Dev nD) : S8x1024x704.Idx → Elt F .bf16 := (part00 d).view.read (Elt F) (m ((d.tc : Thread nD τ).loc main_arg0))
def sent01 (d : Dev nD) : S8x1024x704.Idx → Elt F .bf16 := (part01 d).view.read (Elt F) (m ((d.tc : Thread nD τ).loc main_arg0))
def sent02 (d : Dev nD) : S8x1024x704.Idx → Elt F .bf16 := (part02 d).view.read (Elt F) (m ((d.tc : Thread nD τ).loc main_arg0))
def sent10 (d : Dev nD) : S10x512x1024.Idx → Elt F .bf16 := (part10 d).view.read (Elt F) (m ((d.tc : Thread nD τ).loc main_arg1))
def sent11 (d : Dev nD) : S10x512x1024.Idx → Elt F .bf16 := (part11 d).view.read (Elt F) (m ((d.tc : Thread nD τ).loc main_arg1))
def sent12 (d : Dev nD) : S10x512x1024.Idx → Elt F .bf16 := (part12 d).view.read (Elt F) (m ((d.tc : Thread nD τ).loc main_arg1))

/-! ## What the landings hand over -/

/-- The arrays of a device; -/
def arg0 (c : Dev nD) : sProp 𝕄 := ((c.tc : Thread nD τ).loc main_arg0) ↦{fullShare} m ((c.tc : Thread nD τ).loc main_arg0)
def arg1 (c : Dev nD) : sProp 𝕄 := ((c.tc : Thread nD τ).loc main_arg1) ↦{fullShare} m ((c.tc : Thread nD τ).loc main_arg1)
/-- the part a copy reads, at the copy's share; -/
def src00 (c : Dev nD) : sProp 𝕄 := (part00 c).view.loc (c.tc : Thread nD τ) ↦[(part00 c).view.set]{shareA} m ((c.tc : Thread nD τ).loc main_arg0)
def src01 (c : Dev nD) : sProp 𝕄 := (part01 c).view.loc (c.tc : Thread nD τ) ↦[(part01 c).view.set]{shareB} m ((c.tc : Thread nD τ).loc main_arg0)
def src02 (c : Dev nD) : sProp 𝕄 := (part02 c).view.loc (c.tc : Thread nD τ) ↦[(part02 c).view.set]{shareC} m ((c.tc : Thread nD τ).loc main_arg0)
def src10 (c : Dev nD) : sProp 𝕄 := (part10 c).view.loc (c.tc : Thread nD τ) ↦[(part10 c).view.set]{shareA} m ((c.tc : Thread nD τ).loc main_arg1)
def src11 (c : Dev nD) : sProp 𝕄 := (part11 c).view.loc (c.tc : Thread nD τ) ↦[(part11 c).view.set]{shareB} m ((c.tc : Thread nD τ).loc main_arg1)
def src12 (c : Dev nD) : sProp 𝕄 := (part12 c).view.loc (c.tc : Thread nD τ) ↦[(part12 c).view.set]{shareC} m ((c.tc : Thread nD τ).loc main_arg1)
/-- the rest of that share; -/
def left00 (c : Dev nD) : sProp 𝕄 := (part00 c).view.loc (c.tc : Thread nD τ) ↦[Finset.univ \ (part00 c).view.set]{shareA} m ((c.tc : Thread nD τ).loc main_arg0)
def left01 (c : Dev nD) : sProp 𝕄 := (part01 c).view.loc (c.tc : Thread nD τ) ↦[Finset.univ \ (part01 c).view.set]{shareB} m ((c.tc : Thread nD τ).loc main_arg0)
def left02 (c : Dev nD) : sProp 𝕄 := (part02 c).view.loc (c.tc : Thread nD τ) ↦[Finset.univ \ (part02 c).view.set]{shareC} m ((c.tc : Thread nD τ).loc main_arg0)
def left10 (c : Dev nD) : sProp 𝕄 := (part10 c).view.loc (c.tc : Thread nD τ) ↦[Finset.univ \ (part10 c).view.set]{shareA} m ((c.tc : Thread nD τ).loc main_arg1)
def left11 (c : Dev nD) : sProp 𝕄 := (part11 c).view.loc (c.tc : Thread nD τ) ↦[Finset.univ \ (part11 c).view.set]{shareB} m ((c.tc : Thread nD τ).loc main_arg1)
def left12 (c : Dev nD) : sProp 𝕄 := (part12 c).view.loc (c.tc : Thread nD τ) ↦[Finset.univ \ (part12 c).view.set]{shareC} m ((c.tc : Thread nD τ).loc main_arg1)
/-- a slot of a result before the exchange, -/
def room00 (d : Dev nD) : sProp 𝕄 := slot00.view.loc (d.tc : Thread nD τ) ↦[slot00.view.set]{fullShare} m ((d.tc : Thread nD τ).loc main_v1_0)
def room01 (d : Dev nD) : sProp 𝕄 := slot01.view.loc (d.tc : Thread nD τ) ↦[slot01.view.set]{fullShare} m ((d.tc : Thread nD τ).loc main_v1_0)
def room02 (d : Dev nD) : sProp 𝕄 := slot02.view.loc (d.tc : Thread nD τ) ↦[slot02.view.set]{fullShare} m ((d.tc : Thread nD τ).loc main_v1_0)
def room10 (d : Dev nD) : sProp 𝕄 := slot10.view.loc (d.tc : Thread nD τ) ↦[slot10.view.set]{fullShare} m ((d.tc : Thread nD τ).loc main_v1_1)
def room11 (d : Dev nD) : sProp 𝕄 := slot11.view.loc (d.tc : Thread nD τ) ↦[slot11.view.set]{fullShare} m ((d.tc : Thread nD τ).loc main_v1_1)
def room12 (d : Dev nD) : sProp 𝕄 := slot12.view.loc (d.tc : Thread nD τ) ↦[slot12.view.set]{fullShare} m ((d.tc : Thread nD τ).loc main_v1_1)
/-- and after device `e` has written it. -/
def got00 (d e : Dev nD) : sProp 𝕄 := slot00.view.loc (d.tc : Thread nD τ) ↦[slot00.view.set]{fullShare}
  slot00.view.write (Elt F) (m ((d.tc : Thread nD τ).loc main_v1_0)) (sent00 m e) Finset.univ
def got01 (d e : Dev nD) : sProp 𝕄 := slot01.view.loc (d.tc : Thread nD τ) ↦[slot01.view.set]{fullShare}
  slot01.view.write (Elt F) (m ((d.tc : Thread nD τ).loc main_v1_0)) (sent01 m e) Finset.univ
def got02 (d e : Dev nD) : sProp 𝕄 := slot02.view.loc (d.tc : Thread nD τ) ↦[slot02.view.set]{fullShare}
  slot02.view.write (Elt F) (m ((d.tc : Thread nD τ).loc main_v1_0)) (sent02 m e) Finset.univ
def got10 (d e : Dev nD) : sProp 𝕄 := slot10.view.loc (d.tc : Thread nD τ) ↦[slot10.view.set]{fullShare}
  slot10.view.write (Elt F) (m ((d.tc : Thread nD τ).loc main_v1_1)) (sent10 m e) Finset.univ
def got11 (d e : Dev nD) : sProp 𝕄 := slot11.view.loc (d.tc : Thread nD τ) ↦[slot11.view.set]{fullShare}
  slot11.view.write (Elt F) (m ((d.tc : Thread nD τ).loc main_v1_1)) (sent11 m e) Finset.univ
def got12 (d e : Dev nD) : sProp 𝕄 := slot12.view.loc (d.tc : Thread nD τ) ↦[slot12.view.set]{fullShare}
  slot12.view.write (Elt F) (m ((d.tc : Thread nD τ).loc main_v1_1)) (sent12 m e) Finset.univ

theorem arg0_cut (c : Dev nD) : arg0 m c = iprop((src00 m c ∗ left00 m c) ∗ (src01 m c ∗ left01 m c) ∗ (src02 m c ∗ left02 m c)) :=
  lend (ℓ := (part00 c).view.loc (c.tc : Thread nD τ)) (part00 c).view.set (part01 c).view.set (part02 c).view.set _
theorem out0_cut (c : Dev nD) : (((c.tc : Thread nD τ).loc main_v1_0) ↦{fullShare} m ((c.tc : Thread nD τ).loc main_v1_0) : sProp 𝕄)
    ⊢ iprop(room00 m c ∗ room01 m c ∗ room02 m c) := by
  have h : (((c.tc : Thread nD τ).loc main_v1_0) ↦{fullShare} m ((c.tc : Thread nD τ).loc main_v1_0) : sProp 𝕄)
      = iprop(room00 m c ∗ room01 m c ∗ room02 m c ∗ _) :=
    parts (ℓ := slot00.view.loc (c.tc : Thread nD τ)) slot00.view.set slot01.view.set slot02.view.set apart001 apart002 apart012 fullShare _
  rw [h]
  iintro ⟨H0, H1, H2, -⟩
  isplitl [H0]; · iexact H0
  isplitl [H1] <;> iassumption
theorem arg1_cut (c : Dev nD) : arg1 m c = iprop((src10 m c ∗ left10 m c) ∗ (src11 m c ∗ left11 m c) ∗ (src12 m c ∗ left12 m c)) :=
  lend (ℓ := (part10 c).view.loc (c.tc : Thread nD τ)) (part10 c).view.set (part11 c).view.set (part12 c).view.set _
theorem out1_cut (c : Dev nD) : (((c.tc : Thread nD τ).loc main_v1_1) ↦{fullShare} m ((c.tc : Thread nD τ).loc main_v1_1) : sProp 𝕄)
    ⊢ iprop(room10 m c ∗ room11 m c ∗ room12 m c) := by
  have h : (((c.tc : Thread nD τ).loc main_v1_1) ↦{fullShare} m ((c.tc : Thread nD τ).loc main_v1_1) : sProp 𝕄)
      = iprop(room10 m c ∗ room11 m c ∗ room12 m c ∗ _) :=
    parts (ℓ := slot10.view.loc (c.tc : Thread nD τ)) slot10.view.set slot11.view.set slot12.view.set apart101 apart102 apart112 fullShare _
  rw [h]
  iintro ⟨H0, H1, H2, -⟩
  isplitl [H0]; · iexact H0
  isplitl [H1] <;> iassumption

instance (c : Dev nD) : BI.Storable (upEmb : UEmb _ 𝕄) (src00 m c) := part_stored _ _ _ _
instance (d e : Dev nD) : BI.Storable (upEmb : UEmb _ 𝕄) (got00 m d e) := part_stored _ _ _ _
instance (c : Dev nD) : BI.Storable (upEmb : UEmb _ 𝕄) (src01 m c) := part_stored _ _ _ _
instance (d e : Dev nD) : BI.Storable (upEmb : UEmb _ 𝕄) (got01 m d e) := part_stored _ _ _ _
instance (c : Dev nD) : BI.Storable (upEmb : UEmb _ 𝕄) (src02 m c) := part_stored _ _ _ _
instance (d e : Dev nD) : BI.Storable (upEmb : UEmb _ 𝕄) (got02 m d e) := part_stored _ _ _ _
instance (c : Dev nD) : BI.Storable (upEmb : UEmb _ 𝕄) (src10 m c) := part_stored _ _ _ _
instance (d e : Dev nD) : BI.Storable (upEmb : UEmb _ 𝕄) (got10 m d e) := part_stored _ _ _ _
instance (c : Dev nD) : BI.Storable (upEmb : UEmb _ 𝕄) (src11 m c) := part_stored _ _ _ _
instance (d e : Dev nD) : BI.Storable (upEmb : UEmb _ 𝕄) (got11 m d e) := part_stored _ _ _ _
instance (c : Dev nD) : BI.Storable (upEmb : UEmb _ 𝕄) (src12 m c) := part_stored _ _ _ _
instance (d e : Dev nD) : BI.Storable (upEmb : UEmb _ 𝕄) (got12 m d e) := part_stored _ _ _ _

def hands : Handover nD τ sig (Elt F) (Fin 12) where
  pay j c := match j with
    | 0 => src00 m c
    | 1 => src01 m c
    | 2 => src02 m c
    | 3 => src10 m c
    | 4 => src11 m c
    | 5 => src12 m c
    | 6 => got00 m c (dir0 c)
    | 7 => got01 m c (dir1 c)
    | 8 => got02 m c (dir2 c)
    | 9 => got10 m c (dir0 c)
    | 10 => got11 m c (dir1 c)
    | 11 => got12 m c (dir2 c)
  stored j c := match j with
    | 0 => inferInstanceAs (BI.Storable upEmb (src00 m c))
    | 1 => inferInstanceAs (BI.Storable upEmb (src01 m c))
    | 2 => inferInstanceAs (BI.Storable upEmb (src02 m c))
    | 3 => inferInstanceAs (BI.Storable upEmb (src10 m c))
    | 4 => inferInstanceAs (BI.Storable upEmb (src11 m c))
    | 5 => inferInstanceAs (BI.Storable upEmb (src12 m c))
    | 6 => inferInstanceAs (BI.Storable upEmb (got00 m c (dir0 c)))
    | 7 => inferInstanceAs (BI.Storable upEmb (got01 m c (dir1 c)))
    | 8 => inferInstanceAs (BI.Storable upEmb (got02 m c (dir2 c)))
    | 9 => inferInstanceAs (BI.Storable upEmb (got10 m c (dir0 c)))
    | 10 => inferInstanceAs (BI.Storable upEmb (got11 m c (dir1 c)))
    | 11 => inferInstanceAs (BI.Storable upEmb (got12 m c (dir2 c)))

/-- Before the exchange a device holds its own arrays and a slot of each peer's results; -/
def before (c : Dev nD) : sProp 𝕄 := iprop(arg0 m c ∗ arg1 m c ∗ room00 m (dir0 c) ∗ room01 m (dir1 c) ∗ room02 m (dir2 c) ∗ room10 m (dir0 c) ∗ room11 m (dir1 c) ∗ room12 m (dir2 c))
/-- after it, its own arrays and its own slots, at what the peers sent. -/
def after (c : Dev nD) : sProp 𝕄 := iprop(arg0 m c ∗ arg1 m c ∗ got00 m c (dir0 c) ∗ got01 m c (dir1 c) ∗ got02 m c (dir2 c) ∗ got10 m c (dir0 c) ∗ got11 m c (dir1 c) ∗ got12 m c (dir2 c))

theorem landed00 (c : Dev nD) :
    (slot00.view.loc ((dir0 c).tc : Thread nD τ) ↦[slot00.view.set]{fullShare}
        (slot00.view.write (Elt F) (m (((dir0 c).tc : Thread nD τ).loc main_v1_0)) ((part00 c).view.read (Elt F) (m ((c.tc : Thread nD τ).loc main_arg0))) Finset.univ) : sProp 𝕄)
      ⊢ got00 m (dir0 c) (dir0 (dir0 c)) := by
  rw [across_across]
  exact BI.Entails.refl _
theorem landed01 (c : Dev nD) :
    (slot01.view.loc ((dir1 c).tc : Thread nD τ) ↦[slot01.view.set]{fullShare}
        (slot01.view.write (Elt F) (m (((dir1 c).tc : Thread nD τ).loc main_v1_0)) ((part01 c).view.read (Elt F) (m ((c.tc : Thread nD τ).loc main_arg0))) Finset.univ) : sProp 𝕄)
      ⊢ got01 m (dir1 c) (dir1 (dir1 c)) := by
  rw [across_across]
  exact BI.Entails.refl _
theorem landed02 (c : Dev nD) :
    (slot02.view.loc ((dir2 c).tc : Thread nD τ) ↦[slot02.view.set]{fullShare}
        (slot02.view.write (Elt F) (m (((dir2 c).tc : Thread nD τ).loc main_v1_0)) ((part02 c).view.read (Elt F) (m ((c.tc : Thread nD τ).loc main_arg0))) Finset.univ) : sProp 𝕄)
      ⊢ got02 m (dir2 c) (dir2 (dir2 c)) := by
  rw [across_across]
  exact BI.Entails.refl _
theorem landed10 (c : Dev nD) :
    (slot10.view.loc ((dir0 c).tc : Thread nD τ) ↦[slot10.view.set]{fullShare}
        (slot10.view.write (Elt F) (m (((dir0 c).tc : Thread nD τ).loc main_v1_1)) ((part10 c).view.read (Elt F) (m ((c.tc : Thread nD τ).loc main_arg1))) Finset.univ) : sProp 𝕄)
      ⊢ got10 m (dir0 c) (dir0 (dir0 c)) := by
  rw [across_across]
  exact BI.Entails.refl _
theorem landed11 (c : Dev nD) :
    (slot11.view.loc ((dir1 c).tc : Thread nD τ) ↦[slot11.view.set]{fullShare}
        (slot11.view.write (Elt F) (m (((dir1 c).tc : Thread nD τ).loc main_v1_1)) ((part11 c).view.read (Elt F) (m ((c.tc : Thread nD τ).loc main_arg1))) Finset.univ) : sProp 𝕄)
      ⊢ got11 m (dir1 c) (dir1 (dir1 c)) := by
  rw [across_across]
  exact BI.Entails.refl _
theorem landed12 (c : Dev nD) :
    (slot12.view.loc ((dir2 c).tc : Thread nD τ) ↦[slot12.view.set]{fullShare}
        (slot12.view.write (Elt F) (m (((dir2 c).tc : Thread nD τ).loc main_v1_1)) ((part12 c).view.read (Elt F) (m ((c.tc : Thread nD τ).loc main_arg1))) Finset.univ) : sProp 𝕄)
      ⊢ got12 m (dir2 c) (dir2 (dir2 c)) := by
  rw [across_across]
  exact BI.Entails.refl _

/-! ## The body -/

theorem twelve (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
/-- The wires a device still owes, send after send. -/
abbrev owed6 : Finset (Fin 12) := {6, 7, 8, 9, 10, 11}
abbrev owed5 : Finset (Fin 12) := {7, 8, 9, 10, 11}
abbrev owed4 : Finset (Fin 12) := {8, 9, 10, 11}
abbrev owed3 : Finset (Fin 12) := {9, 10, 11}
abbrev owed2 : Finset (Fin 12) := {10, 11}
abbrev owed1 : Finset (Fin 12) := {11}
abbrev owed0 : Finset (Fin 12) := ∅
theorem six (Φ : Fin 12 → sProp 𝕄) : bigSep owed6 Φ = iprop(Φ 6 ∗ Φ 7 ∗ Φ 8 ∗ Φ 9 ∗ Φ 10 ∗ Φ 11) :=
  bigSep_eq_bigSepL_of_eq [6, 7, 8, 9, 10, 11] (by decide) (by decide) Φ

abbrev 𝒱₀ : Variants := Variants.none

set_option maxRecDepth 8000 in
theorem body (c : Dev nD) : BodyRuns wires (hands m) (before m) (after m) (defs₀ (F := F)) 𝒱₀ c
    (cc0_reduce_exchange_chips (F := F) (Memref.whole main_arg0) (Memref.isWhole_whole _) (Memref.whole main_arg1) (Memref.isWhole_whole _)
      (Memref.whole main_v1_0) (Memref.isWhole_whole _) (Memref.whole main_v1_1) (Memref.isWhole_whole _) cc0_scratch0 cc0_scratch1) := fun K => by
  rw [cc0_reduce_exchange_chips_eq_skeleton]
  unfold cc0_reduce_exchange_chips_skel
  rw [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  unfold tools dues before
  rw [twelve, twelve, arg0_cut, arg1_cut, show wires.far = owed6 from rfl, six]
  iintro ⟨#HK, ⟨⟨Hp0, Hp1, Hp2, Hp3, Hp4, Hp5, Hp6, Hp7, Hp8, Hp9, Hp10, Hp11⟩, ⟨Ht0, Ht1, Ht2, Ht3, Ht4, Ht5, Ht6, Ht7, Ht8, Ht9, Ht10, Ht11⟩⟩, #Hlev, ⟨Hd6, Hd7, Hd8, Hd9, Hd10, Hd11⟩, ⟨⟨⟨Hs00, Hl00⟩, ⟨Hs01, Hl01⟩, ⟨Hs02, Hl02⟩⟩, ⟨⟨Hs10, Hl10⟩, ⟨Hs11, Hl11⟩, ⟨Hs12, Hl12⟩⟩, Hr00, Hr01, Hr02, Hr10, Hr11, Hr12⟩, HO⟩
  iapply (wp_send wires (hands m) 𝒱₀ K c _ 0 6 (S := owed6) (S' := owed5) (src := part00 c) (dst := slot00) (sS := 0) (sR := 6)
    rfl (dev1_eq c) (by decide) (by decide) rfl rfl rfl rfl shareA (m ((c.tc : Thread nD τ).loc main_arg0)) (m (((dir0 c).tc : Thread nD τ).loc main_v1_0))
    (BI.Entails.refl (src00 m c)) (landed00 m c) (A := src00 m c) (B := room00 m (dir0 c)) (BI.Entails.refl _) (BI.Entails.refl _)) $$ [Ht0 Ht6 HO Hs00 Hr00]
  · isplitr; · iexact HK
    isplitl [Ht0]; · iexact Ht0
    isplitl [Ht6]; · iexact Ht6
    isplitl [HO]; · iexact HO
    isplitl [Hs00]; · iexact Hs00
    iexact Hr00
  iintro ⟨Hd0, HO⟩
  iapply (wp_send wires (hands m) 𝒱₀ K c _ 1 7 (S := owed5) (S' := owed4) (src := part01 c) (dst := slot01) (sS := 1) (sR := 7)
    rfl (dev2_eq c) (by decide) (by decide) rfl rfl rfl rfl shareB (m ((c.tc : Thread nD τ).loc main_arg0)) (m (((dir1 c).tc : Thread nD τ).loc main_v1_0))
    (BI.Entails.refl (src01 m c)) (landed01 m c) (A := src01 m c) (B := room01 m (dir1 c)) (BI.Entails.refl _) (BI.Entails.refl _)) $$ [Ht1 Ht7 HO Hs01 Hr01]
  · isplitr; · iexact HK
    isplitl [Ht1]; · iexact Ht1
    isplitl [Ht7]; · iexact Ht7
    isplitl [HO]; · iexact HO
    isplitl [Hs01]; · iexact Hs01
    iexact Hr01
  iintro ⟨Hd1, HO⟩
  iapply (wp_send wires (hands m) 𝒱₀ K c _ 2 8 (S := owed4) (S' := owed3) (src := part02 c) (dst := slot02) (sS := 2) (sR := 8)
    rfl (dev3_eq c) (by decide) (by decide) rfl rfl rfl rfl shareC (m ((c.tc : Thread nD τ).loc main_arg0)) (m (((dir2 c).tc : Thread nD τ).loc main_v1_0))
    (BI.Entails.refl (src02 m c)) (landed02 m c) (A := src02 m c) (B := room02 m (dir2 c)) (BI.Entails.refl _) (BI.Entails.refl _)) $$ [Ht2 Ht8 HO Hs02 Hr02]
  · isplitr; · iexact HK
    isplitl [Ht2]; · iexact Ht2
    isplitl [Ht8]; · iexact Ht8
    isplitl [HO]; · iexact HO
    isplitl [Hs02]; · iexact Hs02
    iexact Hr02
  iintro ⟨Hd2, HO⟩
  iapply (wp_send wires (hands m) 𝒱₀ K c _ 3 9 (S := owed3) (S' := owed2) (src := part10 c) (dst := slot10) (sS := 3) (sR := 9)
    rfl (dev4_eq c) (by decide) (by decide) rfl rfl rfl rfl shareA (m ((c.tc : Thread nD τ).loc main_arg1)) (m (((dir0 c).tc : Thread nD τ).loc main_v1_1))
    (BI.Entails.refl (src10 m c)) (landed10 m c) (A := src10 m c) (B := room10 m (dir0 c)) (BI.Entails.refl _) (BI.Entails.refl _)) $$ [Ht3 Ht9 HO Hs10 Hr10]
  · isplitr; · iexact HK
    isplitl [Ht3]; · iexact Ht3
    isplitl [Ht9]; · iexact Ht9
    isplitl [HO]; · iexact HO
    isplitl [Hs10]; · iexact Hs10
    iexact Hr10
  iintro ⟨Hd3, HO⟩
  iapply (wp_send wires (hands m) 𝒱₀ K c _ 4 10 (S := owed2) (S' := owed1) (src := part11 c) (dst := slot11) (sS := 4) (sR := 10)
    rfl (dev5_eq c) (by decide) (by decide) rfl rfl rfl rfl shareB (m ((c.tc : Thread nD τ).loc main_arg1)) (m (((dir1 c).tc : Thread nD τ).loc main_v1_1))
    (BI.Entails.refl (src11 m c)) (landed11 m c) (A := src11 m c) (B := room11 m (dir1 c)) (BI.Entails.refl _) (BI.Entails.refl _)) $$ [Ht4 Ht10 HO Hs11 Hr11]
  · isplitr; · iexact HK
    isplitl [Ht4]; · iexact Ht4
    isplitl [Ht10]; · iexact Ht10
    isplitl [HO]; · iexact HO
    isplitl [Hs11]; · iexact Hs11
    iexact Hr11
  iintro ⟨Hd4, HO⟩
  iapply (wp_send wires (hands m) 𝒱₀ K c _ 5 11 (S := owed1) (S' := owed0) (src := part12 c) (dst := slot12) (sS := 5) (sR := 11)
    rfl (dev6_eq c) (by decide) (by decide) rfl rfl rfl rfl shareC (m ((c.tc : Thread nD τ).loc main_arg1)) (m (((dir2 c).tc : Thread nD τ).loc main_v1_1))
    (BI.Entails.refl (src12 m c)) (landed12 m c) (A := src12 m c) (B := room12 m (dir2 c)) (BI.Entails.refl _) (BI.Entails.refl _)) $$ [Ht5 Ht11 HO Hs12 Hr12]
  · isplitr; · iexact HK
    isplitl [Ht5]; · iexact Ht5
    isplitl [Ht11]; · iexact Ht11
    isplitl [HO]; · iexact HO
    isplitl [Hs12]; · iexact Hs12
    iexact Hr12
  iintro ⟨Hd5, HO⟩
  iapply (wp_wait wires (hands m) 𝒱₀ K c 0 owed0 (by simp) (dst := part00 c) (sR := 0) rfl rfl (C := src00 m c) (BI.Entails.refl _)) $$ [Hp0 Hd0 HO]
  · isplitr; · iexact HK
    isplitr; · iexact Hlev
    isplitl [Hp0]; · iexact Hp0
    isplitl [Hd0]; · iexact Hd0
    iexact HO
  iintro ⟨Hs00, Hz0, HO⟩
  iapply (wp_wait wires (hands m) 𝒱₀ K c 6 owed0 (by simp) (dst := slot00) (sR := 6) rfl rfl (C := got00 m c (dir0 c)) (BI.Entails.refl _)) $$ [Hp6 Hd6 HO]
  · isplitr; · iexact HK
    isplitr; · iexact Hlev
    isplitl [Hp6]; · iexact Hp6
    isplitl [Hd6]; · iexact Hd6
    iexact HO
  iintro ⟨Ho00, Hz6, HO⟩
  iapply (wp_wait wires (hands m) 𝒱₀ K c 1 owed0 (by simp) (dst := part01 c) (sR := 1) rfl rfl (C := src01 m c) (BI.Entails.refl _)) $$ [Hp1 Hd1 HO]
  · isplitr; · iexact HK
    isplitr; · iexact Hlev
    isplitl [Hp1]; · iexact Hp1
    isplitl [Hd1]; · iexact Hd1
    iexact HO
  iintro ⟨Hs01, Hz1, HO⟩
  iapply (wp_wait wires (hands m) 𝒱₀ K c 7 owed0 (by simp) (dst := slot01) (sR := 7) rfl rfl (C := got01 m c (dir1 c)) (BI.Entails.refl _)) $$ [Hp7 Hd7 HO]
  · isplitr; · iexact HK
    isplitr; · iexact Hlev
    isplitl [Hp7]; · iexact Hp7
    isplitl [Hd7]; · iexact Hd7
    iexact HO
  iintro ⟨Ho01, Hz7, HO⟩
  iapply (wp_wait wires (hands m) 𝒱₀ K c 2 owed0 (by simp) (dst := part02 c) (sR := 2) rfl rfl (C := src02 m c) (BI.Entails.refl _)) $$ [Hp2 Hd2 HO]
  · isplitr; · iexact HK
    isplitr; · iexact Hlev
    isplitl [Hp2]; · iexact Hp2
    isplitl [Hd2]; · iexact Hd2
    iexact HO
  iintro ⟨Hs02, Hz2, HO⟩
  iapply (wp_wait wires (hands m) 𝒱₀ K c 8 owed0 (by simp) (dst := slot02) (sR := 8) rfl rfl (C := got02 m c (dir2 c)) (BI.Entails.refl _)) $$ [Hp8 Hd8 HO]
  · isplitr; · iexact HK
    isplitr; · iexact Hlev
    isplitl [Hp8]; · iexact Hp8
    isplitl [Hd8]; · iexact Hd8
    iexact HO
  iintro ⟨Ho02, Hz8, HO⟩
  iapply (wp_wait wires (hands m) 𝒱₀ K c 3 owed0 (by simp) (dst := part10 c) (sR := 3) rfl rfl (C := src10 m c) (BI.Entails.refl _)) $$ [Hp3 Hd3 HO]
  · isplitr; · iexact HK
    isplitr; · iexact Hlev
    isplitl [Hp3]; · iexact Hp3
    isplitl [Hd3]; · iexact Hd3
    iexact HO
  iintro ⟨Hs10, Hz3, HO⟩
  iapply (wp_wait wires (hands m) 𝒱₀ K c 9 owed0 (by simp) (dst := slot10) (sR := 9) rfl rfl (C := got10 m c (dir0 c)) (BI.Entails.refl _)) $$ [Hp9 Hd9 HO]
  · isplitr; · iexact HK
    isplitr; · iexact Hlev
    isplitl [Hp9]; · iexact Hp9
    isplitl [Hd9]; · iexact Hd9
    iexact HO
  iintro ⟨Ho10, Hz9, HO⟩
  iapply (wp_wait wires (hands m) 𝒱₀ K c 4 owed0 (by simp) (dst := part11 c) (sR := 4) rfl rfl (C := src11 m c) (BI.Entails.refl _)) $$ [Hp4 Hd4 HO]
  · isplitr; · iexact HK
    isplitr; · iexact Hlev
    isplitl [Hp4]; · iexact Hp4
    isplitl [Hd4]; · iexact Hd4
    iexact HO
  iintro ⟨Hs11, Hz4, HO⟩
  iapply (wp_wait wires (hands m) 𝒱₀ K c 10 owed0 (by simp) (dst := slot11) (sR := 10) rfl rfl (C := got11 m c (dir1 c)) (BI.Entails.refl _)) $$ [Hp10 Hd10 HO]
  · isplitr; · iexact HK
    isplitr; · iexact Hlev
    isplitl [Hp10]; · iexact Hp10
    isplitl [Hd10]; · iexact Hd10
    iexact HO
  iintro ⟨Ho11, Hz10, HO⟩
  iapply (wp_wait wires (hands m) 𝒱₀ K c 5 owed0 (by simp) (dst := part12 c) (sR := 5) rfl rfl (C := src12 m c) (BI.Entails.refl _)) $$ [Hp5 Hd5 HO]
  · isplitr; · iexact HK
    isplitr; · iexact Hlev
    isplitl [Hp5]; · iexact Hp5
    isplitl [Hd5]; · iexact Hd5
    iexact HO
  iintro ⟨Hs12, Hz5, HO⟩
  iapply (wp_wait wires (hands m) 𝒱₀ K c 11 owed0 (by simp) (dst := slot12) (sR := 11) rfl rfl (C := got12 m c (dir2 c)) (BI.Entails.refl _)) $$ [Hp11 Hd11 HO]
  · isplitr; · iexact HK
    isplitr; · iexact Hlev
    isplitl [Hp11]; · iexact Hp11
    isplitl [Hd11]; · iexact Hd11
    iexact HO
  iintro ⟨Ho12, Hz11, HO⟩
  rw [wp_ret]
  imodintro
  unfold after
  rw [twelve, arg0_cut, arg1_cut]
  isplitl [Hs00 Hl00 Hs01 Hl01 Hs02 Hl02 Hs10 Hl10 Hs11 Hl11 Hs12 Hl12 Ho00 Ho01 Ho02 Ho10 Ho11 Ho12]
  · isplitl [Hs00 Hl00 Hs01 Hl01 Hs02 Hl02]
    · isplitl [Hs00 Hl00]; · isplitl [Hs00] <;> iassumption
      isplitl [Hs01 Hl01]; · isplitl [Hs01] <;> iassumption
      isplitl [Hs02] <;> iassumption
    isplitl [Hs10 Hl10 Hs11 Hl11 Hs12 Hl12]
    · isplitl [Hs10 Hl10]; · isplitl [Hs10] <;> iassumption
      isplitl [Hs11 Hl11]; · isplitl [Hs11] <;> iassumption
      isplitl [Hs12] <;> iassumption
    isplitl [Ho00]; · iexact Ho00
    isplitl [Ho01]; · iexact Ho01
    isplitl [Ho02]; · iexact Ho02
    isplitl [Ho10]; · iexact Ho10
    isplitl [Ho11] <;> iassumption
  isplitr [HO]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10] <;> iassumption
  iexact HO

/-! ## The launch -/

/-- The program's one pipeline: the exchange. -/
def pdats (p : Fin 1) (c : Dev nD) : Dat τ (Elt F) Unit ℕ (UU nD τ sig) ℕ (Pipeline.pin (pcfgs (F := F)) (fun p => (cfgs p).toPCfg_adm) p) c :=
  match p with
  | 0 => exchangeDat wires (hands m) (before m) (after m) _ (inferInstanceAs (IsEmpty (Fin 0))) c

theorem deal_slots : (bigSep Finset.univ fun c : Dev nD => iprop(arg0 m c ∗ arg1 m c ∗ (room00 m c ∗ room01 m c ∗ room02 m c) ∗ (room10 m c ∗ room11 m c ∗ room12 m c)))
    ⊢ (bigSep Finset.univ fun c : Dev nD => iprop(before m c ∗ emp) : sProp 𝕄) := by
  unfold before
  simp only [bigSep_sep']
  rw [bigSep_univ_equiv dir0 (fun c => (room00 m c : sProp 𝕄)), bigSep_univ_equiv dir1 (fun c => (room01 m c : sProp 𝕄)), bigSep_univ_equiv dir2 (fun c => (room02 m c : sProp 𝕄)), bigSep_univ_equiv dir0 (fun c => (room10 m c : sProp 𝕄)), bigSep_univ_equiv dir1 (fun c => (room11 m c : sProp 𝕄)), bigSep_univ_equiv dir2 (fun c => (room12 m c : sProp 𝕄))]
  iintro ⟨Ha0, Ha1, ⟨Hr00, Hr01, Hr02⟩, ⟨Hr10, Hr11, Hr12⟩⟩
  isplitl
  · isplitl [Ha0]; · iexact Ha0
    isplitl [Ha1]; · iexact Ha1
    isplitl [Hr00]; · iexact Hr00
    isplitl [Hr01]; · iexact Hr01
    isplitl [Hr02]; · iexact Hr02
    isplitl [Hr10]; · iexact Hr10
    isplitl [Hr11] <;> iassumption
  iapply (BI.bigSep_intro_persistent (S := Finset.univ) fun (c : Dev nD) _ => (BI.Entails.refl (iprop(emp) : sProp 𝕄)))
  iempintro

theorem deal_bufs : (bigSep Finset.univ fun c : Dev nD => unscopedBufs c (fun b => m ((c.tc : Thread nD τ).loc b)))
    ⊢ (bigSep Finset.univ fun c : Dev nD => iprop(before m c ∗ emp) : sProp 𝕄) := by
  have h : ∀ c : Dev nD, (unscopedBufs c (fun b => m ((c.tc : Thread nD τ).loc b)) : sProp 𝕄)
      ⊢ iprop(arg0 m c ∗ arg1 m c ∗ (room00 m c ∗ room01 m c ∗ room02 m c) ∗ (room10 m c ∗ room11 m c ∗ room12 m c)) := fun c => by
    have hb : (unscopedBufs c (fun b => m ((c.tc : Thread nD τ).loc b)) : sProp 𝕄) = iprop(arg0 m c ∗ arg1 m c
        ∗ (((c.tc : Thread nD τ).loc main_v1_0) ↦{fullShare} m ((c.tc : Thread nD τ).loc main_v1_0))
        ∗ (((c.tc : Thread nD τ).loc main_v1_1) ↦{fullShare} m ((c.tc : Thread nD τ).loc main_v1_1))) :=
      bigSep_eq_bigSepL_of_eq [main_arg0, main_arg1, main_v1_0, main_v1_1] (by decide) (by decide) _
    rw [hb]
    exact sep_mono_right (sep_mono_right (BI.sep_mono (out0_cut m c) (out1_cut m c)))
  exact (bigSep_mono fun c _ => h c).trans (deal_slots m)

theorem ownSems : OwnSemFacts cfg0.spec wires.at_ := by decide

/-- Every run of the program ends, with each slot of every device's results at what that peer sent, its arguments unchanged and every
    semaphore at zero. -/
theorem runs (g : Dev nD → PrngReg) :
    θ_run (defs (F := F)) (onTc (τ := τ) (main (F := F))) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ slot00.view.read (Elt F) (r.2.mem ((c.tc : Thread nD τ).loc main_v1_0)) = sent00 m (dir0 c)
        ∧ slot01.view.read (Elt F) (r.2.mem ((c.tc : Thread nD τ).loc main_v1_0)) = sent01 m (dir1 c)
        ∧ slot02.view.read (Elt F) (r.2.mem ((c.tc : Thread nD τ).loc main_v1_0)) = sent02 m (dir2 c)
        ∧ slot10.view.read (Elt F) (r.2.mem ((c.tc : Thread nD τ).loc main_v1_1)) = sent10 m (dir0 c)
        ∧ slot11.view.read (Elt F) (r.2.mem ((c.tc : Thread nD τ).loc main_v1_1)) = sent11 m (dir1 c)
        ∧ slot12.view.read (Elt F) (r.2.mem ((c.tc : Thread nD τ).loc main_v1_1)) = sent12 m (dir2 c))
      ∧ r.2.sem = fun _ => 0) := by
  haveI hW : IsEmpty (Fin (Pipeline.pin (pcfgs (F := F)) (fun p => (cfgs p).toPCfg_adm) 0).W) := inferInstanceAs (IsEmpty (Fin 0))
  refine θ_run_exchange wires (hands m) (before m) (after m) (pcfgs (F := F)) (fun p => (cfgs p).toPCfg_adm) (pdats m) (defs₀ (F := F)) 𝒱₀
    (fun _ => iprop(emp)) cellOf_inj 0 (fun c => ⟨_, rfl⟩) hW N_0 winFacts0.to₀ (inferInstanceAs (IsEmpty (Fin 0))) ownSems
    (fun c => scopedRest0_eq c) (fun c t => body m c) m g (deal_bufs m) (main (F := F)) (fun _ => []) (fun c => rfl)
    (fun c => List.nodup_nil) (fun c => List.not_mem_nil) (after m) (fun c => ?_)
    (fun c s => s.mem ((c.tc : Thread nD τ).loc main_arg0) = m ((c.tc : Thread nD τ).loc main_arg0)
        ∧ s.mem ((c.tc : Thread nD τ).loc main_arg1) = m ((c.tc : Thread nD τ).loc main_arg1)
        ∧ slot00.view.read (Elt F) (s.mem ((c.tc : Thread nD τ).loc main_v1_0)) = sent00 m (dir0 c)
        ∧ slot01.view.read (Elt F) (s.mem ((c.tc : Thread nD τ).loc main_v1_0)) = sent01 m (dir1 c)
        ∧ slot02.view.read (Elt F) (s.mem ((c.tc : Thread nD τ).loc main_v1_0)) = sent02 m (dir2 c)
        ∧ slot10.view.read (Elt F) (s.mem ((c.tc : Thread nD τ).loc main_v1_1)) = sent10 m (dir0 c)
        ∧ slot11.view.read (Elt F) (s.mem ((c.tc : Thread nD τ).loc main_v1_1)) = sent11 m (dir1 c)
        ∧ slot12.view.read (Elt F) (s.mem ((c.tc : Thread nD τ).loc main_v1_1)) = sent12 m (dir2 c))
    (fun c s' => ?_) (fun s h hs => ⟨h, sem_eq_zero_of_scoped (by decide) hs⟩)
  · show iprop(after m c ∗ emp ∗ owing wires c ∅) ⊢ iprop(after m c ∗ ∃ V, owes (c.tc : Thread nD τ) (0 : CellTallies nD τ sig Unit) V)
    unfold Talk.owing
    rw [Wires.owed_empty]
    iintro ⟨Ha, -, HO⟩
    isplitl [Ha] <;> iassumption
  · exact (read_sep read_one (read_sep read_one (read_sep (read_view (View.read_write_univ _ _)) (read_sep (read_view (View.read_write_univ _ _)) (read_sep (read_view (View.read_write_univ _ _)) (read_sep (read_view (View.read_write_univ _ _)) (read_sep (read_view (View.read_write_univ _ _)) (read_view (View.read_write_univ _ _))))))))).trans fupd_intro

end Cert.ExchangeChips.Run

end
-- ==== Proof.ExchangeChipsValue.lean ====
/-
# The exchange between chips: `ExchangeChips` meets its reference

The reference takes rows of the whole array by a table. Row `3c + k` of its result is, by that table, the row device `c`'s peer
in direction `k` holds for `c`'s chip: the one that peer sends.
-/
module

public import proofs.«01_k».proof.Proof.ExchangeChips
public import proofs.«01_k».proof.Proof.Talk.Part
public import proofs.«01_k».proof.Proof.Gen.ExchangeChipsRef.Run
public import Idealize.ShloMosaic.Lib.PointwiseCore
public import Idealize.ShloMosaic.Lib.Layout

@[expose] public section

noncomputable section

namespace Cert.ExchangeChipsRef.Value

open Idealize.ShloMosaic Cert.ExchangeChipsRef Cert.ExchangeChipsRef.Gen

variable {F : FTy → Type} [FloatOps F]

/-- The table of rows, -/
def table : IVec S24x1 32 := broadcastInDim S24x1 ![0] bcast_S24_S24x1_0 (fun i => lit0 (S24.rowMajor i))

set_option maxRecDepth 16384 in
/-- read at a place, -/
theorem table_at (p : Fin 24) : table (ix2 p (0 : Fin 1)) = lit0 p := by
  pointwise [table]
  exact congrArg lit0 (Fin.ext (Shape.rowMajor_val_one _))

/-- names rows of the array only. -/
theorem lit0_small : ∀ p : Fin 24, (lit0 p).toInt.toNat ≤ 31 := by decide

/-- What the reference returns of its first array; -/
def taken0 (A : S32x8x1024x704.Idx → Elt F .bf16) : S24x8x1024x704.Idx → Elt F .bf16 := Host.gather gather_S32x8x1024x704_S24x1_S24x8x1024x704_123_0_n_n_0_1_181024704 A table

/-- at row `p`, the row the table names there. -/
theorem taken0_at (A : S32x8x1024x704.Idx → Elt F .bf16) (p : Fin 24) (l : Fin 8) (r : Fin 1024) (k : Fin 704) (q : Fin 32)
    (hq : q.val = (lit0 p).toInt.toNat) : taken0 A (ix4 p l r k) = A (ix4 q l r k) := by
  have e0 : ∀ X : Fin 4, X = 0 → (ix4 p l r k X).val = p.val := fun X h => by subst h; rfl
  have e1 : ∀ X : Fin 4, X = 1 → (ix4 p l r k X).val = l.val := fun X h => by subst h; rfl
  have e2 : ∀ X : Fin 4, X = 2 → (ix4 p l r k X).val = r.val := fun X h => by subst h; rfl
  have e3 : ∀ X : Fin 4, X = 3 → (ix4 p l r k X).val = k.val := fun X h => by subst h; rfl
  unfold taken0 Host.gather
  refine congrArg A (funext fun a => Fin.ext ?_)
  unfold GatherDims.operandIdx
  match a with
  | 0 =>
    show GatherDims.start _ _ _ _ + GatherDims.batchCoord _ _ _ + GatherDims.offCoord _ _ _ = q.val
    rw [GatherDims.batchCoord_eq_zero _ _ _ (by decide), GatherDims.offCoord_eq_zero _ _ _ (by decide)]
    unfold GatherDims.start
    rw [dif_pos (by decide)]
    have hi : ∀ c, GatherDims.siIdx gather_S32x8x1024x704_S24x1_S24x8x1024x704_123_0_n_n_0_1_181024704 (ix4 p l r k) c = ix2 p (0 : Fin 1) := fun c => by
      funext b
      refine Fin.ext ?_
      match b with
      | 0 =>
        unfold GatherDims.siIdx
        rw [dif_neg (by decide)]
        unfold GatherDims.siCoord
        simp only [Fin.val_cast]
        exact e0 _ (by decide)
      | 1 => exact Nat.lt_one_iff.mp (Fin.isLt _)
    rw [hi, table_at]
    have := lit0_small p
    show min _ 31 + 0 + 0 = q.val
    omega
  | 1 =>
    show GatherDims.start _ _ _ _ + GatherDims.batchCoord _ _ _ + GatherDims.offCoord _ _ _ = l.val
    rw [GatherDims.batchCoord_eq_zero _ _ _ (by decide)]
    unfold GatherDims.start GatherDims.offCoord
    rw [dif_neg (by decide), dif_pos (by decide), Nat.zero_add]
    exact e1 _ (by decide)
  | 2 =>
    show GatherDims.start _ _ _ _ + GatherDims.batchCoord _ _ _ + GatherDims.offCoord _ _ _ = r.val
    rw [GatherDims.batchCoord_eq_zero _ _ _ (by decide)]
    unfold GatherDims.start GatherDims.offCoord
    rw [dif_neg (by decide), dif_pos (by decide), Nat.zero_add]
    exact e2 _ (by decide)
  | 3 =>
    show GatherDims.start _ _ _ _ + GatherDims.batchCoord _ _ _ + GatherDims.offCoord _ _ _ = k.val
    rw [GatherDims.batchCoord_eq_zero _ _ _ (by decide)]
    unfold GatherDims.start GatherDims.offCoord
    rw [dif_neg (by decide), dif_pos (by decide), Nat.zero_add]
    exact e3 _ (by decide)

/-- What the reference returns of its second array; -/
def taken1 (A : S32x10x512x1024.Idx → Elt F .bf16) : S24x10x512x1024.Idx → Elt F .bf16 := Host.gather gather_S32x10x512x1024_S24x1_S24x10x512x1024_123_0_n_n_0_1_1105121024 A table

/-- at row `p`, the row the table names there. -/
theorem taken1_at (A : S32x10x512x1024.Idx → Elt F .bf16) (p : Fin 24) (l : Fin 10) (r : Fin 512) (k : Fin 1024) (q : Fin 32)
    (hq : q.val = (lit0 p).toInt.toNat) : taken1 A (ix4 p l r k) = A (ix4 q l r k) := by
  have e0 : ∀ X : Fin 4, X = 0 → (ix4 p l r k X).val = p.val := fun X h => by subst h; rfl
  have e1 : ∀ X : Fin 4, X = 1 → (ix4 p l r k X).val = l.val := fun X h => by subst h; rfl
  have e2 : ∀ X : Fin 4, X = 2 → (ix4 p l r k X).val = r.val := fun X h => by subst h; rfl
  have e3 : ∀ X : Fin 4, X = 3 → (ix4 p l r k X).val = k.val := fun X h => by subst h; rfl
  unfold taken1 Host.gather
  refine congrArg A (funext fun a => Fin.ext ?_)
  unfold GatherDims.operandIdx
  match a with
  | 0 =>
    show GatherDims.start _ _ _ _ + GatherDims.batchCoord _ _ _ + GatherDims.offCoord _ _ _ = q.val
    rw [GatherDims.batchCoord_eq_zero _ _ _ (by decide), GatherDims.offCoord_eq_zero _ _ _ (by decide)]
    unfold GatherDims.start
    rw [dif_pos (by decide)]
    have hi : ∀ c, GatherDims.siIdx gather_S32x10x512x1024_S24x1_S24x10x512x1024_123_0_n_n_0_1_1105121024 (ix4 p l r k) c = ix2 p (0 : Fin 1) := fun c => by
      funext b
      refine Fin.ext ?_
      match b with
      | 0 =>
        unfold GatherDims.siIdx
        rw [dif_neg (by decide)]
        unfold GatherDims.siCoord
        simp only [Fin.val_cast]
        exact e0 _ (by decide)
      | 1 => exact Nat.lt_one_iff.mp (Fin.isLt _)
    rw [hi, table_at]
    have := lit0_small p
    show min _ 31 + 0 + 0 = q.val
    omega
  | 1 =>
    show GatherDims.start _ _ _ _ + GatherDims.batchCoord _ _ _ + GatherDims.offCoord _ _ _ = l.val
    rw [GatherDims.batchCoord_eq_zero _ _ _ (by decide)]
    unfold GatherDims.start GatherDims.offCoord
    rw [dif_neg (by decide), dif_pos (by decide), Nat.zero_add]
    exact e1 _ (by decide)
  | 2 =>
    show GatherDims.start _ _ _ _ + GatherDims.batchCoord _ _ _ + GatherDims.offCoord _ _ _ = r.val
    rw [GatherDims.batchCoord_eq_zero _ _ _ (by decide)]
    unfold GatherDims.start GatherDims.offCoord
    rw [dif_neg (by decide), dif_pos (by decide), Nat.zero_add]
    exact e2 _ (by decide)
  | 3 =>
    show GatherDims.start _ _ _ _ + GatherDims.batchCoord _ _ _ + GatherDims.offCoord _ _ _ = k.val
    rw [GatherDims.batchCoord_eq_zero _ _ _ (by decide)]
    unfold GatherDims.start GatherDims.offCoord
    rw [dif_neg (by decide), dif_pos (by decide), Nat.zero_add]
    exact e3 _ (by decide)

end Cert.ExchangeChipsRef.Value

namespace Cert.ExchangeChips.Run

open Idealize.ShloMosaic Idealize.ShloMosaic.TcCoe Cert.ExchangeChips.Gen Cert.ExchangeChipsRef.Value

variable {F : FTy → Type} [FloatOps F]

/-- The table at device `c`'s row 0: the peer's row for `c`'s chip. -/
theorem row0 : ∀ c : Dev 8, (Cert.ExchangeChipsRef.lit0 ⟨c.val * 3 + 0, by omega⟩).toInt.toNat
    = (dir0 c).val * 4 + (((((dir0 c).val / 2) % 2) + 2) - 2 * ((dir0 c).val / 4)) := by decide
theorem chip0 : ∀ d : Dev 8, (((d.val / 2) % 2) + 2) - 2 * (d.val / 4) < 4 := by decide
/-- The table at device `c`'s row 1: the peer's row for `c`'s chip. -/
theorem row1 : ∀ c : Dev 8, (Cert.ExchangeChipsRef.lit0 ⟨c.val * 3 + 1, by omega⟩).toInt.toNat
    = (dir1 c).val * 4 + ((2 * ((dir1 c).val / 4) + 1) - (((dir1 c).val / 2) % 2)) := by decide
theorem chip1 : ∀ d : Dev 8, (2 * (d.val / 4) + 1) - ((d.val / 2) % 2) < 4 := by decide
/-- The table at device `c`'s row 2: the peer's row for `c`'s chip. -/
theorem row2 : ∀ c : Dev 8, (Cert.ExchangeChipsRef.lit0 ⟨c.val * 3 + 2, by omega⟩).toInt.toNat
    = (dir2 c).val * 4 + (3 - (2 * ((dir2 c).val / 4) + (((dir2 c).val / 2) % 2))) := by decide
theorem chip2 : ∀ d : Dev 8, 3 - (2 * (d.val / 4) + ((d.val / 2) % 2)) < 4 := by decide

set_option maxRecDepth 16384 in
theorem slot00_at (X : S3x8x1024x704.Idx → Elt F .bf16) (l : Fin 8) (r : Fin 1024) (e : Fin 704) :
    slot00.view.read (Elt F) X (ix3 l r e) = X (ix4 (⟨0, by decide⟩ : Fin 3) l r e) := by
  have key : ∀ (hs : S3x8x1024x704.Slices ![0, 0, 0, 0] S1x8x1024x704) (hc : S1x8x1024x704.ShapeCasts S8x1024x704),
      shapeCast S8x1024x704 (extractStridedSlice S1x8x1024x704 ![0, 0, 0, 0] X hs) hc (ix3 l r e) = X (ix4 (⟨0, by decide⟩ : Fin 3) l r e) := by
    intro hs hc
    pointwise
  exact (congrFun (Talk.read_part (Memref.whole main_v1_0) ![0, 0, 0, 0] S1x8x1024x704.size inb_S3x8x1024x704_S1x8x1024x704_0_0_0_0 squeezes_S1x8x1024x704_S8x1024x704
    ⟨rfl, inb_S3x8x1024x704_S1x8x1024x704_0_0_0_0⟩ squeezes_S1x8x1024x704_S8x1024x704.numel_eq X) _).trans (key _ _)

set_option maxRecDepth 16384 in
theorem part00_at (d : Dev nD) (X : S4x8x1024x704.Idx → Elt F .bf16) (l : Fin 8) (r : Fin 1024) (e : Fin 704) (h : Fin 4) (hh : h.val = (((d.val / 2) % 2) + 2) - 2 * (d.val / 4)) :
    (part00 d).view.read (Elt F) X (ix3 l r e) = X (ix4 h l r e) := by
  have key : ∀ (off : Fin 4 → ℕ) (_ : off = ![h.val, 0, 0, 0]) (hs : S4x8x1024x704.Slices off S1x8x1024x704) (hc : S1x8x1024x704.ShapeCasts S8x1024x704),
      shapeCast S8x1024x704 (extractStridedSlice S1x8x1024x704 off X hs) hc (ix3 l r e) = X (ix4 h l r e) := by
    intro off ho hs hc
    subst ho
    pointwise
  refine (congrFun (Talk.read_part (Memref.whole main_arg0) (k0_off1 d) S1x8x1024x704.size (k0_off1_inb d) squeezes_S1x8x1024x704_S8x1024x704
    ⟨rfl, k0_off1_inb d⟩ squeezes_S1x8x1024x704_S8x1024x704.numel_eq X) _).trans ?_
  exact key _ ((k0_off1_eq d).trans (by rw [hh])) _ _

/-- Slot 0 of a result holds what the reference has there. -/
theorem slot00_eq (m : (ℓ : Loc nD τ sig) → Buf (Elt F) ℓ) (A : ExchangeChipsRef.S32x8x1024x704.Idx → Elt F .bf16)
    (hm : ∀ c : Dev nD, m ((c.tc : Thread nD τ).loc main_arg0) = Layout.block S4x8x1024x704 ExchangeChipsRef.S32x8x1024x704 0 8 c A) (c : Dev nD)
    (X : S3x8x1024x704.Idx → Elt F .bf16) (hX : slot00.view.read (Elt F) X = sent00 m (dir0 c)) (l : Fin 8) (r : Fin 1024) (e : Fin 704) :
    X (ix4 (⟨0, by decide⟩ : Fin 3) l r e) = (Layout.block S3x8x1024x704 ExchangeChipsRef.S24x8x1024x704 0 8 c (taken0 A) : S3x8x1024x704.Idx → Elt F .bf16) (ix4 (⟨0, by decide⟩ : Fin 3) l r e) := by
  have hc : c.val < 8 := c.isLt
  have hd : (dir0 c).val < 8 := (dir0 c).isLt
  have hp := chip0 (dir0 c)
  rw [← slot00_at X l r e, hX, Layout.block_apply]
  unfold sent00
  rw [part00_at (dir0 c) _ l r e ⟨((((dir0 c).val / 2) % 2) + 2) - 2 * ((dir0 c).val / 4), hp⟩ rfl, hm, Layout.block_apply,
    Talk.tile4 _ _ _ _ _ _ (⟨(dir0 c).val * 4 + (((((dir0 c).val / 2) % 2) + 2) - 2 * ((dir0 c).val / 4)), by omega⟩ : Fin 32) rfl,
    Talk.tile4 _ c _ _ _ _ (⟨c.val * 3 + 0, by omega⟩ : Fin 24) rfl]
  exact (taken0_at A _ _ _ _ _ (row0 c).symm).symm

set_option maxRecDepth 16384 in
theorem slot01_at (X : S3x8x1024x704.Idx → Elt F .bf16) (l : Fin 8) (r : Fin 1024) (e : Fin 704) :
    slot01.view.read (Elt F) X (ix3 l r e) = X (ix4 (⟨1, by decide⟩ : Fin 3) l r e) := by
  have key : ∀ (hs : S3x8x1024x704.Slices ![1, 0, 0, 0] S1x8x1024x704) (hc : S1x8x1024x704.ShapeCasts S8x1024x704),
      shapeCast S8x1024x704 (extractStridedSlice S1x8x1024x704 ![1, 0, 0, 0] X hs) hc (ix3 l r e) = X (ix4 (⟨1, by decide⟩ : Fin 3) l r e) := by
    intro hs hc
    pointwise
  exact (congrFun (Talk.read_part (Memref.whole main_v1_0) ![1, 0, 0, 0] S1x8x1024x704.size inb_S3x8x1024x704_S1x8x1024x704_1_0_0_0 squeezes_S1x8x1024x704_S8x1024x704
    ⟨rfl, inb_S3x8x1024x704_S1x8x1024x704_1_0_0_0⟩ squeezes_S1x8x1024x704_S8x1024x704.numel_eq X) _).trans (key _ _)

set_option maxRecDepth 16384 in
theorem part01_at (d : Dev nD) (X : S4x8x1024x704.Idx → Elt F .bf16) (l : Fin 8) (r : Fin 1024) (e : Fin 704) (h : Fin 4) (hh : h.val = (2 * (d.val / 4) + 1) - ((d.val / 2) % 2)) :
    (part01 d).view.read (Elt F) X (ix3 l r e) = X (ix4 h l r e) := by
  have key : ∀ (off : Fin 4 → ℕ) (_ : off = ![h.val, 0, 0, 0]) (hs : S4x8x1024x704.Slices off S1x8x1024x704) (hc : S1x8x1024x704.ShapeCasts S8x1024x704),
      shapeCast S8x1024x704 (extractStridedSlice S1x8x1024x704 off X hs) hc (ix3 l r e) = X (ix4 h l r e) := by
    intro off ho hs hc
    subst ho
    pointwise
  refine (congrFun (Talk.read_part (Memref.whole main_arg0) (k0_off2 d) S1x8x1024x704.size (k0_off2_inb d) squeezes_S1x8x1024x704_S8x1024x704
    ⟨rfl, k0_off2_inb d⟩ squeezes_S1x8x1024x704_S8x1024x704.numel_eq X) _).trans ?_
  exact key _ ((k0_off2_eq d).trans (by rw [hh])) _ _

/-- Slot 1 of a result holds what the reference has there. -/
theorem slot01_eq (m : (ℓ : Loc nD τ sig) → Buf (Elt F) ℓ) (A : ExchangeChipsRef.S32x8x1024x704.Idx → Elt F .bf16)
    (hm : ∀ c : Dev nD, m ((c.tc : Thread nD τ).loc main_arg0) = Layout.block S4x8x1024x704 ExchangeChipsRef.S32x8x1024x704 0 8 c A) (c : Dev nD)
    (X : S3x8x1024x704.Idx → Elt F .bf16) (hX : slot01.view.read (Elt F) X = sent01 m (dir1 c)) (l : Fin 8) (r : Fin 1024) (e : Fin 704) :
    X (ix4 (⟨1, by decide⟩ : Fin 3) l r e) = (Layout.block S3x8x1024x704 ExchangeChipsRef.S24x8x1024x704 0 8 c (taken0 A) : S3x8x1024x704.Idx → Elt F .bf16) (ix4 (⟨1, by decide⟩ : Fin 3) l r e) := by
  have hc : c.val < 8 := c.isLt
  have hd : (dir1 c).val < 8 := (dir1 c).isLt
  have hp := chip1 (dir1 c)
  rw [← slot01_at X l r e, hX, Layout.block_apply]
  unfold sent01
  rw [part01_at (dir1 c) _ l r e ⟨(2 * ((dir1 c).val / 4) + 1) - (((dir1 c).val / 2) % 2), hp⟩ rfl, hm, Layout.block_apply,
    Talk.tile4 _ _ _ _ _ _ (⟨(dir1 c).val * 4 + ((2 * ((dir1 c).val / 4) + 1) - (((dir1 c).val / 2) % 2)), by omega⟩ : Fin 32) rfl,
    Talk.tile4 _ c _ _ _ _ (⟨c.val * 3 + 1, by omega⟩ : Fin 24) rfl]
  exact (taken0_at A _ _ _ _ _ (row1 c).symm).symm

set_option maxRecDepth 16384 in
theorem slot02_at (X : S3x8x1024x704.Idx → Elt F .bf16) (l : Fin 8) (r : Fin 1024) (e : Fin 704) :
    slot02.view.read (Elt F) X (ix3 l r e) = X (ix4 (⟨2, by decide⟩ : Fin 3) l r e) := by
  have key : ∀ (hs : S3x8x1024x704.Slices ![2, 0, 0, 0] S1x8x1024x704) (hc : S1x8x1024x704.ShapeCasts S8x1024x704),
      shapeCast S8x1024x704 (extractStridedSlice S1x8x1024x704 ![2, 0, 0, 0] X hs) hc (ix3 l r e) = X (ix4 (⟨2, by decide⟩ : Fin 3) l r e) := by
    intro hs hc
    pointwise
  exact (congrFun (Talk.read_part (Memref.whole main_v1_0) ![2, 0, 0, 0] S1x8x1024x704.size inb_S3x8x1024x704_S1x8x1024x704_2_0_0_0 squeezes_S1x8x1024x704_S8x1024x704
    ⟨rfl, inb_S3x8x1024x704_S1x8x1024x704_2_0_0_0⟩ squeezes_S1x8x1024x704_S8x1024x704.numel_eq X) _).trans (key _ _)

set_option maxRecDepth 16384 in
theorem part02_at (d : Dev nD) (X : S4x8x1024x704.Idx → Elt F .bf16) (l : Fin 8) (r : Fin 1024) (e : Fin 704) (h : Fin 4) (hh : h.val = 3 - (2 * (d.val / 4) + ((d.val / 2) % 2))) :
    (part02 d).view.read (Elt F) X (ix3 l r e) = X (ix4 h l r e) := by
  have key : ∀ (off : Fin 4 → ℕ) (_ : off = ![h.val, 0, 0, 0]) (hs : S4x8x1024x704.Slices off S1x8x1024x704) (hc : S1x8x1024x704.ShapeCasts S8x1024x704),
      shapeCast S8x1024x704 (extractStridedSlice S1x8x1024x704 off X hs) hc (ix3 l r e) = X (ix4 h l r e) := by
    intro off ho hs hc
    subst ho
    pointwise
  refine (congrFun (Talk.read_part (Memref.whole main_arg0) (k0_off3 d) S1x8x1024x704.size (k0_off3_inb d) squeezes_S1x8x1024x704_S8x1024x704
    ⟨rfl, k0_off3_inb d⟩ squeezes_S1x8x1024x704_S8x1024x704.numel_eq X) _).trans ?_
  exact key _ ((k0_off3_eq d).trans (by rw [hh])) _ _

/-- Slot 2 of a result holds what the reference has there. -/
theorem slot02_eq (m : (ℓ : Loc nD τ sig) → Buf (Elt F) ℓ) (A : ExchangeChipsRef.S32x8x1024x704.Idx → Elt F .bf16)
    (hm : ∀ c : Dev nD, m ((c.tc : Thread nD τ).loc main_arg0) = Layout.block S4x8x1024x704 ExchangeChipsRef.S32x8x1024x704 0 8 c A) (c : Dev nD)
    (X : S3x8x1024x704.Idx → Elt F .bf16) (hX : slot02.view.read (Elt F) X = sent02 m (dir2 c)) (l : Fin 8) (r : Fin 1024) (e : Fin 704) :
    X (ix4 (⟨2, by decide⟩ : Fin 3) l r e) = (Layout.block S3x8x1024x704 ExchangeChipsRef.S24x8x1024x704 0 8 c (taken0 A) : S3x8x1024x704.Idx → Elt F .bf16) (ix4 (⟨2, by decide⟩ : Fin 3) l r e) := by
  have hc : c.val < 8 := c.isLt
  have hd : (dir2 c).val < 8 := (dir2 c).isLt
  have hp := chip2 (dir2 c)
  rw [← slot02_at X l r e, hX, Layout.block_apply]
  unfold sent02
  rw [part02_at (dir2 c) _ l r e ⟨3 - (2 * ((dir2 c).val / 4) + (((dir2 c).val / 2) % 2)), hp⟩ rfl, hm, Layout.block_apply,
    Talk.tile4 _ _ _ _ _ _ (⟨(dir2 c).val * 4 + (3 - (2 * ((dir2 c).val / 4) + (((dir2 c).val / 2) % 2))), by omega⟩ : Fin 32) rfl,
    Talk.tile4 _ c _ _ _ _ (⟨c.val * 3 + 2, by omega⟩ : Fin 24) rfl]
  exact (taken0_at A _ _ _ _ _ (row2 c).symm).symm

/-- What the peers send makes this device's block of what the reference returns. -/
theorem result0_eq (m : (ℓ : Loc nD τ sig) → Buf (Elt F) ℓ) (A : ExchangeChipsRef.S32x8x1024x704.Idx → Elt F .bf16)
    (hm : ∀ c : Dev nD, m ((c.tc : Thread nD τ).loc main_arg0) = Layout.block S4x8x1024x704 ExchangeChipsRef.S32x8x1024x704 0 8 c A) (c : Dev nD)
    (X : S3x8x1024x704.Idx → Elt F .bf16) (h0 : slot00.view.read (Elt F) X = sent00 m (dir0 c)) (h1 : slot01.view.read (Elt F) X = sent01 m (dir1 c))
    (h2 : slot02.view.read (Elt F) X = sent02 m (dir2 c)) : X = Layout.block S3x8x1024x704 ExchangeChipsRef.S24x8x1024x704 0 8 c (taken0 A) := by
  funext i
  idx_vars i
  match i0 with
  | ⟨0, _⟩ => exact slot00_eq m A hm c X h0 i1 i2 i3
  | ⟨1, _⟩ => exact slot01_eq m A hm c X h1 i1 i2 i3
  | ⟨2, _⟩ => exact slot02_eq m A hm c X h2 i1 i2 i3

set_option maxRecDepth 16384 in
theorem slot10_at (X : S3x10x512x1024.Idx → Elt F .bf16) (l : Fin 10) (r : Fin 512) (e : Fin 1024) :
    slot10.view.read (Elt F) X (ix3 l r e) = X (ix4 (⟨0, by decide⟩ : Fin 3) l r e) := by
  have key : ∀ (hs : S3x10x512x1024.Slices ![0, 0, 0, 0] S1x10x512x1024) (hc : S1x10x512x1024.ShapeCasts S10x512x1024),
      shapeCast S10x512x1024 (extractStridedSlice S1x10x512x1024 ![0, 0, 0, 0] X hs) hc (ix3 l r e) = X (ix4 (⟨0, by decide⟩ : Fin 3) l r e) := by
    intro hs hc
    pointwise
  exact (congrFun (Talk.read_part (Memref.whole main_v1_1) ![0, 0, 0, 0] S1x10x512x1024.size inb_S3x10x512x1024_S1x10x512x1024_0_0_0_0 squeezes_S1x10x512x1024_S10x512x1024
    ⟨rfl, inb_S3x10x512x1024_S1x10x512x1024_0_0_0_0⟩ squeezes_S1x10x512x1024_S10x512x1024.numel_eq X) _).trans (key _ _)

set_option maxRecDepth 16384 in
theorem part10_at (d : Dev nD) (X : S4x10x512x1024.Idx → Elt F .bf16) (l : Fin 10) (r : Fin 512) (e : Fin 1024) (h : Fin 4) (hh : h.val = (((d.val / 2) % 2) + 2) - 2 * (d.val / 4)) :
    (part10 d).view.read (Elt F) X (ix3 l r e) = X (ix4 h l r e) := by
  have key : ∀ (off : Fin 4 → ℕ) (_ : off = ![h.val, 0, 0, 0]) (hs : S4x10x512x1024.Slices off S1x10x512x1024) (hc : S1x10x512x1024.ShapeCasts S10x512x1024),
      shapeCast S10x512x1024 (extractStridedSlice S1x10x512x1024 off X hs) hc (ix3 l r e) = X (ix4 h l r e) := by
    intro off ho hs hc
    subst ho
    pointwise
  refine (congrFun (Talk.read_part (Memref.whole main_arg1) (k0_off4 d) S1x10x512x1024.size (k0_off4_inb d) squeezes_S1x10x512x1024_S10x512x1024
    ⟨rfl, k0_off4_inb d⟩ squeezes_S1x10x512x1024_S10x512x1024.numel_eq X) _).trans ?_
  exact key _ ((k0_off4_eq d).trans (by rw [hh])) _ _

/-- Slot 0 of a result holds what the reference has there. -/
theorem slot10_eq (m : (ℓ : Loc nD τ sig) → Buf (Elt F) ℓ) (A : ExchangeChipsRef.S32x10x512x1024.Idx → Elt F .bf16)
    (hm : ∀ c : Dev nD, m ((c.tc : Thread nD τ).loc main_arg1) = Layout.block S4x10x512x1024 ExchangeChipsRef.S32x10x512x1024 0 8 c A) (c : Dev nD)
    (X : S3x10x512x1024.Idx → Elt F .bf16) (hX : slot10.view.read (Elt F) X = sent10 m (dir0 c)) (l : Fin 10) (r : Fin 512) (e : Fin 1024) :
    X (ix4 (⟨0, by decide⟩ : Fin 3) l r e) = (Layout.block S3x10x512x1024 ExchangeChipsRef.S24x10x512x1024 0 8 c (taken1 A) : S3x10x512x1024.Idx → Elt F .bf16) (ix4 (⟨0, by decide⟩ : Fin 3) l r e) := by
  have hc : c.val < 8 := c.isLt
  have hd : (dir0 c).val < 8 := (dir0 c).isLt
  have hp := chip0 (dir0 c)
  rw [← slot10_at X l r e, hX, Layout.block_apply]
  unfold sent10
  rw [part10_at (dir0 c) _ l r e ⟨((((dir0 c).val / 2) % 2) + 2) - 2 * ((dir0 c).val / 4), hp⟩ rfl, hm, Layout.block_apply,
    Talk.tile4 _ _ _ _ _ _ (⟨(dir0 c).val * 4 + (((((dir0 c).val / 2) % 2) + 2) - 2 * ((dir0 c).val / 4)), by omega⟩ : Fin 32) rfl,
    Talk.tile4 _ c _ _ _ _ (⟨c.val * 3 + 0, by omega⟩ : Fin 24) rfl]
  exact (taken1_at A _ _ _ _ _ (row0 c).symm).symm

set_option maxRecDepth 16384 in
theorem slot11_at (X : S3x10x512x1024.Idx → Elt F .bf16) (l : Fin 10) (r : Fin 512) (e : Fin 1024) :
    slot11.view.read (Elt F) X (ix3 l r e) = X (ix4 (⟨1, by decide⟩ : Fin 3) l r e) := by
  have key : ∀ (hs : S3x10x512x1024.Slices ![1, 0, 0, 0] S1x10x512x1024) (hc : S1x10x512x1024.ShapeCasts S10x512x1024),
      shapeCast S10x512x1024 (extractStridedSlice S1x10x512x1024 ![1, 0, 0, 0] X hs) hc (ix3 l r e) = X (ix4 (⟨1, by decide⟩ : Fin 3) l r e) := by
    intro hs hc
    pointwise
  exact (congrFun (Talk.read_part (Memref.whole main_v1_1) ![1, 0, 0, 0] S1x10x512x1024.size inb_S3x10x512x1024_S1x10x512x1024_1_0_0_0 squeezes_S1x10x512x1024_S10x512x1024
    ⟨rfl, inb_S3x10x512x1024_S1x10x512x1024_1_0_0_0⟩ squeezes_S1x10x512x1024_S10x512x1024.numel_eq X) _).trans (key _ _)

set_option maxRecDepth 16384 in
theorem part11_at (d : Dev nD) (X : S4x10x512x1024.Idx → Elt F .bf16) (l : Fin 10) (r : Fin 512) (e : Fin 1024) (h : Fin 4) (hh : h.val = (2 * (d.val / 4) + 1) - ((d.val / 2) % 2)) :
    (part11 d).view.read (Elt F) X (ix3 l r e) = X (ix4 h l r e) := by
  have key : ∀ (off : Fin 4 → ℕ) (_ : off = ![h.val, 0, 0, 0]) (hs : S4x10x512x1024.Slices off S1x10x512x1024) (hc : S1x10x512x1024.ShapeCasts S10x512x1024),
      shapeCast S10x512x1024 (extractStridedSlice S1x10x512x1024 off X hs) hc (ix3 l r e) = X (ix4 h l r e) := by
    intro off ho hs hc
    subst ho
    pointwise
  refine (congrFun (Talk.read_part (Memref.whole main_arg1) (k0_off5 d) S1x10x512x1024.size (k0_off5_inb d) squeezes_S1x10x512x1024_S10x512x1024
    ⟨rfl, k0_off5_inb d⟩ squeezes_S1x10x512x1024_S10x512x1024.numel_eq X) _).trans ?_
  exact key _ ((k0_off5_eq d).trans (by rw [hh])) _ _

/-- Slot 1 of a result holds what the reference has there. -/
theorem slot11_eq (m : (ℓ : Loc nD τ sig) → Buf (Elt F) ℓ) (A : ExchangeChipsRef.S32x10x512x1024.Idx → Elt F .bf16)
    (hm : ∀ c : Dev nD, m ((c.tc : Thread nD τ).loc main_arg1) = Layout.block S4x10x512x1024 ExchangeChipsRef.S32x10x512x1024 0 8 c A) (c : Dev nD)
    (X : S3x10x512x1024.Idx → Elt F .bf16) (hX : slot11.view.read (Elt F) X = sent11 m (dir1 c)) (l : Fin 10) (r : Fin 512) (e : Fin 1024) :
    X (ix4 (⟨1, by decide⟩ : Fin 3) l r e) = (Layout.block S3x10x512x1024 ExchangeChipsRef.S24x10x512x1024 0 8 c (taken1 A) : S3x10x512x1024.Idx → Elt F .bf16) (ix4 (⟨1, by decide⟩ : Fin 3) l r e) := by
  have hc : c.val < 8 := c.isLt
  have hd : (dir1 c).val < 8 := (dir1 c).isLt
  have hp := chip1 (dir1 c)
  rw [← slot11_at X l r e, hX, Layout.block_apply]
  unfold sent11
  rw [part11_at (dir1 c) _ l r e ⟨(2 * ((dir1 c).val / 4) + 1) - (((dir1 c).val / 2) % 2), hp⟩ rfl, hm, Layout.block_apply,
    Talk.tile4 _ _ _ _ _ _ (⟨(dir1 c).val * 4 + ((2 * ((dir1 c).val / 4) + 1) - (((dir1 c).val / 2) % 2)), by omega⟩ : Fin 32) rfl,
    Talk.tile4 _ c _ _ _ _ (⟨c.val * 3 + 1, by omega⟩ : Fin 24) rfl]
  exact (taken1_at A _ _ _ _ _ (row1 c).symm).symm

set_option maxRecDepth 16384 in
theorem slot12_at (X : S3x10x512x1024.Idx → Elt F .bf16) (l : Fin 10) (r : Fin 512) (e : Fin 1024) :
    slot12.view.read (Elt F) X (ix3 l r e) = X (ix4 (⟨2, by decide⟩ : Fin 3) l r e) := by
  have key : ∀ (hs : S3x10x512x1024.Slices ![2, 0, 0, 0] S1x10x512x1024) (hc : S1x10x512x1024.ShapeCasts S10x512x1024),
      shapeCast S10x512x1024 (extractStridedSlice S1x10x512x1024 ![2, 0, 0, 0] X hs) hc (ix3 l r e) = X (ix4 (⟨2, by decide⟩ : Fin 3) l r e) := by
    intro hs hc
    pointwise
  exact (congrFun (Talk.read_part (Memref.whole main_v1_1) ![2, 0, 0, 0] S1x10x512x1024.size inb_S3x10x512x1024_S1x10x512x1024_2_0_0_0 squeezes_S1x10x512x1024_S10x512x1024
    ⟨rfl, inb_S3x10x512x1024_S1x10x512x1024_2_0_0_0⟩ squeezes_S1x10x512x1024_S10x512x1024.numel_eq X) _).trans (key _ _)

set_option maxRecDepth 16384 in
theorem part12_at (d : Dev nD) (X : S4x10x512x1024.Idx → Elt F .bf16) (l : Fin 10) (r : Fin 512) (e : Fin 1024) (h : Fin 4) (hh : h.val = 3 - (2 * (d.val / 4) + ((d.val / 2) % 2))) :
    (part12 d).view.read (Elt F) X (ix3 l r e) = X (ix4 h l r e) := by
  have key : ∀ (off : Fin 4 → ℕ) (_ : off = ![h.val, 0, 0, 0]) (hs : S4x10x512x1024.Slices off S1x10x512x1024) (hc : S1x10x512x1024.ShapeCasts S10x512x1024),
      shapeCast S10x512x1024 (extractStridedSlice S1x10x512x1024 off X hs) hc (ix3 l r e) = X (ix4 h l r e) := by
    intro off ho hs hc
    subst ho
    pointwise
  refine (congrFun (Talk.read_part (Memref.whole main_arg1) (k0_off6 d) S1x10x512x1024.size (k0_off6_inb d) squeezes_S1x10x512x1024_S10x512x1024
    ⟨rfl, k0_off6_inb d⟩ squeezes_S1x10x512x1024_S10x512x1024.numel_eq X) _).trans ?_
  exact key _ ((k0_off6_eq d).trans (by rw [hh])) _ _

/-- Slot 2 of a result holds what the reference has there. -/
theorem slot12_eq (m : (ℓ : Loc nD τ sig) → Buf (Elt F) ℓ) (A : ExchangeChipsRef.S32x10x512x1024.Idx → Elt F .bf16)
    (hm : ∀ c : Dev nD, m ((c.tc : Thread nD τ).loc main_arg1) = Layout.block S4x10x512x1024 ExchangeChipsRef.S32x10x512x1024 0 8 c A) (c : Dev nD)
    (X : S3x10x512x1024.Idx → Elt F .bf16) (hX : slot12.view.read (Elt F) X = sent12 m (dir2 c)) (l : Fin 10) (r : Fin 512) (e : Fin 1024) :
    X (ix4 (⟨2, by decide⟩ : Fin 3) l r e) = (Layout.block S3x10x512x1024 ExchangeChipsRef.S24x10x512x1024 0 8 c (taken1 A) : S3x10x512x1024.Idx → Elt F .bf16) (ix4 (⟨2, by decide⟩ : Fin 3) l r e) := by
  have hc : c.val < 8 := c.isLt
  have hd : (dir2 c).val < 8 := (dir2 c).isLt
  have hp := chip2 (dir2 c)
  rw [← slot12_at X l r e, hX, Layout.block_apply]
  unfold sent12
  rw [part12_at (dir2 c) _ l r e ⟨3 - (2 * ((dir2 c).val / 4) + (((dir2 c).val / 2) % 2)), hp⟩ rfl, hm, Layout.block_apply,
    Talk.tile4 _ _ _ _ _ _ (⟨(dir2 c).val * 4 + (3 - (2 * ((dir2 c).val / 4) + (((dir2 c).val / 2) % 2))), by omega⟩ : Fin 32) rfl,
    Talk.tile4 _ c _ _ _ _ (⟨c.val * 3 + 2, by omega⟩ : Fin 24) rfl]
  exact (taken1_at A _ _ _ _ _ (row2 c).symm).symm

/-- What the peers send makes this device's block of what the reference returns. -/
theorem result1_eq (m : (ℓ : Loc nD τ sig) → Buf (Elt F) ℓ) (A : ExchangeChipsRef.S32x10x512x1024.Idx → Elt F .bf16)
    (hm : ∀ c : Dev nD, m ((c.tc : Thread nD τ).loc main_arg1) = Layout.block S4x10x512x1024 ExchangeChipsRef.S32x10x512x1024 0 8 c A) (c : Dev nD)
    (X : S3x10x512x1024.Idx → Elt F .bf16) (h0 : slot10.view.read (Elt F) X = sent10 m (dir0 c)) (h1 : slot11.view.read (Elt F) X = sent11 m (dir1 c))
    (h2 : slot12.view.read (Elt F) X = sent12 m (dir2 c)) : X = Layout.block S3x10x512x1024 ExchangeChipsRef.S24x10x512x1024 0 8 c (taken1 A) := by
  funext i
  idx_vars i
  match i0 with
  | ⟨0, _⟩ => exact slot10_eq m A hm c X h0 i1 i2 i3
  | ⟨1, _⟩ => exact slot11_eq m A hm c X h1 i1 i2 i3
  | ⟨2, _⟩ => exact slot12_eq m A hm c X h2 i1 i2 i3

end Cert.ExchangeChips.Run
-- ==== Proof.ExchangeChipsClaims.lean ====
/-
# The claims of `ExchangeChips`
-/
module

public import proofs.«01_k».proof.Defs
public import proofs.«01_k».proof.Proof.ExchangeChipsValue

@[expose] public section

noncomputable section

namespace Cert.Proof.ExchangeChips

open Idealize.ShloMosaic Idealize.ShloMosaic.TcCoe Idealize.SL.Sem

/-- Every run ends with the arguments unchanged and every semaphore at zero; -/
theorem frame : Cert.quiescent_ExchangeChips (hExchangeChips := Cert.ExchangeChips.Gen.facts) := fun m g _ =>
  (θ_run _ _ _).mono (fun _ h => ⟨fun c => ⟨(h.1 c).1, (h.1 c).2.1⟩, h.2⟩) (Cert.ExchangeChips.Run.runs (F := Bits) m g)

/-- the reference's likewise; -/
theorem frame_ref : Cert.quiescent_ExchangeChipsRef (hExchangeChipsRef := Cert.ExchangeChipsRef.Gen.facts) := fun m g _ =>
  (θ_run _ _ _).mono (fun _ h => ⟨fun c => ⟨(h c).2.2.1, (h c).2.2.2⟩, sem_eq_zero_of_no_sems (by decide) _⟩) (Cert.ExchangeChipsRef.Value.run (F := Bits) m g)

/-- and each device's results are its blocks of what the reference returns, bit for bit. -/
theorem same : Cert.bitexact_ExchangeChips_ExchangeChipsRef (hExchangeChips := Cert.ExchangeChips.Gen.facts) (hExchangeChipsRef := Cert.ExchangeChipsRef.Gen.facts) := fun m g m' g' _ hm =>
  ⟨Cert.ExchangeChipsRef.Value.taken0 (m' (((0 : Dev Cert.ExchangeChipsRef.nD).tc : Thread Cert.ExchangeChipsRef.nD Cert.ExchangeChipsRef.τ).loc Cert.ExchangeChipsRef.main_arg0)),
    Cert.ExchangeChipsRef.Value.taken1 (m' (((0 : Dev Cert.ExchangeChipsRef.nD).tc : Thread Cert.ExchangeChipsRef.nD Cert.ExchangeChipsRef.τ).loc Cert.ExchangeChipsRef.main_arg1)),
    (θ_run _ _ _).mono (fun _ h c => by
      obtain ⟨a0, a1, p0, p1, p2, q0, q1, q2⟩ := h.1 c
      exact ⟨Cert.ExchangeChips.Run.result0_eq m _ (fun d => (hm d).1) c _ p0 p1 p2, Cert.ExchangeChips.Run.result1_eq m _ (fun d => (hm d).2) c _ q0 q1 q2, a0, a1⟩)
      (Cert.ExchangeChips.Run.runs (F := Bits) m g),
    (θ_run _ _ _).mono (fun _ h => h 0) (Cert.ExchangeChipsRef.Value.run (F := Bits) m' g')⟩

end Cert.Proof.ExchangeChips

end
-- ==== Proof.SwapReduced.lean ====
/-
# The swap of reduced halves: every run of `SwapReduced`

Each device sends both its reduced halves whole into the sibling core's result buffers, and waits for its own sends and for the
sibling's. Wires 0 and 1 are the send semaphores, wires 2 and 3 the receive semaphores.
-/
module

public import proofs.«01_k».proof.Proof.Talk.Mesh
public import proofs.«01_k».proof.Proof.Gen.SwapReduced
public import proofs.«01_k».proof.Proof.Gen.SwapReduced.Skeleton
public import proofs.«01_k».proof.Proof.Gen.SwapReduced.Launch

@[expose] public section

set_option Elab.async false

noncomputable section

namespace Cert.SwapReduced.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Talk Cert.SwapReduced.Gen

variable {F : FTy → Type} [FloatOps F]

local notation "𝕄" => MT nD τ sig Unit (Elt F) ℕ (UU nD τ sig) ℕ

abbrev sib : Equiv.Perm (Dev nD) := across 1

/-! ## The wires -/

theorem dev1_eq (c : Dev nD) : (⟨k0_dev1 c, k0_dev1_lt c⟩ : Dev nD) = sib c := by revert c; decide +kernel
theorem dev2_eq (c : Dev nD) : (⟨k0_dev2 c, k0_dev2_lt c⟩ : Dev nD) = sib c := by revert c; decide +kernel

/-- The credit of one copy of each array. -/
def credit0 : ℕ := (Memref.whole main_v1_0 : Memref sig .tc .hbm S8x1024x704 .f32).view.dmaCredit
def credit1 : ℕ := (Memref.whole main_v1_1 : Memref sig .tc .hbm S10x512x1024 .f32).view.dmaCredit
theorem credit0_pos : 0 < credit0 := View.dmaCredit_pos _ (by decide)
theorem credit1_pos : 0 < credit1 := View.dmaCredit_pos _ (by decide)

def wires : Wires nD sig (Fin 4) where
  sem j := j
  semInj := fun _ _ h => h
  dest := ![Equiv.refl _, Equiv.refl _, sib, sib]
  amt := ![credit0, credit1, credit0, credit1]
  amt_pos j := by fin_cases j <;> first | exact credit0_pos | exact credit1_pos
  far := {2, 3}
  rank _ := 0

variable (m : (ℓ : Loc nD τ sig) → Buf (Elt F) ℓ)

/-- What device `d` sends: its first half -/
def sent0 (d : Dev nD) : S8x1024x704.Idx → Elt F .f32 := m ((d.tc : Thread nD τ).loc main_arg0)
/-- and its second. -/
def sent1 (d : Dev nD) : S10x512x1024.Idx → Elt F .f32 := m ((d.tc : Thread nD τ).loc main_arg1)

/-! ## What the landings hand over -/

def arg0 (c : Dev nD) : sProp 𝕄 := ((c.tc : Thread nD τ).loc main_arg0) ↦{fullShare} m ((c.tc : Thread nD τ).loc main_arg0)
def arg1 (c : Dev nD) : sProp 𝕄 := ((c.tc : Thread nD τ).loc main_arg1) ↦{fullShare} m ((c.tc : Thread nD τ).loc main_arg1)
def out0 (c : Dev nD) (f : S8x1024x704.Idx → Elt F .f32) : sProp 𝕄 := ((c.tc : Thread nD τ).loc main_v1_0) ↦{fullShare} f
def out1 (c : Dev nD) (f : S10x512x1024.Idx → Elt F .f32) : sProp 𝕄 := ((c.tc : Thread nD τ).loc main_v1_1) ↦{fullShare} f

instance (c : Dev nD) : BI.Storable (upEmb : UEmb _ 𝕄) (arg0 m c) := by unfold arg0; infer_instance
instance (c : Dev nD) : BI.Storable (upEmb : UEmb _ 𝕄) (arg1 m c) := by unfold arg1; infer_instance
instance (c : Dev nD) (f : S8x1024x704.Idx → Elt F .f32) : BI.Storable (upEmb : UEmb _ 𝕄) (out0 c f) := by unfold out0; infer_instance
instance (c : Dev nD) (f : S10x512x1024.Idx → Elt F .f32) : BI.Storable (upEmb : UEmb _ 𝕄) (out1 c f) := by unfold out1; infer_instance

def hands : Handover nD τ sig (Elt F) (Fin 4) where
  pay j c := match j with
    | 0 => arg0 m c
    | 1 => arg1 m c
    | 2 => out0 c (sent0 m (sib c))
    | 3 => out1 c (sent1 m (sib c))
  stored j c := match j with
    | 0 => inferInstanceAs (BI.Storable upEmb (arg0 m c))
    | 1 => inferInstanceAs (BI.Storable upEmb (arg1 m c))
    | 2 => inferInstanceAs (BI.Storable upEmb (out0 c (sent0 m (sib c))))
    | 3 => inferInstanceAs (BI.Storable upEmb (out1 c (sent1 m (sib c))))

/-- Before the exchange a device holds its own arrays and its sibling's result buffers; -/
def before (c : Dev nD) : sProp 𝕄 := iprop(arg0 m c ∗ arg1 m c
  ∗ out0 (sib c) (m (((sib c).tc : Thread nD τ).loc main_v1_0)) ∗ out1 (sib c) (m (((sib c).tc : Thread nD τ).loc main_v1_1)))
/-- after it, its own arrays and its own result buffers, at the sibling's halves. -/
def after (c : Dev nD) : sProp 𝕄 := iprop(arg0 m c ∗ arg1 m c ∗ out0 c (sent0 m (sib c)) ∗ out1 c (sent1 m (sib c)))

theorem landed0 (c : Dev nD) (fd : S8x1024x704.Idx → Elt F .f32) :
    ((Memref.whole main_v1_0 : Memref sig .tc .hbm S8x1024x704 .f32).view.loc ((sib c).tc : Thread nD τ)
        ↦[(Memref.whole main_v1_0 : Memref sig .tc .hbm S8x1024x704 .f32).view.set]{fullShare}
        ((Memref.whole main_v1_0 : Memref sig .tc .hbm S8x1024x704 .f32).view.write (Elt F) fd
          ((Memref.whole main_arg0 : Memref sig .tc .hbm S8x1024x704 .f32).view.read (Elt F) (m ((c.tc : Thread nD τ).loc main_arg0))) Finset.univ) : sProp 𝕄)
      ⊢ out0 (sib c) (sent0 m (sib (sib c))) := by
  rw [across_across]
  exact Entails.of_eq (by simp only [Memref.view_whole, View.set_whole, View.write_whole_univ, View.read_whole]; rfl)
theorem landed1 (c : Dev nD) (fd : S10x512x1024.Idx → Elt F .f32) :
    ((Memref.whole main_v1_1 : Memref sig .tc .hbm S10x512x1024 .f32).view.loc ((sib c).tc : Thread nD τ)
        ↦[(Memref.whole main_v1_1 : Memref sig .tc .hbm S10x512x1024 .f32).view.set]{fullShare}
        ((Memref.whole main_v1_1 : Memref sig .tc .hbm S10x512x1024 .f32).view.write (Elt F) fd
          ((Memref.whole main_arg1 : Memref sig .tc .hbm S10x512x1024 .f32).view.read (Elt F) (m ((c.tc : Thread nD τ).loc main_arg1))) Finset.univ) : sProp 𝕄)
      ⊢ out1 (sib c) (sent1 m (sib (sib c))) := by
  rw [across_across]
  exact Entails.of_eq (by simp only [Memref.view_whole, View.set_whole, View.write_whole_univ, View.read_whole]; rfl)

theorem room0 (c : Dev nD) (fd : S8x1024x704.Idx → Elt F .f32) : (out0 (sib c) fd : sProp 𝕄)
    ⊢ (Memref.whole main_v1_0 : Memref sig .tc .hbm S8x1024x704 .f32).view.loc ((sib c).tc : Thread nD τ)
        ↦[(Memref.whole main_v1_0 : Memref sig .tc .hbm S8x1024x704 .f32).view.set]{fullShare} fd :=
  Entails.of_eq (by simp only [Memref.view_whole, View.set_whole]; rfl)
theorem room1 (c : Dev nD) (fd : S10x512x1024.Idx → Elt F .f32) : (out1 (sib c) fd : sProp 𝕄)
    ⊢ (Memref.whole main_v1_1 : Memref sig .tc .hbm S10x512x1024 .f32).view.loc ((sib c).tc : Thread nD τ)
        ↦[(Memref.whole main_v1_1 : Memref sig .tc .hbm S10x512x1024 .f32).view.set]{fullShare} fd :=
  Entails.of_eq (by simp only [Memref.view_whole, View.set_whole]; rfl)

theorem whole0 (c : Dev nD) :
    ((Memref.whole main_arg0 : Memref sig .tc .hbm S8x1024x704 .f32).view.loc (c.tc : Thread nD τ) ↦[(Memref.whole main_arg0 : Memref sig .tc .hbm S8x1024x704 .f32).view.set]{fullShare} m ((c.tc : Thread nD τ).loc main_arg0) : sProp 𝕄)
      = arg0 m c := by simp only [Memref.view_whole, View.set_whole]; rfl
theorem kept0 (c : Dev nD) : ((Memref.whole main_arg0 : Memref sig .tc .hbm S8x1024x704 .f32).view.loc (c.tc : Thread nD τ) ↦[(Memref.whole main_arg0 : Memref sig .tc .hbm S8x1024x704 .f32).view.set]{fullShare} m ((c.tc : Thread nD τ).loc main_arg0) : sProp 𝕄)
    ⊢ arg0 m c := Entails.of_eq (whole0 m c)
theorem lent0 (c : Dev nD) : arg0 m c ⊢
    ((Memref.whole main_arg0 : Memref sig .tc .hbm S8x1024x704 .f32).view.loc (c.tc : Thread nD τ) ↦[(Memref.whole main_arg0 : Memref sig .tc .hbm S8x1024x704 .f32).view.set]{fullShare} m ((c.tc : Thread nD τ).loc main_arg0) : sProp 𝕄) := Entails.of_eq (whole0 m c).symm

theorem whole1 (c : Dev nD) :
    ((Memref.whole main_arg1 : Memref sig .tc .hbm S10x512x1024 .f32).view.loc (c.tc : Thread nD τ) ↦[(Memref.whole main_arg1 : Memref sig .tc .hbm S10x512x1024 .f32).view.set]{fullShare} m ((c.tc : Thread nD τ).loc main_arg1) : sProp 𝕄)
      = arg1 m c := by simp only [Memref.view_whole, View.set_whole]; rfl
theorem kept1 (c : Dev nD) : ((Memref.whole main_arg1 : Memref sig .tc .hbm S10x512x1024 .f32).view.loc (c.tc : Thread nD τ) ↦[(Memref.whole main_arg1 : Memref sig .tc .hbm S10x512x1024 .f32).view.set]{fullShare} m ((c.tc : Thread nD τ).loc main_arg1) : sProp 𝕄)
    ⊢ arg1 m c := Entails.of_eq (whole1 m c)
theorem lent1 (c : Dev nD) : arg1 m c ⊢
    ((Memref.whole main_arg1 : Memref sig .tc .hbm S10x512x1024 .f32).view.loc (c.tc : Thread nD τ) ↦[(Memref.whole main_arg1 : Memref sig .tc .hbm S10x512x1024 .f32).view.set]{fullShare} m ((c.tc : Thread nD τ).loc main_arg1) : sProp 𝕄) := Entails.of_eq (whole1 m c).symm

/-! ## The body -/

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- The wires a device still owes: at the start, and after its first send. -/
abbrev owed₂ : Finset (Fin 4) := {2, 3}
abbrev owed₁ : Finset (Fin 4) := {3}
theorem two (Φ : Fin 4 → sProp 𝕄) : bigSep owed₂ Φ = iprop(Φ 2 ∗ Φ 3) :=
  bigSep_eq_bigSepL_of_eq [2, 3] (by decide) (by decide) Φ

abbrev 𝒱₀ : Variants := Variants.none

set_option maxRecDepth 8000 in
theorem body (c : Dev nD) : BodyRuns wires (hands m) (before m) (after m) (defs₀ (F := F)) 𝒱₀ c
    (cc0_reduce_swap_reduced (F := F) (Memref.whole main_arg0) (Memref.isWhole_whole _) (Memref.whole main_arg1) (Memref.isWhole_whole _)
      (Memref.whole main_v1_0) (Memref.isWhole_whole _) (Memref.whole main_v1_1) (Memref.isWhole_whole _) cc0_scratch0 cc0_scratch1) := fun K => by
  rw [cc0_reduce_swap_reduced_eq_skeleton]
  unfold cc0_reduce_swap_reduced_skel
  rw [k0_part1_eq_skeleton]
  unfold k0_part1_skel
  simp only [Prog.lift, Prog.bind_op, Prog.bind_ret, Prog.pure_eq_ret, wp_deviceId]
  unfold tools dues before
  rw [four, four, show wires.far = owed₂ from rfl, two]
  iintro ⟨#HK, ⟨⟨Hp0, Hp1, Hp2, Hp3⟩, ⟨Ht0, Ht1, Ht2, Ht3⟩⟩, #Hlev, ⟨Hd2, Hd3⟩, ⟨Hs0, Hs1, Ho0, Ho1⟩, HO⟩
  iapply (wp_send wires (hands m) 𝒱₀ K c _ 0 2 (S := owed₂) (S' := owed₁) (src := Memref.whole main_arg0) (dst := Memref.whole main_v1_0) (sS := 0) (sR := 2)
    rfl (dev1_eq c) (by decide) (by decide) rfl rfl rfl rfl fullShare (m ((c.tc : Thread nD τ).loc main_arg0)) (m (((sib c).tc : Thread nD τ).loc main_v1_0))
    (kept0 m c) (landed0 m c _) (A := arg0 m c) (lent0 m c) (room0 c _)) $$ [Ht0 Ht2 HO Hs0 Ho0]
  · isplitr; · iexact HK
    isplitl [Ht0]; · iexact Ht0
    isplitl [Ht2]; · iexact Ht2
    isplitl [HO]; · iexact HO
    isplitl [Hs0]; · iexact Hs0
    iexact Ho0
  iintro ⟨Hd0, HO⟩
  iapply (wp_send wires (hands m) 𝒱₀ K c _ 1 3 (S := owed₁) (S' := ∅) (src := Memref.whole main_arg1) (dst := Memref.whole main_v1_1) (sS := 1) (sR := 3)
    rfl (dev2_eq c) (by decide) (by decide) rfl rfl rfl rfl fullShare (m ((c.tc : Thread nD τ).loc main_arg1)) (m (((sib c).tc : Thread nD τ).loc main_v1_1))
    (kept1 m c) (landed1 m c _) (A := arg1 m c) (lent1 m c) (room1 c _)) $$ [Ht1 Ht3 HO Hs1 Ho1]
  · isplitr; · iexact HK
    isplitl [Ht1]; · iexact Ht1
    isplitl [Ht3]; · iexact Ht3
    isplitl [HO]; · iexact HO
    isplitl [Hs1]; · iexact Hs1
    iexact Ho1
  iintro ⟨Hd1, HO⟩
  iapply (wp_wait wires (hands m) 𝒱₀ K c 0 ∅ (by simp) (dst := Memref.whole main_arg0) (sR := 0) rfl rfl (C := arg0 m c) (BI.Entails.refl _)) $$ [Hp0 Hd0 HO]
  · isplitr; · iexact HK
    isplitr; · iexact Hlev
    isplitl [Hp0]; · iexact Hp0
    isplitl [Hd0]; · iexact Hd0
    iexact HO
  iintro ⟨Hs0, Hz0, HO⟩
  iapply (wp_wait wires (hands m) 𝒱₀ K c 2 ∅ (by simp) (dst := Memref.whole main_v1_0) (sR := 2) rfl rfl (C := out0 c (sent0 m (sib c))) (BI.Entails.refl _)) $$ [Hp2 Hd2 HO]
  · isplitr; · iexact HK
    isplitr; · iexact Hlev
    isplitl [Hp2]; · iexact Hp2
    isplitl [Hd2]; · iexact Hd2
    iexact HO
  iintro ⟨Ho0, Hz2, HO⟩
  iapply (wp_wait wires (hands m) 𝒱₀ K c 1 ∅ (by simp) (dst := Memref.whole main_arg1) (sR := 1) rfl rfl (C := arg1 m c) (BI.Entails.refl _)) $$ [Hp1 Hd1 HO]
  · isplitr; · iexact HK
    isplitr; · iexact Hlev
    isplitl [Hp1]; · iexact Hp1
    isplitl [Hd1]; · iexact Hd1
    iexact HO
  iintro ⟨Hs1, Hz1, HO⟩
  iapply (wp_wait wires (hands m) 𝒱₀ K c 3 ∅ (by simp) (dst := Memref.whole main_v1_1) (sR := 3) rfl rfl (C := out1 c (sent1 m (sib c))) (BI.Entails.refl _)) $$ [Hp3 Hd3 HO]
  · isplitr; · iexact HK
    isplitr; · iexact Hlev
    isplitl [Hp3]; · iexact Hp3
    isplitl [Hd3]; · iexact Hd3
    iexact HO
  iintro ⟨Ho1, Hz3, HO⟩
  rw [wp_ret]
  imodintro
  unfold after
  rw [four]
  isplitl [Hs0 Hs1 Ho0 Ho1]
  · isplitl [Hs0]; · iexact Hs0
    isplitl [Hs1]; · iexact Hs1
    isplitl [Ho0] <;> iassumption
  isplitr [HO]
  · isplitl [Hz0]; · iexact Hz0
    isplitl [Hz1]; · iexact Hz1
    isplitl [Hz2] <;> iassumption
  iexact HO

/-! ## The launch -/

/-- The program's one pipeline: the exchange. -/
def pdats (p : Fin 1) (c : Dev nD) : Dat τ (Elt F) Unit ℕ (UU nD τ sig) ℕ (Pipeline.pin (pcfgs (F := F)) (fun p => (cfgs p).toPCfg_adm) p) c :=
  match p with
  | 0 => exchangeDat wires (hands m) (before m) (after m) _ (inferInstanceAs (IsEmpty (Fin 0))) c

theorem deal_bufs : (bigSep Finset.univ fun c : Dev nD => unscopedBufs c (fun b => m ((c.tc : Thread nD τ).loc b)))
    ⊢ (bigSep Finset.univ fun c : Dev nD => iprop(before m c ∗ emp) : sProp 𝕄) := by
  have h : ∀ c : Dev nD, (unscopedBufs c (fun b => m ((c.tc : Thread nD τ).loc b)) : sProp 𝕄)
      = iprop(arg0 m c ∗ arg1 m c ∗ out0 c (m ((c.tc : Thread nD τ).loc main_v1_0)) ∗ out1 c (m ((c.tc : Thread nD τ).loc main_v1_1))) := fun c =>
    bigSep_eq_bigSepL_of_eq [main_arg0, main_arg1, main_v1_0, main_v1_1] (by decide) (by decide) _
  rw [bigSep_congr fun c _ => h c]
  unfold before
  simp only [bigSep_sep']
  rw [bigSep_univ_equiv sib (fun c => (out0 c (m ((c.tc : Thread nD τ).loc main_v1_0)) : sProp 𝕄)),
    bigSep_univ_equiv sib (fun c => (out1 c (m ((c.tc : Thread nD τ).loc main_v1_1)) : sProp 𝕄))]
  iintro H
  isplitl [H]; · iexact H
  iapply (BI.bigSep_intro_persistent (S := Finset.univ) fun (c : Dev nD) _ => (BI.Entails.refl (iprop(emp) : sProp 𝕄)))
  iempintro

theorem ownSems : OwnSemFacts cfg0.spec wires.at_ := by decide

/-- Every run of the program ends, with every device's result buffers at what its sibling sent, its arguments unchanged and every
    semaphore at zero. -/
theorem runs (g : Dev nD → PrngReg) :
    θ_run (defs (F := F)) (onTc (τ := τ) (main (F := F))) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v1_0) = sent0 m (sib c)
        ∧ r.2.mem ((c.tc : Thread nD τ).loc main_v1_1) = sent1 m (sib c))
      ∧ r.2.sem = fun _ => 0) := by
  haveI hW : IsEmpty (Fin (Pipeline.pin (pcfgs (F := F)) (fun p => (cfgs p).toPCfg_adm) 0).W) := inferInstanceAs (IsEmpty (Fin 0))
  refine θ_run_exchange wires (hands m) (before m) (after m) (pcfgs (F := F)) (fun p => (cfgs p).toPCfg_adm) (pdats m) (defs₀ (F := F)) 𝒱₀
    (fun _ => iprop(emp)) cellOf_inj 0 (fun c => ⟨_, rfl⟩) hW N_0 winFacts0.to₀ (inferInstanceAs (IsEmpty (Fin 0))) ownSems
    (fun c => scopedRest0_eq c) (fun c t => body m c) m g (deal_bufs m) (main (F := F)) (fun _ => []) (fun c => rfl)
    (fun c => List.nodup_nil) (fun c => List.not_mem_nil) (after m) (fun c => ?_)
    (fun c s => s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_v1_0) = sent0 m (sib c)
        ∧ s.mem ((c.tc : Thread nD τ).loc main_v1_1) = sent1 m (sib c))
    (fun c s' => ?_) (fun s h hs => ⟨h, sem_eq_zero_of_scoped (by decide) hs⟩)
  · show iprop(after m c ∗ emp ∗ owing wires c ∅) ⊢ iprop(after m c ∗ ∃ V, owes (c.tc : Thread nD τ) (0 : CellTallies nD τ sig Unit) V)
    unfold Talk.owing
    rw [Wires.owed_empty]
    iintro ⟨Ha, -, HO⟩
    isplitl [Ha] <;> iassumption
  · exact (read_sep read_one (read_sep read_one (read_sep read_one read_one))).trans fupd_intro

end Cert.SwapReduced.Run

end
-- ==== Proof.SwapReducedValue.lean ====
/-
# The swap of reduced halves: `SwapReduced` meets its reference

The reference swaps the two halves of each chip; read at an index, that is the row the sibling holds.
-/
module

public import proofs.«01_k».proof.Proof.SwapReduced
public import proofs.«01_k».proof.Proof.Talk.Part
public import proofs.«01_k».proof.Proof.Gen.SwapReducedRef.Run
public import Idealize.ShloMosaic.Lib.PointwiseCore
public import Idealize.ShloMosaic.Lib.Layout

@[expose] public section

noncomputable section

namespace Cert.SwapReducedRef.Value

open Idealize.ShloMosaic Cert.SwapReducedRef Cert.SwapReducedRef.Gen

variable {F : FTy → Type} [FloatOps F]

/-- What the reference returns of its first array; -/
def swapped0 (A : S64x1024x704.Idx → Elt F .f32) : S64x1024x704.Idx → Elt F .f32 :=
  shapeCast _ (concatenate S4x2x8x1024x704 1 [⟨S4x1x8x1024x704, (broadcastInDim S4x1x8x1024x704 ![0, 2, 3, 4] bcast_S4x8x1024x704_S4x1x8x1024x704_0_2_3_4 (shapeCast _ (extractStridedSlice S4x1x8x1024x704 ![0, 1, 0, 0, 0] (shapeCast _ A shapeCasts_S64x1024x704_S4x2x8x1024x704) slices_S4x2x8x1024x704_S4x1x8x1024x704_0_1_0_0_0) shapeCasts_S4x1x8x1024x704_S4x8x1024x704))⟩, ⟨S4x1x8x1024x704, (broadcastInDim S4x1x8x1024x704 ![0, 2, 3, 4] bcast_S4x8x1024x704_S4x1x8x1024x704_0_2_3_4 (shapeCast _ (extractStridedSlice S4x1x8x1024x704 ![0, 0, 0, 0, 0] (shapeCast _ A shapeCasts_S64x1024x704_S4x2x8x1024x704) slices_S4x2x8x1024x704_S4x1x8x1024x704_0_0_0_0_0) shapeCasts_S4x1x8x1024x704_S4x8x1024x704))⟩] concatenates_S4x1x8x1024x704_S4x1x8x1024x704_S4x2x8x1024x704_d1) shapeCasts_S4x2x8x1024x704_S64x1024x704

set_option maxRecDepth 16384 in
/-- at row `p`, the same row of the next device on an even one, of the last on an odd one. -/
theorem swapped0_at (A : S64x1024x704.Idx → Elt F .f32) (p : Fin 64) (r : Fin 1024) (k : Fin 704) (q : Fin 64)
    (hq : q.val = p.val / 16 * 16 + (1 - p.val / 8 % 2) * 8 + p.val % 8) :
    swapped0 A (ix3 p r k) = A (ix3 q r k) := by
  pointwise [swapped0]
  split
  · refine congrArg (fun x => A (ix3 x r k)) (Fin.ext ?_)
    simp only
    omega
  · refine congrArg (fun x => A (ix3 x r k)) (Fin.ext ?_)
    simp only
    omega

/-- What the reference returns of its second array; -/
def swapped1 (A : S80x512x1024.Idx → Elt F .f32) : S80x512x1024.Idx → Elt F .f32 :=
  shapeCast _ (concatenate S4x2x10x512x1024 1 [⟨S4x1x10x512x1024, (broadcastInDim S4x1x10x512x1024 ![0, 2, 3, 4] bcast_S4x10x512x1024_S4x1x10x512x1024_0_2_3_4 (shapeCast _ (extractStridedSlice S4x1x10x512x1024 ![0, 1, 0, 0, 0] (shapeCast _ A shapeCasts_S80x512x1024_S4x2x10x512x1024) slices_S4x2x10x512x1024_S4x1x10x512x1024_0_1_0_0_0) shapeCasts_S4x1x10x512x1024_S4x10x512x1024))⟩, ⟨S4x1x10x512x1024, (broadcastInDim S4x1x10x512x1024 ![0, 2, 3, 4] bcast_S4x10x512x1024_S4x1x10x512x1024_0_2_3_4 (shapeCast _ (extractStridedSlice S4x1x10x512x1024 ![0, 0, 0, 0, 0] (shapeCast _ A shapeCasts_S80x512x1024_S4x2x10x512x1024) slices_S4x2x10x512x1024_S4x1x10x512x1024_0_0_0_0_0) shapeCasts_S4x1x10x512x1024_S4x10x512x1024))⟩] concatenates_S4x1x10x512x1024_S4x1x10x512x1024_S4x2x10x512x1024_d1) shapeCasts_S4x2x10x512x1024_S80x512x1024

set_option maxRecDepth 16384 in
/-- at row `p`, the same row of the next device on an even one, of the last on an odd one. -/
theorem swapped1_at (A : S80x512x1024.Idx → Elt F .f32) (p : Fin 80) (r : Fin 512) (k : Fin 1024) (q : Fin 80)
    (hq : q.val = p.val / 20 * 20 + (1 - p.val / 10 % 2) * 10 + p.val % 10) :
    swapped1 A (ix3 p r k) = A (ix3 q r k) := by
  pointwise [swapped1]
  split
  · refine congrArg (fun x => A (ix3 x r k)) (Fin.ext ?_)
    simp only
    omega
  · refine congrArg (fun x => A (ix3 x r k)) (Fin.ext ?_)
    simp only
    omega

end Cert.SwapReducedRef.Value

namespace Cert.SwapReduced.Run

open Idealize.ShloMosaic Idealize.ShloMosaic.TcCoe Cert.SwapReduced.Gen Cert.SwapReducedRef.Value

variable {F : FTy → Type} [FloatOps F]

/-- What the sibling sends is this device's block of what the reference returns. -/
theorem sent0_eq (m : (ℓ : Loc nD τ sig) → Buf (Elt F) ℓ) (A : SwapReducedRef.S64x1024x704.Idx → Elt F .f32)
    (hm : ∀ c : Dev nD, m ((c.tc : Thread nD τ).loc main_arg0) = Layout.block S8x1024x704 SwapReducedRef.S64x1024x704 0 8 c A) (c : Dev nD) :
    sent0 m (sib c) = Layout.block S8x1024x704 SwapReducedRef.S64x1024x704 0 8 c (swapped0 A) := by
  funext i
  idx_vars i
  have hs : ∀ c : Dev 8, (sib c).val / 2 = c.val / 2 ∧ (sib c).val % 2 = 1 - c.val % 2 := by decide
  have hc : c.val < 8 := c.isLt
  have h1 := hs c
  rw [Layout.block_apply]
  unfold sent0
  rw [hm, Layout.block_apply, Talk.tile3 _ _ i0 _ _ ⟨(sib c).val * 8 + i0.val, by omega⟩ rfl, Talk.tile3 _ c i0 _ _ ⟨c.val * 8 + i0.val, by omega⟩ rfl]
  exact (swapped0_at A _ _ _ _ (by
    show (sib c).val * 8 + i0.val = (c.val * 8 + i0.val) / 16 * 16 + (1 - (c.val * 8 + i0.val) / 8 % 2) * 8 + (c.val * 8 + i0.val) % 8
    omega)).symm

/-- What the sibling sends is this device's block of what the reference returns. -/
theorem sent1_eq (m : (ℓ : Loc nD τ sig) → Buf (Elt F) ℓ) (A : SwapReducedRef.S80x512x1024.Idx → Elt F .f32)
    (hm : ∀ c : Dev nD, m ((c.tc : Thread nD τ).loc main_arg1) = Layout.block S10x512x1024 SwapReducedRef.S80x512x1024 0 8 c A) (c : Dev nD) :
    sent1 m (sib c) = Layout.block S10x512x1024 SwapReducedRef.S80x512x1024 0 8 c (swapped1 A) := by
  funext i
  idx_vars i
  have hs : ∀ c : Dev 8, (sib c).val / 2 = c.val / 2 ∧ (sib c).val % 2 = 1 - c.val % 2 := by decide
  have hc : c.val < 8 := c.isLt
  have h1 := hs c
  rw [Layout.block_apply]
  unfold sent1
  rw [hm, Layout.block_apply, Talk.tile3 _ _ i0 _ _ ⟨(sib c).val * 10 + i0.val, by omega⟩ rfl, Talk.tile3 _ c i0 _ _ ⟨c.val * 10 + i0.val, by omega⟩ rfl]
  exact (swapped1_at A _ _ _ _ (by
    show (sib c).val * 10 + i0.val = (c.val * 10 + i0.val) / 20 * 20 + (1 - (c.val * 10 + i0.val) / 10 % 2) * 10 + (c.val * 10 + i0.val) % 10
    omega)).symm

end Cert.SwapReduced.Run
-- ==== Proof.SwapReducedClaims.lean ====
/-
# The claims of `SwapReduced`
-/
module

public import proofs.«01_k».proof.Defs
public import proofs.«01_k».proof.Proof.SwapReducedValue

@[expose] public section

noncomputable section

namespace Cert.Proof.SwapReduced

open Idealize.ShloMosaic Idealize.ShloMosaic.TcCoe Idealize.SL.Sem

/-- Every run ends with the arguments unchanged and every semaphore at zero; -/
theorem frame : Cert.quiescent_SwapReduced (hSwapReduced := Cert.SwapReduced.Gen.facts) := fun m g _ =>
  (θ_run _ _ _).mono (fun _ h => ⟨fun c => ⟨(h.1 c).1, (h.1 c).2.1⟩, h.2⟩) (Cert.SwapReduced.Run.runs (F := Bits) m g)

/-- the reference's likewise; -/
theorem frame_ref : Cert.quiescent_SwapReducedRef (hSwapReducedRef := Cert.SwapReducedRef.Gen.facts) := fun m g _ =>
  (θ_run _ _ _).mono (fun _ h => ⟨fun c => ⟨(h c).2.2.1, (h c).2.2.2⟩, sem_eq_zero_of_no_sems (by decide) _⟩) (Cert.SwapReducedRef.Value.run (F := Bits) m g)

/-- and each device's results are its blocks of what the reference returns, bit for bit. -/
theorem same : Cert.bitexact_SwapReduced_SwapReducedRef (hSwapReduced := Cert.SwapReduced.Gen.facts) (hSwapReducedRef := Cert.SwapReducedRef.Gen.facts) := fun m g m' g' _ hm =>
  ⟨Cert.SwapReducedRef.Value.swapped0 (m' (((0 : Dev Cert.SwapReducedRef.nD).tc : Thread Cert.SwapReducedRef.nD Cert.SwapReducedRef.τ).loc Cert.SwapReducedRef.main_arg0)),
    Cert.SwapReducedRef.Value.swapped1 (m' (((0 : Dev Cert.SwapReducedRef.nD).tc : Thread Cert.SwapReducedRef.nD Cert.SwapReducedRef.τ).loc Cert.SwapReducedRef.main_arg1)),
    (θ_run _ _ _).mono (fun _ h c => ⟨((h.1 c).2.2.1).trans (Cert.SwapReduced.Run.sent0_eq m _ (fun d => (hm d).1) c),
      ((h.1 c).2.2.2).trans (Cert.SwapReduced.Run.sent1_eq m _ (fun d => (hm d).2) c), (h.1 c).1, (h.1 c).2.1⟩)
      (Cert.SwapReduced.Run.runs (F := Bits) m g),
    (θ_run _ _ _).mono (fun _ h => h 0) (Cert.SwapReducedRef.Value.run (F := Bits) m' g')⟩

end Cert.Proof.SwapReduced

end
-- ==== Proof.Talk.Local.lean ====
/-
# Copies within a device

A copy between two buffers of one device credits a semaphore of that device. It fits the same scheme: the wire leads from the
device to itself, and the landing hands over the written destination together with the source.
-/
module

public import proofs.«01_k».proof.Proof.Talk.Pieces

@[expose] public section

noncomputable section

namespace Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} [∀ e, Nonempty (Val e)]
variable {J : Type} [Fintype J] [DecidableEq J]

local notation "𝕄" => MT nD τ sig Unit Val ℕ (UU nD τ sig) ℕ

variable (W : Wires nD sig J) (H : Handover nD τ sig Val J)
variable {Λ : Labels} {defs : Defs nD τ sig Val Λ} (𝒱 : Variants)

/-- A copy within a device: it gives the source and the destination, and gets the credit for its own semaphore. -/
theorem wp_here (K : Dev nD × J → ℕ) (c : Dev nD) (j : J) (hj : W.dest j c = c)
    {sp sp' : Space} {s : Shape} {e : EltTy} {src : Memref sig .tc sp s e} {dst : Memref sig .tc sp' s e}
    {sR : DmaSem sig} (hR : sR = W.sem j) (hamt : dst.view.dmaCredit = W.amt j)
    {hsrc : src.view.WordExact} {hdst : dst.view.WordExact}
    {hsem : DmaTarget.Typed (nD := nD) (τ := τ) (p := .tc) sp (.dma sR) (.here dst)} (q : PosShare TreeShare)
    (fs : Buf Val (src.view.loc (c.tc : Thread nD τ))) (fd : Buf Val (dst.view.loc (c.tc : Thread nD τ)))
    (hpay : iprop((dst.view.loc (c.tc : Thread nD τ) ↦[dst.view.set]{fullShare} (dst.view.write Val fd (src.view.read Val fs) Finset.univ))
      ∗ (src.view.loc (c.tc : Thread nD τ) ↦[src.view.set]{q} fs)) ⊢ H.pay j c)
    {A B : sProp 𝕄} (hA : A ⊢ (src.view.loc (c.tc : Thread nD τ) ↦[src.view.set]{q} fs))
    (hB : B ⊢ (dst.view.loc (c.tc : Thread nD τ) ↦[dst.view.set]{fullShare} fd))
    {α : Type} {k : PUnit → Prog (TpuEff nD τ sig Val Λ .tc) α} {Q : α → sProp 𝕄} :
    iprop(records W H K ∗ tok W c j ∗ A ∗ B)
      ⊢ iprop((due W c j -∗ wp frame (wpE defs 𝒱 (c.tc : Thread nD τ) none) Set.univ (k ⟨⟩) Q)
          -∗ wp frame (wpE defs 𝒱 (c.tc : Thread nD τ) none) Set.univ
              (.op (.enqueueDma src (.here dst) (.dma sR) hsrc hdst hsem) k) Q) := by
  subst hR
  unfold tok due
  rw [hj]
  iintro ⟨#HK, Ht, Hs, Hd⟩ Hk
  iapply (Rounds.wp_copy_pointsTo 𝒱 (ER nD τ sig Val) (sched W H) (c.tc : Thread nD τ) none (κ := K (c, j))
    (r := 0) (d := ()) (fs := fs) (fd := fd) (q := q) (sem := .dma (W.sem j))
    (by rw [show ((c.tc : Thread nD τ), SemLoc.dma (W.sem j)) = W.cell τ c j from rfl, duties_cell]; exact Finset.mem_singleton_self _) () (W.amt j)
    (by rw [View.amount_dma]; exact hamt) (amount_cell W H c j ())
    (by rw [show ((c.tc : Thread nD τ), SemLoc.dma (W.sem j)) = W.cell τ c j from rfl, payload_cell]; exact hpay)) $$ [Ht Hs Hd]
  · isplitr; · iapply (records_inv W H K c j); iexact HK
    isplitl [Hs]; · iapply hA; iexact Hs
    isplitl [Hd]; · iapply hB; iexact Hd
    isplitl [Ht]; · iexact Ht
    iapply (records_reached W H K c j); iexact HK
  iexact Hk

/-! ## Many shares of one buffer -/

/-- What is left of the full share after `n` halvings, -/
def remains : ℕ → PosShare TreeShare
  | 0 => fullShare
  | n + 1 => (remains n).right
/-- and the half given away at the next one. -/
def given (n : ℕ) : PosShare TreeShare := (remains n).left

/-- A buffer in seven shares given away and the one that is left. -/
theorem eighths {ℓ : Loc nD τ sig} (I : Finset (Idx ℓ)) (f : Buf Val ℓ) :
    (ℓ ↦[I]{fullShare} f : sProp 𝕄) = iprop((ℓ ↦[I]{given 0} f) ∗ (ℓ ↦[I]{given 1} f) ∗ (ℓ ↦[I]{given 2} f) ∗ (ℓ ↦[I]{given 3} f)
      ∗ (ℓ ↦[I]{given 4} f) ∗ (ℓ ↦[I]{given 5} f) ∗ (ℓ ↦[I]{given 6} f) ∗ ℓ ↦[I]{remains 7} f) := by
  have h : ∀ n, (ℓ ↦[I]{remains n} f : sProp 𝕄) = iprop((ℓ ↦[I]{given n} f) ∗ ℓ ↦[I]{remains (n + 1)} f) := fun n => halves I (remains n) f
  rw [← h 6, ← h 5, ← h 4, ← h 3, ← h 2, ← h 1, ← h 0]
  rfl

end Talk

end
-- ==== Proof.GatherSmall.lean ====
/-
# The gather of the small gradients: every run of `GatherSmall`

Each device copies its block into its own slot of its result, and sends it into the same slot of the result of every other device.
Wires 0 to 6 are the send semaphores, wires 7 to 13 the receive semaphores, each in the order of the directions 1 to 7; wire 14 is
the semaphore of the copy that stays on the device.

The eight copies read the block at once, each at its own share. A result is dealt in eight slots, one for each device that writes it.
-/
module

public import proofs.«01_k».proof.Proof.Talk.Local
public import proofs.«01_k».proof.Proof.Gen.GatherSmall
public import proofs.«01_k».proof.Proof.Gen.GatherSmall.Skeleton
public import proofs.«01_k».proof.Proof.Gen.GatherSmall.Launch

@[expose] public section

set_option Elab.async false

noncomputable section

namespace Cert.GatherSmall.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Talk Cert.GatherSmall.Gen

variable {F : FTy → Type} [FloatOps F]

local notation "𝕄" => MT nD τ sig Unit (Elt F) ℕ (UU nD τ sig) ℕ

/-! ## The wires -/

theorem dev1_eq (c : Dev nD) : (⟨k0_dev1 c, k0_dev1_lt c⟩ : Dev nD) = across 1 c := by revert c; decide +kernel
theorem dev2_eq (c : Dev nD) : (⟨k0_dev2 c, k0_dev2_lt c⟩ : Dev nD) = across 2 c := by revert c; decide +kernel
theorem dev3_eq (c : Dev nD) : (⟨k0_dev3 c, k0_dev3_lt c⟩ : Dev nD) = across 3 c := by revert c; decide +kernel
theorem dev4_eq (c : Dev nD) : (⟨k0_dev4 c, k0_dev4_lt c⟩ : Dev nD) = across 4 c := by revert c; decide +kernel
theorem dev5_eq (c : Dev nD) : (⟨k0_dev5 c, k0_dev5_lt c⟩ : Dev nD) = across 5 c := by revert c; decide +kernel
theorem dev6_eq (c : Dev nD) : (⟨k0_dev6 c, k0_dev6_lt c⟩ : Dev nD) = across 6 c := by revert c; decide +kernel
theorem dev7_eq (c : Dev nD) : (⟨k0_dev7 c, k0_dev7_lt c⟩ : Dev nD) = across 7 c := by revert c; decide +kernel

/-- The block a device holds, -/
abbrev mine : Memref sig .tc .hbm S288x1024 .f32 := Memref.whole main_arg0
/-- a slot of a result, given by its corner, -/
abbrev slotAt (o : Fin 3 → Nat) (h : ∀ d, o d + S1x288x1024.size d ≤ S8x288x1024.size d) : Memref sig .tc .hbm S288x1024 .f32 :=
  ((Memref.whole main_v1).slice (Rect.unit (s := S8x288x1024) o S1x288x1024.size h) (fun _ => rfl)).squeeze
    S288x1024 squeezes_S1x288x1024_S288x1024
/-- and the slot that device `e` writes. -/
def slot (e : Dev nD) : Memref sig .tc .hbm S288x1024 .f32 := slotAt (k0_off1 e) (k0_off1_inb e)

/-- The corner of a device's slot. -/
theorem corner (e : Dev nD) : k0_off1 e = ![e.val, 0, 0] := by
  have h : ∀ e : Dev nD, ∀ d : Fin 3, k0_off1 e d = (![e.val, 0, 0] : Fin 3 → Nat) d := by decide +kernel
  exact funext (h e)

theorem slot_set (e : Dev nD) : (slot e).view.set = (Rect.unit (s := S8x288x1024) (k0_off1 e) S1x288x1024.size (k0_off1_inb e)).set :=
  (View.set_reshape _ _).trans (View.set_slice_whole main_v1 _)
/-- The slots of a result are apart. -/
theorem apart (e e' : Dev nD) (h : e ≠ e') : Disjoint (slot e).view.set (slot e').view.set := by
  have hv : e.val ≠ e'.val := fun hv => h (Fin.ext hv)
  rw [slot_set, slot_set]
  refine Rect.unit_disjoint (0 : Fin 3) ?_
  rw [corner, corner]
  show e.val + 1 ≤ e'.val ∨ e'.val + 1 ≤ e.val
  omega

/-- The credit of one copy. -/
def credit : ℕ := mine.view.dmaCredit
theorem credit_pos : 0 < credit := View.dmaCredit_pos _ (by decide)

def wires : Wires nD sig (Fin 15) where
  sem j := j
  semInj := fun _ _ h => h
  dest := ![Equiv.refl _, Equiv.refl _, Equiv.refl _, Equiv.refl _, Equiv.refl _, Equiv.refl _, Equiv.refl _, across 1, across 2, across 3, across 4, across 5, across 6, across 7, Equiv.refl _]
  amt _ := credit
  amt_pos _ := credit_pos
  far := {7, 8, 9, 10, 11, 12, 13}
  rank _ := 0

variable (m : (ℓ : Loc nD τ sig) → Buf (Elt F) ℓ)

/-- What device `d` sends. -/
def sent (d : Dev nD) : S288x1024.Idx → Elt F .f32 := mine.view.read (Elt F) (m ((d.tc : Thread nD τ).loc main_arg0))

/-! ## What the landings hand over -/

/-- The block of a device, at a share; -/
def src (q : PosShare TreeShare) (c : Dev nD) : sProp 𝕄 := mine.view.loc (c.tc : Thread nD τ) ↦[mine.view.set]{q} m ((c.tc : Thread nD τ).loc main_arg0)
/-- the block, whole; -/
def arg (c : Dev nD) : sProp 𝕄 := ((c.tc : Thread nD τ).loc main_arg0) ↦{fullShare} m ((c.tc : Thread nD τ).loc main_arg0)
/-- slot `e` of the result of device `d`, before the exchange -/
def room (e d : Dev nD) : sProp 𝕄 := (slot e).view.loc (d.tc : Thread nD τ) ↦[(slot e).view.set]{fullShare} m ((d.tc : Thread nD τ).loc main_v1)
/-- and after it. -/
def got (e d : Dev nD) : sProp 𝕄 := (slot e).view.loc (d.tc : Thread nD τ) ↦[(slot e).view.set]{fullShare}
  (slot e).view.write (Elt F) (m ((d.tc : Thread nD τ).loc main_v1)) (sent m e) Finset.univ

instance (q : PosShare TreeShare) (c : Dev nD) : BI.Storable (upEmb : UEmb _ 𝕄) (src m q c) := part_stored _ _ _ _
instance (e d : Dev nD) : BI.Storable (upEmb : UEmb _ 𝕄) (got m e d) := part_stored _ _ _ _

theorem arg_cut (c : Dev nD) : arg m c = iprop(src m (given 0) c ∗ src m (given 1) c ∗ src m (given 2) c ∗ src m (given 3) c ∗ src m (given 4) c ∗ src m (given 5) c ∗ src m (given 6) c ∗ src m (remains 7) c) := by
  have h : arg m c = src m fullShare c := by unfold arg src; simp only [Memref.view_whole, View.set_whole]
  rw [h]
  exact eighths _ _
/-- The eight devices, seen from one of them. -/
theorem around (c : Dev nD) (Φ : Dev nD → sProp 𝕄) : bigSep Finset.univ Φ = iprop(Φ (across 1 c) ∗ Φ (across 2 c) ∗ Φ (across 3 c) ∗ Φ (across 4 c) ∗ Φ (across 5 c) ∗ Φ (across 6 c) ∗ Φ (across 7 c) ∗ Φ c) :=
  bigSep_univ_eq_bigSepL [across 1 c, across 2 c, across 3 c, across 4 c, across 5 c, across 6 c, across 7 c, c] (by revert c; decide) (by revert c; decide) Φ

def hands : Handover nD τ sig (Elt F) (Fin 15) where
  pay j c := (![fun c => src m (given 0) c, fun c => src m (given 1) c, fun c => src m (given 2) c, fun c => src m (given 3) c, fun c => src m (given 4) c, fun c => src m (given 5) c, fun c => src m (given 6) c, fun c => got m (across 1 c) c, fun c => got m (across 2 c) c, fun c => got m (across 3 c) c, fun c => got m (across 4 c) c, fun c => got m (across 5 c) c, fun c => got m (across 6 c) c, fun c => got m (across 7 c) c, fun c => iprop(got m c c ∗ src m (remains 7) c)] : Fin 15 → Dev nD → sProp 𝕄) j c
  stored j c := by
    fin_cases j
    · exact inferInstanceAs (BI.Storable upEmb (src m (given 0) c))
    · exact inferInstanceAs (BI.Storable upEmb (src m (given 1) c))
    · exact inferInstanceAs (BI.Storable upEmb (src m (given 2) c))
    · exact inferInstanceAs (BI.Storable upEmb (src m (given 3) c))
    · exact inferInstanceAs (BI.Storable upEmb (src m (given 4) c))
    · exact inferInstanceAs (BI.Storable upEmb (src m (given 5) c))
    · exact inferInstanceAs (BI.Storable upEmb (src m (given 6) c))
    · exact inferInstanceAs (BI.Storable upEmb (got m (across 1 c) c))
    · exact inferInstanceAs (BI.Storable upEmb (got m (across 2 c) c))
    · exact inferInstanceAs (BI.Storable upEmb (got m (across 3 c) c))
    · exact inferInstanceAs (BI.Storable upEmb (got m (across 4 c) c))
    · exact inferInstanceAs (BI.Storable upEmb (got m (across 5 c) c))
    · exact inferInstanceAs (BI.Storable upEmb (got m (across 6 c) c))
    · exact inferInstanceAs (BI.Storable upEmb (got m (across 7 c) c))
    · exact inferInstanceAs (BI.Storable upEmb (iprop(got m c c ∗ src m (remains 7) c)))

/-- Before the exchange a device holds its block and its slot of every result; -/
def before (c : Dev nD) : sProp 𝕄 := iprop(arg m c ∗ room m c (across 1 c) ∗ room m c (across 2 c) ∗ room m c (across 3 c) ∗ room m c (across 4 c) ∗ room m c (across 5 c) ∗ room m c (across 6 c) ∗ room m c (across 7 c) ∗ room m c c)
/-- after it, its block and its own result, at what the devices sent. -/
def after (c : Dev nD) : sProp 𝕄 := iprop(arg m c ∗ got m (across 1 c) c ∗ got m (across 2 c) c ∗ got m (across 3 c) c ∗ got m (across 4 c) c ∗ got m (across 5 c) c ∗ got m (across 6 c) c ∗ got m (across 7 c) c ∗ got m c c)

theorem landed (k : Fin 8) (c : Dev nD) :
    ((slot c).view.loc ((across k c).tc : Thread nD τ) ↦[(slot c).view.set]{fullShare}
        ((slot c).view.write (Elt F) (m (((across k c).tc : Thread nD τ).loc main_v1)) (mine.view.read (Elt F) (m ((c.tc : Thread nD τ).loc main_arg0))) Finset.univ) : sProp 𝕄)
      ⊢ got m (across k (across k c)) (across k c) := by
  rw [across_across]
  exact BI.Entails.refl _

/-! ## The body -/

theorem fifteen (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
/-- The wires a device still owes, send after send. -/
abbrev owed7 : Finset (Fin 15) := {7, 8, 9, 10, 11, 12, 13}
abbrev owed6 : Finset (Fin 15) := {8, 9, 10, 11, 12, 13}
abbrev owed5 : Finset (Fin 15) := {9, 10, 11, 12, 13}
abbrev owed4 : Finset (Fin 15) := {10, 11, 12, 13}
abbrev owed3 : Finset (Fin 15) := {11, 12, 13}
abbrev owed2 : Finset (Fin 15) := {12, 13}
abbrev owed1 : Finset (Fin 15) := {13}
abbrev owed0 : Finset (Fin 15) := ∅
theorem seven (Φ : Fin 15 → sProp 𝕄) : bigSep owed7 Φ = iprop(Φ 7 ∗ Φ 8 ∗ Φ 9 ∗ Φ 10 ∗ Φ 11 ∗ Φ 12 ∗ Φ 13) :=
  bigSep_eq_bigSepL_of_eq [7, 8, 9, 10, 11, 12, 13] (by decide) (by decide) Φ

abbrev 𝒱₀ : Variants := Variants.none

set_option maxRecDepth 8000 in
theorem body (c : Dev nD) : BodyRuns wires (hands m) (before m) (after m) (defs₀ (F := F)) 𝒱₀ c
    (cc0_gather_small_grads (F := F) (Memref.whole main_arg0) (Memref.isWhole_whole _)
      (Memref.whole main_v1) (Memref.isWhole_whole _) cc0_scratch0 cc0_scratch1 cc0_scratch2) := fun K => by
  rw [cc0_gather_small_grads_eq_skeleton]
  unfold cc0_gather_small_grads_skel
  rw [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  unfold tools dues before
  rw [fifteen, fifteen, arg_cut, show wires.far = owed7 from rfl, seven]
  iintro ⟨#HK, ⟨⟨Hp0, Hp1, Hp2, Hp3, Hp4, Hp5, Hp6, Hp7, Hp8, Hp9, Hp10, Hp11, Hp12, Hp13, Hp14⟩, ⟨Ht0, Ht1, Ht2, Ht3, Ht4, Ht5, Ht6, Ht7, Ht8, Ht9, Ht10, Ht11, Ht12, Ht13, Ht14⟩⟩, #Hlev, ⟨Hd7, Hd8, Hd9, Hd10, Hd11, Hd12, Hd13⟩, ⟨⟨Hs0, Hs1, Hs2, Hs3, Hs4, Hs5, Hs6, Hs7⟩, Hr1, Hr2, Hr3, Hr4, Hr5, Hr6, Hr7, Hr⟩, HO⟩
  iapply (wp_here wires (hands m) 𝒱₀ K c 14 rfl (src := mine) (dst := slot c) (sR := 14) rfl rfl (remains 7)
    (m ((c.tc : Thread nD τ).loc main_arg0)) (m ((c.tc : Thread nD τ).loc main_v1)) (BI.Entails.refl (iprop(got m c c ∗ src m (remains 7) c)))
    (A := src m (remains 7) c) (B := room m c c) (BI.Entails.refl _) (BI.Entails.refl _)) $$ [Ht14 Hs7 Hr]
  · isplitr; · iexact HK
    isplitl [Ht14]; · iexact Ht14
    isplitl [Hs7]; · iexact Hs7
    iexact Hr
  iintro Hd14
  iapply (wp_send wires (hands m) 𝒱₀ K c _ 0 7 (S := owed7) (S' := owed6) (src := mine) (dst := slot c) (sS := 0) (sR := 7)
    rfl (dev1_eq c) (by decide) (by decide) rfl rfl rfl rfl (given 0) (m ((c.tc : Thread nD τ).loc main_arg0)) (m (((across 1 c).tc : Thread nD τ).loc main_v1))
    (BI.Entails.refl (src m (given 0) c)) (landed m 1 c) (A := src m (given 0) c) (B := room m c (across 1 c)) (BI.Entails.refl _) (BI.Entails.refl _)) $$ [Ht0 Ht7 HO Hs0 Hr1]
  · isplitr; · iexact HK
    isplitl [Ht0]; · iexact Ht0
    isplitl [Ht7]; · iexact Ht7
    isplitl [HO]; · iexact HO
    isplitl [Hs0]; · iexact Hs0
    iexact Hr1
  iintro ⟨Hd0, HO⟩
  iapply (wp_send wires (hands m) 𝒱₀ K c _ 1 8 (S := owed6) (S' := owed5) (src := mine) (dst := slot c) (sS := 1) (sR := 8)
    rfl (dev2_eq c) (by decide) (by decide) rfl rfl rfl rfl (given 1) (m ((c.tc : Thread nD τ).loc main_arg0)) (m (((across 2 c).tc : Thread nD τ).loc main_v1))
    (BI.Entails.refl (src m (given 1) c)) (landed m 2 c) (A := src m (given 1) c) (B := room m c (across 2 c)) (BI.Entails.refl _) (BI.Entails.refl _)) $$ [Ht1 Ht8 HO Hs1 Hr2]
  · isplitr; · iexact HK
    isplitl [Ht1]; · iexact Ht1
    isplitl [Ht8]; · iexact Ht8
    isplitl [HO]; · iexact HO
    isplitl [Hs1]; · iexact Hs1
    iexact Hr2
  iintro ⟨Hd1, HO⟩
  iapply (wp_send wires (hands m) 𝒱₀ K c _ 2 9 (S := owed5) (S' := owed4) (src := mine) (dst := slot c) (sS := 2) (sR := 9)
    rfl (dev3_eq c) (by decide) (by decide) rfl rfl rfl rfl (given 2) (m ((c.tc : Thread nD τ).loc main_arg0)) (m (((across 3 c).tc : Thread nD τ).loc main_v1))
    (BI.Entails.refl (src m (given 2) c)) (landed m 3 c) (A := src m (given 2) c) (B := room m c (across 3 c)) (BI.Entails.refl _) (BI.Entails.refl _)) $$ [Ht2 Ht9 HO Hs2 Hr3]
  · isplitr; · iexact HK
    isplitl [Ht2]; · iexact Ht2
    isplitl [Ht9]; · iexact Ht9
    isplitl [HO]; · iexact HO
    isplitl [Hs2]; · iexact Hs2
    iexact Hr3
  iintro ⟨Hd2, HO⟩
  iapply (wp_send wires (hands m) 𝒱₀ K c _ 3 10 (S := owed4) (S' := owed3) (src := mine) (dst := slot c) (sS := 3) (sR := 10)
    rfl (dev4_eq c) (by decide) (by decide) rfl rfl rfl rfl (given 3) (m ((c.tc : Thread nD τ).loc main_arg0)) (m (((across 4 c).tc : Thread nD τ).loc main_v1))
    (BI.Entails.refl (src m (given 3) c)) (landed m 4 c) (A := src m (given 3) c) (B := room m c (across 4 c)) (BI.Entails.refl _) (BI.Entails.refl _)) $$ [Ht3 Ht10 HO Hs3 Hr4]
  · isplitr; · iexact HK
    isplitl [Ht3]; · iexact Ht3
    isplitl [Ht10]; · iexact Ht10
    isplitl [HO]; · iexact HO
    isplitl [Hs3]; · iexact Hs3
    iexact Hr4
  iintro ⟨Hd3, HO⟩
  iapply (wp_send wires (hands m) 𝒱₀ K c _ 4 11 (S := owed3) (S' := owed2) (src := mine) (dst := slot c) (sS := 4) (sR := 11)
    rfl (dev5_eq c) (by decide) (by decide) rfl rfl rfl rfl (given 4) (m ((c.tc : Thread nD τ).loc main_arg0)) (m (((across 5 c).tc : Thread nD τ).loc main_v1))
    (BI.Entails.refl (src m (given 4) c)) (landed m 5 c) (A := src m (given 4) c) (B := room m c (across 5 c)) (BI.Entails.refl _) (BI.Entails.refl _)) $$ [Ht4 Ht11 HO Hs4 Hr5]
  · isplitr; · iexact HK
    isplitl [Ht4]; · iexact Ht4
    isplitl [Ht11]; · iexact Ht11
    isplitl [HO]; · iexact HO
    isplitl [Hs4]; · iexact Hs4
    iexact Hr5
  iintro ⟨Hd4, HO⟩
  iapply (wp_send wires (hands m) 𝒱₀ K c _ 5 12 (S := owed2) (S' := owed1) (src := mine) (dst := slot c) (sS := 5) (sR := 12)
    rfl (dev6_eq c) (by decide) (by decide) rfl rfl rfl rfl (given 5) (m ((c.tc : Thread nD τ).loc main_arg0)) (m (((across 6 c).tc : Thread nD τ).loc main_v1))
    (BI.Entails.refl (src m (given 5) c)) (landed m 6 c) (A := src m (given 5) c) (B := room m c (across 6 c)) (BI.Entails.refl _) (BI.Entails.refl _)) $$ [Ht5 Ht12 HO Hs5 Hr6]
  · isplitr; · iexact HK
    isplitl [Ht5]; · iexact Ht5
    isplitl [Ht12]; · iexact Ht12
    isplitl [HO]; · iexact HO
    isplitl [Hs5]; · iexact Hs5
    iexact Hr6
  iintro ⟨Hd5, HO⟩
  iapply (wp_send wires (hands m) 𝒱₀ K c _ 6 13 (S := owed1) (S' := owed0) (src := mine) (dst := slot c) (sS := 6) (sR := 13)
    rfl (dev7_eq c) (by decide) (by decide) rfl rfl rfl rfl (given 6) (m ((c.tc : Thread nD τ).loc main_arg0)) (m (((across 7 c).tc : Thread nD τ).loc main_v1))
    (BI.Entails.refl (src m (given 6) c)) (landed m 7 c) (A := src m (given 6) c) (B := room m c (across 7 c)) (BI.Entails.refl _) (BI.Entails.refl _)) $$ [Ht6 Ht13 HO Hs6 Hr7]
  · isplitr; · iexact HK
    isplitl [Ht6]; · iexact Ht6
    isplitl [Ht13]; · iexact Ht13
    isplitl [HO]; · iexact HO
    isplitl [Hs6]; · iexact Hs6
    iexact Hr7
  iintro ⟨Hd6, HO⟩
  iapply (wp_wait wires (hands m) 𝒱₀ K c 7 owed0 (by simp) (dst := slotAt (k0_off2 c) (k0_off2_inb c)) (sR := 7) rfl rfl (C := got m (across 1 c) c) (BI.Entails.refl _)) $$ [Hp7 Hd7 HO]
  · isplitr; · iexact HK
    isplitr; · iexact Hlev
    isplitl [Hp7]; · iexact Hp7
    isplitl [Hd7]; · iexact Hd7
    iexact HO
  iintro ⟨Hr1, Hz7, HO⟩
  iapply (wp_wait wires (hands m) 𝒱₀ K c 0 owed0 (by simp) (dst := mine) (sR := 0) rfl rfl (C := src m (given 0) c) (BI.Entails.refl _)) $$ [Hp0 Hd0 HO]
  · isplitr; · iexact HK
    isplitr; · iexact Hlev
    isplitl [Hp0]; · iexact Hp0
    isplitl [Hd0]; · iexact Hd0
    iexact HO
  iintro ⟨Hs0, Hz0, HO⟩
  iapply (wp_wait wires (hands m) 𝒱₀ K c 8 owed0 (by simp) (dst := slotAt (k0_off3 c) (k0_off3_inb c)) (sR := 8) rfl rfl (C := got m (across 2 c) c) (BI.Entails.refl _)) $$ [Hp8 Hd8 HO]
  · isplitr; · iexact HK
    isplitr; · iexact Hlev
    isplitl [Hp8]; · iexact Hp8
    isplitl [Hd8]; · iexact Hd8
    iexact HO
  iintro ⟨Hr2, Hz8, HO⟩
  iapply (wp_wait wires (hands m) 𝒱₀ K c 1 owed0 (by simp) (dst := mine) (sR := 1) rfl rfl (C := src m (given 1) c) (BI.Entails.refl _)) $$ [Hp1 Hd1 HO]
  · isplitr; · iexact HK
    isplitr; · iexact Hlev
    isplitl [Hp1]; · iexact Hp1
    isplitl [Hd1]; · iexact Hd1
    iexact HO
  iintro ⟨Hs1, Hz1, HO⟩
  iapply (wp_wait wires (hands m) 𝒱₀ K c 9 owed0 (by simp) (dst := slotAt (k0_off4 c) (k0_off4_inb c)) (sR := 9) rfl rfl (C := got m (across 3 c) c) (BI.Entails.refl _)) $$ [Hp9 Hd9 HO]
  · isplitr; · iexact HK
    isplitr; · iexact Hlev
    isplitl [Hp9]; · iexact Hp9
    isplitl [Hd9]; · iexact Hd9
    iexact HO
  iintro ⟨Hr3, Hz9, HO⟩
  iapply (wp_wait wires (hands m) 𝒱₀ K c 2 owed0 (by simp) (dst := mine) (sR := 2) rfl rfl (C := src m (given 2) c) (BI.Entails.refl _)) $$ [Hp2 Hd2 HO]
  · isplitr; · iexact HK
    isplitr; · iexact Hlev
    isplitl [Hp2]; · iexact Hp2
    isplitl [Hd2]; · iexact Hd2
    iexact HO
  iintro ⟨Hs2, Hz2, HO⟩
  iapply (wp_wait wires (hands m) 𝒱₀ K c 10 owed0 (by simp) (dst := slotAt (k0_off5 c) (k0_off5_inb c)) (sR := 10) rfl rfl (C := got m (across 4 c) c) (BI.Entails.refl _)) $$ [Hp10 Hd10 HO]
  · isplitr; · iexact HK
    isplitr; · iexact Hlev
    isplitl [Hp10]; · iexact Hp10
    isplitl [Hd10]; · iexact Hd10
    iexact HO
  iintro ⟨Hr4, Hz10, HO⟩
  iapply (wp_wait wires (hands m) 𝒱₀ K c 3 owed0 (by simp) (dst := mine) (sR := 3) rfl rfl (C := src m (given 3) c) (BI.Entails.refl _)) $$ [Hp3 Hd3 HO]
  · isplitr; · iexact HK
    isplitr; · iexact Hlev
    isplitl [Hp3]; · iexact Hp3
    isplitl [Hd3]; · iexact Hd3
    iexact HO
  iintro ⟨Hs3, Hz3, HO⟩
  iapply (wp_wait wires (hands m) 𝒱₀ K c 11 owed0 (by simp) (dst := slotAt (k0_off6 c) (k0_off6_inb c)) (sR := 11) rfl rfl (C := got m (across 5 c) c) (BI.Entails.refl _)) $$ [Hp11 Hd11 HO]
  · isplitr; · iexact HK
    isplitr; · iexact Hlev
    isplitl [Hp11]; · iexact Hp11
    isplitl [Hd11]; · iexact Hd11
    iexact HO
  iintro ⟨Hr5, Hz11, HO⟩
  iapply (wp_wait wires (hands m) 𝒱₀ K c 4 owed0 (by simp) (dst := mine) (sR := 4) rfl rfl (C := src m (given 4) c) (BI.Entails.refl _)) $$ [Hp4 Hd4 HO]
  · isplitr; · iexact HK
    isplitr; · iexact Hlev
    isplitl [Hp4]; · iexact Hp4
    isplitl [Hd4]; · iexact Hd4
    iexact HO
  iintro ⟨Hs4, Hz4, HO⟩
  iapply (wp_wait wires (hands m) 𝒱₀ K c 12 owed0 (by simp) (dst := slotAt (k0_off7 c) (k0_off7_inb c)) (sR := 12) rfl rfl (C := got m (across 6 c) c) (BI.Entails.refl _)) $$ [Hp12 Hd12 HO]
  · isplitr; · iexact HK
    isplitr; · iexact Hlev
    isplitl [Hp12]; · iexact Hp12
    isplitl [Hd12]; · iexact Hd12
    iexact HO
  iintro ⟨Hr6, Hz12, HO⟩
  iapply (wp_wait wires (hands m) 𝒱₀ K c 5 owed0 (by simp) (dst := mine) (sR := 5) rfl rfl (C := src m (given 5) c) (BI.Entails.refl _)) $$ [Hp5 Hd5 HO]
  · isplitr; · iexact HK
    isplitr; · iexact Hlev
    isplitl [Hp5]; · iexact Hp5
    isplitl [Hd5]; · iexact Hd5
    iexact HO
  iintro ⟨Hs5, Hz5, HO⟩
  iapply (wp_wait wires (hands m) 𝒱₀ K c 13 owed0 (by simp) (dst := slotAt (k0_off8 c) (k0_off8_inb c)) (sR := 13) rfl rfl (C := got m (across 7 c) c) (BI.Entails.refl _)) $$ [Hp13 Hd13 HO]
  · isplitr; · iexact HK
    isplitr; · iexact Hlev
    isplitl [Hp13]; · iexact Hp13
    isplitl [Hd13]; · iexact Hd13
    iexact HO
  iintro ⟨Hr7, Hz13, HO⟩
  iapply (wp_wait wires (hands m) 𝒱₀ K c 6 owed0 (by simp) (dst := mine) (sR := 6) rfl rfl (C := src m (given 6) c) (BI.Entails.refl _)) $$ [Hp6 Hd6 HO]
  · isplitr; · iexact HK
    isplitr; · iexact Hlev
    isplitl [Hp6]; · iexact Hp6
    isplitl [Hd6]; · iexact Hd6
    iexact HO
  iintro ⟨Hs6, Hz6, HO⟩
  iapply (wp_wait wires (hands m) 𝒱₀ K c 14 owed0 (by simp) (dst := slot c) (sR := 14) rfl rfl (C := iprop(got m c c ∗ src m (remains 7) c)) (BI.Entails.refl _)) $$ [Hp14 Hd14 HO]
  · isplitr; · iexact HK
    isplitr; · iexact Hlev
    isplitl [Hp14]; · iexact Hp14
    isplitl [Hd14]; · iexact Hd14
    iexact HO
  iintro ⟨⟨Hr, Hs7⟩, Hz14, HO⟩
  rw [wp_ret]
  imodintro
  unfold after
  rw [fifteen, arg_cut]
  isplitl [Hs0 Hs1 Hs2 Hs3 Hs4 Hs5 Hs6 Hs7 Hr1 Hr2 Hr3 Hr4 Hr5 Hr6 Hr7 Hr]
  · isplitl [Hs0 Hs1 Hs2 Hs3 Hs4 Hs5 Hs6 Hs7]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6] <;> iassumption
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7] <;> iassumption
  isplitr [HO]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13] <;> iassumption
  iexact HO

/-! ## The launch -/

/-- The program's one pipeline: the exchange. -/
def pdats (p : Fin 1) (c : Dev nD) : Dat τ (Elt F) Unit ℕ (UU nD τ sig) ℕ (Pipeline.pin (pcfgs (F := F)) (fun p => (cfgs p).toPCfg_adm) p) c :=
  match p with
  | 0 => exchangeDat wires (hands m) (before m) (after m) _ (inferInstanceAs (IsEmpty (Fin 0))) c

/-- Each device's slots, dealt to the devices that write them. -/
theorem deal_slots : (bigSep Finset.univ fun c : Dev nD => iprop(arg m c ∗ bigSep Finset.univ fun e : Dev nD => room m e c))
    ⊢ (bigSep Finset.univ fun c : Dev nD => iprop(before m c ∗ emp) : sProp 𝕄) := by
  have h : (bigSep Finset.univ fun c : Dev nD => iprop(arg m c ∗ bigSep Finset.univ fun e : Dev nD => room m e c))
      = (bigSep Finset.univ fun c : Dev nD => iprop(arg m c ∗ room m (across 1 c) c ∗ room m (across 2 c) c ∗ room m (across 3 c) c ∗ room m (across 4 c) c ∗ room m (across 5 c) c ∗ room m (across 6 c) c ∗ room m (across 7 c) c ∗ room m c c) : sProp 𝕄) :=
    bigSep_congr fun c _ => congrArg (fun R : sProp 𝕄 => iprop(arg m c ∗ R)) (around c fun e => room m e c)
  rw [h]
  unfold before
  simp only [bigSep_sep']
  rw [bigSep_univ_equiv (across 1) (fun c => (room m (across 1 c) c : sProp 𝕄)), bigSep_univ_equiv (across 2) (fun c => (room m (across 2 c) c : sProp 𝕄)), bigSep_univ_equiv (across 3) (fun c => (room m (across 3 c) c : sProp 𝕄)), bigSep_univ_equiv (across 4) (fun c => (room m (across 4 c) c : sProp 𝕄)), bigSep_univ_equiv (across 5) (fun c => (room m (across 5 c) c : sProp 𝕄)), bigSep_univ_equiv (across 6) (fun c => (room m (across 6 c) c : sProp 𝕄)), bigSep_univ_equiv (across 7) (fun c => (room m (across 7 c) c : sProp 𝕄))]
  simp only [across_across]
  iintro ⟨Ha, Hr1, Hr2, Hr3, Hr4, Hr5, Hr6, Hr7, Hr⟩
  isplitl
  · isplitl [Ha]; · iexact Ha
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7] <;> iassumption
  iapply (BI.bigSep_intro_persistent (S := Finset.univ) fun (c : Dev nD) _ => (BI.Entails.refl (iprop(emp) : sProp 𝕄)))
  iempintro

theorem out_cut (c : Dev nD) : (((c.tc : Thread nD τ).loc main_v1) ↦{fullShare} m ((c.tc : Thread nD τ).loc main_v1) : sProp 𝕄)
    ⊢ bigSep Finset.univ fun e : Dev nD => room m e c := by
  have h : (((c.tc : Thread nD τ).loc main_v1) ↦{fullShare} m ((c.tc : Thread nD τ).loc main_v1) : sProp 𝕄)
      = iprop((bigSep Finset.univ fun e : Dev nD => room m e c) ∗ _) :=
    deal_parts (ℓ := (c.tc : Thread nD τ).loc main_v1) (K := fun e => (slot e).view.set) (fun e _ e' _ h => apart e e' h) fullShare _
  rw [h]
  iintro ⟨H, -⟩
  iexact H

theorem deal_bufs : (bigSep Finset.univ fun c : Dev nD => unscopedBufs c (fun b => m ((c.tc : Thread nD τ).loc b)))
    ⊢ (bigSep Finset.univ fun c : Dev nD => iprop(before m c ∗ emp) : sProp 𝕄) := by
  have h : ∀ c : Dev nD, (unscopedBufs c (fun b => m ((c.tc : Thread nD τ).loc b)) : sProp 𝕄)
      ⊢ iprop(arg m c ∗ bigSep Finset.univ fun e : Dev nD => room m e c) := fun c => by
    have hb : (unscopedBufs c (fun b => m ((c.tc : Thread nD τ).loc b)) : sProp 𝕄) = iprop(arg m c
        ∗ (((c.tc : Thread nD τ).loc main_v1) ↦{fullShare} m ((c.tc : Thread nD τ).loc main_v1))) :=
      bigSep_eq_bigSepL_of_eq [main_arg0, main_v1] (by decide) (by decide) _
    rw [hb]
    exact sep_mono_right (out_cut m c)
  exact (bigSep_mono fun c _ => h c).trans (deal_slots m)

theorem ownSems : OwnSemFacts cfg0.spec wires.at_ := by decide

/-- Every run of the program ends, with each slot of every device's result at what that device sent, its argument unchanged and every
    semaphore at zero. -/
theorem runs (g : Dev nD → PrngReg) :
    θ_run (defs (F := F)) (onTc (τ := τ) (main (F := F))) ⟨m, fun _ => 0, g⟩ (fun r =>
      (∀ c : Dev nD, r.2.mem ((c.tc : Thread nD τ).loc main_arg0) = m ((c.tc : Thread nD τ).loc main_arg0)
        ∧ (slot (across 1 c)).view.read (Elt F) (r.2.mem ((c.tc : Thread nD τ).loc main_v1)) = sent m (across 1 c)
        ∧ (slot (across 2 c)).view.read (Elt F) (r.2.mem ((c.tc : Thread nD τ).loc main_v1)) = sent m (across 2 c)
        ∧ (slot (across 3 c)).view.read (Elt F) (r.2.mem ((c.tc : Thread nD τ).loc main_v1)) = sent m (across 3 c)
        ∧ (slot (across 4 c)).view.read (Elt F) (r.2.mem ((c.tc : Thread nD τ).loc main_v1)) = sent m (across 4 c)
        ∧ (slot (across 5 c)).view.read (Elt F) (r.2.mem ((c.tc : Thread nD τ).loc main_v1)) = sent m (across 5 c)
        ∧ (slot (across 6 c)).view.read (Elt F) (r.2.mem ((c.tc : Thread nD τ).loc main_v1)) = sent m (across 6 c)
        ∧ (slot (across 7 c)).view.read (Elt F) (r.2.mem ((c.tc : Thread nD τ).loc main_v1)) = sent m (across 7 c)
        ∧ (slot c).view.read (Elt F) (r.2.mem ((c.tc : Thread nD τ).loc main_v1)) = sent m c)
      ∧ r.2.sem = fun _ => 0) := by
  haveI hW : IsEmpty (Fin (Pipeline.pin (pcfgs (F := F)) (fun p => (cfgs p).toPCfg_adm) 0).W) := inferInstanceAs (IsEmpty (Fin 0))
  refine θ_run_exchange wires (hands m) (before m) (after m) (pcfgs (F := F)) (fun p => (cfgs p).toPCfg_adm) (pdats m) (defs₀ (F := F)) 𝒱₀
    (fun _ => iprop(emp)) cellOf_inj 0 (fun c => ⟨_, rfl⟩) hW N_0 winFacts0.to₀ (inferInstanceAs (IsEmpty (Fin 0))) ownSems
    (fun c => scopedRest0_eq c) (fun c t => body m c) m g (deal_bufs m) (main (F := F)) (fun _ => []) (fun c => rfl)
    (fun c => List.nodup_nil) (fun c => List.not_mem_nil) (after m) (fun c => ?_)
    (fun c s => s.mem ((c.tc : Thread nD τ).loc main_arg0) = m ((c.tc : Thread nD τ).loc main_arg0)
        ∧ (slot (across 1 c)).view.read (Elt F) (s.mem ((c.tc : Thread nD τ).loc main_v1)) = sent m (across 1 c)
        ∧ (slot (across 2 c)).view.read (Elt F) (s.mem ((c.tc : Thread nD τ).loc main_v1)) = sent m (across 2 c)
        ∧ (slot (across 3 c)).view.read (Elt F) (s.mem ((c.tc : Thread nD τ).loc main_v1)) = sent m (across 3 c)
        ∧ (slot (across 4 c)).view.read (Elt F) (s.mem ((c.tc : Thread nD τ).loc main_v1)) = sent m (across 4 c)
        ∧ (slot (across 5 c)).view.read (Elt F) (s.mem ((c.tc : Thread nD τ).loc main_v1)) = sent m (across 5 c)
        ∧ (slot (across 6 c)).view.read (Elt F) (s.mem ((c.tc : Thread nD τ).loc main_v1)) = sent m (across 6 c)
        ∧ (slot (across 7 c)).view.read (Elt F) (s.mem ((c.tc : Thread nD τ).loc main_v1)) = sent m (across 7 c)
        ∧ (slot c).view.read (Elt F) (s.mem ((c.tc : Thread nD τ).loc main_v1)) = sent m c)
    (fun c s' => ?_) (fun s h hs => ⟨h, sem_eq_zero_of_scoped (by decide) hs⟩)
  · show iprop(after m c ∗ emp ∗ owing wires c ∅) ⊢ iprop(after m c ∗ ∃ V, owes (c.tc : Thread nD τ) (0 : CellTallies nD τ sig Unit) V)
    unfold Talk.owing
    rw [Wires.owed_empty]
    iintro ⟨Ha, -, HO⟩
    isplitl [Ha] <;> iassumption
  · exact (read_sep read_one (read_sep (read_view (View.read_write_univ _ _)) (read_sep (read_view (View.read_write_univ _ _)) (read_sep (read_view (View.read_write_univ _ _)) (read_sep (read_view (View.read_write_univ _ _)) (read_sep (read_view (View.read_write_univ _ _)) (read_sep (read_view (View.read_write_univ _ _)) (read_sep (read_view (View.read_write_univ _ _)) (read_view (View.read_write_univ _ _)))))))))).trans fupd_intro

/-- Slot by slot: every device's block is in its slot of every result. -/
theorem ends (g : Dev nD → PrngReg) :
    θ_run (defs (F := F)) (onTc (τ := τ) (main (F := F))) ⟨m, fun _ => 0, g⟩ (fun r =>
      (∀ c : Dev nD, (∀ e, (slot e).view.read (Elt F) (r.2.mem ((c.tc : Thread nD τ).loc main_v1)) = sent m e)
        ∧ r.2.mem ((c.tc : Thread nD τ).loc main_arg0) = m ((c.tc : Thread nD τ).loc main_arg0))
      ∧ r.2.sem = fun _ => 0) := by
  have hr := runs m g
  refine (θ_run (defs (F := F)) _ _).mono ?_ hr
  rintro r ⟨h, hs⟩
  refine ⟨fun c => ?_, hs⟩
  obtain ⟨ha, h1, h2, h3, h4, h5, h6, h7, h0⟩ := h c
  refine ⟨fun e => ?_, ha⟩
  have he : ∀ c e : Dev nD, e = across 1 c ∨ e = across 2 c ∨ e = across 3 c ∨ e = across 4 c ∨ e = across 5 c ∨ e = across 6 c ∨ e = across 7 c ∨ e = c := by decide
  rcases he c e with h | h | h | h | h | h | h | h <;> rw [h]
  · exact h1
  · exact h2
  · exact h3
  · exact h4
  · exact h5
  · exact h6
  · exact h7
  · exact h0

end Cert.GatherSmall.Run

end
-- ==== Proof.GatherSmallValue.lean ====
/-
# The gather of the small gradients: `GatherSmall` meets its reference

The reference names the devices' blocks by an axis of their own; slot `e` of a result is the block of device `e`.
-/
module

public import proofs.«01_k».proof.Proof.GatherSmall
public import proofs.«01_k».proof.Proof.Talk.Part
public import proofs.«01_k».proof.Proof.Gen.GatherSmallRef.Run
public import Idealize.ShloMosaic.Lib.PointwiseCore
public import Idealize.ShloMosaic.Lib.Layout

@[expose] public section

noncomputable section

namespace Cert.GatherSmallRef.Value

open Idealize.ShloMosaic Cert.GatherSmallRef Cert.GatherSmallRef.Gen

variable {F : FTy → Type} [FloatOps F]

/-- What the reference returns; -/
def stacked (A : S2304x1024.Idx → Elt F .f32) : S8x288x1024.Idx → Elt F .f32 := shapeCast _ A shapeCasts_S2304x1024_S8x288x1024

set_option maxRecDepth 16384 in
/-- at row `r` of block `e`, the array's row `288 e + r`. -/
theorem stacked_at (A : S2304x1024.Idx → Elt F .f32) (e : Fin 8) (r : Fin 288) (k : Fin 1024) (p : Fin 2304)
    (hp : p.val = e.val * 288 + r.val) : stacked A (ix3 e r k) = A (ix2 p k) := by
  pointwise [stacked]
  refine congrArg (fun x => A (ix2 x k)) (Fin.ext ?_)
  simp only
  omega

end Cert.GatherSmallRef.Value

namespace Cert.GatherSmall.Run

open Idealize.ShloMosaic Idealize.ShloMosaic.TcCoe Cert.GatherSmall.Gen Cert.GatherSmallRef.Value

variable {F : FTy → Type} [FloatOps F]

set_option maxRecDepth 16384 in
/-- Slot `e` of a result. -/
theorem slot_at (d : Dev nD) (X : S8x288x1024.Idx → Elt F .f32) (r : Fin 288) (k : Fin 1024) (e : Fin 8) (he : e.val = d.val) :
    (slot d).view.read (Elt F) X (ix2 r k) = X (ix3 e r k) := by
  have key : ∀ (off : Fin 3 → ℕ) (_ : off = ![e.val, 0, 0]) (hs : S8x288x1024.Slices off S1x288x1024) (hc : S1x288x1024.ShapeCasts S288x1024),
      shapeCast S288x1024 (extractStridedSlice S1x288x1024 off X hs) hc (ix2 r k) = X (ix3 e r k) := by
    intro off ho hs hc
    subst ho
    pointwise
  refine (congrFun (Talk.read_part (Memref.whole main_v1) (k0_off1 d) S1x288x1024.size (k0_off1_inb d) squeezes_S1x288x1024_S288x1024
    ⟨rfl, k0_off1_inb d⟩ squeezes_S1x288x1024_S288x1024.numel_eq X) _).trans ?_
  exact key _ ((corner d).trans (by rw [he])) _ _

/-- What the devices send makes what the reference returns. -/
theorem result_eq (m : (ℓ : Loc nD τ sig) → Buf (Elt F) ℓ) (A : GatherSmallRef.S2304x1024.Idx → Elt F .f32)
    (hm : ∀ c : Dev nD, m ((c.tc : Thread nD τ).loc main_arg0) = Layout.block S288x1024 GatherSmallRef.S2304x1024 0 8 c A)
    (X : S8x288x1024.Idx → Elt F .f32) (hX : ∀ e, (slot e).view.read (Elt F) X = sent m e) : X = stacked A := by
  funext i
  idx_vars i
  have h0 : i0.val < 8 := i0.isLt
  rw [← slot_at ⟨i0.val, h0⟩ X i1 i2 i0 rfl, hX]
  have hs : sent m ⟨i0.val, h0⟩ = Layout.block S288x1024 GatherSmallRef.S2304x1024 0 8 ⟨i0.val, h0⟩ A := hm _
  rw [hs, Layout.block_apply, Talk.tile2 _ _ i1 i2 ⟨i0.val * 288 + i1.val, by omega⟩ rfl]
  exact (stacked_at A _ _ _ _ rfl).symm

end Cert.GatherSmall.Run
-- ==== Proof.GatherSmallClaims.lean ====
/-
# The claims of `GatherSmall`
-/
module

public import proofs.«01_k».proof.Defs
public import proofs.«01_k».proof.Proof.GatherSmallValue

@[expose] public section

noncomputable section

namespace Cert.Proof.GatherSmall

open Idealize.ShloMosaic Idealize.ShloMosaic.TcCoe Idealize.SL.Sem

/-- Every run ends with the argument unchanged and every semaphore at zero; -/
theorem frame : Cert.quiescent_GatherSmall (hGatherSmall := Cert.GatherSmall.Gen.facts) := fun m g _ =>
  (θ_run _ _ _).mono (fun _ h => ⟨fun c => (h.1 c).2, h.2⟩) (Cert.GatherSmall.Run.ends (F := Bits) m g)

/-- the reference's likewise; -/
theorem frame_ref : Cert.quiescent_GatherSmallRef (hGatherSmallRef := Cert.GatherSmallRef.Gen.facts) := fun m g _ =>
  (θ_run _ _ _).mono (fun _ h => ⟨fun c => (h c).2, sem_eq_zero_of_no_sems (by decide) _⟩) (Cert.GatherSmallRef.Value.run (F := Bits) m g)

/-- and every device's result is what the reference returns, bit for bit. -/
theorem same : Cert.bitexact_GatherSmall_GatherSmallRef (hGatherSmall := Cert.GatherSmall.Gen.facts) (hGatherSmallRef := Cert.GatherSmallRef.Gen.facts) := fun m g m' g' _ hm =>
  ⟨Cert.GatherSmallRef.Value.stacked (m' (((0 : Dev Cert.GatherSmallRef.nD).tc : Thread Cert.GatherSmallRef.nD Cert.GatherSmallRef.τ).loc Cert.GatherSmallRef.main_arg0)),
    (θ_run _ _ _).mono (fun _ h c => ⟨Cert.GatherSmall.Run.result_eq m _ hm _ (h.1 c).1, (h.1 c).2⟩) (Cert.GatherSmall.Run.ends (F := Bits) m g),
    (θ_run _ _ _).mono (fun _ h => h 0) (Cert.GatherSmallRef.Value.run (F := Bits) m' g')⟩

end Cert.Proof.GatherSmall

end
-- ==== Proof.GatherWeights.lean ====
/-
# The gather of the weights over the chips: every run of `GatherWeights`

Each device sends one half of its chip's weights, the half its core answers for, to the same core of the other three chips: to the
neighbour along x, along y, and on the diagonal. What it receives from the three it forwards to the other core of its own chip, and
gets from there what that core received. So every device ends with the other three chips' weights, both halves. Its own chip's
weights are put in by the program, after the exchange.

For each of the two arrays there are six send semaphores (three first copies, three forwarded) and six receive semaphores, in the
same order: wires 0 to 11 and 12 to 23. A device waits for the first copies while it still owes the forwarded ones, so these rank
higher.

The three first copies of an array read the same part of it, each at its own share. A result buffer is dealt in six slots, one for
each device of another chip, named after the device whose half it receives; what is left of it stays with its owner.
-/
module

public import proofs.«01_k».proof.Proof.Talk.Pieces
public import proofs.«01_k».proof.Proof.Gen.GatherWeights
public import proofs.«01_k».proof.Proof.Gen.GatherWeights.Skeleton
public import proofs.«01_k».proof.Proof.Gen.GatherWeights.Launch

@[expose] public section

set_option Elab.async false

noncomputable section

namespace Cert.GatherWeights.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Talk Cert.GatherWeights.Gen

variable {F : FTy → Type} [FloatOps F]

local notation "𝕄" => MT nD τ sig Unit (Elt F) ℕ (UU nD τ sig) ℕ

/-- The three peers of a device on other chips, -/
abbrev dir0 : Equiv.Perm (Dev nD) := across 4
abbrev dir1 : Equiv.Perm (Dev nD) := across 2
abbrev dir2 : Equiv.Perm (Dev nD) := across 6
/-- and the other core of its chip. -/
abbrev twin : Equiv.Perm (Dev nD) := across 1

/-! ## The wires -/

theorem dev1_eq (c : Dev nD) : (⟨k0_dev1 c, k0_dev1_lt c⟩ : Dev nD) = dir0 c := by revert c; decide +kernel
theorem dev2_eq (c : Dev nD) : (⟨k0_dev2 c, k0_dev2_lt c⟩ : Dev nD) = dir1 c := by revert c; decide +kernel
theorem dev3_eq (c : Dev nD) : (⟨k0_dev3 c, k0_dev3_lt c⟩ : Dev nD) = dir2 c := by revert c; decide +kernel
theorem dev4_eq (c : Dev nD) : (⟨k0_dev4 c, k0_dev4_lt c⟩ : Dev nD) = dir0 c := by revert c; decide +kernel
theorem dev5_eq (c : Dev nD) : (⟨k0_dev5 c, k0_dev5_lt c⟩ : Dev nD) = dir1 c := by revert c; decide +kernel
theorem dev6_eq (c : Dev nD) : (⟨k0_dev6 c, k0_dev6_lt c⟩ : Dev nD) = dir2 c := by revert c; decide +kernel
theorem dev7_eq (c : Dev nD) : (⟨k0_dev7 c, k0_dev7_lt c⟩ : Dev nD) = twin c := by revert c; decide +kernel
theorem dev8_eq (c : Dev nD) : (⟨k0_dev8 c, k0_dev8_lt c⟩ : Dev nD) = twin c := by revert c; decide +kernel
theorem dev9_eq (c : Dev nD) : (⟨k0_dev9 c, k0_dev9_lt c⟩ : Dev nD) = twin c := by revert c; decide +kernel
theorem dev10_eq (c : Dev nD) : (⟨k0_dev10 c, k0_dev10_lt c⟩ : Dev nD) = twin c := by revert c; decide +kernel
theorem dev11_eq (c : Dev nD) : (⟨k0_dev11 c, k0_dev11_lt c⟩ : Dev nD) = twin c := by revert c; decide +kernel
theorem dev12_eq (c : Dev nD) : (⟨k0_dev12 c, k0_dev12_lt c⟩ : Dev nD) = twin c := by revert c; decide +kernel

/-- The half of array `a` that device `c` sends. -/
def part0 (c : Dev nD) : Memref sig .tc .hbm S8x1024x704 .bf16 :=
  ((Memref.whole main_arg0).slice (Rect.unit (s := S2x8x1024x704) (k0_off2 c) S1x8x1024x704.size (k0_off2_inb c)) (fun _ => rfl)).squeeze
    S8x1024x704 squeezes_S1x8x1024x704_S8x1024x704
def part1 (c : Dev nD) : Memref sig .tc .hbm S10x512x1024 .bf16 :=
  ((Memref.whole main_arg1).slice (Rect.unit (s := S2x10x512x1024) (k0_off4 c) S1x10x512x1024.size (k0_off4_inb c)) (fun _ => rfl)).squeeze
    S10x512x1024 squeezes_S1x10x512x1024_S10x512x1024
/-- The place in a result at an offset, -/
def cell0 (off : Fin 5 → ℕ) (h : ∀ a, off a + S1x1x8x1024x704.size a ≤ S4x2x8x1024x704.size a) : Memref sig .tc .hbm S8x1024x704 .bf16 :=
  ((Memref.whole main_v1_0).slice (Rect.unit (s := S4x2x8x1024x704) off S1x1x8x1024x704.size h) (fun _ => rfl)).squeeze
    S8x1024x704 squeezes_S1x1x8x1024x704_S8x1024x704
def cell1 (off : Fin 5 → ℕ) (h : ∀ a, off a + S1x1x10x512x1024.size a ≤ S4x2x10x512x1024.size a) : Memref sig .tc .hbm S10x512x1024 .bf16 :=
  ((Memref.whole main_v1_1).slice (Rect.unit (s := S4x2x10x512x1024) off S1x1x10x512x1024.size h) (fun _ => rfl)).squeeze
    S10x512x1024 squeezes_S1x1x10x512x1024_S10x512x1024
/-- and the slot of a result that is named after device `e`. -/
def slot0 (e : Dev nD) : Memref sig .tc .hbm S8x1024x704 .bf16 := cell0 (k0_off1 e) (k0_off1_inb e)
def slot1 (e : Dev nD) : Memref sig .tc .hbm S10x512x1024 .bf16 := cell1 (k0_off3 e) (k0_off3_inb e)

/-- A forwarded copy reads and writes the slot named after the device that its contents come from. -/
theorem carries00 (c : Dev nD) : k0_off5 c = k0_off1 (dir0 c) := by revert c; decide +kernel
theorem carries01 (c : Dev nD) : k0_off6 c = k0_off1 (dir1 c) := by revert c; decide +kernel
theorem carries02 (c : Dev nD) : k0_off7 c = k0_off1 (dir2 c) := by revert c; decide +kernel
theorem carries10 (c : Dev nD) : k0_off8 c = k0_off3 (dir0 c) := by revert c; decide +kernel
theorem carries11 (c : Dev nD) : k0_off9 c = k0_off3 (dir1 c) := by revert c; decide +kernel
theorem carries12 (c : Dev nD) : k0_off10 c = k0_off3 (dir2 c) := by revert c; decide +kernel

/-- The slots of a result are apart. -/
theorem slot0_set (e : Dev nD) : (slot0 e).view.set = (Rect.unit (s := S4x2x8x1024x704) (k0_off1 e) S1x1x8x1024x704.size (k0_off1_inb e)).set :=
  (View.set_reshape _ _).trans (View.set_slice_whole main_v1_0 _)
theorem distinct0 : ∀ e e' : Dev nD, e ≠ e' → (k0_off1 e 0 + 1 ≤ k0_off1 e' 0 ∨ k0_off1 e' 0 + 1 ≤ k0_off1 e 0)
    ∨ (k0_off1 e 1 + 1 ≤ k0_off1 e' 1 ∨ k0_off1 e' 1 + 1 ≤ k0_off1 e 1) := by decide +kernel
theorem apart0 {e e' : Dev nD} (h : e ≠ e') : Disjoint (slot0 e).view.set (slot0 e').view.set := by
  rw [slot0_set, slot0_set]
  rcases distinct0 e e' h with h | h
  · exact Rect.unit_disjoint (0 : Fin 5) h
  · exact Rect.unit_disjoint (1 : Fin 5) h
theorem slot1_set (e : Dev nD) : (slot1 e).view.set = (Rect.unit (s := S4x2x10x512x1024) (k0_off3 e) S1x1x10x512x1024.size (k0_off3_inb e)).set :=
  (View.set_reshape _ _).trans (View.set_slice_whole main_v1_1 _)
theorem distinct1 : ∀ e e' : Dev nD, e ≠ e' → (k0_off3 e 0 + 1 ≤ k0_off3 e' 0 ∨ k0_off3 e' 0 + 1 ≤ k0_off3 e 0)
    ∨ (k0_off3 e 1 + 1 ≤ k0_off3 e' 1 ∨ k0_off3 e' 1 + 1 ≤ k0_off3 e 1) := by decide +kernel
theorem apart1 {e e' : Dev nD} (h : e ≠ e') : Disjoint (slot1 e).view.set (slot1 e').view.set := by
  rw [slot1_set, slot1_set]
  rcases distinct1 e e' h with h | h
  · exact Rect.unit_disjoint (0 : Fin 5) h
  · exact Rect.unit_disjoint (1 : Fin 5) h

/-- The credit of one copy of each array. -/
def credit0 : ℕ := (part0 0).view.dmaCredit
def credit1 : ℕ := (part1 0).view.dmaCredit
theorem credit0_pos : 0 < credit0 := View.dmaCredit_pos _ (by decide)
theorem credit1_pos : 0 < credit1 := View.dmaCredit_pos _ (by decide)

def wires : Wires nD sig (Fin 24) where
  sem j := j
  semInj := fun _ _ h => h
  dest := ![Equiv.refl _, Equiv.refl _, Equiv.refl _, Equiv.refl _, Equiv.refl _, Equiv.refl _, Equiv.refl _, Equiv.refl _, Equiv.refl _, Equiv.refl _, Equiv.refl _, Equiv.refl _, dir0, dir1, dir2, twin, twin, twin, dir0, dir1, dir2, twin, twin, twin]
  amt := ![credit0, credit0, credit0, credit0, credit0, credit0, credit1, credit1, credit1, credit1, credit1, credit1, credit0, credit0, credit0, credit0, credit0, credit0, credit1, credit1, credit1, credit1, credit1, credit1]
  amt_pos j := by fin_cases j <;> first | exact credit0_pos | exact credit1_pos
  far := {12, 13, 14, 18, 19, 20, 15, 16, 17, 21, 22, 23}
  rank := ![0, 0, 0, 0, 0, 0, 0, 0, 0, 0, 0, 0, 0, 0, 0, 1, 1, 1, 0, 0, 0, 1, 1, 1]

variable (m : (ℓ : Loc nD τ sig) → Buf (Elt F) ℓ)

/-- What device `d` sends of array `a`. -/
def sent0 (d : Dev nD) : S8x1024x704.Idx → Elt F .bf16 := (part0 d).view.read (Elt F) (m ((d.tc : Thread nD τ).loc main_arg0))
def sent1 (d : Dev nD) : S10x512x1024.Idx → Elt F .bf16 := (part1 d).view.read (Elt F) (m ((d.tc : Thread nD τ).loc main_arg1))

/-! ## What the landings hand over -/

/-- The arrays of a device; -/
def arg0 (c : Dev nD) : sProp 𝕄 := ((c.tc : Thread nD τ).loc main_arg0) ↦{fullShare} m ((c.tc : Thread nD τ).loc main_arg0)
def arg1 (c : Dev nD) : sProp 𝕄 := ((c.tc : Thread nD τ).loc main_arg1) ↦{fullShare} m ((c.tc : Thread nD τ).loc main_arg1)
/-- the half that is sent, at a copy's share; -/
def src0 (q : PosShare TreeShare) (c : Dev nD) : sProp 𝕄 := (part0 c).view.loc (c.tc : Thread nD τ) ↦[(part0 c).view.set]{q} m ((c.tc : Thread nD τ).loc main_arg0)
def src1 (q : PosShare TreeShare) (c : Dev nD) : sProp 𝕄 := (part1 c).view.loc (c.tc : Thread nD τ) ↦[(part1 c).view.set]{q} m ((c.tc : Thread nD τ).loc main_arg1)
/-- the other half; -/
def left0 (c : Dev nD) : sProp 𝕄 := (part0 c).view.loc (c.tc : Thread nD τ) ↦[Finset.univ \ (part0 c).view.set]{fullShare} m ((c.tc : Thread nD τ).loc main_arg0)
def left1 (c : Dev nD) : sProp 𝕄 := (part1 c).view.loc (c.tc : Thread nD τ) ↦[Finset.univ \ (part1 c).view.set]{fullShare} m ((c.tc : Thread nD τ).loc main_arg1)
/-- a slot of device `d`'s result before the exchange; -/
def room0 (d e : Dev nD) : sProp 𝕄 := (slot0 e).view.loc (d.tc : Thread nD τ) ↦[(slot0 e).view.set]{fullShare} m ((d.tc : Thread nD τ).loc main_v1_0)
def room1 (d e : Dev nD) : sProp 𝕄 := (slot1 e).view.loc (d.tc : Thread nD τ) ↦[(slot1 e).view.set]{fullShare} m ((d.tc : Thread nD τ).loc main_v1_1)
/-- a place in it that contents `x` were written to; -/
def gotAt0 (d : Dev nD) (off : Fin 5 → ℕ) (h : ∀ a, off a + S1x1x8x1024x704.size a ≤ S4x2x8x1024x704.size a) (x : S8x1024x704.Idx → Elt F .bf16) : sProp 𝕄 :=
  (cell0 off h).view.loc (d.tc : Thread nD τ) ↦[(cell0 off h).view.set]{fullShare}
    (cell0 off h).view.write (Elt F) (m ((d.tc : Thread nD τ).loc main_v1_0)) x Finset.univ
def gotAt1 (d : Dev nD) (off : Fin 5 → ℕ) (h : ∀ a, off a + S1x1x10x512x1024.size a ≤ S4x2x10x512x1024.size a) (x : S10x512x1024.Idx → Elt F .bf16) : sProp 𝕄 :=
  (cell1 off h).view.loc (d.tc : Thread nD τ) ↦[(cell1 off h).view.set]{fullShare}
    (cell1 off h).view.write (Elt F) (m ((d.tc : Thread nD τ).loc main_v1_1)) x Finset.univ
/-- its slot named after device `e`, after the landing. -/
def got0 (d e : Dev nD) : sProp 𝕄 := gotAt0 m d (k0_off1 e) (k0_off1_inb e) (sent0 m e)
def got1 (d e : Dev nD) : sProp 𝕄 := gotAt1 m d (k0_off3 e) (k0_off3_inb e) (sent1 m e)

theorem gotAt0_congr (d : Dev nD) {off off' : Fin 5 → ℕ} (e : off = off') (h h') (x : S8x1024x704.Idx → Elt F .bf16) : gotAt0 m d off h x = gotAt0 m d off' h' x := by
  subst e; rfl
theorem arg0_cut (c : Dev nD) : arg0 m c = iprop((src0 m shareA c ∗ src0 m shareB c ∗ src0 m shareC c) ∗ left0 m c) :=
  (cut (ℓ := (part0 c).view.loc (c.tc : Thread nD τ)) (part0 c).view.set fullShare _).trans
    (congrArg (fun P => iprop(P ∗ left0 m c)) (thirds (ℓ := (part0 c).view.loc (c.tc : Thread nD τ)) (part0 c).view.set (m ((c.tc : Thread nD τ).loc main_arg0))))
theorem gotAt1_congr (d : Dev nD) {off off' : Fin 5 → ℕ} (e : off = off') (h h') (x : S10x512x1024.Idx → Elt F .bf16) : gotAt1 m d off h x = gotAt1 m d off' h' x := by
  subst e; rfl
theorem arg1_cut (c : Dev nD) : arg1 m c = iprop((src1 m shareA c ∗ src1 m shareB c ∗ src1 m shareC c) ∗ left1 m c) :=
  (cut (ℓ := (part1 c).view.loc (c.tc : Thread nD τ)) (part1 c).view.set fullShare _).trans
    (congrArg (fun P => iprop(P ∗ left1 m c)) (thirds (ℓ := (part1 c).view.loc (c.tc : Thread nD τ)) (part1 c).view.set (m ((c.tc : Thread nD τ).loc main_arg1))))

/-- The devices on other chips: those a device hears from itself, and those its twin does. -/
def others (c : Dev nD) : Finset (Dev nD) := {dir0 c, dir1 c, dir2 c, dir0 (twin c), dir1 (twin c), dir2 (twin c)}
theorem over_others (c : Dev nD) (Φ : Dev nD → sProp 𝕄) : bigSep (others c) Φ
    = iprop(Φ (dir0 c) ∗ Φ (dir1 c) ∗ Φ (dir2 c) ∗ Φ (dir0 (twin c)) ∗ Φ (dir1 (twin c)) ∗ Φ (dir2 (twin c))) :=
  bigSep_eq_bigSepL_of_eq [dir0 c, dir1 c, dir2 c, dir0 (twin c), dir1 (twin c), dir2 (twin c)] (by revert c; decide +kernel) (by revert c; decide +kernel) Φ

/-- A result after the exchange: every slot of another chip's device at what that device sent, the rest as before. -/
def filled0 (d e : Dev nD) : Buf (Elt F) ((d.tc : Thread nD τ).loc main_v1_0) :=
  (slot0 e).view.write (Elt F) (m ((d.tc : Thread nD τ).loc main_v1_0)) (sent0 m e) Finset.univ
def filled1 (d e : Dev nD) : Buf (Elt F) ((d.tc : Thread nD τ).loc main_v1_1) :=
  (slot1 e).view.write (Elt F) (m ((d.tc : Thread nD τ).loc main_v1_1)) (sent1 m e) Finset.univ
def full0 (d : Dev nD) : Buf (Elt F) ((d.tc : Thread nD τ).loc main_v1_0) :=
  patched (ℓ := (d.tc : Thread nD τ).loc main_v1_0) (others d) (fun e => (slot0 e).view.set) (filled0 m d) (m ((d.tc : Thread nD τ).loc main_v1_0))
def full1 (d : Dev nD) : Buf (Elt F) ((d.tc : Thread nD τ).loc main_v1_1) :=
  patched (ℓ := (d.tc : Thread nD τ).loc main_v1_1) (others d) (fun e => (slot1 e).view.set) (filled1 m d) (m ((d.tc : Thread nD τ).loc main_v1_1))
/-- What of a result stays with its owner. -/
def kept0 (d : Dev nD) : sProp 𝕄 :=
  ((d.tc : Thread nD τ).loc main_v1_0) ↦[Finset.univ \ (others d).biUnion fun e => (slot0 e).view.set]{fullShare} m ((d.tc : Thread nD τ).loc main_v1_0)
def kept1 (d : Dev nD) : sProp 𝕄 :=
  ((d.tc : Thread nD τ).loc main_v1_1) ↦[Finset.univ \ (others d).biUnion fun e => (slot1 e).view.set]{fullShare} m ((d.tc : Thread nD τ).loc main_v1_1)

theorem out0_cut (c : Dev nD) : (((c.tc : Thread nD τ).loc main_v1_0) ↦{fullShare} m ((c.tc : Thread nD τ).loc main_v1_0) : sProp 𝕄)
    = iprop((room0 m c (dir0 c) ∗ room0 m c (dir1 c) ∗ room0 m c (dir2 c) ∗ room0 m c (dir0 (twin c)) ∗ room0 m c (dir1 (twin c)) ∗ room0 m c (dir2 (twin c))) ∗ kept0 m c) := by
  rw [deal_parts (ℓ := (c.tc : Thread nD τ).loc main_v1_0) (S := others c) (K := fun e => (slot0 e).view.set) (fun e _ e' _ h => apart0 h), over_others]
  rfl
theorem out0_joined (c : Dev nD) :
    iprop((got0 m c (dir0 c) ∗ got0 m c (dir1 c) ∗ got0 m c (dir2 c) ∗ got0 m c (dir0 (twin c)) ∗ got0 m c (dir1 (twin c)) ∗ got0 m c (dir2 (twin c))) ∗ kept0 m c)
      ⊢ (((c.tc : Thread nD τ).loc main_v1_0) ↦{fullShare} full0 m c : sProp 𝕄) := by
  have h := join_parts (ℓ := (c.tc : Thread nD τ).loc main_v1_0) (S := others c) (K := fun e => (slot0 e).view.set) (fun e _ e' _ h => apart0 h) fullShare
    (filled0 m c) (m ((c.tc : Thread nD τ).loc main_v1_0))
  rw [over_others] at h
  exact h
/-- The slots of a filled result read as what was sent. -/
theorem full0_read (c e : Dev nD) (h : e ∈ others c) : (slot0 e).view.read (Elt F) (full0 m c) = sent0 m e := by
  refine (View.read_congr (g := filled0 m c e) fun i hi => ?_).trans (View.read_write_univ _ _)
  exact patched_on (ℓ := (c.tc : Thread nD τ).loc main_v1_0) (S := others c) (K := fun e => (slot0 e).view.set) (fun e _ e' _ h => apart0 h) _ _ h hi
theorem out1_cut (c : Dev nD) : (((c.tc : Thread nD τ).loc main_v1_1) ↦{fullShare} m ((c.tc : Thread nD τ).loc main_v1_1) : sProp 𝕄)
    = iprop((room1 m c (dir0 c) ∗ room1 m c (dir1 c) ∗ room1 m c (dir2 c) ∗ room1 m c (dir0 (twin c)) ∗ room1 m c (dir1 (twin c)) ∗ room1 m c (dir2 (twin c))) ∗ kept1 m c) := by
  rw [deal_parts (ℓ := (c.tc : Thread nD τ).loc main_v1_1) (S := others c) (K := fun e => (slot1 e).view.set) (fun e _ e' _ h => apart1 h), over_others]
  rfl
theorem out1_joined (c : Dev nD) :
    iprop((got1 m c (dir0 c) ∗ got1 m c (dir1 c) ∗ got1 m c (dir2 c) ∗ got1 m c (dir0 (twin c)) ∗ got1 m c (dir1 (twin c)) ∗ got1 m c (dir2 (twin c))) ∗ kept1 m c)
      ⊢ (((c.tc : Thread nD τ).loc main_v1_1) ↦{fullShare} full1 m c : sProp 𝕄) := by
  have h := join_parts (ℓ := (c.tc : Thread nD τ).loc main_v1_1) (S := others c) (K := fun e => (slot1 e).view.set) (fun e _ e' _ h => apart1 h) fullShare
    (filled1 m c) (m ((c.tc : Thread nD τ).loc main_v1_1))
  rw [over_others] at h
  exact h
/-- The slots of a filled result read as what was sent. -/
theorem full1_read (c e : Dev nD) (h : e ∈ others c) : (slot1 e).view.read (Elt F) (full1 m c) = sent1 m e := by
  refine (View.read_congr (g := filled1 m c e) fun i hi => ?_).trans (View.read_write_univ _ _)
  exact patched_on (ℓ := (c.tc : Thread nD τ).loc main_v1_1) (S := others c) (K := fun e => (slot1 e).view.set) (fun e _ e' _ h => apart1 h) _ _ h hi

instance (q : PosShare TreeShare) (c : Dev nD) : BI.Storable (upEmb : UEmb _ 𝕄) (src0 m q c) := part_stored _ _ _ _
instance (d e : Dev nD) : BI.Storable (upEmb : UEmb _ 𝕄) (got0 m d e) := part_stored _ _ _ _
instance (q : PosShare TreeShare) (c : Dev nD) : BI.Storable (upEmb : UEmb _ 𝕄) (src1 m q c) := part_stored _ _ _ _
instance (d e : Dev nD) : BI.Storable (upEmb : UEmb _ 𝕄) (got1 m d e) := part_stored _ _ _ _

def hands : Handover nD τ sig (Elt F) (Fin 24) where
  pay j c := (![
      fun c => src0 m shareA c,
      fun c => src0 m shareB c,
      fun c => src0 m shareC c,
      fun c => got0 m c (dir0 c),
      fun c => got0 m c (dir1 c),
      fun c => got0 m c (dir2 c),
      fun c => src1 m shareA c,
      fun c => src1 m shareB c,
      fun c => src1 m shareC c,
      fun c => got1 m c (dir0 c),
      fun c => got1 m c (dir1 c),
      fun c => got1 m c (dir2 c),
      fun c => got0 m c (dir0 c),
      fun c => got0 m c (dir1 c),
      fun c => got0 m c (dir2 c),
      fun c => got0 m c (dir0 (twin c)),
      fun c => got0 m c (dir1 (twin c)),
      fun c => got0 m c (dir2 (twin c)),
      fun c => got1 m c (dir0 c),
      fun c => got1 m c (dir1 c),
      fun c => got1 m c (dir2 c),
      fun c => got1 m c (dir0 (twin c)),
      fun c => got1 m c (dir1 (twin c)),
      fun c => got1 m c (dir2 (twin c))] : Fin 24 → Dev nD → sProp 𝕄) j c
  stored j c := by
    fin_cases j
    · exact inferInstanceAs (BI.Storable upEmb (src0 m shareA c))
    · exact inferInstanceAs (BI.Storable upEmb (src0 m shareB c))
    · exact inferInstanceAs (BI.Storable upEmb (src0 m shareC c))
    · exact inferInstanceAs (BI.Storable upEmb (got0 m c (dir0 c)))
    · exact inferInstanceAs (BI.Storable upEmb (got0 m c (dir1 c)))
    · exact inferInstanceAs (BI.Storable upEmb (got0 m c (dir2 c)))
    · exact inferInstanceAs (BI.Storable upEmb (src1 m shareA c))
    · exact inferInstanceAs (BI.Storable upEmb (src1 m shareB c))
    · exact inferInstanceAs (BI.Storable upEmb (src1 m shareC c))
    · exact inferInstanceAs (BI.Storable upEmb (got1 m c (dir0 c)))
    · exact inferInstanceAs (BI.Storable upEmb (got1 m c (dir1 c)))
    · exact inferInstanceAs (BI.Storable upEmb (got1 m c (dir2 c)))
    · exact inferInstanceAs (BI.Storable upEmb (got0 m c (dir0 c)))
    · exact inferInstanceAs (BI.Storable upEmb (got0 m c (dir1 c)))
    · exact inferInstanceAs (BI.Storable upEmb (got0 m c (dir2 c)))
    · exact inferInstanceAs (BI.Storable upEmb (got0 m c (dir0 (twin c))))
    · exact inferInstanceAs (BI.Storable upEmb (got0 m c (dir1 (twin c))))
    · exact inferInstanceAs (BI.Storable upEmb (got0 m c (dir2 (twin c))))
    · exact inferInstanceAs (BI.Storable upEmb (got1 m c (dir0 c)))
    · exact inferInstanceAs (BI.Storable upEmb (got1 m c (dir1 c)))
    · exact inferInstanceAs (BI.Storable upEmb (got1 m c (dir2 c)))
    · exact inferInstanceAs (BI.Storable upEmb (got1 m c (dir0 (twin c))))
    · exact inferInstanceAs (BI.Storable upEmb (got1 m c (dir1 (twin c))))
    · exact inferInstanceAs (BI.Storable upEmb (got1 m c (dir2 (twin c))))

/-- Before the exchange a device holds its own arrays, the slots of its peers' results that are named after it, and the slots of its
    twin's results that it forwards to; -/
def before (c : Dev nD) : sProp 𝕄 := iprop(arg0 m c ∗ arg1 m c ∗ (room0 m (dir0 c) c ∗ room0 m (dir1 c) c ∗ room0 m (dir2 c) c ∗ room1 m (dir0 c) c ∗ room1 m (dir1 c) c ∗ room1 m (dir2 c) c)
  ∗ (room0 m (twin c) (dir0 c) ∗ room0 m (twin c) (dir1 c) ∗ room0 m (twin c) (dir2 c) ∗ room1 m (twin c) (dir0 c) ∗ room1 m (twin c) (dir1 c) ∗ room1 m (twin c) (dir2 c)))
/-- after it, its own arrays and its own slots, filled. -/
def after (c : Dev nD) : sProp 𝕄 := iprop(arg0 m c ∗ arg1 m c ∗ (got0 m c (dir0 c) ∗ got0 m c (dir1 c) ∗ got0 m c (dir2 c) ∗ got1 m c (dir0 c) ∗ got1 m c (dir1 c) ∗ got1 m c (dir2 c))
  ∗ (got0 m c (dir0 (twin c)) ∗ got0 m c (dir1 (twin c)) ∗ got0 m c (dir2 (twin c)) ∗ got1 m c (dir0 (twin c)) ∗ got1 m c (dir1 (twin c)) ∗ got1 m c (dir2 (twin c))))

theorem spaceAt0_congr (d : Dev nD) {off off' : Fin 5 → ℕ} (e : off = off') (h : ∀ a, off a + S1x1x8x1024x704.size a ≤ S4x2x8x1024x704.size a) (h' : ∀ a, off' a + S1x1x8x1024x704.size a ≤ S4x2x8x1024x704.size a) :
    ((cell0 off h).view.loc (d.tc : Thread nD τ) ↦[(cell0 off h).view.set]{fullShare} m ((d.tc : Thread nD τ).loc main_v1_0) : sProp 𝕄)
      = ((cell0 off' h').view.loc (d.tc : Thread nD τ) ↦[(cell0 off' h').view.set]{fullShare} m ((d.tc : Thread nD τ).loc main_v1_0)) := by
  subst e; rfl
theorem spaceAt1_congr (d : Dev nD) {off off' : Fin 5 → ℕ} (e : off = off') (h : ∀ a, off a + S1x1x10x512x1024.size a ≤ S4x2x10x512x1024.size a) (h' : ∀ a, off' a + S1x1x10x512x1024.size a ≤ S4x2x10x512x1024.size a) :
    ((cell1 off h).view.loc (d.tc : Thread nD τ) ↦[(cell1 off h).view.set]{fullShare} m ((d.tc : Thread nD τ).loc main_v1_1) : sProp 𝕄)
      = ((cell1 off' h').view.loc (d.tc : Thread nD τ) ↦[(cell1 off' h').view.set]{fullShare} m ((d.tc : Thread nD τ).loc main_v1_1)) := by
  subst e; rfl
theorem landed00 (c : Dev nD) : gotAt0 m (dir0 c) (k0_off1 c) (k0_off1_inb c) ((part0 c).view.read (Elt F) (m ((c.tc : Thread nD τ).loc main_arg0)))
      ⊢ got0 m (dir0 c) (dir0 (dir0 c)) := by
  rw [across_across]
  exact BI.Entails.refl _
theorem landed01 (c : Dev nD) : gotAt0 m (dir1 c) (k0_off1 c) (k0_off1_inb c) ((part0 c).view.read (Elt F) (m ((c.tc : Thread nD τ).loc main_arg0)))
      ⊢ got0 m (dir1 c) (dir1 (dir1 c)) := by
  rw [across_across]
  exact BI.Entails.refl _
theorem landed02 (c : Dev nD) : gotAt0 m (dir2 c) (k0_off1 c) (k0_off1_inb c) ((part0 c).view.read (Elt F) (m ((c.tc : Thread nD τ).loc main_arg0)))
      ⊢ got0 m (dir2 c) (dir2 (dir2 c)) := by
  rw [across_across]
  exact BI.Entails.refl _
theorem landed10 (c : Dev nD) : gotAt1 m (dir0 c) (k0_off3 c) (k0_off3_inb c) ((part1 c).view.read (Elt F) (m ((c.tc : Thread nD τ).loc main_arg1)))
      ⊢ got1 m (dir0 c) (dir0 (dir0 c)) := by
  rw [across_across]
  exact BI.Entails.refl _
theorem landed11 (c : Dev nD) : gotAt1 m (dir1 c) (k0_off3 c) (k0_off3_inb c) ((part1 c).view.read (Elt F) (m ((c.tc : Thread nD τ).loc main_arg1)))
      ⊢ got1 m (dir1 c) (dir1 (dir1 c)) := by
  rw [across_across]
  exact BI.Entails.refl _
theorem landed12 (c : Dev nD) : gotAt1 m (dir2 c) (k0_off3 c) (k0_off3_inb c) ((part1 c).view.read (Elt F) (m ((c.tc : Thread nD τ).loc main_arg1)))
      ⊢ got1 m (dir2 c) (dir2 (dir2 c)) := by
  rw [across_across]
  exact BI.Entails.refl _
theorem arrived00 (c : Dev nD) : got0 m c (dir0 c) = gotAt0 m c (k0_off5 c) (k0_off5_inb c) (sent0 m (dir0 c)) :=
  gotAt0_congr m c (carries00 c).symm _ _ _
theorem passed00 (c : Dev nD) : gotAt0 m (twin c) (k0_off5 c) (k0_off5_inb c)
      ((cell0 (k0_off5 c) (k0_off5_inb c)).view.read (Elt F) ((cell0 (k0_off5 c) (k0_off5_inb c)).view.write (Elt F) (m ((c.tc : Thread nD τ).loc main_v1_0)) (sent0 m (dir0 c)) Finset.univ))
      ⊢ got0 m (twin c) (dir0 (twin (twin c))) := by
  rw [across_across]
  exact BIBase.Entails.of_eq ((congrArg (gotAt0 m (twin c) (k0_off5 c) (k0_off5_inb c)) (View.read_write_univ (v := (cell0 (k0_off5 c) (k0_off5_inb c)).view) _ _)).trans
    (gotAt0_congr m (twin c) (carries00 c) _ _ _))
theorem space00 (c : Dev nD) : room0 m (twin c) (dir0 c) ⊢ ((cell0 (k0_off5 c) (k0_off5_inb c)).view.loc ((twin c).tc : Thread nD τ)
      ↦[(cell0 (k0_off5 c) (k0_off5_inb c)).view.set]{fullShare} m (((twin c).tc : Thread nD τ).loc main_v1_0) : sProp 𝕄) :=
  BIBase.Entails.of_eq (spaceAt0_congr m (twin c) (carries00 c).symm _ _)
theorem arrived01 (c : Dev nD) : got0 m c (dir1 c) = gotAt0 m c (k0_off6 c) (k0_off6_inb c) (sent0 m (dir1 c)) :=
  gotAt0_congr m c (carries01 c).symm _ _ _
theorem passed01 (c : Dev nD) : gotAt0 m (twin c) (k0_off6 c) (k0_off6_inb c)
      ((cell0 (k0_off6 c) (k0_off6_inb c)).view.read (Elt F) ((cell0 (k0_off6 c) (k0_off6_inb c)).view.write (Elt F) (m ((c.tc : Thread nD τ).loc main_v1_0)) (sent0 m (dir1 c)) Finset.univ))
      ⊢ got0 m (twin c) (dir1 (twin (twin c))) := by
  rw [across_across]
  exact BIBase.Entails.of_eq ((congrArg (gotAt0 m (twin c) (k0_off6 c) (k0_off6_inb c)) (View.read_write_univ (v := (cell0 (k0_off6 c) (k0_off6_inb c)).view) _ _)).trans
    (gotAt0_congr m (twin c) (carries01 c) _ _ _))
theorem space01 (c : Dev nD) : room0 m (twin c) (dir1 c) ⊢ ((cell0 (k0_off6 c) (k0_off6_inb c)).view.loc ((twin c).tc : Thread nD τ)
      ↦[(cell0 (k0_off6 c) (k0_off6_inb c)).view.set]{fullShare} m (((twin c).tc : Thread nD τ).loc main_v1_0) : sProp 𝕄) :=
  BIBase.Entails.of_eq (spaceAt0_congr m (twin c) (carries01 c).symm _ _)
theorem arrived02 (c : Dev nD) : got0 m c (dir2 c) = gotAt0 m c (k0_off7 c) (k0_off7_inb c) (sent0 m (dir2 c)) :=
  gotAt0_congr m c (carries02 c).symm _ _ _
theorem passed02 (c : Dev nD) : gotAt0 m (twin c) (k0_off7 c) (k0_off7_inb c)
      ((cell0 (k0_off7 c) (k0_off7_inb c)).view.read (Elt F) ((cell0 (k0_off7 c) (k0_off7_inb c)).view.write (Elt F) (m ((c.tc : Thread nD τ).loc main_v1_0)) (sent0 m (dir2 c)) Finset.univ))
      ⊢ got0 m (twin c) (dir2 (twin (twin c))) := by
  rw [across_across]
  exact BIBase.Entails.of_eq ((congrArg (gotAt0 m (twin c) (k0_off7 c) (k0_off7_inb c)) (View.read_write_univ (v := (cell0 (k0_off7 c) (k0_off7_inb c)).view) _ _)).trans
    (gotAt0_congr m (twin c) (carries02 c) _ _ _))
theorem space02 (c : Dev nD) : room0 m (twin c) (dir2 c) ⊢ ((cell0 (k0_off7 c) (k0_off7_inb c)).view.loc ((twin c).tc : Thread nD τ)
      ↦[(cell0 (k0_off7 c) (k0_off7_inb c)).view.set]{fullShare} m (((twin c).tc : Thread nD τ).loc main_v1_0) : sProp 𝕄) :=
  BIBase.Entails.of_eq (spaceAt0_congr m (twin c) (carries02 c).symm _ _)
theorem arrived10 (c : Dev nD) : got1 m c (dir0 c) = gotAt1 m c (k0_off8 c) (k0_off8_inb c) (sent1 m (dir0 c)) :=
  gotAt1_congr m c (carries10 c).symm _ _ _
theorem passed10 (c : Dev nD) : gotAt1 m (twin c) (k0_off8 c) (k0_off8_inb c)
      ((cell1 (k0_off8 c) (k0_off8_inb c)).view.read (Elt F) ((cell1 (k0_off8 c) (k0_off8_inb c)).view.write (Elt F) (m ((c.tc : Thread nD τ).loc main_v1_1)) (sent1 m (dir0 c)) Finset.univ))
      ⊢ got1 m (twin c) (dir0 (twin (twin c))) := by
  rw [across_across]
  exact BIBase.Entails.of_eq ((congrArg (gotAt1 m (twin c) (k0_off8 c) (k0_off8_inb c)) (View.read_write_univ (v := (cell1 (k0_off8 c) (k0_off8_inb c)).view) _ _)).trans
    (gotAt1_congr m (twin c) (carries10 c) _ _ _))
theorem space10 (c : Dev nD) : room1 m (twin c) (dir0 c) ⊢ ((cell1 (k0_off8 c) (k0_off8_inb c)).view.loc ((twin c).tc : Thread nD τ)
      ↦[(cell1 (k0_off8 c) (k0_off8_inb c)).view.set]{fullShare} m (((twin c).tc : Thread nD τ).loc main_v1_1) : sProp 𝕄) :=
  BIBase.Entails.of_eq (spaceAt1_congr m (twin c) (carries10 c).symm _ _)
theorem arrived11 (c : Dev nD) : got1 m c (dir1 c) = gotAt1 m c (k0_off9 c) (k0_off9_inb c) (sent1 m (dir1 c)) :=
  gotAt1_congr m c (carries11 c).symm _ _ _
theorem passed11 (c : Dev nD) : gotAt1 m (twin c) (k0_off9 c) (k0_off9_inb c)
      ((cell1 (k0_off9 c) (k0_off9_inb c)).view.read (Elt F) ((cell1 (k0_off9 c) (k0_off9_inb c)).view.write (Elt F) (m ((c.tc : Thread nD τ).loc main_v1_1)) (sent1 m (dir1 c)) Finset.univ))
      ⊢ got1 m (twin c) (dir1 (twin (twin c))) := by
  rw [across_across]
  exact BIBase.Entails.of_eq ((congrArg (gotAt1 m (twin c) (k0_off9 c) (k0_off9_inb c)) (View.read_write_univ (v := (cell1 (k0_off9 c) (k0_off9_inb c)).view) _ _)).trans
    (gotAt1_congr m (twin c) (carries11 c) _ _ _))
theorem space11 (c : Dev nD) : room1 m (twin c) (dir1 c) ⊢ ((cell1 (k0_off9 c) (k0_off9_inb c)).view.loc ((twin c).tc : Thread nD τ)
      ↦[(cell1 (k0_off9 c) (k0_off9_inb c)).view.set]{fullShare} m (((twin c).tc : Thread nD τ).loc main_v1_1) : sProp 𝕄) :=
  BIBase.Entails.of_eq (spaceAt1_congr m (twin c) (carries11 c).symm _ _)
theorem arrived12 (c : Dev nD) : got1 m c (dir2 c) = gotAt1 m c (k0_off10 c) (k0_off10_inb c) (sent1 m (dir2 c)) :=
  gotAt1_congr m c (carries12 c).symm _ _ _
theorem passed12 (c : Dev nD) : gotAt1 m (twin c) (k0_off10 c) (k0_off10_inb c)
      ((cell1 (k0_off10 c) (k0_off10_inb c)).view.read (Elt F) ((cell1 (k0_off10 c) (k0_off10_inb c)).view.write (Elt F) (m ((c.tc : Thread nD τ).loc main_v1_1)) (sent1 m (dir2 c)) Finset.univ))
      ⊢ got1 m (twin c) (dir2 (twin (twin c))) := by
  rw [across_across]
  exact BIBase.Entails.of_eq ((congrArg (gotAt1 m (twin c) (k0_off10 c) (k0_off10_inb c)) (View.read_write_univ (v := (cell1 (k0_off10 c) (k0_off10_inb c)).view) _ _)).trans
    (gotAt1_congr m (twin c) (carries12 c) _ _ _))
theorem space12 (c : Dev nD) : room1 m (twin c) (dir2 c) ⊢ ((cell1 (k0_off10 c) (k0_off10_inb c)).view.loc ((twin c).tc : Thread nD τ)
      ↦[(cell1 (k0_off10 c) (k0_off10_inb c)).view.set]{fullShare} m (((twin c).tc : Thread nD τ).loc main_v1_1) : sProp 𝕄) :=
  BIBase.Entails.of_eq (spaceAt1_congr m (twin c) (carries12 c).symm _ _)

/-! ## The body -/

theorem twentyFour (Φ : Fin 24 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) :=
  bigSep_univ_eq_bigSepL [0, 1, 2, 3, 4, 5, 6, 7, 8, 9, 10, 11, 12, 13, 14, 15, 16, 17, 18, 19, 20, 21, 22, 23] (by decide) (by decide) Φ
/-- The wires a device still owes, send after send. -/
abbrev owed12 : Finset (Fin 24) := {12, 13, 14, 18, 19, 20, 15, 16, 17, 21, 22, 23}
abbrev owed11 : Finset (Fin 24) := {13, 14, 18, 19, 20, 15, 16, 17, 21, 22, 23}
abbrev owed10 : Finset (Fin 24) := {14, 18, 19, 20, 15, 16, 17, 21, 22, 23}
abbrev owed9 : Finset (Fin 24) := {18, 19, 20, 15, 16, 17, 21, 22, 23}
abbrev owed8 : Finset (Fin 24) := {19, 20, 15, 16, 17, 21, 22, 23}
abbrev owed7 : Finset (Fin 24) := {20, 15, 16, 17, 21, 22, 23}
abbrev owed6 : Finset (Fin 24) := {15, 16, 17, 21, 22, 23}
abbrev owed5 : Finset (Fin 24) := {16, 17, 21, 22, 23}
abbrev owed4 : Finset (Fin 24) := {17, 21, 22, 23}
abbrev owed3 : Finset (Fin 24) := {21, 22, 23}
abbrev owed2 : Finset (Fin 24) := {22, 23}
abbrev owed1 : Finset (Fin 24) := {23}
abbrev owed0 : Finset (Fin 24) := ∅
theorem dozen (Φ : Fin 24 → sProp 𝕄) : bigSep owed12 Φ = iprop(Φ 12 ∗ Φ 13 ∗ Φ 14 ∗ Φ 18 ∗ Φ 19 ∗ Φ 20 ∗ Φ 15 ∗ Φ 16 ∗ Φ 17 ∗ Φ 21 ∗ Φ 22 ∗ Φ 23) :=
  bigSep_eq_bigSepL_of_eq [12, 13, 14, 18, 19, 20, 15, 16, 17, 21, 22, 23] (by decide) (by decide) Φ

abbrev 𝒱₀ : Variants := Variants.none

set_option maxRecDepth 16384 in
set_option maxHeartbeats 4000000 in
theorem body (c : Dev nD) : BodyRuns wires (hands m) (before m) (after m) (defs₀ (F := F)) 𝒱₀ c
    (cc0_gather_weights (F := F) (Memref.whole main_arg0) (Memref.isWhole_whole _) (Memref.whole main_arg1) (Memref.isWhole_whole _)
      (Memref.whole main_v1_0) (Memref.isWhole_whole _) (Memref.whole main_v1_1) (Memref.isWhole_whole _) cc0_scratch0 cc0_scratch1) := fun K => by
  rw [cc0_gather_weights_eq_skeleton]
  unfold cc0_gather_weights_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [Prog.lift, Prog.bind_op, Prog.bind_ret, Prog.pure_eq_ret, wp_deviceId]
  unfold tools dues before
  rw [twentyFour, twentyFour, arg0_cut, arg1_cut, show wires.far = owed12 from rfl, dozen]
  iintro ⟨#HK, ⟨⟨Hp0, Hp1, Hp2, Hp3, Hp4, Hp5, Hp6, Hp7, Hp8, Hp9, Hp10, Hp11, Hp12, Hp13, Hp14, Hp15, Hp16, Hp17, Hp18, Hp19, Hp20, Hp21, Hp22, Hp23⟩, ⟨Ht0, Ht1, Ht2, Ht3, Ht4, Ht5, Ht6, Ht7, Ht8, Ht9, Ht10, Ht11, Ht12, Ht13, Ht14, Ht15, Ht16, Ht17, Ht18, Ht19, Ht20, Ht21, Ht22, Ht23⟩⟩, #Hlev, ⟨Hd12, Hd13, Hd14, Hd18, Hd19, Hd20, Hd15, Hd16, Hd17, Hd21, Hd22, Hd23⟩, ⟨⟨⟨Hs00, Hs01, Hs02⟩, Hl0⟩, ⟨⟨Hs10, Hs11, Hs12⟩, Hl1⟩, ⟨Hr00, Hr01, Hr02, Hr10, Hr11, Hr12⟩, ⟨Hf00, Hf01, Hf02, Hf10, Hf11, Hf12⟩⟩, HO⟩
  iapply (wp_send wires (hands m) 𝒱₀ K c _ 0 12 (S := owed12) (S' := owed11) (src := part0 c) (dst := cell0 (k0_off1 c) (k0_off1_inb c)) (sS := 0) (sR := 12)
    rfl (dev1_eq c) (by decide) (by decide) rfl rfl rfl rfl shareA (m ((c.tc : Thread nD τ).loc main_arg0)) (m (((dir0 c).tc : Thread nD τ).loc main_v1_0))
    (BI.Entails.refl (src0 m shareA c)) (landed00 m c) (A := src0 m shareA c) (B := room0 m (dir0 c) c) (BI.Entails.refl _) (BI.Entails.refl _)) $$ [Ht0 Ht12 HO Hs00 Hr00]
  · isplitr; · iexact HK
    isplitl [Ht0]; · iexact Ht0
    isplitl [Ht12]; · iexact Ht12
    isplitl [HO]; · iexact HO
    isplitl [Hs00]; · iexact Hs00
    iexact Hr00
  iintro ⟨Hd0, HO⟩
  iapply (wp_send wires (hands m) 𝒱₀ K c _ 1 13 (S := owed11) (S' := owed10) (src := part0 c) (dst := cell0 (k0_off1 c) (k0_off1_inb c)) (sS := 1) (sR := 13)
    rfl (dev2_eq c) (by decide) (by decide) rfl rfl rfl rfl shareB (m ((c.tc : Thread nD τ).loc main_arg0)) (m (((dir1 c).tc : Thread nD τ).loc main_v1_0))
    (BI.Entails.refl (src0 m shareB c)) (landed01 m c) (A := src0 m shareB c) (B := room0 m (dir1 c) c) (BI.Entails.refl _) (BI.Entails.refl _)) $$ [Ht1 Ht13 HO Hs01 Hr01]
  · isplitr; · iexact HK
    isplitl [Ht1]; · iexact Ht1
    isplitl [Ht13]; · iexact Ht13
    isplitl [HO]; · iexact HO
    isplitl [Hs01]; · iexact Hs01
    iexact Hr01
  iintro ⟨Hd1, HO⟩
  iapply (wp_send wires (hands m) 𝒱₀ K c _ 2 14 (S := owed10) (S' := owed9) (src := part0 c) (dst := cell0 (k0_off1 c) (k0_off1_inb c)) (sS := 2) (sR := 14)
    rfl (dev3_eq c) (by decide) (by decide) rfl rfl rfl rfl shareC (m ((c.tc : Thread nD τ).loc main_arg0)) (m (((dir2 c).tc : Thread nD τ).loc main_v1_0))
    (BI.Entails.refl (src0 m shareC c)) (landed02 m c) (A := src0 m shareC c) (B := room0 m (dir2 c) c) (BI.Entails.refl _) (BI.Entails.refl _)) $$ [Ht2 Ht14 HO Hs02 Hr02]
  · isplitr; · iexact HK
    isplitl [Ht2]; · iexact Ht2
    isplitl [Ht14]; · iexact Ht14
    isplitl [HO]; · iexact HO
    isplitl [Hs02]; · iexact Hs02
    iexact Hr02
  iintro ⟨Hd2, HO⟩
  iapply (wp_send wires (hands m) 𝒱₀ K c _ 6 18 (S := owed9) (S' := owed8) (src := part1 c) (dst := cell1 (k0_off3 c) (k0_off3_inb c)) (sS := 6) (sR := 18)
    rfl (dev4_eq c) (by decide) (by decide) rfl rfl rfl rfl shareA (m ((c.tc : Thread nD τ).loc main_arg1)) (m (((dir0 c).tc : Thread nD τ).loc main_v1_1))
    (BI.Entails.refl (src1 m shareA c)) (landed10 m c) (A := src1 m shareA c) (B := room1 m (dir0 c) c) (BI.Entails.refl _) (BI.Entails.refl _)) $$ [Ht6 Ht18 HO Hs10 Hr10]
  · isplitr; · iexact HK
    isplitl [Ht6]; · iexact Ht6
    isplitl [Ht18]; · iexact Ht18
    isplitl [HO]; · iexact HO
    isplitl [Hs10]; · iexact Hs10
    iexact Hr10
  iintro ⟨Hd6, HO⟩
  iapply (wp_send wires (hands m) 𝒱₀ K c _ 7 19 (S := owed8) (S' := owed7) (src := part1 c) (dst := cell1 (k0_off3 c) (k0_off3_inb c)) (sS := 7) (sR := 19)
    rfl (dev5_eq c) (by decide) (by decide) rfl rfl rfl rfl shareB (m ((c.tc : Thread nD τ).loc main_arg1)) (m (((dir1 c).tc : Thread nD τ).loc main_v1_1))
    (BI.Entails.refl (src1 m shareB c)) (landed11 m c) (A := src1 m shareB c) (B := room1 m (dir1 c) c) (BI.Entails.refl _) (BI.Entails.refl _)) $$ [Ht7 Ht19 HO Hs11 Hr11]
  · isplitr; · iexact HK
    isplitl [Ht7]; · iexact Ht7
    isplitl [Ht19]; · iexact Ht19
    isplitl [HO]; · iexact HO
    isplitl [Hs11]; · iexact Hs11
    iexact Hr11
  iintro ⟨Hd7, HO⟩
  iapply (wp_send wires (hands m) 𝒱₀ K c _ 8 20 (S := owed7) (S' := owed6) (src := part1 c) (dst := cell1 (k0_off3 c) (k0_off3_inb c)) (sS := 8) (sR := 20)
    rfl (dev6_eq c) (by decide) (by decide) rfl rfl rfl rfl shareC (m ((c.tc : Thread nD τ).loc main_arg1)) (m (((dir2 c).tc : Thread nD τ).loc main_v1_1))
    (BI.Entails.refl (src1 m shareC c)) (landed12 m c) (A := src1 m shareC c) (B := room1 m (dir2 c) c) (BI.Entails.refl _) (BI.Entails.refl _)) $$ [Ht8 Ht20 HO Hs12 Hr12]
  · isplitr; · iexact HK
    isplitl [Ht8]; · iexact Ht8
    isplitl [Ht20]; · iexact Ht20
    isplitl [HO]; · iexact HO
    isplitl [Hs12]; · iexact Hs12
    iexact Hr12
  iintro ⟨Hd8, HO⟩
  iapply (wp_wait wires (hands m) 𝒱₀ K c 12 owed6 (by decide) (dst := cell0 (k0_off5 c) (k0_off5_inb c)) (sR := 12) rfl rfl (C := got0 m c (dir0 c)) (BI.Entails.refl _)) $$ [Hp12 Hd12 HO]
  · isplitr; · iexact HK
    isplitr; · iexact Hlev
    isplitl [Hp12]; · iexact Hp12
    isplitl [Hd12]; · iexact Hd12
    iexact HO
  iintro ⟨Ho00, Hz12, HO⟩
  iapply (wp_send wires (hands m) 𝒱₀ K c _ 3 15 (S := owed6) (S' := owed5) (src := cell0 (k0_off5 c) (k0_off5_inb c)) (dst := cell0 (k0_off5 c) (k0_off5_inb c)) (sS := 3) (sR := 15)
    rfl (dev7_eq c) (by decide) (by decide) rfl rfl rfl rfl fullShare ((cell0 (k0_off5 c) (k0_off5_inb c)).view.write (Elt F) (m ((c.tc : Thread nD τ).loc main_v1_0)) (sent0 m (dir0 c)) Finset.univ) (m (((twin c).tc : Thread nD τ).loc main_v1_0))
    (BIBase.Entails.of_eq (arrived00 m c).symm) (passed00 m c) (A := got0 m c (dir0 c)) (B := room0 m (twin c) (dir0 c)) (BIBase.Entails.of_eq (arrived00 m c)) (space00 m c)) $$ [Ht3 Ht15 HO Ho00 Hf00]
  · isplitr; · iexact HK
    isplitl [Ht3]; · iexact Ht3
    isplitl [Ht15]; · iexact Ht15
    isplitl [HO]; · iexact HO
    isplitl [Ho00]; · iexact Ho00
    iexact Hf00
  iintro ⟨Hd3, HO⟩
  iapply (wp_wait wires (hands m) 𝒱₀ K c 13 owed5 (by decide) (dst := cell0 (k0_off6 c) (k0_off6_inb c)) (sR := 13) rfl rfl (C := got0 m c (dir1 c)) (BI.Entails.refl _)) $$ [Hp13 Hd13 HO]
  · isplitr; · iexact HK
    isplitr; · iexact Hlev
    isplitl [Hp13]; · iexact Hp13
    isplitl [Hd13]; · iexact Hd13
    iexact HO
  iintro ⟨Ho01, Hz13, HO⟩
  iapply (wp_send wires (hands m) 𝒱₀ K c _ 4 16 (S := owed5) (S' := owed4) (src := cell0 (k0_off6 c) (k0_off6_inb c)) (dst := cell0 (k0_off6 c) (k0_off6_inb c)) (sS := 4) (sR := 16)
    rfl (dev8_eq c) (by decide) (by decide) rfl rfl rfl rfl fullShare ((cell0 (k0_off6 c) (k0_off6_inb c)).view.write (Elt F) (m ((c.tc : Thread nD τ).loc main_v1_0)) (sent0 m (dir1 c)) Finset.univ) (m (((twin c).tc : Thread nD τ).loc main_v1_0))
    (BIBase.Entails.of_eq (arrived01 m c).symm) (passed01 m c) (A := got0 m c (dir1 c)) (B := room0 m (twin c) (dir1 c)) (BIBase.Entails.of_eq (arrived01 m c)) (space01 m c)) $$ [Ht4 Ht16 HO Ho01 Hf01]
  · isplitr; · iexact HK
    isplitl [Ht4]; · iexact Ht4
    isplitl [Ht16]; · iexact Ht16
    isplitl [HO]; · iexact HO
    isplitl [Ho01]; · iexact Ho01
    iexact Hf01
  iintro ⟨Hd4, HO⟩
  iapply (wp_wait wires (hands m) 𝒱₀ K c 14 owed4 (by decide) (dst := cell0 (k0_off7 c) (k0_off7_inb c)) (sR := 14) rfl rfl (C := got0 m c (dir2 c)) (BI.Entails.refl _)) $$ [Hp14 Hd14 HO]
  · isplitr; · iexact HK
    isplitr; · iexact Hlev
    isplitl [Hp14]; · iexact Hp14
    isplitl [Hd14]; · iexact Hd14
    iexact HO
  iintro ⟨Ho02, Hz14, HO⟩
  iapply (wp_send wires (hands m) 𝒱₀ K c _ 5 17 (S := owed4) (S' := owed3) (src := cell0 (k0_off7 c) (k0_off7_inb c)) (dst := cell0 (k0_off7 c) (k0_off7_inb c)) (sS := 5) (sR := 17)
    rfl (dev9_eq c) (by decide) (by decide) rfl rfl rfl rfl fullShare ((cell0 (k0_off7 c) (k0_off7_inb c)).view.write (Elt F) (m ((c.tc : Thread nD τ).loc main_v1_0)) (sent0 m (dir2 c)) Finset.univ) (m (((twin c).tc : Thread nD τ).loc main_v1_0))
    (BIBase.Entails.of_eq (arrived02 m c).symm) (passed02 m c) (A := got0 m c (dir2 c)) (B := room0 m (twin c) (dir2 c)) (BIBase.Entails.of_eq (arrived02 m c)) (space02 m c)) $$ [Ht5 Ht17 HO Ho02 Hf02]
  · isplitr; · iexact HK
    isplitl [Ht5]; · iexact Ht5
    isplitl [Ht17]; · iexact Ht17
    isplitl [HO]; · iexact HO
    isplitl [Ho02]; · iexact Ho02
    iexact Hf02
  iintro ⟨Hd5, HO⟩
  iapply (wp_wait wires (hands m) 𝒱₀ K c 18 owed3 (by decide) (dst := cell1 (k0_off8 c) (k0_off8_inb c)) (sR := 18) rfl rfl (C := got1 m c (dir0 c)) (BI.Entails.refl _)) $$ [Hp18 Hd18 HO]
  · isplitr; · iexact HK
    isplitr; · iexact Hlev
    isplitl [Hp18]; · iexact Hp18
    isplitl [Hd18]; · iexact Hd18
    iexact HO
  iintro ⟨Ho10, Hz18, HO⟩
  iapply (wp_send wires (hands m) 𝒱₀ K c _ 9 21 (S := owed3) (S' := owed2) (src := cell1 (k0_off8 c) (k0_off8_inb c)) (dst := cell1 (k0_off8 c) (k0_off8_inb c)) (sS := 9) (sR := 21)
    rfl (dev10_eq c) (by decide) (by decide) rfl rfl rfl rfl fullShare ((cell1 (k0_off8 c) (k0_off8_inb c)).view.write (Elt F) (m ((c.tc : Thread nD τ).loc main_v1_1)) (sent1 m (dir0 c)) Finset.univ) (m (((twin c).tc : Thread nD τ).loc main_v1_1))
    (BIBase.Entails.of_eq (arrived10 m c).symm) (passed10 m c) (A := got1 m c (dir0 c)) (B := room1 m (twin c) (dir0 c)) (BIBase.Entails.of_eq (arrived10 m c)) (space10 m c)) $$ [Ht9 Ht21 HO Ho10 Hf10]
  · isplitr; · iexact HK
    isplitl [Ht9]; · iexact Ht9
    isplitl [Ht21]; · iexact Ht21
    isplitl [HO]; · iexact HO
    isplitl [Ho10]; · iexact Ho10
    iexact Hf10
  iintro ⟨Hd9, HO⟩
  iapply (wp_wait wires (hands m) 𝒱₀ K c 19 owed2 (by decide) (dst := cell1 (k0_off9 c) (k0_off9_inb c)) (sR := 19) rfl rfl (C := got1 m c (dir1 c)) (BI.Entails.refl _)) $$ [Hp19 Hd19 HO]
  · isplitr; · iexact HK
    isplitr; · iexact Hlev
    isplitl [Hp19]; · iexact Hp19
    isplitl [Hd19]; · iexact Hd19
    iexact HO
  iintro ⟨Ho11, Hz19, HO⟩
  iapply (wp_send wires (hands m) 𝒱₀ K c _ 10 22 (S := owed2) (S' := owed1) (src := cell1 (k0_off9 c) (k0_off9_inb c)) (dst := cell1 (k0_off9 c) (k0_off9_inb c)) (sS := 10) (sR := 22)
    rfl (dev11_eq c) (by decide) (by decide) rfl rfl rfl rfl fullShare ((cell1 (k0_off9 c) (k0_off9_inb c)).view.write (Elt F) (m ((c.tc : Thread nD τ).loc main_v1_1)) (sent1 m (dir1 c)) Finset.univ) (m (((twin c).tc : Thread nD τ).loc main_v1_1))
    (BIBase.Entails.of_eq (arrived11 m c).symm) (passed11 m c) (A := got1 m c (dir1 c)) (B := room1 m (twin c) (dir1 c)) (BIBase.Entails.of_eq (arrived11 m c)) (space11 m c)) $$ [Ht10 Ht22 HO Ho11 Hf11]
  · isplitr; · iexact HK
    isplitl [Ht10]; · iexact Ht10
    isplitl [Ht22]; · iexact Ht22
    isplitl [HO]; · iexact HO
    isplitl [Ho11]; · iexact Ho11
    iexact Hf11
  iintro ⟨Hd10, HO⟩
  iapply (wp_wait wires (hands m) 𝒱₀ K c 20 owed1 (by decide) (dst := cell1 (k0_off10 c) (k0_off10_inb c)) (sR := 20) rfl rfl (C := got1 m c (dir2 c)) (BI.Entails.refl _)) $$ [Hp20 Hd20 HO]
  · isplitr; · iexact HK
    isplitr; · iexact Hlev
    isplitl [Hp20]; · iexact Hp20
    isplitl [Hd20]; · iexact Hd20
    iexact HO
  iintro ⟨Ho12, Hz20, HO⟩
  iapply (wp_send wires (hands m) 𝒱₀ K c _ 11 23 (S := owed1) (S' := owed0) (src := cell1 (k0_off10 c) (k0_off10_inb c)) (dst := cell1 (k0_off10 c) (k0_off10_inb c)) (sS := 11) (sR := 23)
    rfl (dev12_eq c) (by decide) (by decide) rfl rfl rfl rfl fullShare ((cell1 (k0_off10 c) (k0_off10_inb c)).view.write (Elt F) (m ((c.tc : Thread nD τ).loc main_v1_1)) (sent1 m (dir2 c)) Finset.univ) (m (((twin c).tc : Thread nD τ).loc main_v1_1))
    (BIBase.Entails.of_eq (arrived12 m c).symm) (passed12 m c) (A := got1 m c (dir2 c)) (B := room1 m (twin c) (dir2 c)) (BIBase.Entails.of_eq (arrived12 m c)) (space12 m c)) $$ [Ht11 Ht23 HO Ho12 Hf12]
  · isplitr; · iexact HK
    isplitl [Ht11]; · iexact Ht11
    isplitl [Ht23]; · iexact Ht23
    isplitl [HO]; · iexact HO
    isplitl [Ho12]; · iexact Ho12
    iexact Hf12
  iintro ⟨Hd11, HO⟩
  iapply (wp_wait wires (hands m) 𝒱₀ K c 15 owed0 (by decide) (dst := cell0 (k0_off11 c) (k0_off11_inb c)) (sR := 15) rfl rfl (C := got0 m c (dir0 (twin c))) (BI.Entails.refl _)) $$ [Hp15 Hd15 HO]
  · isplitr; · iexact HK
    isplitr; · iexact Hlev
    isplitl [Hp15]; · iexact Hp15
    isplitl [Hd15]; · iexact Hd15
    iexact HO
  iintro ⟨Hg00, Hz15, HO⟩
  iapply (wp_wait wires (hands m) 𝒱₀ K c 16 owed0 (by decide) (dst := cell0 (k0_off12 c) (k0_off12_inb c)) (sR := 16) rfl rfl (C := got0 m c (dir1 (twin c))) (BI.Entails.refl _)) $$ [Hp16 Hd16 HO]
  · isplitr; · iexact HK
    isplitr; · iexact Hlev
    isplitl [Hp16]; · iexact Hp16
    isplitl [Hd16]; · iexact Hd16
    iexact HO
  iintro ⟨Hg01, Hz16, HO⟩
  iapply (wp_wait wires (hands m) 𝒱₀ K c 17 owed0 (by decide) (dst := cell0 (k0_off13 c) (k0_off13_inb c)) (sR := 17) rfl rfl (C := got0 m c (dir2 (twin c))) (BI.Entails.refl _)) $$ [Hp17 Hd17 HO]
  · isplitr; · iexact HK
    isplitr; · iexact Hlev
    isplitl [Hp17]; · iexact Hp17
    isplitl [Hd17]; · iexact Hd17
    iexact HO
  iintro ⟨Hg02, Hz17, HO⟩
  iapply (wp_wait wires (hands m) 𝒱₀ K c 21 owed0 (by decide) (dst := cell1 (k0_off14 c) (k0_off14_inb c)) (sR := 21) rfl rfl (C := got1 m c (dir0 (twin c))) (BI.Entails.refl _)) $$ [Hp21 Hd21 HO]
  · isplitr; · iexact HK
    isplitr; · iexact Hlev
    isplitl [Hp21]; · iexact Hp21
    isplitl [Hd21]; · iexact Hd21
    iexact HO
  iintro ⟨Hg10, Hz21, HO⟩
  iapply (wp_wait wires (hands m) 𝒱₀ K c 22 owed0 (by decide) (dst := cell1 (k0_off15 c) (k0_off15_inb c)) (sR := 22) rfl rfl (C := got1 m c (dir1 (twin c))) (BI.Entails.refl _)) $$ [Hp22 Hd22 HO]
  · isplitr; · iexact HK
    isplitr; · iexact Hlev
    isplitl [Hp22]; · iexact Hp22
    isplitl [Hd22]; · iexact Hd22
    iexact HO
  iintro ⟨Hg11, Hz22, HO⟩
  iapply (wp_wait wires (hands m) 𝒱₀ K c 23 owed0 (by decide) (dst := cell1 (k0_off16 c) (k0_off16_inb c)) (sR := 23) rfl rfl (C := got1 m c (dir2 (twin c))) (BI.Entails.refl _)) $$ [Hp23 Hd23 HO]
  · isplitr; · iexact HK
    isplitr; · iexact Hlev
    isplitl [Hp23]; · iexact Hp23
    isplitl [Hd23]; · iexact Hd23
    iexact HO
  iintro ⟨Hg12, Hz23, HO⟩
  iapply (wp_wait wires (hands m) 𝒱₀ K c 0 owed0 (by decide) (dst := part0 c) (sR := 0) rfl rfl (C := src0 m shareA c) (BI.Entails.refl _)) $$ [Hp0 Hd0 HO]
  · isplitr; · iexact HK
    isplitr; · iexact Hlev
    isplitl [Hp0]; · iexact Hp0
    isplitl [Hd0]; · iexact Hd0
    iexact HO
  iintro ⟨Hs00, Hz0, HO⟩
  iapply (wp_wait wires (hands m) 𝒱₀ K c 1 owed0 (by decide) (dst := part0 c) (sR := 1) rfl rfl (C := src0 m shareB c) (BI.Entails.refl _)) $$ [Hp1 Hd1 HO]
  · isplitr; · iexact HK
    isplitr; · iexact Hlev
    isplitl [Hp1]; · iexact Hp1
    isplitl [Hd1]; · iexact Hd1
    iexact HO
  iintro ⟨Hs01, Hz1, HO⟩
  iapply (wp_wait wires (hands m) 𝒱₀ K c 2 owed0 (by decide) (dst := part0 c) (sR := 2) rfl rfl (C := src0 m shareC c) (BI.Entails.refl _)) $$ [Hp2 Hd2 HO]
  · isplitr; · iexact HK
    isplitr; · iexact Hlev
    isplitl [Hp2]; · iexact Hp2
    isplitl [Hd2]; · iexact Hd2
    iexact HO
  iintro ⟨Hs02, Hz2, HO⟩
  iapply (wp_wait wires (hands m) 𝒱₀ K c 6 owed0 (by decide) (dst := part1 c) (sR := 6) rfl rfl (C := src1 m shareA c) (BI.Entails.refl _)) $$ [Hp6 Hd6 HO]
  · isplitr; · iexact HK
    isplitr; · iexact Hlev
    isplitl [Hp6]; · iexact Hp6
    isplitl [Hd6]; · iexact Hd6
    iexact HO
  iintro ⟨Hs10, Hz6, HO⟩
  iapply (wp_wait wires (hands m) 𝒱₀ K c 7 owed0 (by decide) (dst := part1 c) (sR := 7) rfl rfl (C := src1 m shareB c) (BI.Entails.refl _)) $$ [Hp7 Hd7 HO]
  · isplitr; · iexact HK
    isplitr; · iexact Hlev
    isplitl [Hp7]; · iexact Hp7
    isplitl [Hd7]; · iexact Hd7
    iexact HO
  iintro ⟨Hs11, Hz7, HO⟩
  iapply (wp_wait wires (hands m) 𝒱₀ K c 8 owed0 (by decide) (dst := part1 c) (sR := 8) rfl rfl (C := src1 m shareC c) (BI.Entails.refl _)) $$ [Hp8 Hd8 HO]
  · isplitr; · iexact HK
    isplitr; · iexact Hlev
    isplitl [Hp8]; · iexact Hp8
    isplitl [Hd8]; · iexact Hd8
    iexact HO
  iintro ⟨Hs12, Hz8, HO⟩
  iapply (wp_wait wires (hands m) 𝒱₀ K c 3 owed0 (by decide) (dst := cell0 (k0_off5 c) (k0_off5_inb c)) (sR := 3) rfl rfl (C := got0 m c (dir0 c)) (BI.Entails.refl _)) $$ [Hp3 Hd3 HO]
  · isplitr; · iexact HK
    isplitr; · iexact Hlev
    isplitl [Hp3]; · iexact Hp3
    isplitl [Hd3]; · iexact Hd3
    iexact HO
  iintro ⟨Ho00, Hz3, HO⟩
  iapply (wp_wait wires (hands m) 𝒱₀ K c 4 owed0 (by decide) (dst := cell0 (k0_off6 c) (k0_off6_inb c)) (sR := 4) rfl rfl (C := got0 m c (dir1 c)) (BI.Entails.refl _)) $$ [Hp4 Hd4 HO]
  · isplitr; · iexact HK
    isplitr; · iexact Hlev
    isplitl [Hp4]; · iexact Hp4
    isplitl [Hd4]; · iexact Hd4
    iexact HO
  iintro ⟨Ho01, Hz4, HO⟩
  iapply (wp_wait wires (hands m) 𝒱₀ K c 5 owed0 (by decide) (dst := cell0 (k0_off7 c) (k0_off7_inb c)) (sR := 5) rfl rfl (C := got0 m c (dir2 c)) (BI.Entails.refl _)) $$ [Hp5 Hd5 HO]
  · isplitr; · iexact HK
    isplitr; · iexact Hlev
    isplitl [Hp5]; · iexact Hp5
    isplitl [Hd5]; · iexact Hd5
    iexact HO
  iintro ⟨Ho02, Hz5, HO⟩
  iapply (wp_wait wires (hands m) 𝒱₀ K c 9 owed0 (by decide) (dst := cell1 (k0_off8 c) (k0_off8_inb c)) (sR := 9) rfl rfl (C := got1 m c (dir0 c)) (BI.Entails.refl _)) $$ [Hp9 Hd9 HO]
  · isplitr; · iexact HK
    isplitr; · iexact Hlev
    isplitl [Hp9]; · iexact Hp9
    isplitl [Hd9]; · iexact Hd9
    iexact HO
  iintro ⟨Ho10, Hz9, HO⟩
  iapply (wp_wait wires (hands m) 𝒱₀ K c 10 owed0 (by decide) (dst := cell1 (k0_off9 c) (k0_off9_inb c)) (sR := 10) rfl rfl (C := got1 m c (dir1 c)) (BI.Entails.refl _)) $$ [Hp10 Hd10 HO]
  · isplitr; · iexact HK
    isplitr; · iexact Hlev
    isplitl [Hp10]; · iexact Hp10
    isplitl [Hd10]; · iexact Hd10
    iexact HO
  iintro ⟨Ho11, Hz10, HO⟩
  iapply (wp_wait wires (hands m) 𝒱₀ K c 11 owed0 (by decide) (dst := cell1 (k0_off10 c) (k0_off10_inb c)) (sR := 11) rfl rfl (C := got1 m c (dir2 c)) (BI.Entails.refl _)) $$ [Hp11 Hd11 HO]
  · isplitr; · iexact HK
    isplitr; · iexact Hlev
    isplitl [Hp11]; · iexact Hp11
    isplitl [Hd11]; · iexact Hd11
    iexact HO
  iintro ⟨Ho12, Hz11, HO⟩
  rw [wp_ret]
  imodintro
  unfold after
  rw [twentyFour, arg0_cut, arg1_cut]
  isplitl [Hs00 Hs01 Hs02 Hl0 Hs10 Hs11 Hs12 Hl1 Ho00 Ho01 Ho02 Ho10 Ho11 Ho12 Hg00 Hg01 Hg02 Hg10 Hg11 Hg12]
  · isplitl [Hs00 Hs01 Hs02 Hl0]
    · isplitr [Hl0]
      · isplitl [Hs00]; · iexact Hs00
        isplitl [Hs01] <;> iassumption
      iexact Hl0
    isplitl [Hs10 Hs11 Hs12 Hl1]
    · isplitr [Hl1]
      · isplitl [Hs10]; · iexact Hs10
        isplitl [Hs11] <;> iassumption
      iexact Hl1
    isplitl [Ho00 Ho01 Ho02 Ho10 Ho11 Ho12]
    · isplitl [Ho00]; · iexact Ho00
      isplitl [Ho01]; · iexact Ho01
      isplitl [Ho02]; · iexact Ho02
      isplitl [Ho10]; · iexact Ho10
      isplitl [Ho11] <;> iassumption
    isplitl [Hg00]; · iexact Hg00
    isplitl [Hg01]; · iexact Hg01
    isplitl [Hg02]; · iexact Hg02
    isplitl [Hg10]; · iexact Hg10
    isplitl [Hg11] <;> iassumption
  isplitr [HO]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    isplitl [Hz18]; · iexact Hz18
    isplitl [Hz19]; · iexact Hz19
    isplitl [Hz20]; · iexact Hz20
    isplitl [Hz21]; · iexact Hz21
    isplitl [Hz22] <;> iassumption
  iexact HO

end Cert.GatherWeights.Run

end
-- ==== Proof.GatherWeightsLaunch.lean ====
/-
# The gather of the weights over the chips: the launch of `GatherWeights`

The exchange is followed by the program's own operations, which put the chip's own weights in. They run over all of a device's
buffers, once these are whole again.
-/
module

public import proofs.«01_k».proof.Proof.GatherWeights
public import Idealize.ShloMosaic.Lib.Pipeline.RegionsOwned

@[expose] public section

set_option Elab.async false

noncomputable section

namespace Cert.GatherWeights.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Talk Cert.GatherWeights.Gen

variable {F : FTy → Type} [FloatOps F]

local notation "𝕄" => MT nD τ sig Unit (Elt F) ℕ (UU nD τ sig) ℕ

variable (m : (ℓ : Loc nD τ sig) → Buf (Elt F) ℓ)

/-! ## The program's own operations -/

/-- The program's one pipeline: the exchange. -/
def pdats (p : Fin 1) (c : Dev nD) : Dat τ (Elt F) Unit ℕ (UU nD τ sig) ℕ (Pipeline.pin (pcfgs (F := F)) (fun p => (cfgs p).toPCfg_adm) p) c :=
  match p with
  | 0 => exchangeDat wires (hands m) (before m) (after m) _ (inferInstanceAs (IsEmpty (Fin 0))) c

/-- The arrays of the exchange, among a device's buffers. -/
def arrays : Finset (Ref sig .tc) := {main_arg0, main_arg1, main_v1_0, main_v1_1}
theorem over_arrays (Φ : Ref sig .tc → sProp 𝕄) : bigSep arrays Φ = iprop(Φ main_arg0 ∗ Φ main_arg1 ∗ Φ main_v1_0 ∗ Φ main_v1_1) :=
  bigSep_eq_bigSepL_of_eq [main_arg0, main_arg1, main_v1_0, main_v1_1] (by decide) (by decide) Φ
theorem arrays_unscoped : arrays ⊆ Finset.univ.filter fun b : Ref sig .tc => ¬ b.isScoped := by decide

/-- What a device keeps through the exchange: the rest of its results, and its other buffers. -/
def rest (c : Dev nD) : sProp 𝕄 := iprop(kept0 m c ∗ kept1 m c ∗ unscopedBufsBut arrays c (fun b => m ((c.tc : Thread nD τ).loc b)))

/-- A device's buffers after the exchange: as at first, the results filled. -/
def V₀ (c : Dev nD) : Valuation τ sig (Elt F) :=
  Function.update (Function.update (fun b => m (c, b)) (Proc.devRef .tc main_v1_0) (full0 m c)) (Proc.devRef .tc main_v1_1) (full1 m c)
/-- The contents after each stretch of the program's own operations. -/
def V₁ (c : Dev nD) : Valuation τ sig (Elt F) := StableHlo.after (hostOps1 c) (V₀ m c)
def V₂ (c : Dev nD) : Valuation τ sig (Elt F) := StableHlo.after hostOps1_1 (V₁ m c)
def V₃ (c : Dev nD) : Valuation τ sig (Elt F) := StableHlo.after hostOps1_2 (V₂ m c)
def V₄ (c : Dev nD) : Valuation τ sig (Elt F) := StableHlo.after hostOps1_3 (V₃ m c)

theorem V₀_of_ne (c : Dev nD) {b : Ref sig .tc} (h₀ : b ≠ main_v1_0) (h₁ : b ≠ main_v1_1) : V₀ m c (Proc.devRef .tc b) = m ((c.tc : Thread nD τ).loc b) := by
  unfold V₀
  rw [Function.update_of_ne fun h => h₁ (Proc.devRef_injective _ h), Function.update_of_ne fun h => h₀ (Proc.devRef_injective _ h)]
theorem V₀_out1 (c : Dev nD) : V₀ m c (Proc.devRef .tc main_v1_1) = full1 m c := Function.update_self ..
theorem V₀_out0 (c : Dev nD) : V₀ m c (Proc.devRef .tc main_v1_0) = full0 m c := by
  unfold V₀
  rw [Function.update_of_ne (by decide)]
  exact Function.update_self ..

/-- What a device holds after the exchange is all its buffers, at these contents. -/
theorem gathered (c : Dev nD) : iprop(after m c ∗ rest m c) ⊢ (StableHlo.held (c.tc : Thread nD τ) (ucRefs τ sig) (V₀ m c) : sProp 𝕄) := by
  rw [← unscopedBufs_held, unscopedBufs_sdiff arrays arrays_unscoped, over_arrays, V₀_of_ne m c (b := main_arg0) (by decide) (by decide),
    V₀_of_ne m c (b := main_arg1) (by decide) (by decide), V₀_out0, V₀_out1,
    show (unscopedBufsBut arrays c (fun b => V₀ m c (Proc.devRef .tc b)) : sProp 𝕄) = unscopedBufsBut arrays c (fun b => m ((c.tc : Thread nD τ).loc b))
      from bigSep_congr fun b hb => by
        have h := (Finset.mem_sdiff.mp hb).2
        exact congrArg (fun f => ((c.tc : Thread nD τ).loc b ↦{fullShare} f : sProp 𝕄)) (V₀_of_ne m c (fun e => h (by subst e; decide)) (fun e => h (by subst e; decide)))]
  refine BIBase.Entails.trans ?_ (sep_mono_left (sep_mono_right (sep_mono_right (sep_mono_right (out1_joined m c)))))
  refine BIBase.Entails.trans ?_ (sep_mono_left (sep_mono_right (sep_mono_right (sep_mono_left (out0_joined m c)))))
  unfold after rest arg0 arg1
  iintro ⟨⟨Ha0, Ha1, ⟨Ho00, Ho01, Ho02, Ho10, Ho11, Ho12⟩, ⟨Hg00, Hg01, Hg02, Hg10, Hg11, Hg12⟩⟩, ⟨Hk0, Hk1, Hb⟩⟩
  isplitr [Hb]
  · isplitl [Ha0]; · iexact Ha0
    isplitl [Ha1]; · iexact Ha1
    isplitl [Ho00 Hg00 Ho01 Hg01 Ho02 Hg02 Hk0]
    · isplitr [Hk0]
      · isplitl [Ho00]; · iexact Ho00
        isplitl [Ho01]; · iexact Ho01
        isplitl [Ho02]; · iexact Ho02
        isplitl [Hg00]; · iexact Hg00
        isplitl [Hg01] <;> iassumption
      iexact Hk0
    · isplitr [Hk1]
      · isplitl [Ho10]; · iexact Ho10
        isplitl [Ho11]; · iexact Ho11
        isplitl [Ho12]; · iexact Ho12
        isplitl [Hg10]; · iexact Hg10
        isplitl [Hg11] <;> iassumption
      iexact Hk1
  iexact Hb

/-- A stretch of the program's own operations, over all of a device's buffers. -/
def stretch (ops : List (HloOp τ sig (Elt F))) (hops : ops.Forall fun op => op.bufs ⊆ StableHlo.tcRefs τ sig) (hf : ∀ op ∈ ops, op.fresh = ∅)
    (V : Dev nD → Valuation τ sig (Elt F)) :
    Seg (pcfgs (F := F)) (fun p => (cfgs p).toPCfg_adm) (pdats m) () (defs₀ (F := F)) 𝒱₀ (Wires.L nD τ sig) (wires.lv τ) :=
  .host (HostSeg.ofOps _ _ _ _ _ (ucRefs τ sig) ops (fun op h => sub_ucRefs op (List.forall_iff_forall_mem.mp hops op h)) hf V (fun c => owing wires c ∅))

def segments (c : Dev nD) : List (Seg (pcfgs (F := F)) (fun p => (cfgs p).toPCfg_adm) (pdats m) () (defs₀ (F := F)) 𝒱₀ (Wires.L nD τ sig) (wires.lv τ)) :=
  [stretch m (hostOps1 c) (hostOps1_sub c) (List.forall_iff_forall_mem.mp (StableHlo.forall_fresh_of_map rfl)) (V₀ m),
    stretch m hostOps1_1 hostOps1_1_sub (List.forall_iff_forall_mem.mp (StableHlo.forall_fresh_of_map rfl)) (V₁ m),
    stretch m hostOps1_2 hostOps1_2_sub (List.forall_iff_forall_mem.mp (StableHlo.forall_fresh_of_map rfl)) (V₂ m),
    stretch m hostOps1_3 hostOps1_3_sub (List.forall_iff_forall_mem.mp (StableHlo.forall_fresh_of_map rfl)) (V₃ m)]

/-! ## The launch -/

theorem deal_slots : (bigSep Finset.univ fun c : Dev nD => iprop(arg0 m c ∗ arg1 m c
      ∗ (room0 m c (dir0 c) ∗ room0 m c (dir1 c) ∗ room0 m c (dir2 c) ∗ room1 m c (dir0 c) ∗ room1 m c (dir1 c) ∗ room1 m c (dir2 c))
      ∗ (room0 m c (dir0 (twin c)) ∗ room0 m c (dir1 (twin c)) ∗ room0 m c (dir2 (twin c)) ∗ room1 m c (dir0 (twin c)) ∗ room1 m c (dir1 (twin c)) ∗ room1 m c (dir2 (twin c))) ∗ rest m c))
    ⊢ (bigSep Finset.univ fun c : Dev nD => iprop(before m c ∗ rest m c) : sProp 𝕄) := by
  unfold before
  simp only [bigSep_sep']
  rw [bigSep_univ_equiv dir0 (fun c => (room0 m c (dir0 c) : sProp 𝕄)), bigSep_univ_equiv dir1 (fun c => (room0 m c (dir1 c) : sProp 𝕄)), bigSep_univ_equiv dir2 (fun c => (room0 m c (dir2 c) : sProp 𝕄)), bigSep_univ_equiv dir0 (fun c => (room1 m c (dir0 c) : sProp 𝕄)), bigSep_univ_equiv dir1 (fun c => (room1 m c (dir1 c) : sProp 𝕄)), bigSep_univ_equiv dir2 (fun c => (room1 m c (dir2 c) : sProp 𝕄)),
    bigSep_univ_equiv twin (fun c => (room0 m c (dir0 (twin c)) : sProp 𝕄)), bigSep_univ_equiv twin (fun c => (room0 m c (dir1 (twin c)) : sProp 𝕄)), bigSep_univ_equiv twin (fun c => (room0 m c (dir2 (twin c)) : sProp 𝕄)), bigSep_univ_equiv twin (fun c => (room1 m c (dir0 (twin c)) : sProp 𝕄)), bigSep_univ_equiv twin (fun c => (room1 m c (dir1 (twin c)) : sProp 𝕄)), bigSep_univ_equiv twin (fun c => (room1 m c (dir2 (twin c)) : sProp 𝕄))]
  simp only [across_across]
  iintro ⟨Ha0, Ha1, HF, HT, HR⟩
  isplitr [HR]
  · isplitl [Ha0]; · iexact Ha0
    isplitl [Ha1]; · iexact Ha1
    isplitl [HF] <;> iassumption
  iexact HR

theorem deal_bufs : (bigSep Finset.univ fun c : Dev nD => unscopedBufs c (fun b => m ((c.tc : Thread nD τ).loc b)))
    ⊢ (bigSep Finset.univ fun c : Dev nD => iprop(before m c ∗ rest m c) : sProp 𝕄) := by
  have h : ∀ c : Dev nD, (unscopedBufs c (fun b => m ((c.tc : Thread nD τ).loc b)) : sProp 𝕄)
      ⊢ iprop(arg0 m c ∗ arg1 m c
      ∗ (room0 m c (dir0 c) ∗ room0 m c (dir1 c) ∗ room0 m c (dir2 c) ∗ room1 m c (dir0 c) ∗ room1 m c (dir1 c) ∗ room1 m c (dir2 c))
      ∗ (room0 m c (dir0 (twin c)) ∗ room0 m c (dir1 (twin c)) ∗ room0 m c (dir2 (twin c)) ∗ room1 m c (dir0 (twin c)) ∗ room1 m c (dir1 (twin c)) ∗ room1 m c (dir2 (twin c))) ∗ rest m c) := fun c => by
    rw [unscopedBufs_sdiff arrays arrays_unscoped, over_arrays, out0_cut, out1_cut]
    unfold rest arg0 arg1
    iintro ⟨⟨Ha0, Ha1, ⟨⟨Ho00, Ho01, Ho02, Hg00, Hg01, Hg02⟩, Hk0⟩, ⟨⟨Ho10, Ho11, Ho12, Hg10, Hg11, Hg12⟩, Hk1⟩⟩, Hb⟩
    isplitl [Ha0]; · iexact Ha0
    isplitl [Ha1]; · iexact Ha1
    isplitl [Ho00 Ho01 Ho02 Ho10 Ho11 Ho12]
    · isplitl [Ho00]; · iexact Ho00
      isplitl [Ho01]; · iexact Ho01
      isplitl [Ho02]; · iexact Ho02
      isplitl [Ho10]; · iexact Ho10
      isplitl [Ho11] <;> iassumption
    isplitl [Hg00 Hg01 Hg02 Hg10 Hg11 Hg12]
    · isplitl [Hg00]; · iexact Hg00
      isplitl [Hg01]; · iexact Hg01
      isplitl [Hg02]; · iexact Hg02
      isplitl [Hg10]; · iexact Hg10
      isplitl [Hg11] <;> iassumption
    isplitl [Hk0]; · iexact Hk0
    isplitl [Hk1] <;> iassumption
  exact (bigSep_mono fun c _ => h c).trans (deal_slots m)

theorem ownSems : OwnSemFacts cfg0.spec wires.at_ := by decide

theorem main_run (c : Dev nD) : main (F := F) c = .op (.customCall (entry 0) ()) fun _ => Seg.run (segments m c) := by
  rw [main_chain, Seg.run_eq_chain]
  rfl

/-- Every run of the program ends, with every buffer of every device at the contents that its own operations make of the gathered
    weights, and every semaphore at zero. -/
theorem runs (g : Dev nD → PrngReg) :
    θ_run (defs (F := F)) (onTc (τ := τ) (main (F := F))) ⟨m, fun _ => 0, g⟩ (fun r =>
      (∀ c : Dev nD, ∀ b ∈ ucRefs τ sig, r.2.mem (c, b) = V₄ m c b) ∧ r.2.sem = fun _ => 0) := by
  haveI hW : IsEmpty (Fin (Pipeline.pin (pcfgs (F := F)) (fun p => (cfgs p).toPCfg_adm) 0).W) := inferInstanceAs (IsEmpty (Fin 0))
  refine θ_run_exchange wires (hands m) (before m) (after m) (pcfgs (F := F)) (fun p => (cfgs p).toPCfg_adm) (pdats m) (defs₀ (F := F)) 𝒱₀
    (rest m) cellOf_inj 0 (fun c => ⟨_, rfl⟩) hW N_0 winFacts0.to₀ (inferInstanceAs (IsEmpty (Fin 0))) ownSems
    (fun c => scopedRest0_eq c) (fun c t => body m c) m g (deal_bufs m) (main (F := F)) (segments m) (main_run m)
    (fun c => (List.nodup_nil : ([] : List (Fin 1)).Nodup)) (fun c => (List.not_mem_nil : (0 : Fin 1) ∉ [])) (fun c => StableHlo.held (c.tc : Thread nD τ) (ucRefs τ sig) (V₄ m c)) (fun c => ?_)
    (fun c s => ∀ b ∈ ucRefs τ sig, s.mem (c, b) = V₄ m c b)
    (fun c s' => ?_) (fun s h hs => ⟨h, sem_eq_zero_of_scoped (by decide) hs⟩)
  · refine ⟨?_, ⟨BI.Entails.refl _, ⟨BI.Entails.refl _, ⟨BI.Entails.refl _, ?_⟩⟩⟩⟩
    · show iprop(after m c ∗ rest m c ∗ owing wires c ∅) ⊢ iprop(StableHlo.held (c.tc : Thread nD τ) (ucRefs τ sig) (V₀ m c) ∗ owing wires c ∅)
      refine BIBase.Entails.trans ?_ (sep_mono_left (gathered m c))
      iintro ⟨Ha, Hr, HO⟩
      isplitr [HO]
      · isplitl [Ha] <;> iassumption
      iexact HO
    · show iprop(StableHlo.held (c.tc : Thread nD τ) (ucRefs τ sig) (V₄ m c) ∗ owing wires c ∅)
        ⊢ iprop(StableHlo.held (c.tc : Thread nD τ) (ucRefs τ sig) (V₄ m c) ∗ ∃ V, owes (c.tc : Thread nD τ) (0 : CellTallies nD τ sig Unit) V)
      unfold Talk.owing
      rw [Wires.owed_empty]
  · exact (read_held _ _ _ _).trans fupd_intro

end Cert.GatherWeights.Run

end
-- ==== Proof.GatherWeightsValue.lean ====
/-
# The gather of the weights over the chips: `GatherWeights` meets its reference

The reference only regroups the whole array: row `2 j + p` becomes row `p` of chip `j`. After the exchange a device's result has at
another chip's place what that chip's devices sent, and the program puts the device's own part at its own chip's place.
-/
module

public import proofs.«01_k».proof.Proof.GatherWeightsLaunch
public import proofs.«01_k».proof.Proof.Talk.Part
public import proofs.«01_k».proof.Proof.Gen.GatherWeightsRef.Run
public import Idealize.ShloMosaic.Lib.PointwiseCore
public import Idealize.ShloMosaic.Lib.Layout
public import Idealize.ShloMosaic.Lib.Pipeline.FrameTail

@[expose] public section

noncomputable section

namespace Cert.GatherWeights.Run

open Idealize.ShloMosaic Idealize.ShloMosaic.TcCoe Cert.GatherWeights.Gen
open Idealize.SL.Sem

variable {F : FTy → Type} [FloatOps F]

/-- The chip of a device, as the program computes it, -/
def chip (c : Dev nD) : IVec S_ 32 :=
  addi (muli (constantI S_ 32 2#32) (id (Host.remui (Host.divui (constantI S_ 32 (Dev.word c)) (constantI S_ 32 4#32)) (constantI S_ 32 2#32))))
    (id (Host.remui (Host.divui (constantI S_ 32 (Dev.word c)) (constantI S_ 32 2#32)) (constantI S_ 32 2#32)))
/-- and its mask of the own chip's place. -/
def mask (c : Dev nD) : S4x1x1x1x1.Idx → BitVec 1 :=
  shapeCast S4x1x1x1x1 (cmpi .eq (iotaInDim S4 32 0) (broadcastInDim S4 ![] bcast_S_S4 (chip c))) shapeCasts_S4_S4x1x1x1x1

theorem own_place : ∀ (c : Dev nD) (j : Fin 4), IntOp.cmpi .eq (BitVec.ofNat 32 j.val) (chip c ix0) = if j.val = 2 * (c.val / 4) + (c.val / 2) % 2 then 1#1 else 0#1 := by
  decide +kernel

set_option maxRecDepth 16384 in
theorem mask_at (c : Dev nD) (j : Fin 4) : mask c (ix5 j (0 : Fin 1) (0 : Fin 1) (0 : Fin 1) (0 : Fin 1)) = if j.val = 2 * (c.val / 4) + (c.val / 2) % 2 then 1#1 else 0#1 := by
  pointwise [mask]
  exact own_place c j

variable (m : (ℓ : Loc nD τ sig) → Buf (Elt F) ℓ)

/-- A result: the own part where the mask is set, the gathered ones elsewhere. -/
def whole0 (c : Dev nD) : S4x2x8x1024x704.Idx → Elt F .bf16 :=
  select (broadcastInDim S4x2x8x1024x704 ![0, 1, 2, 3, 4] bcast_S4x1x1x1x1_S4x2x8x1024x704_0_1_2_3_4 (mask c))
    (broadcastInDim S4x2x8x1024x704 ![0, 1, 2, 3, 4] bcast_S1x2x8x1024x704_S4x2x8x1024x704_0_1_2_3_4
      (broadcastInDim S1x2x8x1024x704 ![1, 2, 3, 4] bcast_S2x8x1024x704_S1x2x8x1024x704_1_2_3_4 (m ((c.tc : Thread nD τ).loc main_arg0) : S2x8x1024x704.Idx → Elt F .bf16)))
    (full0 m c : S4x2x8x1024x704.Idx → Elt F .bf16)

set_option maxRecDepth 16384 in
theorem whole0_at (c : Dev nD) (j : Fin 4) (p : Fin 2) (l : Fin 8) (r : Fin 1024) (k : Fin 704) : whole0 m c (ix5 j p l r k)
    = if j.val = 2 * (c.val / 4) + (c.val / 2) % 2 then (m ((c.tc : Thread nD τ).loc main_arg0) : S2x8x1024x704.Idx → Elt F .bf16) (ix4 p l r k)
      else (full0 m c : S4x2x8x1024x704.Idx → Elt F .bf16) (ix5 j p l r k) := by
  pointwise [whole0]
  rw [mask_at]
  split <;> rfl

set_option maxRecDepth 16384 in
theorem slot0_at (d : Dev nD) (X : S4x2x8x1024x704.Idx → Elt F .bf16) (j : Fin 4) (p : Fin 2) (l : Fin 8) (r : Fin 1024) (k : Fin 704)
    (hj : j.val = 2 * (d.val / 4) + (d.val / 2) % 2) (hp : p.val = d.val % 2) : (slot0 d).view.read (Elt F) X (ix3 l r k) = X (ix5 j p l r k) := by
  have key : ∀ (off : Fin 5 → ℕ) (_ : off = ![j.val, p.val, 0, 0, 0]) (hs : S4x2x8x1024x704.Slices off S1x1x8x1024x704) (hc : S1x1x8x1024x704.ShapeCasts S8x1024x704),
      shapeCast S8x1024x704 (extractStridedSlice S1x1x8x1024x704 off X hs) hc (ix3 l r k) = X (ix5 j p l r k) := by
    intro off ho hs hc
    subst ho
    pointwise
  refine (congrFun (Talk.read_part (Memref.whole main_v1_0) (k0_off1 d) S1x1x8x1024x704.size (k0_off1_inb d) squeezes_S1x1x8x1024x704_S8x1024x704
    ⟨rfl, k0_off1_inb d⟩ squeezes_S1x1x8x1024x704_S8x1024x704.numel_eq X) _).trans ?_
  exact key _ ((k0_off1_eq d).trans (by rw [hj, hp])) _ _

set_option maxRecDepth 16384 in
theorem part0_at (d : Dev nD) (X : S2x8x1024x704.Idx → Elt F .bf16) (p : Fin 2) (l : Fin 8) (r : Fin 1024) (k : Fin 704) (hp : p.val = d.val % 2) :
    (part0 d).view.read (Elt F) X (ix3 l r k) = X (ix4 p l r k) := by
  have key : ∀ (off : Fin 4 → ℕ) (_ : off = ![p.val, 0, 0, 0]) (hs : S2x8x1024x704.Slices off S1x8x1024x704) (hc : S1x8x1024x704.ShapeCasts S8x1024x704),
      shapeCast S8x1024x704 (extractStridedSlice S1x8x1024x704 off X hs) hc (ix3 l r k) = X (ix4 p l r k) := by
    intro off ho hs hc
    subst ho
    pointwise
  refine (congrFun (Talk.read_part (Memref.whole main_arg0) (k0_off2 d) S1x8x1024x704.size (k0_off2_inb d) squeezes_S1x8x1024x704_S8x1024x704
    ⟨rfl, k0_off2_inb d⟩ squeezes_S1x8x1024x704_S8x1024x704.numel_eq X) _).trans ?_
  exact key _ ((k0_off2_eq d).trans (by rw [hp])) _ _

/-- A result: the own part where the mask is set, the gathered ones elsewhere. -/
def whole1 (c : Dev nD) : S4x2x10x512x1024.Idx → Elt F .bf16 :=
  select (broadcastInDim S4x2x10x512x1024 ![0, 1, 2, 3, 4] bcast_S4x1x1x1x1_S4x2x10x512x1024_0_1_2_3_4 (mask c))
    (broadcastInDim S4x2x10x512x1024 ![0, 1, 2, 3, 4] bcast_S1x2x10x512x1024_S4x2x10x512x1024_0_1_2_3_4
      (broadcastInDim S1x2x10x512x1024 ![1, 2, 3, 4] bcast_S2x10x512x1024_S1x2x10x512x1024_1_2_3_4 (m ((c.tc : Thread nD τ).loc main_arg1) : S2x10x512x1024.Idx → Elt F .bf16)))
    (full1 m c : S4x2x10x512x1024.Idx → Elt F .bf16)

set_option maxRecDepth 16384 in
theorem whole1_at (c : Dev nD) (j : Fin 4) (p : Fin 2) (l : Fin 10) (r : Fin 512) (k : Fin 1024) : whole1 m c (ix5 j p l r k)
    = if j.val = 2 * (c.val / 4) + (c.val / 2) % 2 then (m ((c.tc : Thread nD τ).loc main_arg1) : S2x10x512x1024.Idx → Elt F .bf16) (ix4 p l r k)
      else (full1 m c : S4x2x10x512x1024.Idx → Elt F .bf16) (ix5 j p l r k) := by
  pointwise [whole1]
  rw [mask_at]
  split <;> rfl

set_option maxRecDepth 16384 in
theorem slot1_at (d : Dev nD) (X : S4x2x10x512x1024.Idx → Elt F .bf16) (j : Fin 4) (p : Fin 2) (l : Fin 10) (r : Fin 512) (k : Fin 1024)
    (hj : j.val = 2 * (d.val / 4) + (d.val / 2) % 2) (hp : p.val = d.val % 2) : (slot1 d).view.read (Elt F) X (ix3 l r k) = X (ix5 j p l r k) := by
  have key : ∀ (off : Fin 5 → ℕ) (_ : off = ![j.val, p.val, 0, 0, 0]) (hs : S4x2x10x512x1024.Slices off S1x1x10x512x1024) (hc : S1x1x10x512x1024.ShapeCasts S10x512x1024),
      shapeCast S10x512x1024 (extractStridedSlice S1x1x10x512x1024 off X hs) hc (ix3 l r k) = X (ix5 j p l r k) := by
    intro off ho hs hc
    subst ho
    pointwise
  refine (congrFun (Talk.read_part (Memref.whole main_v1_1) (k0_off3 d) S1x1x10x512x1024.size (k0_off3_inb d) squeezes_S1x1x10x512x1024_S10x512x1024
    ⟨rfl, k0_off3_inb d⟩ squeezes_S1x1x10x512x1024_S10x512x1024.numel_eq X) _).trans ?_
  exact key _ ((k0_off3_eq d).trans (by rw [hj, hp])) _ _

set_option maxRecDepth 16384 in
theorem part1_at (d : Dev nD) (X : S2x10x512x1024.Idx → Elt F .bf16) (p : Fin 2) (l : Fin 10) (r : Fin 512) (k : Fin 1024) (hp : p.val = d.val % 2) :
    (part1 d).view.read (Elt F) X (ix3 l r k) = X (ix4 p l r k) := by
  have key : ∀ (off : Fin 4 → ℕ) (_ : off = ![p.val, 0, 0, 0]) (hs : S2x10x512x1024.Slices off S1x10x512x1024) (hc : S1x10x512x1024.ShapeCasts S10x512x1024),
      shapeCast S10x512x1024 (extractStridedSlice S1x10x512x1024 off X hs) hc (ix3 l r k) = X (ix4 p l r k) := by
    intro off ho hs hc
    subst ho
    pointwise
  refine (congrFun (Talk.read_part (Memref.whole main_arg1) (k0_off4 d) S1x10x512x1024.size (k0_off4_inb d) squeezes_S1x10x512x1024_S10x512x1024
    ⟨rfl, k0_off4_inb d⟩ squeezes_S1x10x512x1024_S10x512x1024.numel_eq X) _).trans ?_
  exact key _ ((k0_off4_eq d).trans (by rw [hp])) _ _

/-- The device of chip `j` with core `p`, -/
def owner (j : Fin 4) (p : Fin 2) : Dev nD := ⟨4 * (j.val / 2) + 2 * (j.val % 2) + p.val, by show _ < 8; omega⟩
theorem owner_chip : ∀ (j : Fin 4) (p : Fin 2), 2 * ((owner j p).val / 4) + ((owner j p).val / 2) % 2 = j.val := by decide
theorem owner_core : ∀ (j : Fin 4) (p : Fin 2), (owner j p).val % 2 = p.val := by decide
/-- which is on another chip unless `j` is the device's own. -/
theorem owner_others : ∀ (c : Dev nD) (j : Fin 4) (p : Fin 2), j.val ≠ 2 * (c.val / 4) + (c.val / 2) % 2 → owner j p ∈ others c := by decide +kernel
/-- A chip's part starts at its row. -/
theorem rows_of : ∀ c : Dev nD, (Layout.meshBlock [2, 2, 2] ![[0, 1], [], [], []] c (by decide) 0).val = 2 * (c.val / 4) + (c.val / 2) % 2 := by decide

/-- A device's rows of the whole array. -/
theorem own0_at (A : GatherWeightsRef.S8x8x1024x704.Idx → Elt F .bf16) (c : Dev nD) (p : Fin 2) (l : Fin 8) (r : Fin 1024) (k : Fin 704) (q : Fin 8) (hq : q.val = (2 * (c.val / 4) + (c.val / 2) % 2) * 2 + p.val) :
    (Layout.blockN S2x8x1024x704 GatherWeightsRef.S8x8x1024x704 (Layout.meshBlock [2, 2, 2] ![[0, 1], [], [], []] c) A : S2x8x1024x704.Idx → Elt F .bf16) (ix4 p l r k) = A (ix4 q l r k) := by
  rw [Layout.blockN_apply]
  refine congrArg A (funext fun b => Fin.ext ?_)
  rw [Layout.TilesN.idx_val]
  match b with
  | 0 =>
    show (Layout.meshBlock [2, 2, 2] ![[0, 1], [], [], []] c (by decide) 0).val * 2 + p.val = q.val
    rw [rows_of, hq]
  | 1 => exact (congrArg (· + l.val) (Nat.zero_mul 8)).trans (Nat.zero_add _)
  | 2 => exact (congrArg (· + r.val) (Nat.zero_mul 1024)).trans (Nat.zero_add _)
  | 3 => exact (congrArg (· + k.val) (Nat.zero_mul 704)).trans (Nat.zero_add _)

set_option maxRecDepth 16384 in
/-- The reference's regrouping. -/
theorem regrouped0_at (A : GatherWeightsRef.S8x8x1024x704.Idx → Elt F .bf16) (j : Fin 4) (p : Fin 2) (l : Fin 8) (r : Fin 1024) (k : Fin 704) (q : Fin 8) (hq : q.val = j.val * 2 + p.val) :
    shapeCast GatherWeightsRef.S4x2x8x1024x704 A GatherWeightsRef.Gen.shapeCasts_S8x8x1024x704_S4x2x8x1024x704 (ix5 j p l r k) = A (ix4 q l r k) := by
  pointwise
  exact congrArg (fun q => A (ix4 q l r k)) (Fin.ext hq.symm)

/-- The result is the regrouped array. -/
theorem whole0_eq (A : GatherWeightsRef.S8x8x1024x704.Idx → Elt F .bf16)
    (hm : ∀ c : Dev nD, m ((c.tc : Thread nD τ).loc main_arg0) = Layout.blockN S2x8x1024x704 GatherWeightsRef.S8x8x1024x704 (Layout.meshBlock [2, 2, 2] ![[0, 1], [], [], []] c) A) (c : Dev nD) :
    whole0 m c = shapeCast GatherWeightsRef.S4x2x8x1024x704 A GatherWeightsRef.Gen.shapeCasts_S8x8x1024x704_S4x2x8x1024x704 := by
  funext i
  idx_vars i
  rename' i0 => j, i1 => p, i2 => l, i3 => r, i4 => k
  rw [whole0_at, regrouped0_at A j p l r k ⟨j.val * 2 + p.val, by omega⟩ rfl]
  split
  next h => rw [hm]; exact own0_at A c p l r k _ (by rw [← h])
  next h =>
    refine (slot0_at (owner j p) (full0 m c) j p l r k (owner_chip j p).symm (owner_core j p).symm).symm.trans ?_
    refine (congrFun (full0_read m c (owner j p) (owner_others c j p h)) _).trans ?_
    unfold sent0
    refine (part0_at (owner j p) _ p l r k (owner_core j p).symm).trans ?_
    rw [hm]
    exact own0_at A (owner j p) p l r k _ (by rw [owner_chip])

/-- A device's rows of the whole array. -/
theorem own1_at (A : GatherWeightsRef.S8x10x512x1024.Idx → Elt F .bf16) (c : Dev nD) (p : Fin 2) (l : Fin 10) (r : Fin 512) (k : Fin 1024) (q : Fin 8) (hq : q.val = (2 * (c.val / 4) + (c.val / 2) % 2) * 2 + p.val) :
    (Layout.blockN S2x10x512x1024 GatherWeightsRef.S8x10x512x1024 (Layout.meshBlock [2, 2, 2] ![[0, 1], [], [], []] c) A : S2x10x512x1024.Idx → Elt F .bf16) (ix4 p l r k) = A (ix4 q l r k) := by
  rw [Layout.blockN_apply]
  refine congrArg A (funext fun b => Fin.ext ?_)
  rw [Layout.TilesN.idx_val]
  match b with
  | 0 =>
    show (Layout.meshBlock [2, 2, 2] ![[0, 1], [], [], []] c (by decide) 0).val * 2 + p.val = q.val
    rw [rows_of, hq]
  | 1 => exact (congrArg (· + l.val) (Nat.zero_mul 10)).trans (Nat.zero_add _)
  | 2 => exact (congrArg (· + r.val) (Nat.zero_mul 512)).trans (Nat.zero_add _)
  | 3 => exact (congrArg (· + k.val) (Nat.zero_mul 1024)).trans (Nat.zero_add _)

set_option maxRecDepth 16384 in
/-- The reference's regrouping. -/
theorem regrouped1_at (A : GatherWeightsRef.S8x10x512x1024.Idx → Elt F .bf16) (j : Fin 4) (p : Fin 2) (l : Fin 10) (r : Fin 512) (k : Fin 1024) (q : Fin 8) (hq : q.val = j.val * 2 + p.val) :
    shapeCast GatherWeightsRef.S4x2x10x512x1024 A GatherWeightsRef.Gen.shapeCasts_S8x10x512x1024_S4x2x10x512x1024 (ix5 j p l r k) = A (ix4 q l r k) := by
  pointwise
  exact congrArg (fun q => A (ix4 q l r k)) (Fin.ext hq.symm)

/-- The result is the regrouped array. -/
theorem whole1_eq (A : GatherWeightsRef.S8x10x512x1024.Idx → Elt F .bf16)
    (hm : ∀ c : Dev nD, m ((c.tc : Thread nD τ).loc main_arg1) = Layout.blockN S2x10x512x1024 GatherWeightsRef.S8x10x512x1024 (Layout.meshBlock [2, 2, 2] ![[0, 1], [], [], []] c) A) (c : Dev nD) :
    whole1 m c = shapeCast GatherWeightsRef.S4x2x10x512x1024 A GatherWeightsRef.Gen.shapeCasts_S8x10x512x1024_S4x2x10x512x1024 := by
  funext i
  idx_vars i
  rename' i0 => j, i1 => p, i2 => l, i3 => r, i4 => k
  rw [whole1_at, regrouped1_at A j p l r k ⟨j.val * 2 + p.val, by omega⟩ rfl]
  split
  next h => rw [hm]; exact own1_at A c p l r k _ (by rw [← h])
  next h =>
    refine (slot1_at (owner j p) (full1 m c) j p l r k (owner_chip j p).symm (owner_core j p).symm).symm.trans ?_
    refine (congrFun (full1_read m c (owner j p) (owner_others c j p h)) _).trans ?_
    unfold sent1
    refine (part1_at (owner j p) _ p l r k (owner_core j p).symm).trans ?_
    rw [hm]
    exact own1_at A (owner j p) p l r k _ (by rw [owner_chip])

/-- The arguments are as at first, and the results are these. -/
theorem final_arg0 (c : Dev nD) : V₄ m c (Proc.devRef .tc main_arg0) = m ((c.tc : Thread nD τ).loc main_arg0) := by
  unfold V₄ V₃ V₂ V₁
  refine Eq.trans ?_ (V₀_of_ne m c (b := main_arg0) (by decide) (by decide))
  after_results
theorem final_arg1 (c : Dev nD) : V₄ m c (Proc.devRef .tc main_arg1) = m ((c.tc : Thread nD τ).loc main_arg1) := by
  unfold V₄ V₃ V₂ V₁
  refine Eq.trans ?_ (V₀_of_ne m c (b := main_arg1) (by decide) (by decide))
  after_results
theorem final_out0 (c : Dev nD) : V₄ m c (Proc.devRef .tc main_v17) = whole0 m c := by
  unfold V₄ V₃ V₂ V₁ whole0
  rw [← V₀_out0, ← V₀_of_ne m c (b := main_arg0) (by decide) (by decide)]
  after_results
  rfl
theorem final_out1 (c : Dev nD) : V₄ m c (Proc.devRef .tc main_v19) = whole1 m c := by
  unfold V₄ V₃ V₂ V₁ whole1
  rw [← V₀_out1, ← V₀_of_ne m c (b := main_arg1) (by decide) (by decide)]
  after_results
  rfl

/-- Every run ends with the arguments as they were, the results at these, and every semaphore at zero. -/
theorem ends (g : Dev nD → PrngReg) :
    θ_run (defs (F := F)) (onTc (τ := τ) (main (F := F))) ⟨m, fun _ => 0, g⟩ (fun r =>
      (∀ c : Dev nD, r.2.mem ((c.tc : Thread nD τ).loc main_v17) = whole0 m c ∧ r.2.mem ((c.tc : Thread nD τ).loc main_v19) = whole1 m c
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run _ _ _).mono (fun _ h => ⟨fun c =>
    ⟨(h.1 c _ (Pipeline.devRef_mem_ucRefs (b := main_v17) (by decide))).trans (final_out0 m c), (h.1 c _ (Pipeline.devRef_mem_ucRefs (b := main_v19) (by decide))).trans (final_out1 m c),
      (h.1 c _ (Pipeline.devRef_mem_ucRefs (b := main_arg0) (by decide))).trans (final_arg0 m c), (h.1 c _ (Pipeline.devRef_mem_ucRefs (b := main_arg1) (by decide))).trans (final_arg1 m c)⟩, h.2⟩)
    (runs m g)

end Cert.GatherWeights.Run

end
-- ==== Proof.GatherWeightsClaims.lean ====
/-
# The claims of `GatherWeights`
-/
module

public import proofs.«01_k».proof.Defs
public import proofs.«01_k».proof.Proof.GatherWeightsValue

@[expose] public section

noncomputable section

namespace Cert.Proof.GatherWeights

open Idealize.ShloMosaic Idealize.ShloMosaic.TcCoe Idealize.SL.Sem

/-- Every run ends with the arguments unchanged and every semaphore at zero; -/
theorem frame : Cert.quiescent_GatherWeights (hGatherWeights := Cert.GatherWeights.Gen.facts) := fun m g _ =>
  (θ_run _ _ _).mono (fun _ h => ⟨fun c => (h.1 c).2.2, h.2⟩) (Cert.GatherWeights.Run.ends (F := Bits) m g)

/-- the reference's likewise; -/
theorem frame_ref : Cert.quiescent_GatherWeightsRef (hGatherWeightsRef := Cert.GatherWeightsRef.Gen.facts) := fun m g _ =>
  (θ_run _ _ _).mono (fun _ h => ⟨fun c => (h c).2.2, sem_eq_zero_of_no_sems (by decide) _⟩) (Cert.GatherWeightsRef.Value.run (F := Bits) m g)

/-- and every device's results are what the reference returns, bit for bit. -/
theorem same : Cert.bitexact_GatherWeights_GatherWeightsRef (hGatherWeights := Cert.GatherWeights.Gen.facts) (hGatherWeightsRef := Cert.GatherWeightsRef.Gen.facts) := fun m g m' g' _ hm =>
  ⟨_, _,
    (θ_run _ _ _).mono (fun _ h c =>
      ⟨(h.1 c).1.trans (Cert.GatherWeights.Run.whole0_eq m _ (fun d => (hm d).1) c), (h.1 c).2.1.trans (Cert.GatherWeights.Run.whole1_eq m _ (fun d => (hm d).2) c), (h.1 c).2.2⟩)
      (Cert.GatherWeights.Run.ends (F := Bits) m g),
    (θ_run _ _ _).mono (fun _ h => h 0) (Cert.GatherWeightsRef.Value.run (F := Bits) m' g')⟩

end Cert.Proof.GatherWeights

end
-- ==== Proof.Sum.Parts.lean ====
/-
  Sums of the slices of a stack of arrays: a slice of a stack, as the kernels' bodies load it and as the host cuts it out,
  and the two sums the kernels take, element by element and in the order they take them. What a body does to its block is
  the sum of its block; what the host does to the whole stack is the same sum of the stack.
-/
module

public import Idealize.ShloMosaic.PureOps
public import Idealize.ShloMosaic.Lib.StableHlo
public import Idealize.ShloMosaic.Lib.Pipeline.Value

@[expose] public section

noncomputable section

namespace Cert.Sum

open Idealize.ShloMosaic

variable {F : FTy → Type} [FloatOps F] {n N : ℕ} {d : Fin n → ℕ} {α : Type}

/-- A stack of `N` arrays of one shape. -/
abbrev stack (N : ℕ) (d : Fin n → ℕ) : Shape := ⟨n + 1, Matrix.vecCons N d⟩

/-- Where element `i` of the `k`-th array lies in the stack. -/
abbrev place (k : Fin N) (i : (⟨n, d⟩ : Shape).Idx) : (stack N d).Idx := Fin.cons k i

/-- The `k`-th array of a stack. -/
abbrev part (k : Fin N) (x : (stack N d).Idx → α) : (⟨n, d⟩ : Shape).Idx → α := fun i => x (place k i)

/-- The host's slice of a stack, its leading axis dropped, is the array of that number, -/
theorem cut_eq (k : Fin N) (x : (stack N d).Idx → α) (off : Fin (n + 1) → ℕ) (hs : (stack N d).Slices off (stack 1 d))
    (hc : (stack 1 d).ShapeCasts ⟨n, d⟩) (h0 : off 0 = k.val) (h : ∀ a : Fin n, off a.succ = 0) :
    shapeCast ⟨n, d⟩ (extractStridedSlice (stack 1 d) off x hs) hc = part k x := by
  funext i
  rw [shapeCast_dropUnit_apply]
  refine extractStridedSlice_apply off x hs _ _ fun a => ?_
  refine Fin.cases ?_ (fun a => ?_) a
  · show k.val = off 0 + 0
    omega
  · show (i a).val = off a.succ + (i a).val
    rw [h a]; omega

/-- and so is a body's load of it. -/
theorem load_eq {e : EltTy} (k : Fin N) (x : (stack N d).Idx → Elt F e) (off : Fin (n + 1) → ℕ)
    (inb : ∀ a, off a + (Matrix.vecCons 1 d : Fin (n + 1) → ℕ) a ≤ (stack N d).size a)
    (hc : (stack 1 d).ShapeCasts ⟨n, d⟩) (h0 : off 0 = k.val) (h : ∀ a : Fin n, off a.succ = 0) :
    shapeCast ⟨n, d⟩ (View.ld (Val := Elt F) (e' := e) x (Rect.unit (s := stack N d) off (Matrix.vecCons 1 d) inb)) hc
      = part k x := by
  funext i
  rw [shapeCast_dropUnit_apply]
  refine congrArg x (funext fun a => Fin.ext ?_)
  refine Fin.cases ?_ (fun a => ?_) a
  · show off 0 + 1 * 0 = k.val
    omega
  · show off a.succ + 1 * (i a).val = (i a).val
    rw [h a]; omega

/-- The sum of eight arrays, the first two first. -/
def ofEight (x : FVec F (stack 8 d) .f32) : FVec F ⟨n, d⟩ .f32 :=
  addf (addf (addf (addf (addf (addf (addf (part 0 x) (part 1 x)) (part 2 x)) (part 3 x)) (part 4 x)) (part 5 x))
    (part 6 x)) (part 7 x)

/-- Eight arrays that are the parts of a stack add up to its sum. -/
theorem ofEight_of {x : FVec F (stack 8 d) .f32} {a0 a1 a2 a3 a4 a5 a6 a7 : FVec F ⟨n, d⟩ .f32}
    (h : ∀ k : Fin 8, ![a0, a1, a2, a3, a4, a5, a6, a7] k = part k x) :
    addf (addf (addf (addf (addf (addf (addf a0 a1) a2) a3) a4) a5) a6) a7 = ofEight x := by
  obtain rfl : a0 = _ := h 0
  obtain rfl : a1 = _ := h 1
  obtain rfl : a2 = _ := h 2
  obtain rfl : a3 = _ := h 3
  obtain rfl : a4 = _ := h 4
  obtain rfl : a5 = _ := h 5
  obtain rfl : a6 = _ := h 6
  obtain rfl : a7 = _ := h 7
  rfl

/-- An array of f32 numbers with three of bf16 added to it, one after another. -/
def withThree (o : FVec F ⟨n, d⟩ .f32) (x : FVec F (stack 3 d) .bf16) : FVec F ⟨n, d⟩ .f32 :=
  addf (addf (addf o (extf .f32 (part 0 x) (by decide))) (extf .f32 (part 1 x) (by decide))) (extf .f32 (part 2 x) (by decide))

/-- An array and three more that are the parts of a stack add up to its sum. -/
theorem withThree_of {o : FVec F ⟨n, d⟩ .f32} {x : FVec F (stack 3 d) .bf16} {a0 a1 a2 : FVec F ⟨n, d⟩ .bf16}
    (w : FTy.bf16.bits < FTy.f32.bits) (h : ∀ k : Fin 3, ![a0, a1, a2] k = part k x) :
    addf (addf (addf o (extf .f32 a0 w)) (extf .f32 a1 w)) (extf .f32 a2 w) = withThree o x := by
  obtain rfl : a0 = _ := h 0
  obtain rfl : a1 = _ := h 1
  obtain rfl : a2 = _ := h 2
  rfl

/-- The sum of some places of the stack is those places of the sum. -/
theorem ofEight_at {d' : Fin n → ℕ} (x : FVec F (stack 8 d) .f32) (f : (stack 8 d').Idx → (stack 8 d).Idx)
    (e : (⟨n, d'⟩ : Shape).Idx → (⟨n, d⟩ : Shape).Idx) (h : ∀ k i, f (place k i) = place k (e i)) :
    ofEight (fun i => x (f i)) = fun i => ofEight x (e i) := by
  funext i
  simp only [ofEight, addf, part, h]

@[inherit_doc ofEight_at]
theorem withThree_at {d' : Fin n → ℕ} (o : FVec F ⟨n, d⟩ .f32) (x : FVec F (stack 3 d) .bf16)
    (f : (stack 3 d').Idx → (stack 3 d).Idx) (e : (⟨n, d'⟩ : Shape).Idx → (⟨n, d⟩ : Shape).Idx)
    (h : ∀ k i, f (place k i) = place k (e i)) :
    withThree (fun i => o (e i)) (fun i => x (f i)) = fun i => withThree o x (e i) := by
  funext i
  simp only [withThree, addf, extf, part, h]

end Cert.Sum

end
-- ==== Proof.SumSmall.lean ====
/-
  The sum over the eight devices of the gradients of the small weights: the kernel leaves the sum of the eight gathered
  arrays, added in the devices' order.
-/
module

public import proofs.«01_k».proof.Defs
public import proofs.«01_k».proof.Proof.Gen.SumSmall.Value
public import proofs.«01_k».proof.Proof.Gen.SumSmallRef.Run
public import proofs.«01_k».proof.Proof.Sum.Parts
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.SumSmall.Summed

open Cert.SumSmall Cert.SumSmall.Gen

variable {F : FTy → Type} [FloatOps F] (m : (ℓ : Loc nD τ sig) → Buf (Elt F) ℓ) (c : Dev nD)

/-- What the body leaves in the result's buffer: the sum of the eight parts of its block. -/
theorem leaves (x : Vec F S8x96x1024 .f32) : out0_1 x = Sum.ofEight (d := ![96, 1024]) x := by
  unfold out0_1
  rw [View.canon_unit_zero (S := S96x1024) (by decide)]
  unfold k0_pay1
  exact Sum.ofEight_of fun k => by
    match k with
    | 0 | 1 | 2 | 3 | 4 | 5 | 6 | 7 => exact Sum.load_eq (d := ![96, 1024]) _ x _ _ _ rfl (by decide)

/-- Where the two blocks of a point begin. -/
theorem starts : ∀ t : Fin cfg0.N, win0_0.index t = ![0, t.val, 0] ∧ win0_1.index t = ![t.val, 0] :=
  (by decide +kernel : ∀ t : Fin grid0.N, _)

/-- The result after the run is the sum of the argument's eight parts: each point writes its own rows of it, and the
    points' rows are all rows. -/
theorem results : (dats m 0 c).arrAt 1 cfg0.N = Sum.ofEight (d := ![288, 1024]) (m ((c : Thread nD τ).loc main_arg0)) := by
  refine ((dats m 0 c).arrAt_eq_of_cover 1 (Sum.ofEight (d := ![288, 1024]) (V m c main_arg0)) (fun t _ =>
    (Value.flushed1 m c t).trans ?_) ((by decide +kernel : (cfg0.win 1).Covers).cover _ (Memref.isWhole_whole _))).trans
    (by rw [V_main_arg0])
  rw [leaves (iblk m c 0 t)]
  refine Sum.ofEight_at (d' := ![96, 1024]) (d := ![288, 1024]) (V m c main_arg0) ((cfg0.win 0).blk t).view.emb
    ((cfg0.win 1).blk t).view.emb fun k i => funext fun a => Fin.ext ?_
  obtain ⟨e0, e1⟩ := starts t
  match a with
  | 0 => exact (win0_0.rect_emb_val t _ 0).trans (by rw [e0]; exact Nat.zero_add _)
  | 1 => exact ((win0_0.rect_emb_val t _ 1).trans (by rw [e0, e1]; rfl)).trans (win0_1.rect_emb_val t i 0).symm
  | 2 => exact ((win0_0.rect_emb_val t _ 2).trans (by rw [e0, e1]; rfl)).trans (win0_1.rect_emb_val t i 1).symm

end Cert.SumSmall.Summed

namespace Cert.SumSmall.Summed

/-- Every run of the kernel ends with the argument unchanged and every semaphore at zero, -/
theorem frame : Cert.quiescent_SumSmall (hSumSmall := Cert.SumSmall.Gen.facts) := fun m g _ => Cert.SumSmall.Gen.frame m g

/-- so does every run of the reference; -/
theorem frame_ref : Cert.quiescent_SumSmallRef (hSumSmallRef := Cert.SumSmallRef.Gen.facts) := fun m g _ =>
  (θ_run _ _ _).mono (fun _ h => ⟨fun c => (h c).2, sem_eq_zero_of_no_sems (by decide) _⟩) (Cert.SumSmallRef.Value.run m g)

/-- kernel and reference leave the same array. -/
theorem same : Cert.bitexact_SumSmall_SumSmallRef
    (hSumSmall := Cert.SumSmall.Gen.facts) (hSumSmallRef := Cert.SumSmallRef.Gen.facts) := by
  intro m g m' g' _ hm
  refine ⟨fun c => (Cert.SumSmall.Gen.dats m 0 c).arrAt 1 Cert.SumSmall.cfg0.N,
    Cert.SumSmall.Value.run_blocks m g, (θ_run _ _ _).mono ?_ (Cert.SumSmallRef.Value.run m' g')⟩
  intro r h c
  refine ⟨(h c).1.trans (Eq.trans ?_ (results m c).symm), (h c).2⟩
  rw [hm c]
  exact Sum.ofEight_of fun k => by
    match k with
    | 0 | 1 | 2 | 3 | 4 | 5 | 6 | 7 => exact Sum.cut_eq (d := ![288, 1024]) _ _ _ (by decide) (by decide) rfl (by decide)

end Cert.SumSmall.Summed

end
-- ==== Proof.ChipsWide.lean ====
/-
  The sum over the four chips of the gradients of a device's part of the eight wide matrices: the kernel adds to a device's own part the
  three parts that came from the other chips, in the order they are stacked, each widened to f32 first.
-/
module

public import proofs.«01_k».proof.Defs
public import proofs.«01_k».proof.Proof.Gen.ChipsWide.Value
public import proofs.«01_k».proof.Proof.Gen.ChipsWideRef.Run
public import proofs.«01_k».proof.Proof.Sum.Parts
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.ChipsWide.Summed

open Cert.ChipsWide Cert.ChipsWide.Gen

variable {F : FTy → Type} [FloatOps F] (m : (ℓ : Loc nD τ sig) → Buf (Elt F) ℓ) (c : Dev nD)

/-- The body's casts between a block, a slice of its stack of three, and the matrix in them. -/
abbrev whole (x : Vec F S1x1024x704 .f32) : Vec F S1024x704 .f32 := shapeCast S1024x704 x shapeCasts_S1x1024x704_S1024x704

@[inherit_doc whole]
abbrev piece (x : Vec F S1x1x1024x704 .bf16) : Vec F S1024x704 .bf16 := shapeCast S1024x704 x shapeCasts_S1x1x1024x704_S1024x704

@[inherit_doc whole]
abbrev inner {e : EltTy} (x : Vec F S1024x704 e) : Vec F S1x1024x704 e := shapeCast S1x1024x704 x shapeCasts_S1024x704_S1x1024x704

/-- What the body leaves in the result's buffer: the sum of its two blocks. -/
theorem leaves (o : Vec F S1x1024x704 .f32) (x : Vec F S3x1x1024x704 .bf16) :
    out0_2 o x = Sum.withThree (d := ![1, 1024, 704]) o x := by
  unfold out0_2
  rw [View.canon_unit_zero (S := S1x1024x704) (by decide), View.ld_unit_zero (S := S1x1024x704) (by decide)]
  have w : FTy.bf16.bits < FTy.f32.bits := by decide
  refine (rfl : _ = addf (addf (addf (inner (whole o)) (extf .f32 (inner (piece (View.ld x r0_1))) w))
    (extf .f32 (inner (piece (View.ld x r0_2))) w)) (extf .f32 (inner (piece (View.ld x r0_3))) w)).trans ?_
  rw [show inner (whole o) = o from shapeCast_shapeCast _ _ _]
  exact Sum.withThree_of w fun k => by
    match k with
    | 0 | 1 | 2 => exact (shapeCast_comp _ _ _).trans (Sum.load_eq (d := ![1, 1024, 704]) _ x _ _ (by decide) rfl (by decide))

/-- Where the three blocks of a point begin. -/
theorem starts : ∀ t : Fin cfg0.N, win0_0.index t = ![t.val, 0, 0] ∧ win0_1.index t = ![0, t.val, 0, 0]
    ∧ win0_2.index t = ![t.val, 0, 0] :=
  (by decide +kernel : ∀ t : Fin grid0.N, _)

/-- The result after the run is the sum of the two arguments: each point writes its own slice of it, and the points'
    slices are all of it. -/
theorem results : (dats m 0 c).arrAt 2 cfg0.N = Sum.withThree (d := ![8, 1024, 704])
    (m ((c : Thread nD τ).loc main_arg0)) (m ((c : Thread nD τ).loc main_arg1)) := by
  refine ((dats m 0 c).arrAt_eq_of_cover 2 (Sum.withThree (d := ![8, 1024, 704]) (V m c main_arg0) (V m c main_arg1))
    (fun t _ => (Value.flushed2 m c t).trans ?_) ((by decide +kernel : (cfg0.win 2).Covers).cover _ (Memref.isWhole_whole _))).trans
    (by rw [V_main_arg0, V_main_arg1])
  rw [leaves (iblk m c 0 t) (iblk m c 1 t)]
  refine Sum.withThree_at (d' := ![1, 1024, 704]) (d := ![8, 1024, 704]) (V m c main_arg0) (V m c main_arg1)
    ((cfg0.win 1).blk t).view.emb ((cfg0.win 2).blk t).view.emb fun k i => funext fun a => Fin.ext ?_
  obtain ⟨-, e1, e2⟩ := starts t
  match a with
  | 0 => exact (win0_1.rect_emb_val t _ 0).trans (by rw [e1]; exact Nat.zero_add _)
  | 1 => exact ((win0_1.rect_emb_val t _ 1).trans (by rw [e1, e2]; rfl)).trans (win0_2.rect_emb_val t i 0).symm
  | 2 => exact ((win0_1.rect_emb_val t _ 2).trans (by rw [e1, e2]; rfl)).trans (win0_2.rect_emb_val t i 1).symm
  | 3 => exact ((win0_1.rect_emb_val t _ 3).trans (by rw [e1, e2]; rfl)).trans (win0_2.rect_emb_val t i 2).symm

/-- Every run of the kernel ends with the arguments unchanged and every semaphore at zero, -/
theorem frame : Cert.quiescent_ChipsWide (hChipsWide := Cert.ChipsWide.Gen.facts) := fun m g _ => Cert.ChipsWide.Gen.frame m g

/-- so does every run of the reference; -/
theorem frame_ref : Cert.quiescent_ChipsWideRef (hChipsWideRef := Cert.ChipsWideRef.Gen.facts) := fun m g _ =>
  (θ_run _ _ _).mono (fun _ h => ⟨fun c => (h c).2, sem_eq_zero_of_no_sems (by decide) _⟩) (Cert.ChipsWideRef.Value.run m g)

/-- kernel and reference leave the same array. -/
theorem same : Cert.bitexact_ChipsWide_ChipsWideRef (hChipsWide := Cert.ChipsWide.Gen.facts) (hChipsWideRef := Cert.ChipsWideRef.Gen.facts) := by
  intro m g m' g' _ hm
  refine ⟨fun c => (Cert.ChipsWide.Gen.dats m 0 c).arrAt 2 Cert.ChipsWide.cfg0.N,
    Cert.ChipsWide.Value.run_blocks m g, (θ_run _ _ _).mono ?_ (Cert.ChipsWideRef.Value.run m' g')⟩
  intro r h c
  refine ⟨(h c).1.trans (Eq.trans ?_ (results m c).symm), (h c).2⟩
  rw [(hm c).1, (hm c).2]
  exact Sum.withThree_of _ fun k => by
    match k with
    | 0 | 1 | 2 => exact Sum.cut_eq (d := ![8, 1024, 704]) _ _ _ (by decide) (by decide) rfl (by decide)

end Cert.ChipsWide.Summed

end
-- ==== Proof.ChipsRows.lean ====
/-
  The sum over the four chips of the gradients of the other matrices: the kernel adds to a device's own part the
  three parts that came from the other chips, in the order they are stacked, each widened to f32 first.
-/
module

public import proofs.«01_k».proof.Defs
public import proofs.«01_k».proof.Proof.Gen.ChipsRows.Value
public import proofs.«01_k».proof.Proof.Gen.ChipsRowsRef.Run
public import proofs.«01_k».proof.Proof.Sum.Parts
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.ChipsRows.Summed

open Cert.ChipsRows Cert.ChipsRows.Gen

variable {F : FTy → Type} [FloatOps F] (m : (ℓ : Loc nD τ sig) → Buf (Elt F) ℓ) (c : Dev nD)

/-- The body's casts between a block, a slice of its stack of three, and the matrix in them. -/
abbrev whole (x : Vec F S1x512x1024 .f32) : Vec F S512x1024 .f32 := shapeCast S512x1024 x shapeCasts_S1x512x1024_S512x1024

@[inherit_doc whole]
abbrev piece (x : Vec F S1x1x512x1024 .bf16) : Vec F S512x1024 .bf16 := shapeCast S512x1024 x shapeCasts_S1x1x512x1024_S512x1024

@[inherit_doc whole]
abbrev inner {e : EltTy} (x : Vec F S512x1024 e) : Vec F S1x512x1024 e := shapeCast S1x512x1024 x shapeCasts_S512x1024_S1x512x1024

/-- What the body leaves in the result's buffer: the sum of its two blocks. -/
theorem leaves (o : Vec F S1x512x1024 .f32) (x : Vec F S3x1x512x1024 .bf16) :
    out0_2 o x = Sum.withThree (d := ![1, 512, 1024]) o x := by
  unfold out0_2
  rw [View.canon_unit_zero (S := S1x512x1024) (by decide), View.ld_unit_zero (S := S1x512x1024) (by decide)]
  have w : FTy.bf16.bits < FTy.f32.bits := by decide
  refine (rfl : _ = addf (addf (addf (inner (whole o)) (extf .f32 (inner (piece (View.ld x r0_1))) w))
    (extf .f32 (inner (piece (View.ld x r0_2))) w)) (extf .f32 (inner (piece (View.ld x r0_3))) w)).trans ?_
  rw [show inner (whole o) = o from shapeCast_shapeCast _ _ _]
  exact Sum.withThree_of w fun k => by
    match k with
    | 0 | 1 | 2 => exact (shapeCast_comp _ _ _).trans (Sum.load_eq (d := ![1, 512, 1024]) _ x _ _ (by decide) rfl (by decide))

/-- Where the three blocks of a point begin. -/
theorem starts : ∀ t : Fin cfg0.N, win0_0.index t = ![t.val, 0, 0] ∧ win0_1.index t = ![0, t.val, 0, 0]
    ∧ win0_2.index t = ![t.val, 0, 0] :=
  (by decide +kernel : ∀ t : Fin grid0.N, _)

/-- The result after the run is the sum of the two arguments: each point writes its own slice of it, and the points'
    slices are all of it. -/
theorem results : (dats m 0 c).arrAt 2 cfg0.N = Sum.withThree (d := ![10, 512, 1024])
    (m ((c : Thread nD τ).loc main_arg0)) (m ((c : Thread nD τ).loc main_arg1)) := by
  refine ((dats m 0 c).arrAt_eq_of_cover 2 (Sum.withThree (d := ![10, 512, 1024]) (V m c main_arg0) (V m c main_arg1))
    (fun t _ => (Value.flushed2 m c t).trans ?_) ((by decide +kernel : (cfg0.win 2).Covers).cover _ (Memref.isWhole_whole _))).trans
    (by rw [V_main_arg0, V_main_arg1])
  rw [leaves (iblk m c 0 t) (iblk m c 1 t)]
  refine Sum.withThree_at (d' := ![1, 512, 1024]) (d := ![10, 512, 1024]) (V m c main_arg0) (V m c main_arg1)
    ((cfg0.win 1).blk t).view.emb ((cfg0.win 2).blk t).view.emb fun k i => funext fun a => Fin.ext ?_
  obtain ⟨-, e1, e2⟩ := starts t
  match a with
  | 0 => exact (win0_1.rect_emb_val t _ 0).trans (by rw [e1]; exact Nat.zero_add _)
  | 1 => exact ((win0_1.rect_emb_val t _ 1).trans (by rw [e1, e2]; rfl)).trans (win0_2.rect_emb_val t i 0).symm
  | 2 => exact ((win0_1.rect_emb_val t _ 2).trans (by rw [e1, e2]; rfl)).trans (win0_2.rect_emb_val t i 1).symm
  | 3 => exact ((win0_1.rect_emb_val t _ 3).trans (by rw [e1, e2]; rfl)).trans (win0_2.rect_emb_val t i 2).symm

/-- Every run of the kernel ends with the arguments unchanged and every semaphore at zero, -/
theorem frame : Cert.quiescent_ChipsRows (hChipsRows := Cert.ChipsRows.Gen.facts) := fun m g _ => Cert.ChipsRows.Gen.frame m g

/-- so does every run of the reference; -/
theorem frame_ref : Cert.quiescent_ChipsRowsRef (hChipsRowsRef := Cert.ChipsRowsRef.Gen.facts) := fun m g _ =>
  (θ_run _ _ _).mono (fun _ h => ⟨fun c => (h c).2, sem_eq_zero_of_no_sems (by decide) _⟩) (Cert.ChipsRowsRef.Value.run m g)

/-- kernel and reference leave the same array. -/
theorem same : Cert.bitexact_ChipsRows_ChipsRowsRef (hChipsRows := Cert.ChipsRows.Gen.facts) (hChipsRowsRef := Cert.ChipsRowsRef.Gen.facts) := by
  intro m g m' g' _ hm
  refine ⟨fun c => (Cert.ChipsRows.Gen.dats m 0 c).arrAt 2 Cert.ChipsRows.cfg0.N,
    Cert.ChipsRows.Value.run_blocks m g, (θ_run _ _ _).mono ?_ (Cert.ChipsRowsRef.Value.run m' g')⟩
  intro r h c
  refine ⟨(h c).1.trans (Eq.trans ?_ (results m c).symm), (h c).2⟩
  rw [(hm c).1, (hm c).2]
  exact Sum.withThree_of _ fun k => by
    match k with
    | 0 | 1 | 2 => exact Sum.cut_eq (d := ![10, 512, 1024]) _ _ _ (by decide) (by decide) rfl (by decide)

end Cert.ChipsRows.Summed

end
-- ==== Proof.Sum.Sibling.lean ====
/-
  What the two sums over the cores of a chip share: the choice by a compared word, the core of a device, a buffer that is
  written at one of every four points and kept at the others, and which device a row of the whole arrays belongs to.
-/
module

public import proofs.«01_k».proof.Defs

@[expose] public section

noncomputable section

open Idealize.ShloMosaic Idealize.SL.Sem

namespace Cert.Sum

/-- The half a device's core reduces, and the part of its chip. -/
abbrev half (c : Dev 8) : Fin 2 := ⟨c.val % 2, Nat.mod_lt _ (by decide)⟩

@[inherit_doc half]
abbrev chip (c : Dev 8) : Fin 4 := ⟨c.val / 2, by have h : c.val < 8 := c.isLt; omega⟩

/-- A choice by whether two words are the same. -/
theorem select_eq {α : Type} (a b : BitVec 32) (x y : α) : Scalar.select (Scalar.cmpi .eq a b) x y = if a = b then x else y := by
  by_cases k : a = b
  · rw [if_pos k, k]
    show Scalar.select (BitVec.ofBool (b == b)) _ _ = _
    rw [beq_self_eq_true]; rfl
  · rw [if_neg k]
    show Scalar.select (BitVec.ofBool (a == b)) _ _ = _
    rw [beq_eq_false_iff_ne.mpr k]; rfl

/-- The body's test of a device's core. -/
theorem core_zero : ∀ c : Dev 8, Scalar.remsi (Scalar.divsi (Dev.word c) 1#32) 2#32 = 0#32 ↔ c.val % 2 = 0 := by decide

/-- A buffer that a point of `k` modulo 4 writes, and the later ones of the four leave, holds from there on what was written. -/
theorem kept {α : Type} {N k : Nat} (f : (n : Nat) → n < N → α) (s : Nat → α) (writes : ∀ n h, n % 4 = k → f n h = s (n / 4))
    (stays : ∀ n h, k < (n + 1) % 4 → f (n + 1) h = f n (Nat.lt_of_succ_lt h)) : ∀ n h, k ≤ n % 4 → f n h = s (n / 4)
  | 0, h, l => writes 0 h (Nat.le_zero.mp l).symm
  | n + 1, h, l => by
    by_cases e : (n + 1) % 4 = k
    · exact writes _ h e
    · rw [stays n h (by omega), kept f s writes stays n _ (by omega), show n / 4 = (n + 1) / 4 by omega]

/-- A choice of one of two, or of four, by the number it is for. -/
theorem pick2 {α : Type} (q : Fin 2) (f : Fin 2 → α) : Scalar.select (Scalar.cmpi .eq (BitVec.ofNat 32 q.val) 0#32) (f 0) (f 1) = f q :=
  match q with
  | 0 | 1 => rfl

@[inherit_doc pick2]
theorem pick4 {α : Type} (k : Fin 4) (f : Fin 4 → α) : Scalar.select (Scalar.cmpi .eq (BitVec.ofNat 32 k.val) 0#32) (f 0)
    (Scalar.select (Scalar.cmpi .eq (BitVec.ofNat 32 k.val) 1#32) (f 1)
      (Scalar.select (Scalar.cmpi .eq (BitVec.ofNat 32 k.val) 2#32) (f 2) (f 3))) = f k :=
  match k with
  | 0 | 1 | 2 | 3 => rfl

/-- The row of the whole arrays of part `p` of the device on core `q` of chip `k`; -/
abbrev row (k : Fin 4) (q : Fin 2) (p : Fin 4) : Fin 32 := ⟨(k.val * 2 + q.val) * 4 + p.val, by omega⟩

/-- on a device, its rows in order. -/
theorem row_of (c : Dev 8) (p : Fin 4) : c.val * 4 + p.val = (row (chip c) (half c) p).val := by
  have h : c.val < 8 := c.isLt
  show c.val * 4 + p.val = (c.val / 2 * 2 + c.val % 2) * 4 + p.val
  omega

end Cert.Sum

end
-- ==== Proof.SiblingWide.lean ====
/-
  The sum over the two cores of a chip of the gradients of a device's part of the eight wide matrices: a device adds to its own partial
  sums of the half it reduces those of the chip's other core, chip by chip of the four the parts are for, and keeps the sum of
  its own chip's part unrounded beside the four rounded to bf16.
-/
module

public import proofs.«01_k».proof.Defs
public import proofs.«01_k».proof.Proof.Gen.SiblingWide.Value
public import proofs.«01_k».proof.Proof.Gen.SiblingWideRef.Run
public import proofs.«01_k».proof.Proof.Talk.Part
public import proofs.«01_k».proof.Proof.Sum.Sibling
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.SiblingWide.Summed

open Cert.SiblingWide Cert.SiblingWide.Gen Cert.Sum

variable {F : FTy → Type} [FloatOps F] (m : (ℓ : Loc nD τ sig) → Buf (Elt F) ℓ) (c : Dev nD)

/-- An element of a device's sums: its own partial sum and its sibling's. -/
def total (p : Fin 4) (e : Fin 8) (r : Fin 1024) (w : Fin 704) : F .f32 :=
  FloatOps.addf (m ((c : Thread nD τ).loc main_arg0) (ix5 p (half c) e r w)) (m ((c : Thread nD τ).loc main_arg1) (ix4 p e r w))

/-- What the body adds, from its three blocks: the block of the device's half, and the sibling's. -/
theorem adds (x0 x1 : Vec F S1x1x1x1024x704 .f32) (x2 : Vec F S1x1x1024x704 .f32) (r : Fin 1024) (w : Fin 704) :
    k0_pay2 c x0 x1 x2 (ix2 r w)
      = FloatOps.addf (if c.val % 2 = 0 then x0 (ix5 0 0 0 r w) else x1 (ix5 0 0 0 r w)) (x2 (ix4 0 0 r w)) := by
  pointwise [k0_pay2]
  rw [select_eq]
  simp only [core_zero c]

/-- What it leaves in the second result's buffer: the sum at the point of the device's own chip, elsewhere what it found. -/
theorem keeps (a b : BitVec 32) (s : FVec F S1024x704 .f32) (o : Vec F S1x1024x704 .f32) (r : Fin 1024) (w : Fin 704) :
    k0_pay1 a b s o (ix3 0 r w) = if a = b then s (ix2 r w) else o (ix3 0 r w) := by
  pointwise [k0_pay1]
  exact select_eq a b _ _

/-- Where the blocks of a point begin. -/
theorem starts : ∀ t : Fin cfg0.N, win0_0.index t = ![t.val % 4, 0, t.val / 4, 0, 0]
    ∧ win0_1.index t = ![t.val % 4, 1, t.val / 4, 0, 0] ∧ win0_2.index t = ![t.val % 4, t.val / 4, 0, 0]
    ∧ win0_3.index t = ![t.val % 4, t.val / 4, 0, 0] ∧ win0_4.index t = ![t.val / 4, 0, 0] :=
  (by decide +kernel : ∀ t : Fin grid0.N, _)

/-- The points are fewer than four for each of the 8 matrices. -/
theorem few (t : Fin cfg0.N) : t.val < 4 * 8 := t.isLt

/-- The matrix and the part a point works on. -/
abbrev mat (t : Fin cfg0.N) : Fin 8 := ⟨t.val / 4, by have h := few t; omega⟩

@[inherit_doc mat]
abbrev part (t : Fin cfg0.N) : Fin 4 := ⟨t.val % 4, Nat.mod_lt _ (by decide)⟩

/-- What the body adds at a point. -/
abbrev added (t : Fin cfg0.N) : FVec F S1024x704 .f32 := k0_pay2 c (iblk m c 0 t) (iblk m c 1 t) (iblk m c 2 t)

theorem added_at (t : Fin cfg0.N) (r : Fin 1024) (w : Fin 704) : added m c t (ix2 r w) = total m c (part t) (mat t) r w := by
  obtain ⟨e0, e1, e2, -, -⟩ := starts t
  refine (adds c _ _ _ r w).trans (congr (congrArg FloatOps.addf ?_) ?_)
  · have hc : c.val < 8 := c.isLt
    by_cases k : c.val % 2 = 0
    · rw [if_pos k]
      refine congrArg (m ((c : Thread nD τ).loc main_arg0)) ?_
      blk_ext [e0]
    · rw [if_neg k]
      refine congrArg (m ((c : Thread nD τ).loc main_arg0)) ?_
      blk_ext [e1]
  · refine congrArg (m ((c : Thread nD τ).loc main_arg1)) ?_
    blk_ext [e2]

/-- What a point leaves in the first result's buffer: its sums, rounded. -/
theorem leaves (t : Fin cfg0.N) (r : Fin 1024) (w : Fin 704) :
    (outsAt0 m c t.val t.isLt).1 (ix4 0 0 r w) = FloatOps.truncf .bf16 bitsLt_bf16_f32 (total m c (part t) (mat t) r w) := by
  rw [← added_at]
  have h : (outsAt0 m c t.val t.isLt).1 = k0_pay3 c (iblk m c 0 t) (iblk m c 1 t) (iblk m c 2 t) := by
    by_cases h : t.val % 4 = 0
    · rw [outsAt0_A m c t h]; frame_out
    · rw [outsAt0_B m c t h]; frame_out
  rw [h]
  pointwise [k0_pay3]

/-- The chip and the part as the body computes them. -/
theorem words (t : Fin cfg0.N) : (BitVec.ofNat 32 (grid0.coords t 1).val
    = Scalar.addi (Scalar.muli 2#32 (Scalar.remsi (Scalar.divsi (BitVec.ofNat 32 c.val) 4#32) 2#32))
        (Scalar.remsi (Scalar.divsi (BitVec.ofNat 32 c.val) 2#32) 2#32)) ↔ part t = chip c :=
  by revert c t; decide +kernel

/-- What a point from its own chip's on leaves in the second result's buffer: the sums of that chip's part, unrounded. -/
theorem holds (r : Fin 1024) (w : Fin 704) (t : Fin cfg0.N) (l : c.val / 2 ≤ t.val % 4) :
    (outsAt0 m c t.val t.isLt).2 (ix3 0 r w) = total m c (chip c) (mat t) r w := by
  have few' : t.val < 4 * 8 := few t
  refine (kept (fun n h => (outsAt0 m c n h).2 (ix3 0 r w)) (fun e => if h : e < 8 then total m c (chip c) ⟨e, h⟩ r w else
    (outsAt0 m c t.val t.isLt).2 (ix3 0 r w)) (fun n h k => ?_) (fun n h k => ?_) t.val t.isLt l).trans (dif_pos (by omega))
  · have f : n < 4 * 8 := few ⟨n, h⟩
    have e : part ⟨n, h⟩ = chip c := Fin.ext k
    rw [dif_pos (by omega), ← e]
    refine Eq.trans ?_ (added_at m c ⟨n, h⟩ r w)
    by_cases z : n % 4 = 0
    · rw [outsAt0_A m c ⟨n, h⟩ z]
      frame_out
      rw [keeps, if_pos ((words c _).mpr e)]
    · rw [outsAt0_B m c ⟨n, h⟩ z]
      frame_out
      rw [keeps, if_pos ((words c _).mpr e)]
  · rw [outsAt0_B m c ⟨n + 1, h⟩ (by show ¬ (n + 1) % 4 = 0; omega)]
    frame_out
    rw [keeps, if_neg fun e => absurd (congrArg Fin.val ((words c _).mp e)) (Nat.ne_of_gt k)]
    rfl

/-- The first result after the run: the sums, rounded. -/
theorem rounded : (dats m 0 c).arrAt 3 cfg0.N
    = fun i : S4x8x1024x704.Idx => FloatOps.truncf .bf16 bitsLt_bf16_f32 (total m c (i 0) (i 1) (i 2) (i 3)) := by
  refine (dats m 0 c).arrAt_eq_of_covers 3 _ (by decide +kernel) fun t hf y => ?_
  obtain ⟨-, -, -, e3, -⟩ := starts t
  idx_vars y
  obtain rfl := Subsingleton.elim y0 0
  obtain rfl := Subsingleton.elim y1 0
  rw [after0_3]
  refine (leaves m c t y2 y3).trans ?_
  have e : ((cfg0.win 3).blk t).view.emb (ix4 0 0 y2 y3) = (ix4 (part t) (mat t) y2 y3 : S4x8x1024x704.Idx) := by blk_ext [e3]
  rw [e]
  rfl

/-- The second: those of the part of the device's own chip. -/
theorem own : (dats m 0 c).arrAt 4 cfg0.N = fun i : S8x1024x704.Idx => total m c (chip c) (i 0) (i 1) (i 2) := by
  refine (dats m 0 c).arrAt_eq_of_covers 4 _ (by decide +kernel) fun t hf y => ?_
  obtain ⟨-, -, -, -, e4⟩ := starts t
  idx_vars y
  obtain rfl := Subsingleton.elim y0 0
  have hc : c.val < 8 := c.isLt
  have l := (flush0_4 t).mp hf
  rw [after0_4]
  refine (holds m c y1 y2 t (by omega)).trans ?_
  have e : ((cfg0.win 4).blk t).view.emb (ix3 0 y1 y2) = (ix3 (mat t) y1 y2 : S8x1024x704.Idx) := by blk_ext [e4]
  rw [e]
  rfl

end Cert.SiblingWide.Summed

namespace Cert.SiblingWideRef.Value

open Cert.SiblingWideRef.Gen Cert.Sum

variable {F : FTy → Type} [FloatOps F]

/-- The half of the arrays each core reduces, as the reference takes it; -/
def halves (A : S32x2x8x1024x704.Idx → Elt F .f32) : FVec F S4x2x4x8x1024x704 .f32 :=
  select (broadcastInDim S4x2x4x8x1024x704 ![1, 2, 3, 4, 5] bcast_S2x1x1x1x1_S4x2x4x8x1024x704_1_2_3_4_5 (cmpi .eq (shapeCast _ (iotaInDim S2 32 0) shapeCasts_S2_S2x1x1x1x1) (broadcastInDim S2x1x1x1x1 ![] bcast_S_S2x1x1x1x1 (constantI S_ 32 0#32)))) (shapeCast _ (extractStridedSlice S4x2x4x1x8x1024x704 ![0, 0, 0, 0, 0, 0, 0] (shapeCast _ A shapeCasts_S32x2x8x1024x704_S4x2x4x2x8x1024x704) slices_S4x2x4x2x8x1024x704_S4x2x4x1x8x1024x704_0_0_0_0_0_0_0) shapeCasts_S4x2x4x1x8x1024x704_S4x2x4x8x1024x704) (shapeCast _ (extractStridedSlice S4x2x4x1x8x1024x704 ![0, 0, 0, 1, 0, 0, 0] (shapeCast _ A shapeCasts_S32x2x8x1024x704_S4x2x4x2x8x1024x704) slices_S4x2x4x2x8x1024x704_S4x2x4x1x8x1024x704_0_0_0_1_0_0_0) shapeCasts_S4x2x4x1x8x1024x704_S4x2x4x8x1024x704)

set_option maxRecDepth 16384 in
/-- its element on core `q` of chip `k`, for part `p`. -/
theorem halves_at (A : S32x2x8x1024x704.Idx → Elt F .f32) (k : Fin 4) (q : Fin 2) (p : Fin 4)
    (e : Fin 8) (r : Fin 1024) (w : Fin 704) :
    halves A (ix6 k q p e r w) = A (ix5 (row k q p) q e r w) := by
  pointwise [halves]
  rw [show (⟨k.val * 8 + q.val * 4 + p.val, by omega⟩ : Fin 32) = row k q p from Fin.ext (by simp only; omega)]
  generalize row k q p = d
  exact pick2 q fun q => A (ix5 d q e r w)

/-- The reference's sums, by chip, core, part and matrix; -/
def sums (A : S32x2x8x1024x704.Idx → Elt F .f32) (B : S32x8x1024x704.Idx → Elt F .f32) : FVec F S4x2x4x8x1024x704 .f32 :=
  addf (halves A) (shapeCast _ B shapeCasts_S32x8x1024x704_S4x2x4x8x1024x704)

/-- an element of them. -/
theorem sums_at (A : S32x2x8x1024x704.Idx → Elt F .f32) (B : S32x8x1024x704.Idx → Elt F .f32) (k : Fin 4) (q : Fin 2) (p : Fin 4)
    (e : Fin 8) (r : Fin 1024) (w : Fin 704) :
    sums A B (ix6 k q p e r w) = FloatOps.addf (A (ix5 (row k q p) q e r w)) (B (ix4 (row k q p) e r w)) := by
  rw [← halves_at A k q p e r w]
  pointwise [sums]
  rw [show (⟨k.val * 8 + q.val * 4 + p.val, by omega⟩ : Fin 32) = row k q p from Fin.ext (by simp only; omega)]

/-- The reference's first result, of its sums; -/
def first (s : FVec F S4x2x4x8x1024x704 .f32) : FVec F S32x8x1024x704 .bf16 :=
  shapeCast _ (truncf .bf16 s bitsLt_bf16_f32) shapeCasts_S4x2x4x8x1024x704_S32x8x1024x704

set_option maxRecDepth 16384 in
theorem first_at (s : FVec F S4x2x4x8x1024x704 .f32) (k : Fin 4) (q : Fin 2) (p : Fin 4)
    (e : Fin 8) (r : Fin 1024) (w : Fin 704) :
    first s (ix4 (row k q p) e r w) = FloatOps.truncf .bf16 bitsLt_bf16_f32 (s (ix6 k q p e r w)) := by
  pointwise [first]
  refine congrArg (fun i => FloatOps.truncf .bf16 bitsLt_bf16_f32 (s i)) ?_
  rw [show (⟨(row k q p).val / 8, by omega⟩ : Fin 4) = k from Fin.ext (by simp only; omega),
    show (⟨(row k q p).val / 4 % 2, by omega⟩ : Fin 2) = q from Fin.ext (by simp only; omega),
    show (⟨(row k q p).val % 4, by omega⟩ : Fin 4) = p from Fin.ext (by simp only; omega)]

/-- Where the reference's chip is one of the four. -/
abbrev isChip (n : BitVec 32) : IVec S4x2x8x1024x704 1 :=
  broadcastInDim S4x2x8x1024x704 ![0, 1, 2, 3, 4] bcast_S4x1x1x1x1_S4x2x8x1024x704_0_1_2_3_4 (cmpi .eq (shapeCast _ (iotaInDim S4 32 0) shapeCasts_S4_S4x1x1x1x1) (broadcastInDim S4x1x1x1x1 ![] bcast_S_S4x1x1x1x1 (constantI S_ 32 n)))

/-- The sums of one of the four parts. -/
abbrev ofPart (s : FVec F S4x2x4x8x1024x704 .f32) (o : Fin 6 → Nat) (h : S4x2x4x8x1024x704.Slices o S4x2x1x8x1024x704) : FVec F S4x2x8x1024x704 .f32 :=
  shapeCast _ (extractStridedSlice S4x2x1x8x1024x704 o s h) shapeCasts_S4x2x1x8x1024x704_S4x2x8x1024x704

/-- The reference's second result, of its sums: each chip's own part; -/
def second (s : FVec F S4x2x4x8x1024x704 .f32) : FVec F S64x1024x704 .f32 :=
  shapeCast _ (select (isChip 0#32) (ofPart s ![0, 0, 0, 0, 0, 0] slices_S4x2x4x8x1024x704_S4x2x1x8x1024x704_0_0_0_0_0_0)
    (select (isChip 1#32) (ofPart s ![0, 0, 1, 0, 0, 0] slices_S4x2x4x8x1024x704_S4x2x1x8x1024x704_0_0_1_0_0_0)
    (select (isChip 2#32) (ofPart s ![0, 0, 2, 0, 0, 0] slices_S4x2x4x8x1024x704_S4x2x1x8x1024x704_0_0_2_0_0_0)
      (ofPart s ![0, 0, 3, 0, 0, 0] slices_S4x2x4x8x1024x704_S4x2x1x8x1024x704_0_0_3_0_0_0)))) shapeCasts_S4x2x8x1024x704_S64x1024x704

set_option maxRecDepth 16384 in
theorem second_at (s : FVec F S4x2x4x8x1024x704 .f32) (k : Fin 4) (q : Fin 2) (e : Fin 8) (r : Fin 1024) (w : Fin 704)
    (d : Fin 64) (hd : d.val = (k.val * 2 + q.val) * 8 + e.val) :
    second s (ix3 d r w) = s (ix6 k q k e r w) := by
  pointwise [second]
  have h1 : d.val / 16 = k.val := by omega
  have h2 : d.val / 8 % 2 = q.val := by omega
  have h3 : d.val % 8 = e.val := by omega
  simp only [h1, h2, h3]
  exact pick4 k fun p => s (ix6 k q p e r w)

end Cert.SiblingWideRef.Value

namespace Cert.SiblingWide.Summed

open Cert.SiblingWide Cert.SiblingWide.Gen Cert.SiblingWideRef.Value Cert.Sum

variable {F : FTy → Type} [FloatOps F] (m : (ℓ : Loc nD τ sig) → Buf (Elt F) ℓ)
  (A : SiblingWideRef.S32x2x8x1024x704.Idx → Elt F .f32) (B : SiblingWideRef.S32x8x1024x704.Idx → Elt F .f32)
  (hA : ∀ c : Dev nD, m ((c.tc : Thread nD τ).loc main_arg0) = Layout.block S4x2x8x1024x704 SiblingWideRef.S32x2x8x1024x704 0 8 c A)
  (hB : ∀ c : Dev nD, m ((c.tc : Thread nD τ).loc main_arg1) = Layout.block S4x8x1024x704 SiblingWideRef.S32x8x1024x704 0 8 c B)

include hA hB in
/-- A device's sums are those of the reference. -/
theorem total_eq (c : Dev nD) (p : Fin 4) (e : Fin 8) (r : Fin 1024) (w : Fin 704) :
    total m c p e r w = sums A B (ix6 (chip c) (half c) p e r w) := by
  have hc : c.val < 8 := c.isLt
  rw [sums_at A B (chip c) (half c) p e r w]
  unfold total
  rw [hA c, hB c, Layout.block_apply, Layout.block_apply, Talk.tile5 _ c p _ _ _ _ _ (row_of c p).symm,
    Talk.tile4 _ c p _ _ _ _ (row_of c p).symm]

include hA hB in
/-- A device's first result is its block of the reference's. -/
theorem first_eq (c : Dev nD) : (dats m 0 c).arrAt 3 cfg0.N
    = Layout.block S4x8x1024x704 SiblingWideRef.S32x8x1024x704 0 8 c (first (sums A B)) := by
  have hc : c.val < 8 := c.isLt
  refine (rounded m c).trans (funext fun i => ?_)
  idx_vars i
  rw [Layout.block_apply, Talk.tile4 _ c i0 _ _ _ _ (row_of c i0).symm]
  refine Eq.trans ?_ (first_at _ (chip c) (half c) i0 i1 i2 i3).symm
  exact congrArg (FloatOps.truncf .bf16 bitsLt_bf16_f32) (total_eq m A B hA hB c i0 i1 i2 i3)

include hA hB in
/-- So is its second. -/
theorem second_eq (c : Dev nD) : (dats m 0 c).arrAt 4 cfg0.N
    = Layout.block S8x1024x704 SiblingWideRef.S64x1024x704 0 8 c (second (sums A B)) := by
  have hc : c.val < 8 := c.isLt
  refine (own m c).trans (funext fun i => ?_)
  idx_vars i
  rw [Layout.block_apply, Talk.tile3 _ c i0 _ _ ⟨c.val * 8 + i0.val, by omega⟩ rfl]
  refine Eq.trans ?_ (second_at _ (chip c) (half c) i0 i1 i2 _ (by show c.val * 8 + i0.val = (c.val / 2 * 2 + c.val % 2) * 8 + i0.val; omega)).symm
  exact total_eq m A B hA hB c (chip c) i0 i1 i2

/-- Every run of the kernel ends with the arguments unchanged and every semaphore at zero, -/
theorem frame : Cert.quiescent_SiblingWide (hSiblingWide := Cert.SiblingWide.Gen.facts) := fun m g _ => Cert.SiblingWide.Gen.frame m g

/-- so does every run of the reference; -/
theorem frame_ref : Cert.quiescent_SiblingWideRef (hSiblingWideRef := Cert.SiblingWideRef.Gen.facts) := fun m g _ =>
  (θ_run _ _ _).mono (fun _ h => ⟨fun c => (h c).2.2, sem_eq_zero_of_no_sems (by decide) _⟩) (Cert.SiblingWideRef.Value.run m g)

/-- each device's results are its blocks of what the reference returns, bit for bit. -/
theorem same : Cert.bitexact_SiblingWide_SiblingWideRef (hSiblingWide := Cert.SiblingWide.Gen.facts) (hSiblingWideRef := Cert.SiblingWideRef.Gen.facts) := by
  intro m g m' g' _ hm
  have h := fun c => first_eq m _ _ (fun c => (hm c).1) (fun c => (hm c).2) c
  have h' := fun c => second_eq m _ _ (fun c => (hm c).1) (fun c => (hm c).2) c
  exact ⟨_, _, (θ_run _ _ _).mono (fun _ k c => ⟨(k c).1.trans (h c), (k c).2.1.trans (h' c), (k c).2.2⟩) (Cert.SiblingWide.Value.run_blocks m g),
    (θ_run _ _ _).mono (fun _ h => h 0) (Cert.SiblingWideRef.Value.run m' g')⟩

end Cert.SiblingWide.Summed

end
-- ==== Proof.SiblingRows.lean ====
/-
  The sum over the two cores of a chip of the gradients of the other matrices: a device adds to its own partial
  sums of the half it reduces those of the chip's other core, chip by chip of the four the parts are for, and keeps the sum of
  its own chip's part unrounded beside the four rounded to bf16.
-/
module

public import proofs.«01_k».proof.Defs
public import proofs.«01_k».proof.Proof.Gen.SiblingRows.Value
public import proofs.«01_k».proof.Proof.Gen.SiblingRowsRef.Run
public import proofs.«01_k».proof.Proof.Talk.Part
public import proofs.«01_k».proof.Proof.Sum.Sibling
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.SiblingRows.Summed

open Cert.SiblingRows Cert.SiblingRows.Gen Cert.Sum

variable {F : FTy → Type} [FloatOps F] (m : (ℓ : Loc nD τ sig) → Buf (Elt F) ℓ) (c : Dev nD)

/-- An element of a device's sums: its own partial sum and its sibling's. -/
def total (p : Fin 4) (e : Fin 10) (r : Fin 512) (w : Fin 1024) : F .f32 :=
  FloatOps.addf (m ((c : Thread nD τ).loc main_arg0) (ix5 p (half c) e r w)) (m ((c : Thread nD τ).loc main_arg1) (ix4 p e r w))

/-- What the body adds, from its three blocks: the block of the device's half, and the sibling's. -/
theorem adds (x0 x1 : Vec F S1x1x1x512x1024 .f32) (x2 : Vec F S1x1x512x1024 .f32) (r : Fin 512) (w : Fin 1024) :
    k0_pay2 c x0 x1 x2 (ix2 r w)
      = FloatOps.addf (if c.val % 2 = 0 then x0 (ix5 0 0 0 r w) else x1 (ix5 0 0 0 r w)) (x2 (ix4 0 0 r w)) := by
  pointwise [k0_pay2]
  rw [select_eq]
  simp only [core_zero c]

/-- What it leaves in the second result's buffer: the sum at the point of the device's own chip, elsewhere what it found. -/
theorem keeps (a b : BitVec 32) (s : FVec F S512x1024 .f32) (o : Vec F S1x512x1024 .f32) (r : Fin 512) (w : Fin 1024) :
    k0_pay1 a b s o (ix3 0 r w) = if a = b then s (ix2 r w) else o (ix3 0 r w) := by
  pointwise [k0_pay1]
  exact select_eq a b _ _

/-- Where the blocks of a point begin. -/
theorem starts : ∀ t : Fin cfg0.N, win0_0.index t = ![t.val % 4, 0, t.val / 4, 0, 0]
    ∧ win0_1.index t = ![t.val % 4, 1, t.val / 4, 0, 0] ∧ win0_2.index t = ![t.val % 4, t.val / 4, 0, 0]
    ∧ win0_3.index t = ![t.val % 4, t.val / 4, 0, 0] ∧ win0_4.index t = ![t.val / 4, 0, 0] :=
  (by decide +kernel : ∀ t : Fin grid0.N, _)

/-- The points are fewer than four for each of the 10 matrices. -/
theorem few (t : Fin cfg0.N) : t.val < 4 * 10 := t.isLt

/-- The matrix and the part a point works on. -/
abbrev mat (t : Fin cfg0.N) : Fin 10 := ⟨t.val / 4, by have h := few t; omega⟩

@[inherit_doc mat]
abbrev part (t : Fin cfg0.N) : Fin 4 := ⟨t.val % 4, Nat.mod_lt _ (by decide)⟩

/-- What the body adds at a point. -/
abbrev added (t : Fin cfg0.N) : FVec F S512x1024 .f32 := k0_pay2 c (iblk m c 0 t) (iblk m c 1 t) (iblk m c 2 t)

theorem added_at (t : Fin cfg0.N) (r : Fin 512) (w : Fin 1024) : added m c t (ix2 r w) = total m c (part t) (mat t) r w := by
  obtain ⟨e0, e1, e2, -, -⟩ := starts t
  refine (adds c _ _ _ r w).trans (congr (congrArg FloatOps.addf ?_) ?_)
  · have hc : c.val < 8 := c.isLt
    by_cases k : c.val % 2 = 0
    · rw [if_pos k]
      refine congrArg (m ((c : Thread nD τ).loc main_arg0)) ?_
      blk_ext [e0]
    · rw [if_neg k]
      refine congrArg (m ((c : Thread nD τ).loc main_arg0)) ?_
      blk_ext [e1]
  · refine congrArg (m ((c : Thread nD τ).loc main_arg1)) ?_
    blk_ext [e2]

/-- What a point leaves in the first result's buffer: its sums, rounded. -/
theorem leaves (t : Fin cfg0.N) (r : Fin 512) (w : Fin 1024) :
    (outsAt0 m c t.val t.isLt).1 (ix4 0 0 r w) = FloatOps.truncf .bf16 bitsLt_bf16_f32 (total m c (part t) (mat t) r w) := by
  rw [← added_at]
  have h : (outsAt0 m c t.val t.isLt).1 = k0_pay3 c (iblk m c 0 t) (iblk m c 1 t) (iblk m c 2 t) := by
    by_cases h : t.val % 4 = 0
    · rw [outsAt0_A m c t h]; frame_out
    · rw [outsAt0_B m c t h]; frame_out
  rw [h]
  pointwise [k0_pay3]

/-- The chip and the part as the body computes them. -/
theorem words (t : Fin cfg0.N) : (BitVec.ofNat 32 (grid0.coords t 1).val
    = Scalar.addi (Scalar.muli 2#32 (Scalar.remsi (Scalar.divsi (BitVec.ofNat 32 c.val) 4#32) 2#32))
        (Scalar.remsi (Scalar.divsi (BitVec.ofNat 32 c.val) 2#32) 2#32)) ↔ part t = chip c :=
  by revert c t; decide +kernel

/-- What a point from its own chip's on leaves in the second result's buffer: the sums of that chip's part, unrounded. -/
theorem holds (r : Fin 512) (w : Fin 1024) (t : Fin cfg0.N) (l : c.val / 2 ≤ t.val % 4) :
    (outsAt0 m c t.val t.isLt).2 (ix3 0 r w) = total m c (chip c) (mat t) r w := by
  have few' : t.val < 4 * 10 := few t
  refine (kept (fun n h => (outsAt0 m c n h).2 (ix3 0 r w)) (fun e => if h : e < 10 then total m c (chip c) ⟨e, h⟩ r w else
    (outsAt0 m c t.val t.isLt).2 (ix3 0 r w)) (fun n h k => ?_) (fun n h k => ?_) t.val t.isLt l).trans (dif_pos (by omega))
  · have f : n < 4 * 10 := few ⟨n, h⟩
    have e : part ⟨n, h⟩ = chip c := Fin.ext k
    rw [dif_pos (by omega), ← e]
    refine Eq.trans ?_ (added_at m c ⟨n, h⟩ r w)
    by_cases z : n % 4 = 0
    · rw [outsAt0_A m c ⟨n, h⟩ z]
      frame_out
      rw [keeps, if_pos ((words c _).mpr e)]
    · rw [outsAt0_B m c ⟨n, h⟩ z]
      frame_out
      rw [keeps, if_pos ((words c _).mpr e)]
  · rw [outsAt0_B m c ⟨n + 1, h⟩ (by show ¬ (n + 1) % 4 = 0; omega)]
    frame_out
    rw [keeps, if_neg fun e => absurd (congrArg Fin.val ((words c _).mp e)) (Nat.ne_of_gt k)]
    rfl

/-- The first result after the run: the sums, rounded. -/
theorem rounded : (dats m 0 c).arrAt 3 cfg0.N
    = fun i : S4x10x512x1024.Idx => FloatOps.truncf .bf16 bitsLt_bf16_f32 (total m c (i 0) (i 1) (i 2) (i 3)) := by
  refine (dats m 0 c).arrAt_eq_of_covers 3 _ (by decide +kernel) fun t hf y => ?_
  obtain ⟨-, -, -, e3, -⟩ := starts t
  idx_vars y
  obtain rfl := Subsingleton.elim y0 0
  obtain rfl := Subsingleton.elim y1 0
  rw [after0_3]
  refine (leaves m c t y2 y3).trans ?_
  have e : ((cfg0.win 3).blk t).view.emb (ix4 0 0 y2 y3) = (ix4 (part t) (mat t) y2 y3 : S4x10x512x1024.Idx) := by blk_ext [e3]
  rw [e]
  rfl

/-- The second: those of the part of the device's own chip. -/
theorem own : (dats m 0 c).arrAt 4 cfg0.N = fun i : S10x512x1024.Idx => total m c (chip c) (i 0) (i 1) (i 2) := by
  refine (dats m 0 c).arrAt_eq_of_covers 4 _ (by decide +kernel) fun t hf y => ?_
  obtain ⟨-, -, -, -, e4⟩ := starts t
  idx_vars y
  obtain rfl := Subsingleton.elim y0 0
  have hc : c.val < 8 := c.isLt
  have l := (flush0_4 t).mp hf
  rw [after0_4]
  refine (holds m c y1 y2 t (by omega)).trans ?_
  have e : ((cfg0.win 4).blk t).view.emb (ix3 0 y1 y2) = (ix3 (mat t) y1 y2 : S10x512x1024.Idx) := by blk_ext [e4]
  rw [e]
  rfl

end Cert.SiblingRows.Summed

namespace Cert.SiblingRowsRef.Value

open Cert.SiblingRowsRef.Gen Cert.Sum

variable {F : FTy → Type} [FloatOps F]

/-- The half of the arrays each core reduces, as the reference takes it; -/
def halves (A : S32x2x10x512x1024.Idx → Elt F .f32) : FVec F S4x2x4x10x512x1024 .f32 :=
  select (broadcastInDim S4x2x4x10x512x1024 ![1, 2, 3, 4, 5] bcast_S2x1x1x1x1_S4x2x4x10x512x1024_1_2_3_4_5 (cmpi .eq (shapeCast _ (iotaInDim S2 32 0) shapeCasts_S2_S2x1x1x1x1) (broadcastInDim S2x1x1x1x1 ![] bcast_S_S2x1x1x1x1 (constantI S_ 32 0#32)))) (shapeCast _ (extractStridedSlice S4x2x4x1x10x512x1024 ![0, 0, 0, 0, 0, 0, 0] (shapeCast _ A shapeCasts_S32x2x10x512x1024_S4x2x4x2x10x512x1024) slices_S4x2x4x2x10x512x1024_S4x2x4x1x10x512x1024_0_0_0_0_0_0_0) shapeCasts_S4x2x4x1x10x512x1024_S4x2x4x10x512x1024) (shapeCast _ (extractStridedSlice S4x2x4x1x10x512x1024 ![0, 0, 0, 1, 0, 0, 0] (shapeCast _ A shapeCasts_S32x2x10x512x1024_S4x2x4x2x10x512x1024) slices_S4x2x4x2x10x512x1024_S4x2x4x1x10x512x1024_0_0_0_1_0_0_0) shapeCasts_S4x2x4x1x10x512x1024_S4x2x4x10x512x1024)

set_option maxRecDepth 16384 in
/-- its element on core `q` of chip `k`, for part `p`. -/
theorem halves_at (A : S32x2x10x512x1024.Idx → Elt F .f32) (k : Fin 4) (q : Fin 2) (p : Fin 4)
    (e : Fin 10) (r : Fin 512) (w : Fin 1024) :
    halves A (ix6 k q p e r w) = A (ix5 (row k q p) q e r w) := by
  pointwise [halves]
  rw [show (⟨k.val * 8 + q.val * 4 + p.val, by omega⟩ : Fin 32) = row k q p from Fin.ext (by simp only; omega)]
  generalize row k q p = d
  exact pick2 q fun q => A (ix5 d q e r w)

/-- The reference's sums, by chip, core, part and matrix; -/
def sums (A : S32x2x10x512x1024.Idx → Elt F .f32) (B : S32x10x512x1024.Idx → Elt F .f32) : FVec F S4x2x4x10x512x1024 .f32 :=
  addf (halves A) (shapeCast _ B shapeCasts_S32x10x512x1024_S4x2x4x10x512x1024)

/-- an element of them. -/
theorem sums_at (A : S32x2x10x512x1024.Idx → Elt F .f32) (B : S32x10x512x1024.Idx → Elt F .f32) (k : Fin 4) (q : Fin 2) (p : Fin 4)
    (e : Fin 10) (r : Fin 512) (w : Fin 1024) :
    sums A B (ix6 k q p e r w) = FloatOps.addf (A (ix5 (row k q p) q e r w)) (B (ix4 (row k q p) e r w)) := by
  rw [← halves_at A k q p e r w]
  pointwise [sums]
  rw [show (⟨k.val * 8 + q.val * 4 + p.val, by omega⟩ : Fin 32) = row k q p from Fin.ext (by simp only; omega)]

/-- The reference's first result, of its sums; -/
def first (s : FVec F S4x2x4x10x512x1024 .f32) : FVec F S32x10x512x1024 .bf16 :=
  shapeCast _ (truncf .bf16 s bitsLt_bf16_f32) shapeCasts_S4x2x4x10x512x1024_S32x10x512x1024

set_option maxRecDepth 16384 in
theorem first_at (s : FVec F S4x2x4x10x512x1024 .f32) (k : Fin 4) (q : Fin 2) (p : Fin 4)
    (e : Fin 10) (r : Fin 512) (w : Fin 1024) :
    first s (ix4 (row k q p) e r w) = FloatOps.truncf .bf16 bitsLt_bf16_f32 (s (ix6 k q p e r w)) := by
  pointwise [first]
  refine congrArg (fun i => FloatOps.truncf .bf16 bitsLt_bf16_f32 (s i)) ?_
  rw [show (⟨(row k q p).val / 8, by omega⟩ : Fin 4) = k from Fin.ext (by simp only; omega),
    show (⟨(row k q p).val / 4 % 2, by omega⟩ : Fin 2) = q from Fin.ext (by simp only; omega),
    show (⟨(row k q p).val % 4, by omega⟩ : Fin 4) = p from Fin.ext (by simp only; omega)]

/-- Where the reference's chip is one of the four. -/
abbrev isChip (n : BitVec 32) : IVec S4x2x10x512x1024 1 :=
  broadcastInDim S4x2x10x512x1024 ![0, 1, 2, 3, 4] bcast_S4x1x1x1x1_S4x2x10x512x1024_0_1_2_3_4 (cmpi .eq (shapeCast _ (iotaInDim S4 32 0) shapeCasts_S4_S4x1x1x1x1) (broadcastInDim S4x1x1x1x1 ![] bcast_S_S4x1x1x1x1 (constantI S_ 32 n)))

/-- The sums of one of the four parts. -/
abbrev ofPart (s : FVec F S4x2x4x10x512x1024 .f32) (o : Fin 6 → Nat) (h : S4x2x4x10x512x1024.Slices o S4x2x1x10x512x1024) : FVec F S4x2x10x512x1024 .f32 :=
  shapeCast _ (extractStridedSlice S4x2x1x10x512x1024 o s h) shapeCasts_S4x2x1x10x512x1024_S4x2x10x512x1024

/-- The reference's second result, of its sums: each chip's own part; -/
def second (s : FVec F S4x2x4x10x512x1024 .f32) : FVec F S80x512x1024 .f32 :=
  shapeCast _ (select (isChip 0#32) (ofPart s ![0, 0, 0, 0, 0, 0] slices_S4x2x4x10x512x1024_S4x2x1x10x512x1024_0_0_0_0_0_0)
    (select (isChip 1#32) (ofPart s ![0, 0, 1, 0, 0, 0] slices_S4x2x4x10x512x1024_S4x2x1x10x512x1024_0_0_1_0_0_0)
    (select (isChip 2#32) (ofPart s ![0, 0, 2, 0, 0, 0] slices_S4x2x4x10x512x1024_S4x2x1x10x512x1024_0_0_2_0_0_0)
      (ofPart s ![0, 0, 3, 0, 0, 0] slices_S4x2x4x10x512x1024_S4x2x1x10x512x1024_0_0_3_0_0_0)))) shapeCasts_S4x2x10x512x1024_S80x512x1024

set_option maxRecDepth 16384 in
theorem second_at (s : FVec F S4x2x4x10x512x1024 .f32) (k : Fin 4) (q : Fin 2) (e : Fin 10) (r : Fin 512) (w : Fin 1024)
    (d : Fin 80) (hd : d.val = (k.val * 2 + q.val) * 10 + e.val) :
    second s (ix3 d r w) = s (ix6 k q k e r w) := by
  pointwise [second]
  have h1 : d.val / 20 = k.val := by omega
  have h2 : d.val / 10 % 2 = q.val := by omega
  have h3 : d.val % 10 = e.val := by omega
  simp only [h1, h2, h3]
  exact pick4 k fun p => s (ix6 k q p e r w)

end Cert.SiblingRowsRef.Value

namespace Cert.SiblingRows.Summed

open Cert.SiblingRows Cert.SiblingRows.Gen Cert.SiblingRowsRef.Value Cert.Sum

variable {F : FTy → Type} [FloatOps F] (m : (ℓ : Loc nD τ sig) → Buf (Elt F) ℓ)
  (A : SiblingRowsRef.S32x2x10x512x1024.Idx → Elt F .f32) (B : SiblingRowsRef.S32x10x512x1024.Idx → Elt F .f32)
  (hA : ∀ c : Dev nD, m ((c.tc : Thread nD τ).loc main_arg0) = Layout.block S4x2x10x512x1024 SiblingRowsRef.S32x2x10x512x1024 0 8 c A)
  (hB : ∀ c : Dev nD, m ((c.tc : Thread nD τ).loc main_arg1) = Layout.block S4x10x512x1024 SiblingRowsRef.S32x10x512x1024 0 8 c B)

include hA hB in
/-- A device's sums are those of the reference. -/
theorem total_eq (c : Dev nD) (p : Fin 4) (e : Fin 10) (r : Fin 512) (w : Fin 1024) :
    total m c p e r w = sums A B (ix6 (chip c) (half c) p e r w) := by
  have hc : c.val < 8 := c.isLt
  rw [sums_at A B (chip c) (half c) p e r w]
  unfold total
  rw [hA c, hB c, Layout.block_apply, Layout.block_apply, Talk.tile5 _ c p _ _ _ _ _ (row_of c p).symm,
    Talk.tile4 _ c p _ _ _ _ (row_of c p).symm]

include hA hB in
/-- A device's first result is its block of the reference's. -/
theorem first_eq (c : Dev nD) : (dats m 0 c).arrAt 3 cfg0.N
    = Layout.block S4x10x512x1024 SiblingRowsRef.S32x10x512x1024 0 8 c (first (sums A B)) := by
  have hc : c.val < 8 := c.isLt
  refine (rounded m c).trans (funext fun i => ?_)
  idx_vars i
  rw [Layout.block_apply, Talk.tile4 _ c i0 _ _ _ _ (row_of c i0).symm]
  refine Eq.trans ?_ (first_at _ (chip c) (half c) i0 i1 i2 i3).symm
  exact congrArg (FloatOps.truncf .bf16 bitsLt_bf16_f32) (total_eq m A B hA hB c i0 i1 i2 i3)

include hA hB in
/-- So is its second. -/
theorem second_eq (c : Dev nD) : (dats m 0 c).arrAt 4 cfg0.N
    = Layout.block S10x512x1024 SiblingRowsRef.S80x512x1024 0 8 c (second (sums A B)) := by
  have hc : c.val < 8 := c.isLt
  refine (own m c).trans (funext fun i => ?_)
  idx_vars i
  rw [Layout.block_apply, Talk.tile3 _ c i0 _ _ ⟨c.val * 10 + i0.val, by omega⟩ rfl]
  refine Eq.trans ?_ (second_at _ (chip c) (half c) i0 i1 i2 _ (by show c.val * 10 + i0.val = (c.val / 2 * 2 + c.val % 2) * 10 + i0.val; omega)).symm
  exact total_eq m A B hA hB c (chip c) i0 i1 i2

/-- Every run of the kernel ends with the arguments unchanged and every semaphore at zero, -/
theorem frame : Cert.quiescent_SiblingRows (hSiblingRows := Cert.SiblingRows.Gen.facts) := fun m g _ => Cert.SiblingRows.Gen.frame m g

/-- so does every run of the reference; -/
theorem frame_ref : Cert.quiescent_SiblingRowsRef (hSiblingRowsRef := Cert.SiblingRowsRef.Gen.facts) := fun m g _ =>
  (θ_run _ _ _).mono (fun _ h => ⟨fun c => (h c).2.2, sem_eq_zero_of_no_sems (by decide) _⟩) (Cert.SiblingRowsRef.Value.run m g)

/-- each device's results are its blocks of what the reference returns, bit for bit. -/
theorem same : Cert.bitexact_SiblingRows_SiblingRowsRef (hSiblingRows := Cert.SiblingRows.Gen.facts) (hSiblingRowsRef := Cert.SiblingRowsRef.Gen.facts) := by
  intro m g m' g' _ hm
  have h := fun c => first_eq m _ _ (fun c => (hm c).1) (fun c => (hm c).2) c
  have h' := fun c => second_eq m _ _ (fun c => (hm c).1) (fun c => (hm c).2) c
  exact ⟨_, _, (θ_run _ _ _).mono (fun _ k c => ⟨(k c).1.trans (h c), (k c).2.1.trans (h' c), (k c).2.2⟩) (Cert.SiblingRows.Value.run_blocks m g),
    (θ_run _ _ _).mono (fun _ h => h 0) (Cert.SiblingRowsRef.Value.run m' g')⟩

end Cert.SiblingRows.Summed

end
-- ==== Proof.Norm.Rule.lean ====
/-
  The backward pass of the norm of a row, over the extended reals: with `r` the inverse root of the mean square, the
  derivative as the chain rule spells it — the norm's own, and the mean square's through `r` — is the derivative gathered
  behind one factor `r`. The inverse root is a positive real or zero, so no entry of the row need be finite.
-/
module

public import proofs.«01_k».proof.Defs
public import Idealize.ShloMosaic.Lib.IdealHost
public import Idealize.ShloMosaic.Lib.Pipeline.ValueKit

@[expose] public section

noncomputable section

open Idealize.ShloMosaic

namespace Cert.Norm

/-- The length of a row, what is added to its mean square, and minus a half, as the programs write them. -/
abbrev len : EReal := Ideal.ofBits .f32 0x44800000#32

@[inherit_doc len]
abbrev eps : EReal := Ideal.ofBits .f32 0x358637BD#32

@[inherit_doc len]
abbrev minusHalf : EReal := Ideal.ofBits .f32 0xBF000000#32

theorem len_eq : len = ((1024 : ℝ) : EReal) := by
  simp [Ideal.ofBits, Ideal.ieee, -EReal.coe_mul]; norm_num

theorem eps_eq : ∃ e : ℝ, 0 < e ∧ eps = (e : EReal) := by
  refine ⟨8796093 * (1 / 2 ^ 43), by norm_num, ?_⟩
  simp [Ideal.ofBits, Ideal.ieee, -EReal.coe_mul]

theorem minusHalf_eq : minusHalf = ((-(1 / 2) : ℝ) : EReal) := by
  simp [Ideal.ofBits, Ideal.ieee, -EReal.coe_mul, -EReal.coe_neg]; norm_num

/-- A quotient by the length is a product. -/
theorem div_len (x : EReal) : Ideal.div x len = x * ((1024⁻¹ : ℝ) : EReal) := by
  rw [len_eq]
  exact if_neg (by norm_num)

/-- A real that is not negative goes into a sum. -/
theorem mul_sum {n : Nat} (a : ℝ) (h : 0 ≤ a) (f : Fin n → EReal) : (a : EReal) * ∑ k, f k = ∑ k, (a : EReal) * f k := by
  induction n with
  | zero => simp
  | succ n ih => rw [Fin.sum_univ_succ, Fin.sum_univ_succ, EReal.left_distrib_of_nonneg_of_ne_top (EReal.coe_nonneg.mpr h) (EReal.coe_ne_top a), ih]

variable (x gw : Fin 1024 → EReal)

/-- What a row is divided by the root of, -/
def square : EReal := Ideal.div (∑ k, x k * x k) len + eps

/-- and the inverse of that root. -/
def inv : EReal := Ideal.rsqrt (square x)

/-- An extended real's square is not negative. -/
theorem self_nonneg (y : EReal) : 0 ≤ y * y := by
  rcases le_total 0 y with h | h
  · exact mul_nonneg h h
  · rw [← neg_mul_neg]
    exact mul_nonneg (EReal.neg_nonneg.mpr h) (EReal.neg_nonneg.mpr h)

/-- The inverse root is a positive real, and its cube is its quotient by the square; or the square is infinite and it is zero. -/
theorem inv_cases : (∃ r : ℝ, 0 < r ∧ inv x = r ∧ Ideal.div (inv x) (square x) = ((r * r * r : ℝ) : EReal))
    ∨ (inv x = 0 ∧ Ideal.div (inv x) (square x) = 0) := by
  obtain ⟨e, he, hee⟩ := eps_eq
  have hs : (e : EReal) ≤ square x := by
    unfold square
    rw [hee, div_len]
    refine le_add_of_nonneg_left (mul_nonneg (Finset.sum_nonneg fun k _ => self_nonneg _) (EReal.coe_nonneg.mpr (by norm_num)))
  unfold inv
  generalize square x = v at hs
  induction v using EReal.rec with
  | bot => exact absurd hs (by simp)
  | top =>
    refine .inr ⟨rfl, ?_⟩
    show Ideal.div 0 ⊤ = 0
    unfold Ideal.div
    rw [if_neg (by simp), zero_mul]
  | coe v =>
    have hv : 0 < v := lt_of_lt_of_le he (EReal.coe_le_coe_iff.mp hs)
    have hr : Ideal.rsqrt (v : EReal) = (((Real.sqrt v)⁻¹ : ℝ) : EReal) := by
      show (if v < 0 then _ else if v = 0 then _ else _) = _
      rw [if_neg hv.not_gt, if_neg hv.ne']
    refine .inl ⟨(Real.sqrt v)⁻¹, inv_pos.mpr (Real.sqrt_pos.mpr hv), hr, ?_⟩
    rw [hr]
    unfold Ideal.div
    rw [if_neg (by exact_mod_cast hv.ne'), ← EReal.coe_inv, ← EReal.coe_mul]
    congr 1
    rw [mul_assoc, ← mul_inv (√v) (√v), Real.mul_self_sqrt hv.le]

/-- The mean square's part of the derivative, for one entry before its factor. -/
def turn : EReal := Ideal.div ((∑ k, x k * gw k) * (minusHalf * Ideal.div (inv x) (square x))) len

/-- The derivative by the row's entry `j`, of the product with `gw`: gathered, and as the chain rule spells it. -/
theorem back (j : Fin 1024) :
    inv x * (gw j - x j * inv x * Ideal.div (∑ k, gw k * (x k * inv x)) len)
      = gw j * inv x + x j * turn x gw + turn x gw * x j := by
  unfold turn
  rcases inv_cases x with ⟨r, hr, e, e'⟩ | ⟨e, e'⟩
  · rw [e', e, div_len, div_len, minusHalf_eq]
    have hsum : ∑ k, gw k * (x k * (r : EReal)) = (r : EReal) * ∑ k, x k * gw k := by
      rw [mul_sum r hr.le]
      exact Finset.sum_congr rfl fun k _ => by ac_rfl
    rw [hsum]
    generalize (∑ k, x k * gw k) = s
    rw [sub_eq_add_neg, EReal.left_distrib_of_nonneg_of_ne_top (EReal.coe_nonneg.mpr hr.le) (EReal.coe_ne_top r), add_assoc,
      mul_comm (r : EReal) (gw j)]
    congr 1
    have h : x j * (s * (((-(1 / 2) : ℝ) : EReal) * ((r * r * r : ℝ) : EReal)) * ((1024⁻¹ : ℝ) : EReal))
        = ((1 / 2 * (r * r * r) * 1024⁻¹ : ℝ) : EReal) * -(x j * s) := by
      simp only [EReal.coe_mul, EReal.coe_neg, neg_mul, mul_neg]
      exact congrArg Neg.neg (by ac_rfl)
    rw [mul_comm _ (x j), h, ← EReal.right_distrib_of_nonneg (EReal.coe_nonneg.mpr (by positivity)) (EReal.coe_nonneg.mpr (by positivity)),
      ← EReal.coe_add, show 1 / 2 * (r * r * r) * 1024⁻¹ + 1 / 2 * (r * r * r) * 1024⁻¹ = r * r * r * (1024⁻¹ : ℝ) by ring]
    simp only [EReal.coe_mul, mul_neg]
    exact congrArg Neg.neg (by ac_rfl)
  · rw [e', e, div_len, div_len]
    simp

/-- A row of an array, and the products of one with the norm's weight. -/
abbrev row {n : Nat} (x : (⟨2, ![n, 1024]⟩ : Shape).Idx → EReal) (r : Fin n) (k : Fin 1024) : EReal := x (ix2 r k)

@[inherit_doc row]
abbrev scaled {n : Nat} (g : (⟨2, ![n, 1024]⟩ : Shape).Idx → EReal) (w : (⟨2, ![1, 1024]⟩ : Shape).Idx → EReal) (r : Fin n) (k : Fin 1024) : EReal :=
  g (ix2 r k) * w (ix2 0 k)

/-- An entry of the gradient through the norm, as the kernel computes it. -/
def through {n : Nat} (x g : (⟨2, ![n, 1024]⟩ : Shape).Idx → EReal) (w : (⟨2, ![1, 1024]⟩ : Shape).Idx → EReal) (r : Fin n) (j : Fin 1024) : EReal :=
  inv (row x r) * (scaled g w r j - row x r j * inv (row x r) * Ideal.div (∑ k, scaled g w r k * (row x r k * inv (row x r))) len)

/-- What a row adds to the gradient of the norm's weight. -/
def part {n : Nat} (x g : (⟨2, ![n, 1024]⟩ : Shape).Idx → EReal) (r : Fin n) (j : Fin 1024) : EReal :=
  row g r j * (row x r j * inv (row x r))

/-- A half, two, and one by the length, as the programs write them. -/
abbrev half : EReal := Ideal.ofBits .f32 0x3F000000#32

@[inherit_doc half]
abbrev two : EReal := Ideal.ofBits .f32 0x40000000#32

@[inherit_doc half]
abbrev perLen : EReal := Ideal.ofBits .f32 0x3A800000#32

theorem half_eq : half = ((1 / 2 : ℝ) : EReal) := by
  simp [Ideal.ofBits, Ideal.ieee, -EReal.coe_mul]; norm_num

theorem two_eq : two = ((2 : ℝ) : EReal) := by
  simp [Ideal.ofBits, Ideal.ieee, -EReal.coe_mul]; norm_num

theorem perLen_eq : perLen = ((1024⁻¹ : ℝ) : EReal) := by
  simp [Ideal.ofBits, Ideal.ieee, -EReal.coe_mul]; norm_num

/-- The slope of half the mean of squares: half of it, of twice the entry, is the entry over the length. -/
theorem slope (y : EReal) : Ideal.div (half * 1) len * (two * y) = y * perLen := by
  rw [div_len, mul_one, half_eq, two_eq, perLen_eq, ← EReal.coe_mul, ← mul_assoc, ← EReal.coe_mul, mul_comm y]
  norm_num

end Cert.Norm

end
-- ==== Proof.FfnNorm.lean ====
/-
  The norm in front of a block: the kernel, on the extended reals, leaves each row divided by its root mean square and
  multiplied by the weight.
-/
module

public import proofs.«01_k».proof.Defs
public import proofs.«01_k».proof.Proof.Gen.FfnNorm.Value
public import proofs.«01_k».proof.Proof.Gen.FfnNormIdeal.Value
public import proofs.«01_k».proof.Proof.Gen.FfnNormRefIdeal.Run
public import proofs.«01_k».proof.Proof.Norm.Rule
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.NormFront

open Cert.FfnNormIdeal Cert.FfnNormIdeal.Gen Cert.Norm

/-- An entry of the normed rows. -/
def entry {n : Nat} (x : (⟨2, ![n, 1024]⟩ : Shape).Idx → EReal) (w : S1x1024.Idx → EReal) (r : Fin n) (j : Fin 1024) : EReal :=
  row x r j * inv (row x r) * w (ix2 0 j)

theorem leaves (x : Vec Ideal S512x1024 .f32) (w : Vec Ideal S1x1024 .f32) (r : Fin 512) (j : Fin 1024) :
    k0_pay1 x w (ix2 r j) = entry x w r j := by
  pointwise [k0_pay1]
  rfl

variable (m : (ℓ : Loc nD τ sig) → Buf (Elt Ideal) ℓ) (c : Dev nD)

/-- Where the blocks of a point begin. -/
theorem starts : ∀ t : Fin cfg0.N, win0_0.index t = ![t.val, 0] ∧ win0_1.index t = ![0, 0] ∧ win0_2.index t = ![t.val, 0] :=
  (by decide +kernel : ∀ t : Fin grid0.N, _)

theorem few (t : Fin cfg0.N) : t.val < 8 := t.isLt

/-- The row of the whole arrays that is row `r` of a point's blocks. -/
abbrev whole (t : Fin cfg0.N) (r : Fin 512) : Fin 4096 := ⟨t.val * 512 + r.val, by have h := few t; omega⟩

/-- The arguments, as arrays of extended reals. -/
abbrev X : S4096x1024.Idx → EReal := m ((c : Thread nD τ).loc main_arg0)

@[inherit_doc X]
abbrev W : S1x1024.Idx → EReal := m ((c : Thread nD τ).loc main_arg1)

theorem row_x (t : Fin cfg0.N) (r : Fin 512) : row (n := 512) (iblk m c 0 t) r = row (X m c) (whole t r) := by
  obtain ⟨e0, -⟩ := starts t
  refine funext fun k => congrArg (X m c) ?_
  blk_ext [e0]

theorem row_w (t : Fin cfg0.N) : (iblk m c 1 t : S1x1024.Idx → EReal) = W m c := by
  obtain ⟨-, e1, -⟩ := starts t
  refine funext fun i => congrArg (W m c) ?_
  idx_vars i
  blk_ext [e1]

/-- The result after the run. -/
theorem result : (dats m 0 c).arrAt 2 cfg0.N = fun i : S4096x1024.Idx => entry (X m c) (W m c) (i 0) (i 1) := by
  refine (dats m 0 c).arrAt_eq_of_covers 2 _ (by decide +kernel) fun t hf y => ?_
  obtain ⟨-, -, e2⟩ := starts t
  idx_vars y
  rw [after0_2]
  refine Eq.trans (b := k0_pay1 (iblk m c 0 t) (iblk m c 1 t) (ix2 y0 y1)) ?_ ?_
  · frame_out; rfl
  · refine (leaves _ _ y0 y1).trans ?_
    have e : ((cfg0.win 2).blk t).view.emb (ix2 y0 y1) = (ix2 (whole t y0) y1 : S4096x1024.Idx) := by blk_ext [e2]
    rw [e]
    unfold entry
    rw [row_x m c t y0, row_w m c t]
    rfl

end Cert.NormFront

namespace Cert.FfnNormRefIdeal.Value

open Cert.FfnNormRefIdeal Cert.FfnNormRefIdeal.Gen Cert.Norm Cert.NormFront

/-- What the reference divides a row by the root of, -/
def under (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- and what it leaves. -/
def result (x : FVec Ideal S4096x1024 .f32) (w : FVec Ideal S1x1024 .f32) : FVec Ideal S4096x1024 .bf16 :=
  truncf .bf16 (mulf (mulf x (broadcastInDim S4096x1024 ![0, 1] bcast_S4096x1_S4096x1024_0_1 (Host.rsqrt (under x)))) (broadcastInDim S4096x1024 ![0, 1] bcast_S1x1024_S4096x1024_0_1 w)) bitsLt_bf16_f32

theorem under_at (x : FVec Ideal S4096x1024 .f32) (r : Fin 4096) : under x (ix2 r 0) = square (row x r) := by
  pointwise [under]
  rfl

theorem result_at (x : FVec Ideal S4096x1024 .f32) (w : FVec Ideal S1x1024 .f32) (r : Fin 4096) (j : Fin 1024) :
    result x w (ix2 r j) = entry x w r j := by
  have h : result x w (ix2 r j) = x (ix2 r j) * Ideal.rsqrt (under x (ix2 r 0)) * w (ix2 0 j) := by
    pointwise [result]
  rw [h, under_at]
  rfl

end Cert.FfnNormRefIdeal.Value

namespace Cert.NormFront

/-- Kernel and reference leave the same array, over the extended reals. -/
theorem same : Cert.algebraic_FfnNormIdeal_FfnNormRefIdeal
    (hFfnNormIdeal := Cert.FfnNormIdeal.Gen.facts) (hFfnNormRefIdeal := Cert.FfnNormRefIdeal.Gen.facts) := by
  intro m g m' g' _ hm
  refine ⟨_, Cert.FfnNormIdeal.Value.run_blocks m g, (θ_run _ _ _).mono ?_ (Cert.FfnNormRefIdeal.Value.run m' g')⟩
  intro r h c
  obtain ⟨e0, e1⟩ := hm c
  refine ⟨(h c).1.trans (Eq.trans ?_ (result m c).symm), (h c).2⟩
  rw [e0, e1]
  refine funext fun i => ?_
  idx_vars i
  exact Cert.FfnNormRefIdeal.Value.result_at (X m c) (W m c) i0 i1

end Cert.NormFront

end
-- ==== Proof.Ffn.Rule.lean ====
/-
  The feed-forward block's gate, on the extended reals, and sums that a kernel takes block by block.
-/
module

public import proofs.«01_k».proof.Proof.Norm.Rule
public import Idealize.ShloMosaic.Lib.Pipeline.ValueKit

@[expose] public section

noncomputable section

open Idealize.ShloMosaic

namespace Cert.Ffn

/-- An entry of the product of two arrays, -/
def prod {n k p : Nat} (a : (⟨2, ![n, k]⟩ : Shape).Idx → EReal) (b : (⟨2, ![k, p]⟩ : Shape).Idx → EReal) (r : Fin n) (j : Fin p) : EReal :=
  ∑ l, a (ix2 r l) * b (ix2 l j)

/-- of an array's product with a transposed one, -/
def prodT {n k p : Nat} (a : (⟨2, ![n, k]⟩ : Shape).Idx → EReal) (b : (⟨2, ![p, k]⟩ : Shape).Idx → EReal) (r : Fin n) (j : Fin p) : EReal :=
  ∑ l, a (ix2 r l) * b (ix2 j l)

/-- and of a transposed array's product with another. -/
def tprod {n k p : Nat} (a : (⟨2, ![k, n]⟩ : Shape).Idx → EReal) (b : (⟨2, ![k, p]⟩ : Shape).Idx → EReal) (r : Fin n) (j : Fin p) : EReal :=
  ∑ l, a (ix2 l r) * b (ix2 l j)

/-- The logistic function. -/
def logistic (g : EReal) : EReal := Ideal.div 1 (1 + Ideal.exp (-g))

/-- The gate: a number times its logistic times another. -/
def gate (g u : EReal) : EReal := g * logistic g * u

/-- A half goes into a sum. -/
theorem half_sum {n : Nat} (f : Fin n → EReal) : Cert.Norm.half * ∑ k, f k = ∑ k, Cert.Norm.half * f k := by
  rw [Cert.Norm.half_eq]
  exact Cert.Norm.mul_sum _ (by norm_num) f

/-- Every `J`th point starts a run of `J`: it leaves its own piece, every other point adds its own to what the point before it
left. The piece of a run's point `s` is the sum of the `s`th of `J` parts of `whole`: the run's last point leaves all of it. -/
theorem run_sum {N : Nat} (J : Nat) [NeZero J] {S n : Nat} (left : (t : Nat) → t < N → EReal) (piece : Fin N → Fin S → EReal)
    (whole : Fin n → EReal) (hn : n = J * S)
    (first : ∀ t : Fin N, t.val % J = 0 → left t.val t.isLt = 0 + ∑ k, piece t k)
    (next : ∀ t : Fin N, ¬t.val % J = 0 → left t.val t.isLt = left (t.val - 1) (Nat.lt_of_le_of_lt (Nat.sub_le _ _) t.isLt) + ∑ k, piece t k)
    (t : Fin N) (last : t.val % J = J - 1)
    (parts : ∀ (s : Fin J) (p : Fin N), p.val = J * (t.val / J) + s.val → ∀ (k : Fin S) (l : Fin n), l.val = s.val * S + k.val → piece p k = whole l) :
    left t.val t.isLt = ∑ l, whole l := by
  subst hn
  rw [Pipeline.eq_sum_fin_of_reset_step_of_flush left J 0 (fun p => ∑ k, piece p k) first next t last, zero_add,
    ← Fin.sum_mul_add_fin J S whole]
  exact Finset.sum_congr rfl fun s _ => Finset.sum_congr rfl fun k _ => parts s _ rfl k _ rfl

end Cert.Ffn

end
-- ==== Proof.FfnUp.lean ====
/-
  The feed-forward block's two products in front of the gate, and the gate: the kernel, on the extended reals, leaves the
  products, and the one times its logistic times the other.
-/
module

public import proofs.«01_k».proof.Defs
public import proofs.«01_k».proof.Proof.Gen.FfnUp.Value
public import proofs.«01_k».proof.Proof.Gen.FfnUpIdeal.Value
public import proofs.«01_k».proof.Proof.Gen.FfnUpRefIdeal.Run
public import proofs.«01_k».proof.Proof.Ffn.Rule
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.GateUp

open Cert.FfnUpIdeal Cert.FfnUpIdeal.Gen Cert.Ffn

/-- What the body leaves in its results' buffers: the products, -/
theorem leaves (h : Vec Ideal S512x1024 .bf16) (w : Vec Ideal S1024x1408 .bf16) (r : Fin 512) (j : Fin 1408) :
    k0_pay1 h w (ix2 r j) = prod h w r j := by
  pointwise [k0_pay1]
  rfl

@[inherit_doc leaves]
theorem leaves' (h : Vec Ideal S512x1024 .bf16) (w : Vec Ideal S1024x1408 .bf16) (r : Fin 512) (j : Fin 1408) :
    k0_pay2 h w (ix2 r j) = prod h w r j := by
  pointwise [k0_pay2]
  rfl

/-- and the gate. -/
theorem gates (h : Vec Ideal S512x1024 .bf16) (w v : Vec Ideal S1024x1408 .bf16) (r : Fin 512) (j : Fin 1408) :
    k0_pay3 h w v (ix2 r j) = gate (prod h w r j) (prod h v r j) := by
  have e : k0_pay3 h w v (ix2 r j) = gate (k0_pay1 h w (ix2 r j)) (k0_pay2 h v (ix2 r j)) := by
    pointwise [k0_pay3]
    rw [zero_sub]
    rfl
  rw [e, leaves, leaves']

variable (m : (ℓ : Loc nD τ sig) → Buf (Elt Ideal) ℓ) (c : Dev nD)

/-- Where the blocks of a point begin. -/
theorem starts : ∀ t : Fin cfg0.N, win0_0.index t = ![t.val % 8, 0] ∧ win0_1.index t = ![0, t.val / 8] ∧ win0_2.index t = ![0, t.val / 8]
    ∧ win0_3.index t = ![t.val % 8, t.val / 8] ∧ win0_4.index t = ![t.val % 8, t.val / 8] ∧ win0_5.index t = ![t.val % 8, t.val / 8] :=
  (by decide +kernel : ∀ t : Fin grid0.N, _)

theorem few (t : Fin cfg0.N) : t.val < 16 := t.isLt

/-- The row and the column of the whole arrays that are row `r` and column `j` of a point's blocks. -/
abbrev row (t : Fin cfg0.N) (r : Fin 512) : Fin 4096 := ⟨t.val % 8 * 512 + r.val, by omega⟩

@[inherit_doc row]
abbrev col (t : Fin cfg0.N) (j : Fin 1408) : Fin 2816 := ⟨t.val / 8 * 1408 + j.val, by have h := few t; omega⟩

/-- The arguments, as arrays of extended reals. -/
abbrev H : S4096x1024.Idx → EReal := m ((c : Thread nD τ).loc main_arg0)

@[inherit_doc H]
abbrev W : S1024x2816.Idx → EReal := m ((c : Thread nD τ).loc main_arg1)

@[inherit_doc H]
abbrev V : S1024x2816.Idx → EReal := m ((c : Thread nD τ).loc main_arg2)

/-- The products of a point's blocks are entries of the arguments' products. -/
theorem prod_w (t : Fin cfg0.N) (r : Fin 512) (j : Fin 1408) :
    prod (n := 512) (k := 1024) (p := 1408) (iblk m c 0 t) (iblk m c 1 t) r j = prod (H m c) (W m c) (row t r) (col t j) := by
  obtain ⟨e0, e1, -⟩ := starts t
  refine Finset.sum_congr rfl fun k _ => congrArg₂ (· * ·) (congrArg (H m c) ?_) (congrArg (W m c) ?_)
  · blk_ext [e0]
  · blk_ext [e1]

@[inherit_doc prod_w]
theorem prod_v (t : Fin cfg0.N) (r : Fin 512) (j : Fin 1408) :
    prod (n := 512) (k := 1024) (p := 1408) (iblk m c 0 t) (iblk m c 2 t) r j = prod (H m c) (V m c) (row t r) (col t j) := by
  obtain ⟨e0, -, e2, -⟩ := starts t
  refine Finset.sum_congr rfl fun k _ => congrArg₂ (· * ·) (congrArg (H m c) ?_) (congrArg (V m c) ?_)
  · blk_ext [e0]
  · blk_ext [e2]

/-- The results after the run: the first product, -/
theorem first : (dats m 0 c).arrAt 3 cfg0.N = fun i : S4096x2816.Idx => prod (H m c) (W m c) (i 0) (i 1) := by
  refine (dats m 0 c).arrAt_eq_of_covers 3 _ (by decide +kernel) fun t hf y => ?_
  obtain ⟨-, -, -, e3, -⟩ := starts t
  idx_vars y
  rw [after0_3]
  refine Eq.trans (b := k0_pay1 (iblk m c 0 t) (iblk m c 1 t) (ix2 y0 y1)) ?_ ?_
  · frame_out; rfl
  · refine (leaves _ _ y0 y1).trans ((prod_w m c t y0 y1).trans ?_)
    have e : ((cfg0.win 3).blk t).view.emb (ix2 y0 y1) = (ix2 (row t y0) (col t y1) : S4096x2816.Idx) := by blk_ext [e3]
    rw [e]
    rfl

/-- the second, -/
theorem second : (dats m 0 c).arrAt 4 cfg0.N = fun i : S4096x2816.Idx => prod (H m c) (V m c) (i 0) (i 1) := by
  refine (dats m 0 c).arrAt_eq_of_covers 4 _ (by decide +kernel) fun t hf y => ?_
  obtain ⟨-, -, -, -, e4, -⟩ := starts t
  idx_vars y
  rw [after0_4]
  refine Eq.trans (b := k0_pay2 (iblk m c 0 t) (iblk m c 2 t) (ix2 y0 y1)) ?_ ?_
  · frame_out; rfl
  · refine (leaves' _ _ y0 y1).trans ((prod_v m c t y0 y1).trans ?_)
    have e : ((cfg0.win 4).blk t).view.emb (ix2 y0 y1) = (ix2 (row t y0) (col t y1) : S4096x2816.Idx) := by blk_ext [e4]
    rw [e]
    rfl

/-- and the gate. -/
theorem third : (dats m 0 c).arrAt 5 cfg0.N
    = fun i : S4096x2816.Idx => gate (prod (H m c) (W m c) (i 0) (i 1)) (prod (H m c) (V m c) (i 0) (i 1)) := by
  refine (dats m 0 c).arrAt_eq_of_covers 5 _ (by decide +kernel) fun t hf y => ?_
  obtain ⟨-, -, -, -, -, e5⟩ := starts t
  idx_vars y
  rw [after0_5]
  refine Eq.trans (b := k0_pay3 (iblk m c 0 t) (iblk m c 1 t) (iblk m c 2 t) (ix2 y0 y1)) ?_ ?_
  · frame_out; rfl
  · refine (gates _ _ _ y0 y1).trans ?_
    have e : ((cfg0.win 5).blk t).view.emb (ix2 y0 y1) = (ix2 (row t y0) (col t y1) : S4096x2816.Idx) := by blk_ext [e5]
    rw [e, prod_w m c t y0 y1, prod_v m c t y0 y1]
    rfl

end Cert.GateUp

namespace Cert.FfnUpRefIdeal.Value

open Cert.FfnUpRefIdeal Cert.FfnUpRefIdeal.Gen Cert.Ffn

/-- The reference's products -/
def wide (h : FVec Ideal S4096x1024 .bf16) (w : FVec Ideal S1024x2816 .bf16) : FVec Ideal S4096x2816 .f32 :=
  Host.dotGeneral dot_S4096x1024_S1024x2816_S4096x2816_1_0_0_1_n_n none (extf .f32 h bitsLt_bf16_f32) (extf .f32 w bitsLt_bf16_f32)

/-- and gate. -/
def gated (g u : FVec Ideal S4096x2816 .f32) : FVec Ideal S4096x2816 .bf16 :=
  truncf .bf16 (mulf (mulf g (Host.divf (broadcastInDim S4096x2816 ![] bcast_S_S4096x2816 (constant S_ .f32 0x3F800000#32)) (addf (broadcastInDim S4096x2816 ![] bcast_S_S4096x2816 (constant S_ .f32 0x3F800000#32)) (Host.exp (Host.negf g))))) u) bitsLt_bf16_f32

theorem wide_at (h : FVec Ideal S4096x1024 .bf16) (w : FVec Ideal S1024x2816 .bf16) (r : Fin 4096) (j : Fin 2816) :
    wide h w (ix2 r j) = prod h w r j := by
  pointwise [wide]
  rfl

theorem gated_at (g u : FVec Ideal S4096x2816 .f32) (r : Fin 4096) (j : Fin 2816) :
    gated g u (ix2 r j) = gate (g (ix2 r j)) (u (ix2 r j)) := by
  pointwise [gated]
  rfl

end Cert.FfnUpRefIdeal.Value

namespace Cert.GateUp

/-- Kernel and reference leave the same three arrays, over the extended reals. -/
theorem same : Cert.algebraic_FfnUpIdeal_FfnUpRefIdeal
    (hFfnUpIdeal := Cert.FfnUpIdeal.Gen.facts) (hFfnUpRefIdeal := Cert.FfnUpRefIdeal.Gen.facts) := by
  intro m g m' g' _ hm
  refine ⟨_, _, _, Cert.FfnUpIdeal.Value.run_blocks m g, (θ_run _ _ _).mono ?_ (Cert.FfnUpRefIdeal.Value.run m' g')⟩
  intro r h c
  obtain ⟨e0, e1, e2⟩ := hm c
  refine ⟨(h c).1.trans (Eq.trans ?_ (first m c).symm), (h c).2.1.trans (Eq.trans ?_ (second m c).symm),
    (h c).2.2.1.trans (Eq.trans ?_ (third m c).symm), (h c).2.2.2⟩
  · rw [e0, e1]
    refine funext fun i => ?_
    idx_vars i
    exact Cert.FfnUpRefIdeal.Value.wide_at (H m c) (W m c) i0 i1
  · rw [e0, e2]
    refine funext fun i => ?_
    idx_vars i
    exact Cert.FfnUpRefIdeal.Value.wide_at (H m c) (V m c) i0 i1
  · rw [e0, e1, e2]
    refine funext fun i => ?_
    idx_vars i
    refine (Cert.FfnUpRefIdeal.Value.gated_at _ _ i0 i1).trans ?_
    exact congrArg₂ Cert.Ffn.gate (Cert.FfnUpRefIdeal.Value.wide_at (H m c) (W m c) i0 i1) (Cert.FfnUpRefIdeal.Value.wide_at (H m c) (V m c) i0 i1)

end Cert.GateUp

end
-- ==== Proof.FfnDown.lean ====
/-
  The feed-forward block's product behind the gate: the kernel, on the extended reals, leaves the block's input plus half
  the product, that it takes in two halves of the gate's columns.
-/
module

public import proofs.«01_k».proof.Defs
public import proofs.«01_k».proof.Proof.Gen.FfnDown.Value
public import proofs.«01_k».proof.Proof.Gen.FfnDownIdeal.Value
public import proofs.«01_k».proof.Proof.Gen.FfnDownRefIdeal.Run
public import proofs.«01_k».proof.Proof.Ffn.Rule
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.GateDown

open Cert.FfnDownIdeal Cert.FfnDownIdeal.Gen Cert.Ffn Cert.Norm

/-- What the body starts from, -/
theorem clears (r : Fin 512) (j : Fin 1024) : k0_pay1 (F := Ideal) (ix2 r j) = 0 := by
  pointwise [k0_pay1]

/-- what it adds at a point, -/
theorem adds (a : Vec Ideal S512x1408 .bf16) (w : Vec Ideal S1408x1024 .bf16) (o : Vec Ideal S512x1024 .f32) (r : Fin 512) (j : Fin 1024) :
    k0_pay2 a w o (ix2 r j) = o (ix2 r j) + prod a w r j := by
  pointwise [k0_pay2]
  rfl

/-- and what it writes at the last one. -/
theorem ends (s x : Vec Ideal S512x1024 .f32) (r : Fin 512) (j : Fin 1024) :
    k0_pay3 s x (ix2 r j) = x (ix2 r j) + half * s (ix2 r j) := by
  have e : k0_pay3 s x (ix2 r j) = x (ix2 r j) + s (ix2 r j) * half := by
    pointwise [k0_pay3]
  rw [e, mul_comm]

variable (m : (ℓ : Loc nD τ sig) → Buf (Elt Ideal) ℓ) (c : Dev nD)

/-- Where the blocks of a point begin. -/
theorem starts : ∀ t : Fin cfg0.N, win0_0.index t = ![t.val / 2, t.val % 2] ∧ win0_1.index t = ![t.val % 2, 0]
    ∧ win0_2.index t = ![t.val / 2, 0] ∧ win0_3.index t = ![t.val / 2, 0] :=
  (by decide +kernel : ∀ t : Fin grid0.N, _)

theorem few (t : Fin cfg0.N) : t.val < 16 := t.isLt

/-- The row of the whole arrays that is row `r` of a point's blocks. -/
abbrev row (t : Fin cfg0.N) (r : Fin 512) : Fin 4096 := ⟨t.val / 2 * 512 + r.val, by have h := few t; omega⟩

/-- The arguments, as arrays of extended reals. -/
abbrev A : S4096x2816.Idx → EReal := m ((c : Thread nD τ).loc main_arg0)

@[inherit_doc A]
abbrev W : S2816x1024.Idx → EReal := m ((c : Thread nD τ).loc main_arg1)

@[inherit_doc A]
abbrev X : S4096x1024.Idx → EReal := m ((c : Thread nD τ).loc main_arg2)

/-- Their blocks of a point. -/
abbrev bA (p : Fin cfg0.N) : S512x1408.Idx → EReal := iblk m c 0 p

@[inherit_doc bA]
abbrev bW (p : Fin cfg0.N) : S1408x1024.Idx → EReal := iblk m c 1 p

/-- What a row block's last point has summed up. -/
theorem summed (t : Fin cfg0.N) (ht : t.val % 2 = 1) (r : Fin 512) (j : Fin 1024) :
    (outsAt0 m c t.val t.isLt).2 (ix2 r j) = prod (A m c) (W m c) (row t r) j := by
  refine run_sum (N := cfg0.N) 2 (S := 1408) (fun n h => (outsAt0 m c n h).2 (ix2 r j)) (fun p k => bA m c p (ix2 r k) * bW m c p (ix2 k j)) _ rfl
    (fun p h => ?_) (fun p h => ?_) t ht fun s p hp k ⟨l, _⟩ hl => ?_
  · rw [outsAt0_A m c p h (by omega)]
    frame_out
    exact (adds _ _ _ r j).trans (congrArg (· + _) (clears r j))
  · rw [outsAt0_B m c p h (by omega)]
    frame_out
    rw [(Memref.isWhole_whole _).read_unread]
    exact adds _ _ _ r j
  · obtain ⟨e0, e1, -⟩ := starts p
    rw [show p.val / 2 = t.val / 2 by omega, show p.val % 2 = s.val by omega] at e0
    rw [show p.val % 2 = s.val by omega] at e1
    obtain rfl : l = s.val * 1408 + k.val := hl
    exact congrArg₂ (· * ·) (congrArg (A m c) (by blk_ext [e0])) (congrArg (W m c) (by blk_ext [e1]))

/-- The input's rows. -/
theorem input (t : Fin cfg0.N) (r : Fin 512) (j : Fin 1024) : iblk m c 2 t (ix2 r j) = X m c (ix2 (row t r) j) := by
  obtain ⟨-, -, e2, -⟩ := starts t
  refine congrArg (X m c) ?_
  blk_ext [e2]

/-- The result after the run. -/
theorem result : (dats m 0 c).arrAt 3 cfg0.N
    = fun i : S4096x1024.Idx => X m c i + half * prod (A m c) (W m c) (i 0) (i 1) := by
  refine (dats m 0 c).arrAt_eq_of_covers 3 _ (by decide +kernel) fun t hf y => ?_
  obtain ⟨-, -, -, e3⟩ := starts t
  idx_vars y
  have ht := (flush0_3 t).mp hf
  rw [after0_3]
  have h : (outsAt0 m c t.val t.isLt).1 = k0_pay3 (outsAt0 m c t.val t.isLt).2 (iblk m c 2 t) := by
    rw [outsAt0_B m c t (by omega) ht]
    frame_out
  refine Eq.trans (b := (outsAt0 m c t.val t.isLt).1 (ix2 y0 y1)) rfl ?_
  rw [h]
  refine (ends _ _ y0 y1).trans ?_
  have e : ((cfg0.win 3).blk t).view.emb (ix2 y0 y1) = (ix2 (row t y0) y1 : S4096x1024.Idx) := by blk_ext [e3]
  rw [e, summed m c t ht y0 y1, input m c t y0 y1]
  rfl

end Cert.GateDown

namespace Cert.FfnDownRefIdeal.Value

open Cert.FfnDownRefIdeal Cert.FfnDownRefIdeal.Gen Cert.Ffn Cert.Norm

/-- What the reference leaves. -/
def result (a : FVec Ideal S4096x2816 .bf16) (w : FVec Ideal S2816x1024 .bf16) (x : FVec Ideal S4096x1024 .f32) : FVec Ideal S4096x1024 .f32 :=
  addf x (mulf (broadcastInDim S4096x1024 ![] bcast_S_S4096x1024 (constant S_ .f32 0x3F000000#32)) (Host.dotGeneral dot_S4096x2816_S2816x1024_S4096x1024_1_0_0_1_n_n none (extf .f32 a bitsLt_bf16_f32) (extf .f32 w bitsLt_bf16_f32)))

theorem result_at (a : FVec Ideal S4096x2816 .bf16) (w : FVec Ideal S2816x1024 .bf16) (x : FVec Ideal S4096x1024 .f32) (r : Fin 4096) (j : Fin 1024) :
    result a w x (ix2 r j) = x (ix2 r j) + half * prod a w r j := by
  pointwise [result]
  rfl

end Cert.FfnDownRefIdeal.Value

namespace Cert.GateDown

/-- Kernel and reference leave the same array, over the extended reals. -/
theorem same : Cert.algebraic_FfnDownIdeal_FfnDownRefIdeal
    (hFfnDownIdeal := Cert.FfnDownIdeal.Gen.facts) (hFfnDownRefIdeal := Cert.FfnDownRefIdeal.Gen.facts) := by
  intro m g m' g' _ hm
  refine ⟨_, Cert.FfnDownIdeal.Value.run_blocks m g, (θ_run _ _ _).mono ?_ (Cert.FfnDownRefIdeal.Value.run m' g')⟩
  intro r h c
  obtain ⟨e0, e1, e2⟩ := hm c
  refine ⟨(h c).1.trans (Eq.trans ?_ (result m c).symm), (h c).2⟩
  rw [e0, e1, e2]
  refine funext fun i => ?_
  idx_vars i
  exact Cert.FfnDownRefIdeal.Value.result_at (A m c) (W m c) (X m c) i0 i1

end Cert.GateDown

end
-- ==== Proof.Ffn.Grad.lean ====
/-
  The gate's derivative, on the extended reals. The chain rule spells it in two terms, the gate gathers them behind one
  factor; an infinite factor tells the two apart, where the terms have opposite signs, and so it is taken to be a real.
-/
module

public import proofs.«01_k».proof.Proof.Ffn.Rule

@[expose] public section

noncomputable section

open Idealize.ShloMosaic

namespace Cert.Ffn

/-- An extended real below infinity in size is a real. -/
theorem real_of_lt (x : EReal) (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x using EReal.rec with
  | bot => exact absurd h (by simp [Ideal.cmp])
  | top => exact absurd h (by simp [Ideal.cmp])
  | coe r => exact ⟨r, rfl⟩

/-- A sum of reals is a real. -/
theorem real_sum {n : Nat} (f : Fin n → EReal) (h : ∀ k, ∃ r : ℝ, f k = r) : ∃ r : ℝ, ∑ k, f k = r := by
  induction n with
  | zero => exact ⟨0, by simp⟩
  | succ n ih =>
    obtain ⟨a, ha⟩ := h 0
    obtain ⟨b, hb⟩ := ih (fun k => f k.succ) fun k => h k.succ
    exact ⟨a + b, by rw [Fin.sum_univ_succ, ha, hb, EReal.coe_add]⟩

/-- So is a product of two. -/
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- The logistic of a real is a real. -/
theorem logistic_real (g : ℝ) : ∃ s : ℝ, logistic g = s := by
  refine ⟨(1 + Real.exp (-g))⁻¹, ?_⟩
  have e : (1 : EReal) + Ideal.exp (-(g : EReal)) = ((1 + Real.exp (-g) : ℝ) : EReal) := by
    rw [← EReal.coe_neg, EReal.coe_add]
    rfl
  have h : ((1 + Real.exp (-g) : ℝ) : EReal) ≠ 0 := EReal.coe_ne_zero.mpr (by positivity)
  unfold logistic
  rw [e, Ideal.div, if_neg h, one_mul, ← EReal.coe_inv]

theorem logistic_top : logistic ⊤ = 1 := by
  unfold logistic
  rw [EReal.neg_top, show Ideal.exp ⊥ = 0 from rfl, add_zero, Ideal.div, if_neg one_ne_zero, one_mul]
  exact inv_one

theorem logistic_bot : logistic ⊥ = 0 := by
  unfold logistic
  rw [EReal.neg_bot, show Ideal.exp ⊤ = ⊤ from rfl, show (1 : EReal) + ⊤ = ⊤ from rfl, Ideal.div, if_neg EReal.top_ne_zero, EReal.inv_top, mul_zero]

/-- The two terms of the gate's derivative, gathered: the gate's argument may be infinite. -/
theorem gathered (v : ℝ) (g : EReal) :
    (v : EReal) * (logistic g * (1 + g * (1 - logistic g))) = v * logistic g + g * v * (logistic g * (1 - logistic g)) := by
  induction g using EReal.rec with
  | bot => rw [logistic_bot, zero_mul, zero_mul, mul_zero, mul_zero, add_zero]
  | top =>
    have h : (1 : EReal) - 1 = 0 := EReal.sub_self (EReal.coe_ne_top 1) (EReal.coe_ne_bot 1)
    rw [logistic_top, h, mul_zero, mul_zero, mul_zero, add_zero, add_zero, one_mul]
  | coe g =>
    obtain ⟨s, hs⟩ := logistic_real g
    rw [hs]
    norm_cast
    ring_nf

end Cert.Ffn

end
-- ==== Proof.FfnDact.lean ====
/-
  The gradients by the feed-forward block's two products in front of the gate: the kernel, on the extended reals, leaves what the
  chain rule makes of the gradient by the gate, where the block's gradient, the weight and the second product are finite.
-/
module

public import proofs.«01_k».proof.Defs
public import proofs.«01_k».proof.Proof.Gen.FfnDact.Value
public import proofs.«01_k».proof.Proof.Gen.FfnDactIdeal.Value
public import proofs.«01_k».proof.Proof.Gen.FfnDactRefIdeal.Run
public import proofs.«01_k».proof.Proof.Gen.Pre_finite
public import proofs.«01_k».proof.Proof.Ffn.Grad
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.GateBack

open Cert.FfnDactIdeal Cert.FfnDactIdeal.Gen Cert.Ffn Cert.Norm

/-- The gradient by the gate, -/
theorem ahead (d : Vec Ideal S512x1024 .f32) (w : Vec Ideal S1408x1024 .bf16) (r : Fin 512) (j : Fin 1408) :
    k0_pay1 d w (ix2 r j) = half * prodT d w r j := by
  pointwise [k0_pay1]
  rfl

/-- the logistic, -/
theorem logistics (g : Vec Ideal S512x1408 .f32) (r : Fin 512) (j : Fin 1408) : k0_pay2 g (ix2 r j) = logistic (g (ix2 r j)) := by
  pointwise [k0_pay2]
  rw [zero_sub]
  rfl

/-- and what the body leaves in its results' buffers. -/
theorem leaves (d : Vec Ideal S512x1024 .f32) (w : Vec Ideal S1408x1024 .bf16) (g u : Vec Ideal S512x1408 .f32) (r : Fin 512) (j : Fin 1408) :
    k0_pay3 d w g u (ix2 r j) = half * prodT d w r j * u (ix2 r j)
      * (logistic (g (ix2 r j)) * (1 + g (ix2 r j) * (1 - logistic (g (ix2 r j))))) := by
  have e : k0_pay3 d w g u (ix2 r j) = k0_pay1 d w (ix2 r j) * u (ix2 r j)
      * (k0_pay2 g (ix2 r j) * (1 + g (ix2 r j) * (1 - k0_pay2 g (ix2 r j)))) := by
    pointwise [k0_pay3]
  rw [e, ahead, logistics]

@[inherit_doc leaves]
theorem leaves' (d : Vec Ideal S512x1024 .f32) (w : Vec Ideal S1408x1024 .bf16) (g : Vec Ideal S512x1408 .f32) (r : Fin 512) (j : Fin 1408) :
    k0_pay4 d w g (ix2 r j) = half * prodT d w r j * (g (ix2 r j) * logistic (g (ix2 r j))) := by
  have e : k0_pay4 d w g (ix2 r j) = k0_pay1 d w (ix2 r j) * (g (ix2 r j) * k0_pay2 g (ix2 r j)) := by
    pointwise [k0_pay4]
  rw [e, ahead, logistics]

variable (m : (ℓ : Loc nD τ sig) → Buf (Elt Ideal) ℓ) (c : Dev nD)

/-- Where the blocks of a point begin. -/
theorem starts : ∀ t : Fin cfg0.N, win0_0.index t = ![t.val % 8, 0] ∧ win0_1.index t = ![t.val / 8, 0]
    ∧ win0_2.index t = ![t.val % 8, t.val / 8] ∧ win0_3.index t = ![t.val % 8, t.val / 8]
    ∧ win0_4.index t = ![t.val % 8, t.val / 8] ∧ win0_5.index t = ![t.val % 8, t.val / 8] :=
  (by decide +kernel : ∀ t : Fin grid0.N, _)

theorem few (t : Fin cfg0.N) : t.val < 16 := t.isLt

/-- The row and the column of the whole arrays that are row `r` and column `j` of a point's blocks. -/
abbrev row (t : Fin cfg0.N) (r : Fin 512) : Fin 4096 := ⟨t.val % 8 * 512 + r.val, by omega⟩

@[inherit_doc row]
abbrev col (t : Fin cfg0.N) (j : Fin 1408) : Fin 2816 := ⟨t.val / 8 * 1408 + j.val, by have h := few t; omega⟩

/-- The arguments, as arrays of extended reals. -/
abbrev D : S4096x1024.Idx → EReal := m ((c : Thread nD τ).loc main_arg0)

@[inherit_doc D]
abbrev W : S2816x1024.Idx → EReal := m ((c : Thread nD τ).loc main_arg1)

@[inherit_doc D]
abbrev G : S4096x2816.Idx → EReal := m ((c : Thread nD τ).loc main_arg2)

@[inherit_doc D]
abbrev U : S4096x2816.Idx → EReal := m ((c : Thread nD τ).loc main_arg3)

/-- The product of a point's blocks is an entry of the arguments' product, -/
theorem prod_w (t : Fin cfg0.N) (r : Fin 512) (j : Fin 1408) :
    prodT (n := 512) (k := 1024) (p := 1408) (iblk m c 0 t) (iblk m c 1 t) r j = prodT (D m c) (W m c) (row t r) (col t j) := by
  obtain ⟨e0, e1, -⟩ := starts t
  refine Finset.sum_congr rfl fun k _ => congrArg₂ (· * ·) (congrArg (D m c) ?_) (congrArg (W m c) ?_)
  · blk_ext [e0]
  · blk_ext [e1]

/-- and the entries of its other blocks are entries of the arguments. -/
theorem at_g (t : Fin cfg0.N) (r : Fin 512) (j : Fin 1408) :
    (iblk m c 2 t : S512x1408.Idx → EReal) (ix2 r j) = G m c (ix2 (row t r) (col t j)) := by
  obtain ⟨-, -, e2, -⟩ := starts t
  refine congrArg (G m c) ?_
  blk_ext [e2]

@[inherit_doc at_g]
theorem at_u (t : Fin cfg0.N) (r : Fin 512) (j : Fin 1408) :
    (iblk m c 3 t : S512x1408.Idx → EReal) (ix2 r j) = U m c (ix2 (row t r) (col t j)) := by
  obtain ⟨-, -, -, e3, -⟩ := starts t
  refine congrArg (U m c) ?_
  blk_ext [e3]

/-- The results after the run: the gradient by the product that the logistic is of, -/
theorem first : (dats m 0 c).arrAt 4 cfg0.N = fun i : S4096x2816.Idx => half * prodT (D m c) (W m c) (i 0) (i 1) * U m c i
      * (logistic (G m c i) * (1 + G m c i * (1 - logistic (G m c i)))) := by
  refine (dats m 0 c).arrAt_eq_of_covers 4 _ (by decide +kernel) fun t hf y => ?_
  obtain ⟨-, -, -, -, e4, -⟩ := starts t
  idx_vars y
  rw [after0_4]
  refine Eq.trans (b := k0_pay3 (iblk m c 0 t) (iblk m c 1 t) (iblk m c 2 t) (iblk m c 3 t) (ix2 y0 y1)) ?_ ?_
  · frame_out; rfl
  · refine (leaves _ _ _ _ y0 y1).trans ?_
    have e : ((cfg0.win 4).blk t).view.emb (ix2 y0 y1) = (ix2 (row t y0) (col t y1) : S4096x2816.Idx) := by blk_ext [e4]
    rw [e, prod_w m c t y0 y1, at_g m c t y0 y1, at_u m c t y0 y1]
    rfl

/-- and the gradient by the other. -/
theorem second : (dats m 0 c).arrAt 5 cfg0.N
    = fun i : S4096x2816.Idx => half * prodT (D m c) (W m c) (i 0) (i 1) * (G m c i * logistic (G m c i)) := by
  refine (dats m 0 c).arrAt_eq_of_covers 5 _ (by decide +kernel) fun t hf y => ?_
  obtain ⟨-, -, -, -, -, e5⟩ := starts t
  idx_vars y
  rw [after0_5]
  refine Eq.trans (b := k0_pay4 (iblk m c 0 t) (iblk m c 1 t) (iblk m c 2 t) (ix2 y0 y1)) ?_ ?_
  · frame_out; rfl
  · refine (leaves' _ _ _ y0 y1).trans ?_
    have e : ((cfg0.win 5).blk t).view.emb (ix2 y0 y1) = (ix2 (row t y0) (col t y1) : S4096x2816.Idx) := by blk_ext [e5]
    rw [e, prod_w m c t y0 y1, at_g m c t y0 y1]
    rfl

/-- What the claim assumes: the gradient, the weight and the second product are real. -/
theorem reals (h : Cert.Pre_FfnDactIdeal_finite (hPre_finite := Cert.Pre_finite.Gen.facts) m) :
    (∀ i, ∃ x : ℝ, D m c i = x) ∧ (∀ i, ∃ x : ℝ, W m c i = x) ∧ ∀ i, ∃ x : ℝ, U m c i = x := by
  obtain ⟨h0, h1, h3⟩ := h c
  exact ⟨fun i => real_of_lt _ (congrFun h0 i), fun i => real_of_lt _ (congrFun h1 i), fun i => real_of_lt _ (congrFun h3 i)⟩

end Cert.GateBack

namespace Cert.FfnDactRefIdeal.Value

open Cert.FfnDactRefIdeal Cert.FfnDactRefIdeal.Gen Cert.Ffn Cert.Norm

/-- The reference's gradient by the gate, -/
def ahead (d : FVec Ideal S4096x1024 .f32) (w : FVec Ideal S2816x1024 .bf16) : FVec Ideal S4096x2816 .f32 :=
  Host.dotGeneral dot_S4096x1024_S2816x1024_S4096x2816_1_1_0_0_n_n none (mulf (broadcastInDim S4096x1024 ![] bcast_S_S4096x1024 (constant S_ .f32 0x3F000000#32)) d) (extf .f32 w bitsLt_bf16_f32)

/-- logistic, -/
def logi (g : FVec Ideal S4096x2816 .f32) : FVec Ideal S4096x2816 .f32 :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf g)))

/-- and results. -/
def byGate (a g u : FVec Ideal S4096x2816 .f32) : FVec Ideal S4096x2816 .bf16 :=
  truncf .bf16 (addf (mulf (mulf a u) (logi g)) (mulf (mulf g (mulf a u)) (mulf (logi g) (subf (broadcastInDim S4096x2816 ![] bcast_S_S4096x2816 (constant S_ .f32 0x3F800000#32)) (logi g))))) bitsLt_bf16_f32

@[inherit_doc byGate]
def byUp (a g : FVec Ideal S4096x2816 .f32) : FVec Ideal S4096x2816 .bf16 := truncf .bf16 (mulf (mulf g (logi g)) a) bitsLt_bf16_f32

theorem ahead_at (d : FVec Ideal S4096x1024 .f32) (w : FVec Ideal S2816x1024 .bf16) (r : Fin 4096) (j : Fin 2816) :
    ahead d w (ix2 r j) = half * prodT d w r j := by
  have h : ahead d w (ix2 r j) = ∑ k : Fin 1024, half * d (ix2 r k) * w (ix2 j k) := by
    pointwise [ahead]
  refine h.trans (Eq.trans (Finset.sum_congr rfl fun k _ => ?_) (half_sum _).symm)
  exact mul_assoc _ _ _

theorem logi_at (g : FVec Ideal S4096x2816 .f32) (r : Fin 4096) (j : Fin 2816) : logi g (ix2 r j) = logistic (g (ix2 r j)) := by
  pointwise [logi]
  rfl

theorem byGate_at (a g u : FVec Ideal S4096x2816 .f32) (r : Fin 4096) (j : Fin 2816) :
    byGate a g u (ix2 r j) = a (ix2 r j) * u (ix2 r j) * logistic (g (ix2 r j))
      + g (ix2 r j) * (a (ix2 r j) * u (ix2 r j)) * (logistic (g (ix2 r j)) * (1 - logistic (g (ix2 r j)))) := by
  rw [← logi_at]
  pointwise [byGate]

theorem byUp_at (a g : FVec Ideal S4096x2816 .f32) (r : Fin 4096) (j : Fin 2816) :
    byUp a g (ix2 r j) = g (ix2 r j) * logistic (g (ix2 r j)) * a (ix2 r j) := by
  rw [← logi_at]
  pointwise [byUp]

end Cert.FfnDactRefIdeal.Value

namespace Cert.GateBack

/-- Every run of the reference ends with the arguments unchanged and every semaphore at zero; -/
theorem frame_ref : Cert.quiescent_FfnDactRefIdeal (hFfnDactRefIdeal := Cert.FfnDactRefIdeal.Gen.facts) := fun m g _ =>
  (θ_run _ _ _).mono (fun _ h => ⟨fun c => (h c).2.2, sem_eq_zero_of_no_sems (by decide) _⟩)
    (Cert.FfnDactRefIdeal.Value.run m g)

/-- also where the numbers are assumed finite; -/
theorem frame_ideal_finite : Cert.quiescent_FfnDactIdeal_pre_finite
    (hFfnDactIdeal := Cert.FfnDactIdeal.Gen.facts) (hPre_finite := Cert.Pre_finite.Gen.facts) := fun m g _ =>
  Cert.FfnDactIdeal.Gen.frame m g

@[inherit_doc frame_ideal_finite]
theorem frame_ref_finite : Cert.quiescent_FfnDactRefIdeal_pre_finite
    (hFfnDactRefIdeal := Cert.FfnDactRefIdeal.Gen.facts) (hPre_finite := Cert.Pre_finite.Gen.facts) := fun m g _ => frame_ref m g trivial

/-- kernel and reference leave the same two arrays, over the extended reals, where they are. -/
theorem same : Cert.algebraic_FfnDactIdeal_FfnDactRefIdeal_pre_finite
    (hFfnDactIdeal := Cert.FfnDactIdeal.Gen.facts) (hFfnDactRefIdeal := Cert.FfnDactRefIdeal.Gen.facts)
    (hPre_finite := Cert.Pre_finite.Gen.facts) := by
  intro m g m' g' hp hm
  refine ⟨_, _, Cert.FfnDactIdeal.Value.run_blocks m g, (θ_run _ _ _).mono ?_ (Cert.FfnDactRefIdeal.Value.run m' g')⟩
  intro r h c
  obtain ⟨e0, e1, e2, e3⟩ := hm c
  refine ⟨(h c).1.trans (Eq.trans ?_ (first m c).symm), (h c).2.1.trans (Eq.trans ?_ (second m c).symm), (h c).2.2⟩
  · rw [e0, e1, e2, e3]
    refine funext fun i => ?_
    idx_vars i
    refine (Cert.FfnDactRefIdeal.Value.byGate_at (Cert.FfnDactRefIdeal.Value.ahead (D m c) (W m c)) (G m c) (U m c) i0 i1).trans ?_
    obtain ⟨hd, hw, hu⟩ := reals m c hp
    obtain ⟨v, hv⟩ := Cert.Ffn.real_mul (Cert.Ffn.real_mul ⟨_, Cert.Norm.half_eq⟩
      (Cert.Ffn.real_sum _ fun k => Cert.Ffn.real_mul (hd (ix2 i0 k)) (hw (ix2 i1 k)))) (hu (ix2 i0 i1))
    rw [Cert.FfnDactRefIdeal.Value.ahead_at]
    refine Eq.trans ?_ (congrArg (· * _) hv).symm
    refine Eq.trans ?_ (Cert.Ffn.gathered v _).symm
    rw [← hv]
    rfl
  · rw [e0, e1, e2]
    refine funext fun i => ?_
    idx_vars i
    refine (Cert.FfnDactRefIdeal.Value.byUp_at (Cert.FfnDactRefIdeal.Value.ahead (D m c) (W m c)) (G m c) i0 i1).trans ?_
    rw [Cert.FfnDactRefIdeal.Value.ahead_at]
    exact mul_comm _ _

end Cert.GateBack

end
-- ==== Proof.FfnDwd.lean ====
/-
  The gradient by the weight behind the feed-forward block's gate: the kernel, on the extended reals, leaves half the product of
  the gate, transposed, with the gradient by the block's output, that it takes in four quarters of the rows.
-/
module

public import proofs.«01_k».proof.Defs
public import proofs.«01_k».proof.Proof.Gen.FfnDwd.Value
public import proofs.«01_k».proof.Proof.Gen.FfnDwdIdeal.Value
public import proofs.«01_k».proof.Proof.Gen.FfnDwdRefIdeal.Run
public import proofs.«01_k».proof.Proof.Ffn.Rule
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.DownDw

open Cert.FfnDwdIdeal Cert.FfnDwdIdeal.Gen Cert.Ffn Cert.Norm

/-- What the body starts from, -/
theorem clears (r : Fin 1408) (j : Fin 1024) : k0_pay1 (F := Ideal) (ix2 r j) = 0 := by
  pointwise [k0_pay1]

/-- what it adds at a point, -/
theorem adds (a : Vec Ideal S1024x1408 .bf16) (g : Vec Ideal S1024x1024 .f32) (o : Vec Ideal S1408x1024 .f32) (r : Fin 1408) (j : Fin 1024) :
    k0_pay2 a g o (ix2 r j) = o (ix2 r j) + tprod a g r j := by
  pointwise [k0_pay2]
  rfl

/-- and what it writes at the last one. -/
theorem ends (s : Vec Ideal S1408x1024 .f32) (r : Fin 1408) (j : Fin 1024) : k0_pay3 s (ix2 r j) = half * s (ix2 r j) := by
  have e : k0_pay3 s (ix2 r j) = s (ix2 r j) * half := by
    pointwise [k0_pay3]
  rw [e, mul_comm]

variable (m : (ℓ : Loc nD τ sig) → Buf (Elt Ideal) ℓ) (c : Dev nD)

/-- Where the blocks of a point begin. -/
theorem starts : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem few (t : Fin cfg0.N) : t.val < 8 := t.isLt

/-- The row of the result that is row `r` of a point's block. -/
abbrev row (t : Fin cfg0.N) (r : Fin 1408) : Fin 2816 := ⟨t.val / 4 * 1408 + r.val, by have h := few t; omega⟩

/-- The arguments, as arrays of extended reals. -/
abbrev A : S4096x2816.Idx → EReal := m ((c : Thread nD τ).loc main_arg0)

@[inherit_doc A]
abbrev G : S4096x1024.Idx → EReal := m ((c : Thread nD τ).loc main_arg1)

/-- Their blocks of a point. -/
abbrev bA (p : Fin cfg0.N) : S1024x1408.Idx → EReal := iblk m c 0 p

@[inherit_doc bA]
abbrev bG (p : Fin cfg0.N) : S1024x1024.Idx → EReal := iblk m c 1 p

/-- What a result block's last point has summed up. -/
theorem summed (t : Fin cfg0.N) (ht : t.val % 4 = 3) (r : Fin 1408) (j : Fin 1024) :
    (outsAt0 m c t.val t.isLt).2 (ix2 r j) = tprod (A m c) (G m c) (row t r) j := by
  refine run_sum (N := cfg0.N) 4 (S := 1024) (fun n h => (outsAt0 m c n h).2 (ix2 r j)) (fun p k => bA m c p (ix2 k r) * bG m c p (ix2 k j)) _ rfl
    (fun p h => ?_) (fun p h => ?_) t ht fun s p hp k ⟨l, _⟩ hl => ?_
  · rw [outsAt0_A m c p h (by omega)]
    frame_out
    exact (adds _ _ _ r j).trans (congrArg (· + _) (clears r j))
  · by_cases h' : p.val % 4 = 3
    · rw [outsAt0_C m c p h h']
      frame_out
      rw [(Memref.isWhole_whole _).read_unread]
      exact adds _ _ _ r j
    · rw [outsAt0_B m c p h h']
      frame_out
      rw [(Memref.isWhole_whole _).read_unread]
      exact adds _ _ _ r j
  · obtain ⟨e0, e1, -⟩ := starts p
    rw [show p.val % 4 = s.val by omega, show p.val / 4 = t.val / 4 by omega] at e0
    rw [show p.val % 4 = s.val by omega] at e1
    obtain rfl : l = s.val * 1024 + k.val := hl
    exact congrArg₂ (· * ·) (congrArg (A m c) (by blk_ext [e0])) (congrArg (G m c) (by blk_ext [e1]))

/-- The result after the run. -/
theorem result : (dats m 0 c).arrAt 2 cfg0.N = fun i : S2816x1024.Idx => half * tprod (A m c) (G m c) (i 0) (i 1) := by
  refine (dats m 0 c).arrAt_eq_of_covers 2 _ (by decide +kernel) fun t hf y => ?_
  obtain ⟨-, -, e2⟩ := starts t
  idx_vars y
  have ht := (flush0_2 t).mp hf
  rw [after0_2]
  have h : (outsAt0 m c t.val t.isLt).1 = k0_pay3 (outsAt0 m c t.val t.isLt).2 := by
    rw [outsAt0_C m c t (by omega) ht]
    frame_out
  refine Eq.trans (b := (outsAt0 m c t.val t.isLt).1 (ix2 y0 y1)) rfl ?_
  rw [h, ends, summed m c t ht y0 y1]
  have e : ((cfg0.win 2).blk t).view.emb (ix2 y0 y1) = (ix2 (row t y0) y1 : S2816x1024.Idx) := by blk_ext [e2]
  rw [e]
  rfl

end Cert.DownDw

namespace Cert.FfnDwdRefIdeal.Value

open Cert.FfnDwdRefIdeal Cert.FfnDwdRefIdeal.Gen Cert.Ffn Cert.Norm

/-- What the reference leaves. -/
def result (a : FVec Ideal S4096x2816 .bf16) (g : FVec Ideal S4096x1024 .f32) : FVec Ideal S2816x1024 .f32 :=
  transpose S2816x1024 [1, 0] (Host.dotGeneral dot_S4096x1024_S4096x2816_S1024x2816_0_0_1_1_n_n none (mulf (broadcastInDim S4096x1024 ![] bcast_S_S4096x1024 (constant S_ .f32 0x3F000000#32)) g) (extf .f32 a bitsLt_bf16_f32)) transposes_S1024x2816_S2816x1024_1_0

theorem result_at (a : FVec Ideal S4096x2816 .bf16) (g : FVec Ideal S4096x1024 .f32) (r : Fin 2816) (j : Fin 1024) :
    result a g (ix2 r j) = half * tprod a g r j := by
  have h : result a g (ix2 r j) = ∑ k : Fin 4096, half * g (ix2 k j) * a (ix2 k r) := by
    pointwise [result]
  refine h.trans (Eq.trans (Finset.sum_congr rfl fun k _ => ?_) (half_sum _).symm)
  ac_rfl

end Cert.FfnDwdRefIdeal.Value

namespace Cert.DownDw

/-- Kernel and reference leave the same array, over the extended reals. -/
theorem same : Cert.algebraic_FfnDwdIdeal_FfnDwdRefIdeal
    (hFfnDwdIdeal := Cert.FfnDwdIdeal.Gen.facts) (hFfnDwdRefIdeal := Cert.FfnDwdRefIdeal.Gen.facts) := by
  intro m g m' g' _ hm
  refine ⟨_, Cert.FfnDwdIdeal.Value.run_blocks m g, (θ_run _ _ _).mono ?_ (Cert.FfnDwdRefIdeal.Value.run m' g')⟩
  intro r h c
  obtain ⟨e0, e1⟩ := hm c
  refine ⟨(h c).1.trans (Eq.trans ?_ (result m c).symm), (h c).2⟩
  rw [e0, e1]
  refine funext fun i => ?_
  idx_vars i
  exact Cert.FfnDwdRefIdeal.Value.result_at (A m c) (G m c) i0 i1

end Cert.DownDw

end
-- ==== Proof.FfnDwin.lean ====
/-
  The gradient by a weight in front of the feed-forward block's gate: the kernel, on the extended reals, leaves the product of
  the block's normed input, transposed, with the gradient by its own product, that it takes in four quarters of the rows.
-/
module

public import proofs.«01_k».proof.Defs
public import proofs.«01_k».proof.Proof.Gen.FfnDwin.Value
public import proofs.«01_k».proof.Proof.Gen.FfnDwinIdeal.Value
public import proofs.«01_k».proof.Proof.Gen.FfnDwinRefIdeal.Run
public import proofs.«01_k».proof.Proof.Ffn.Rule
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.GateDw

open Cert.FfnDwinIdeal Cert.FfnDwinIdeal.Gen Cert.Ffn

/-- What the body starts from, -/
theorem clears (r : Fin 512) (j : Fin 1408) : k0_pay1 (F := Ideal) (ix2 r j) = 0 := by
  pointwise [k0_pay1]

/-- and what it adds at a point. -/
theorem adds (a : Vec Ideal S1024x512 .bf16) (g : Vec Ideal S1024x1408 .bf16) (o : Vec Ideal S512x1408 .f32) (r : Fin 512) (j : Fin 1408) :
    k0_pay2 a g o (ix2 r j) = o (ix2 r j) + tprod a g r j := by
  pointwise [k0_pay2]
  rfl

variable (m : (ℓ : Loc nD τ sig) → Buf (Elt Ideal) ℓ) (c : Dev nD)

/-- Where the blocks of a point begin. -/
theorem starts : ∀ t : Fin cfg0.N, win0_0.index t = ![t.val % 4, t.val / 4 % 2] ∧ win0_1.index t = ![t.val % 4, t.val / 8]
    ∧ win0_2.index t = ![t.val / 4 % 2, t.val / 8] :=
  (by decide +kernel : ∀ t : Fin grid0.N, _)

theorem few (t : Fin cfg0.N) : t.val < 16 := t.isLt

/-- The row and the column of the result that are row `r` and column `j` of a point's block. -/
abbrev row (t : Fin cfg0.N) (r : Fin 512) : Fin 1024 := ⟨t.val / 4 % 2 * 512 + r.val, by have h := few t; omega⟩

@[inherit_doc row]
abbrev col (t : Fin cfg0.N) (j : Fin 1408) : Fin 2816 := ⟨t.val / 8 * 1408 + j.val, by have h := few t; omega⟩

/-- The arguments, as arrays of extended reals. -/
abbrev A : S4096x1024.Idx → EReal := m ((c : Thread nD τ).loc main_arg0)

@[inherit_doc A]
abbrev G : S4096x2816.Idx → EReal := m ((c : Thread nD τ).loc main_arg1)

/-- Their blocks of a point. -/
abbrev bA (p : Fin cfg0.N) : S1024x512.Idx → EReal := iblk m c 0 p

@[inherit_doc bA]
abbrev bG (p : Fin cfg0.N) : S1024x1408.Idx → EReal := iblk m c 1 p

/-- What a result block's last point has summed up. -/
theorem summed (t : Fin cfg0.N) (ht : t.val % 4 = 3) (r : Fin 512) (j : Fin 1408) :
    (outsAt0 m c t.val t.isLt).2 (ix2 r j) = tprod (A m c) (G m c) (row t r) (col t j) := by
  refine run_sum (N := cfg0.N) 4 (S := 1024) (fun n h => (outsAt0 m c n h).2 (ix2 r j)) (fun p k => bA m c p (ix2 k r) * bG m c p (ix2 k j)) _ rfl
    (fun p h => ?_) (fun p h => ?_) t ht fun s p hp k ⟨l, _⟩ hl => ?_
  · rw [outsAt0_A m c p h (by omega)]
    frame_out
    exact (adds _ _ _ r j).trans (congrArg (· + _) (clears r j))
  · by_cases h' : p.val % 4 = 3
    · rw [outsAt0_C m c p h h']
      frame_out
      rw [(Memref.isWhole_whole _).read_unread]
      exact adds _ _ _ r j
    · rw [outsAt0_B m c p h h']
      frame_out
      rw [(Memref.isWhole_whole _).read_unread]
      exact adds _ _ _ r j
  · obtain ⟨e0, e1, -⟩ := starts p
    rw [show p.val % 4 = s.val by omega, show p.val / 4 % 2 = t.val / 4 % 2 by omega] at e0
    rw [show p.val % 4 = s.val by omega, show p.val / 8 = t.val / 8 by omega] at e1
    obtain rfl : l = s.val * 1024 + k.val := hl
    exact congrArg₂ (· * ·) (congrArg (A m c) (by blk_ext [e0])) (congrArg (G m c) (by blk_ext [e1]))

/-- The result after the run. -/
theorem result : (dats m 0 c).arrAt 2 cfg0.N = fun i : S1024x2816.Idx => tprod (A m c) (G m c) (i 0) (i 1) := by
  refine (dats m 0 c).arrAt_eq_of_covers 2 _ (by decide +kernel) fun t hf y => ?_
  obtain ⟨-, -, e2⟩ := starts t
  idx_vars y
  have ht := (flush0_2 t).mp hf
  rw [after0_2]
  have h : (outsAt0 m c t.val t.isLt).1 = (outsAt0 m c t.val t.isLt).2 := by
    rw [outsAt0_C m c t (by omega) ht]
    frame_out
  refine Eq.trans (b := (outsAt0 m c t.val t.isLt).1 (ix2 y0 y1)) rfl ?_
  rw [h, summed m c t ht y0 y1]
  have e : ((cfg0.win 2).blk t).view.emb (ix2 y0 y1) = (ix2 (row t y0) (col t y1) : S1024x2816.Idx) := by blk_ext [e2]
  rw [e]
  rfl

end Cert.GateDw

namespace Cert.FfnDwinRefIdeal.Value

open Cert.FfnDwinRefIdeal Cert.FfnDwinRefIdeal.Gen Cert.Ffn

/-- What the reference leaves. -/
def result (a : FVec Ideal S4096x1024 .bf16) (g : FVec Ideal S4096x2816 .bf16) : FVec Ideal S1024x2816 .f32 :=
  transpose S1024x2816 [1, 0] (Host.dotGeneral dot_S4096x2816_S4096x1024_S2816x1024_0_0_1_1_n_n none (extf .f32 g bitsLt_bf16_f32) (extf .f32 a bitsLt_bf16_f32)) transposes_S2816x1024_S1024x2816_1_0

theorem result_at (a : FVec Ideal S4096x1024 .bf16) (g : FVec Ideal S4096x2816 .bf16) (r : Fin 1024) (j : Fin 2816) :
    result a g (ix2 r j) = tprod a g r j := by
  have h : result a g (ix2 r j) = ∑ k : Fin 4096, g (ix2 k j) * a (ix2 k r) := by
    pointwise [result]
  exact h.trans (Finset.sum_congr rfl fun k _ => mul_comm _ _)

end Cert.FfnDwinRefIdeal.Value

namespace Cert.GateDw

/-- Kernel and reference leave the same array, over the extended reals. -/
theorem same : Cert.algebraic_FfnDwinIdeal_FfnDwinRefIdeal
    (hFfnDwinIdeal := Cert.FfnDwinIdeal.Gen.facts) (hFfnDwinRefIdeal := Cert.FfnDwinRefIdeal.Gen.facts) := by
  intro m g m' g' _ hm
  refine ⟨_, Cert.FfnDwinIdeal.Value.run_blocks m g, (θ_run _ _ _).mono ?_ (Cert.FfnDwinRefIdeal.Value.run m' g')⟩
  intro r h c
  obtain ⟨e0, e1⟩ := hm c
  refine ⟨(h c).1.trans (Eq.trans ?_ (result m c).symm), (h c).2⟩
  rw [e0, e1]
  refine funext fun i => ?_
  idx_vars i
  exact Cert.FfnDwinRefIdeal.Value.result_at (A m c) (G m c) i0 i1

end Cert.GateDw

end
-- ==== Proof.FfnDh.lean ====
/-
  The gradient by the feed-forward block's normed input: the kernel, on the extended reals, leaves the sum of the two products with
  the weights in front of the gate, transposed, that it takes in two halves of the gate's columns.
-/
module

public import proofs.«01_k».proof.Defs
public import proofs.«01_k».proof.Proof.Gen.FfnDh.Value
public import proofs.«01_k».proof.Proof.Gen.FfnDhIdeal.Value
public import proofs.«01_k».proof.Proof.Gen.FfnDhRefIdeal.Run
public import proofs.«01_k».proof.Proof.Ffn.Rule
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.BackIn

open Cert.FfnDhIdeal Cert.FfnDhIdeal.Gen Cert.Ffn

/-- What the body starts from, -/
theorem clears (r : Fin 512) (j : Fin 1024) : k0_pay1 (F := Ideal) (ix2 r j) = 0 := by
  pointwise [k0_pay1]

/-- and what it adds at a point. -/
theorem adds (g : Vec Ideal S512x1408 .bf16) (w : Vec Ideal S1024x1408 .bf16) (u : Vec Ideal S512x1408 .bf16) (v : Vec Ideal S1024x1408 .bf16)
    (o : Vec Ideal S512x1024 .f32) (r : Fin 512) (j : Fin 1024) :
    k0_pay2 g w u v o (ix2 r j) = o (ix2 r j) + (prodT g w r j + prodT u v r j) := by
  pointwise [k0_pay2]
  rfl

variable (m : (ℓ : Loc nD τ sig) → Buf (Elt Ideal) ℓ) (c : Dev nD)

/-- Where the blocks of a point begin. -/
theorem starts : ∀ t : Fin cfg0.N, win0_0.index t = ![t.val / 2, t.val % 2] ∧ win0_1.index t = ![0, t.val % 2]
    ∧ win0_2.index t = ![t.val / 2, t.val % 2] ∧ win0_3.index t = ![0, t.val % 2] ∧ win0_4.index t = ![t.val / 2, 0] :=
  (by decide +kernel : ∀ t : Fin grid0.N, _)

theorem few (t : Fin cfg0.N) : t.val < 16 := t.isLt

/-- The row of the whole arrays that is row `r` of a point's blocks. -/
abbrev row (t : Fin cfg0.N) (r : Fin 512) : Fin 4096 := ⟨t.val / 2 * 512 + r.val, by have h := few t; omega⟩

/-- The arguments, as arrays of extended reals. -/
abbrev G : S4096x2816.Idx → EReal := m ((c : Thread nD τ).loc main_arg0)

@[inherit_doc G]
abbrev W : S1024x2816.Idx → EReal := m ((c : Thread nD τ).loc main_arg1)

@[inherit_doc G]
abbrev U : S4096x2816.Idx → EReal := m ((c : Thread nD τ).loc main_arg2)

@[inherit_doc G]
abbrev V : S1024x2816.Idx → EReal := m ((c : Thread nD τ).loc main_arg3)

/-- Their blocks of a point. -/
abbrev bG (p : Fin cfg0.N) : S512x1408.Idx → EReal := iblk m c 0 p

@[inherit_doc bG]
abbrev bW (p : Fin cfg0.N) : S1024x1408.Idx → EReal := iblk m c 1 p

@[inherit_doc bG]
abbrev bU (p : Fin cfg0.N) : S512x1408.Idx → EReal := iblk m c 2 p

@[inherit_doc bG]
abbrev bV (p : Fin cfg0.N) : S1024x1408.Idx → EReal := iblk m c 3 p

/-- What a row block's last point has summed up. -/
theorem summed (t : Fin cfg0.N) (ht : t.val % 2 = 1) (r : Fin 512) (j : Fin 1024) :
    (outsAt0 m c t.val t.isLt).2 (ix2 r j) = prodT (G m c) (W m c) (row t r) j + prodT (U m c) (V m c) (row t r) j := by
  refine (run_sum (N := cfg0.N) 2 (S := 1408) (n := 2816) (fun n h => (outsAt0 m c n h).2 (ix2 r j))
    (fun p k => bG m c p (ix2 r k) * bW m c p (ix2 j k) + bU m c p (ix2 r k) * bV m c p (ix2 j k))
    (fun k => G m c (ix2 (row t r) k) * W m c (ix2 j k) + U m c (ix2 (row t r) k) * V m c (ix2 j k)) rfl
    (fun p h => ?_) (fun p h => ?_) t ht fun s p hp k ⟨l, _⟩ hl => ?_).trans Finset.sum_add_distrib
  · rw [outsAt0_A m c p h (by omega), Finset.sum_add_distrib]
    frame_out
    exact (adds _ _ _ _ _ r j).trans (congrArg (· + _) (clears r j))
  · rw [outsAt0_B m c p h (by omega), Finset.sum_add_distrib]
    frame_out
    rw [(Memref.isWhole_whole _).read_unread]
    exact adds _ _ _ _ _ r j
  · obtain ⟨e0, e1, e2, e3, -⟩ := starts p
    have h0 : p.val / 2 = t.val / 2 := by omega
    have h1 : p.val % 2 = s.val := by omega
    rw [h0, h1] at e0 e2
    rw [h1] at e1 e3
    obtain rfl : l = s.val * 1408 + k.val := hl
    exact congrArg₂ (· + ·) (congrArg₂ (· * ·) (congrArg (G m c) (by blk_ext [e0])) (congrArg (W m c) (by blk_ext [e1])))
      (congrArg₂ (· * ·) (congrArg (U m c) (by blk_ext [e2])) (congrArg (V m c) (by blk_ext [e3])))

/-- The result after the run. -/
theorem result : (dats m 0 c).arrAt 4 cfg0.N
    = fun i : S4096x1024.Idx => prodT (G m c) (W m c) (i 0) (i 1) + prodT (U m c) (V m c) (i 0) (i 1) := by
  refine (dats m 0 c).arrAt_eq_of_covers 4 _ (by decide +kernel) fun t hf y => ?_
  obtain ⟨-, -, -, -, e4⟩ := starts t
  idx_vars y
  have ht := (flush0_4 t).mp hf
  rw [after0_4]
  have h : (outsAt0 m c t.val t.isLt).1 = (outsAt0 m c t.val t.isLt).2 := by
    rw [outsAt0_B m c t (by omega) ht]
    frame_out
  refine Eq.trans (b := (outsAt0 m c t.val t.isLt).1 (ix2 y0 y1)) rfl ?_
  rw [h, summed m c t ht y0 y1]
  have e : ((cfg0.win 4).blk t).view.emb (ix2 y0 y1) = (ix2 (row t y0) y1 : S4096x1024.Idx) := by blk_ext [e4]
  rw [e]
  rfl

end Cert.BackIn

namespace Cert.FfnDhRefIdeal.Value

open Cert.FfnDhRefIdeal Cert.FfnDhRefIdeal.Gen Cert.Ffn

/-- One of the reference's products. -/
def back (g : FVec Ideal S4096x2816 .bf16) (w : FVec Ideal S1024x2816 .bf16) : FVec Ideal S4096x1024 .f32 :=
  Host.dotGeneral dot_S4096x2816_S1024x2816_S4096x1024_1_1_0_0_n_n none (extf .f32 g bitsLt_bf16_f32) (extf .f32 w bitsLt_bf16_f32)

theorem back_at (g : FVec Ideal S4096x2816 .bf16) (w : FVec Ideal S1024x2816 .bf16) (r : Fin 4096) (j : Fin 1024) :
    back g w (ix2 r j) = prodT g w r j := by
  pointwise [back]
  rfl

end Cert.FfnDhRefIdeal.Value

namespace Cert.BackIn

/-- Kernel and reference leave the same array, over the extended reals. -/
theorem same : Cert.algebraic_FfnDhIdeal_FfnDhRefIdeal
    (hFfnDhIdeal := Cert.FfnDhIdeal.Gen.facts) (hFfnDhRefIdeal := Cert.FfnDhRefIdeal.Gen.facts) := by
  intro m g m' g' _ hm
  refine ⟨_, Cert.FfnDhIdeal.Value.run_blocks m g, (θ_run _ _ _).mono ?_ (Cert.FfnDhRefIdeal.Value.run m' g')⟩
  intro r h c
  obtain ⟨e0, e1, e2, e3⟩ := hm c
  refine ⟨(h c).1.trans (Eq.trans ?_ (result m c).symm), (h c).2⟩
  rw [e0, e1, e2, e3]
  refine funext fun i => ?_
  idx_vars i
  refine (congrArg₂ (· + ·) (Cert.FfnDhRefIdeal.Value.back_at (U m c) (V m c) i0 i1)
    (Cert.FfnDhRefIdeal.Value.back_at (G m c) (W m c) i0 i1)).trans ?_
  exact add_comm _ _

end Cert.BackIn

end
-- ==== Proof.MixIn.lean ====
/-
  The projections into the mixing blocks: the kernel, on the extended reals, leaves the product of the normed input with the
  weight, a block of it at each point of its grid.
-/
module

public import proofs.«01_k».proof.Defs
public import proofs.«01_k».proof.Proof.Gen.EvProj.Value
public import proofs.«01_k».proof.Proof.Gen.EvProjIdeal.Value
public import proofs.«01_k».proof.Proof.Gen.EvProjRefIdeal.Run
public import proofs.«01_k».proof.Proof.Gen.OdProj.Value
public import proofs.«01_k».proof.Proof.Gen.OdProjIdeal.Value
public import proofs.«01_k».proof.Proof.Gen.OdProjRefIdeal.Run
public import proofs.«01_k».proof.Proof.Gen.OdProjBd.Value
public import proofs.«01_k».proof.Proof.Gen.OdProjBdIdeal.Value
public import proofs.«01_k».proof.Proof.Gen.OdProjBdRefIdeal.Run
public import proofs.«01_k».proof.Proof.Ffn.Rule
public import Idealize.ShloMosaic.Lib.Quiescent

@[expose] public section

noncomputable section

open Idealize.ShloMosaic Idealize.ShloMosaic.TcCoe Idealize.SL.Sem
open Idealize.ShloMosaic.Pipeline (Dat)

namespace Cert.Mix.EvProj

open Cert.EvProjIdeal Cert.EvProjIdeal.Gen Cert.Ffn

/-- What the body leaves of its blocks. -/
theorem leaves (a : Vec Ideal S512x1024 .bf16) (w : Vec Ideal S1024x512 .bf16) (r : Fin 512) (j : Fin 512) :
    k0_pay2 a w (k0_pay1 (F := Ideal)) (ix2 r j) = prod a w r j := by
  have h : k0_pay2 a w (k0_pay1 (F := Ideal)) (ix2 r j) = 0 + prod a w r j := by
    pointwise [k0_pay2, k0_pay1]
    rfl
  rw [h, zero_add]

variable (m : (ℓ : Loc nD τ sig) → Buf (Elt Ideal) ℓ) (c : Dev nD)

/-- Where the blocks of a point begin. -/
theorem starts : ∀ t : Fin cfg0.N, win0_0.index t = ![t.val % 8, 0] ∧ win0_1.index t = ![0, t.val / 8] ∧ win0_2.index t = ![t.val % 8, t.val / 8] :=
  (by decide +kernel : ∀ t : Fin grid0.N, _)

theorem few (t : Fin cfg0.N) : t.val < 40 := t.isLt

/-- The row and the column of the whole arrays that are row `r` and column `j` of a point's blocks. -/
abbrev row (t : Fin cfg0.N) (r : Fin 512) : Fin 4096 := ⟨t.val % 8 * 512 + r.val, by omega⟩

@[inherit_doc row]
abbrev col (t : Fin cfg0.N) (j : Fin 512) : Fin 2560 := ⟨t.val / 8 * 512 + j.val, by have h := few t; omega⟩

/-- The arguments, as arrays of extended reals. -/
abbrev A : S4096x1024.Idx → EReal := m ((c : Thread nD τ).loc main_arg0)

@[inherit_doc A]
abbrev W : S1024x2560.Idx → EReal := m ((c : Thread nD τ).loc main_arg1)

/-- The result after the run. -/
theorem result : (dats m 0 c).arrAt 2 cfg0.N = fun i : S4096x2560.Idx => prod (A m c) (W m c) (i 0) (i 1) := by
  refine (dats m 0 c).arrAt_eq_of_covers 2 _ (by decide +kernel) fun t hf y => ?_
  obtain ⟨e0, e1, e2⟩ := starts t
  idx_vars y
  have e : ((cfg0.win 2).blk t).view.emb (ix2 y0 y1) = (ix2 (row t y0) (col t y1) : S4096x2560.Idx) := by blk_ext [e2]
  rw [after0_2, e]
  refine Eq.trans (b := k0_pay2 (iblk m c 0 t) (iblk m c 1 t) (k0_pay1 (F := Ideal)) (ix2 y0 y1)) ?_ ((leaves _ _ y0 y1).trans ?_)
  · unfold outsAt0
    frame_out
    rfl
  · exact Finset.sum_congr rfl fun k _ => congrArg₂ (· * ·) (congrArg (A m c) (by blk_ext [e0])) (congrArg (W m c) (by blk_ext [e1]))

end Cert.Mix.EvProj

namespace Cert.EvProjRefIdeal.Value

open Cert.EvProjRefIdeal Cert.EvProjRefIdeal.Gen Cert.Ffn

/-- What the reference leaves. -/
def result (a : FVec Ideal S4096x1024 .bf16) (w : FVec Ideal S1024x2560 .bf16) : FVec Ideal S4096x2560 .f32 :=
  Host.dotGeneral dot_S4096x1024_S1024x2560_S4096x2560_1_0_0_1_n_n none (extf .f32 a bitsLt_bf16_f32) (extf .f32 w bitsLt_bf16_f32)

theorem result_at (a : FVec Ideal S4096x1024 .bf16) (w : FVec Ideal S1024x2560 .bf16) (r : Fin 4096) (j : Fin 2560) :
    result a w (ix2 r j) = prod a w r j := by
  pointwise [result]
  rfl

end Cert.EvProjRefIdeal.Value

namespace Cert.Mix.EvProj

/-- Kernel and reference leave the same array, over the extended reals. -/
theorem same : Cert.algebraic_EvProjIdeal_EvProjRefIdeal
    (hEvProjIdeal := Cert.EvProjIdeal.Gen.facts) (hEvProjRefIdeal := Cert.EvProjRefIdeal.Gen.facts) := by
  intro m g m' g' _ hm
  refine ⟨_, Cert.EvProjIdeal.Value.run_blocks m g, (θ_run _ _ _).mono ?_ (Cert.EvProjRefIdeal.Value.run m' g')⟩
  intro r h c
  obtain ⟨e0, e1⟩ := hm c
  refine ⟨(h c).1.trans (Eq.trans ?_ (result m c).symm), (h c).2⟩
  rw [e0, e1]
  refine funext fun i => ?_
  idx_vars i
  exact Cert.EvProjRefIdeal.Value.result_at (A m c) (W m c) i0 i1

end Cert.Mix.EvProj

namespace Cert.Mix.OdProj

open Cert.OdProjIdeal Cert.OdProjIdeal.Gen Cert.Ffn

/-- What the body leaves of its blocks. -/
theorem leaves (a : Vec Ideal S512x1024 .bf16) (w : Vec Ideal S1024x1024 .bf16) (r : Fin 512) (j : Fin 1024) :
    k0_pay2 a w (k0_pay1 (F := Ideal)) (ix2 r j) = prod a w r j := by
  have h : k0_pay2 a w (k0_pay1 (F := Ideal)) (ix2 r j) = 0 + prod a w r j := by
    pointwise [k0_pay2, k0_pay1]
    rfl
  rw [h, zero_add]

variable (m : (ℓ : Loc nD τ sig) → Buf (Elt Ideal) ℓ) (c : Dev nD)

/-- Where the blocks of a point begin. -/
theorem starts : ∀ t : Fin cfg0.N, win0_0.index t = ![t.val % 8, 0] ∧ win0_1.index t = ![0, t.val / 8] ∧ win0_2.index t = ![t.val % 8, t.val / 8] :=
  (by decide +kernel : ∀ t : Fin grid0.N, _)

theorem few (t : Fin cfg0.N) : t.val < 32 := t.isLt

/-- The row and the column of the whole arrays that are row `r` and column `j` of a point's blocks. -/
abbrev row (t : Fin cfg0.N) (r : Fin 512) : Fin 4096 := ⟨t.val % 8 * 512 + r.val, by omega⟩

@[inherit_doc row]
abbrev col (t : Fin cfg0.N) (j : Fin 1024) : Fin 4096 := ⟨t.val / 8 * 1024 + j.val, by have h := few t; omega⟩

/-- The arguments, as arrays of extended reals. -/
abbrev A : S4096x1024.Idx → EReal := m ((c : Thread nD τ).loc main_arg0)

@[inherit_doc A]
abbrev W : S1024x4096.Idx → EReal := m ((c : Thread nD τ).loc main_arg1)

/-- The result after the run. -/
theorem result : (dats m 0 c).arrAt 2 cfg0.N = fun i : S4096x4096.Idx => prod (A m c) (W m c) (i 0) (i 1) := by
  refine (dats m 0 c).arrAt_eq_of_covers 2 _ (by decide +kernel) fun t hf y => ?_
  obtain ⟨e0, e1, e2⟩ := starts t
  idx_vars y
  have e : ((cfg0.win 2).blk t).view.emb (ix2 y0 y1) = (ix2 (row t y0) (col t y1) : S4096x4096.Idx) := by blk_ext [e2]
  rw [after0_2, e]
  refine Eq.trans (b := k0_pay2 (iblk m c 0 t) (iblk m c 1 t) (k0_pay1 (F := Ideal)) (ix2 y0 y1)) ?_ ((leaves _ _ y0 y1).trans ?_)
  · unfold outsAt0
    frame_out
    rfl
  · exact Finset.sum_congr rfl fun k _ => congrArg₂ (· * ·) (congrArg (A m c) (by blk_ext [e0])) (congrArg (W m c) (by blk_ext [e1]))

end Cert.Mix.OdProj

namespace Cert.OdProjRefIdeal.Value

open Cert.OdProjRefIdeal Cert.OdProjRefIdeal.Gen Cert.Ffn

/-- What the reference leaves. -/
def result (a : FVec Ideal S4096x1024 .bf16) (w : FVec Ideal S1024x4096 .bf16) : FVec Ideal S4096x4096 .f32 :=
  Host.dotGeneral dot_S4096x1024_S1024x4096_S4096x4096_1_0_0_1_n_n none (extf .f32 a bitsLt_bf16_f32) (extf .f32 w bitsLt_bf16_f32)

theorem result_at (a : FVec Ideal S4096x1024 .bf16) (w : FVec Ideal S1024x4096 .bf16) (r : Fin 4096) (j : Fin 4096) :
    result a w (ix2 r j) = prod a w r j := by
  pointwise [result]
  rfl

end Cert.OdProjRefIdeal.Value

namespace Cert.Mix.OdProj

/-- Kernel and reference leave the same array, over the extended reals. -/
theorem same : Cert.algebraic_OdProjIdeal_OdProjRefIdeal
    (hOdProjIdeal := Cert.OdProjIdeal.Gen.facts) (hOdProjRefIdeal := Cert.OdProjRefIdeal.Gen.facts) := by
  intro m g m' g' _ hm
  refine ⟨_, Cert.OdProjIdeal.Value.run_blocks m g, (θ_run _ _ _).mono ?_ (Cert.OdProjRefIdeal.Value.run m' g')⟩
  intro r h c
  obtain ⟨e0, e1⟩ := hm c
  refine ⟨(h c).1.trans (Eq.trans ?_ (result m c).symm), (h c).2⟩
  rw [e0, e1]
  refine funext fun i => ?_
  idx_vars i
  exact Cert.OdProjRefIdeal.Value.result_at (A m c) (W m c) i0 i1

end Cert.Mix.OdProj

namespace Cert.Mix.OdProjBd

open Cert.OdProjBdIdeal Cert.OdProjBdIdeal.Gen Cert.Ffn

/-- What the body leaves of its blocks. -/
theorem leaves (a : Vec Ideal S512x1024 .bf16) (w : Vec Ideal S1024x128 .bf16) (r : Fin 512) (j : Fin 128) :
    k0_pay2 a w (k0_pay1 (F := Ideal)) (ix2 r j) = prod a w r j := by
  have h : k0_pay2 a w (k0_pay1 (F := Ideal)) (ix2 r j) = 0 + prod a w r j := by
    pointwise [k0_pay2, k0_pay1]
    rfl
  rw [h, zero_add]

variable (m : (ℓ : Loc nD τ sig) → Buf (Elt Ideal) ℓ) (c : Dev nD)

/-- Where the blocks of a point begin. -/
theorem starts : ∀ t : Fin cfg0.N, win0_0.index t = ![t.val % 8, 0] ∧ win0_1.index t = ![0, t.val / 8] ∧ win0_2.index t = ![t.val % 8, t.val / 8] :=
  (by decide +kernel : ∀ t : Fin grid0.N, _)

theorem few (t : Fin cfg0.N) : t.val < 8 := t.isLt

/-- The row and the column of the whole arrays that are row `r` and column `j` of a point's blocks. -/
abbrev row (t : Fin cfg0.N) (r : Fin 512) : Fin 4096 := ⟨t.val % 8 * 512 + r.val, by omega⟩

@[inherit_doc row]
abbrev col (t : Fin cfg0.N) (j : Fin 128) : Fin 128 := ⟨t.val / 8 * 128 + j.val, by have h := few t; omega⟩

/-- The arguments, as arrays of extended reals. -/
abbrev A : S4096x1024.Idx → EReal := m ((c : Thread nD τ).loc main_arg0)

@[inherit_doc A]
abbrev W : S1024x128.Idx → EReal := m ((c : Thread nD τ).loc main_arg1)

/-- The result after the run. -/
theorem result : (dats m 0 c).arrAt 2 cfg0.N = fun i : S4096x128.Idx => prod (A m c) (W m c) (i 0) (i 1) := by
  refine (dats m 0 c).arrAt_eq_of_covers 2 _ (by decide +kernel) fun t hf y => ?_
  obtain ⟨e0, e1, e2⟩ := starts t
  idx_vars y
  have e : ((cfg0.win 2).blk t).view.emb (ix2 y0 y1) = (ix2 (row t y0) (col t y1) : S4096x128.Idx) := by blk_ext [e2]
  rw [after0_2, e]
  refine Eq.trans (b := k0_pay2 (iblk m c 0 t) (iblk m c 1 t) (k0_pay1 (F := Ideal)) (ix2 y0 y1)) ?_ ((leaves _ _ y0 y1).trans ?_)
  · unfold outsAt0
    frame_out
    rfl
  · exact Finset.sum_congr rfl fun k _ => congrArg₂ (· * ·) (congrArg (A m c) (by blk_ext [e0])) (congrArg (W m c) (by blk_ext [e1]))

end Cert.Mix.OdProjBd

namespace Cert.OdProjBdRefIdeal.Value

open Cert.OdProjBdRefIdeal Cert.OdProjBdRefIdeal.Gen Cert.Ffn

/-- What the reference leaves. -/
def result (a : FVec Ideal S4096x1024 .bf16) (w : FVec Ideal S1024x128 .bf16) : FVec Ideal S4096x128 .f32 :=
  Host.dotGeneral dot_S4096x1024_S1024x128_S4096x128_1_0_0_1_n_n none (extf .f32 a bitsLt_bf16_f32) (extf .f32 w bitsLt_bf16_f32)

theorem result_at (a : FVec Ideal S4096x1024 .bf16) (w : FVec Ideal S1024x128 .bf16) (r : Fin 4096) (j : Fin 128) :
    result a w (ix2 r j) = prod a w r j := by
  pointwise [result]
  rfl

end Cert.OdProjBdRefIdeal.Value

namespace Cert.Mix.OdProjBd

/-- Kernel and reference leave the same array, over the extended reals. -/
theorem same : Cert.algebraic_OdProjBdIdeal_OdProjBdRefIdeal
    (hOdProjBdIdeal := Cert.OdProjBdIdeal.Gen.facts) (hOdProjBdRefIdeal := Cert.OdProjBdRefIdeal.Gen.facts) := by
  intro m g m' g' _ hm
  refine ⟨_, Cert.OdProjBdIdeal.Value.run_blocks m g, (θ_run _ _ _).mono ?_ (Cert.OdProjBdRefIdeal.Value.run m' g')⟩
  intro r h c
  obtain ⟨e0, e1⟩ := hm c
  refine ⟨(h c).1.trans (Eq.trans ?_ (result m c).symm), (h c).2⟩
  rw [e0, e1]
  refine funext fun i => ?_
  idx_vars i
  exact Cert.OdProjBdRefIdeal.Value.result_at (A m c) (W m c) i0 i1

end Cert.Mix.OdProjBd

end
-- ==== Proof.MixOut.lean ====
/-
  The projections out of the mixing blocks: the kernel, on the extended reals, leaves the product of what the block leaves with
  the weight behind it, added to what passes the block by.
-/
module

public import proofs.«01_k».proof.Defs
public import proofs.«01_k».proof.Proof.Gen.EvOut.Value
public import proofs.«01_k».proof.Proof.Gen.EvOutIdeal.Value
public import proofs.«01_k».proof.Proof.Gen.EvOutRefIdeal.Run
public import proofs.«01_k».proof.Proof.Gen.OdOut.Value
public import proofs.«01_k».proof.Proof.Gen.OdOutIdeal.Value
public import proofs.«01_k».proof.Proof.Gen.OdOutRefIdeal.Run
public import proofs.«01_k».proof.Proof.Ffn.Rule
public import Idealize.ShloMosaic.Lib.Quiescent

@[expose] public section

noncomputable section

open Idealize.ShloMosaic Idealize.ShloMosaic.TcCoe Idealize.SL.Sem
open Idealize.ShloMosaic.Pipeline (Dat)

namespace Cert.Mix.EvOut

open Cert.EvOutIdeal Cert.EvOutIdeal.Gen Cert.Ffn

/-- What the body leaves of its blocks. -/
theorem leaves (a : Vec Ideal S512x512 .f32) (w : Vec Ideal S512x1024 .bf16) (b : Vec Ideal S512x512 .f32) (v : Vec Ideal S512x1024 .bf16)
    (x : Vec Ideal S512x1024 .f32) (r : Fin 512) (j : Fin 1024) :
    k0_pay3 (k0_pay2 a w b v (k0_pay1 (F := Ideal))) x (ix2 r j) = x (ix2 r j) + (prod a w r j + prod b v r j) := by
  have h : k0_pay3 (k0_pay2 a w b v (k0_pay1 (F := Ideal))) x (ix2 r j) = x (ix2 r j) + (0 + (prod a w r j + prod b v r j)) := by
    pointwise [k0_pay3, k0_pay2, k0_pay1]
    rfl
  rw [h, zero_add]

variable (m : (ℓ : Loc nD τ sig) → Buf (Elt Ideal) ℓ) (c : Dev nD)

/-- Where the blocks of a point begin. -/
theorem starts : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

theorem few (t : Fin cfg0.N) : t.val < 8 := t.isLt

/-- The row of the whole arrays that is row `r` of a point's blocks. -/
abbrev row (t : Fin cfg0.N) (r : Fin 512) : Fin 4096 := ⟨t.val * 512 + r.val, by have h := few t; omega⟩

/-- The arguments, as arrays of extended reals. -/
abbrev A : S4096x512.Idx → EReal := m ((c : Thread nD τ).loc main_arg0)

@[inherit_doc A]
abbrev W : S512x1024.Idx → EReal := m ((c : Thread nD τ).loc main_arg1)

@[inherit_doc A]
abbrev B : S4096x512.Idx → EReal := m ((c : Thread nD τ).loc main_arg2)

@[inherit_doc A]
abbrev V : S512x1024.Idx → EReal := m ((c : Thread nD τ).loc main_arg3)

@[inherit_doc A]
abbrev X : S4096x1024.Idx → EReal := m ((c : Thread nD τ).loc main_arg4)

/-- The result after the run. -/
theorem result : (dats m 0 c).arrAt 5 cfg0.N = fun i : S4096x1024.Idx =>
    X m c (ix2 (i 0) (i 1)) + (prod (A m c) (W m c) (i 0) (i 1) + prod (B m c) (V m c) (i 0) (i 1)) := by
  refine (dats m 0 c).arrAt_eq_of_covers 5 _ (by decide +kernel) fun t hf y => ?_
  obtain ⟨e0, e1, e2, e3, e4, e5⟩ := starts t
  idx_vars y
  have e : ((cfg0.win 5).blk t).view.emb (ix2 y0 y1) = (ix2 (row t y0) y1 : S4096x1024.Idx) := by blk_ext [e5]
  rw [after0_5, e]
  refine Eq.trans (b := k0_pay3 (k0_pay2 (iblk m c 0 t) (iblk m c 1 t) (iblk m c 2 t) (iblk m c 3 t) (k0_pay1 (F := Ideal))) (iblk m c 4 t) (ix2 y0 y1)) ?_
    ((leaves _ _ _ _ _ y0 y1).trans (congrArg₂ (· + ·) (congrArg (X m c) (by blk_ext [e4])) (congrArg₂ (· + ·) ?_ ?_)))
  · unfold outsAt0
    frame_out
    rfl
  · exact Finset.sum_congr rfl fun k _ => congrArg₂ (· * ·) (congrArg (A m c) (by blk_ext [e0])) (congrArg (W m c) (by blk_ext [e1]))
  · exact Finset.sum_congr rfl fun k _ => congrArg₂ (· * ·) (congrArg (B m c) (by blk_ext [e2])) (congrArg (V m c) (by blk_ext [e3]))

end Cert.Mix.EvOut

namespace Cert.EvOutRefIdeal.Value

open Cert.EvOutRefIdeal Cert.EvOutRefIdeal.Gen Cert.Ffn

/-- What the reference leaves. -/
def result (a : FVec Ideal S4096x512 .f32) (w : FVec Ideal S512x1024 .bf16) (b : FVec Ideal S4096x512 .f32) (v : FVec Ideal S512x1024 .bf16)
    (x : FVec Ideal S4096x1024 .f32) : FVec Ideal S4096x1024 .f32 :=
  addf x (Host.dotGeneral dot_S4096x1024_S1024x1024_S4096x1024_1_0_0_1_n_n none
    (concatenate S4096x1024 1 [⟨S4096x512, a⟩, ⟨S4096x512, b⟩] concatenates_S4096x512_S4096x512_S4096x1024_d1)
    (extf .f32 (concatenate S1024x1024 0 [⟨S512x1024, w⟩, ⟨S512x1024, v⟩] concatenates_S512x1024_S512x1024_S1024x1024_d0) bitsLt_bf16_f32))

/-- The product of the arrays put side by side is the sum of theirs. -/
theorem result_at (a : FVec Ideal S4096x512 .f32) (w : FVec Ideal S512x1024 .bf16) (b : FVec Ideal S4096x512 .f32) (v : FVec Ideal S512x1024 .bf16)
    (x : FVec Ideal S4096x1024 .f32) (r : Fin 4096) (j : Fin 1024) :
    result a w b v x (ix2 r j) = x (ix2 r j) + (prod a w r j + prod b v r j) := by
  pointwise [result]
  rfl

end Cert.EvOutRefIdeal.Value

namespace Cert.Mix.EvOut

/-- Kernel and reference leave the same array, over the extended reals. -/
theorem same : Cert.algebraic_EvOutIdeal_EvOutRefIdeal
    (hEvOutIdeal := Cert.EvOutIdeal.Gen.facts) (hEvOutRefIdeal := Cert.EvOutRefIdeal.Gen.facts) := by
  intro m g m' g' _ hm
  refine ⟨_, Cert.EvOutIdeal.Value.run_blocks m g, (θ_run _ _ _).mono ?_ (Cert.EvOutRefIdeal.Value.run m' g')⟩
  intro r h c
  obtain ⟨e0, e1, e2, e3, e4⟩ := hm c
  refine ⟨(h c).1.trans (Eq.trans ?_ (result m c).symm), (h c).2⟩
  rw [e0, e1, e2, e3, e4]
  refine funext fun i => ?_
  idx_vars i
  exact Cert.EvOutRefIdeal.Value.result_at (A m c) (W m c) (B m c) (V m c) (X m c) i0 i1

end Cert.Mix.EvOut

namespace Cert.Mix.OdOut

open Cert.OdOutIdeal Cert.OdOutIdeal.Gen Cert.Ffn

/-- What the body leaves of its blocks. -/
theorem leaves (a : Vec Ideal S512x1024 .f32) (w : Vec Ideal S1024x1024 .bf16) (x : Vec Ideal S512x1024 .f32) (r : Fin 512) (j : Fin 1024) :
    k0_pay3 (k0_pay2 a w (k0_pay1 (F := Ideal))) x (ix2 r j) = x (ix2 r j) + prod a w r j := by
  have h : k0_pay3 (k0_pay2 a w (k0_pay1 (F := Ideal))) x (ix2 r j) = x (ix2 r j) + (0 + prod a w r j) := by
    pointwise [k0_pay3, k0_pay2, k0_pay1]
    rfl
  rw [h, zero_add]

variable (m : (ℓ : Loc nD τ sig) → Buf (Elt Ideal) ℓ) (c : Dev nD)

/-- Where the blocks of a point begin. -/
theorem starts : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem few (t : Fin cfg0.N) : t.val < 8 := t.isLt

/-- The row of the whole arrays that is row `r` of a point's blocks. -/
abbrev row (t : Fin cfg0.N) (r : Fin 512) : Fin 4096 := ⟨t.val * 512 + r.val, by have h := few t; omega⟩

/-- The arguments, as arrays of extended reals. -/
abbrev A : S4096x1024.Idx → EReal := m ((c : Thread nD τ).loc main_arg0)

@[inherit_doc A]
abbrev W : S1024x1024.Idx → EReal := m ((c : Thread nD τ).loc main_arg1)

@[inherit_doc A]
abbrev X : S4096x1024.Idx → EReal := m ((c : Thread nD τ).loc main_arg2)

/-- The result after the run. -/
theorem result : (dats m 0 c).arrAt 3 cfg0.N = fun i : S4096x1024.Idx => X m c (ix2 (i 0) (i 1)) + prod (A m c) (W m c) (i 0) (i 1) := by
  refine (dats m 0 c).arrAt_eq_of_covers 3 _ (by decide +kernel) fun t hf y => ?_
  obtain ⟨e0, e1, e2, e3⟩ := starts t
  idx_vars y
  have e : ((cfg0.win 3).blk t).view.emb (ix2 y0 y1) = (ix2 (row t y0) y1 : S4096x1024.Idx) := by blk_ext [e3]
  rw [after0_3, e]
  refine Eq.trans (b := k0_pay3 (k0_pay2 (iblk m c 0 t) (iblk m c 1 t) (k0_pay1 (F := Ideal))) (iblk m c 2 t) (ix2 y0 y1)) ?_
    ((leaves _ _ _ y0 y1).trans (congrArg₂ (· + ·) (congrArg (X m c) (by blk_ext [e2])) ?_))
  · unfold outsAt0
    frame_out
    rfl
  · exact Finset.sum_congr rfl fun k _ => congrArg₂ (· * ·) (congrArg (A m c) (by blk_ext [e0])) (congrArg (W m c) (by blk_ext [e1]))

end Cert.Mix.OdOut

namespace Cert.OdOutRefIdeal.Value

open Cert.OdOutRefIdeal Cert.OdOutRefIdeal.Gen Cert.Ffn

/-- What the reference leaves. -/
def result (a : FVec Ideal S4096x1024 .f32) (w : FVec Ideal S1024x1024 .bf16) (x : FVec Ideal S4096x1024 .f32) : FVec Ideal S4096x1024 .f32 :=
  addf x (Host.dotGeneral dot_S4096x1024_S1024x1024_S4096x1024_1_0_0_1_n_n none a (extf .f32 w bitsLt_bf16_f32))

theorem result_at (a : FVec Ideal S4096x1024 .f32) (w : FVec Ideal S1024x1024 .bf16) (x : FVec Ideal S4096x1024 .f32) (r : Fin 4096) (j : Fin 1024) :
    result a w x (ix2 r j) = x (ix2 r j) + prod a w r j := by
  pointwise [result]
  rfl

end Cert.OdOutRefIdeal.Value

namespace Cert.Mix.OdOut

/-- Kernel and reference leave the same array, over the extended reals. -/
theorem same : Cert.algebraic_OdOutIdeal_OdOutRefIdeal
    (hOdOutIdeal := Cert.OdOutIdeal.Gen.facts) (hOdOutRefIdeal := Cert.OdOutRefIdeal.Gen.facts) := by
  intro m g m' g' _ hm
  refine ⟨_, Cert.OdOutIdeal.Value.run_blocks m g, (θ_run _ _ _).mono ?_ (Cert.OdOutRefIdeal.Value.run m' g')⟩
  intro r h c
  obtain ⟨e0, e1, e2⟩ := hm c
  refine ⟨(h c).1.trans (Eq.trans ?_ (result m c).symm), (h c).2⟩
  rw [e0, e1, e2]
  refine funext fun i => ?_
  idx_vars i
  exact Cert.OdOutRefIdeal.Value.result_at (A m c) (W m c) (X m c) i0 i1

end Cert.Mix.OdOut

end
-- ==== Proof.MixDy.lean ====
/-
  The gradients by what the mixing blocks leave: the kernel, on the extended reals, leaves the product of the gradient with the
  weight behind the block, transposed.
-/
module

public import proofs.«01_k».proof.Defs
public import proofs.«01_k».proof.Proof.Gen.EvDy.Value
public import proofs.«01_k».proof.Proof.Gen.EvDyIdeal.Value
public import proofs.«01_k».proof.Proof.Gen.EvDyRefIdeal.Run
public import proofs.«01_k».proof.Proof.Gen.OdDy.Value
public import proofs.«01_k».proof.Proof.Gen.OdDyIdeal.Value
public import proofs.«01_k».proof.Proof.Gen.OdDyRefIdeal.Run
public import proofs.«01_k».proof.Proof.Ffn.Rule
public import Idealize.ShloMosaic.Lib.Quiescent

@[expose] public section

noncomputable section

open Idealize.ShloMosaic Idealize.ShloMosaic.TcCoe Idealize.SL.Sem
open Idealize.ShloMosaic.Pipeline (Dat)

namespace Cert.Mix.EvDy

open Cert.EvDyIdeal Cert.EvDyIdeal.Gen Cert.Ffn

/-- What the body leaves of its blocks. -/
theorem leaves (a : Vec Ideal S512x1024 .f32) (w : Vec Ideal S512x1024 .bf16) (r : Fin 512) (j : Fin 512) :
    k0_pay2 a w (k0_pay1 (F := Ideal)) (ix2 r j) = prodT a w r j := by
  have h : k0_pay2 a w (k0_pay1 (F := Ideal)) (ix2 r j) = 0 + prodT a w r j := by
    pointwise [k0_pay2, k0_pay1]
    rfl
  rw [h, zero_add]

variable (m : (ℓ : Loc nD τ sig) → Buf (Elt Ideal) ℓ) (c : Dev nD)

/-- Where the blocks of a point begin. -/
theorem starts : ∀ t : Fin cfg0.N, win0_0.index t = ![t.val % 8, 0] ∧ win0_1.index t = ![t.val / 8, 0] ∧ win0_2.index t = ![t.val % 8, t.val / 8] :=
  (by decide +kernel : ∀ t : Fin grid0.N, _)

theorem few (t : Fin cfg0.N) : t.val < 8 := t.isLt

/-- The row and the column of the whole arrays that are row `r` and column `j` of a point's blocks. -/
abbrev row (t : Fin cfg0.N) (r : Fin 512) : Fin 4096 := ⟨t.val % 8 * 512 + r.val, by omega⟩

@[inherit_doc row]
abbrev col (t : Fin cfg0.N) (j : Fin 512) : Fin 512 := ⟨t.val / 8 * 512 + j.val, by have h := few t; omega⟩

/-- The arguments, as arrays of extended reals. -/
abbrev A : S4096x1024.Idx → EReal := m ((c : Thread nD τ).loc main_arg0)

@[inherit_doc A]
abbrev W : S512x1024.Idx → EReal := m ((c : Thread nD τ).loc main_arg1)

/-- The result after the run. -/
theorem result : (dats m 0 c).arrAt 2 cfg0.N = fun i : S4096x512.Idx => prodT (A m c) (W m c) (i 0) (i 1) := by
  refine (dats m 0 c).arrAt_eq_of_covers 2 _ (by decide +kernel) fun t hf y => ?_
  obtain ⟨e0, e1, e2⟩ := starts t
  idx_vars y
  have e : ((cfg0.win 2).blk t).view.emb (ix2 y0 y1) = (ix2 (row t y0) (col t y1) : S4096x512.Idx) := by blk_ext [e2]
  rw [after0_2, e]
  refine Eq.trans (b := k0_pay2 (iblk m c 0 t) (iblk m c 1 t) (k0_pay1 (F := Ideal)) (ix2 y0 y1)) ?_ ((leaves _ _ y0 y1).trans ?_)
  · unfold outsAt0
    frame_out
    rfl
  · exact Finset.sum_congr rfl fun k _ => congrArg₂ (· * ·) (congrArg (A m c) (by blk_ext [e0])) (congrArg (W m c) (by blk_ext [e1]))

end Cert.Mix.EvDy

namespace Cert.EvDyRefIdeal.Value

open Cert.EvDyRefIdeal Cert.EvDyRefIdeal.Gen Cert.Ffn

/-- What the reference leaves. -/
def result (a : FVec Ideal S4096x1024 .f32) (w : FVec Ideal S512x1024 .bf16) : FVec Ideal S4096x512 .f32 :=
  Host.dotGeneral dot_S4096x1024_S512x1024_S4096x512_1_1_0_0_n_n none a (extf .f32 w bitsLt_bf16_f32)

theorem result_at (a : FVec Ideal S4096x1024 .f32) (w : FVec Ideal S512x1024 .bf16) (r : Fin 4096) (j : Fin 512) :
    result a w (ix2 r j) = prodT a w r j := by
  pointwise [result]
  rfl

end Cert.EvDyRefIdeal.Value

namespace Cert.Mix.EvDy

/-- Kernel and reference leave the same array, over the extended reals. -/
theorem same : Cert.algebraic_EvDyIdeal_EvDyRefIdeal
    (hEvDyIdeal := Cert.EvDyIdeal.Gen.facts) (hEvDyRefIdeal := Cert.EvDyRefIdeal.Gen.facts) := by
  intro m g m' g' _ hm
  refine ⟨_, Cert.EvDyIdeal.Value.run_blocks m g, (θ_run _ _ _).mono ?_ (Cert.EvDyRefIdeal.Value.run m' g')⟩
  intro r h c
  obtain ⟨e0, e1⟩ := hm c
  refine ⟨(h c).1.trans (Eq.trans ?_ (result m c).symm), (h c).2⟩
  rw [e0, e1]
  refine funext fun i => ?_
  idx_vars i
  exact Cert.EvDyRefIdeal.Value.result_at (A m c) (W m c) i0 i1

end Cert.Mix.EvDy

namespace Cert.Mix.OdDy

open Cert.OdDyIdeal Cert.OdDyIdeal.Gen Cert.Ffn

/-- What the body leaves of its blocks. -/
theorem leaves (a : Vec Ideal S512x1024 .f32) (w : Vec Ideal S1024x1024 .bf16) (r : Fin 512) (j : Fin 1024) :
    k0_pay2 a w (k0_pay1 (F := Ideal)) (ix2 r j) = prodT a w r j := by
  have h : k0_pay2 a w (k0_pay1 (F := Ideal)) (ix2 r j) = 0 + prodT a w r j := by
    pointwise [k0_pay2, k0_pay1]
    rfl
  rw [h, zero_add]

variable (m : (ℓ : Loc nD τ sig) → Buf (Elt Ideal) ℓ) (c : Dev nD)

/-- Where the blocks of a point begin. -/
theorem starts : ∀ t : Fin cfg0.N, win0_0.index t = ![t.val % 8, 0] ∧ win0_1.index t = ![t.val / 8, 0] ∧ win0_2.index t = ![t.val % 8, t.val / 8] :=
  (by decide +kernel : ∀ t : Fin grid0.N, _)

theorem few (t : Fin cfg0.N) : t.val < 8 := t.isLt

/-- The row and the column of the whole arrays that are row `r` and column `j` of a point's blocks. -/
abbrev row (t : Fin cfg0.N) (r : Fin 512) : Fin 4096 := ⟨t.val % 8 * 512 + r.val, by omega⟩

@[inherit_doc row]
abbrev col (t : Fin cfg0.N) (j : Fin 1024) : Fin 1024 := ⟨t.val / 8 * 1024 + j.val, by have h := few t; omega⟩

/-- The arguments, as arrays of extended reals. -/
abbrev A : S4096x1024.Idx → EReal := m ((c : Thread nD τ).loc main_arg0)

@[inherit_doc A]
abbrev W : S1024x1024.Idx → EReal := m ((c : Thread nD τ).loc main_arg1)

/-- The result after the run. -/
theorem result : (dats m 0 c).arrAt 2 cfg0.N = fun i : S4096x1024.Idx => prodT (A m c) (W m c) (i 0) (i 1) := by
  refine (dats m 0 c).arrAt_eq_of_covers 2 _ (by decide +kernel) fun t hf y => ?_
  obtain ⟨e0, e1, e2⟩ := starts t
  idx_vars y
  have e : ((cfg0.win 2).blk t).view.emb (ix2 y0 y1) = (ix2 (row t y0) (col t y1) : S4096x1024.Idx) := by blk_ext [e2]
  rw [after0_2, e]
  refine Eq.trans (b := k0_pay2 (iblk m c 0 t) (iblk m c 1 t) (k0_pay1 (F := Ideal)) (ix2 y0 y1)) ?_ ((leaves _ _ y0 y1).trans ?_)
  · unfold outsAt0
    frame_out
    rfl
  · exact Finset.sum_congr rfl fun k _ => congrArg₂ (· * ·) (congrArg (A m c) (by blk_ext [e0])) (congrArg (W m c) (by blk_ext [e1]))

end Cert.Mix.OdDy

namespace Cert.OdDyRefIdeal.Value

open Cert.OdDyRefIdeal Cert.OdDyRefIdeal.Gen Cert.Ffn

/-- What the reference leaves. -/
def result (a : FVec Ideal S4096x1024 .f32) (w : FVec Ideal S1024x1024 .bf16) : FVec Ideal S4096x1024 .f32 :=
  Host.dotGeneral dot_S4096x1024_S1024x1024_S4096x1024_1_1_0_0_n_n none a (extf .f32 w bitsLt_bf16_f32)

theorem result_at (a : FVec Ideal S4096x1024 .f32) (w : FVec Ideal S1024x1024 .bf16) (r : Fin 4096) (j : Fin 1024) :
    result a w (ix2 r j) = prodT a w r j := by
  pointwise [result]
  rfl

end Cert.OdDyRefIdeal.Value

namespace Cert.Mix.OdDy

/-- Kernel and reference leave the same array, over the extended reals. -/
theorem same : Cert.algebraic_OdDyIdeal_OdDyRefIdeal
    (hOdDyIdeal := Cert.OdDyIdeal.Gen.facts) (hOdDyRefIdeal := Cert.OdDyRefIdeal.Gen.facts) := by
  intro m g m' g' _ hm
  refine ⟨_, Cert.OdDyIdeal.Value.run_blocks m g, (θ_run _ _ _).mono ?_ (Cert.OdDyRefIdeal.Value.run m' g')⟩
  intro r h c
  obtain ⟨e0, e1⟩ := hm c
  refine ⟨(h c).1.trans (Eq.trans ?_ (result m c).symm), (h c).2⟩
  rw [e0, e1]
  refine funext fun i => ?_
  idx_vars i
  exact Cert.OdDyRefIdeal.Value.result_at (A m c) (W m c) i0 i1

end Cert.Mix.OdDy

end
-- ==== Proof.MixDw.lean ====
/-
  The gradients by the mixing blocks' weights: the kernel, on the extended reals, leaves the product of what a weight
  multiplies, transposed, with the gradient by its own product, that it takes in four quarters of the rows.
-/
module

public import proofs.«01_k».proof.Defs
public import proofs.«01_k».proof.Proof.Gen.EvDwOut.Value
public import proofs.«01_k».proof.Proof.Gen.EvDwOutIdeal.Value
public import proofs.«01_k».proof.Proof.Gen.EvDwOutRefIdeal.Run
public import proofs.«01_k».proof.Proof.Gen.OdDwOut.Value
public import proofs.«01_k».proof.Proof.Gen.OdDwOutIdeal.Value
public import proofs.«01_k».proof.Proof.Gen.OdDwOutRefIdeal.Run
public import proofs.«01_k».proof.Proof.Gen.EvDwIn.Value
public import proofs.«01_k».proof.Proof.Gen.EvDwInIdeal.Value
public import proofs.«01_k».proof.Proof.Gen.EvDwInRefIdeal.Run
public import proofs.«01_k».proof.Proof.Gen.OdDwIn.Value
public import proofs.«01_k».proof.Proof.Gen.OdDwInIdeal.Value
public import proofs.«01_k».proof.Proof.Gen.OdDwInRefIdeal.Run
public import proofs.«01_k».proof.Proof.Gen.OdDwBd.Value
public import proofs.«01_k».proof.Proof.Gen.OdDwBdIdeal.Value
public import proofs.«01_k».proof.Proof.Gen.OdDwBdRefIdeal.Run
public import proofs.«01_k».proof.Proof.Ffn.Rule
public import Idealize.ShloMosaic.Lib.Quiescent

@[expose] public section

noncomputable section

open Idealize.ShloMosaic Idealize.ShloMosaic.TcCoe Idealize.SL.Sem
open Idealize.ShloMosaic.Pipeline (Dat)

namespace Cert.Mix.EvDwOut

open Cert.EvDwOutIdeal Cert.EvDwOutIdeal.Gen Cert.Ffn

/-- What the body adds at a point to what it has, -/
theorem adds (a : Vec Ideal S1024x512 .f32) (g : Vec Ideal S1024x1024 .f32) (o : Vec Ideal S512x1024 .f32) (r : Fin 512) (j : Fin 1024) :
    k0_pay2 a g o (ix2 r j) = o (ix2 r j) + tprod a g r j := by
  pointwise [k0_pay2]
  rfl

/-- from zero. -/
theorem adds_first (a : Vec Ideal S1024x512 .f32) (g : Vec Ideal S1024x1024 .f32) (r : Fin 512) (j : Fin 1024) :
    k0_pay2 a g (k0_pay1 (F := Ideal)) (ix2 r j) = 0 + tprod a g r j :=
  (adds a g _ r j).trans (congrArg (· + _) (show k0_pay1 (F := Ideal) (ix2 r j) = 0 by pointwise [k0_pay1]))

variable (m : (ℓ : Loc nD τ sig) → Buf (Elt Ideal) ℓ) (c : Dev nD)

/-- Where the blocks of a point begin. -/
theorem starts : ∀ t : Fin cfg0.N, win0_0.index t = ![t.val % 4, 0] ∧ win0_1.index t = ![t.val % 4, 0] ∧ win0_2.index t = ![0, 0] :=
  (by decide +kernel : ∀ t : Fin grid0.N, _)

/-- The arguments, as arrays of extended reals. -/
abbrev A : S4096x512.Idx → EReal := m ((c : Thread nD τ).loc main_arg0)

@[inherit_doc A]
abbrev G : S4096x1024.Idx → EReal := m ((c : Thread nD τ).loc main_arg1)

/-- Their blocks of a point. -/
abbrev bA (p : Fin cfg0.N) : S1024x512.Idx → EReal := iblk m c 0 p

@[inherit_doc bA]
abbrev bG (p : Fin cfg0.N) : S1024x1024.Idx → EReal := iblk m c 1 p

theorem few (t : Fin cfg0.N) : t.val < 4 := t.isLt

/-- What a result block's last point has summed up. -/
theorem summed (t : Fin cfg0.N) (ht : t.val % 4 = 3) (r : Fin 512) (j : Fin 1024) :
    (outsAt0 m c t.val t.isLt).2 (ix2 r j) = tprod (A m c) (G m c) r j := by
  refine run_sum (N := cfg0.N) 4 (S := 1024) (fun n h => (outsAt0 m c n h).2 (ix2 r j))
    (fun p k => bA m c p (ix2 k r) * bG m c p (ix2 k j)) _ rfl
    (fun p h => ?_) (fun p h => ?_) t ht fun s p hp k ⟨l, _⟩ hl => ?_
  · rw [outsAt0_A m c p h (by omega)]
    frame_out
    exact adds_first _ _ r j
  · by_cases h' : p.val % 4 = 3
    · rw [outsAt0_C m c p h h']
      frame_out
      rw [(Memref.isWhole_whole _).read_unread]
      exact adds _ _ _ r j
    · rw [outsAt0_B m c p h h']
      frame_out
      rw [(Memref.isWhole_whole _).read_unread]
      exact adds _ _ _ r j
  · obtain ⟨e0, e1, -⟩ := starts p
    have := few p
    rw [show p.val % 4 = s.val by omega] at e0
    rw [show p.val % 4 = s.val by omega] at e1
    obtain rfl : l = s.val * 1024 + k.val := hl
    exact congrArg₂ (· * ·) (congrArg (A m c) (by blk_ext [e0])) (congrArg (G m c) (by blk_ext [e1]))

/-- The result after the run. -/
theorem result : (dats m 0 c).arrAt 2 cfg0.N = fun i : S512x1024.Idx => tprod (A m c) (G m c) (i 0) (i 1) := by
  refine (dats m 0 c).arrAt_eq_of_covers 2 _ (by decide +kernel) fun t hf y => ?_
  obtain ⟨-, -, e2⟩ := starts t
  idx_vars y
  have ht := (flush0_2 t).mp hf
  have h : (outsAt0 m c t.val t.isLt).1 = (outsAt0 m c t.val t.isLt).2 := by
    rw [outsAt0_C m c t (by omega) ht]
    frame_out
  have e : ((cfg0.win 2).blk t).view.emb (ix2 y0 y1) = (ix2 y0 y1 : S512x1024.Idx) := by blk_ext [e2]
  rw [after0_2, e]
  exact (congrFun h (ix2 y0 y1)).trans (summed m c t ht y0 y1)

end Cert.Mix.EvDwOut

namespace Cert.EvDwOutRefIdeal.Value

open Cert.EvDwOutRefIdeal Cert.EvDwOutRefIdeal.Gen Cert.Ffn

/-- What the reference leaves. -/
def result (a : FVec Ideal S4096x512 .f32) (g : FVec Ideal S4096x1024 .f32) : FVec Ideal S512x1024 .f32 :=
  transpose S512x1024 [1, 0] (Host.dotGeneral dot_S4096x1024_S4096x512_S1024x512_0_0_1_1_n_n none g a) transposes_S1024x512_S512x1024_1_0

theorem result_at (a : FVec Ideal S4096x512 .f32) (g : FVec Ideal S4096x1024 .f32) (r : Fin 512) (j : Fin 1024) :
    result a g (ix2 r j) = tprod a g r j := by
  have h : result a g (ix2 r j) = ∑ k : Fin 4096, g (ix2 k j) * a (ix2 k r) := by
    pointwise [result]
  exact h.trans (Finset.sum_congr rfl fun k _ => mul_comm _ _)

end Cert.EvDwOutRefIdeal.Value

namespace Cert.Mix.EvDwOut

/-- Kernel and reference leave the same array, over the extended reals. -/
theorem same : Cert.algebraic_EvDwOutIdeal_EvDwOutRefIdeal
    (hEvDwOutIdeal := Cert.EvDwOutIdeal.Gen.facts) (hEvDwOutRefIdeal := Cert.EvDwOutRefIdeal.Gen.facts) := by
  intro m g m' g' _ hm
  refine ⟨_, Cert.EvDwOutIdeal.Value.run_blocks m g, (θ_run _ _ _).mono ?_ (Cert.EvDwOutRefIdeal.Value.run m' g')⟩
  intro r h c
  obtain ⟨e0, e1⟩ := hm c
  refine ⟨(h c).1.trans (Eq.trans ?_ (result m c).symm), (h c).2⟩
  rw [e0, e1]
  refine funext fun i => ?_
  idx_vars i
  exact Cert.EvDwOutRefIdeal.Value.result_at (A m c) (G m c) i0 i1

end Cert.Mix.EvDwOut

namespace Cert.Mix.OdDwOut

open Cert.OdDwOutIdeal Cert.OdDwOutIdeal.Gen Cert.Ffn

/-- What the body adds at a point to what it has, -/
theorem adds (a : Vec Ideal S1024x512 .f32) (g : Vec Ideal S1024x1024 .f32) (o : Vec Ideal S512x1024 .f32) (r : Fin 512) (j : Fin 1024) :
    k0_pay2 a g o (ix2 r j) = o (ix2 r j) + tprod a g r j := by
  pointwise [k0_pay2]
  rfl

/-- from zero. -/
theorem adds_first (a : Vec Ideal S1024x512 .f32) (g : Vec Ideal S1024x1024 .f32) (r : Fin 512) (j : Fin 1024) :
    k0_pay2 a g (k0_pay1 (F := Ideal)) (ix2 r j) = 0 + tprod a g r j :=
  (adds a g _ r j).trans (congrArg (· + _) (show k0_pay1 (F := Ideal) (ix2 r j) = 0 by pointwise [k0_pay1]))

variable (m : (ℓ : Loc nD τ sig) → Buf (Elt Ideal) ℓ) (c : Dev nD)

/-- Where the blocks of a point begin. -/
theorem starts : ∀ t : Fin cfg0.N, win0_0.index t = ![t.val % 4, t.val / 4] ∧ win0_1.index t = ![t.val % 4, 0] ∧ win0_2.index t = ![t.val / 4, 0] :=
  (by decide +kernel : ∀ t : Fin grid0.N, _)

theorem few (t : Fin cfg0.N) : t.val < 8 := t.isLt

/-- The row of the result that is row `r` of a point's block. -/
abbrev row (t : Fin cfg0.N) (r : Fin 512) : Fin 1024 := ⟨t.val / 4 * 512 + r.val, by have h := few t; omega⟩

/-- The arguments, as arrays of extended reals. -/
abbrev A : S4096x1024.Idx → EReal := m ((c : Thread nD τ).loc main_arg0)

@[inherit_doc A]
abbrev G : S4096x1024.Idx → EReal := m ((c : Thread nD τ).loc main_arg1)

/-- Their blocks of a point. -/
abbrev bA (p : Fin cfg0.N) : S1024x512.Idx → EReal := iblk m c 0 p

@[inherit_doc bA]
abbrev bG (p : Fin cfg0.N) : S1024x1024.Idx → EReal := iblk m c 1 p

/-- What a result block's last point has summed up. -/
theorem summed (t : Fin cfg0.N) (ht : t.val % 4 = 3) (r : Fin 512) (j : Fin 1024) :
    (outsAt0 m c t.val t.isLt).2 (ix2 r j) = tprod (A m c) (G m c) (row t r) j := by
  refine run_sum (N := cfg0.N) 4 (S := 1024) (fun n h => (outsAt0 m c n h).2 (ix2 r j))
    (fun p k => bA m c p (ix2 k r) * bG m c p (ix2 k j)) _ rfl
    (fun p h => ?_) (fun p h => ?_) t ht fun s p hp k ⟨l, _⟩ hl => ?_
  · rw [outsAt0_A m c p h (by omega)]
    frame_out
    exact adds_first _ _ r j
  · by_cases h' : p.val % 4 = 3
    · rw [outsAt0_C m c p h h']
      frame_out
      rw [(Memref.isWhole_whole _).read_unread]
      exact adds _ _ _ r j
    · rw [outsAt0_B m c p h h']
      frame_out
      rw [(Memref.isWhole_whole _).read_unread]
      exact adds _ _ _ r j
  · obtain ⟨e0, e1, -⟩ := starts p
    rw [show p.val % 4 = s.val by omega, show p.val / 4 = t.val / 4 by omega] at e0
    rw [show p.val % 4 = s.val by omega] at e1
    obtain rfl : l = s.val * 1024 + k.val := hl
    exact congrArg₂ (· * ·) (congrArg (A m c) (by blk_ext [e0])) (congrArg (G m c) (by blk_ext [e1]))

/-- The result after the run. -/
theorem result : (dats m 0 c).arrAt 2 cfg0.N = fun i : S1024x1024.Idx => tprod (A m c) (G m c) (i 0) (i 1) := by
  refine (dats m 0 c).arrAt_eq_of_covers 2 _ (by decide +kernel) fun t hf y => ?_
  obtain ⟨-, -, e2⟩ := starts t
  idx_vars y
  have ht := (flush0_2 t).mp hf
  have h : (outsAt0 m c t.val t.isLt).1 = (outsAt0 m c t.val t.isLt).2 := by
    rw [outsAt0_C m c t (by omega) ht]
    frame_out
  have e : ((cfg0.win 2).blk t).view.emb (ix2 y0 y1) = (ix2 (row t y0) y1 : S1024x1024.Idx) := by blk_ext [e2]
  rw [after0_2, e]
  exact (congrFun h (ix2 y0 y1)).trans (summed m c t ht y0 y1)

end Cert.Mix.OdDwOut

namespace Cert.OdDwOutRefIdeal.Value

open Cert.OdDwOutRefIdeal Cert.OdDwOutRefIdeal.Gen Cert.Ffn

/-- What the reference leaves. -/
def result (a : FVec Ideal S4096x1024 .f32) (g : FVec Ideal S4096x1024 .f32) : FVec Ideal S1024x1024 .f32 :=
  transpose S1024x1024 [1, 0] (Host.dotGeneral dot_S4096x1024_S4096x1024_S1024x1024_0_0_1_1_n_n none g a) transposes_S1024x1024_S1024x1024_1_0

theorem result_at (a : FVec Ideal S4096x1024 .f32) (g : FVec Ideal S4096x1024 .f32) (r : Fin 1024) (j : Fin 1024) :
    result a g (ix2 r j) = tprod a g r j := by
  have h : result a g (ix2 r j) = ∑ k : Fin 4096, g (ix2 k j) * a (ix2 k r) := by
    pointwise [result]
  exact h.trans (Finset.sum_congr rfl fun k _ => mul_comm _ _)

end Cert.OdDwOutRefIdeal.Value

namespace Cert.Mix.OdDwOut

/-- Kernel and reference leave the same array, over the extended reals. -/
theorem same : Cert.algebraic_OdDwOutIdeal_OdDwOutRefIdeal
    (hOdDwOutIdeal := Cert.OdDwOutIdeal.Gen.facts) (hOdDwOutRefIdeal := Cert.OdDwOutRefIdeal.Gen.facts) := by
  intro m g m' g' _ hm
  refine ⟨_, Cert.OdDwOutIdeal.Value.run_blocks m g, (θ_run _ _ _).mono ?_ (Cert.OdDwOutRefIdeal.Value.run m' g')⟩
  intro r h c
  obtain ⟨e0, e1⟩ := hm c
  refine ⟨(h c).1.trans (Eq.trans ?_ (result m c).symm), (h c).2⟩
  rw [e0, e1]
  refine funext fun i => ?_
  idx_vars i
  exact Cert.OdDwOutRefIdeal.Value.result_at (A m c) (G m c) i0 i1

end Cert.Mix.OdDwOut

namespace Cert.Mix.EvDwIn

open Cert.EvDwInIdeal Cert.EvDwInIdeal.Gen Cert.Ffn

/-- What the body adds at a point to what it has, -/
theorem adds (a : Vec Ideal S1024x512 .bf16) (g : Vec Ideal S1024x512 .f32) (o : Vec Ideal S512x512 .f32) (r : Fin 512) (j : Fin 512) :
    k0_pay2 a g o (ix2 r j) = o (ix2 r j) + tprod a g r j := by
  pointwise [k0_pay2]
  rfl

/-- from zero. -/
theorem adds_first (a : Vec Ideal S1024x512 .bf16) (g : Vec Ideal S1024x512 .f32) (r : Fin 512) (j : Fin 512) :
    k0_pay2 a g (k0_pay1 (F := Ideal)) (ix2 r j) = 0 + tprod a g r j :=
  (adds a g _ r j).trans (congrArg (· + _) (show k0_pay1 (F := Ideal) (ix2 r j) = 0 by pointwise [k0_pay1]))

variable (m : (ℓ : Loc nD τ sig) → Buf (Elt Ideal) ℓ) (c : Dev nD)

/-- Where the blocks of a point begin. -/
theorem starts : ∀ t : Fin cfg0.N, win0_0.index t = ![t.val % 4, t.val / 4 % 2] ∧ win0_1.index t = ![t.val % 4, t.val / 8]
    ∧ win0_2.index t = ![t.val / 4 % 2, t.val / 8] :=
  (by decide +kernel : ∀ t : Fin grid0.N, _)

theorem few (t : Fin cfg0.N) : t.val < 40 := t.isLt

/-- The row and the column of the result that are row `r` and column `j` of a point's block. -/
abbrev row (t : Fin cfg0.N) (r : Fin 512) : Fin 1024 := ⟨t.val / 4 % 2 * 512 + r.val, by have h := few t; omega⟩

@[inherit_doc row]
abbrev col (t : Fin cfg0.N) (j : Fin 512) : Fin 2560 := ⟨t.val / 8 * 512 + j.val, by have h := few t; omega⟩

/-- The arguments, as arrays of extended reals. -/
abbrev A : S4096x1024.Idx → EReal := m ((c : Thread nD τ).loc main_arg0)

@[inherit_doc A]
abbrev G : S4096x2560.Idx → EReal := m ((c : Thread nD τ).loc main_arg1)

/-- Their blocks of a point. -/
abbrev bA (p : Fin cfg0.N) : S1024x512.Idx → EReal := iblk m c 0 p

@[inherit_doc bA]
abbrev bG (p : Fin cfg0.N) : S1024x512.Idx → EReal := iblk m c 1 p

/-- What a result block's last point has summed up. -/
theorem summed (t : Fin cfg0.N) (ht : t.val % 4 = 3) (r : Fin 512) (j : Fin 512) :
    (outsAt0 m c t.val t.isLt).2 (ix2 r j) = tprod (A m c) (G m c) (row t r) (col t j) := by
  refine run_sum (N := cfg0.N) 4 (S := 1024) (fun n h => (outsAt0 m c n h).2 (ix2 r j))
    (fun p k => bA m c p (ix2 k r) * bG m c p (ix2 k j)) _ rfl
    (fun p h => ?_) (fun p h => ?_) t ht fun s p hp k ⟨l, _⟩ hl => ?_
  · rw [outsAt0_A m c p h (by omega)]
    frame_out
    exact adds_first _ _ r j
  · by_cases h' : p.val % 4 = 3
    · rw [outsAt0_C m c p h h']
      frame_out
      rw [(Memref.isWhole_whole _).read_unread]
      exact adds _ _ _ r j
    · rw [outsAt0_B m c p h h']
      frame_out
      rw [(Memref.isWhole_whole _).read_unread]
      exact adds _ _ _ r j
  · obtain ⟨e0, e1, -⟩ := starts p
    rw [show p.val % 4 = s.val by omega, show p.val / 4 % 2 = t.val / 4 % 2 by omega] at e0
    rw [show p.val % 4 = s.val by omega, show p.val / 8 = t.val / 8 by omega] at e1
    obtain rfl : l = s.val * 1024 + k.val := hl
    exact congrArg₂ (· * ·) (congrArg (A m c) (by blk_ext [e0])) (congrArg (G m c) (by blk_ext [e1]))

/-- The result after the run. -/
theorem result : (dats m 0 c).arrAt 2 cfg0.N = fun i : S1024x2560.Idx => tprod (A m c) (G m c) (i 0) (i 1) := by
  refine (dats m 0 c).arrAt_eq_of_covers 2 _ (by decide +kernel) fun t hf y => ?_
  obtain ⟨-, -, e2⟩ := starts t
  idx_vars y
  have ht := (flush0_2 t).mp hf
  have h : (outsAt0 m c t.val t.isLt).1 = (outsAt0 m c t.val t.isLt).2 := by
    rw [outsAt0_C m c t (by omega) ht]
    frame_out
  have e : ((cfg0.win 2).blk t).view.emb (ix2 y0 y1) = (ix2 (row t y0) (col t y1) : S1024x2560.Idx) := by blk_ext [e2]
  rw [after0_2, e]
  exact (congrFun h (ix2 y0 y1)).trans (summed m c t ht y0 y1)

end Cert.Mix.EvDwIn

namespace Cert.EvDwInRefIdeal.Value

open Cert.EvDwInRefIdeal Cert.EvDwInRefIdeal.Gen Cert.Ffn

/-- What the reference leaves. -/
def result (a : FVec Ideal S4096x1024 .bf16) (g : FVec Ideal S4096x2560 .f32) : FVec Ideal S1024x2560 .f32 :=
  transpose S1024x2560 [1, 0] (Host.dotGeneral dot_S4096x2560_S4096x1024_S2560x1024_0_0_1_1_n_n none g (extf .f32 a bitsLt_bf16_f32)) transposes_S2560x1024_S1024x2560_1_0

theorem result_at (a : FVec Ideal S4096x1024 .bf16) (g : FVec Ideal S4096x2560 .f32) (r : Fin 1024) (j : Fin 2560) :
    result a g (ix2 r j) = tprod a g r j := by
  have h : result a g (ix2 r j) = ∑ k : Fin 4096, g (ix2 k j) * a (ix2 k r) := by
    pointwise [result]
  exact h.trans (Finset.sum_congr rfl fun k _ => mul_comm _ _)

end Cert.EvDwInRefIdeal.Value

namespace Cert.Mix.EvDwIn

/-- Kernel and reference leave the same array, over the extended reals. -/
theorem same : Cert.algebraic_EvDwInIdeal_EvDwInRefIdeal
    (hEvDwInIdeal := Cert.EvDwInIdeal.Gen.facts) (hEvDwInRefIdeal := Cert.EvDwInRefIdeal.Gen.facts) := by
  intro m g m' g' _ hm
  refine ⟨_, Cert.EvDwInIdeal.Value.run_blocks m g, (θ_run _ _ _).mono ?_ (Cert.EvDwInRefIdeal.Value.run m' g')⟩
  intro r h c
  obtain ⟨e0, e1⟩ := hm c
  refine ⟨(h c).1.trans (Eq.trans ?_ (result m c).symm), (h c).2⟩
  rw [e0, e1]
  refine funext fun i => ?_
  idx_vars i
  exact Cert.EvDwInRefIdeal.Value.result_at (A m c) (G m c) i0 i1

end Cert.Mix.EvDwIn

namespace Cert.Mix.OdDwIn

open Cert.OdDwInIdeal Cert.OdDwInIdeal.Gen Cert.Ffn

/-- What the body adds at a point to what it has, -/
theorem adds (a : Vec Ideal S1024x512 .bf16) (g : Vec Ideal S1024x1024 .f32) (o : Vec Ideal S512x1024 .f32) (r : Fin 512) (j : Fin 1024) :
    k0_pay2 a g o (ix2 r j) = o (ix2 r j) + tprod a g r j := by
  pointwise [k0_pay2]
  rfl

/-- from zero. -/
theorem adds_first (a : Vec Ideal S1024x512 .bf16) (g : Vec Ideal S1024x1024 .f32) (r : Fin 512) (j : Fin 1024) :
    k0_pay2 a g (k0_pay1 (F := Ideal)) (ix2 r j) = 0 + tprod a g r j :=
  (adds a g _ r j).trans (congrArg (· + _) (show k0_pay1 (F := Ideal) (ix2 r j) = 0 by pointwise [k0_pay1]))

variable (m : (ℓ : Loc nD τ sig) → Buf (Elt Ideal) ℓ) (c : Dev nD)

/-- Where the blocks of a point begin. -/
theorem starts : ∀ t : Fin cfg0.N, win0_0.index t = ![t.val % 4, t.val / 4 % 2] ∧ win0_1.index t = ![t.val % 4, t.val / 8]
    ∧ win0_2.index t = ![t.val / 4 % 2, t.val / 8] :=
  (by decide +kernel : ∀ t : Fin grid0.N, _)

theorem few (t : Fin cfg0.N) : t.val < 32 := t.isLt

/-- The row and the column of the result that are row `r` and column `j` of a point's block. -/
abbrev row (t : Fin cfg0.N) (r : Fin 512) : Fin 1024 := ⟨t.val / 4 % 2 * 512 + r.val, by have h := few t; omega⟩

@[inherit_doc row]
abbrev col (t : Fin cfg0.N) (j : Fin 1024) : Fin 4096 := ⟨t.val / 8 * 1024 + j.val, by have h := few t; omega⟩

/-- The arguments, as arrays of extended reals. -/
abbrev A : S4096x1024.Idx → EReal := m ((c : Thread nD τ).loc main_arg0)

@[inherit_doc A]
abbrev G : S4096x4096.Idx → EReal := m ((c : Thread nD τ).loc main_arg1)

/-- Their blocks of a point. -/
abbrev bA (p : Fin cfg0.N) : S1024x512.Idx → EReal := iblk m c 0 p

@[inherit_doc bA]
abbrev bG (p : Fin cfg0.N) : S1024x1024.Idx → EReal := iblk m c 1 p

/-- What a result block's last point has summed up. -/
theorem summed (t : Fin cfg0.N) (ht : t.val % 4 = 3) (r : Fin 512) (j : Fin 1024) :
    (outsAt0 m c t.val t.isLt).2 (ix2 r j) = tprod (A m c) (G m c) (row t r) (col t j) := by
  refine run_sum (N := cfg0.N) 4 (S := 1024) (fun n h => (outsAt0 m c n h).2 (ix2 r j))
    (fun p k => bA m c p (ix2 k r) * bG m c p (ix2 k j)) _ rfl
    (fun p h => ?_) (fun p h => ?_) t ht fun s p hp k ⟨l, _⟩ hl => ?_
  · rw [outsAt0_A m c p h (by omega)]
    frame_out
    exact adds_first _ _ r j
  · by_cases h' : p.val % 4 = 3
    · rw [outsAt0_C m c p h h']
      frame_out
      rw [(Memref.isWhole_whole _).read_unread]
      exact adds _ _ _ r j
    · rw [outsAt0_B m c p h h']
      frame_out
      rw [(Memref.isWhole_whole _).read_unread]
      exact adds _ _ _ r j
  · obtain ⟨e0, e1, -⟩ := starts p
    rw [show p.val % 4 = s.val by omega, show p.val / 4 % 2 = t.val / 4 % 2 by omega] at e0
    rw [show p.val % 4 = s.val by omega, show p.val / 8 = t.val / 8 by omega] at e1
    obtain rfl : l = s.val * 1024 + k.val := hl
    exact congrArg₂ (· * ·) (congrArg (A m c) (by blk_ext [e0])) (congrArg (G m c) (by blk_ext [e1]))

/-- The result after the run. -/
theorem result : (dats m 0 c).arrAt 2 cfg0.N = fun i : S1024x4096.Idx => tprod (A m c) (G m c) (i 0) (i 1) := by
  refine (dats m 0 c).arrAt_eq_of_covers 2 _ (by decide +kernel) fun t hf y => ?_
  obtain ⟨-, -, e2⟩ := starts t
  idx_vars y
  have ht := (flush0_2 t).mp hf
  have h : (outsAt0 m c t.val t.isLt).1 = (outsAt0 m c t.val t.isLt).2 := by
    rw [outsAt0_C m c t (by omega) ht]
    frame_out
  have e : ((cfg0.win 2).blk t).view.emb (ix2 y0 y1) = (ix2 (row t y0) (col t y1) : S1024x4096.Idx) := by blk_ext [e2]
  rw [after0_2, e]
  exact (congrFun h (ix2 y0 y1)).trans (summed m c t ht y0 y1)

end Cert.Mix.OdDwIn

namespace Cert.OdDwInRefIdeal.Value

open Cert.OdDwInRefIdeal Cert.OdDwInRefIdeal.Gen Cert.Ffn

/-- What the reference leaves. -/
def result (a : FVec Ideal S4096x1024 .bf16) (g : FVec Ideal S4096x4096 .f32) : FVec Ideal S1024x4096 .f32 :=
  transpose S1024x4096 [1, 0] (Host.dotGeneral dot_S4096x4096_S4096x1024_S4096x1024_0_0_1_1_n_n none g (extf .f32 a bitsLt_bf16_f32)) transposes_S4096x1024_S1024x4096_1_0

theorem result_at (a : FVec Ideal S4096x1024 .bf16) (g : FVec Ideal S4096x4096 .f32) (r : Fin 1024) (j : Fin 4096) :
    result a g (ix2 r j) = tprod a g r j := by
  have h : result a g (ix2 r j) = ∑ k : Fin 4096, g (ix2 k j) * a (ix2 k r) := by
    pointwise [result]
  exact h.trans (Finset.sum_congr rfl fun k _ => mul_comm _ _)

end Cert.OdDwInRefIdeal.Value

namespace Cert.Mix.OdDwIn

/-- Kernel and reference leave the same array, over the extended reals. -/
theorem same : Cert.algebraic_OdDwInIdeal_OdDwInRefIdeal
    (hOdDwInIdeal := Cert.OdDwInIdeal.Gen.facts) (hOdDwInRefIdeal := Cert.OdDwInRefIdeal.Gen.facts) := by
  intro m g m' g' _ hm
  refine ⟨_, Cert.OdDwInIdeal.Value.run_blocks m g, (θ_run _ _ _).mono ?_ (Cert.OdDwInRefIdeal.Value.run m' g')⟩
  intro r h c
  obtain ⟨e0, e1⟩ := hm c
  refine ⟨(h c).1.trans (Eq.trans ?_ (result m c).symm), (h c).2⟩
  rw [e0, e1]
  refine funext fun i => ?_
  idx_vars i
  exact Cert.OdDwInRefIdeal.Value.result_at (A m c) (G m c) i0 i1

end Cert.Mix.OdDwIn

namespace Cert.Mix.OdDwBd

open Cert.OdDwBdIdeal Cert.OdDwBdIdeal.Gen Cert.Ffn

/-- What the body adds at a point to what it has, -/
theorem adds (a : Vec Ideal S1024x512 .bf16) (g : Vec Ideal S1024x128 .f32) (o : Vec Ideal S512x128 .f32) (r : Fin 512) (j : Fin 128) :
    k0_pay2 a g o (ix2 r j) = o (ix2 r j) + tprod a g r j := by
  pointwise [k0_pay2]
  rfl

/-- from zero. -/
theorem adds_first (a : Vec Ideal S1024x512 .bf16) (g : Vec Ideal S1024x128 .f32) (r : Fin 512) (j : Fin 128) :
    k0_pay2 a g (k0_pay1 (F := Ideal)) (ix2 r j) = 0 + tprod a g r j :=
  (adds a g _ r j).trans (congrArg (· + _) (show k0_pay1 (F := Ideal) (ix2 r j) = 0 by pointwise [k0_pay1]))

variable (m : (ℓ : Loc nD τ sig) → Buf (Elt Ideal) ℓ) (c : Dev nD)

/-- Where the blocks of a point begin. -/
theorem starts : ∀ t : Fin cfg0.N, win0_0.index t = ![t.val % 4, t.val / 4] ∧ win0_1.index t = ![t.val % 4, 0] ∧ win0_2.index t = ![t.val / 4, 0] :=
  (by decide +kernel : ∀ t : Fin grid0.N, _)

theorem few (t : Fin cfg0.N) : t.val < 8 := t.isLt

/-- The row of the result that is row `r` of a point's block. -/
abbrev row (t : Fin cfg0.N) (r : Fin 512) : Fin 1024 := ⟨t.val / 4 * 512 + r.val, by have h := few t; omega⟩

/-- The arguments, as arrays of extended reals. -/
abbrev A : S4096x1024.Idx → EReal := m ((c : Thread nD τ).loc main_arg0)

@[inherit_doc A]
abbrev G : S4096x128.Idx → EReal := m ((c : Thread nD τ).loc main_arg1)

/-- Their blocks of a point. -/
abbrev bA (p : Fin cfg0.N) : S1024x512.Idx → EReal := iblk m c 0 p

@[inherit_doc bA]
abbrev bG (p : Fin cfg0.N) : S1024x128.Idx → EReal := iblk m c 1 p

/-- What a result block's last point has summed up. -/
theorem summed (t : Fin cfg0.N) (ht : t.val % 4 = 3) (r : Fin 512) (j : Fin 128) :
    (outsAt0 m c t.val t.isLt).2 (ix2 r j) = tprod (A m c) (G m c) (row t r) j := by
  refine run_sum (N := cfg0.N) 4 (S := 1024) (fun n h => (outsAt0 m c n h).2 (ix2 r j))
    (fun p k => bA m c p (ix2 k r) * bG m c p (ix2 k j)) _ rfl
    (fun p h => ?_) (fun p h => ?_) t ht fun s p hp k ⟨l, _⟩ hl => ?_
  · rw [outsAt0_A m c p h (by omega)]
    frame_out
    exact adds_first _ _ r j
  · by_cases h' : p.val % 4 = 3
    · rw [outsAt0_C m c p h h']
      frame_out
      rw [(Memref.isWhole_whole _).read_unread]
      exact adds _ _ _ r j
    · rw [outsAt0_B m c p h h']
      frame_out
      rw [(Memref.isWhole_whole _).read_unread]
      exact adds _ _ _ r j
  · obtain ⟨e0, e1, -⟩ := starts p
    rw [show p.val % 4 = s.val by omega, show p.val / 4 = t.val / 4 by omega] at e0
    rw [show p.val % 4 = s.val by omega] at e1
    obtain rfl : l = s.val * 1024 + k.val := hl
    exact congrArg₂ (· * ·) (congrArg (A m c) (by blk_ext [e0])) (congrArg (G m c) (by blk_ext [e1]))

/-- The result after the run. -/
theorem result : (dats m 0 c).arrAt 2 cfg0.N = fun i : S1024x128.Idx => tprod (A m c) (G m c) (i 0) (i 1) := by
  refine (dats m 0 c).arrAt_eq_of_covers 2 _ (by decide +kernel) fun t hf y => ?_
  obtain ⟨-, -, e2⟩ := starts t
  idx_vars y
  have ht := (flush0_2 t).mp hf
  have h : (outsAt0 m c t.val t.isLt).1 = (outsAt0 m c t.val t.isLt).2 := by
    rw [outsAt0_C m c t (by omega) ht]
    frame_out
  have e : ((cfg0.win 2).blk t).view.emb (ix2 y0 y1) = (ix2 (row t y0) y1 : S1024x128.Idx) := by blk_ext [e2]
  rw [after0_2, e]
  exact (congrFun h (ix2 y0 y1)).trans (summed m c t ht y0 y1)

end Cert.Mix.OdDwBd

namespace Cert.OdDwBdRefIdeal.Value

open Cert.OdDwBdRefIdeal Cert.OdDwBdRefIdeal.Gen Cert.Ffn

/-- What the reference leaves. -/
def result (a : FVec Ideal S4096x1024 .bf16) (g : FVec Ideal S4096x128 .f32) : FVec Ideal S1024x128 .f32 :=
  transpose S1024x128 [1, 0] (Host.dotGeneral dot_S4096x128_S4096x1024_S128x1024_0_0_1_1_n_n none g (extf .f32 a bitsLt_bf16_f32)) transposes_S128x1024_S1024x128_1_0

theorem result_at (a : FVec Ideal S4096x1024 .bf16) (g : FVec Ideal S4096x128 .f32) (r : Fin 1024) (j : Fin 128) :
    result a g (ix2 r j) = tprod a g r j := by
  have h : result a g (ix2 r j) = ∑ k : Fin 4096, g (ix2 k j) * a (ix2 k r) := by
    pointwise [result]
  exact h.trans (Finset.sum_congr rfl fun k _ => mul_comm _ _)

end Cert.OdDwBdRefIdeal.Value

namespace Cert.Mix.OdDwBd

/-- Kernel and reference leave the same array, over the extended reals. -/
theorem same : Cert.algebraic_OdDwBdIdeal_OdDwBdRefIdeal
    (hOdDwBdIdeal := Cert.OdDwBdIdeal.Gen.facts) (hOdDwBdRefIdeal := Cert.OdDwBdRefIdeal.Gen.facts) := by
  intro m g m' g' _ hm
  refine ⟨_, Cert.OdDwBdIdeal.Value.run_blocks m g, (θ_run _ _ _).mono ?_ (Cert.OdDwBdRefIdeal.Value.run m' g')⟩
  intro r h c
  obtain ⟨e0, e1⟩ := hm c
  refine ⟨(h c).1.trans (Eq.trans ?_ (result m c).symm), (h c).2⟩
  rw [e0, e1]
  refine funext fun i => ?_
  idx_vars i
  exact Cert.OdDwBdRefIdeal.Value.result_at (A m c) (G m c) i0 i1

end Cert.Mix.OdDwBd

end
-- ==== Proof.MixDh.lean ====
/-
  The gradients by what the mixing blocks project: the kernel, on the extended reals, leaves the product of the gradient by the
  projection with the weight, transposed. In front of the gates it adds it to the other projections' part; the others it takes
  in pieces along the projection's columns.
-/
module

public import proofs.«01_k».proof.Defs
public import proofs.«01_k».proof.Proof.Gen.EvDh.Value
public import proofs.«01_k».proof.Proof.Gen.EvDhIdeal.Value
public import proofs.«01_k».proof.Proof.Gen.EvDhRefIdeal.Run
public import proofs.«01_k».proof.Proof.Gen.OdDh.Value
public import proofs.«01_k».proof.Proof.Gen.OdDhIdeal.Value
public import proofs.«01_k».proof.Proof.Gen.OdDhRefIdeal.Run
public import proofs.«01_k».proof.Proof.Gen.OdDhBd.Value
public import proofs.«01_k».proof.Proof.Gen.OdDhBdIdeal.Value
public import proofs.«01_k».proof.Proof.Gen.OdDhBdRefIdeal.Run
public import proofs.«01_k».proof.Proof.Ffn.Rule
public import Idealize.ShloMosaic.Lib.Quiescent

@[expose] public section

noncomputable section

open Idealize.ShloMosaic Idealize.ShloMosaic.TcCoe Idealize.SL.Sem
open Idealize.ShloMosaic.Pipeline (Dat)

namespace Cert.Mix.EvDh

open Cert.EvDhIdeal Cert.EvDhIdeal.Gen Cert.Ffn

/-- What the body adds at a point to what it has, -/
theorem adds (a : Vec Ideal S512x512 .f32) (g : Vec Ideal S1024x512 .bf16) (o : Vec Ideal S512x1024 .f32) (r : Fin 512) (j : Fin 1024) :
    k0_pay2 a g o (ix2 r j) = o (ix2 r j) + prodT a g r j := by
  pointwise [k0_pay2]
  rfl

/-- from zero. -/
theorem adds_first (a : Vec Ideal S512x512 .f32) (g : Vec Ideal S1024x512 .bf16) (r : Fin 512) (j : Fin 1024) :
    k0_pay2 a g (k0_pay1 (F := Ideal)) (ix2 r j) = 0 + prodT a g r j :=
  (adds a g _ r j).trans (congrArg (· + _) (show k0_pay1 (F := Ideal) (ix2 r j) = 0 by pointwise [k0_pay1]))

variable (m : (ℓ : Loc nD τ sig) → Buf (Elt Ideal) ℓ) (c : Dev nD)

/-- Where the blocks of a point begin. -/
theorem starts : ∀ t : Fin cfg0.N, win0_0.index t = ![t.val / 5, t.val % 5] ∧ win0_1.index t = ![0, t.val % 5]
    ∧ win0_2.index t = ![t.val / 5, 0] :=
  (by decide +kernel : ∀ t : Fin grid0.N, _)

theorem few (t : Fin cfg0.N) : t.val < 40 := t.isLt

/-- The row of the result that is row `r` of a point's block. -/
abbrev row (t : Fin cfg0.N) (r : Fin 512) : Fin 4096 := ⟨t.val / 5 * 512 + r.val, by have h := few t; omega⟩

/-- The arguments, as arrays of extended reals. -/
abbrev A : S4096x2560.Idx → EReal := m ((c : Thread nD τ).loc main_arg0)

@[inherit_doc A]
abbrev G : S1024x2560.Idx → EReal := m ((c : Thread nD τ).loc main_arg1)

/-- Their blocks of a point. -/
abbrev bA (p : Fin cfg0.N) : S512x512.Idx → EReal := iblk m c 0 p

@[inherit_doc bA]
abbrev bG (p : Fin cfg0.N) : S1024x512.Idx → EReal := iblk m c 1 p

/-- What a result block's last point has summed up. -/
theorem summed (t : Fin cfg0.N) (ht : t.val % 5 = 4) (r : Fin 512) (j : Fin 1024) :
    (outsAt0 m c t.val t.isLt).2 (ix2 r j) = prodT (A m c) (G m c) (row t r) j := by
  refine run_sum (N := cfg0.N) 5 (S := 512) (fun n h => (outsAt0 m c n h).2 (ix2 r j))
    (fun p k => bA m c p (ix2 r k) * bG m c p (ix2 j k)) _ rfl
    (fun p h => ?_) (fun p h => ?_) t ht fun s p hp k ⟨l, _⟩ hl => ?_
  · rw [outsAt0_A m c p h (by omega)]
    frame_out
    exact adds_first _ _ r j
  · by_cases h' : p.val % 5 = 4
    · rw [outsAt0_C m c p h h']
      frame_out
      rw [(Memref.isWhole_whole _).read_unread]
      exact adds _ _ _ r j
    · rw [outsAt0_B m c p h h']
      frame_out
      rw [(Memref.isWhole_whole _).read_unread]
      exact adds _ _ _ r j
  · obtain ⟨e0, e1, -⟩ := starts p
    rw [show p.val % 5 = s.val by omega, show p.val / 5 = t.val / 5 by omega] at e0
    rw [show p.val % 5 = s.val by omega] at e1
    obtain rfl : l = s.val * 512 + k.val := hl
    exact congrArg₂ (· * ·) (congrArg (A m c) (by blk_ext [e0])) (congrArg (G m c) (by blk_ext [e1]))

/-- The result after the run. -/
theorem result : (dats m 0 c).arrAt 2 cfg0.N = fun i : S4096x1024.Idx => prodT (A m c) (G m c) (i 0) (i 1) := by
  refine (dats m 0 c).arrAt_eq_of_covers 2 _ (by decide +kernel) fun t hf y => ?_
  obtain ⟨-, -, e2⟩ := starts t
  idx_vars y
  have ht := (flush0_2 t).mp hf
  have h : (outsAt0 m c t.val t.isLt).1 = (outsAt0 m c t.val t.isLt).2 := by
    rw [outsAt0_C m c t (by omega) ht]
    frame_out
  have e : ((cfg0.win 2).blk t).view.emb (ix2 y0 y1) = (ix2 (row t y0) y1 : S4096x1024.Idx) := by blk_ext [e2]
  rw [after0_2, e]
  exact (congrFun h (ix2 y0 y1)).trans (summed m c t ht y0 y1)

end Cert.Mix.EvDh

namespace Cert.EvDhRefIdeal.Value

open Cert.EvDhRefIdeal Cert.EvDhRefIdeal.Gen Cert.Ffn

/-- What the reference leaves. -/
def result (a : FVec Ideal S4096x2560 .f32) (g : FVec Ideal S1024x2560 .bf16) : FVec Ideal S4096x1024 .f32 :=
  Host.dotGeneral dot_S4096x2560_S1024x2560_S4096x1024_1_1_0_0_n_n none a (extf .f32 g bitsLt_bf16_f32)

theorem result_at (a : FVec Ideal S4096x2560 .f32) (g : FVec Ideal S1024x2560 .bf16) (r : Fin 4096) (j : Fin 1024) :
    result a g (ix2 r j) = prodT a g r j := by
  pointwise [result]
  rfl

end Cert.EvDhRefIdeal.Value

namespace Cert.Mix.EvDh

/-- Kernel and reference leave the same array, over the extended reals. -/
theorem same : Cert.algebraic_EvDhIdeal_EvDhRefIdeal
    (hEvDhIdeal := Cert.EvDhIdeal.Gen.facts) (hEvDhRefIdeal := Cert.EvDhRefIdeal.Gen.facts) := by
  intro m g m' g' _ hm
  refine ⟨_, Cert.EvDhIdeal.Value.run_blocks m g, (θ_run _ _ _).mono ?_ (Cert.EvDhRefIdeal.Value.run m' g')⟩
  intro r h c
  obtain ⟨e0, e1⟩ := hm c
  refine ⟨(h c).1.trans (Eq.trans ?_ (result m c).symm), (h c).2⟩
  rw [e0, e1]
  refine funext fun i => ?_
  idx_vars i
  exact Cert.EvDhRefIdeal.Value.result_at (A m c) (G m c) i0 i1

end Cert.Mix.EvDh

namespace Cert.Mix.OdDh

open Cert.OdDhIdeal Cert.OdDhIdeal.Gen Cert.Ffn

/-- What the body adds at a point to what it has, -/
theorem adds (a : Vec Ideal S512x1024 .f32) (g : Vec Ideal S1024x1024 .bf16) (o : Vec Ideal S512x1024 .f32) (r : Fin 512) (j : Fin 1024) :
    k0_pay2 a g o (ix2 r j) = o (ix2 r j) + prodT a g r j := by
  pointwise [k0_pay2]
  rfl

/-- from zero. -/
theorem adds_first (a : Vec Ideal S512x1024 .f32) (g : Vec Ideal S1024x1024 .bf16) (r : Fin 512) (j : Fin 1024) :
    k0_pay2 a g (k0_pay1 (F := Ideal)) (ix2 r j) = 0 + prodT a g r j :=
  (adds a g _ r j).trans (congrArg (· + _) (show k0_pay1 (F := Ideal) (ix2 r j) = 0 by pointwise [k0_pay1]))

variable (m : (ℓ : Loc nD τ sig) → Buf (Elt Ideal) ℓ) (c : Dev nD)

/-- Where the blocks of a point begin. -/
theorem starts : ∀ t : Fin cfg0.N, win0_0.index t = ![t.val / 4, t.val % 4] ∧ win0_1.index t = ![0, t.val % 4]
    ∧ win0_2.index t = ![t.val / 4, 0] :=
  (by decide +kernel : ∀ t : Fin grid0.N, _)

theorem few (t : Fin cfg0.N) : t.val < 32 := t.isLt

/-- The row of the result that is row `r` of a point's block. -/
abbrev row (t : Fin cfg0.N) (r : Fin 512) : Fin 4096 := ⟨t.val / 4 * 512 + r.val, by have h := few t; omega⟩

/-- The arguments, as arrays of extended reals. -/
abbrev A : S4096x4096.Idx → EReal := m ((c : Thread nD τ).loc main_arg0)

@[inherit_doc A]
abbrev G : S1024x4096.Idx → EReal := m ((c : Thread nD τ).loc main_arg1)

/-- Their blocks of a point. -/
abbrev bA (p : Fin cfg0.N) : S512x1024.Idx → EReal := iblk m c 0 p

@[inherit_doc bA]
abbrev bG (p : Fin cfg0.N) : S1024x1024.Idx → EReal := iblk m c 1 p

/-- What a result block's last point has summed up. -/
theorem summed (t : Fin cfg0.N) (ht : t.val % 4 = 3) (r : Fin 512) (j : Fin 1024) :
    (outsAt0 m c t.val t.isLt).2 (ix2 r j) = prodT (A m c) (G m c) (row t r) j := by
  refine run_sum (N := cfg0.N) 4 (S := 1024) (fun n h => (outsAt0 m c n h).2 (ix2 r j))
    (fun p k => bA m c p (ix2 r k) * bG m c p (ix2 j k)) _ rfl
    (fun p h => ?_) (fun p h => ?_) t ht fun s p hp k ⟨l, _⟩ hl => ?_
  · rw [outsAt0_A m c p h (by omega)]
    frame_out
    exact adds_first _ _ r j
  · by_cases h' : p.val % 4 = 3
    · rw [outsAt0_C m c p h h']
      frame_out
      rw [(Memref.isWhole_whole _).read_unread]
      exact adds _ _ _ r j
    · rw [outsAt0_B m c p h h']
      frame_out
      rw [(Memref.isWhole_whole _).read_unread]
      exact adds _ _ _ r j
  · obtain ⟨e0, e1, -⟩ := starts p
    rw [show p.val % 4 = s.val by omega, show p.val / 4 = t.val / 4 by omega] at e0
    rw [show p.val % 4 = s.val by omega] at e1
    obtain rfl : l = s.val * 1024 + k.val := hl
    exact congrArg₂ (· * ·) (congrArg (A m c) (by blk_ext [e0])) (congrArg (G m c) (by blk_ext [e1]))

/-- The result after the run. -/
theorem result : (dats m 0 c).arrAt 2 cfg0.N = fun i : S4096x1024.Idx => prodT (A m c) (G m c) (i 0) (i 1) := by
  refine (dats m 0 c).arrAt_eq_of_covers 2 _ (by decide +kernel) fun t hf y => ?_
  obtain ⟨-, -, e2⟩ := starts t
  idx_vars y
  have ht := (flush0_2 t).mp hf
  have h : (outsAt0 m c t.val t.isLt).1 = (outsAt0 m c t.val t.isLt).2 := by
    rw [outsAt0_C m c t (by omega) ht]
    frame_out
  have e : ((cfg0.win 2).blk t).view.emb (ix2 y0 y1) = (ix2 (row t y0) y1 : S4096x1024.Idx) := by blk_ext [e2]
  rw [after0_2, e]
  exact (congrFun h (ix2 y0 y1)).trans (summed m c t ht y0 y1)

end Cert.Mix.OdDh

namespace Cert.OdDhRefIdeal.Value

open Cert.OdDhRefIdeal Cert.OdDhRefIdeal.Gen Cert.Ffn

/-- What the reference leaves. -/
def result (a : FVec Ideal S4096x4096 .f32) (g : FVec Ideal S1024x4096 .bf16) : FVec Ideal S4096x1024 .f32 :=
  Host.dotGeneral dot_S4096x4096_S1024x4096_S4096x1024_1_1_0_0_n_n none a (extf .f32 g bitsLt_bf16_f32)

theorem result_at (a : FVec Ideal S4096x4096 .f32) (g : FVec Ideal S1024x4096 .bf16) (r : Fin 4096) (j : Fin 1024) :
    result a g (ix2 r j) = prodT a g r j := by
  pointwise [result]
  rfl

end Cert.OdDhRefIdeal.Value

namespace Cert.Mix.OdDh

/-- Kernel and reference leave the same array, over the extended reals. -/
theorem same : Cert.algebraic_OdDhIdeal_OdDhRefIdeal
    (hOdDhIdeal := Cert.OdDhIdeal.Gen.facts) (hOdDhRefIdeal := Cert.OdDhRefIdeal.Gen.facts) := by
  intro m g m' g' _ hm
  refine ⟨_, Cert.OdDhIdeal.Value.run_blocks m g, (θ_run _ _ _).mono ?_ (Cert.OdDhRefIdeal.Value.run m' g')⟩
  intro r h c
  obtain ⟨e0, e1⟩ := hm c
  refine ⟨(h c).1.trans (Eq.trans ?_ (result m c).symm), (h c).2⟩
  rw [e0, e1]
  refine funext fun i => ?_
  idx_vars i
  exact Cert.OdDhRefIdeal.Value.result_at (A m c) (G m c) i0 i1

end Cert.Mix.OdDh

namespace Cert.Mix.OdDhBd

open Cert.OdDhBdIdeal Cert.OdDhBdIdeal.Gen Cert.Ffn

/-- What the body leaves of its blocks. -/
theorem leaves (a : Vec Ideal S512x128 .f32) (w : Vec Ideal S1024x128 .bf16) (x : Vec Ideal S512x1024 .f32) (r : Fin 512) (j : Fin 1024) :
    k0_pay3 (k0_pay2 a w (k0_pay1 (F := Ideal))) x (ix2 r j) = x (ix2 r j) + prodT a w r j := by
  have h : k0_pay3 (k0_pay2 a w (k0_pay1 (F := Ideal))) x (ix2 r j) = x (ix2 r j) + (0 + prodT a w r j) := by
    pointwise [k0_pay3, k0_pay2, k0_pay1]
    rfl
  rw [h, zero_add]

variable (m : (ℓ : Loc nD τ sig) → Buf (Elt Ideal) ℓ) (c : Dev nD)

/-- Where the blocks of a point begin. -/
theorem starts : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem few (t : Fin cfg0.N) : t.val < 8 := t.isLt

/-- The row of the whole arrays that is row `r` of a point's blocks. -/
abbrev row (t : Fin cfg0.N) (r : Fin 512) : Fin 4096 := ⟨t.val * 512 + r.val, by have h := few t; omega⟩

/-- The arguments, as arrays of extended reals. -/
abbrev A : S4096x128.Idx → EReal := m ((c : Thread nD τ).loc main_arg0)

@[inherit_doc A]
abbrev W : S1024x128.Idx → EReal := m ((c : Thread nD τ).loc main_arg1)

@[inherit_doc A]
abbrev X : S4096x1024.Idx → EReal := m ((c : Thread nD τ).loc main_arg2)

/-- The result after the run. -/
theorem result : (dats m 0 c).arrAt 3 cfg0.N = fun i : S4096x1024.Idx => X m c (ix2 (i 0) (i 1)) + prodT (A m c) (W m c) (i 0) (i 1) := by
  refine (dats m 0 c).arrAt_eq_of_covers 3 _ (by decide +kernel) fun t hf y => ?_
  obtain ⟨e0, e1, e2, e3⟩ := starts t
  idx_vars y
  have e : ((cfg0.win 3).blk t).view.emb (ix2 y0 y1) = (ix2 (row t y0) y1 : S4096x1024.Idx) := by blk_ext [e3]
  rw [after0_3, e]
  refine Eq.trans (b := k0_pay3 (k0_pay2 (iblk m c 0 t) (iblk m c 1 t) (k0_pay1 (F := Ideal))) (iblk m c 2 t) (ix2 y0 y1)) ?_
    ((leaves _ _ _ y0 y1).trans (congrArg₂ (· + ·) (congrArg (X m c) (by blk_ext [e2])) ?_))
  · unfold outsAt0
    frame_out
    rfl
  · exact Finset.sum_congr rfl fun k _ => congrArg₂ (· * ·) (congrArg (A m c) (by blk_ext [e0])) (congrArg (W m c) (by blk_ext [e1]))

end Cert.Mix.OdDhBd

namespace Cert.OdDhBdRefIdeal.Value

open Cert.OdDhBdRefIdeal Cert.OdDhBdRefIdeal.Gen Cert.Ffn

/-- What the reference leaves. -/
def result (a : FVec Ideal S4096x128 .f32) (w : FVec Ideal S1024x128 .bf16) (x : FVec Ideal S4096x1024 .f32) : FVec Ideal S4096x1024 .f32 :=
  addf x (Host.dotGeneral dot_S4096x128_S1024x128_S4096x1024_1_1_0_0_n_n none a (extf .f32 w bitsLt_bf16_f32))

theorem result_at (a : FVec Ideal S4096x128 .f32) (w : FVec Ideal S1024x128 .bf16) (x : FVec Ideal S4096x1024 .f32) (r : Fin 4096) (j : Fin 1024) :
    result a w x (ix2 r j) = x (ix2 r j) + prodT a w r j := by
  pointwise [result]
  rfl

end Cert.OdDhBdRefIdeal.Value

namespace Cert.Mix.OdDhBd

/-- Kernel and reference leave the same array, over the extended reals. -/
theorem same : Cert.algebraic_OdDhBdIdeal_OdDhBdRefIdeal
    (hOdDhBdIdeal := Cert.OdDhBdIdeal.Gen.facts) (hOdDhBdRefIdeal := Cert.OdDhBdRefIdeal.Gen.facts) := by
  intro m g m' g' _ hm
  refine ⟨_, Cert.OdDhBdIdeal.Value.run_blocks m g, (θ_run _ _ _).mono ?_ (Cert.OdDhBdRefIdeal.Value.run m' g')⟩
  intro r h c
  obtain ⟨e0, e1, e2⟩ := hm c
  refine ⟨(h c).1.trans (Eq.trans ?_ (result m c).symm), (h c).2⟩
  rw [e0, e1, e2]
  refine funext fun i => ?_
  idx_vars i
  exact Cert.OdDhBdRefIdeal.Value.result_at (A m c) (W m c) (X m c) i0 i1

end Cert.Mix.OdDhBd

end
-- ==== Proof.SsmDc.lean ====
/-
  The gradient by one of the two parts of the S5 block's output matrix, group by group: the kernel takes the product of what
  all groups multiply, transposed, with the gradient by all groups' outputs, and keeps of it the blocks of each group with
  itself. The reference has the groups apart.
-/
module

public import proofs.«01_k».proof.Defs
public import proofs.«01_k».proof.Proof.Gen.SsmDc.Frame
public import proofs.«01_k».proof.Proof.Gen.SsmDcIdeal.Frame
public import proofs.«01_k».proof.Proof.Gen.SsmDcRefIdeal.Run
public import proofs.«01_k».proof.Proof.Ffn.Rule
public import Idealize.ShloMosaic.Lib.Quiescent

@[expose] public section

noncomputable section

open Idealize.ShloMosaic Idealize.ShloMosaic.TcCoe Idealize.SL.Sem
open Idealize.ShloMosaic.Pipeline (Dat)

namespace Cert.Mix.SsmDc

open Cert.SsmDcIdeal Cert.SsmDcIdeal.Gen Cert.Ffn

/-- What the body adds at a point to what it has, -/
theorem adds (a g : Vec Ideal S1024x512 .f32) (o : Vec Ideal S512x512 .f32) (r j : Fin 512) :
    k0_pay2 a g o (ix2 r j) = o (ix2 r j) + tprod a g r j := by
  pointwise [k0_pay2]
  rfl

/-- from zero. -/
theorem adds_first (a g : Vec Ideal S1024x512 .f32) (r j : Fin 512) :
    k0_pay2 a g (k0_pay1 (F := Ideal)) (ix2 r j) = 0 + tprod a g r j :=
  (adds a g _ r j).trans (congrArg (· + _) (show k0_pay1 (F := Ideal) (ix2 r j) = 0 by pointwise [k0_pay1]))

variable (m : (ℓ : Loc nD τ sig) → Buf (Elt Ideal) ℓ) (c : Dev nD)

/-- Where the blocks of a point begin. -/
theorem starts : ∀ t : Fin cfg0.N, win0_0.index t = ![t.val % 4, t.val / 4] ∧ win0_1.index t = ![t.val % 4, 0] ∧ win0_2.index t = ![t.val / 4, 0] :=
  (by decide +kernel : ∀ t : Fin grid0.N, _)

theorem few (t : Fin cfg0.N) : t.val < 16 := t.isLt

/-- The row of the product that is row `r` of a point's block. -/
abbrev row (t : Fin cfg0.N) (r : Fin 512) : Fin 2048 := ⟨t.val / 4 * 512 + r.val, by have h := few t; omega⟩

/-- The arguments, as arrays of extended reals. -/
abbrev A : S4096x2048.Idx → EReal := m ((c : Thread nD τ).loc main_arg0)

@[inherit_doc A]
abbrev G : S4096x512.Idx → EReal := m ((c : Thread nD τ).loc main_arg1)

/-- Their blocks of a point. -/
abbrev bA (p : Fin cfg0.N) : S1024x512.Idx → EReal := iblk m c 0 p

@[inherit_doc bA]
abbrev bG (p : Fin cfg0.N) : S1024x512.Idx → EReal := iblk m c 1 p

/-- What a block's last point has summed up. -/
theorem summed (t : Fin cfg0.N) (ht : t.val % 4 = 3) (r j : Fin 512) :
    (outsAt0 m c t.val t.isLt).2 (ix2 r j) = tprod (A m c) (G m c) (row t r) j := by
  refine run_sum (N := cfg0.N) 4 (S := 1024) (fun n h => (outsAt0 m c n h).2 (ix2 r j))
    (fun p k => bA m c p (ix2 k r) * bG m c p (ix2 k j)) _ rfl
    (fun p h => ?_) (fun p h => ?_) t ht fun s p hp k ⟨l, _⟩ hl => ?_
  · rw [outsAt0_A m c p h (by omega)]
    frame_out
    exact adds_first _ _ r j
  · by_cases h' : p.val % 4 = 3
    · rw [outsAt0_C m c p h h']
      frame_out
      rw [(Memref.isWhole_whole _).read_unread]
      exact adds _ _ _ r j
    · rw [outsAt0_B m c p h h']
      frame_out
      rw [(Memref.isWhole_whole _).read_unread]
      exact adds _ _ _ r j
  · obtain ⟨e0, e1, -⟩ := starts p
    rw [show p.val % 4 = s.val by omega, show p.val / 4 = t.val / 4 by omega] at e0
    rw [show p.val % 4 = s.val by omega] at e1
    obtain rfl : l = s.val * 1024 + k.val := hl
    exact congrArg₂ (· * ·) (congrArg (A m c) (by blk_ext [e0])) (congrArg (G m c) (by blk_ext [e1]))

/-- The product of all groups with all, after the call. -/
abbrev whole : FVec Ideal S2048x512 .f32 := fun i : S2048x512.Idx => tprod (A m c) (G m c) (i 0) (i 1)

theorem result : (dats m 0 c).arrAt 2 cfg0.N = whole m c := by
  refine (dats m 0 c).arrAt_eq_of_covers 2 _ (by decide +kernel) fun t hf y => ?_
  obtain ⟨-, -, e2⟩ := starts t
  idx_vars y
  have ht := (flush0_2 t).mp hf
  have h : (outsAt0 m c t.val t.isLt).1 = (outsAt0 m c t.val t.isLt).2 := by
    rw [outsAt0_C m c t (by omega) ht]
    frame_out
  have e : ((cfg0.win 2).blk t).view.emb (ix2 y0 y1) = (ix2 (row t y0) y1 : S2048x512.Idx) := by blk_ext [e2]
  rw [after0_2, e]
  exact (congrFun h (ix2 y0 y1)).trans (summed m c t ht y0 y1)

/-- What is kept of it. -/
def kept (x : FVec Ideal S2048x512 .f32) : FVec Ideal S32x16x64 .f32 :=
  transpose S32x16x64 [1, 2, 0] (Host.reduceAdd (select
    (broadcastInDim S32x64x32x16 ![0, 2] bcast_S32x32_S32x64x32x16_0_2 (cmpi .eq (iotaInDim S32x32 32 0) (iotaInDim S32x32 32 1)))
    (shapeCast _ x shapeCasts_S2048x512_S32x64x32x16)
    (broadcastInDim S32x64x32x16 ![] bcast_S_S32x64x32x16 (constant S_ .f32 0x00000000#32)))
    (constant S_ .f32 0x00000000#32) reducesTo_S32x64x32x16_S64x32x16_d0 h_S_) transposes_S64x32x16_S32x16x64_1_2_0

/-- The groups that are compared are the same, or not. -/
theorem same_group : ∀ q g : Fin 32, IntOp.cmpi .eq (BitVec.ofNat 32 q.val) (BitVec.ofNat 32 g.val) = if q = g then 1#1 else 0#1 := by
  decide +kernel

theorem kept_at (x : FVec Ideal S2048x512 .f32) (g : Fin 32) (p : Fin 16) (n : Fin 64) :
    kept x (ix3 g p n) = x (ix2 ⟨g.val * 64 + n.val, by omega⟩ ⟨g.val * 16 + p.val, by omega⟩) := by
  pointwise [kept]
  rw [Finset.sum_eq_single g (fun q _ h => ?_) (fun h => absurd (Finset.mem_univ g) h), same_group, if_pos rfl]
  · exact if_pos rfl
  · rw [same_group, if_neg h]
    exact if_neg (by decide)

/-- The kernel's result. -/
theorem run (g : Dev nD → PrngReg) : θ_run defs (onTc (τ := τ) (main (F := Ideal))) ⟨m, fun _ => 0, g⟩ fun r => ∀ c : Dev nD,
    r.2.mem ((c : Thread nD τ).loc main_v9) = kept (whole m c)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨((h c).2 main_v9 (by decide)).trans ?_,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m g)
  unfold Pipeline.afterTail₀
  have e := (Pipeline.withArrays_arr (cfgs 0).spec launch0.win.arr_inj c (V0 m c) (fun w => (dats m 0 c).arrAt w (cfgs 0).N) 2).trans (result m c)
  rw [← e]
  show StableHlo.after hostOps1 _ _ = _
  after_results
  rfl

end Cert.Mix.SsmDc

namespace Cert.SsmDcRefIdeal.Value

open Cert.SsmDcRefIdeal Cert.SsmDcRefIdeal.Gen Cert.Ffn

/-- What the reference leaves. -/
def result (a : FVec Ideal S4096x2048 .f32) (g : FVec Ideal S4096x512 .f32) : FVec Ideal S32x16x64 .f32 :=
  Host.dotGeneral dot_S32x4096x16_S4096x32x64_S32x16x64_1_0_2_2_0_1 none (transpose S32x4096x16 [1, 0, 2] (shapeCast _ g shapeCasts_S4096x512_S4096x32x16) transposes_S4096x32x16_S32x4096x16_1_0_2) (shapeCast _ a shapeCasts_S4096x2048_S4096x32x64)

theorem result_at (a : FVec Ideal S4096x2048 .f32) (g : FVec Ideal S4096x512 .f32) (q : Fin 32) (p : Fin 16) (n : Fin 64) :
    result a g (ix3 q p n) = tprod a g ⟨q.val * 64 + n.val, by omega⟩ ⟨q.val * 16 + p.val, by omega⟩ := by
  have h : result a g (ix3 q p n) = ∑ k : Fin 4096, g (ix2 k ⟨q.val * 16 + p.val, by omega⟩) * a (ix2 k ⟨q.val * 64 + n.val, by omega⟩) := by
    pointwise [result]
  exact h.trans (Finset.sum_congr rfl fun k _ => mul_comm _ _)

end Cert.SsmDcRefIdeal.Value

namespace Cert.Mix.SsmDc

/-- Kernel and reference leave the same array, over the extended reals. -/
theorem same : Cert.algebraic_SsmDcIdeal_SsmDcRefIdeal
    (hSsmDcIdeal := Cert.SsmDcIdeal.Gen.facts) (hSsmDcRefIdeal := Cert.SsmDcRefIdeal.Gen.facts) := by
  intro m g m' g' _ hm
  refine ⟨_, run m g, (θ_run _ _ _).mono ?_ (Cert.SsmDcRefIdeal.Value.run m' g')⟩
  intro r h c
  obtain ⟨e0, e1⟩ := hm c
  refine ⟨(h c).1.trans ?_, (h c).2⟩
  rw [e0, e1]
  refine funext fun i => ?_
  idx_vars i
  exact (Cert.SsmDcRefIdeal.Value.result_at (A m c) (G m c) i0 i1 i2).trans (kept_at (whole m c) i0 i1 i2).symm

end Cert.Mix.SsmDc

end
-- ==== Proof.SsmPost.lean ====
/-
  What ends the S5 block, on the extended reals: what passes the block by is added, times the skip's weight, and of the sum's
  gelu every entry is multiplied by the logistic of its row's product with a matrix.
-/
module

public import proofs.«01_k».proof.Defs
public import proofs.«01_k».proof.Proof.Gen.SsmPost.Value
public import proofs.«01_k».proof.Proof.Gen.SsmPostIdeal.Value
public import proofs.«01_k».proof.Proof.Gen.SsmPostRefIdeal.Run
public import proofs.«01_k».proof.Proof.Ffn.Rule
public import Idealize.ShloMosaic.Lib.Quiescent

@[expose] public section

noncomputable section

open Idealize.ShloMosaic Idealize.ShloMosaic.TcCoe Idealize.SL.Sem
open Idealize.ShloMosaic.Pipeline (Dat)

namespace Cert.Mix

/-- The gelu, by the hyperbolic tangent. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- The half may go first. -/
theorem half_first (x : EReal) : Ideal.ofBits .f32 0x3F000000#32 * x
      * (1 + Ideal.tanh (Ideal.ofBits .f32 0x3F4C422A#32 * (x + Ideal.ofBits .f32 0x3D372713#32 * (x * x * x)))) = gelu x := by
  rw [mul_comm _ x, mul_assoc]
  rfl

/-- The gelu of the block's output and what passes it by, -/
def active {n : Nat} (y u : (⟨2, ![n, 512]⟩ : Shape).Idx → EReal) (d : (⟨2, ![1, 512]⟩ : Shape).Idx → EReal) (r : Fin n) (j : Fin 512) : EReal :=
  gelu (y (ix2 r j) + d (ix2 0 j) * u (ix2 r j))

/-- and it times its gate. -/
def post {n : Nat} (y u : (⟨2, ![n, 512]⟩ : Shape).Idx → EReal) (d : (⟨2, ![1, 512]⟩ : Shape).Idx → EReal)
    (w : (⟨2, ![512, 512]⟩ : Shape).Idx → EReal) (r : Fin n) (j : Fin 512) : EReal :=
  active y u d r j * Ffn.logistic (∑ l, active y u d r l * w (ix2 l j))

end Cert.Mix

namespace Cert.Mix.SsmPost

open Cert.SsmPostIdeal Cert.SsmPostIdeal.Gen Cert.Ffn

/-- What the body leaves. -/
theorem leaves (y u : Vec Ideal S512x512 .f32) (d : Vec Ideal S1x512 .f32) (w : Vec Ideal S512x512 .bf16) (r j : Fin 512) :
    k0_pay1 y u d w (ix2 r j) = post y u d w r j := by
  pointwise [k0_pay1]
  simp only [half_first, zero_sub]
  rfl

variable (m : (ℓ : Loc nD τ sig) → Buf (Elt Ideal) ℓ) (c : Dev nD)

/-- Where the blocks of a point begin. -/
theorem starts : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

theorem few (t : Fin cfg0.N) : t.val < 8 := t.isLt

/-- The row of the whole arrays that is row `r` of a point's blocks. -/
abbrev row (t : Fin cfg0.N) (r : Fin 512) : Fin 4096 := ⟨t.val * 512 + r.val, by have h := few t; omega⟩

/-- The arguments, as arrays of extended reals. -/
abbrev Y : S4096x512.Idx → EReal := m ((c : Thread nD τ).loc main_arg0)

@[inherit_doc Y]
abbrev U : S4096x512.Idx → EReal := m ((c : Thread nD τ).loc main_arg1)

@[inherit_doc Y]
abbrev D : S1x512.Idx → EReal := m ((c : Thread nD τ).loc main_arg2)

@[inherit_doc Y]
abbrev W : S512x512.Idx → EReal := m ((c : Thread nD τ).loc main_arg3)

/-- The result after the run. -/
theorem result : (dats m 0 c).arrAt 4 cfg0.N = fun i : S4096x512.Idx => post (Y m c) (U m c) (D m c) (W m c) (i 0) (i 1) := by
  refine (dats m 0 c).arrAt_eq_of_covers 4 _ (by decide +kernel) fun t hf y => ?_
  obtain ⟨e0, e1, e2, e3, e4⟩ := starts t
  idx_vars y
  have e : ((cfg0.win 4).blk t).view.emb (ix2 y0 y1) = (ix2 (row t y0) y1 : S4096x512.Idx) := by blk_ext [e4]
  rw [after0_4, e]
  refine Eq.trans (b := k0_pay1 (iblk m c 0 t) (iblk m c 1 t) (iblk m c 2 t) (iblk m c 3 t) (ix2 y0 y1)) ?_ ((leaves _ _ _ _ y0 y1).trans ?_)
  · frame_out; rfl
  · have a (l : Fin 512) : active (n := 512) (iblk m c 0 t) (iblk m c 1 t) (iblk m c 2 t) y0 l = active (Y m c) (U m c) (D m c) (row t y0) l :=
      congrArg gelu (congrArg₂ (· + ·) (congrArg (Y m c) (by blk_ext [e0]))
        (congrArg₂ (· * ·) (congrArg (D m c) (by blk_ext [e2])) (congrArg (U m c) (by blk_ext [e1]))))
    exact congrArg₂ (· * ·) (a y1) (congrArg logistic (Finset.sum_congr rfl fun l _ =>
      congrArg₂ (· * ·) (a l) (congrArg (W m c) (by blk_ext [e3]))))

end Cert.Mix.SsmPost

namespace Cert.SsmPostRefIdeal.Value

open Cert.SsmPostRefIdeal Cert.SsmPostRefIdeal.Gen Cert.Ffn

/-- The reference's gelu, -/
def active (y u : FVec Ideal S4096x512 .f32) (d : FVec Ideal S1x512 .f32) : FVec Ideal S4096x512 .f32 :=
  let x := addf y (mulf (broadcastInDim S4096x512 ![0, 1] bcast_S1x512_S4096x512_0_1 d) u)
  mulf x (mulf (broadcastInDim S4096x512 ![] bcast_S_S4096x512 (constant S_ .f32 0x3F000000#32))
    (addf (broadcastInDim S4096x512 ![] bcast_S_S4096x512 (constant S_ .f32 0x3F800000#32))
      (Host.tanh (mulf (broadcastInDim S4096x512 ![] bcast_S_S4096x512 (constant S_ .f32 0x3F4C422A#32))
        (addf x (mulf (broadcastInDim S4096x512 ![] bcast_S_S4096x512 (constant S_ .f32 0x3D372713#32)) (mulf (mulf x x) x)))))))

/-- and what it leaves. -/
def result (y u : FVec Ideal S4096x512 .f32) (d : FVec Ideal S1x512 .f32) (w : FVec Ideal S512x512 .bf16) : FVec Ideal S4096x512 .f32 :=
  mulf (active y u d) (Host.divf (broadcastInDim S4096x512 ![] bcast_S_S4096x512 (constant S_ .f32 0x3F800000#32))
    (addf (broadcastInDim S4096x512 ![] bcast_S_S4096x512 (constant S_ .f32 0x3F800000#32)) (Host.exp (Host.negf
      (Host.dotGeneral dot_S4096x512_S512x512_S4096x512_1_0_0_1_n_n none (active y u d) (extf .f32 w bitsLt_bf16_f32))))))

theorem active_at (y u : FVec Ideal S4096x512 .f32) (d : FVec Ideal S1x512 .f32) (r : Fin 4096) (j : Fin 512) :
    active y u d (ix2 r j) = Mix.active y u d r j := by
  pointwise [active]
  rfl

theorem result_at (y u : FVec Ideal S4096x512 .f32) (d : FVec Ideal S1x512 .f32) (w : FVec Ideal S512x512 .bf16) (r : Fin 4096) (j : Fin 512) :
    result y u d w (ix2 r j) = Mix.post y u d w r j := by
  have h : result y u d w (ix2 r j) = active y u d (ix2 r j) * logistic (∑ l : Fin 512, active y u d (ix2 r l) * w (ix2 l j)) := by
    pointwise [result]
    rfl
  rw [h]
  simp only [active_at]
  rfl

end Cert.SsmPostRefIdeal.Value

namespace Cert.Mix.SsmPost

/-- Kernel and reference leave the same array, over the extended reals. -/
theorem same : Cert.algebraic_SsmPostIdeal_SsmPostRefIdeal
    (hSsmPostIdeal := Cert.SsmPostIdeal.Gen.facts) (hSsmPostRefIdeal := Cert.SsmPostRefIdeal.Gen.facts) := by
  intro m g m' g' _ hm
  refine ⟨_, Cert.SsmPostIdeal.Value.run_blocks m g, (θ_run _ _ _).mono ?_ (Cert.SsmPostRefIdeal.Value.run m' g')⟩
  intro r h c
  obtain ⟨e0, e1, e2, e3⟩ := hm c
  refine ⟨(h c).1.trans (Eq.trans ?_ (result m c).symm), (h c).2⟩
  rw [e0, e1, e2, e3]
  refine funext fun i => ?_
  idx_vars i
  exact Cert.SsmPostRefIdeal.Value.result_at (Y m c) (U m c) (D m c) (W m c) i0 i1

end Cert.Mix.SsmPost

end
-- ==== Proof.LossHead.lean ====
/-
  The loss on a device's tokens and its gradients by the last layer's output and by the final norm's weight: the kernel, on
  the extended reals, leaves half the sum of the rows' mean squared errors, and what its derivative gives row by row.
-/
module

public import proofs.«01_k».proof.Defs
public import proofs.«01_k».proof.Proof.Gen.LossHead.Value
public import proofs.«01_k».proof.Proof.Gen.LossHeadIdeal.Value
public import proofs.«01_k».proof.Proof.Gen.LossHeadRefIdeal.Run
public import proofs.«01_k».proof.Proof.Norm.Rule
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.LossBack

open Cert.LossHeadIdeal Cert.LossHeadIdeal.Gen Cert.Norm

/-- An entry of the errors: the norm's output less the target; -/
def err {n : Nat} (x y : (⟨2, ![n, 1024]⟩ : Shape).Idx → EReal) (w : S1x1024.Idx → EReal) (i : (⟨2, ![n, 1024]⟩ : Shape).Idx) : EReal :=
  row x (i 0) (i 1) * inv (row x (i 0)) * w (ix2 0 (i 1)) - y i

/-- of the loss's derivative by the norm's output; -/
def slopes {n : Nat} (x y : (⟨2, ![n, 1024]⟩ : Shape).Idx → EReal) (w : S1x1024.Idx → EReal) (i : (⟨2, ![n, 1024]⟩ : Shape).Idx) : EReal :=
  err x y w i * perLen

/-- and a row's mean squared error. -/
def meanErr {n : Nat} (x y : (⟨2, ![n, 1024]⟩ : Shape).Idx → EReal) (w : S1x1024.Idx → EReal) (r : Fin n) : EReal :=
  Ideal.div (∑ k, err x y w (ix2 r k) * err x y w (ix2 r k)) len

/-- The body's errors, -/
theorem err_at (x y : Vec Ideal S512x1024 .f32) (w : Vec Ideal S1x1024 .f32) (r : Fin 512) (j : Fin 1024) :
    k0_pay5 x w y (ix2 r j) = err x y w (ix2 r j) := by
  pointwise [k0_pay5, k0_pay4, k0_pay3]
  rfl

/-- what it adds to the first result's buffer, -/
theorem adds_loss (e : Vec Ideal S512x1024 .f32) (o : Vec Ideal S8x128 .f32) (a : Fin 8) (b : Fin 128) :
    k0_pay2 e o (ix2 a b) = o (ix2 a b) + half * ∑ r, Ideal.div (∑ k, e (ix2 r k) * e (ix2 r k)) len := by
  pointwise [k0_pay2]

/-- leaves in the second's, -/
theorem leaves (x y : Vec Ideal S512x1024 .f32) (w : Vec Ideal S1x1024 .f32) (r : Fin 512) (j : Fin 1024) :
    k0_pay7 x w y (ix2 r j) = through x (slopes x y w) w r j := by
  pointwise [k0_pay7, k0_pay6, k0_pay5, k0_pay4, k0_pay3]
  rfl

/-- and adds to the third's. -/
theorem adds (x y : Vec Ideal S512x1024 .f32) (w o : Vec Ideal S1x1024 .f32) (j : Fin 1024) :
    k0_pay1 (k0_pay10 o) (k0_pay11 x w y) (ix2 0 j) = o (ix2 0 j) + ∑ r, part x (slopes x y w) r j := by
  pointwise [k0_pay1, k0_pay10, k0_pay11, k0_pay6, k0_pay5, k0_pay4, k0_pay3]
  rfl

variable (m : (ℓ : Loc nD τ sig) → Buf (Elt Ideal) ℓ) (c : Dev nD)

/-- Where the blocks of a point begin. -/
theorem starts : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

theorem few (t : Fin cfg0.N) : t.val < 8 := t.isLt

/-- The row of the whole arrays that is row `r` of a point's blocks. -/
abbrev whole (t : Fin cfg0.N) (r : Fin 512) : Fin 4096 := ⟨t.val * 512 + r.val, by have h := few t; omega⟩

/-- The arguments, as arrays of extended reals. -/
abbrev X : S4096x1024.Idx → EReal := m ((c : Thread nD τ).loc main_arg0)

@[inherit_doc X]
abbrev W : S1x1024.Idx → EReal := m ((c : Thread nD τ).loc main_arg1)

@[inherit_doc X]
abbrev Y : S4096x1024.Idx → EReal := m ((c : Thread nD τ).loc main_arg2)

/-- The rows of a point's blocks are rows of the arguments, -/
theorem row_x (t : Fin cfg0.N) (r : Fin 512) : row (n := 512) (iblk m c 0 t) r = row (X m c) (whole t r) := by
  obtain ⟨e0, -⟩ := starts t
  refine funext fun k => congrArg (X m c) ?_
  blk_ext [e0]

@[inherit_doc row_x]
theorem row_y (t : Fin cfg0.N) (r : Fin 512) : row (n := 512) (iblk m c 2 t) r = row (Y m c) (whole t r) := by
  obtain ⟨-, -, e2, -⟩ := starts t
  refine funext fun k => congrArg (Y m c) ?_
  blk_ext [e2]

@[inherit_doc row_x]
theorem row_w (t : Fin cfg0.N) : (iblk m c 1 t : S1x1024.Idx → EReal) = W m c := by
  obtain ⟨-, e1, -⟩ := starts t
  refine funext fun i => congrArg (W m c) ?_
  idx_vars i
  blk_ext [e1]

/-- so the errors of a point are errors of the whole; -/
theorem err_blk (t : Fin cfg0.N) (r : Fin 512) (k : Fin 1024) :
    err (n := 512) (iblk m c 0 t) (iblk m c 2 t) (iblk m c 1 t) (ix2 r k) = err (X m c) (Y m c) (W m c) (ix2 (whole t r) k) := by
  show row (n := 512) (iblk m c 0 t) r k * inv (row (n := 512) (iblk m c 0 t) r) * _ - row (n := 512) (iblk m c 2 t) r k = _
  rw [row_x m c t r, row_y m c t r, row_w m c t]
  rfl

/-- and their slopes. -/
theorem slopes_blk (t : Fin cfg0.N) (r : Fin 512) (k : Fin 1024) :
    slopes (n := 512) (iblk m c 0 t) (iblk m c 2 t) (iblk m c 1 t) (ix2 r k) = slopes (X m c) (Y m c) (W m c) (ix2 (whole t r) k) :=
  congrArg (· * perLen) (err_blk m c t r k)

/-- What a point leaves in the second result's buffer. -/
theorem second_at (t : Fin cfg0.N) (r : Fin 512) (j : Fin 1024) : (outsAt0 m c t.val t.isLt).2.1 (ix2 r j)
    = through (X m c) (slopes (X m c) (Y m c) (W m c)) (W m c) (whole t r) j := by
  have h : (outsAt0 m c t.val t.isLt).2.1 = k0_pay7 (iblk m c 0 t) (iblk m c 1 t) (iblk m c 2 t) := by
    by_cases h : t.val % 8 = 0
    · rw [outsAt0_A m c t h]; frame_out
    · rw [outsAt0_B m c t h]; frame_out
  rw [h]
  refine (leaves _ _ _ r j).trans ?_
  have hs : scaled (n := 512) (slopes (n := 512) (iblk m c 0 t) (iblk m c 2 t) (iblk m c 1 t)) (iblk m c 1 t) r
      = scaled (slopes (X m c) (Y m c) (W m c)) (W m c) (whole t r) :=
    funext fun k => congrArg₂ (· * ·) (slopes_blk m c t r k) (congrFun (row_w m c t) (ix2 0 k))
  unfold through
  rw [row_x m c t r, hs]

/-- What the last point leaves in the first result's buffer: the loss. -/
theorem first_at (t : Fin cfg0.N) (ht : t.val + 1 = cfg0.N) (a : Fin 8) (b : Fin 128) : (outsAt0 m c t.val t.isLt).1 (ix2 a b)
    = half * ∑ r, meanErr (X m c) (Y m c) (W m c) r := by
  have hp : ∀ (t : Fin cfg0.N) (o : Vec Ideal S8x128 .f32), k0_pay2 (k0_pay5 (iblk m c 0 t) (iblk m c 1 t) (iblk m c 2 t)) o (ix2 a b)
      = o (ix2 a b) + half * ∑ r, meanErr (X m c) (Y m c) (W m c) (whole t r) := fun t o => by
    refine (adds_loss _ _ a b).trans (congrArg (fun s => o (ix2 a b) + half * s) (Finset.sum_congr rfl fun r _ => ?_))
    unfold meanErr
    refine congrArg (Ideal.div · len) (Finset.sum_congr rfl fun k _ => ?_)
    rw [err_at, err_blk m c t r k]
  refine (Pipeline.eq_sum_fin_of_reset_step_last (N := cfg0.N) (fun n h => (outsAt0 m c n h).1 (ix2 a b)) 8 0
    (fun t => half * ∑ r, meanErr (X m c) (Y m c) (W m c) (whole t r)) (fun t h => ?_) (fun t h => ?_) (by decide) t ht).trans ?_
  · show (outsAt0 m c t.val t.isLt).1 (ix2 a b) = _
    rw [outsAt0_A m c t h]
    frame_out
    refine (hp t _).trans (congrArg (· + _) ?_)
    pointwise [k0_pay9]
  · show (outsAt0 m c t.val t.isLt).1 (ix2 a b) = _
    rw [outsAt0_B m c t h]
    frame_out
    exact hp t _
  · rw [zero_add, half_eq]
    refine (mul_sum (n := 8) (1 / 2) (by norm_num) fun t : Fin 8 => ∑ r : Fin 512, meanErr (X m c) (Y m c) (W m c) (whole t r)).symm.trans ?_
    exact congrArg _ (Fin.sum_mul_add_fin 8 512 fun r => meanErr (X m c) (Y m c) (W m c) r)

/-- What it leaves in the third's: the sum over all rows. -/
theorem third_at (t : Fin cfg0.N) (ht : t.val + 1 = cfg0.N) (j : Fin 1024) : (outsAt0 m c t.val t.isLt).2.2 (ix2 0 j)
    = ∑ r, part (X m c) (slopes (X m c) (Y m c) (W m c)) r j := by
  have hp : ∀ (t : Fin cfg0.N) (o : Vec Ideal S1x1024 .f32),
      k0_pay1 (k0_pay10 o) (k0_pay11 (iblk m c 0 t) (iblk m c 1 t) (iblk m c 2 t)) (ix2 0 j)
      = o (ix2 0 j) + ∑ r, part (X m c) (slopes (X m c) (Y m c) (W m c)) (whole t r) j := fun t o => by
    refine (adds _ _ _ o j).trans (congrArg (o (ix2 0 j) + ·) (Finset.sum_congr rfl fun r _ => ?_))
    unfold part
    rw [row_x m c t r]
    exact congrArg (· * _) (slopes_blk m c t r j)
  refine (Pipeline.eq_sum_fin_of_reset_step_last (N := cfg0.N) (fun n h => (outsAt0 m c n h).2.2 (ix2 0 j)) 8 0
    (fun t => ∑ r, part (X m c) (slopes (X m c) (Y m c) (W m c)) (whole t r) j) (fun t h => ?_) (fun t h => ?_) (by decide) t ht).trans ?_
  · show (outsAt0 m c t.val t.isLt).2.2 (ix2 0 j) = _
    rw [outsAt0_A m c t h]
    frame_out
    refine (hp t _).trans (congrArg (· + _) ?_)
    pointwise [k0_pay8]
  · show (outsAt0 m c t.val t.isLt).2.2 (ix2 0 j) = _
    rw [outsAt0_B m c t h]
    frame_out
    exact hp t _
  · rw [zero_add]
    exact Fin.sum_mul_add_fin 8 512 fun r => part (X m c) (slopes (X m c) (Y m c) (W m c)) r j

/-- The first result after the run, -/
theorem first : (dats m 0 c).arrAt 3 cfg0.N = fun _ : S8x128.Idx => half * ∑ r, meanErr (X m c) (Y m c) (W m c) r := by
  refine (dats m 0 c).arrAt_eq_of_covers 3 _ (by decide +kernel) fun t hf y => ?_
  idx_vars y
  have h := (flush0_3 t).mp hf
  have h' := few t
  rw [after0_3]
  exact first_at m c t (by show t.val + 1 = 8; omega) y0 y1

/-- the second, -/
theorem second : (dats m 0 c).arrAt 4 cfg0.N
    = fun i : S4096x1024.Idx => through (X m c) (slopes (X m c) (Y m c) (W m c)) (W m c) (i 0) (i 1) := by
  refine (dats m 0 c).arrAt_eq_of_covers 4 _ (by decide +kernel) fun t hf y => ?_
  obtain ⟨-, -, -, -, e4, -⟩ := starts t
  idx_vars y
  rw [after0_4]
  refine (second_at m c t y0 y1).trans ?_
  have e : ((cfg0.win 4).blk t).view.emb (ix2 y0 y1) = (ix2 (whole t y0) y1 : S4096x1024.Idx) := by blk_ext [e4]
  rw [e]
  rfl

/-- and the third. -/
theorem third : (dats m 0 c).arrAt 5 cfg0.N
    = fun i : S1x1024.Idx => ∑ r, part (X m c) (slopes (X m c) (Y m c) (W m c)) r (i 1) := by
  refine (dats m 0 c).arrAt_eq_of_covers 5 _ (by decide +kernel) fun t hf y => ?_
  obtain ⟨-, -, -, -, -, e5⟩ := starts t
  idx_vars y
  obtain rfl := Subsingleton.elim y0 0
  have h := (flush0_5 t).mp hf
  have h' := few t
  rw [after0_5]
  refine (third_at m c t (by show t.val + 1 = 8; omega) y1).trans ?_
  have e : ((cfg0.win 5).blk t).view.emb (ix2 0 y1) = (ix2 0 y1 : S1x1024.Idx) := by blk_ext [e5]
  rw [e]
  rfl

end Cert.LossBack

namespace Cert.LossHeadRefIdeal.Value

open Cert.LossHeadRefIdeal Cert.LossHeadRefIdeal.Gen Cert.Norm Cert.LossBack

/-- What the reference divides a row by the root of, -/
def under (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- the normed rows, -/
def normed (x : FVec Ideal S4096x1024 .f32) : FVec Ideal S4096x1024 .f32 :=
  mulf x (broadcastInDim S4096x1024 ![0, 1] bcast_S4096x1_S4096x1024_0_1 (Host.rsqrt (under x)))

/-- the errors, -/
def errors (x y : FVec Ideal S4096x1024 .f32) (w : FVec Ideal S1x1024 .f32) : FVec Ideal S4096x1024 .f32 :=
  subf (mulf (normed x) (broadcastInDim S4096x1024 ![0, 1] bcast_S1x1024_S4096x1024_0_1 w)) y

/-- their slopes, -/
def slant (e : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) e)

/-- the mean square's part of the derivative, -/
def turned (x s : FVec Ideal S4096x1024 .f32) : FVec Ideal S4096 .f32 :=
  Host.reduceAdd (Host.divf (mulf (shapeCast _ (Host.reduceAdd (mulf x s) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (under x)) (under x)))) (broadcastInDim S4096x1 ![] bcast_S_S4096x1 (constant S_ .f32 0x44800000#32))) (constant S_ .f32 0x00000000#32) reducesTo_S4096x1_S4096_d1 h_S_

/-- the slopes times the norm's weight, -/
def weighted (g : FVec Ideal S4096x1024 .f32) (w : FVec Ideal S1x1024 .f32) : FVec Ideal S4096x1024 .f32 :=
  mulf g (broadcastInDim S4096x1024 ![0, 1] bcast_S1x1024_S4096x1024_0_1 w)

/-- and the reference's three results, of the errors. -/
def first (e : FVec Ideal S4096x1024 .f32) : FVec Ideal S8x128 .f32 :=
  broadcastInDim S8x128 ![] bcast_S_S8x128 (mulf (constant S_ .f32 0x3F000000#32) (Host.reduceAdd (Host.divf (Host.reduceAdd (mulf e e) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

@[inherit_doc first]
def second (x e : FVec Ideal S4096x1024 .f32) (w : FVec Ideal S1x1024 .f32) : FVec Ideal S4096x1024 .f32 :=
  addf (addf (mulf (weighted (slant e) w) (broadcastInDim S4096x1024 ![0, 1] bcast_S4096x1_S4096x1024_0_1 (Host.rsqrt (under x)))) (mulf x (broadcastInDim S4096x1024 ![0] bcast_S4096_S4096x1024_0 (turned x (weighted (slant e) w))))) (mulf (broadcastInDim S4096x1024 ![0] bcast_S4096_S4096x1024_0 (turned x (weighted (slant e) w))) x)

@[inherit_doc first]
def third (x e : FVec Ideal S4096x1024 .f32) : FVec Ideal S1x1024 .f32 :=
  shapeCast _ (Host.reduceAdd (mulf (normed x) (slant e)) (constant S_ .f32 0x00000000#32) reducesTo_S4096x1024_S1024_d0 h_S_) shapeCasts_S1024_S1x1024

theorem under_at (x : FVec Ideal S4096x1024 .f32) (r : Fin 4096) : under x (ix2 r 0) = square (row x r) := by
  pointwise [under]
  rfl

theorem normed_at (x : FVec Ideal S4096x1024 .f32) (r : Fin 4096) (j : Fin 1024) : normed x (ix2 r j) = row x r j * inv (row x r) := by
  have h : normed x (ix2 r j) = x (ix2 r j) * Ideal.rsqrt (under x (ix2 r 0)) := by
    pointwise [normed]
  rw [h, under_at]
  rfl

theorem errors_at (x y : FVec Ideal S4096x1024 .f32) (w : FVec Ideal S1x1024 .f32) (r : Fin 4096) (j : Fin 1024) :
    errors x y w (ix2 r j) = err x y w (ix2 r j) := by
  have h : errors x y w (ix2 r j) = normed x (ix2 r j) * w (ix2 0 j) - y (ix2 r j) := by
    pointwise [errors]
  rw [h, normed_at]
  rfl

theorem slant_at (x y : FVec Ideal S4096x1024 .f32) (w : FVec Ideal S1x1024 .f32) (r : Fin 4096) (j : Fin 1024) :
    slant (errors x y w) (ix2 r j) = slopes x y w (ix2 r j) := by
  have h : slant (errors x y w) (ix2 r j) = Ideal.div (half * 1) len * (two * errors x y w (ix2 r j)) := by
    pointwise [slant]
  rw [h, slope, errors_at]
  rfl

theorem weighted_at (x y : FVec Ideal S4096x1024 .f32) (w : FVec Ideal S1x1024 .f32) (r : Fin 4096) (j : Fin 1024) :
    weighted (slant (errors x y w)) w (ix2 r j) = scaled (slopes x y w) w r j := by
  have h : weighted (slant (errors x y w)) w (ix2 r j) = slant (errors x y w) (ix2 r j) * w (ix2 0 j) := by
    pointwise [weighted]
  rw [h, slant_at]

theorem turned_at (x y : FVec Ideal S4096x1024 .f32) (w : FVec Ideal S1x1024 .f32) (r : Fin 4096) :
    turned x (weighted (slant (errors x y w)) w) (ix1 r) = turn (row x r) (scaled (slopes x y w) w r) := by
  have h : turned x (weighted (slant (errors x y w)) w) (ix1 r)
      = ∑ k : Fin 1, Ideal.div ((∑ k, row x r k * weighted (slant (errors x y w)) w (ix2 r k))
        * (minusHalf * Ideal.div (Ideal.rsqrt (under x (ix2 r k))) (under x (ix2 r k)))) len := by
    pointwise [turned]
  rw [h, Fin.sum_univ_one, under_at, Finset.sum_congr rfl fun k _ => congrArg (row x r k * ·) (weighted_at x y w r k)]
  rfl

theorem first_at (x y : FVec Ideal S4096x1024 .f32) (w : FVec Ideal S1x1024 .f32) (a : Fin 8) (b : Fin 128) :
    first (errors x y w) (ix2 a b) = half * ∑ r, meanErr x y w r := by
  have h : first (errors x y w) (ix2 a b)
      = half * ∑ r, Ideal.div (∑ k, errors x y w (ix2 r k) * errors x y w (ix2 r k)) len := by
    pointwise [first]
  rw [h]
  simp only [errors_at]
  rfl

theorem second_at (x y : FVec Ideal S4096x1024 .f32) (w : FVec Ideal S1x1024 .f32) (r : Fin 4096) (j : Fin 1024) :
    second x (errors x y w) w (ix2 r j) = through x (slopes x y w) w r j := by
  have h : second x (errors x y w) w (ix2 r j) = weighted (slant (errors x y w)) w (ix2 r j) * Ideal.rsqrt (under x (ix2 r 0))
      + row x r j * turned x (weighted (slant (errors x y w)) w) (ix1 r)
      + turned x (weighted (slant (errors x y w)) w) (ix1 r) * row x r j := by
    pointwise [second]
  rw [h, under_at, turned_at, weighted_at]
  exact (back (row x r) (scaled (slopes x y w) w r) j).symm

theorem third_at (x y : FVec Ideal S4096x1024 .f32) (w : FVec Ideal S1x1024 .f32) (j : Fin 1024) :
    third x (errors x y w) (ix2 0 j) = ∑ r, part x (slopes x y w) r j := by
  have h : third x (errors x y w) (ix2 0 j) = ∑ r, normed x (ix2 r j) * slant (errors x y w) (ix2 r j) := by
    pointwise [third]
  rw [h]
  refine Finset.sum_congr rfl fun r _ => ?_
  rw [normed_at, slant_at, mul_comm]
  rfl

end Cert.LossHeadRefIdeal.Value

namespace Cert.LossBack

/-- Kernel and reference leave the same three arrays, over the extended reals. -/
theorem same : Cert.algebraic_LossHeadIdeal_LossHeadRefIdeal
    (hLossHeadIdeal := Cert.LossHeadIdeal.Gen.facts) (hLossHeadRefIdeal := Cert.LossHeadRefIdeal.Gen.facts) := by
  intro m g m' g' _ hm
  refine ⟨_, _, _, Cert.LossHeadIdeal.Value.run_blocks m g, (θ_run _ _ _).mono ?_ (Cert.LossHeadRefIdeal.Value.run m' g')⟩
  intro r h c
  obtain ⟨e0, e1, e2⟩ := hm c
  refine ⟨(h c).1.trans (Eq.trans ?_ (first m c).symm), (h c).2.1.trans (Eq.trans ?_ (second m c).symm),
    (h c).2.2.1.trans (Eq.trans ?_ (third m c).symm), (h c).2.2.2⟩
  · rw [e0, e1, e2]
    refine funext fun i => ?_
    idx_vars i
    exact Cert.LossHeadRefIdeal.Value.first_at (X m c) (Y m c) (W m c) i0 i1
  · unfold Cert.LossHeadRefIdeal.Value.res_main_v48
    rw [e0, e1, e2]
    refine funext fun i => ?_
    idx_vars i
    exact Cert.LossHeadRefIdeal.Value.second_at (X m c) (Y m c) (W m c) i0 i1
  · rw [e0, e1, e2]
    refine funext fun i => ?_
    idx_vars i
    obtain rfl := Subsingleton.elim i0 0
    exact Cert.LossHeadRefIdeal.Value.third_at (X m c) (Y m c) (W m c) i1

end Cert.LossBack

end
-- ==== Proof.FirstNorm.lean ====
/-
  The backward pass of the step's first norm on a device's tokens: the kernel, on the extended reals, leaves the sum of the
  gradient that comes past the norm and the one through it, row by row, and the gradient of the norm's weight, summed over
  the rows of a block and over the blocks.
-/
module

public import proofs.«01_k».proof.Defs
public import proofs.«01_k».proof.Proof.Gen.FirstNorm.Value
public import proofs.«01_k».proof.Proof.Gen.FirstNormIdeal.Value
public import proofs.«01_k».proof.Proof.Gen.FirstNormRefIdeal.Run
public import proofs.«01_k».proof.Proof.Norm.Rule
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.NormBack

open Cert.FirstNormIdeal Cert.FirstNormIdeal.Gen Cert.Norm

/-- What the body leaves in the first result's buffer, -/
theorem leaves (x g d : Vec Ideal S512x1024 .f32) (w : Vec Ideal S1x1024 .f32) (r : Fin 512) (j : Fin 1024) :
    k0_pay3 x g w d (ix2 r j) = d (ix2 r j) + through x g w r j := by
  pointwise [k0_pay3, k0_pay2, k0_pay1]
  rfl

/-- and what it adds to the second's. -/
theorem adds (x g : Vec Ideal S512x1024 .f32) (o : Vec Ideal S1x1024 .f32) (j : Fin 1024) :
    k0_pay5 x g o (ix2 0 j) = o (ix2 0 j) + ∑ r, row g r j * (row x r j * inv (row x r)) := by
  pointwise [k0_pay5, k0_pay2, k0_pay1]
  rfl

variable (m : (ℓ : Loc nD τ sig) → Buf (Elt Ideal) ℓ) (c : Dev nD)

/-- Where the blocks of a point begin. -/
theorem starts : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

theorem few (t : Fin cfg0.N) : t.val < 8 := t.isLt

/-- The row of the whole arrays that is row `r` of a point's blocks. -/
abbrev whole (t : Fin cfg0.N) (r : Fin 512) : Fin 4096 := ⟨t.val * 512 + r.val, by have h := few t; omega⟩

/-- The arguments, as arrays of extended reals. -/
abbrev X : S4096x1024.Idx → EReal := m ((c : Thread nD τ).loc main_arg0)

@[inherit_doc X]
abbrev W : S1x1024.Idx → EReal := m ((c : Thread nD τ).loc main_arg1)

@[inherit_doc X]
abbrev G : S4096x1024.Idx → EReal := m ((c : Thread nD τ).loc main_arg2)

@[inherit_doc X]
abbrev D : S4096x1024.Idx → EReal := m ((c : Thread nD τ).loc main_arg3)

/-- The rows of a point's blocks are rows of the arguments. -/
theorem row_x (t : Fin cfg0.N) (r : Fin 512) : row (n := 512) (iblk m c 0 t) r = row (X m c) (whole t r) := by
  obtain ⟨e0, -⟩ := starts t
  refine funext fun k => congrArg (X m c) ?_
  blk_ext [e0]

@[inherit_doc row_x]
theorem row_g (t : Fin cfg0.N) (r : Fin 512) : row (n := 512) (iblk m c 2 t) r = row (G m c) (whole t r) := by
  obtain ⟨-, -, e2, -⟩ := starts t
  refine funext fun k => congrArg (G m c) ?_
  blk_ext [e2]

@[inherit_doc row_x]
theorem row_d (t : Fin cfg0.N) (r : Fin 512) : row (n := 512) (iblk m c 3 t) r = row (D m c) (whole t r) := by
  obtain ⟨-, -, -, e3, -⟩ := starts t
  refine funext fun k => congrArg (D m c) ?_
  blk_ext [e3]

@[inherit_doc row_x]
theorem row_w (t : Fin cfg0.N) : (iblk m c 1 t : S1x1024.Idx → EReal) = W m c := by
  obtain ⟨-, e1, -⟩ := starts t
  refine funext fun i => congrArg (W m c) ?_
  idx_vars i
  blk_ext [e1]

/-- What a point leaves in the first result's buffer. -/
theorem first_at (t : Fin cfg0.N) (r : Fin 512) (j : Fin 1024) : (outsAt0 m c t.val t.isLt).1 (ix2 r j)
    = D m c (ix2 (whole t r) j) + through (X m c) (G m c) (W m c) (whole t r) j := by
  have h : (outsAt0 m c t.val t.isLt).1 = k0_pay3 (iblk m c 0 t) (iblk m c 2 t) (iblk m c 1 t) (iblk m c 3 t) := by
    by_cases h : t.val % 8 = 0
    · rw [outsAt0_A m c t h]; frame_out
    · rw [outsAt0_B m c t h]; frame_out
  rw [h]
  refine (leaves _ _ _ _ r j).trans (congr (congrArg HAdd.hAdd (congrFun (row_d m c t r) j)) ?_)
  unfold through
  rw [row_x m c t r, row_w m c t]
  have hs : scaled (n := 512) (iblk m c 2 t) (W m c) r = scaled (G m c) (W m c) (whole t r) :=
    funext fun k => congrArg (· * W m c (ix2 0 k)) (congrFun (row_g m c t r) k)
  rw [hs]

/-- What the last point leaves in the second result's buffer: the sum over all rows. -/
theorem second_at (t : Fin cfg0.N) (ht : t.val + 1 = cfg0.N) (j : Fin 1024) : (outsAt0 m c t.val t.isLt).2 (ix2 0 j)
    = ∑ r, part (X m c) (G m c) r j := by
  have hp : ∀ (t : Fin cfg0.N) (o : Vec Ideal S1x1024 .f32), k0_pay5 (iblk m c 0 t) (iblk m c 2 t) o (ix2 0 j)
      = o (ix2 0 j) + ∑ r, part (X m c) (G m c) (whole t r) j := fun t o => by
    refine (adds _ _ _ j).trans (congrArg (o (ix2 0 j) + ·) (Finset.sum_congr rfl fun r _ => ?_))
    unfold part
    rw [row_x m c t r, row_g m c t r]
  refine (Pipeline.eq_sum_fin_of_reset_step_last (N := cfg0.N) (fun n h => (outsAt0 m c n h).2 (ix2 0 j)) 8 0
    (fun t => ∑ r, part (X m c) (G m c) (whole t r) j) (fun t h => ?_) (fun t h => ?_) (by decide) t ht).trans ?_
  · show (outsAt0 m c t.val t.isLt).2 (ix2 0 j) = _
    rw [outsAt0_A m c t h]
    frame_out
    refine (hp t _).trans (congrArg (· + _) ?_)
    pointwise [k0_pay4]
  · show (outsAt0 m c t.val t.isLt).2 (ix2 0 j) = _
    rw [outsAt0_B m c t h]
    frame_out
    exact hp t _
  · rw [zero_add]
    exact Fin.sum_mul_add_fin 8 512 fun r => part (X m c) (G m c) r j

/-- The first result after the run. -/
theorem first : (dats m 0 c).arrAt 4 cfg0.N
    = fun i : S4096x1024.Idx => D m c i + through (X m c) (G m c) (W m c) (i 0) (i 1) := by
  refine (dats m 0 c).arrAt_eq_of_covers 4 _ (by decide +kernel) fun t hf y => ?_
  obtain ⟨-, -, -, -, e4, -⟩ := starts t
  idx_vars y
  rw [after0_4]
  refine (first_at m c t y0 y1).trans ?_
  have e : ((cfg0.win 4).blk t).view.emb (ix2 y0 y1) = (ix2 (whole t y0) y1 : S4096x1024.Idx) := by blk_ext [e4]
  rw [e]
  rfl

/-- The second. -/
theorem second : (dats m 0 c).arrAt 5 cfg0.N = fun i : S1x1024.Idx => ∑ r, part (X m c) (G m c) r (i 1) := by
  refine (dats m 0 c).arrAt_eq_of_covers 5 _ (by decide +kernel) fun t hf y => ?_
  obtain ⟨-, -, -, -, -, e5⟩ := starts t
  idx_vars y
  obtain rfl := Subsingleton.elim y0 0
  have h := (flush0_5 t).mp hf
  have h' := few t
  rw [after0_5]
  refine (second_at m c t (by show t.val + 1 = 8; omega) y1).trans ?_
  have e : ((cfg0.win 5).blk t).view.emb (ix2 0 y1) = (ix2 0 y1 : S1x1024.Idx) := by blk_ext [e5]
  rw [e]
  rfl

end Cert.NormBack

namespace Cert.FirstNormRefIdeal.Value

open Cert.FirstNormRefIdeal Cert.FirstNormRefIdeal.Gen Cert.Norm Cert.NormBack

/-- What the reference divides a row by the root of, -/
def under (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- the mean square's part of the derivative, -/
def turned (x s : FVec Ideal S4096x1024 .f32) : FVec Ideal S4096 .f32 :=
  Host.reduceAdd (Host.divf (mulf (shapeCast _ (Host.reduceAdd (mulf x s) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (under x)) (under x)))) (broadcastInDim S4096x1 ![] bcast_S_S4096x1 (constant S_ .f32 0x44800000#32))) (constant S_ .f32 0x00000000#32) reducesTo_S4096x1_S4096_d1 h_S_

/-- the gradient by the norm's output times its weight, -/
def weighted (g : FVec Ideal S4096x1024 .f32) (w : FVec Ideal S1x1024 .f32) : FVec Ideal S4096x1024 .f32 :=
  mulf g (broadcastInDim S4096x1024 ![0, 1] bcast_S1x1024_S4096x1024_0_1 w)

/-- and the reference's two results. -/
def first (x g d : FVec Ideal S4096x1024 .f32) (w : FVec Ideal S1x1024 .f32) : FVec Ideal S4096x1024 .f32 :=
  addf d (addf (addf (mulf (weighted g w) (broadcastInDim S4096x1024 ![0, 1] bcast_S4096x1_S4096x1024_0_1 (Host.rsqrt (under x)))) (mulf x (broadcastInDim S4096x1024 ![0] bcast_S4096_S4096x1024_0 (turned x (weighted g w))))) (mulf (broadcastInDim S4096x1024 ![0] bcast_S4096_S4096x1024_0 (turned x (weighted g w))) x))

@[inherit_doc first]
def second (x g : FVec Ideal S4096x1024 .f32) : FVec Ideal S1x1024 .f32 :=
  shapeCast _ (Host.reduceAdd (mulf (mulf x (broadcastInDim S4096x1024 ![0, 1] bcast_S4096x1_S4096x1024_0_1 (Host.rsqrt (under x)))) g) (constant S_ .f32 0x00000000#32) reducesTo_S4096x1024_S1024_d0 h_S_) shapeCasts_S1024_S1x1024

theorem under_at (x : FVec Ideal S4096x1024 .f32) (r : Fin 4096) : under x (ix2 r 0) = square (row x r) := by
  pointwise [under]
  rfl

theorem turned_at (x g : FVec Ideal S4096x1024 .f32) (w : FVec Ideal S1x1024 .f32) (r : Fin 4096) :
    turned x (weighted g w) (ix1 r) = turn (row x r) (scaled g w r) := by
  have h : turned x (weighted g w) (ix1 r) = 0 + ∑ k : Fin 1, Ideal.div ((0 + ∑ k, row x r k * scaled g w r k)
      * (minusHalf * Ideal.div (Ideal.rsqrt (under x (ix2 r k))) (under x (ix2 r k)))) len := by
    pointwise [turned, weighted]
  rw [h, Fin.sum_univ_one, under_at, zero_add, zero_add]
  rfl

theorem first_at (x g d : FVec Ideal S4096x1024 .f32) (w : FVec Ideal S1x1024 .f32) (r : Fin 4096) (j : Fin 1024) :
    first x g d w (ix2 r j) = d (ix2 r j) + through x g w r j := by
  have h : first x g d w (ix2 r j) = d (ix2 r j) + (scaled g w r j * Ideal.rsqrt (under x (ix2 r 0))
      + row x r j * turned x (weighted g w) (ix1 r) + turned x (weighted g w) (ix1 r) * row x r j) := by
    pointwise [first, weighted]
  rw [h, under_at, turned_at]
  exact congrArg (d (ix2 r j) + ·) (back (row x r) (scaled g w r) j).symm

theorem second_at (x g : FVec Ideal S4096x1024 .f32) (j : Fin 1024) : second x g (ix2 0 j) = ∑ r, part x g r j := by
  have h : second x g (ix2 0 j) = 0 + ∑ r, x (ix2 r j) * Ideal.rsqrt (under x (ix2 r 0)) * g (ix2 r j) := by
    pointwise [second]
  rw [h, zero_add]
  refine Finset.sum_congr rfl fun r _ => ?_
  rw [under_at, mul_comm]
  rfl

end Cert.FirstNormRefIdeal.Value

namespace Cert.NormBack

/-- Kernel and reference leave the same two arrays, over the extended reals. -/
theorem same : Cert.algebraic_FirstNormIdeal_FirstNormRefIdeal
    (hFirstNormIdeal := Cert.FirstNormIdeal.Gen.facts) (hFirstNormRefIdeal := Cert.FirstNormRefIdeal.Gen.facts) := by
  intro m g m' g' _ hm
  refine ⟨_, _, Cert.FirstNormIdeal.Value.run_blocks m g, (θ_run _ _ _).mono ?_ (Cert.FirstNormRefIdeal.Value.run m' g')⟩
  intro r h c
  obtain ⟨e0, e1, e2, e3⟩ := hm c
  refine ⟨(h c).1.trans (Eq.trans ?_ (first m c).symm), (h c).2.1.trans (Eq.trans ?_ (second m c).symm), (h c).2.2⟩
  · rw [e0, e1, e2, e3]
    refine funext fun i => ?_
    idx_vars i
    exact Cert.FirstNormRefIdeal.Value.first_at (X m c) (G m c) (D m c) (W m c) i0 i1
  · rw [e0, e2]
    refine funext fun i => ?_
    idx_vars i
    obtain rfl := Subsingleton.elim i0 0
    exact Cert.FirstNormRefIdeal.Value.second_at (X m c) (G m c) i1

end Cert.NormBack

end
-- ==== Proof.Step.Rule.lean ====
/-
  The AdamW step as a function of whole arrays, element by element: the two moments and the step itself, over any float
  type and of arrays of any shape. What the kernel's body does to a block is this function of the block; what the host
  does to a whole array is the same function written with the host's own quotient and square root, which over the extended
  reals are the kernel's.
-/
module

public import Idealize.ShloMosaic.PureOps
public import Idealize.ShloMosaic.Lib.StableHlo
public import Idealize.ShloMosaic.PureOps.Ideal

@[expose] public section

noncomputable section

namespace Cert.Step

open Idealize.ShloMosaic

variable {F : FTy → Type} [FloatOps F] {s : Shape}

/-- One number in every place of an array. -/
abbrev all (s : Shape) (b : BitVec 32) : FVec F s .f32 := constant s .f32 b

/-- The first moment: nine tenths of the old one and a tenth of the gradient. -/
def first (g mo : FVec F s .f32) : FVec F s .f32 :=
  addf (mulf (all s 0x3F666666#32) mo) (mulf (all s 0x3DCCCCCD#32) g)

/-- The second moment: 0.999 of the old one and 0.001 of the gradient's square. -/
def second (g va : FVec F s .f32) : FVec F s .f32 :=
  addf (mulf (all s 0x3F7FBE77#32) va) (mulf (all s 0x3A83126F#32) (mulf g g))

/-- The step, from the weight and the two new moments: both moments are first divided by what the tenth step leaves of
    their weights, then the first is divided by the root of the second, a hundredth of the weight is added, and the
    sum is taken 0.001 times, downwards. -/
def move (w mn vn : FVec F s .f32) : FVec F s .f32 :=
  mulf (all s 0xBA83126F#32) (addf (divf (divf mn (all s 0x3F26BD02#32))
    (addf (sqrt (divf vn (all s 0x3C231ACC#32))) (all s 0x322BCC77#32))) (mulf (all s 0x3C23D70A#32) w))

/-- The step from the weight, the gradient and the two old moments. -/
def step (w g mo va : FVec F s .f32) : FVec F s .f32 := move w (first g mo) (second g va)

/-- The moments and the step of some places of the arrays are those places of the moments and of the step. -/
theorem first_at {r : Shape} (g mo : FVec F s .f32) (e : r.Idx → s.Idx) :
    first (fun i => g (e i)) (fun i => mo (e i)) = fun i => first g mo (e i) := rfl

@[inherit_doc first_at]
theorem second_at {r : Shape} (g va : FVec F s .f32) (e : r.Idx → s.Idx) :
    second (fun i => g (e i)) (fun i => va (e i)) = fun i => second g va (e i) := rfl

@[inherit_doc first_at]
theorem step_at {r : Shape} (w g mo va : FVec F s .f32) (e : r.Idx → s.Idx) :
    step (fun i => w (e i)) (fun i => g (e i)) (fun i => mo (e i)) (fun i => va (e i)) = fun i => step w g mo va (e i) := rfl

/-- An array laid out in rows. -/
abbrev rows {r : Shape} (h : s.ShapeCasts r) (x : FVec F s .f32) : FVec F r .f32 := shapeCast r x h

/-- The moments and the step of arrays in rows are the moments and the step, in rows. -/
theorem first_rows {r : Shape} (h : s.ShapeCasts r) {g mo : FVec F s .f32} {g' mo' : FVec F r .f32} (eg : g' = rows h g)
    (em : mo' = rows h mo) : first g' mo' = rows h (first g mo) := by subst eg em; rfl

@[inherit_doc first_rows]
theorem second_rows {r : Shape} (h : s.ShapeCasts r) {g va : FVec F s .f32} {g' va' : FVec F r .f32} (eg : g' = rows h g)
    (ev : va' = rows h va) : second g' va' = rows h (second g va) := by subst eg ev; rfl

@[inherit_doc first_rows]
theorem step_rows {r : Shape} (h : s.ShapeCasts r) {w g mo va : FVec F s .f32} {w' g' mo' va' : FVec F r .f32}
    (ew : w' = rows h w) (eg : g' = rows h g) (em : mo' = rows h mo) (ev : va' = rows h va) :
    step w' g' mo' va' = rows h (step w g mo va) := by subst ew eg em ev; rfl

/-- A block's own corner. -/
theorem zeros : (![0, 0] : Fin 2 → Nat) = fun _ => 0 := funext fun a => by fin_cases a <;> rfl

/-- The step with the host's quotient and square root. -/
def hostMove (w mn vn : FVec F s .f32) : FVec F s .f32 :=
  mulf (all s 0xBA83126F#32) (addf (Host.divf (Host.divf mn (all s 0x3F26BD02#32))
    (addf (Host.sqrt (Host.divf vn (all s 0x3C231ACC#32))) (all s 0x322BCC77#32))) (mulf (all s 0x3C23D70A#32) w))

/-- Over the extended reals the host's step is the kernel's. -/
theorem hostMove_eq (w mn vn : FVec Ideal s .f32) : hostMove w mn vn = move w mn vn := rfl

end Cert.Step

end
-- ==== Proof.StepSharded.lean ====
/-
  The AdamW call on one device's part of the twelve sharded weights, those of one shape together: the kernel, on the extended
  reals, leaves the step and the two new moments that the plain formula gives.
-/
module

public import proofs.«01_k».proof.Defs
public import proofs.«01_k».proof.Proof.Gen.AdamwWide.Value
public import proofs.«01_k».proof.Proof.Gen.AdamwWideIdeal.Value
public import proofs.«01_k».proof.Proof.Gen.AdamwWideRefIdeal.Run
public import proofs.«01_k».proof.Proof.Gen.AdamwDown.Value
public import proofs.«01_k».proof.Proof.Gen.AdamwDownIdeal.Value
public import proofs.«01_k».proof.Proof.Gen.AdamwDownRefIdeal.Run
public import proofs.«01_k».proof.Proof.Gen.AdamwEvIn.Value
public import proofs.«01_k».proof.Proof.Gen.AdamwEvInIdeal.Value
public import proofs.«01_k».proof.Proof.Gen.AdamwEvInRefIdeal.Run
public import proofs.«01_k».proof.Proof.Gen.AdamwGlu.Value
public import proofs.«01_k».proof.Proof.Gen.AdamwGluIdeal.Value
public import proofs.«01_k».proof.Proof.Gen.AdamwGluRefIdeal.Run
public import proofs.«01_k».proof.Proof.Gen.AdamwOut.Value
public import proofs.«01_k».proof.Proof.Gen.AdamwOutIdeal.Value
public import proofs.«01_k».proof.Proof.Gen.AdamwOutRefIdeal.Run
public import proofs.«01_k».proof.Proof.Gen.AdamwOdIn.Value
public import proofs.«01_k».proof.Proof.Gen.AdamwOdInIdeal.Value
public import proofs.«01_k».proof.Proof.Gen.AdamwOdInRefIdeal.Run
public import proofs.«01_k».proof.Proof.Gen.AdamwConv.Value
public import proofs.«01_k».proof.Proof.Gen.AdamwConvIdeal.Value
public import proofs.«01_k».proof.Proof.Gen.AdamwConvRefIdeal.Run
public import proofs.«01_k».proof.Proof.Step.Rule
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

/-! The four (4, 1024, 704) weights, `ffn1_w_gate`, `ffn1_w_up`, `ffn2_w_gate` and `ffn2_w_up`. -/

namespace Cert.AdamwWideIdeal.Stepped

open Cert.AdamwWideIdeal Cert.AdamwWideIdeal.Gen

variable {F : FTy → Type} [FloatOps F] (m : (ℓ : Loc nD τ sig) → Buf (Elt F) ℓ) (c : Dev nD)

/-- What the body leaves in the three results' buffers: the step and the moments of the four blocks. -/
theorem leaves (w g mo va : Vec F S512x704 .f32) :
    out0_4 w g mo va = Step.step (s := S512x704) w g mo va ∧ out0_5 w g mo va = Step.first (s := S512x704) g mo
      ∧ out0_6 w g mo va = Step.second (s := S512x704) g va := by
  simp only [out0_4, out0_5, out0_6, View.canon_unit_zero (S := S512x704) Step.zeros,
    View.ld_unit_zero (S := S512x704) Step.zeros, k0_pay4, k0_pay3, k0_pay2, k0_pay1, shapeCast_self]
  exact ⟨rfl, rfl, rfl⟩

/-- What the region finds in its four inputs: the arguments, in rows. -/
theorem found : V m c main_v0 = Step.rows shapeCasts_S4x1024x704_S4096x704 (m ((c : Thread nD τ).loc main_arg0))
    ∧ V m c main_v1 = Step.rows shapeCasts_S4x1024x704_S4096x704 (m ((c : Thread nD τ).loc main_arg1))
    ∧ V m c main_v2 = Step.rows shapeCasts_S4x1024x704_S4096x704 (m ((c : Thread nD τ).loc main_arg2))
    ∧ V m c main_v3 = Step.rows shapeCasts_S4x1024x704_S4096x704 (m ((c : Thread nD τ).loc main_arg3)) := by
  unfold V hostOps0
  refine ⟨?_, ?_, ?_, ?_⟩ <;> after_results_simp <;> rfl

/-- The three results after the run are the step and the moments of the arguments, in rows: each point writes its own
    rows of them, and the points' rows are all rows. -/
theorem results (w g mo va : FVec F S4x1024x704 .f32) (hw : w = m ((c : Thread nD τ).loc main_arg0))
    (hg : g = m ((c : Thread nD τ).loc main_arg1)) (hm : mo = m ((c : Thread nD τ).loc main_arg2))
    (hv : va = m ((c : Thread nD τ).loc main_arg3)) :
    (dats m 0 c).arrAt 4 cfg0.N = Step.rows shapeCasts_S4x1024x704_S4096x704 (Step.step w g mo va)
    ∧ (dats m 0 c).arrAt 5 cfg0.N = Step.rows shapeCasts_S4x1024x704_S4096x704 (Step.first g mo)
    ∧ (dats m 0 c).arrAt 6 cfg0.N = Step.rows shapeCasts_S4x1024x704_S4096x704 (Step.second g va) := by
  subst hw hg hm hv
  obtain ⟨f0, f1, f2, f3⟩ := found m c
  have all : (cfg0.win 4).Covers ∧ (cfg0.win 5).Covers ∧ (cfg0.win 6).Covers := by decide +kernel
  refine ⟨((dats m 0 c).arrAt_eq_of_cover 4 (Step.step (s := S4096x704) (V m c main_v0) (V m c main_v1) (V m c main_v2)
        (V m c main_v3)) (fun t _ => (Value.flushed4 m c t).trans ?_) (all.1.cover _ (Memref.isWhole_whole _))).trans
        (Step.step_rows _ f0 f1 f2 f3),
    ((dats m 0 c).arrAt_eq_of_cover 5 (Step.first (s := S4096x704) (V m c main_v1) (V m c main_v2)) (fun t _ =>
      (Value.flushed5 m c t).trans ?_) (all.2.1.cover _ (Memref.isWhole_whole _))).trans (Step.first_rows _ f1 f2),
    ((dats m 0 c).arrAt_eq_of_cover 6 (Step.second (s := S4096x704) (V m c main_v1) (V m c main_v3)) (fun t _ =>
      (Value.flushed6 m c t).trans ?_) (all.2.2.cover _ (Memref.isWhole_whole _))).trans (Step.second_rows _ f1 f3)⟩
  · rw [(leaves (iblk m c 0 t) (iblk m c 1 t) (iblk m c 2 t) (iblk m c 3 t)).1]
    exact Step.step_at (V m c main_v0) (V m c main_v1) (V m c main_v2) (V m c main_v3) ((cfg0.win 4).blk t).view.emb
  · rw [(leaves (iblk m c 0 t) (iblk m c 1 t) (iblk m c 2 t) (iblk m c 3 t)).2.1]
    exact Step.first_at (V m c main_v1) (V m c main_v2) ((cfg0.win 5).blk t).view.emb
  · rw [(leaves (iblk m c 0 t) (iblk m c 1 t) (iblk m c 2 t) (iblk m c 3 t)).2.2]
    exact Step.second_at (V m c main_v1) (V m c main_v3) ((cfg0.win 6).blk t).view.emb

end Cert.AdamwWideIdeal.Stepped

namespace Cert.StepWide

/-- Kernel and reference leave the same three arrays, over the extended reals. -/
theorem same : Cert.algebraic_AdamwWideIdeal_AdamwWideRefIdeal
    (hAdamwWideIdeal := Cert.AdamwWideIdeal.Gen.facts) (hAdamwWideRefIdeal := Cert.AdamwWideRefIdeal.Gen.facts) := by
  intro m g m' g' _ hm
  refine ⟨fun c => (Cert.AdamwWideIdeal.Gen.dats m 0 c).arrAt 4 Cert.AdamwWideIdeal.cfg0.N,
    fun c => (Cert.AdamwWideIdeal.Gen.dats m 0 c).arrAt 5 Cert.AdamwWideIdeal.cfg0.N,
    fun c => (Cert.AdamwWideIdeal.Gen.dats m 0 c).arrAt 6 Cert.AdamwWideIdeal.cfg0.N,
    Cert.AdamwWideIdeal.Value.run_blocks m g, (θ_run _ _ _).mono ?_ (Cert.AdamwWideRefIdeal.Value.run m' g')⟩
  intro r h c
  obtain ⟨e0, e1, e2, e3⟩ := hm c
  obtain ⟨r4, r5, r6⟩ := Cert.AdamwWideIdeal.Stepped.results m c _ _ _ _ e0 e1 e2 e3
  exact ⟨(h c).1.trans r4.symm, (h c).2.1.trans r5.symm, (h c).2.2.1.trans r6.symm, (h c).2.2.2⟩

end Cert.StepWide

/-! The two (4, 704, 1024) weights, `ffn1_w_down` and `ffn2_w_down`. -/

namespace Cert.AdamwDownIdeal.Stepped

open Cert.AdamwDownIdeal Cert.AdamwDownIdeal.Gen

variable {F : FTy → Type} [FloatOps F] (m : (ℓ : Loc nD τ sig) → Buf (Elt F) ℓ) (c : Dev nD)

/-- What the body leaves in the three results' buffers: the step and the moments of the four blocks. -/
theorem leaves (w g mo va : Vec F S352x1024 .f32) :
    out0_4 w g mo va = Step.step (s := S352x1024) w g mo va ∧ out0_5 w g mo va = Step.first (s := S352x1024) g mo
      ∧ out0_6 w g mo va = Step.second (s := S352x1024) g va := by
  simp only [out0_4, out0_5, out0_6, View.canon_unit_zero (S := S352x1024) Step.zeros,
    View.ld_unit_zero (S := S352x1024) Step.zeros, k0_pay4, k0_pay3, k0_pay2, k0_pay1, shapeCast_self]
  exact ⟨rfl, rfl, rfl⟩

/-- What the region finds in its four inputs: the arguments, in rows. -/
theorem found : V m c main_v0 = Step.rows shapeCasts_S4x704x1024_S2816x1024 (m ((c : Thread nD τ).loc main_arg0))
    ∧ V m c main_v1 = Step.rows shapeCasts_S4x704x1024_S2816x1024 (m ((c : Thread nD τ).loc main_arg1))
    ∧ V m c main_v2 = Step.rows shapeCasts_S4x704x1024_S2816x1024 (m ((c : Thread nD τ).loc main_arg2))
    ∧ V m c main_v3 = Step.rows shapeCasts_S4x704x1024_S2816x1024 (m ((c : Thread nD τ).loc main_arg3)) := by
  unfold V hostOps0
  refine ⟨?_, ?_, ?_, ?_⟩ <;> after_results_simp <;> rfl

/-- The three results after the run are the step and the moments of the arguments, in rows: each point writes its own
    rows of them, and the points' rows are all rows. -/
theorem results (w g mo va : FVec F S4x704x1024 .f32) (hw : w = m ((c : Thread nD τ).loc main_arg0))
    (hg : g = m ((c : Thread nD τ).loc main_arg1)) (hm : mo = m ((c : Thread nD τ).loc main_arg2))
    (hv : va = m ((c : Thread nD τ).loc main_arg3)) :
    (dats m 0 c).arrAt 4 cfg0.N = Step.rows shapeCasts_S4x704x1024_S2816x1024 (Step.step w g mo va)
    ∧ (dats m 0 c).arrAt 5 cfg0.N = Step.rows shapeCasts_S4x704x1024_S2816x1024 (Step.first g mo)
    ∧ (dats m 0 c).arrAt 6 cfg0.N = Step.rows shapeCasts_S4x704x1024_S2816x1024 (Step.second g va) := by
  subst hw hg hm hv
  obtain ⟨f0, f1, f2, f3⟩ := found m c
  have all : (cfg0.win 4).Covers ∧ (cfg0.win 5).Covers ∧ (cfg0.win 6).Covers := by decide +kernel
  refine ⟨((dats m 0 c).arrAt_eq_of_cover 4 (Step.step (s := S2816x1024) (V m c main_v0) (V m c main_v1) (V m c main_v2)
        (V m c main_v3)) (fun t _ => (Value.flushed4 m c t).trans ?_) (all.1.cover _ (Memref.isWhole_whole _))).trans
        (Step.step_rows _ f0 f1 f2 f3),
    ((dats m 0 c).arrAt_eq_of_cover 5 (Step.first (s := S2816x1024) (V m c main_v1) (V m c main_v2)) (fun t _ =>
      (Value.flushed5 m c t).trans ?_) (all.2.1.cover _ (Memref.isWhole_whole _))).trans (Step.first_rows _ f1 f2),
    ((dats m 0 c).arrAt_eq_of_cover 6 (Step.second (s := S2816x1024) (V m c main_v1) (V m c main_v3)) (fun t _ =>
      (Value.flushed6 m c t).trans ?_) (all.2.2.cover _ (Memref.isWhole_whole _))).trans (Step.second_rows _ f1 f3)⟩
  · rw [(leaves (iblk m c 0 t) (iblk m c 1 t) (iblk m c 2 t) (iblk m c 3 t)).1]
    exact Step.step_at (V m c main_v0) (V m c main_v1) (V m c main_v2) (V m c main_v3) ((cfg0.win 4).blk t).view.emb
  · rw [(leaves (iblk m c 0 t) (iblk m c 1 t) (iblk m c 2 t) (iblk m c 3 t)).2.1]
    exact Step.first_at (V m c main_v1) (V m c main_v2) ((cfg0.win 5).blk t).view.emb
  · rw [(leaves (iblk m c 0 t) (iblk m c 1 t) (iblk m c 2 t) (iblk m c 3 t)).2.2]
    exact Step.second_at (V m c main_v1) (V m c main_v3) ((cfg0.win 6).blk t).view.emb

end Cert.AdamwDownIdeal.Stepped

namespace Cert.StepDown

/-- Kernel and reference leave the same three arrays, over the extended reals. -/
theorem same : Cert.algebraic_AdamwDownIdeal_AdamwDownRefIdeal
    (hAdamwDownIdeal := Cert.AdamwDownIdeal.Gen.facts) (hAdamwDownRefIdeal := Cert.AdamwDownRefIdeal.Gen.facts) := by
  intro m g m' g' _ hm
  refine ⟨fun c => (Cert.AdamwDownIdeal.Gen.dats m 0 c).arrAt 4 Cert.AdamwDownIdeal.cfg0.N,
    fun c => (Cert.AdamwDownIdeal.Gen.dats m 0 c).arrAt 5 Cert.AdamwDownIdeal.cfg0.N,
    fun c => (Cert.AdamwDownIdeal.Gen.dats m 0 c).arrAt 6 Cert.AdamwDownIdeal.cfg0.N,
    Cert.AdamwDownIdeal.Value.run_blocks m g, (θ_run _ _ _).mono ?_ (Cert.AdamwDownRefIdeal.Value.run m' g')⟩
  intro r h c
  obtain ⟨e0, e1, e2, e3⟩ := hm c
  obtain ⟨r4, r5, r6⟩ := Cert.AdamwDownIdeal.Stepped.results m c _ _ _ _ e0 e1 e2 e3
  exact ⟨(h c).1.trans r4.symm, (h c).2.1.trans r5.symm, (h c).2.2.1.trans r6.symm, (h c).2.2.2⟩

end Cert.StepDown

/-! The (2, 1024, 640) weight, `ev_w_in`. -/

namespace Cert.AdamwEvInIdeal.Stepped

open Cert.AdamwEvInIdeal Cert.AdamwEvInIdeal.Gen

variable {F : FTy → Type} [FloatOps F] (m : (ℓ : Loc nD τ sig) → Buf (Elt F) ℓ) (c : Dev nD)

/-- What the body leaves in the three results' buffers: the step and the moments of the four blocks. -/
theorem leaves (w g mo va : Vec F S512x640 .f32) :
    out0_4 w g mo va = Step.step (s := S512x640) w g mo va ∧ out0_5 w g mo va = Step.first (s := S512x640) g mo
      ∧ out0_6 w g mo va = Step.second (s := S512x640) g va := by
  simp only [out0_4, out0_5, out0_6, View.canon_unit_zero (S := S512x640) Step.zeros,
    View.ld_unit_zero (S := S512x640) Step.zeros, k0_pay4, k0_pay3, k0_pay2, k0_pay1, shapeCast_self]
  exact ⟨rfl, rfl, rfl⟩

/-- What the region finds in its four inputs: the arguments, in rows. -/
theorem found : V m c main_v0 = Step.rows shapeCasts_S2x1024x640_S2048x640 (m ((c : Thread nD τ).loc main_arg0))
    ∧ V m c main_v1 = Step.rows shapeCasts_S2x1024x640_S2048x640 (m ((c : Thread nD τ).loc main_arg1))
    ∧ V m c main_v2 = Step.rows shapeCasts_S2x1024x640_S2048x640 (m ((c : Thread nD τ).loc main_arg2))
    ∧ V m c main_v3 = Step.rows shapeCasts_S2x1024x640_S2048x640 (m ((c : Thread nD τ).loc main_arg3)) := by
  unfold V hostOps0
  refine ⟨?_, ?_, ?_, ?_⟩ <;> after_results_simp <;> rfl

/-- The three results after the run are the step and the moments of the arguments, in rows: each point writes its own
    rows of them, and the points' rows are all rows. -/
theorem results (w g mo va : FVec F S2x1024x640 .f32) (hw : w = m ((c : Thread nD τ).loc main_arg0))
    (hg : g = m ((c : Thread nD τ).loc main_arg1)) (hm : mo = m ((c : Thread nD τ).loc main_arg2))
    (hv : va = m ((c : Thread nD τ).loc main_arg3)) :
    (dats m 0 c).arrAt 4 cfg0.N = Step.rows shapeCasts_S2x1024x640_S2048x640 (Step.step w g mo va)
    ∧ (dats m 0 c).arrAt 5 cfg0.N = Step.rows shapeCasts_S2x1024x640_S2048x640 (Step.first g mo)
    ∧ (dats m 0 c).arrAt 6 cfg0.N = Step.rows shapeCasts_S2x1024x640_S2048x640 (Step.second g va) := by
  subst hw hg hm hv
  obtain ⟨f0, f1, f2, f3⟩ := found m c
  have all : (cfg0.win 4).Covers ∧ (cfg0.win 5).Covers ∧ (cfg0.win 6).Covers := by decide +kernel
  refine ⟨((dats m 0 c).arrAt_eq_of_cover 4 (Step.step (s := S2048x640) (V m c main_v0) (V m c main_v1) (V m c main_v2)
        (V m c main_v3)) (fun t _ => (Value.flushed4 m c t).trans ?_) (all.1.cover _ (Memref.isWhole_whole _))).trans
        (Step.step_rows _ f0 f1 f2 f3),
    ((dats m 0 c).arrAt_eq_of_cover 5 (Step.first (s := S2048x640) (V m c main_v1) (V m c main_v2)) (fun t _ =>
      (Value.flushed5 m c t).trans ?_) (all.2.1.cover _ (Memref.isWhole_whole _))).trans (Step.first_rows _ f1 f2),
    ((dats m 0 c).arrAt_eq_of_cover 6 (Step.second (s := S2048x640) (V m c main_v1) (V m c main_v3)) (fun t _ =>
      (Value.flushed6 m c t).trans ?_) (all.2.2.cover _ (Memref.isWhole_whole _))).trans (Step.second_rows _ f1 f3)⟩
  · rw [(leaves (iblk m c 0 t) (iblk m c 1 t) (iblk m c 2 t) (iblk m c 3 t)).1]
    exact Step.step_at (V m c main_v0) (V m c main_v1) (V m c main_v2) (V m c main_v3) ((cfg0.win 4).blk t).view.emb
  · rw [(leaves (iblk m c 0 t) (iblk m c 1 t) (iblk m c 2 t) (iblk m c 3 t)).2.1]
    exact Step.first_at (V m c main_v1) (V m c main_v2) ((cfg0.win 5).blk t).view.emb
  · rw [(leaves (iblk m c 0 t) (iblk m c 1 t) (iblk m c 2 t) (iblk m c 3 t)).2.2]
    exact Step.second_at (V m c main_v1) (V m c main_v3) ((cfg0.win 6).blk t).view.emb

end Cert.AdamwEvInIdeal.Stepped

namespace Cert.StepEvIn

/-- Kernel and reference leave the same three arrays, over the extended reals. -/
theorem same : Cert.algebraic_AdamwEvInIdeal_AdamwEvInRefIdeal
    (hAdamwEvInIdeal := Cert.AdamwEvInIdeal.Gen.facts) (hAdamwEvInRefIdeal := Cert.AdamwEvInRefIdeal.Gen.facts) := by
  intro m g m' g' _ hm
  refine ⟨fun c => (Cert.AdamwEvInIdeal.Gen.dats m 0 c).arrAt 4 Cert.AdamwEvInIdeal.cfg0.N,
    fun c => (Cert.AdamwEvInIdeal.Gen.dats m 0 c).arrAt 5 Cert.AdamwEvInIdeal.cfg0.N,
    fun c => (Cert.AdamwEvInIdeal.Gen.dats m 0 c).arrAt 6 Cert.AdamwEvInIdeal.cfg0.N,
    Cert.AdamwEvInIdeal.Value.run_blocks m g, (θ_run _ _ _).mono ?_ (Cert.AdamwEvInRefIdeal.Value.run m' g')⟩
  intro r h c
  obtain ⟨e0, e1, e2, e3⟩ := hm c
  obtain ⟨r4, r5, r6⟩ := Cert.AdamwEvInIdeal.Stepped.results m c _ _ _ _ e0 e1 e2 e3
  exact ⟨(h c).1.trans r4.symm, (h c).2.1.trans r5.symm, (h c).2.2.1.trans r6.symm, (h c).2.2.2⟩

end Cert.StepEvIn

/-! The (2, 128, 512) weight, `s5_w_glu`. -/

namespace Cert.AdamwGluIdeal.Stepped

open Cert.AdamwGluIdeal Cert.AdamwGluIdeal.Gen

variable {F : FTy → Type} [FloatOps F] (m : (ℓ : Loc nD τ sig) → Buf (Elt F) ℓ) (c : Dev nD)

/-- What the body leaves in the three results' buffers: the step and the moments of the four blocks. -/
theorem leaves (w g mo va : Vec F S256x512 .f32) :
    out0_4 w g mo va = Step.step (s := S256x512) w g mo va ∧ out0_5 w g mo va = Step.first (s := S256x512) g mo
      ∧ out0_6 w g mo va = Step.second (s := S256x512) g va := by
  simp only [out0_4, out0_5, out0_6, View.canon_unit_zero (S := S256x512) Step.zeros,
    View.ld_unit_zero (S := S256x512) Step.zeros, k0_pay4, k0_pay3, k0_pay2, k0_pay1, shapeCast_self]
  exact ⟨rfl, rfl, rfl⟩

/-- What the region finds in its four inputs: the arguments, in rows. -/
theorem found : V m c main_v0 = Step.rows shapeCasts_S2x128x512_S256x512 (m ((c : Thread nD τ).loc main_arg0))
    ∧ V m c main_v1 = Step.rows shapeCasts_S2x128x512_S256x512 (m ((c : Thread nD τ).loc main_arg1))
    ∧ V m c main_v2 = Step.rows shapeCasts_S2x128x512_S256x512 (m ((c : Thread nD τ).loc main_arg2))
    ∧ V m c main_v3 = Step.rows shapeCasts_S2x128x512_S256x512 (m ((c : Thread nD τ).loc main_arg3)) := by
  unfold V hostOps0
  refine ⟨?_, ?_, ?_, ?_⟩ <;> after_results_simp <;> rfl

/-- The three results after the run are the step and the moments of the arguments, in rows: each point writes its own
    rows of them, and the points' rows are all rows. -/
theorem results (w g mo va : FVec F S2x128x512 .f32) (hw : w = m ((c : Thread nD τ).loc main_arg0))
    (hg : g = m ((c : Thread nD τ).loc main_arg1)) (hm : mo = m ((c : Thread nD τ).loc main_arg2))
    (hv : va = m ((c : Thread nD τ).loc main_arg3)) :
    (dats m 0 c).arrAt 4 cfg0.N = Step.rows shapeCasts_S2x128x512_S256x512 (Step.step w g mo va)
    ∧ (dats m 0 c).arrAt 5 cfg0.N = Step.rows shapeCasts_S2x128x512_S256x512 (Step.first g mo)
    ∧ (dats m 0 c).arrAt 6 cfg0.N = Step.rows shapeCasts_S2x128x512_S256x512 (Step.second g va) := by
  subst hw hg hm hv
  obtain ⟨f0, f1, f2, f3⟩ := found m c
  have all : (cfg0.win 4).Covers ∧ (cfg0.win 5).Covers ∧ (cfg0.win 6).Covers := by decide +kernel
  refine ⟨((dats m 0 c).arrAt_eq_of_cover 4 (Step.step (s := S256x512) (V m c main_v0) (V m c main_v1) (V m c main_v2)
        (V m c main_v3)) (fun t _ => (Value.flushed4 m c t).trans ?_) (all.1.cover _ (Memref.isWhole_whole _))).trans
        (Step.step_rows _ f0 f1 f2 f3),
    ((dats m 0 c).arrAt_eq_of_cover 5 (Step.first (s := S256x512) (V m c main_v1) (V m c main_v2)) (fun t _ =>
      (Value.flushed5 m c t).trans ?_) (all.2.1.cover _ (Memref.isWhole_whole _))).trans (Step.first_rows _ f1 f2),
    ((dats m 0 c).arrAt_eq_of_cover 6 (Step.second (s := S256x512) (V m c main_v1) (V m c main_v3)) (fun t _ =>
      (Value.flushed6 m c t).trans ?_) (all.2.2.cover _ (Memref.isWhole_whole _))).trans (Step.second_rows _ f1 f3)⟩
  · rw [(leaves (iblk m c 0 t) (iblk m c 1 t) (iblk m c 2 t) (iblk m c 3 t)).1]
    exact Step.step_at (V m c main_v0) (V m c main_v1) (V m c main_v2) (V m c main_v3) ((cfg0.win 4).blk t).view.emb
  · rw [(leaves (iblk m c 0 t) (iblk m c 1 t) (iblk m c 2 t) (iblk m c 3 t)).2.1]
    exact Step.first_at (V m c main_v1) (V m c main_v2) ((cfg0.win 5).blk t).view.emb
  · rw [(leaves (iblk m c 0 t) (iblk m c 1 t) (iblk m c 2 t) (iblk m c 3 t)).2.2]
    exact Step.second_at (V m c main_v1) (V m c main_v3) ((cfg0.win 6).blk t).view.emb

end Cert.AdamwGluIdeal.Stepped

namespace Cert.StepGlu

/-- Kernel and reference leave the same three arrays, over the extended reals. -/
theorem same : Cert.algebraic_AdamwGluIdeal_AdamwGluRefIdeal
    (hAdamwGluIdeal := Cert.AdamwGluIdeal.Gen.facts) (hAdamwGluRefIdeal := Cert.AdamwGluRefIdeal.Gen.facts) := by
  intro m g m' g' _ hm
  refine ⟨fun c => (Cert.AdamwGluIdeal.Gen.dats m 0 c).arrAt 4 Cert.AdamwGluIdeal.cfg0.N,
    fun c => (Cert.AdamwGluIdeal.Gen.dats m 0 c).arrAt 5 Cert.AdamwGluIdeal.cfg0.N,
    fun c => (Cert.AdamwGluIdeal.Gen.dats m 0 c).arrAt 6 Cert.AdamwGluIdeal.cfg0.N,
    Cert.AdamwGluIdeal.Value.run_blocks m g, (θ_run _ _ _).mono ?_ (Cert.AdamwGluRefIdeal.Value.run m' g')⟩
  intro r h c
  obtain ⟨e0, e1, e2, e3⟩ := hm c
  obtain ⟨r4, r5, r6⟩ := Cert.AdamwGluIdeal.Stepped.results m c _ _ _ _ e0 e1 e2 e3
  exact ⟨(h c).1.trans r4.symm, (h c).2.1.trans r5.symm, (h c).2.2.1.trans r6.symm, (h c).2.2.2⟩

end Cert.StepGlu

/-! The two (2, 256, 1024) weights, `ev_w_out` and `od_w_out`. -/

namespace Cert.AdamwOutIdeal.Stepped

open Cert.AdamwOutIdeal Cert.AdamwOutIdeal.Gen

variable {F : FTy → Type} [FloatOps F] (m : (ℓ : Loc nD τ sig) → Buf (Elt F) ℓ) (c : Dev nD)

/-- What the body leaves in the three results' buffers: the step and the moments of the four blocks. -/
theorem leaves (w g mo va : Vec F S512x1024 .f32) :
    out0_4 w g mo va = Step.step (s := S512x1024) w g mo va ∧ out0_5 w g mo va = Step.first (s := S512x1024) g mo
      ∧ out0_6 w g mo va = Step.second (s := S512x1024) g va := by
  simp only [out0_4, out0_5, out0_6, View.canon_unit_zero (S := S512x1024) Step.zeros,
    View.ld_unit_zero (S := S512x1024) Step.zeros, k0_pay4, k0_pay3, k0_pay2, k0_pay1, shapeCast_self]
  exact ⟨rfl, rfl, rfl⟩

/-- What the region finds in its four inputs: the arguments, in rows. -/
theorem found : V m c main_v0 = Step.rows shapeCasts_S2x256x1024_S512x1024 (m ((c : Thread nD τ).loc main_arg0))
    ∧ V m c main_v1 = Step.rows shapeCasts_S2x256x1024_S512x1024 (m ((c : Thread nD τ).loc main_arg1))
    ∧ V m c main_v2 = Step.rows shapeCasts_S2x256x1024_S512x1024 (m ((c : Thread nD τ).loc main_arg2))
    ∧ V m c main_v3 = Step.rows shapeCasts_S2x256x1024_S512x1024 (m ((c : Thread nD τ).loc main_arg3)) := by
  unfold V hostOps0
  refine ⟨?_, ?_, ?_, ?_⟩ <;> after_results_simp <;> rfl

/-- The three results after the run are the step and the moments of the arguments, in rows: each point writes its own
    rows of them, and the points' rows are all rows. -/
theorem results (w g mo va : FVec F S2x256x1024 .f32) (hw : w = m ((c : Thread nD τ).loc main_arg0))
    (hg : g = m ((c : Thread nD τ).loc main_arg1)) (hm : mo = m ((c : Thread nD τ).loc main_arg2))
    (hv : va = m ((c : Thread nD τ).loc main_arg3)) :
    (dats m 0 c).arrAt 4 cfg0.N = Step.rows shapeCasts_S2x256x1024_S512x1024 (Step.step w g mo va)
    ∧ (dats m 0 c).arrAt 5 cfg0.N = Step.rows shapeCasts_S2x256x1024_S512x1024 (Step.first g mo)
    ∧ (dats m 0 c).arrAt 6 cfg0.N = Step.rows shapeCasts_S2x256x1024_S512x1024 (Step.second g va) := by
  subst hw hg hm hv
  obtain ⟨f0, f1, f2, f3⟩ := found m c
  have all : (cfg0.win 4).Covers ∧ (cfg0.win 5).Covers ∧ (cfg0.win 6).Covers := by decide +kernel
  refine ⟨((dats m 0 c).arrAt_eq_of_cover 4 (Step.step (s := S512x1024) (V m c main_v0) (V m c main_v1) (V m c main_v2)
        (V m c main_v3)) (fun t _ => (Value.flushed4 m c t).trans ?_) (all.1.cover _ (Memref.isWhole_whole _))).trans
        (Step.step_rows _ f0 f1 f2 f3),
    ((dats m 0 c).arrAt_eq_of_cover 5 (Step.first (s := S512x1024) (V m c main_v1) (V m c main_v2)) (fun t _ =>
      (Value.flushed5 m c t).trans ?_) (all.2.1.cover _ (Memref.isWhole_whole _))).trans (Step.first_rows _ f1 f2),
    ((dats m 0 c).arrAt_eq_of_cover 6 (Step.second (s := S512x1024) (V m c main_v1) (V m c main_v3)) (fun t _ =>
      (Value.flushed6 m c t).trans ?_) (all.2.2.cover _ (Memref.isWhole_whole _))).trans (Step.second_rows _ f1 f3)⟩
  · rw [(leaves (iblk m c 0 t) (iblk m c 1 t) (iblk m c 2 t) (iblk m c 3 t)).1]
    exact Step.step_at (V m c main_v0) (V m c main_v1) (V m c main_v2) (V m c main_v3) ((cfg0.win 4).blk t).view.emb
  · rw [(leaves (iblk m c 0 t) (iblk m c 1 t) (iblk m c 2 t) (iblk m c 3 t)).2.1]
    exact Step.first_at (V m c main_v1) (V m c main_v2) ((cfg0.win 5).blk t).view.emb
  · rw [(leaves (iblk m c 0 t) (iblk m c 1 t) (iblk m c 2 t) (iblk m c 3 t)).2.2]
    exact Step.second_at (V m c main_v1) (V m c main_v3) ((cfg0.win 6).blk t).view.emb

end Cert.AdamwOutIdeal.Stepped

namespace Cert.StepOut

/-- Kernel and reference leave the same three arrays, over the extended reals. -/
theorem same : Cert.algebraic_AdamwOutIdeal_AdamwOutRefIdeal
    (hAdamwOutIdeal := Cert.AdamwOutIdeal.Gen.facts) (hAdamwOutRefIdeal := Cert.AdamwOutRefIdeal.Gen.facts) := by
  intro m g m' g' _ hm
  refine ⟨fun c => (Cert.AdamwOutIdeal.Gen.dats m 0 c).arrAt 4 Cert.AdamwOutIdeal.cfg0.N,
    fun c => (Cert.AdamwOutIdeal.Gen.dats m 0 c).arrAt 5 Cert.AdamwOutIdeal.cfg0.N,
    fun c => (Cert.AdamwOutIdeal.Gen.dats m 0 c).arrAt 6 Cert.AdamwOutIdeal.cfg0.N,
    Cert.AdamwOutIdeal.Value.run_blocks m g, (θ_run _ _ _).mono ?_ (Cert.AdamwOutRefIdeal.Value.run m' g')⟩
  intro r h c
  obtain ⟨e0, e1, e2, e3⟩ := hm c
  obtain ⟨r4, r5, r6⟩ := Cert.AdamwOutIdeal.Stepped.results m c _ _ _ _ e0 e1 e2 e3
  exact ⟨(h c).1.trans r4.symm, (h c).2.1.trans r5.symm, (h c).2.2.1.trans r6.symm, (h c).2.2.2⟩

end Cert.StepOut

/-! The (2, 1024, 1028) weight, `od_w_in`. -/

namespace Cert.AdamwOdInIdeal.Stepped

open Cert.AdamwOdInIdeal Cert.AdamwOdInIdeal.Gen

variable {F : FTy → Type} [FloatOps F] (m : (ℓ : Loc nD τ sig) → Buf (Elt F) ℓ) (c : Dev nD)

/-- What the body leaves in the three results' buffers: the step and the moments of the four blocks. -/
theorem leaves (w g mo va : Vec F S512x1028 .f32) :
    out0_4 w g mo va = Step.step (s := S512x1028) w g mo va ∧ out0_5 w g mo va = Step.first (s := S512x1028) g mo
      ∧ out0_6 w g mo va = Step.second (s := S512x1028) g va := by
  simp only [out0_4, out0_5, out0_6, View.canon_unit_zero (S := S512x1028) Step.zeros,
    View.ld_unit_zero (S := S512x1028) Step.zeros, k0_pay4, k0_pay3, k0_pay2, k0_pay1, shapeCast_self]
  exact ⟨rfl, rfl, rfl⟩

/-- What the region finds in its four inputs: the arguments, in rows. -/
theorem found : V m c main_v0 = Step.rows shapeCasts_S2x1024x1028_S2048x1028 (m ((c : Thread nD τ).loc main_arg0))
    ∧ V m c main_v1 = Step.rows shapeCasts_S2x1024x1028_S2048x1028 (m ((c : Thread nD τ).loc main_arg1))
    ∧ V m c main_v2 = Step.rows shapeCasts_S2x1024x1028_S2048x1028 (m ((c : Thread nD τ).loc main_arg2))
    ∧ V m c main_v3 = Step.rows shapeCasts_S2x1024x1028_S2048x1028 (m ((c : Thread nD τ).loc main_arg3)) := by
  unfold V hostOps0
  refine ⟨?_, ?_, ?_, ?_⟩ <;> after_results_simp <;> rfl

/-- The three results after the run are the step and the moments of the arguments, in rows: each point writes its own
    rows of them, and the points' rows are all rows. -/
theorem results (w g mo va : FVec F S2x1024x1028 .f32) (hw : w = m ((c : Thread nD τ).loc main_arg0))
    (hg : g = m ((c : Thread nD τ).loc main_arg1)) (hm : mo = m ((c : Thread nD τ).loc main_arg2))
    (hv : va = m ((c : Thread nD τ).loc main_arg3)) :
    (dats m 0 c).arrAt 4 cfg0.N = Step.rows shapeCasts_S2x1024x1028_S2048x1028 (Step.step w g mo va)
    ∧ (dats m 0 c).arrAt 5 cfg0.N = Step.rows shapeCasts_S2x1024x1028_S2048x1028 (Step.first g mo)
    ∧ (dats m 0 c).arrAt 6 cfg0.N = Step.rows shapeCasts_S2x1024x1028_S2048x1028 (Step.second g va) := by
  subst hw hg hm hv
  obtain ⟨f0, f1, f2, f3⟩ := found m c
  have all : (cfg0.win 4).Covers ∧ (cfg0.win 5).Covers ∧ (cfg0.win 6).Covers := by decide +kernel
  refine ⟨((dats m 0 c).arrAt_eq_of_cover 4 (Step.step (s := S2048x1028) (V m c main_v0) (V m c main_v1) (V m c main_v2)
        (V m c main_v3)) (fun t _ => (Value.flushed4 m c t).trans ?_) (all.1.cover _ (Memref.isWhole_whole _))).trans
        (Step.step_rows _ f0 f1 f2 f3),
    ((dats m 0 c).arrAt_eq_of_cover 5 (Step.first (s := S2048x1028) (V m c main_v1) (V m c main_v2)) (fun t _ =>
      (Value.flushed5 m c t).trans ?_) (all.2.1.cover _ (Memref.isWhole_whole _))).trans (Step.first_rows _ f1 f2),
    ((dats m 0 c).arrAt_eq_of_cover 6 (Step.second (s := S2048x1028) (V m c main_v1) (V m c main_v3)) (fun t _ =>
      (Value.flushed6 m c t).trans ?_) (all.2.2.cover _ (Memref.isWhole_whole _))).trans (Step.second_rows _ f1 f3)⟩
  · rw [(leaves (iblk m c 0 t) (iblk m c 1 t) (iblk m c 2 t) (iblk m c 3 t)).1]
    exact Step.step_at (V m c main_v0) (V m c main_v1) (V m c main_v2) (V m c main_v3) ((cfg0.win 4).blk t).view.emb
  · rw [(leaves (iblk m c 0 t) (iblk m c 1 t) (iblk m c 2 t) (iblk m c 3 t)).2.1]
    exact Step.first_at (V m c main_v1) (V m c main_v2) ((cfg0.win 5).blk t).view.emb
  · rw [(leaves (iblk m c 0 t) (iblk m c 1 t) (iblk m c 2 t) (iblk m c 3 t)).2.2]
    exact Step.second_at (V m c main_v1) (V m c main_v3) ((cfg0.win 6).blk t).view.emb

end Cert.AdamwOdInIdeal.Stepped

namespace Cert.StepOdIn

/-- Kernel and reference leave the same three arrays, over the extended reals. -/
theorem same : Cert.algebraic_AdamwOdInIdeal_AdamwOdInRefIdeal
    (hAdamwOdInIdeal := Cert.AdamwOdInIdeal.Gen.facts) (hAdamwOdInRefIdeal := Cert.AdamwOdInRefIdeal.Gen.facts) := by
  intro m g m' g' _ hm
  refine ⟨fun c => (Cert.AdamwOdInIdeal.Gen.dats m 0 c).arrAt 4 Cert.AdamwOdInIdeal.cfg0.N,
    fun c => (Cert.AdamwOdInIdeal.Gen.dats m 0 c).arrAt 5 Cert.AdamwOdInIdeal.cfg0.N,
    fun c => (Cert.AdamwOdInIdeal.Gen.dats m 0 c).arrAt 6 Cert.AdamwOdInIdeal.cfg0.N,
    Cert.AdamwOdInIdeal.Value.run_blocks m g, (θ_run _ _ _).mono ?_ (Cert.AdamwOdInRefIdeal.Value.run m' g')⟩
  intro r h c
  obtain ⟨e0, e1, e2, e3⟩ := hm c
  obtain ⟨r4, r5, r6⟩ := Cert.AdamwOdInIdeal.Stepped.results m c _ _ _ _ e0 e1 e2 e3
  exact ⟨(h c).1.trans r4.symm, (h c).2.1.trans r5.symm, (h c).2.2.1.trans r6.symm, (h c).2.2.2⟩

end Cert.StepOdIn

/-! The (2, 4, 768) weight, `gdn_conv_w`. -/

namespace Cert.AdamwConvIdeal.Stepped

open Cert.AdamwConvIdeal Cert.AdamwConvIdeal.Gen

variable {F : FTy → Type} [FloatOps F] (m : (ℓ : Loc nD τ sig) → Buf (Elt F) ℓ) (c : Dev nD)

/-- What the body leaves in the three results' buffers: the step and the moments of the four blocks. -/
theorem leaves (w g mo va : Vec F S8x768 .f32) :
    out0_4 w g mo va = Step.step (s := S8x768) w g mo va ∧ out0_5 w g mo va = Step.first (s := S8x768) g mo
      ∧ out0_6 w g mo va = Step.second (s := S8x768) g va := by
  simp only [out0_4, out0_5, out0_6, View.canon_unit_zero (S := S8x768) Step.zeros,
    View.ld_unit_zero (S := S8x768) Step.zeros, k0_pay4, k0_pay3, k0_pay2, k0_pay1, shapeCast_self]
  exact ⟨rfl, rfl, rfl⟩

/-- What the region finds in its four inputs: the arguments, in rows. -/
theorem found : V m c main_v0 = Step.rows shapeCasts_S2x4x768_S8x768 (m ((c : Thread nD τ).loc main_arg0))
    ∧ V m c main_v1 = Step.rows shapeCasts_S2x4x768_S8x768 (m ((c : Thread nD τ).loc main_arg1))
    ∧ V m c main_v2 = Step.rows shapeCasts_S2x4x768_S8x768 (m ((c : Thread nD τ).loc main_arg2))
    ∧ V m c main_v3 = Step.rows shapeCasts_S2x4x768_S8x768 (m ((c : Thread nD τ).loc main_arg3)) := by
  unfold V hostOps0
  refine ⟨?_, ?_, ?_, ?_⟩ <;> after_results_simp <;> rfl

/-- The three results after the run are the step and the moments of the arguments, in rows: each point writes its own
    rows of them, and the points' rows are all rows. -/
theorem results (w g mo va : FVec F S2x4x768 .f32) (hw : w = m ((c : Thread nD τ).loc main_arg0))
    (hg : g = m ((c : Thread nD τ).loc main_arg1)) (hm : mo = m ((c : Thread nD τ).loc main_arg2))
    (hv : va = m ((c : Thread nD τ).loc main_arg3)) :
    (dats m 0 c).arrAt 4 cfg0.N = Step.rows shapeCasts_S2x4x768_S8x768 (Step.step w g mo va)
    ∧ (dats m 0 c).arrAt 5 cfg0.N = Step.rows shapeCasts_S2x4x768_S8x768 (Step.first g mo)
    ∧ (dats m 0 c).arrAt 6 cfg0.N = Step.rows shapeCasts_S2x4x768_S8x768 (Step.second g va) := by
  subst hw hg hm hv
  obtain ⟨f0, f1, f2, f3⟩ := found m c
  have all : (cfg0.win 4).Covers ∧ (cfg0.win 5).Covers ∧ (cfg0.win 6).Covers := by decide +kernel
  refine ⟨((dats m 0 c).arrAt_eq_of_cover 4 (Step.step (s := S8x768) (V m c main_v0) (V m c main_v1) (V m c main_v2)
        (V m c main_v3)) (fun t _ => (Value.flushed4 m c t).trans ?_) (all.1.cover _ (Memref.isWhole_whole _))).trans
        (Step.step_rows _ f0 f1 f2 f3),
    ((dats m 0 c).arrAt_eq_of_cover 5 (Step.first (s := S8x768) (V m c main_v1) (V m c main_v2)) (fun t _ =>
      (Value.flushed5 m c t).trans ?_) (all.2.1.cover _ (Memref.isWhole_whole _))).trans (Step.first_rows _ f1 f2),
    ((dats m 0 c).arrAt_eq_of_cover 6 (Step.second (s := S8x768) (V m c main_v1) (V m c main_v3)) (fun t _ =>
      (Value.flushed6 m c t).trans ?_) (all.2.2.cover _ (Memref.isWhole_whole _))).trans (Step.second_rows _ f1 f3)⟩
  · rw [(leaves (iblk m c 0 t) (iblk m c 1 t) (iblk m c 2 t) (iblk m c 3 t)).1]
    exact Step.step_at (V m c main_v0) (V m c main_v1) (V m c main_v2) (V m c main_v3) ((cfg0.win 4).blk t).view.emb
  · rw [(leaves (iblk m c 0 t) (iblk m c 1 t) (iblk m c 2 t) (iblk m c 3 t)).2.1]
    exact Step.first_at (V m c main_v1) (V m c main_v2) ((cfg0.win 5).blk t).view.emb
  · rw [(leaves (iblk m c 0 t) (iblk m c 1 t) (iblk m c 2 t) (iblk m c 3 t)).2.2]
    exact Step.second_at (V m c main_v1) (V m c main_v3) ((cfg0.win 6).blk t).view.emb

end Cert.AdamwConvIdeal.Stepped

namespace Cert.StepConv

/-- Kernel and reference leave the same three arrays, over the extended reals. -/
theorem same : Cert.algebraic_AdamwConvIdeal_AdamwConvRefIdeal
    (hAdamwConvIdeal := Cert.AdamwConvIdeal.Gen.facts) (hAdamwConvRefIdeal := Cert.AdamwConvRefIdeal.Gen.facts) := by
  intro m g m' g' _ hm
  refine ⟨fun c => (Cert.AdamwConvIdeal.Gen.dats m 0 c).arrAt 4 Cert.AdamwConvIdeal.cfg0.N,
    fun c => (Cert.AdamwConvIdeal.Gen.dats m 0 c).arrAt 5 Cert.AdamwConvIdeal.cfg0.N,
    fun c => (Cert.AdamwConvIdeal.Gen.dats m 0 c).arrAt 6 Cert.AdamwConvIdeal.cfg0.N,
    Cert.AdamwConvIdeal.Value.run_blocks m g, (θ_run _ _ _).mono ?_ (Cert.AdamwConvRefIdeal.Value.run m' g')⟩
  intro r h c
  obtain ⟨e0, e1, e2, e3⟩ := hm c
  obtain ⟨r4, r5, r6⟩ := Cert.AdamwConvIdeal.Stepped.results m c _ _ _ _ e0 e1 e2 e3
  exact ⟨(h c).1.trans r4.symm, (h c).2.1.trans r5.symm, (h c).2.2.1.trans r6.symm, (h c).2.2.2⟩

end Cert.StepConv

end
-- ==== Proof.StepSmall.lean ====
/-
  The AdamW call on the seventeen small weights, packed into one (288, 1024) array: the kernel, on the extended reals,
  leaves the step and the two new moments that the plain formula gives.
-/
module

public import proofs.«01_k».proof.Defs
public import proofs.«01_k».proof.Proof.Gen.AdamwSmall.Value
public import proofs.«01_k».proof.Proof.Gen.AdamwSmallIdeal.Value
public import proofs.«01_k».proof.Proof.Gen.AdamwSmallRefIdeal.Run
public import Idealize.ShloMosaic.Lib.Quiescent

@[expose] public section

noncomputable section

open Idealize.ShloMosaic Idealize.ShloMosaic.TcCoe Idealize.SL.Sem

namespace Cert.StepSmall

/-- Kernel and reference leave the same three arrays, over the extended reals. -/
theorem same : Cert.algebraic_AdamwSmallIdeal_AdamwSmallRefIdeal
    (hAdamwSmallIdeal := Cert.AdamwSmallIdeal.Gen.facts) (hAdamwSmallRefIdeal := Cert.AdamwSmallRefIdeal.Gen.facts) := by
  intro m g m' g' _ hm
  refine ⟨fun c => Cert.AdamwSmallIdeal.Value.G4 (m (c.tc.loc Cert.AdamwSmallIdeal.main_arg1))
      (m (c.tc.loc Cert.AdamwSmallIdeal.main_arg2)) (m (c.tc.loc Cert.AdamwSmallIdeal.main_arg3))
      (m (c.tc.loc Cert.AdamwSmallIdeal.main_arg0)),
    fun c => Cert.AdamwSmallIdeal.Value.G5 (m (c.tc.loc Cert.AdamwSmallIdeal.main_arg1))
      (m (c.tc.loc Cert.AdamwSmallIdeal.main_arg2)),
    fun c => Cert.AdamwSmallIdeal.Value.G6 (m (c.tc.loc Cert.AdamwSmallIdeal.main_arg1))
      (m (c.tc.loc Cert.AdamwSmallIdeal.main_arg3)),
    Cert.AdamwSmallIdeal.Value.run m g, (θ_run _ _ _).mono ?_ (Cert.AdamwSmallRefIdeal.Value.run m' g')⟩
  intro r h c
  obtain ⟨e0, e1, e2, e3⟩ := hm c
  refine ⟨(h c).1.trans ?_, (h c).2.1.trans ?_, (h c).2.2.1.trans ?_, (h c).2.2.2⟩
  · rw [e0, e1, e2, e3]
    rfl
  · rw [e1, e2]
    rfl
  · rw [e1, e3]
    rfl

end Cert.StepSmall

end
-- ==== Proof.lean ====
/-
# The exchanges, the sums between them, the feed-forward block, the projections, the loss and the optimizer of the training step meet their references
-/
module

public import proofs.«01_k».proof.Defs
public import proofs.«01_k».proof.Proof.SwapHalvesClaims
public import proofs.«01_k».proof.Proof.ExchangeChipsClaims
public import proofs.«01_k».proof.Proof.SwapReducedClaims
public import proofs.«01_k».proof.Proof.GatherSmallClaims
public import proofs.«01_k».proof.Proof.GatherWeightsClaims
public import proofs.«01_k».proof.Proof.SumSmall
public import proofs.«01_k».proof.Proof.ChipsWide
public import proofs.«01_k».proof.Proof.ChipsRows
public import proofs.«01_k».proof.Proof.SiblingWide
public import proofs.«01_k».proof.Proof.SiblingRows
public import proofs.«01_k».proof.Proof.FfnNorm
public import proofs.«01_k».proof.Proof.FfnUp
public import proofs.«01_k».proof.Proof.FfnDown
public import proofs.«01_k».proof.Proof.FfnDact
public import proofs.«01_k».proof.Proof.FfnDwd
public import proofs.«01_k».proof.Proof.FfnDwin
public import proofs.«01_k».proof.Proof.FfnDh
public import proofs.«01_k».proof.Proof.MixIn
public import proofs.«01_k».proof.Proof.MixOut
public import proofs.«01_k».proof.Proof.MixDy
public import proofs.«01_k».proof.Proof.MixDw
public import proofs.«01_k».proof.Proof.MixDh
public import proofs.«01_k».proof.Proof.SsmDc
public import proofs.«01_k».proof.Proof.SsmPost
public import proofs.«01_k».proof.Proof.LossHead
public import proofs.«01_k».proof.Proof.FirstNorm
public import proofs.«01_k».proof.Proof.StepSharded
public import proofs.«01_k».proof.Proof.StepSmall

@[expose] public section

noncomputable section

open Idealize.ShloMosaic Idealize.ShloMosaic.TcCoe Idealize.SL.Sem

namespace Cert.Proof

theorem claim : Cert.Claim := ⟨Cert.SwapHalves.Gen.facts, Cert.SwapHalvesRef.Gen.facts,
  Cert.ExchangeChips.Gen.facts, Cert.ExchangeChipsRef.Gen.facts,
  Cert.SwapReduced.Gen.facts, Cert.SwapReducedRef.Gen.facts,
  Cert.GatherSmall.Gen.facts, Cert.GatherSmallRef.Gen.facts,
  Cert.GatherWeights.Gen.facts, Cert.GatherWeightsRef.Gen.facts,
  Cert.SumSmall.Gen.facts, Cert.SumSmallRef.Gen.facts,
  Cert.ChipsWide.Gen.facts, Cert.ChipsWideRef.Gen.facts,
  Cert.ChipsRows.Gen.facts, Cert.ChipsRowsRef.Gen.facts,
  Cert.SiblingWide.Gen.facts, Cert.SiblingWideRef.Gen.facts,
  Cert.SiblingRows.Gen.facts, Cert.SiblingRowsRef.Gen.facts,
  Cert.FfnNorm.Gen.facts, Cert.FfnNormIdeal.Gen.facts, Cert.FfnNormRefIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.FfnDact.Gen.facts, Cert.FfnDactIdeal.Gen.facts, Cert.FfnDactRefIdeal.Gen.facts,
  Cert.FfnDwd.Gen.facts, Cert.FfnDwdIdeal.Gen.facts, Cert.FfnDwdRefIdeal.Gen.facts,
  Cert.FfnDwin.Gen.facts, Cert.FfnDwinIdeal.Gen.facts, Cert.FfnDwinRefIdeal.Gen.facts,
  Cert.FfnDh.Gen.facts, Cert.FfnDhIdeal.Gen.facts, Cert.FfnDhRefIdeal.Gen.facts,
  Cert.EvProj.Gen.facts, Cert.EvProjIdeal.Gen.facts, Cert.EvProjRefIdeal.Gen.facts,
  Cert.OdProj.Gen.facts, Cert.OdProjIdeal.Gen.facts, Cert.OdProjRefIdeal.Gen.facts,
  Cert.OdProjBd.Gen.facts, Cert.OdProjBdIdeal.Gen.facts, Cert.OdProjBdRefIdeal.Gen.facts,
  Cert.EvOut.Gen.facts, Cert.EvOutIdeal.Gen.facts, Cert.EvOutRefIdeal.Gen.facts,
  Cert.OdOut.Gen.facts, Cert.OdOutIdeal.Gen.facts, Cert.OdOutRefIdeal.Gen.facts,
  Cert.EvDy.Gen.facts, Cert.EvDyIdeal.Gen.facts, Cert.EvDyRefIdeal.Gen.facts,
  Cert.OdDy.Gen.facts, Cert.OdDyIdeal.Gen.facts, Cert.OdDyRefIdeal.Gen.facts,
  Cert.EvDwOut.Gen.facts, Cert.EvDwOutIdeal.Gen.facts, Cert.EvDwOutRefIdeal.Gen.facts,
  Cert.OdDwOut.Gen.facts, Cert.OdDwOutIdeal.Gen.facts, Cert.OdDwOutRefIdeal.Gen.facts,
  Cert.EvDwIn.Gen.facts, Cert.EvDwInIdeal.Gen.facts, Cert.EvDwInRefIdeal.Gen.facts,
  Cert.OdDwIn.Gen.facts, Cert.OdDwInIdeal.Gen.facts, Cert.OdDwInRefIdeal.Gen.facts,
  Cert.OdDwBd.Gen.facts, Cert.OdDwBdIdeal.Gen.facts, Cert.OdDwBdRefIdeal.Gen.facts,
  Cert.EvDh.Gen.facts, Cert.EvDhIdeal.Gen.facts, Cert.EvDhRefIdeal.Gen.facts,
  Cert.OdDh.Gen.facts, Cert.OdDhIdeal.Gen.facts, Cert.OdDhRefIdeal.Gen.facts,
  Cert.OdDhBd.Gen.facts, Cert.OdDhBdIdeal.Gen.facts, Cert.OdDhBdRefIdeal.Gen.facts,
  Cert.SsmDc.Gen.facts, Cert.SsmDcIdeal.Gen.facts, Cert.SsmDcRefIdeal.Gen.facts,
  Cert.SsmPost.Gen.facts, Cert.SsmPostIdeal.Gen.facts, Cert.SsmPostRefIdeal.Gen.facts,
  Cert.LossHead.Gen.facts, Cert.LossHeadIdeal.Gen.facts, Cert.LossHeadRefIdeal.Gen.facts,
  Cert.FirstNorm.Gen.facts, Cert.FirstNormIdeal.Gen.facts, Cert.FirstNormRefIdeal.Gen.facts,
  Cert.AdamwWide.Gen.facts, Cert.AdamwWideIdeal.Gen.facts, Cert.AdamwWideRefIdeal.Gen.facts,
  Cert.AdamwDown.Gen.facts, Cert.AdamwDownIdeal.Gen.facts, Cert.AdamwDownRefIdeal.Gen.facts,
  Cert.AdamwEvIn.Gen.facts, Cert.AdamwEvInIdeal.Gen.facts, Cert.AdamwEvInRefIdeal.Gen.facts,
  Cert.AdamwGlu.Gen.facts, Cert.AdamwGluIdeal.Gen.facts, Cert.AdamwGluRefIdeal.Gen.facts,
  Cert.AdamwOut.Gen.facts, Cert.AdamwOutIdeal.Gen.facts, Cert.AdamwOutRefIdeal.Gen.facts,
  Cert.AdamwOdIn.Gen.facts, Cert.AdamwOdInIdeal.Gen.facts, Cert.AdamwOdInRefIdeal.Gen.facts,
  Cert.AdamwConv.Gen.facts, Cert.AdamwConvIdeal.Gen.facts, Cert.AdamwConvRefIdeal.Gen.facts,
  Cert.AdamwSmall.Gen.facts, Cert.AdamwSmallIdeal.Gen.facts, Cert.AdamwSmallRefIdeal.Gen.facts, Cert.Pre_finite.Gen.facts,
  SwapHalves.frame, SwapHalves.frame_ref,
  ExchangeChips.frame, ExchangeChips.frame_ref,
  SwapReduced.frame, SwapReduced.frame_ref,
  GatherSmall.frame, GatherSmall.frame_ref,
  GatherWeights.frame, GatherWeights.frame_ref,
  Cert.SumSmall.Summed.frame, Cert.SumSmall.Summed.frame_ref,
  Cert.ChipsWide.Summed.frame, Cert.ChipsWide.Summed.frame_ref,
  Cert.ChipsRows.Summed.frame, Cert.ChipsRows.Summed.frame_ref,
  Cert.SiblingWide.Summed.frame, Cert.SiblingWide.Summed.frame_ref,
  Cert.SiblingRows.Summed.frame, Cert.SiblingRows.Summed.frame_ref,
  fun m g _ => Cert.FfnNorm.Gen.frame m g, fun m g _ => Cert.FfnNormIdeal.Gen.frame m g,
  fun m g _ => (θ_run _ _ _).mono (fun _ h => ⟨fun c => (h c).2, sem_eq_zero_of_no_sems (by decide) _⟩) (Cert.FfnNormRefIdeal.Value.run m g),
  fun m g _ => Cert.FfnUp.Gen.frame m g, fun m g _ => Cert.FfnUpIdeal.Gen.frame m g,
  fun m g _ => (θ_run _ _ _).mono (fun _ h => ⟨fun c => (h c).2.2.2, sem_eq_zero_of_no_sems (by decide) _⟩) (Cert.FfnUpRefIdeal.Value.run m g),
  fun m g _ => Cert.FfnDown.Gen.frame m g, fun m g _ => Cert.FfnDownIdeal.Gen.frame m g,
  fun m g _ => (θ_run _ _ _).mono (fun _ h => ⟨fun c => (h c).2, sem_eq_zero_of_no_sems (by decide) _⟩) (Cert.FfnDownRefIdeal.Value.run m g),
  fun m g _ => Cert.FfnDact.Gen.frame m g, fun m g _ => Cert.FfnDactIdeal.Gen.frame m g, Cert.GateBack.frame_ideal_finite, Cert.GateBack.frame_ref, Cert.GateBack.frame_ref_finite,
  fun m g _ => Cert.FfnDwd.Gen.frame m g, fun m g _ => Cert.FfnDwdIdeal.Gen.frame m g,
  fun m g _ => (θ_run _ _ _).mono (fun _ h => ⟨fun c => (h c).2, sem_eq_zero_of_no_sems (by decide) _⟩) (Cert.FfnDwdRefIdeal.Value.run m g),
  fun m g _ => Cert.FfnDwin.Gen.frame m g, fun m g _ => Cert.FfnDwinIdeal.Gen.frame m g,
  fun m g _ => (θ_run _ _ _).mono (fun _ h => ⟨fun c => (h c).2, sem_eq_zero_of_no_sems (by decide) _⟩) (Cert.FfnDwinRefIdeal.Value.run m g),
  fun m g _ => Cert.FfnDh.Gen.frame m g, fun m g _ => Cert.FfnDhIdeal.Gen.frame m g,
  fun m g _ => (θ_run _ _ _).mono (fun _ h => ⟨fun c => (h c).2, sem_eq_zero_of_no_sems (by decide) _⟩) (Cert.FfnDhRefIdeal.Value.run m g),
  fun m g _ => Cert.EvProj.Gen.frame m g, fun m g _ => Cert.EvProjIdeal.Gen.frame m g,
  fun m g _ => (θ_run _ _ _).mono (fun _ h => ⟨fun c => (h c).2, sem_eq_zero_of_no_sems (by decide) _⟩) (Cert.EvProjRefIdeal.Value.run m g),
  fun m g _ => Cert.OdProj.Gen.frame m g, fun m g _ => Cert.OdProjIdeal.Gen.frame m g,
  fun m g _ => (θ_run _ _ _).mono (fun _ h => ⟨fun c => (h c).2, sem_eq_zero_of_no_sems (by decide) _⟩) (Cert.OdProjRefIdeal.Value.run m g),
  fun m g _ => Cert.OdProjBd.Gen.frame m g, fun m g _ => Cert.OdProjBdIdeal.Gen.frame m g,
  fun m g _ => (θ_run _ _ _).mono (fun _ h => ⟨fun c => (h c).2, sem_eq_zero_of_no_sems (by decide) _⟩) (Cert.OdProjBdRefIdeal.Value.run m g),
  fun m g _ => Cert.EvOut.Gen.frame m g, fun m g _ => Cert.EvOutIdeal.Gen.frame m g,
  fun m g _ => (θ_run _ _ _).mono (fun _ h => ⟨fun c => (h c).2, sem_eq_zero_of_no_sems (by decide) _⟩) (Cert.EvOutRefIdeal.Value.run m g),
  fun m g _ => Cert.OdOut.Gen.frame m g, fun m g _ => Cert.OdOutIdeal.Gen.frame m g,
  fun m g _ => (θ_run _ _ _).mono (fun _ h => ⟨fun c => (h c).2, sem_eq_zero_of_no_sems (by decide) _⟩) (Cert.OdOutRefIdeal.Value.run m g),
  fun m g _ => Cert.EvDy.Gen.frame m g, fun m g _ => Cert.EvDyIdeal.Gen.frame m g,
  fun m g _ => (θ_run _ _ _).mono (fun _ h => ⟨fun c => (h c).2, sem_eq_zero_of_no_sems (by decide) _⟩) (Cert.EvDyRefIdeal.Value.run m g),
  fun m g _ => Cert.OdDy.Gen.frame m g, fun m g _ => Cert.OdDyIdeal.Gen.frame m g,
  fun m g _ => (θ_run _ _ _).mono (fun _ h => ⟨fun c => (h c).2, sem_eq_zero_of_no_sems (by decide) _⟩) (Cert.OdDyRefIdeal.Value.run m g),
  fun m g _ => Cert.EvDwOut.Gen.frame m g, fun m g _ => Cert.EvDwOutIdeal.Gen.frame m g,
  fun m g _ => (θ_run _ _ _).mono (fun _ h => ⟨fun c => (h c).2, sem_eq_zero_of_no_sems (by decide) _⟩) (Cert.EvDwOutRefIdeal.Value.run m g),
  fun m g _ => Cert.OdDwOut.Gen.frame m g, fun m g _ => Cert.OdDwOutIdeal.Gen.frame m g,
  fun m g _ => (θ_run _ _ _).mono (fun _ h => ⟨fun c => (h c).2, sem_eq_zero_of_no_sems (by decide) _⟩) (Cert.OdDwOutRefIdeal.Value.run m g),
  fun m g _ => Cert.EvDwIn.Gen.frame m g, fun m g _ => Cert.EvDwInIdeal.Gen.frame m g,
  fun m g _ => (θ_run _ _ _).mono (fun _ h => ⟨fun c => (h c).2, sem_eq_zero_of_no_sems (by decide) _⟩) (Cert.EvDwInRefIdeal.Value.run m g),
  fun m g _ => Cert.OdDwIn.Gen.frame m g, fun m g _ => Cert.OdDwInIdeal.Gen.frame m g,
  fun m g _ => (θ_run _ _ _).mono (fun _ h => ⟨fun c => (h c).2, sem_eq_zero_of_no_sems (by decide) _⟩) (Cert.OdDwInRefIdeal.Value.run m g),
  fun m g _ => Cert.OdDwBd.Gen.frame m g, fun m g _ => Cert.OdDwBdIdeal.Gen.frame m g,
  fun m g _ => (θ_run _ _ _).mono (fun _ h => ⟨fun c => (h c).2, sem_eq_zero_of_no_sems (by decide) _⟩) (Cert.OdDwBdRefIdeal.Value.run m g),
  fun m g _ => Cert.EvDh.Gen.frame m g, fun m g _ => Cert.EvDhIdeal.Gen.frame m g,
  fun m g _ => (θ_run _ _ _).mono (fun _ h => ⟨fun c => (h c).2, sem_eq_zero_of_no_sems (by decide) _⟩) (Cert.EvDhRefIdeal.Value.run m g),
  fun m g _ => Cert.OdDh.Gen.frame m g, fun m g _ => Cert.OdDhIdeal.Gen.frame m g,
  fun m g _ => (θ_run _ _ _).mono (fun _ h => ⟨fun c => (h c).2, sem_eq_zero_of_no_sems (by decide) _⟩) (Cert.OdDhRefIdeal.Value.run m g),
  fun m g _ => Cert.OdDhBd.Gen.frame m g, fun m g _ => Cert.OdDhBdIdeal.Gen.frame m g,
  fun m g _ => (θ_run _ _ _).mono (fun _ h => ⟨fun c => (h c).2, sem_eq_zero_of_no_sems (by decide) _⟩) (Cert.OdDhBdRefIdeal.Value.run m g),
  fun m g _ => Cert.SsmDc.Gen.frame m g, fun m g _ => Cert.SsmDcIdeal.Gen.frame m g,
  fun m g _ => (θ_run _ _ _).mono (fun _ h => ⟨fun c => (h c).2, sem_eq_zero_of_no_sems (by decide) _⟩) (Cert.SsmDcRefIdeal.Value.run m g),
  fun m g _ => Cert.SsmPost.Gen.frame m g, fun m g _ => Cert.SsmPostIdeal.Gen.frame m g,
  fun m g _ => (θ_run _ _ _).mono (fun _ h => ⟨fun c => (h c).2, sem_eq_zero_of_no_sems (by decide) _⟩) (Cert.SsmPostRefIdeal.Value.run m g),
  fun m g _ => Cert.LossHead.Gen.frame m g, fun m g _ => Cert.LossHeadIdeal.Gen.frame m g,
  fun m g _ => (θ_run _ _ _).mono (fun _ h => ⟨fun c => (h c).2.2.2, sem_eq_zero_of_no_sems (by decide) _⟩) (Cert.LossHeadRefIdeal.Value.run m g),
  fun m g _ => Cert.FirstNorm.Gen.frame m g, fun m g _ => Cert.FirstNormIdeal.Gen.frame m g,
  fun m g _ => (θ_run _ _ _).mono (fun _ h => ⟨fun c => (h c).2.2, sem_eq_zero_of_no_sems (by decide) _⟩) (Cert.FirstNormRefIdeal.Value.run m g),
  fun m g _ => Cert.AdamwWide.Gen.frame m g, fun m g _ => Cert.AdamwWideIdeal.Gen.frame m g,
  fun m g _ => (θ_run _ _ _).mono (fun _ h => ⟨fun c => (h c).2.2.2, sem_eq_zero_of_no_sems (by decide) _⟩) (Cert.AdamwWideRefIdeal.Value.run m g),
  fun m g _ => Cert.AdamwDown.Gen.frame m g, fun m g _ => Cert.AdamwDownIdeal.Gen.frame m g,
  fun m g _ => (θ_run _ _ _).mono (fun _ h => ⟨fun c => (h c).2.2.2, sem_eq_zero_of_no_sems (by decide) _⟩) (Cert.AdamwDownRefIdeal.Value.run m g),
  fun m g _ => Cert.AdamwEvIn.Gen.frame m g, fun m g _ => Cert.AdamwEvInIdeal.Gen.frame m g,
  fun m g _ => (θ_run _ _ _).mono (fun _ h => ⟨fun c => (h c).2.2.2, sem_eq_zero_of_no_sems (by decide) _⟩) (Cert.AdamwEvInRefIdeal.Value.run m g),
  fun m g _ => Cert.AdamwGlu.Gen.frame m g, fun m g _ => Cert.AdamwGluIdeal.Gen.frame m g,
  fun m g _ => (θ_run _ _ _).mono (fun _ h => ⟨fun c => (h c).2.2.2, sem_eq_zero_of_no_sems (by decide) _⟩) (Cert.AdamwGluRefIdeal.Value.run m g),
  fun m g _ => Cert.AdamwOut.Gen.frame m g, fun m g _ => Cert.AdamwOutIdeal.Gen.frame m g,
  fun m g _ => (θ_run _ _ _).mono (fun _ h => ⟨fun c => (h c).2.2.2, sem_eq_zero_of_no_sems (by decide) _⟩) (Cert.AdamwOutRefIdeal.Value.run m g),
  fun m g _ => Cert.AdamwOdIn.Gen.frame m g, fun m g _ => Cert.AdamwOdInIdeal.Gen.frame m g,
  fun m g _ => (θ_run _ _ _).mono (fun _ h => ⟨fun c => (h c).2.2.2, sem_eq_zero_of_no_sems (by decide) _⟩) (Cert.AdamwOdInRefIdeal.Value.run m g),
  fun m g _ => Cert.AdamwConv.Gen.frame m g, fun m g _ => Cert.AdamwConvIdeal.Gen.frame m g,
  fun m g _ => (θ_run _ _ _).mono (fun _ h => ⟨fun c => (h c).2.2.2, sem_eq_zero_of_no_sems (by decide) _⟩) (Cert.AdamwConvRefIdeal.Value.run m g),
  fun m g _ => Cert.AdamwSmall.Gen.frame m g, fun m g _ => Cert.AdamwSmallIdeal.Gen.frame m g,
  fun m g _ => (θ_run _ _ _).mono (fun _ h => ⟨fun c => (h c).2.2.2, sem_eq_zero_of_no_sems (by decide) _⟩) (Cert.AdamwSmallRefIdeal.Value.run m g),
  SwapHalves.same, ExchangeChips.same, SwapReduced.same, GatherSmall.same, GatherWeights.same,
  Cert.SumSmall.Summed.same, Cert.ChipsWide.Summed.same, Cert.ChipsRows.Summed.same, Cert.SiblingWide.Summed.same, Cert.SiblingRows.Summed.same,
  trivial, Cert.NormFront.same, trivial, Cert.GateUp.same, trivial, Cert.GateDown.same, trivial, Cert.GateBack.same, trivial, Cert.DownDw.same, trivial, Cert.GateDw.same, trivial, Cert.BackIn.same,
  trivial, Mix.EvProj.same, trivial, Mix.OdProj.same, trivial, Mix.OdProjBd.same, trivial, Mix.EvOut.same, trivial, Mix.OdOut.same, trivial, Mix.EvDy.same, trivial, Mix.OdDy.same,
  trivial, Mix.EvDwOut.same, trivial, Mix.OdDwOut.same, trivial, Mix.EvDwIn.same, trivial, Mix.OdDwIn.same, trivial, Mix.OdDwBd.same, trivial, Mix.EvDh.same, trivial, Mix.OdDh.same, trivial, Mix.OdDhBd.same,
  trivial, Mix.SsmDc.same, trivial, Mix.SsmPost.same,
  trivial, Cert.LossBack.same, trivial, Cert.NormBack.same,
  trivial, Cert.StepWide.same, trivial, Cert.StepDown.same, trivial, Cert.StepEvIn.same, trivial, Cert.StepGlu.same, trivial, Cert.StepOut.same, trivial, Cert.StepOdIn.same, trivial, Cert.StepConv.same, trivial, Cert.StepSmall.same⟩

end Cert.Proof

end
